-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.2 = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInReferenceIdeal (m : (ℓ : Loc Cert.ProjInReferenceIdeal.nD Cert.ProjInReferenceIdeal.τ Cert.ProjInReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_QIn (m : (ℓ : Loc Cert.QIn.nD Cert.QIn.τ Cert.QIn.sig) → Buf (Elt Bits) ℓ) : Prop :=
  True

def Pre_QInIdeal (m : (ℓ : Loc Cert.QInIdeal.nD Cert.QInIdeal.τ Cert.QInIdeal.sig) → Buf (Elt Ideal) ℓ) : Prop :=
  True

def Pre_QInReferenceIdeal (m : (ℓ : Loc Cert.QInReferenceIdeal.nD Cert.QInReferenceIdeal.τ Cert.QInReferenceIdeal.sig) → Buf (Elt Ideal) ℓ) : Prop :=
  True

def Pre_KvIn (m : (ℓ : Loc Cert.KvIn.nD Cert.KvIn.τ Cert.KvIn.sig) → Buf (Elt Bits) ℓ) : Prop :=
  True

def Pre_KvInIdeal (m : (ℓ : Loc Cert.KvInIdeal.nD Cert.KvInIdeal.τ Cert.KvInIdeal.sig) → Buf (Elt Ideal) ℓ) : Prop :=
  True

def Pre_KvInReferenceIdeal (m : (ℓ : Loc Cert.KvInReferenceIdeal.nD Cert.KvInReferenceIdeal.τ Cert.KvInReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsReferenceIdeal (m : (ℓ : Loc Cert.NormsReferenceIdeal.nD Cert.NormsReferenceIdeal.τ Cert.NormsReferenceIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWReferenceIdeal (m : (ℓ : Loc Cert.AdamWReferenceIdeal.nD Cert.AdamWReferenceIdeal.τ Cert.AdamWReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_RmsQ (m : (ℓ : Loc Cert.RmsQ.nD Cert.RmsQ.τ Cert.RmsQ.sig) → Buf (Elt Bits) ℓ) : Prop :=
  True

def Pre_RmsQIdeal (m : (ℓ : Loc Cert.RmsQIdeal.nD Cert.RmsQIdeal.τ Cert.RmsQIdeal.sig) → Buf (Elt Ideal) ℓ) : Prop :=
  True

def Pre_RmsQReferenceIdeal (m : (ℓ : Loc Cert.RmsQReferenceIdeal.nD Cert.RmsQReferenceIdeal.τ Cert.RmsQReferenceIdeal.sig) → Buf (Elt Ideal) ℓ) : Prop :=
  True

def Pre_RmsKv (m : (ℓ : Loc Cert.RmsKv.nD Cert.RmsKv.τ Cert.RmsKv.sig) → Buf (Elt Bits) ℓ) : Prop :=
  True

def Pre_RmsKvIdeal (m : (ℓ : Loc Cert.RmsKvIdeal.nD Cert.RmsKvIdeal.τ Cert.RmsKvIdeal.sig) → Buf (Elt Ideal) ℓ) : Prop :=
  True

def Pre_RmsKvReferenceIdeal (m : (ℓ : Loc Cert.RmsKvReferenceIdeal.nD Cert.RmsKvReferenceIdeal.τ Cert.RmsKvReferenceIdeal.sig) → Buf (Elt Ideal) ℓ) : Prop :=
  True

def Pre_AdaW (m : (ℓ : Loc Cert.AdaW.nD Cert.AdaW.τ Cert.AdaW.sig) → Buf (Elt Bits) ℓ) : Prop :=
  True

def Pre_AdaWIdeal (m : (ℓ : Loc Cert.AdaWIdeal.nD Cert.AdaWIdeal.τ Cert.AdaWIdeal.sig) → Buf (Elt Ideal) ℓ) : Prop :=
  True

def Pre_AdaWReferenceIdeal (m : (ℓ : Loc Cert.AdaWReferenceIdeal.nD Cert.AdaWReferenceIdeal.τ Cert.AdaWReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def quiescent_QIn [hQIn : Cert.QIn.Facts] : Prop :=
  ∀ (m : (ℓ : Loc Cert.QIn.nD Cert.QIn.τ Cert.QIn.sig) → Buf (Elt Bits) ℓ) (g : Dev Cert.QIn.nD → PrngReg), Pre_QIn m →
    θ_run (Cert.QIn.defs (F := Bits)) (onTc (τ := Cert.QIn.τ) (Cert.QIn.main (F := Bits))) ⟨m, fun _ => 0, g⟩ (fun r => (∀ c : Dev Cert.QIn.nD,
      r.2.mem ((c.tc : Thread Cert.QIn.nD Cert.QIn.τ).loc Cert.QIn.main_arg0) = m ((c.tc : Thread Cert.QIn.nD Cert.QIn.τ).loc Cert.QIn.main_arg0)
      ∧ r.2.mem ((c.tc : Thread Cert.QIn.nD Cert.QIn.τ).loc Cert.QIn.main_arg1) = m ((c.tc : Thread Cert.QIn.nD Cert.QIn.τ).loc Cert.QIn.main_arg1))
      ∧ r.2.sem = fun _ => 0)

def quiescent_QInIdeal [hQInIdeal : Cert.QInIdeal.Facts] : Prop :=
  ∀ (m : (ℓ : Loc Cert.QInIdeal.nD Cert.QInIdeal.τ Cert.QInIdeal.sig) → Buf (Elt Ideal) ℓ) (g : Dev Cert.QInIdeal.nD → PrngReg), Pre_QInIdeal m →
    θ_run (Cert.QInIdeal.defs (F := Ideal)) (onTc (τ := Cert.QInIdeal.τ) (Cert.QInIdeal.main (F := Ideal))) ⟨m, fun _ => 0, g⟩ (fun r => (∀ c : Dev Cert.QInIdeal.nD,
      r.2.mem ((c.tc : Thread Cert.QInIdeal.nD Cert.QInIdeal.τ).loc Cert.QInIdeal.main_arg0) = m ((c.tc : Thread Cert.QInIdeal.nD Cert.QInIdeal.τ).loc Cert.QInIdeal.main_arg0)
      ∧ r.2.mem ((c.tc : Thread Cert.QInIdeal.nD Cert.QInIdeal.τ).loc Cert.QInIdeal.main_arg1) = m ((c.tc : Thread Cert.QInIdeal.nD Cert.QInIdeal.τ).loc Cert.QInIdeal.main_arg1))
      ∧ r.2.sem = fun _ => 0)

def quiescent_QInReferenceIdeal [hQInReferenceIdeal : Cert.QInReferenceIdeal.Facts] : Prop :=
  ∀ (m : (ℓ : Loc Cert.QInReferenceIdeal.nD Cert.QInReferenceIdeal.τ Cert.QInReferenceIdeal.sig) → Buf (Elt Ideal) ℓ) (g : Dev Cert.QInReferenceIdeal.nD → PrngReg), Pre_QInReferenceIdeal m →
    θ_run (Cert.QInReferenceIdeal.defs (F := Ideal)) (onTc (τ := Cert.QInReferenceIdeal.τ) (Cert.QInReferenceIdeal.main (F := Ideal))) ⟨m, fun _ => 0, g⟩ (fun r => (∀ c : Dev Cert.QInReferenceIdeal.nD,
      r.2.mem ((c.tc : Thread Cert.QInReferenceIdeal.nD Cert.QInReferenceIdeal.τ).loc Cert.QInReferenceIdeal.main_arg0) = m ((c.tc : Thread Cert.QInReferenceIdeal.nD Cert.QInReferenceIdeal.τ).loc Cert.QInReferenceIdeal.main_arg0)
      ∧ r.2.mem ((c.tc : Thread Cert.QInReferenceIdeal.nD Cert.QInReferenceIdeal.τ).loc Cert.QInReferenceIdeal.main_arg1) = m ((c.tc : Thread Cert.QInReferenceIdeal.nD Cert.QInReferenceIdeal.τ).loc Cert.QInReferenceIdeal.main_arg1))
      ∧ r.2.sem = fun _ => 0)

def quiescent_KvIn [hKvIn : Cert.KvIn.Facts] : Prop :=
  ∀ (m : (ℓ : Loc Cert.KvIn.nD Cert.KvIn.τ Cert.KvIn.sig) → Buf (Elt Bits) ℓ) (g : Dev Cert.KvIn.nD → PrngReg), Pre_KvIn m →
    θ_run (Cert.KvIn.defs (F := Bits)) (onTc (τ := Cert.KvIn.τ) (Cert.KvIn.main (F := Bits))) ⟨m, fun _ => 0, g⟩ (fun r => (∀ c : Dev Cert.KvIn.nD,
      r.2.mem ((c.tc : Thread Cert.KvIn.nD Cert.KvIn.τ).loc Cert.KvIn.main_arg0) = m ((c.tc : Thread Cert.KvIn.nD Cert.KvIn.τ).loc Cert.KvIn.main_arg0)
      ∧ r.2.mem ((c.tc : Thread Cert.KvIn.nD Cert.KvIn.τ).loc Cert.KvIn.main_arg1) = m ((c.tc : Thread Cert.KvIn.nD Cert.KvIn.τ).loc Cert.KvIn.main_arg1))
      ∧ r.2.sem = fun _ => 0)

def quiescent_KvInIdeal [hKvInIdeal : Cert.KvInIdeal.Facts] : Prop :=
  ∀ (m : (ℓ : Loc Cert.KvInIdeal.nD Cert.KvInIdeal.τ Cert.KvInIdeal.sig) → Buf (Elt Ideal) ℓ) (g : Dev Cert.KvInIdeal.nD → PrngReg), Pre_KvInIdeal m →
    θ_run (Cert.KvInIdeal.defs (F := Ideal)) (onTc (τ := Cert.KvInIdeal.τ) (Cert.KvInIdeal.main (F := Ideal))) ⟨m, fun _ => 0, g⟩ (fun r => (∀ c : Dev Cert.KvInIdeal.nD,
      r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
      ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1))
      ∧ r.2.sem = fun _ => 0)

def quiescent_KvInReferenceIdeal [hKvInReferenceIdeal : Cert.KvInReferenceIdeal.Facts] : Prop :=
  ∀ (m : (ℓ : Loc Cert.KvInReferenceIdeal.nD Cert.KvInReferenceIdeal.τ Cert.KvInReferenceIdeal.sig) → Buf (Elt Ideal) ℓ) (g : Dev Cert.KvInReferenceIdeal.nD → PrngReg), Pre_KvInReferenceIdeal m →
    θ_run (Cert.KvInReferenceIdeal.defs (F := Ideal)) (onTc (τ := Cert.KvInReferenceIdeal.τ) (Cert.KvInReferenceIdeal.main (F := Ideal))) ⟨m, fun _ => 0, g⟩ (fun r => (∀ c : Dev Cert.KvInReferenceIdeal.nD,
      r.2.mem ((c.tc : Thread Cert.KvInReferenceIdeal.nD Cert.KvInReferenceIdeal.τ).loc Cert.KvInReferenceIdeal.main_arg0) = m ((c.tc : Thread Cert.KvInReferenceIdeal.nD Cert.KvInReferenceIdeal.τ).loc Cert.KvInReferenceIdeal.main_arg0)
      ∧ r.2.mem ((c.tc : Thread Cert.KvInReferenceIdeal.nD Cert.KvInReferenceIdeal.τ).loc Cert.KvInReferenceIdeal.main_arg1) = m ((c.tc : Thread Cert.KvInReferenceIdeal.nD Cert.KvInReferenceIdeal.τ).loc Cert.KvInReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4))
      ∧ r.2.sem = fun _ => 0)

def quiescent_NormsReferenceIdeal [hNormsReferenceIdeal : Cert.NormsReferenceIdeal.Facts] : Prop :=
  ∀ (m : (ℓ : Loc Cert.NormsReferenceIdeal.nD Cert.NormsReferenceIdeal.τ Cert.NormsReferenceIdeal.sig) → Buf (Elt Ideal) ℓ) (g : Dev Cert.NormsReferenceIdeal.nD → PrngReg), Pre_NormsReferenceIdeal m →
    θ_run (Cert.NormsReferenceIdeal.defs (F := Ideal)) (onTc (τ := Cert.NormsReferenceIdeal.τ) (Cert.NormsReferenceIdeal.main (F := Ideal))) ⟨m, fun _ => 0, g⟩ (fun r => (∀ c : Dev Cert.NormsReferenceIdeal.nD,
      r.2.mem ((c.tc : Thread Cert.NormsReferenceIdeal.nD Cert.NormsReferenceIdeal.τ).loc Cert.NormsReferenceIdeal.main_arg0) = m ((c.tc : Thread Cert.NormsReferenceIdeal.nD Cert.NormsReferenceIdeal.τ).loc Cert.NormsReferenceIdeal.main_arg0)
      ∧ r.2.mem ((c.tc : Thread Cert.NormsReferenceIdeal.nD Cert.NormsReferenceIdeal.τ).loc Cert.NormsReferenceIdeal.main_arg1) = m ((c.tc : Thread Cert.NormsReferenceIdeal.nD Cert.NormsReferenceIdeal.τ).loc Cert.NormsReferenceIdeal.main_arg1)
      ∧ r.2.mem ((c.tc : Thread Cert.NormsReferenceIdeal.nD Cert.NormsReferenceIdeal.τ).loc Cert.NormsReferenceIdeal.main_arg2) = m ((c.tc : Thread Cert.NormsReferenceIdeal.nD Cert.NormsReferenceIdeal.τ).loc Cert.NormsReferenceIdeal.main_arg2)
      ∧ r.2.mem ((c.tc : Thread Cert.NormsReferenceIdeal.nD Cert.NormsReferenceIdeal.τ).loc Cert.NormsReferenceIdeal.main_arg3) = m ((c.tc : Thread Cert.NormsReferenceIdeal.nD Cert.NormsReferenceIdeal.τ).loc Cert.NormsReferenceIdeal.main_arg3)
      ∧ r.2.mem ((c.tc : Thread Cert.NormsReferenceIdeal.nD Cert.NormsReferenceIdeal.τ).loc Cert.NormsReferenceIdeal.main_arg4) = m ((c.tc : Thread Cert.NormsReferenceIdeal.nD Cert.NormsReferenceIdeal.τ).loc Cert.NormsReferenceIdeal.main_arg4))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4)
      ∧ r.2.mem ((c.tc : Thread Cert.AdamW.nD Cert.AdamW.τ).loc Cert.AdamW.main_arg5) = m ((c.tc : Thread Cert.AdamW.nD Cert.AdamW.τ).loc Cert.AdamW.main_arg5)
      ∧ r.2.mem ((c.tc : Thread Cert.AdamW.nD Cert.AdamW.τ).loc Cert.AdamW.main_arg6) = m ((c.tc : Thread Cert.AdamW.nD Cert.AdamW.τ).loc Cert.AdamW.main_arg6)
      ∧ r.2.mem ((c.tc : Thread Cert.AdamW.nD Cert.AdamW.τ).loc Cert.AdamW.main_arg7) = m ((c.tc : Thread Cert.AdamW.nD Cert.AdamW.τ).loc Cert.AdamW.main_arg7)
      ∧ r.2.mem ((c.tc : Thread Cert.AdamW.nD Cert.AdamW.τ).loc Cert.AdamW.main_arg8) = m ((c.tc : Thread Cert.AdamW.nD Cert.AdamW.τ).loc Cert.AdamW.main_arg8)
      ∧ r.2.mem ((c.tc : Thread Cert.AdamW.nD Cert.AdamW.τ).loc Cert.AdamW.main_arg9) = m ((c.tc : Thread Cert.AdamW.nD Cert.AdamW.τ).loc Cert.AdamW.main_arg9)
      ∧ r.2.mem ((c.tc : Thread Cert.AdamW.nD Cert.AdamW.τ).loc Cert.AdamW.main_arg10) = m ((c.tc : Thread Cert.AdamW.nD Cert.AdamW.τ).loc Cert.AdamW.main_arg10)
      ∧ r.2.mem ((c.tc : Thread Cert.AdamW.nD Cert.AdamW.τ).loc Cert.AdamW.main_arg11) = m ((c.tc : Thread Cert.AdamW.nD Cert.AdamW.τ).loc Cert.AdamW.main_arg11)
      ∧ r.2.mem ((c.tc : Thread Cert.AdamW.nD Cert.AdamW.τ).loc Cert.AdamW.main_arg12) = m ((c.tc : Thread Cert.AdamW.nD Cert.AdamW.τ).loc Cert.AdamW.main_arg12)
      ∧ r.2.mem ((c.tc : Thread Cert.AdamW.nD Cert.AdamW.τ).loc Cert.AdamW.main_arg13) = m ((c.tc : Thread Cert.AdamW.nD Cert.AdamW.τ).loc Cert.AdamW.main_arg13)
      ∧ r.2.mem ((c.tc : Thread Cert.AdamW.nD Cert.AdamW.τ).loc Cert.AdamW.main_arg14) = m ((c.tc : Thread Cert.AdamW.nD Cert.AdamW.τ).loc Cert.AdamW.main_arg14)
      ∧ r.2.mem ((c.tc : Thread Cert.AdamW.nD Cert.AdamW.τ).loc Cert.AdamW.main_arg15) = m ((c.tc : Thread Cert.AdamW.nD Cert.AdamW.τ).loc Cert.AdamW.main_arg15))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
      ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
      ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6)
      ∧ r.2.mem ((c.tc : Thread Cert.AdamWIdeal.nD Cert.AdamWIdeal.τ).loc Cert.AdamWIdeal.main_arg7) = m ((c.tc : Thread Cert.AdamWIdeal.nD Cert.AdamWIdeal.τ).loc Cert.AdamWIdeal.main_arg7)
      ∧ r.2.mem ((c.tc : Thread Cert.AdamWIdeal.nD Cert.AdamWIdeal.τ).loc Cert.AdamWIdeal.main_arg8) = m ((c.tc : Thread Cert.AdamWIdeal.nD Cert.AdamWIdeal.τ).loc Cert.AdamWIdeal.main_arg8)
      ∧ r.2.mem ((c.tc : Thread Cert.AdamWIdeal.nD Cert.AdamWIdeal.τ).loc Cert.AdamWIdeal.main_arg9) = m ((c.tc : Thread Cert.AdamWIdeal.nD Cert.AdamWIdeal.τ).loc Cert.AdamWIdeal.main_arg9)
      ∧ r.2.mem ((c.tc : Thread Cert.AdamWIdeal.nD Cert.AdamWIdeal.τ).loc Cert.AdamWIdeal.main_arg10) = m ((c.tc : Thread Cert.AdamWIdeal.nD Cert.AdamWIdeal.τ).loc Cert.AdamWIdeal.main_arg10)
      ∧ r.2.mem ((c.tc : Thread Cert.AdamWIdeal.nD Cert.AdamWIdeal.τ).loc Cert.AdamWIdeal.main_arg11) = m ((c.tc : Thread Cert.AdamWIdeal.nD Cert.AdamWIdeal.τ).loc Cert.AdamWIdeal.main_arg11)
      ∧ r.2.mem ((c.tc : Thread Cert.AdamWIdeal.nD Cert.AdamWIdeal.τ).loc Cert.AdamWIdeal.main_arg12) = m ((c.tc : Thread Cert.AdamWIdeal.nD Cert.AdamWIdeal.τ).loc Cert.AdamWIdeal.main_arg12)
      ∧ r.2.mem ((c.tc : Thread Cert.AdamWIdeal.nD Cert.AdamWIdeal.τ).loc Cert.AdamWIdeal.main_arg13) = m ((c.tc : Thread Cert.AdamWIdeal.nD Cert.AdamWIdeal.τ).loc Cert.AdamWIdeal.main_arg13)
      ∧ r.2.mem ((c.tc : Thread Cert.AdamWIdeal.nD Cert.AdamWIdeal.τ).loc Cert.AdamWIdeal.main_arg14) = m ((c.tc : Thread Cert.AdamWIdeal.nD Cert.AdamWIdeal.τ).loc Cert.AdamWIdeal.main_arg14)
      ∧ r.2.mem ((c.tc : Thread Cert.AdamWIdeal.nD Cert.AdamWIdeal.τ).loc Cert.AdamWIdeal.main_arg15) = m ((c.tc : Thread Cert.AdamWIdeal.nD Cert.AdamWIdeal.τ).loc Cert.AdamWIdeal.main_arg15))
      ∧ r.2.sem = fun _ => 0)

def quiescent_AdamWReferenceIdeal [hAdamWReferenceIdeal : Cert.AdamWReferenceIdeal.Facts] : Prop :=
  ∀ (m : (ℓ : Loc Cert.AdamWReferenceIdeal.nD Cert.AdamWReferenceIdeal.τ Cert.AdamWReferenceIdeal.sig) → Buf (Elt Ideal) ℓ) (g : Dev Cert.AdamWReferenceIdeal.nD → PrngReg), Pre_AdamWReferenceIdeal m →
    θ_run (Cert.AdamWReferenceIdeal.defs (F := Ideal)) (onTc (τ := Cert.AdamWReferenceIdeal.τ) (Cert.AdamWReferenceIdeal.main (F := Ideal))) ⟨m, fun _ => 0, g⟩ (fun r => (∀ c : Dev Cert.AdamWReferenceIdeal.nD,
      r.2.mem ((c.tc : Thread Cert.AdamWReferenceIdeal.nD Cert.AdamWReferenceIdeal.τ).loc Cert.AdamWReferenceIdeal.main_arg0) = m ((c.tc : Thread Cert.AdamWReferenceIdeal.nD Cert.AdamWReferenceIdeal.τ).loc Cert.AdamWReferenceIdeal.main_arg0)
      ∧ r.2.mem ((c.tc : Thread Cert.AdamWReferenceIdeal.nD Cert.AdamWReferenceIdeal.τ).loc Cert.AdamWReferenceIdeal.main_arg1) = m ((c.tc : Thread Cert.AdamWReferenceIdeal.nD Cert.AdamWReferenceIdeal.τ).loc Cert.AdamWReferenceIdeal.main_arg1)
      ∧ r.2.mem ((c.tc : Thread Cert.AdamWReferenceIdeal.nD Cert.AdamWReferenceIdeal.τ).loc Cert.AdamWReferenceIdeal.main_arg2) = m ((c.tc : Thread Cert.AdamWReferenceIdeal.nD Cert.AdamWReferenceIdeal.τ).loc Cert.AdamWReferenceIdeal.main_arg2)
      ∧ r.2.mem ((c.tc : Thread Cert.AdamWReferenceIdeal.nD Cert.AdamWReferenceIdeal.τ).loc Cert.AdamWReferenceIdeal.main_arg3) = m ((c.tc : Thread Cert.AdamWReferenceIdeal.nD Cert.AdamWReferenceIdeal.τ).loc Cert.AdamWReferenceIdeal.main_arg3)
      ∧ r.2.mem ((c.tc : Thread Cert.AdamWReferenceIdeal.nD Cert.AdamWReferenceIdeal.τ).loc Cert.AdamWReferenceIdeal.main_arg4) = m ((c.tc : Thread Cert.AdamWReferenceIdeal.nD Cert.AdamWReferenceIdeal.τ).loc Cert.AdamWReferenceIdeal.main_arg4)
      ∧ r.2.mem ((c.tc : Thread Cert.AdamWReferenceIdeal.nD Cert.AdamWReferenceIdeal.τ).loc Cert.AdamWReferenceIdeal.main_arg5) = m ((c.tc : Thread Cert.AdamWReferenceIdeal.nD Cert.AdamWReferenceIdeal.τ).loc Cert.AdamWReferenceIdeal.main_arg5)
      ∧ r.2.mem ((c.tc : Thread Cert.AdamWReferenceIdeal.nD Cert.AdamWReferenceIdeal.τ).loc Cert.AdamWReferenceIdeal.main_arg6) = m ((c.tc : Thread Cert.AdamWReferenceIdeal.nD Cert.AdamWReferenceIdeal.τ).loc Cert.AdamWReferenceIdeal.main_arg6)
      ∧ r.2.mem ((c.tc : Thread Cert.AdamWReferenceIdeal.nD Cert.AdamWReferenceIdeal.τ).loc Cert.AdamWReferenceIdeal.main_arg7) = m ((c.tc : Thread Cert.AdamWReferenceIdeal.nD Cert.AdamWReferenceIdeal.τ).loc Cert.AdamWReferenceIdeal.main_arg7)
      ∧ r.2.mem ((c.tc : Thread Cert.AdamWReferenceIdeal.nD Cert.AdamWReferenceIdeal.τ).loc Cert.AdamWReferenceIdeal.main_arg8) = m ((c.tc : Thread Cert.AdamWReferenceIdeal.nD Cert.AdamWReferenceIdeal.τ).loc Cert.AdamWReferenceIdeal.main_arg8)
      ∧ r.2.mem ((c.tc : Thread Cert.AdamWReferenceIdeal.nD Cert.AdamWReferenceIdeal.τ).loc Cert.AdamWReferenceIdeal.main_arg9) = m ((c.tc : Thread Cert.AdamWReferenceIdeal.nD Cert.AdamWReferenceIdeal.τ).loc Cert.AdamWReferenceIdeal.main_arg9)
      ∧ r.2.mem ((c.tc : Thread Cert.AdamWReferenceIdeal.nD Cert.AdamWReferenceIdeal.τ).loc Cert.AdamWReferenceIdeal.main_arg10) = m ((c.tc : Thread Cert.AdamWReferenceIdeal.nD Cert.AdamWReferenceIdeal.τ).loc Cert.AdamWReferenceIdeal.main_arg10)
      ∧ r.2.mem ((c.tc : Thread Cert.AdamWReferenceIdeal.nD Cert.AdamWReferenceIdeal.τ).loc Cert.AdamWReferenceIdeal.main_arg11) = m ((c.tc : Thread Cert.AdamWReferenceIdeal.nD Cert.AdamWReferenceIdeal.τ).loc Cert.AdamWReferenceIdeal.main_arg11)
      ∧ r.2.mem ((c.tc : Thread Cert.AdamWReferenceIdeal.nD Cert.AdamWReferenceIdeal.τ).loc Cert.AdamWReferenceIdeal.main_arg12) = m ((c.tc : Thread Cert.AdamWReferenceIdeal.nD Cert.AdamWReferenceIdeal.τ).loc Cert.AdamWReferenceIdeal.main_arg12)
      ∧ r.2.mem ((c.tc : Thread Cert.AdamWReferenceIdeal.nD Cert.AdamWReferenceIdeal.τ).loc Cert.AdamWReferenceIdeal.main_arg13) = m ((c.tc : Thread Cert.AdamWReferenceIdeal.nD Cert.AdamWReferenceIdeal.τ).loc Cert.AdamWReferenceIdeal.main_arg13)
      ∧ r.2.mem ((c.tc : Thread Cert.AdamWReferenceIdeal.nD Cert.AdamWReferenceIdeal.τ).loc Cert.AdamWReferenceIdeal.main_arg14) = m ((c.tc : Thread Cert.AdamWReferenceIdeal.nD Cert.AdamWReferenceIdeal.τ).loc Cert.AdamWReferenceIdeal.main_arg14)
      ∧ r.2.mem ((c.tc : Thread Cert.AdamWReferenceIdeal.nD Cert.AdamWReferenceIdeal.τ).loc Cert.AdamWReferenceIdeal.main_arg15) = m ((c.tc : Thread Cert.AdamWReferenceIdeal.nD Cert.AdamWReferenceIdeal.τ).loc Cert.AdamWReferenceIdeal.main_arg15))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3))
      ∧ r.2.sem = fun _ => 0)

def quiescent_RmsQ [hRmsQ : Cert.RmsQ.Facts] : Prop :=
  ∀ (m : (ℓ : Loc Cert.RmsQ.nD Cert.RmsQ.τ Cert.RmsQ.sig) → Buf (Elt Bits) ℓ) (g : Dev Cert.RmsQ.nD → PrngReg), Pre_RmsQ m →
    θ_run (Cert.RmsQ.defs (F := Bits)) (onTc (τ := Cert.RmsQ.τ) (Cert.RmsQ.main (F := Bits))) ⟨m, fun _ => 0, g⟩ (fun r => (∀ c : Dev Cert.RmsQ.nD,
      r.2.mem ((c.tc : Thread Cert.RmsQ.nD Cert.RmsQ.τ).loc Cert.RmsQ.main_arg0) = m ((c.tc : Thread Cert.RmsQ.nD Cert.RmsQ.τ).loc Cert.RmsQ.main_arg0)
      ∧ r.2.mem ((c.tc : Thread Cert.RmsQ.nD Cert.RmsQ.τ).loc Cert.RmsQ.main_arg1) = m ((c.tc : Thread Cert.RmsQ.nD Cert.RmsQ.τ).loc Cert.RmsQ.main_arg1))
      ∧ r.2.sem = fun _ => 0)

def quiescent_RmsQIdeal [hRmsQIdeal : Cert.RmsQIdeal.Facts] : Prop :=
  ∀ (m : (ℓ : Loc Cert.RmsQIdeal.nD Cert.RmsQIdeal.τ Cert.RmsQIdeal.sig) → Buf (Elt Ideal) ℓ) (g : Dev Cert.RmsQIdeal.nD → PrngReg), Pre_RmsQIdeal m →
    θ_run (Cert.RmsQIdeal.defs (F := Ideal)) (onTc (τ := Cert.RmsQIdeal.τ) (Cert.RmsQIdeal.main (F := Ideal))) ⟨m, fun _ => 0, g⟩ (fun r => (∀ c : Dev Cert.RmsQIdeal.nD,
      r.2.mem ((c.tc : Thread Cert.RmsQIdeal.nD Cert.RmsQIdeal.τ).loc Cert.RmsQIdeal.main_arg0) = m ((c.tc : Thread Cert.RmsQIdeal.nD Cert.RmsQIdeal.τ).loc Cert.RmsQIdeal.main_arg0)
      ∧ r.2.mem ((c.tc : Thread Cert.RmsQIdeal.nD Cert.RmsQIdeal.τ).loc Cert.RmsQIdeal.main_arg1) = m ((c.tc : Thread Cert.RmsQIdeal.nD Cert.RmsQIdeal.τ).loc Cert.RmsQIdeal.main_arg1))
      ∧ r.2.sem = fun _ => 0)

def quiescent_RmsQReferenceIdeal [hRmsQReferenceIdeal : Cert.RmsQReferenceIdeal.Facts] : Prop :=
  ∀ (m : (ℓ : Loc Cert.RmsQReferenceIdeal.nD Cert.RmsQReferenceIdeal.τ Cert.RmsQReferenceIdeal.sig) → Buf (Elt Ideal) ℓ) (g : Dev Cert.RmsQReferenceIdeal.nD → PrngReg), Pre_RmsQReferenceIdeal m →
    θ_run (Cert.RmsQReferenceIdeal.defs (F := Ideal)) (onTc (τ := Cert.RmsQReferenceIdeal.τ) (Cert.RmsQReferenceIdeal.main (F := Ideal))) ⟨m, fun _ => 0, g⟩ (fun r => (∀ c : Dev Cert.RmsQReferenceIdeal.nD,
      r.2.mem ((c.tc : Thread Cert.RmsQReferenceIdeal.nD Cert.RmsQReferenceIdeal.τ).loc Cert.RmsQReferenceIdeal.main_arg0) = m ((c.tc : Thread Cert.RmsQReferenceIdeal.nD Cert.RmsQReferenceIdeal.τ).loc Cert.RmsQReferenceIdeal.main_arg0)
      ∧ r.2.mem ((c.tc : Thread Cert.RmsQReferenceIdeal.nD Cert.RmsQReferenceIdeal.τ).loc Cert.RmsQReferenceIdeal.main_arg1) = m ((c.tc : Thread Cert.RmsQReferenceIdeal.nD Cert.RmsQReferenceIdeal.τ).loc Cert.RmsQReferenceIdeal.main_arg1))
      ∧ r.2.sem = fun _ => 0)

def quiescent_RmsKv [hRmsKv : Cert.RmsKv.Facts] : Prop :=
  ∀ (m : (ℓ : Loc Cert.RmsKv.nD Cert.RmsKv.τ Cert.RmsKv.sig) → Buf (Elt Bits) ℓ) (g : Dev Cert.RmsKv.nD → PrngReg), Pre_RmsKv m →
    θ_run (Cert.RmsKv.defs (F := Bits)) (onTc (τ := Cert.RmsKv.τ) (Cert.RmsKv.main (F := Bits))) ⟨m, fun _ => 0, g⟩ (fun r => (∀ c : Dev Cert.RmsKv.nD,
      r.2.mem ((c.tc : Thread Cert.RmsKv.nD Cert.RmsKv.τ).loc Cert.RmsKv.main_arg0) = m ((c.tc : Thread Cert.RmsKv.nD Cert.RmsKv.τ).loc Cert.RmsKv.main_arg0)
      ∧ r.2.mem ((c.tc : Thread Cert.RmsKv.nD Cert.RmsKv.τ).loc Cert.RmsKv.main_arg1) = m ((c.tc : Thread Cert.RmsKv.nD Cert.RmsKv.τ).loc Cert.RmsKv.main_arg1))
      ∧ r.2.sem = fun _ => 0)

def quiescent_RmsKvIdeal [hRmsKvIdeal : Cert.RmsKvIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg), Pre_RmsKvIdeal m →
    θ_run (Cert.RmsKvIdeal.defs (F := Ideal)) (onTc (τ := Cert.RmsKvIdeal.τ) (Cert.RmsKvIdeal.main (F := Ideal))) ⟨m, fun _ => 0, g⟩ (fun r => (∀ c : Dev Cert.RmsKvIdeal.nD,
      r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
      ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1))
      ∧ r.2.sem = fun _ => 0)

def quiescent_RmsKvReferenceIdeal [hRmsKvReferenceIdeal : Cert.RmsKvReferenceIdeal.Facts] : Prop :=
  ∀ (m : (ℓ : Loc Cert.RmsKvReferenceIdeal.nD Cert.RmsKvReferenceIdeal.τ Cert.RmsKvReferenceIdeal.sig) → Buf (Elt Ideal) ℓ) (g : Dev Cert.RmsKvReferenceIdeal.nD → PrngReg), Pre_RmsKvReferenceIdeal m →
    θ_run (Cert.RmsKvReferenceIdeal.defs (F := Ideal)) (onTc (τ := Cert.RmsKvReferenceIdeal.τ) (Cert.RmsKvReferenceIdeal.main (F := Ideal))) ⟨m, fun _ => 0, g⟩ (fun r => (∀ c : Dev Cert.RmsKvReferenceIdeal.nD,
      r.2.mem ((c.tc : Thread Cert.RmsKvReferenceIdeal.nD Cert.RmsKvReferenceIdeal.τ).loc Cert.RmsKvReferenceIdeal.main_arg0) = m ((c.tc : Thread Cert.RmsKvReferenceIdeal.nD Cert.RmsKvReferenceIdeal.τ).loc Cert.RmsKvReferenceIdeal.main_arg0)
      ∧ r.2.mem ((c.tc : Thread Cert.RmsKvReferenceIdeal.nD Cert.RmsKvReferenceIdeal.τ).loc Cert.RmsKvReferenceIdeal.main_arg1) = m ((c.tc : Thread Cert.RmsKvReferenceIdeal.nD Cert.RmsKvReferenceIdeal.τ).loc Cert.RmsKvReferenceIdeal.main_arg1))
      ∧ r.2.sem = fun _ => 0)

def quiescent_AdaW [hAdaW : Cert.AdaW.Facts] : Prop :=
  ∀ (m : (ℓ : Loc Cert.AdaW.nD Cert.AdaW.τ Cert.AdaW.sig) → Buf (Elt Bits) ℓ) (g : Dev Cert.AdaW.nD → PrngReg), Pre_AdaW m →
    θ_run (Cert.AdaW.defs (F := Bits)) (onTc (τ := Cert.AdaW.τ) (Cert.AdaW.main (F := Bits))) ⟨m, fun _ => 0, g⟩ (fun r => (∀ c : Dev Cert.AdaW.nD,
      r.2.mem ((c.tc : Thread Cert.AdaW.nD Cert.AdaW.τ).loc Cert.AdaW.main_arg0) = m ((c.tc : Thread Cert.AdaW.nD Cert.AdaW.τ).loc Cert.AdaW.main_arg0)
      ∧ r.2.mem ((c.tc : Thread Cert.AdaW.nD Cert.AdaW.τ).loc Cert.AdaW.main_arg1) = m ((c.tc : Thread Cert.AdaW.nD Cert.AdaW.τ).loc Cert.AdaW.main_arg1)
      ∧ r.2.mem ((c.tc : Thread Cert.AdaW.nD Cert.AdaW.τ).loc Cert.AdaW.main_arg2) = m ((c.tc : Thread Cert.AdaW.nD Cert.AdaW.τ).loc Cert.AdaW.main_arg2)
      ∧ r.2.mem ((c.tc : Thread Cert.AdaW.nD Cert.AdaW.τ).loc Cert.AdaW.main_arg3) = m ((c.tc : Thread Cert.AdaW.nD Cert.AdaW.τ).loc Cert.AdaW.main_arg3)
      ∧ r.2.mem ((c.tc : Thread Cert.AdaW.nD Cert.AdaW.τ).loc Cert.AdaW.main_arg4) = m ((c.tc : Thread Cert.AdaW.nD Cert.AdaW.τ).loc Cert.AdaW.main_arg4))
      ∧ r.2.sem = fun _ => 0)

def quiescent_AdaWIdeal [hAdaWIdeal : Cert.AdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg), Pre_AdaWIdeal m →
    θ_run (Cert.AdaWIdeal.defs (F := Ideal)) (onTc (τ := Cert.AdaWIdeal.τ) (Cert.AdaWIdeal.main (F := Ideal))) ⟨m, fun _ => 0, g⟩ (fun r => (∀ c : Dev Cert.AdaWIdeal.nD,
      r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
      ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
      ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
      ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
      ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ r.2.sem = fun _ => 0)

def quiescent_AdaWReferenceIdeal [hAdaWReferenceIdeal : Cert.AdaWReferenceIdeal.Facts] : Prop :=
  ∀ (m : (ℓ : Loc Cert.AdaWReferenceIdeal.nD Cert.AdaWReferenceIdeal.τ Cert.AdaWReferenceIdeal.sig) → Buf (Elt Ideal) ℓ) (g : Dev Cert.AdaWReferenceIdeal.nD → PrngReg), Pre_AdaWReferenceIdeal m →
    θ_run (Cert.AdaWReferenceIdeal.defs (F := Ideal)) (onTc (τ := Cert.AdaWReferenceIdeal.τ) (Cert.AdaWReferenceIdeal.main (F := Ideal))) ⟨m, fun _ => 0, g⟩ (fun r => (∀ c : Dev Cert.AdaWReferenceIdeal.nD,
      r.2.mem ((c.tc : Thread Cert.AdaWReferenceIdeal.nD Cert.AdaWReferenceIdeal.τ).loc Cert.AdaWReferenceIdeal.main_arg0) = m ((c.tc : Thread Cert.AdaWReferenceIdeal.nD Cert.AdaWReferenceIdeal.τ).loc Cert.AdaWReferenceIdeal.main_arg0)
      ∧ r.2.mem ((c.tc : Thread Cert.AdaWReferenceIdeal.nD Cert.AdaWReferenceIdeal.τ).loc Cert.AdaWReferenceIdeal.main_arg1) = m ((c.tc : Thread Cert.AdaWReferenceIdeal.nD Cert.AdaWReferenceIdeal.τ).loc Cert.AdaWReferenceIdeal.main_arg1)
      ∧ r.2.mem ((c.tc : Thread Cert.AdaWReferenceIdeal.nD Cert.AdaWReferenceIdeal.τ).loc Cert.AdaWReferenceIdeal.main_arg2) = m ((c.tc : Thread Cert.AdaWReferenceIdeal.nD Cert.AdaWReferenceIdeal.τ).loc Cert.AdaWReferenceIdeal.main_arg2)
      ∧ r.2.mem ((c.tc : Thread Cert.AdaWReferenceIdeal.nD Cert.AdaWReferenceIdeal.τ).loc Cert.AdaWReferenceIdeal.main_arg3) = m ((c.tc : Thread Cert.AdaWReferenceIdeal.nD Cert.AdaWReferenceIdeal.τ).loc Cert.AdaWReferenceIdeal.main_arg3)
      ∧ r.2.mem ((c.tc : Thread Cert.AdaWReferenceIdeal.nD Cert.AdaWReferenceIdeal.τ).loc Cert.AdaWReferenceIdeal.main_arg4) = m ((c.tc : Thread Cert.AdaWReferenceIdeal.nD Cert.AdaWReferenceIdeal.τ).loc Cert.AdaWReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)) (v1 : (c : Dev Cert.FfnIdeal.nD) → Buf (Elt Ideal) ((c.tc : Thread Cert.FfnIdeal.nD Cert.FfnIdeal.τ).loc Cert.FfnIdeal.main_v2)) (v2 : (c : Dev Cert.FfnIdeal.nD) → Buf (Elt Ideal) ((c.tc : Thread Cert.FfnIdeal.nD Cert.FfnIdeal.τ).loc Cert.FfnIdeal.main_v4)) (v3 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_v2) = v1 c
          ∧ r.2.mem ((c.tc : Thread Cert.FfnIdeal.nD Cert.FfnIdeal.τ).loc Cert.FfnIdeal.main_v4) = v2 c
          ∧ r.2.mem ((c.tc : Thread Cert.FfnIdeal.nD Cert.FfnIdeal.τ).loc Cert.FfnIdeal.main_v5) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_v20) = v1 c
          ∧ r.2.mem ((c.tc : Thread Cert.FfnReferenceIdeal.nD Cert.FfnReferenceIdeal.τ).loc Cert.FfnReferenceIdeal.main_v21) = v2 c
          ∧ r.2.mem ((c.tc : Thread Cert.FfnReferenceIdeal.nD Cert.FfnReferenceIdeal.τ).loc Cert.FfnReferenceIdeal.main_v26) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v2) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v6) = v0 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)) (v1 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_v2) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_v7) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_ProjIn_ProjInIdeal : Prop :=
  True

def algebraic_ProjInIdeal_ProjInReferenceIdeal [hProjInIdeal : Cert.ProjInIdeal.Facts] [hProjInReferenceIdeal : Cert.ProjInReferenceIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v4) = v0 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v3)) (v1 : (c : Dev Cert.MixerIdeal.nD) → Buf (Elt Ideal) ((c.tc : Thread Cert.MixerIdeal.nD Cert.MixerIdeal.τ).loc Cert.MixerIdeal.main_v10)) (v2 : (c : Dev Cert.MixerIdeal.nD) → Buf (Elt Ideal) ((c.tc : Thread Cert.MixerIdeal.nD Cert.MixerIdeal.τ).loc Cert.MixerIdeal.main_v8)) (v3 : (c : Dev Cert.MixerIdeal.nD) → Buf (Elt Ideal) ((c.tc : Thread Cert.MixerIdeal.nD Cert.MixerIdeal.τ).loc Cert.MixerIdeal.main_v6_2)) (v4 : (c : Dev Cert.MixerIdeal.nD) → Buf (Elt Ideal) ((c.tc : Thread Cert.MixerIdeal.nD Cert.MixerIdeal.τ).loc Cert.MixerIdeal.main_v6_3)) (v5 : (c : Dev Cert.MixerIdeal.nD) → Buf (Elt Ideal) ((c.tc : Thread Cert.MixerIdeal.nD Cert.MixerIdeal.τ).loc Cert.MixerIdeal.main_v9)) (v6 : (c : Dev Cert.MixerIdeal.nD) → Buf (Elt Ideal) ((c.tc : Thread Cert.MixerIdeal.nD Cert.MixerIdeal.τ).loc Cert.MixerIdeal.main_v7)) (v7 : (c : Dev Cert.MixerIdeal.nD) → Buf (Elt Ideal) ((c.tc : Thread Cert.MixerIdeal.nD Cert.MixerIdeal.τ).loc Cert.MixerIdeal.main_v4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v3) = v0 c
          ∧ r.2.mem ((c.tc : Thread Cert.MixerIdeal.nD Cert.MixerIdeal.τ).loc Cert.MixerIdeal.main_v10) = v1 c
          ∧ r.2.mem ((c.tc : Thread Cert.MixerIdeal.nD Cert.MixerIdeal.τ).loc Cert.MixerIdeal.main_v8) = v2 c
          ∧ r.2.mem ((c.tc : Thread Cert.MixerIdeal.nD Cert.MixerIdeal.τ).loc Cert.MixerIdeal.main_v6_2) = v3 c
          ∧ r.2.mem ((c.tc : Thread Cert.MixerIdeal.nD Cert.MixerIdeal.τ).loc Cert.MixerIdeal.main_v6_3) = v4 c
          ∧ r.2.mem ((c.tc : Thread Cert.MixerIdeal.nD Cert.MixerIdeal.τ).loc Cert.MixerIdeal.main_v9) = v5 c
          ∧ r.2.mem ((c.tc : Thread Cert.MixerIdeal.nD Cert.MixerIdeal.τ).loc Cert.MixerIdeal.main_v7) = v6 c
          ∧ r.2.mem ((c.tc : Thread Cert.MixerIdeal.nD Cert.MixerIdeal.τ).loc Cert.MixerIdeal.main_v4) = v7 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v32) = v0 c
          ∧ r.2.mem ((c.tc : Thread Cert.MixerReferenceIdeal.nD Cert.MixerReferenceIdeal.τ).loc Cert.MixerReferenceIdeal.main_v48) = v1 c
          ∧ r.2.mem ((c.tc : Thread Cert.MixerReferenceIdeal.nD Cert.MixerReferenceIdeal.τ).loc Cert.MixerReferenceIdeal.main_v49) = v2 c
          ∧ r.2.mem ((c.tc : Thread Cert.MixerReferenceIdeal.nD Cert.MixerReferenceIdeal.τ).loc Cert.MixerReferenceIdeal.main_v50) = v3 c
          ∧ r.2.mem ((c.tc : Thread Cert.MixerReferenceIdeal.nD Cert.MixerReferenceIdeal.τ).loc Cert.MixerReferenceIdeal.main_v51) = v4 c
          ∧ r.2.mem ((c.tc : Thread Cert.MixerReferenceIdeal.nD Cert.MixerReferenceIdeal.τ).loc Cert.MixerReferenceIdeal.main_v52) = v5 c
          ∧ r.2.mem ((c.tc : Thread Cert.MixerReferenceIdeal.nD Cert.MixerReferenceIdeal.τ).loc Cert.MixerReferenceIdeal.main_v53) = v6 c
          ∧ r.2.mem ((c.tc : Thread Cert.MixerReferenceIdeal.nD Cert.MixerReferenceIdeal.τ).loc Cert.MixerReferenceIdeal.main_v54) = v7 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)) →
    ∃ (v0 : (c : Dev Cert.LatentIdeal.nD) → Buf (Elt Ideal) ((c.tc : Thread Cert.LatentIdeal.nD Cert.LatentIdeal.τ).loc Cert.LatentIdeal.main_v0)) (v1 : (c : Dev Cert.LatentIdeal.nD) → Buf (Elt Ideal) ((c.tc : Thread Cert.LatentIdeal.nD Cert.LatentIdeal.τ).loc Cert.LatentIdeal.main_v1)) (v2 : (c : Dev Cert.LatentIdeal.nD) → Buf (Elt Ideal) ((c.tc : Thread Cert.LatentIdeal.nD Cert.LatentIdeal.τ).loc Cert.LatentIdeal.main_v2)) (v3 : (c : Dev Cert.LatentIdeal.nD) → Buf (Elt Ideal) ((c.tc : Thread Cert.LatentIdeal.nD Cert.LatentIdeal.τ).loc Cert.LatentIdeal.main_v3)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_v1) = v1 c
          ∧ r.2.mem ((c.tc : Thread Cert.LatentIdeal.nD Cert.LatentIdeal.τ).loc Cert.LatentIdeal.main_v2) = v2 c
          ∧ r.2.mem ((c.tc : Thread Cert.LatentIdeal.nD Cert.LatentIdeal.τ).loc Cert.LatentIdeal.main_v3) = v3 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v10) = v0 c
          ∧ r.2.mem ((c.tc : Thread Cert.LatentReferenceIdeal.nD Cert.LatentReferenceIdeal.τ).loc Cert.LatentReferenceIdeal.main_v11) = v1 c
          ∧ r.2.mem ((c.tc : Thread Cert.LatentReferenceIdeal.nD Cert.LatentReferenceIdeal.τ).loc Cert.LatentReferenceIdeal.main_v17) = v2 c
          ∧ r.2.mem ((c.tc : Thread Cert.LatentReferenceIdeal.nD Cert.LatentReferenceIdeal.τ).loc Cert.LatentReferenceIdeal.main_v23) = v3 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5))

def preserves_QIn_QInIdeal : Prop :=
  True

def algebraic_QInIdeal_QInReferenceIdeal [hQInIdeal : Cert.QInIdeal.Facts] [hQInReferenceIdeal : Cert.QInReferenceIdeal.Facts] : Prop :=
  ∀ (m : (ℓ : Loc Cert.QInIdeal.nD Cert.QInIdeal.τ Cert.QInIdeal.sig) → Buf (Elt Ideal) ℓ) (g : Dev Cert.QInIdeal.nD → PrngReg)
    (m' : (ℓ : Loc Cert.QInReferenceIdeal.nD Cert.QInReferenceIdeal.τ Cert.QInReferenceIdeal.sig) → Buf (Elt Ideal) ℓ) (g' : Dev Cert.QInReferenceIdeal.nD → PrngReg), Pre_QInIdeal m →
    (∀ c : Dev Cert.QInIdeal.nD,
      m' ((c.tc : Thread Cert.QInReferenceIdeal.nD Cert.QInReferenceIdeal.τ).loc Cert.QInReferenceIdeal.main_arg0) = m ((c.tc : Thread Cert.QInIdeal.nD Cert.QInIdeal.τ).loc Cert.QInIdeal.main_arg0)
      ∧ m' ((c.tc : Thread Cert.QInReferenceIdeal.nD Cert.QInReferenceIdeal.τ).loc Cert.QInReferenceIdeal.main_arg1) = m ((c.tc : Thread Cert.QInIdeal.nD Cert.QInIdeal.τ).loc Cert.QInIdeal.main_arg1)) →
    ∃ (v0 : (c : Dev Cert.QInIdeal.nD) → Buf (Elt Ideal) ((c.tc : Thread Cert.QInIdeal.nD Cert.QInIdeal.τ).loc Cert.QInIdeal.main_v0)),
      θ_run (Cert.QInIdeal.defs (F := Ideal)) (onTc (τ := Cert.QInIdeal.τ) (Cert.QInIdeal.main (F := Ideal))) ⟨m, fun _ => 0, g⟩ (fun r => ∀ c : Dev Cert.QInIdeal.nD,
          r.2.mem ((c.tc : Thread Cert.QInIdeal.nD Cert.QInIdeal.τ).loc Cert.QInIdeal.main_v0) = v0 c
          ∧ r.2.mem ((c.tc : Thread Cert.QInIdeal.nD Cert.QInIdeal.τ).loc Cert.QInIdeal.main_arg0) = m ((c.tc : Thread Cert.QInIdeal.nD Cert.QInIdeal.τ).loc Cert.QInIdeal.main_arg0)
          ∧ r.2.mem ((c.tc : Thread Cert.QInIdeal.nD Cert.QInIdeal.τ).loc Cert.QInIdeal.main_arg1) = m ((c.tc : Thread Cert.QInIdeal.nD Cert.QInIdeal.τ).loc Cert.QInIdeal.main_arg1))
      ∧ θ_run (Cert.QInReferenceIdeal.defs (F := Ideal)) (onTc (τ := Cert.QInReferenceIdeal.τ) (Cert.QInReferenceIdeal.main (F := Ideal))) ⟨m', fun _ => 0, g'⟩ (fun r => ∀ c : Dev Cert.QInReferenceIdeal.nD,
          r.2.mem ((c.tc : Thread Cert.QInReferenceIdeal.nD Cert.QInReferenceIdeal.τ).loc Cert.QInReferenceIdeal.main_v6) = v0 c
          ∧ r.2.mem ((c.tc : Thread Cert.QInReferenceIdeal.nD Cert.QInReferenceIdeal.τ).loc Cert.QInReferenceIdeal.main_arg0) = m' ((c.tc : Thread Cert.QInReferenceIdeal.nD Cert.QInReferenceIdeal.τ).loc Cert.QInReferenceIdeal.main_arg0)
          ∧ r.2.mem ((c.tc : Thread Cert.QInReferenceIdeal.nD Cert.QInReferenceIdeal.τ).loc Cert.QInReferenceIdeal.main_arg1) = m' ((c.tc : Thread Cert.QInReferenceIdeal.nD Cert.QInReferenceIdeal.τ).loc Cert.QInReferenceIdeal.main_arg1))

def preserves_KvIn_KvInIdeal : Prop :=
  True

def algebraic_KvInIdeal_KvInReferenceIdeal [hKvInIdeal : Cert.KvInIdeal.Facts] [hKvInReferenceIdeal : Cert.KvInReferenceIdeal.Facts] : Prop :=
  ∀ (m : (ℓ : Loc Cert.KvInIdeal.nD Cert.KvInIdeal.τ Cert.KvInIdeal.sig) → Buf (Elt Ideal) ℓ) (g : Dev Cert.KvInIdeal.nD → PrngReg)
    (m' : (ℓ : Loc Cert.KvInReferenceIdeal.nD Cert.KvInReferenceIdeal.τ Cert.KvInReferenceIdeal.sig) → Buf (Elt Ideal) ℓ) (g' : Dev Cert.KvInReferenceIdeal.nD → PrngReg), Pre_KvInIdeal m →
    (∀ c : Dev Cert.KvInIdeal.nD,
      m' ((c.tc : Thread Cert.KvInReferenceIdeal.nD Cert.KvInReferenceIdeal.τ).loc Cert.KvInReferenceIdeal.main_arg0) = m ((c.tc : Thread Cert.KvInIdeal.nD Cert.KvInIdeal.τ).loc Cert.KvInIdeal.main_arg0)
      ∧ m' ((c.tc : Thread Cert.KvInReferenceIdeal.nD Cert.KvInReferenceIdeal.τ).loc Cert.KvInReferenceIdeal.main_arg1) = m ((c.tc : Thread Cert.KvInIdeal.nD Cert.KvInIdeal.τ).loc Cert.KvInIdeal.main_arg1)) →
    ∃ (v0 : (c : Dev Cert.KvInIdeal.nD) → Buf (Elt Ideal) ((c.tc : Thread Cert.KvInIdeal.nD Cert.KvInIdeal.τ).loc Cert.KvInIdeal.main_v0)),
      θ_run (Cert.KvInIdeal.defs (F := Ideal)) (onTc (τ := Cert.KvInIdeal.τ) (Cert.KvInIdeal.main (F := Ideal))) ⟨m, fun _ => 0, g⟩ (fun r => ∀ c : Dev Cert.KvInIdeal.nD,
          r.2.mem ((c.tc : Thread Cert.KvInIdeal.nD Cert.KvInIdeal.τ).loc Cert.KvInIdeal.main_v0) = v0 c
          ∧ r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
          ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1))
      ∧ θ_run (Cert.KvInReferenceIdeal.defs (F := Ideal)) (onTc (τ := Cert.KvInReferenceIdeal.τ) (Cert.KvInReferenceIdeal.main (F := Ideal))) ⟨m', fun _ => 0, g'⟩ (fun r => ∀ c : Dev Cert.KvInReferenceIdeal.nD,
          r.2.mem ((c.tc : Thread Cert.KvInReferenceIdeal.nD Cert.KvInReferenceIdeal.τ).loc Cert.KvInReferenceIdeal.main_v6) = v0 c
          ∧ r.2.mem ((c.tc : Thread Cert.KvInReferenceIdeal.nD Cert.KvInReferenceIdeal.τ).loc Cert.KvInReferenceIdeal.main_arg0) = m' ((c.tc : Thread Cert.KvInReferenceIdeal.nD Cert.KvInReferenceIdeal.τ).loc Cert.KvInReferenceIdeal.main_arg0)
          ∧ r.2.mem ((c.tc : Thread Cert.KvInReferenceIdeal.nD Cert.KvInReferenceIdeal.τ).loc Cert.KvInReferenceIdeal.main_arg1) = m' ((c.tc : Thread Cert.KvInReferenceIdeal.nD Cert.KvInReferenceIdeal.τ).loc Cert.KvInReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)) (v1 : (c : Dev Cert.ConvIdeal.nD) → Buf (Elt Ideal) ((c.tc : Thread Cert.ConvIdeal.nD Cert.ConvIdeal.τ).loc Cert.ConvIdeal.main_v1_0)) (v2 : (c : Dev Cert.ConvIdeal.nD) → Buf (Elt Ideal) ((c.tc : Thread Cert.ConvIdeal.nD Cert.ConvIdeal.τ).loc Cert.ConvIdeal.main_v1_1)) (v3 : (c : Dev Cert.ConvIdeal.nD) → Buf (Elt Ideal) ((c.tc : Thread Cert.ConvIdeal.nD Cert.ConvIdeal.τ).loc Cert.ConvIdeal.main_v1_2)) (v4 : (c : Dev Cert.ConvIdeal.nD) → Buf (Elt Ideal) ((c.tc : Thread Cert.ConvIdeal.nD Cert.ConvIdeal.τ).loc Cert.ConvIdeal.main_v2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_v1_0) = v1 c
          ∧ r.2.mem ((c.tc : Thread Cert.ConvIdeal.nD Cert.ConvIdeal.τ).loc Cert.ConvIdeal.main_v1_1) = v2 c
          ∧ r.2.mem ((c.tc : Thread Cert.ConvIdeal.nD Cert.ConvIdeal.τ).loc Cert.ConvIdeal.main_v1_2) = v3 c
          ∧ r.2.mem ((c.tc : Thread Cert.ConvIdeal.nD Cert.ConvIdeal.τ).loc Cert.ConvIdeal.main_v2) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v69) = v0 c
          ∧ r.2.mem ((c.tc : Thread Cert.ConvReferenceIdeal.nD Cert.ConvReferenceIdeal.τ).loc Cert.ConvReferenceIdeal.main_v70) = v1 c
          ∧ r.2.mem ((c.tc : Thread Cert.ConvReferenceIdeal.nD Cert.ConvReferenceIdeal.τ).loc Cert.ConvReferenceIdeal.main_v71) = v2 c
          ∧ r.2.mem ((c.tc : Thread Cert.ConvReferenceIdeal.nD Cert.ConvReferenceIdeal.τ).loc Cert.ConvReferenceIdeal.main_v72) = v3 c
          ∧ r.2.mem ((c.tc : Thread Cert.ConvReferenceIdeal.nD Cert.ConvReferenceIdeal.τ).loc Cert.ConvReferenceIdeal.main_v62) = v4 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Norms_NormsIdeal : Prop :=
  True

def algebraic_NormsIdeal_NormsReferenceIdeal [hNormsIdeal : Cert.NormsIdeal.Facts] [hNormsReferenceIdeal : Cert.NormsReferenceIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsReferenceIdeal.nD Cert.NormsReferenceIdeal.τ Cert.NormsReferenceIdeal.sig) → Buf (Elt Ideal) ℓ) (g' : Dev Cert.NormsReferenceIdeal.nD → PrngReg), Pre_NormsIdeal m →
    (∀ c : Dev Cert.NormsIdeal.nD,
      m' ((c.tc : Thread Cert.NormsReferenceIdeal.nD Cert.NormsReferenceIdeal.τ).loc Cert.NormsReferenceIdeal.main_arg0) = m ((c.tc : Thread Cert.NormsIdeal.nD Cert.NormsIdeal.τ).loc Cert.NormsIdeal.main_arg0)
      ∧ m' ((c.tc : Thread Cert.NormsReferenceIdeal.nD Cert.NormsReferenceIdeal.τ).loc Cert.NormsReferenceIdeal.main_arg1) = m ((c.tc : Thread Cert.NormsIdeal.nD Cert.NormsIdeal.τ).loc Cert.NormsIdeal.main_arg1)
      ∧ m' ((c.tc : Thread Cert.NormsReferenceIdeal.nD Cert.NormsReferenceIdeal.τ).loc Cert.NormsReferenceIdeal.main_arg2) = m ((c.tc : Thread Cert.NormsIdeal.nD Cert.NormsIdeal.τ).loc Cert.NormsIdeal.main_arg2)
      ∧ m' ((c.tc : Thread Cert.NormsReferenceIdeal.nD Cert.NormsReferenceIdeal.τ).loc Cert.NormsReferenceIdeal.main_arg3) = m ((c.tc : Thread Cert.NormsIdeal.nD Cert.NormsIdeal.τ).loc Cert.NormsIdeal.main_arg3)
      ∧ m' ((c.tc : Thread Cert.NormsReferenceIdeal.nD Cert.NormsReferenceIdeal.τ).loc Cert.NormsReferenceIdeal.main_arg4) = m ((c.tc : Thread Cert.NormsIdeal.nD Cert.NormsIdeal.τ).loc Cert.NormsIdeal.main_arg4)) →
    ∃ (v0 : (c : Dev Cert.NormsIdeal.nD) → Buf (Elt Ideal) ((c.tc : Thread Cert.NormsIdeal.nD Cert.NormsIdeal.τ).loc Cert.NormsIdeal.main_v0)) (v1 : (c : Dev Cert.NormsIdeal.nD) → Buf (Elt Ideal) ((c.tc : Thread Cert.NormsIdeal.nD Cert.NormsIdeal.τ).loc Cert.NormsIdeal.main_v1_0)) (v2 : (c : Dev Cert.NormsIdeal.nD) → Buf (Elt Ideal) ((c.tc : Thread Cert.NormsIdeal.nD Cert.NormsIdeal.τ).loc Cert.NormsIdeal.main_v1_1)) (v3 : (c : Dev Cert.NormsIdeal.nD) → Buf (Elt Ideal) ((c.tc : Thread Cert.NormsIdeal.nD Cert.NormsIdeal.τ).loc Cert.NormsIdeal.main_v1_2)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v0) = v0 c
          ∧ r.2.mem ((c.tc : Thread Cert.NormsIdeal.nD Cert.NormsIdeal.τ).loc Cert.NormsIdeal.main_v1_0) = v1 c
          ∧ r.2.mem ((c.tc : Thread Cert.NormsIdeal.nD Cert.NormsIdeal.τ).loc Cert.NormsIdeal.main_v1_1) = v2 c
          ∧ r.2.mem ((c.tc : Thread Cert.NormsIdeal.nD Cert.NormsIdeal.τ).loc Cert.NormsIdeal.main_v1_2) = v3 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4))
      ∧ θ_run (Cert.NormsReferenceIdeal.defs (F := Ideal)) (onTc (τ := Cert.NormsReferenceIdeal.τ) (Cert.NormsReferenceIdeal.main (F := Ideal))) ⟨m', fun _ => 0, g'⟩ (fun r => ∀ c : Dev Cert.NormsReferenceIdeal.nD,
          r.2.mem ((c.tc : Thread Cert.NormsReferenceIdeal.nD Cert.NormsReferenceIdeal.τ).loc Cert.NormsReferenceIdeal.main_v54) = v0 c
          ∧ r.2.mem ((c.tc : Thread Cert.NormsReferenceIdeal.nD Cert.NormsReferenceIdeal.τ).loc Cert.NormsReferenceIdeal.main_v41) = v1 c
          ∧ r.2.mem ((c.tc : Thread Cert.NormsReferenceIdeal.nD Cert.NormsReferenceIdeal.τ).loc Cert.NormsReferenceIdeal.main_v37) = v2 c
          ∧ r.2.mem ((c.tc : Thread Cert.NormsReferenceIdeal.nD Cert.NormsReferenceIdeal.τ).loc Cert.NormsReferenceIdeal.main_v55) = v3 c
          ∧ r.2.mem ((c.tc : Thread Cert.NormsReferenceIdeal.nD Cert.NormsReferenceIdeal.τ).loc Cert.NormsReferenceIdeal.main_arg0) = m' ((c.tc : Thread Cert.NormsReferenceIdeal.nD Cert.NormsReferenceIdeal.τ).loc Cert.NormsReferenceIdeal.main_arg0)
          ∧ r.2.mem ((c.tc : Thread Cert.NormsReferenceIdeal.nD Cert.NormsReferenceIdeal.τ).loc Cert.NormsReferenceIdeal.main_arg1) = m' ((c.tc : Thread Cert.NormsReferenceIdeal.nD Cert.NormsReferenceIdeal.τ).loc Cert.NormsReferenceIdeal.main_arg1)
          ∧ r.2.mem ((c.tc : Thread Cert.NormsReferenceIdeal.nD Cert.NormsReferenceIdeal.τ).loc Cert.NormsReferenceIdeal.main_arg2) = m' ((c.tc : Thread Cert.NormsReferenceIdeal.nD Cert.NormsReferenceIdeal.τ).loc Cert.NormsReferenceIdeal.main_arg2)
          ∧ r.2.mem ((c.tc : Thread Cert.NormsReferenceIdeal.nD Cert.NormsReferenceIdeal.τ).loc Cert.NormsReferenceIdeal.main_arg3) = m' ((c.tc : Thread Cert.NormsReferenceIdeal.nD Cert.NormsReferenceIdeal.τ).loc Cert.NormsReferenceIdeal.main_arg3)
          ∧ r.2.mem ((c.tc : Thread Cert.NormsReferenceIdeal.nD Cert.NormsReferenceIdeal.τ).loc Cert.NormsReferenceIdeal.main_arg4) = m' ((c.tc : Thread Cert.NormsReferenceIdeal.nD Cert.NormsReferenceIdeal.τ).loc Cert.NormsReferenceIdeal.main_arg4))

def preserves_AdamW_AdamWIdeal : Prop :=
  IdealRules.named_const.Statement Cert.AdamWIdeal.κ "c1" .f32 0x3FC48605#32 (((5463681 / 8388608)⁻¹ : ℝ) : EReal)
  ∧ IdealRules.named_const.Statement Cert.AdamWIdeal.κ "c2" .f32 0x42C8E6D3#32 (((2672307 / 268435456)⁻¹ : ℝ) : EReal)

def algebraic_AdamWIdeal_AdamWReferenceIdeal [hAdamWIdeal : Cert.AdamWIdeal.Facts] [hAdamWReferenceIdeal : Cert.AdamWReferenceIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWReferenceIdeal.nD Cert.AdamWReferenceIdeal.τ Cert.AdamWReferenceIdeal.sig) → Buf (Elt Ideal) ℓ) (g' : Dev Cert.AdamWReferenceIdeal.nD → PrngReg), Pre_AdamWIdeal m →
    (∀ c : Dev Cert.AdamWIdeal.nD,
      m' ((c.tc : Thread Cert.AdamWReferenceIdeal.nD Cert.AdamWReferenceIdeal.τ).loc Cert.AdamWReferenceIdeal.main_arg0) = m ((c.tc : Thread Cert.AdamWIdeal.nD Cert.AdamWIdeal.τ).loc Cert.AdamWIdeal.main_arg0)
      ∧ m' ((c.tc : Thread Cert.AdamWReferenceIdeal.nD Cert.AdamWReferenceIdeal.τ).loc Cert.AdamWReferenceIdeal.main_arg1) = m ((c.tc : Thread Cert.AdamWIdeal.nD Cert.AdamWIdeal.τ).loc Cert.AdamWIdeal.main_arg1)
      ∧ m' ((c.tc : Thread Cert.AdamWReferenceIdeal.nD Cert.AdamWReferenceIdeal.τ).loc Cert.AdamWReferenceIdeal.main_arg2) = m ((c.tc : Thread Cert.AdamWIdeal.nD Cert.AdamWIdeal.τ).loc Cert.AdamWIdeal.main_arg2)
      ∧ m' ((c.tc : Thread Cert.AdamWReferenceIdeal.nD Cert.AdamWReferenceIdeal.τ).loc Cert.AdamWReferenceIdeal.main_arg3) = m ((c.tc : Thread Cert.AdamWIdeal.nD Cert.AdamWIdeal.τ).loc Cert.AdamWIdeal.main_arg3)
      ∧ m' ((c.tc : Thread Cert.AdamWReferenceIdeal.nD Cert.AdamWReferenceIdeal.τ).loc Cert.AdamWReferenceIdeal.main_arg4) = m ((c.tc : Thread Cert.AdamWIdeal.nD Cert.AdamWIdeal.τ).loc Cert.AdamWIdeal.main_arg4)
      ∧ m' ((c.tc : Thread Cert.AdamWReferenceIdeal.nD Cert.AdamWReferenceIdeal.τ).loc Cert.AdamWReferenceIdeal.main_arg5) = m ((c.tc : Thread Cert.AdamWIdeal.nD Cert.AdamWIdeal.τ).loc Cert.AdamWIdeal.main_arg5)
      ∧ m' ((c.tc : Thread Cert.AdamWReferenceIdeal.nD Cert.AdamWReferenceIdeal.τ).loc Cert.AdamWReferenceIdeal.main_arg6) = m ((c.tc : Thread Cert.AdamWIdeal.nD Cert.AdamWIdeal.τ).loc Cert.AdamWIdeal.main_arg6)
      ∧ m' ((c.tc : Thread Cert.AdamWReferenceIdeal.nD Cert.AdamWReferenceIdeal.τ).loc Cert.AdamWReferenceIdeal.main_arg7) = m ((c.tc : Thread Cert.AdamWIdeal.nD Cert.AdamWIdeal.τ).loc Cert.AdamWIdeal.main_arg7)
      ∧ m' ((c.tc : Thread Cert.AdamWReferenceIdeal.nD Cert.AdamWReferenceIdeal.τ).loc Cert.AdamWReferenceIdeal.main_arg8) = m ((c.tc : Thread Cert.AdamWIdeal.nD Cert.AdamWIdeal.τ).loc Cert.AdamWIdeal.main_arg8)
      ∧ m' ((c.tc : Thread Cert.AdamWReferenceIdeal.nD Cert.AdamWReferenceIdeal.τ).loc Cert.AdamWReferenceIdeal.main_arg9) = m ((c.tc : Thread Cert.AdamWIdeal.nD Cert.AdamWIdeal.τ).loc Cert.AdamWIdeal.main_arg9)
      ∧ m' ((c.tc : Thread Cert.AdamWReferenceIdeal.nD Cert.AdamWReferenceIdeal.τ).loc Cert.AdamWReferenceIdeal.main_arg10) = m ((c.tc : Thread Cert.AdamWIdeal.nD Cert.AdamWIdeal.τ).loc Cert.AdamWIdeal.main_arg10)
      ∧ m' ((c.tc : Thread Cert.AdamWReferenceIdeal.nD Cert.AdamWReferenceIdeal.τ).loc Cert.AdamWReferenceIdeal.main_arg11) = m ((c.tc : Thread Cert.AdamWIdeal.nD Cert.AdamWIdeal.τ).loc Cert.AdamWIdeal.main_arg11)
      ∧ m' ((c.tc : Thread Cert.AdamWReferenceIdeal.nD Cert.AdamWReferenceIdeal.τ).loc Cert.AdamWReferenceIdeal.main_arg12) = m ((c.tc : Thread Cert.AdamWIdeal.nD Cert.AdamWIdeal.τ).loc Cert.AdamWIdeal.main_arg12)
      ∧ m' ((c.tc : Thread Cert.AdamWReferenceIdeal.nD Cert.AdamWReferenceIdeal.τ).loc Cert.AdamWReferenceIdeal.main_arg13) = m ((c.tc : Thread Cert.AdamWIdeal.nD Cert.AdamWIdeal.τ).loc Cert.AdamWIdeal.main_arg13)
      ∧ m' ((c.tc : Thread Cert.AdamWReferenceIdeal.nD Cert.AdamWReferenceIdeal.τ).loc Cert.AdamWReferenceIdeal.main_arg14) = m ((c.tc : Thread Cert.AdamWIdeal.nD Cert.AdamWIdeal.τ).loc Cert.AdamWIdeal.main_arg14)
      ∧ m' ((c.tc : Thread Cert.AdamWReferenceIdeal.nD Cert.AdamWReferenceIdeal.τ).loc Cert.AdamWReferenceIdeal.main_arg15) = m ((c.tc : Thread Cert.AdamWIdeal.nD Cert.AdamWIdeal.τ).loc Cert.AdamWIdeal.main_arg15)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v1_0)) (v4 : (c : Dev Cert.AdamWIdeal.nD) → Buf (Elt Ideal) ((c.tc : Thread Cert.AdamWIdeal.nD Cert.AdamWIdeal.τ).loc Cert.AdamWIdeal.main_v1_1)) (v5 : (c : Dev Cert.AdamWIdeal.nD) → Buf (Elt Ideal) ((c.tc : Thread Cert.AdamWIdeal.nD Cert.AdamWIdeal.τ).loc Cert.AdamWIdeal.main_v1_2)) (v6 : (c : Dev Cert.AdamWIdeal.nD) → Buf (Elt Ideal) ((c.tc : Thread Cert.AdamWIdeal.nD Cert.AdamWIdeal.τ).loc Cert.AdamWIdeal.main_v2_0)) (v7 : (c : Dev Cert.AdamWIdeal.nD) → Buf (Elt Ideal) ((c.tc : Thread Cert.AdamWIdeal.nD Cert.AdamWIdeal.τ).loc Cert.AdamWIdeal.main_v2_1)) (v8 : (c : Dev Cert.AdamWIdeal.nD) → Buf (Elt Ideal) ((c.tc : Thread Cert.AdamWIdeal.nD Cert.AdamWIdeal.τ).loc Cert.AdamWIdeal.main_v2_2)) (v9 : (c : Dev Cert.AdamWIdeal.nD) → Buf (Elt Ideal) ((c.tc : Thread Cert.AdamWIdeal.nD Cert.AdamWIdeal.τ).loc Cert.AdamWIdeal.main_v3_0)) (v10 : (c : Dev Cert.AdamWIdeal.nD) → Buf (Elt Ideal) ((c.tc : Thread Cert.AdamWIdeal.nD Cert.AdamWIdeal.τ).loc Cert.AdamWIdeal.main_v3_1)) (v11 : (c : Dev Cert.AdamWIdeal.nD) → Buf (Elt Ideal) ((c.tc : Thread Cert.AdamWIdeal.nD Cert.AdamWIdeal.τ).loc Cert.AdamWIdeal.main_v3_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v1_0) = v3 c
          ∧ r.2.mem ((c.tc : Thread Cert.AdamWIdeal.nD Cert.AdamWIdeal.τ).loc Cert.AdamWIdeal.main_v1_1) = v4 c
          ∧ r.2.mem ((c.tc : Thread Cert.AdamWIdeal.nD Cert.AdamWIdeal.τ).loc Cert.AdamWIdeal.main_v1_2) = v5 c
          ∧ r.2.mem ((c.tc : Thread Cert.AdamWIdeal.nD Cert.AdamWIdeal.τ).loc Cert.AdamWIdeal.main_v2_0) = v6 c
          ∧ r.2.mem ((c.tc : Thread Cert.AdamWIdeal.nD Cert.AdamWIdeal.τ).loc Cert.AdamWIdeal.main_v2_1) = v7 c
          ∧ r.2.mem ((c.tc : Thread Cert.AdamWIdeal.nD Cert.AdamWIdeal.τ).loc Cert.AdamWIdeal.main_v2_2) = v8 c
          ∧ r.2.mem ((c.tc : Thread Cert.AdamWIdeal.nD Cert.AdamWIdeal.τ).loc Cert.AdamWIdeal.main_v3_0) = v9 c
          ∧ r.2.mem ((c.tc : Thread Cert.AdamWIdeal.nD Cert.AdamWIdeal.τ).loc Cert.AdamWIdeal.main_v3_1) = v10 c
          ∧ r.2.mem ((c.tc : Thread Cert.AdamWIdeal.nD Cert.AdamWIdeal.τ).loc Cert.AdamWIdeal.main_v3_2) = v11 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
          ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
          ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6)
          ∧ r.2.mem ((c.tc : Thread Cert.AdamWIdeal.nD Cert.AdamWIdeal.τ).loc Cert.AdamWIdeal.main_arg7) = m ((c.tc : Thread Cert.AdamWIdeal.nD Cert.AdamWIdeal.τ).loc Cert.AdamWIdeal.main_arg7)
          ∧ r.2.mem ((c.tc : Thread Cert.AdamWIdeal.nD Cert.AdamWIdeal.τ).loc Cert.AdamWIdeal.main_arg8) = m ((c.tc : Thread Cert.AdamWIdeal.nD Cert.AdamWIdeal.τ).loc Cert.AdamWIdeal.main_arg8)
          ∧ r.2.mem ((c.tc : Thread Cert.AdamWIdeal.nD Cert.AdamWIdeal.τ).loc Cert.AdamWIdeal.main_arg9) = m ((c.tc : Thread Cert.AdamWIdeal.nD Cert.AdamWIdeal.τ).loc Cert.AdamWIdeal.main_arg9)
          ∧ r.2.mem ((c.tc : Thread Cert.AdamWIdeal.nD Cert.AdamWIdeal.τ).loc Cert.AdamWIdeal.main_arg10) = m ((c.tc : Thread Cert.AdamWIdeal.nD Cert.AdamWIdeal.τ).loc Cert.AdamWIdeal.main_arg10)
          ∧ r.2.mem ((c.tc : Thread Cert.AdamWIdeal.nD Cert.AdamWIdeal.τ).loc Cert.AdamWIdeal.main_arg11) = m ((c.tc : Thread Cert.AdamWIdeal.nD Cert.AdamWIdeal.τ).loc Cert.AdamWIdeal.main_arg11)
          ∧ r.2.mem ((c.tc : Thread Cert.AdamWIdeal.nD Cert.AdamWIdeal.τ).loc Cert.AdamWIdeal.main_arg12) = m ((c.tc : Thread Cert.AdamWIdeal.nD Cert.AdamWIdeal.τ).loc Cert.AdamWIdeal.main_arg12)
          ∧ r.2.mem ((c.tc : Thread Cert.AdamWIdeal.nD Cert.AdamWIdeal.τ).loc Cert.AdamWIdeal.main_arg13) = m ((c.tc : Thread Cert.AdamWIdeal.nD Cert.AdamWIdeal.τ).loc Cert.AdamWIdeal.main_arg13)
          ∧ r.2.mem ((c.tc : Thread Cert.AdamWIdeal.nD Cert.AdamWIdeal.τ).loc Cert.AdamWIdeal.main_arg14) = m ((c.tc : Thread Cert.AdamWIdeal.nD Cert.AdamWIdeal.τ).loc Cert.AdamWIdeal.main_arg14)
          ∧ r.2.mem ((c.tc : Thread Cert.AdamWIdeal.nD Cert.AdamWIdeal.τ).loc Cert.AdamWIdeal.main_arg15) = m ((c.tc : Thread Cert.AdamWIdeal.nD Cert.AdamWIdeal.τ).loc Cert.AdamWIdeal.main_arg15))
      ∧ θ_run (Cert.AdamWReferenceIdeal.defs (F := Ideal)) (onTc (τ := Cert.AdamWReferenceIdeal.τ) (Cert.AdamWReferenceIdeal.main (F := Ideal))) ⟨m', fun _ => 0, g'⟩ (fun r => ∀ c : Dev Cert.AdamWReferenceIdeal.nD,
          r.2.mem ((c.tc : Thread Cert.AdamWReferenceIdeal.nD Cert.AdamWReferenceIdeal.τ).loc Cert.AdamWReferenceIdeal.main_v23) = v0 c
          ∧ r.2.mem ((c.tc : Thread Cert.AdamWReferenceIdeal.nD Cert.AdamWReferenceIdeal.τ).loc Cert.AdamWReferenceIdeal.main_v4) = v1 c
          ∧ r.2.mem ((c.tc : Thread Cert.AdamWReferenceIdeal.nD Cert.AdamWReferenceIdeal.τ).loc Cert.AdamWReferenceIdeal.main_v10) = v2 c
          ∧ r.2.mem ((c.tc : Thread Cert.AdamWReferenceIdeal.nD Cert.AdamWReferenceIdeal.τ).loc Cert.AdamWReferenceIdeal.main_v47) = v3 c
          ∧ r.2.mem ((c.tc : Thread Cert.AdamWReferenceIdeal.nD Cert.AdamWReferenceIdeal.τ).loc Cert.AdamWReferenceIdeal.main_v28) = v4 c
          ∧ r.2.mem ((c.tc : Thread Cert.AdamWReferenceIdeal.nD Cert.AdamWReferenceIdeal.τ).loc Cert.AdamWReferenceIdeal.main_v34) = v5 c
          ∧ r.2.mem ((c.tc : Thread Cert.AdamWReferenceIdeal.nD Cert.AdamWReferenceIdeal.τ).loc Cert.AdamWReferenceIdeal.main_v71) = v6 c
          ∧ r.2.mem ((c.tc : Thread Cert.AdamWReferenceIdeal.nD Cert.AdamWReferenceIdeal.τ).loc Cert.AdamWReferenceIdeal.main_v52) = v7 c
          ∧ r.2.mem ((c.tc : Thread Cert.AdamWReferenceIdeal.nD Cert.AdamWReferenceIdeal.τ).loc Cert.AdamWReferenceIdeal.main_v58) = v8 c
          ∧ r.2.mem ((c.tc : Thread Cert.AdamWReferenceIdeal.nD Cert.AdamWReferenceIdeal.τ).loc Cert.AdamWReferenceIdeal.main_v95) = v9 c
          ∧ r.2.mem ((c.tc : Thread Cert.AdamWReferenceIdeal.nD Cert.AdamWReferenceIdeal.τ).loc Cert.AdamWReferenceIdeal.main_v76) = v10 c
          ∧ r.2.mem ((c.tc : Thread Cert.AdamWReferenceIdeal.nD Cert.AdamWReferenceIdeal.τ).loc Cert.AdamWReferenceIdeal.main_v82) = v11 c
          ∧ r.2.mem ((c.tc : Thread Cert.AdamWReferenceIdeal.nD Cert.AdamWReferenceIdeal.τ).loc Cert.AdamWReferenceIdeal.main_arg0) = m' ((c.tc : Thread Cert.AdamWReferenceIdeal.nD Cert.AdamWReferenceIdeal.τ).loc Cert.AdamWReferenceIdeal.main_arg0)
          ∧ r.2.mem ((c.tc : Thread Cert.AdamWReferenceIdeal.nD Cert.AdamWReferenceIdeal.τ).loc Cert.AdamWReferenceIdeal.main_arg1) = m' ((c.tc : Thread Cert.AdamWReferenceIdeal.nD Cert.AdamWReferenceIdeal.τ).loc Cert.AdamWReferenceIdeal.main_arg1)
          ∧ r.2.mem ((c.tc : Thread Cert.AdamWReferenceIdeal.nD Cert.AdamWReferenceIdeal.τ).loc Cert.AdamWReferenceIdeal.main_arg2) = m' ((c.tc : Thread Cert.AdamWReferenceIdeal.nD Cert.AdamWReferenceIdeal.τ).loc Cert.AdamWReferenceIdeal.main_arg2)
          ∧ r.2.mem ((c.tc : Thread Cert.AdamWReferenceIdeal.nD Cert.AdamWReferenceIdeal.τ).loc Cert.AdamWReferenceIdeal.main_arg3) = m' ((c.tc : Thread Cert.AdamWReferenceIdeal.nD Cert.AdamWReferenceIdeal.τ).loc Cert.AdamWReferenceIdeal.main_arg3)
          ∧ r.2.mem ((c.tc : Thread Cert.AdamWReferenceIdeal.nD Cert.AdamWReferenceIdeal.τ).loc Cert.AdamWReferenceIdeal.main_arg4) = m' ((c.tc : Thread Cert.AdamWReferenceIdeal.nD Cert.AdamWReferenceIdeal.τ).loc Cert.AdamWReferenceIdeal.main_arg4)
          ∧ r.2.mem ((c.tc : Thread Cert.AdamWReferenceIdeal.nD Cert.AdamWReferenceIdeal.τ).loc Cert.AdamWReferenceIdeal.main_arg5) = m' ((c.tc : Thread Cert.AdamWReferenceIdeal.nD Cert.AdamWReferenceIdeal.τ).loc Cert.AdamWReferenceIdeal.main_arg5)
          ∧ r.2.mem ((c.tc : Thread Cert.AdamWReferenceIdeal.nD Cert.AdamWReferenceIdeal.τ).loc Cert.AdamWReferenceIdeal.main_arg6) = m' ((c.tc : Thread Cert.AdamWReferenceIdeal.nD Cert.AdamWReferenceIdeal.τ).loc Cert.AdamWReferenceIdeal.main_arg6)
          ∧ r.2.mem ((c.tc : Thread Cert.AdamWReferenceIdeal.nD Cert.AdamWReferenceIdeal.τ).loc Cert.AdamWReferenceIdeal.main_arg7) = m' ((c.tc : Thread Cert.AdamWReferenceIdeal.nD Cert.AdamWReferenceIdeal.τ).loc Cert.AdamWReferenceIdeal.main_arg7)
          ∧ r.2.mem ((c.tc : Thread Cert.AdamWReferenceIdeal.nD Cert.AdamWReferenceIdeal.τ).loc Cert.AdamWReferenceIdeal.main_arg8) = m' ((c.tc : Thread Cert.AdamWReferenceIdeal.nD Cert.AdamWReferenceIdeal.τ).loc Cert.AdamWReferenceIdeal.main_arg8)
          ∧ r.2.mem ((c.tc : Thread Cert.AdamWReferenceIdeal.nD Cert.AdamWReferenceIdeal.τ).loc Cert.AdamWReferenceIdeal.main_arg9) = m' ((c.tc : Thread Cert.AdamWReferenceIdeal.nD Cert.AdamWReferenceIdeal.τ).loc Cert.AdamWReferenceIdeal.main_arg9)
          ∧ r.2.mem ((c.tc : Thread Cert.AdamWReferenceIdeal.nD Cert.AdamWReferenceIdeal.τ).loc Cert.AdamWReferenceIdeal.main_arg10) = m' ((c.tc : Thread Cert.AdamWReferenceIdeal.nD Cert.AdamWReferenceIdeal.τ).loc Cert.AdamWReferenceIdeal.main_arg10)
          ∧ r.2.mem ((c.tc : Thread Cert.AdamWReferenceIdeal.nD Cert.AdamWReferenceIdeal.τ).loc Cert.AdamWReferenceIdeal.main_arg11) = m' ((c.tc : Thread Cert.AdamWReferenceIdeal.nD Cert.AdamWReferenceIdeal.τ).loc Cert.AdamWReferenceIdeal.main_arg11)
          ∧ r.2.mem ((c.tc : Thread Cert.AdamWReferenceIdeal.nD Cert.AdamWReferenceIdeal.τ).loc Cert.AdamWReferenceIdeal.main_arg12) = m' ((c.tc : Thread Cert.AdamWReferenceIdeal.nD Cert.AdamWReferenceIdeal.τ).loc Cert.AdamWReferenceIdeal.main_arg12)
          ∧ r.2.mem ((c.tc : Thread Cert.AdamWReferenceIdeal.nD Cert.AdamWReferenceIdeal.τ).loc Cert.AdamWReferenceIdeal.main_arg13) = m' ((c.tc : Thread Cert.AdamWReferenceIdeal.nD Cert.AdamWReferenceIdeal.τ).loc Cert.AdamWReferenceIdeal.main_arg13)
          ∧ r.2.mem ((c.tc : Thread Cert.AdamWReferenceIdeal.nD Cert.AdamWReferenceIdeal.τ).loc Cert.AdamWReferenceIdeal.main_arg14) = m' ((c.tc : Thread Cert.AdamWReferenceIdeal.nD Cert.AdamWReferenceIdeal.τ).loc Cert.AdamWReferenceIdeal.main_arg14)
          ∧ r.2.mem ((c.tc : Thread Cert.AdamWReferenceIdeal.nD Cert.AdamWReferenceIdeal.τ).loc Cert.AdamWReferenceIdeal.main_arg15) = m' ((c.tc : Thread Cert.AdamWReferenceIdeal.nD Cert.AdamWReferenceIdeal.τ).loc Cert.AdamWReferenceIdeal.main_arg15))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v14) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3))

def preserves_RmsQ_RmsQIdeal : Prop :=
  True

def algebraic_RmsQIdeal_RmsQReferenceIdeal [hRmsQIdeal : Cert.RmsQIdeal.Facts] [hRmsQReferenceIdeal : Cert.RmsQReferenceIdeal.Facts] : Prop :=
  ∀ (m : (ℓ : Loc Cert.RmsQIdeal.nD Cert.RmsQIdeal.τ Cert.RmsQIdeal.sig) → Buf (Elt Ideal) ℓ) (g : Dev Cert.RmsQIdeal.nD → PrngReg)
    (m' : (ℓ : Loc Cert.RmsQReferenceIdeal.nD Cert.RmsQReferenceIdeal.τ Cert.RmsQReferenceIdeal.sig) → Buf (Elt Ideal) ℓ) (g' : Dev Cert.RmsQReferenceIdeal.nD → PrngReg), Pre_RmsQIdeal m →
    (∀ c : Dev Cert.RmsQIdeal.nD,
      m' ((c.tc : Thread Cert.RmsQReferenceIdeal.nD Cert.RmsQReferenceIdeal.τ).loc Cert.RmsQReferenceIdeal.main_arg0) = m ((c.tc : Thread Cert.RmsQIdeal.nD Cert.RmsQIdeal.τ).loc Cert.RmsQIdeal.main_arg0)
      ∧ m' ((c.tc : Thread Cert.RmsQReferenceIdeal.nD Cert.RmsQReferenceIdeal.τ).loc Cert.RmsQReferenceIdeal.main_arg1) = m ((c.tc : Thread Cert.RmsQIdeal.nD Cert.RmsQIdeal.τ).loc Cert.RmsQIdeal.main_arg1)) →
    ∃ (v0 : (c : Dev Cert.RmsQIdeal.nD) → Buf (Elt Ideal) ((c.tc : Thread Cert.RmsQIdeal.nD Cert.RmsQIdeal.τ).loc Cert.RmsQIdeal.main_v0)),
      θ_run (Cert.RmsQIdeal.defs (F := Ideal)) (onTc (τ := Cert.RmsQIdeal.τ) (Cert.RmsQIdeal.main (F := Ideal))) ⟨m, fun _ => 0, g⟩ (fun r => ∀ c : Dev Cert.RmsQIdeal.nD,
          r.2.mem ((c.tc : Thread Cert.RmsQIdeal.nD Cert.RmsQIdeal.τ).loc Cert.RmsQIdeal.main_v0) = v0 c
          ∧ r.2.mem ((c.tc : Thread Cert.RmsQIdeal.nD Cert.RmsQIdeal.τ).loc Cert.RmsQIdeal.main_arg0) = m ((c.tc : Thread Cert.RmsQIdeal.nD Cert.RmsQIdeal.τ).loc Cert.RmsQIdeal.main_arg0)
          ∧ r.2.mem ((c.tc : Thread Cert.RmsQIdeal.nD Cert.RmsQIdeal.τ).loc Cert.RmsQIdeal.main_arg1) = m ((c.tc : Thread Cert.RmsQIdeal.nD Cert.RmsQIdeal.τ).loc Cert.RmsQIdeal.main_arg1))
      ∧ θ_run (Cert.RmsQReferenceIdeal.defs (F := Ideal)) (onTc (τ := Cert.RmsQReferenceIdeal.τ) (Cert.RmsQReferenceIdeal.main (F := Ideal))) ⟨m', fun _ => 0, g'⟩ (fun r => ∀ c : Dev Cert.RmsQReferenceIdeal.nD,
          r.2.mem ((c.tc : Thread Cert.RmsQReferenceIdeal.nD Cert.RmsQReferenceIdeal.τ).loc Cert.RmsQReferenceIdeal.main_v14) = v0 c
          ∧ r.2.mem ((c.tc : Thread Cert.RmsQReferenceIdeal.nD Cert.RmsQReferenceIdeal.τ).loc Cert.RmsQReferenceIdeal.main_arg0) = m' ((c.tc : Thread Cert.RmsQReferenceIdeal.nD Cert.RmsQReferenceIdeal.τ).loc Cert.RmsQReferenceIdeal.main_arg0)
          ∧ r.2.mem ((c.tc : Thread Cert.RmsQReferenceIdeal.nD Cert.RmsQReferenceIdeal.τ).loc Cert.RmsQReferenceIdeal.main_arg1) = m' ((c.tc : Thread Cert.RmsQReferenceIdeal.nD Cert.RmsQReferenceIdeal.τ).loc Cert.RmsQReferenceIdeal.main_arg1))

def preserves_RmsKv_RmsKvIdeal : Prop :=
  True

def algebraic_RmsKvIdeal_RmsKvReferenceIdeal [hRmsKvIdeal : Cert.RmsKvIdeal.Facts] [hRmsKvReferenceIdeal : Cert.RmsKvReferenceIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg)
    (m' : (ℓ : Loc Cert.RmsKvReferenceIdeal.nD Cert.RmsKvReferenceIdeal.τ Cert.RmsKvReferenceIdeal.sig) → Buf (Elt Ideal) ℓ) (g' : Dev Cert.RmsKvReferenceIdeal.nD → PrngReg), Pre_RmsKvIdeal m →
    (∀ c : Dev Cert.RmsKvIdeal.nD,
      m' ((c.tc : Thread Cert.RmsKvReferenceIdeal.nD Cert.RmsKvReferenceIdeal.τ).loc Cert.RmsKvReferenceIdeal.main_arg0) = m ((c.tc : Thread Cert.RmsKvIdeal.nD Cert.RmsKvIdeal.τ).loc Cert.RmsKvIdeal.main_arg0)
      ∧ m' ((c.tc : Thread Cert.RmsKvReferenceIdeal.nD Cert.RmsKvReferenceIdeal.τ).loc Cert.RmsKvReferenceIdeal.main_arg1) = m ((c.tc : Thread Cert.RmsKvIdeal.nD Cert.RmsKvIdeal.τ).loc Cert.RmsKvIdeal.main_arg1)) →
    ∃ (v0 : (c : Dev Cert.RmsKvIdeal.nD) → Buf (Elt Ideal) ((c.tc : Thread Cert.RmsKvIdeal.nD Cert.RmsKvIdeal.τ).loc Cert.RmsKvIdeal.main_v0)),
      θ_run (Cert.RmsKvIdeal.defs (F := Ideal)) (onTc (τ := Cert.RmsKvIdeal.τ) (Cert.RmsKvIdeal.main (F := Ideal))) ⟨m, fun _ => 0, g⟩ (fun r => ∀ c : Dev Cert.RmsKvIdeal.nD,
          r.2.mem ((c.tc : Thread Cert.RmsKvIdeal.nD Cert.RmsKvIdeal.τ).loc Cert.RmsKvIdeal.main_v0) = v0 c
          ∧ r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
          ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1))
      ∧ θ_run (Cert.RmsKvReferenceIdeal.defs (F := Ideal)) (onTc (τ := Cert.RmsKvReferenceIdeal.τ) (Cert.RmsKvReferenceIdeal.main (F := Ideal))) ⟨m', fun _ => 0, g'⟩ (fun r => ∀ c : Dev Cert.RmsKvReferenceIdeal.nD,
          r.2.mem ((c.tc : Thread Cert.RmsKvReferenceIdeal.nD Cert.RmsKvReferenceIdeal.τ).loc Cert.RmsKvReferenceIdeal.main_v14) = v0 c
          ∧ r.2.mem ((c.tc : Thread Cert.RmsKvReferenceIdeal.nD Cert.RmsKvReferenceIdeal.τ).loc Cert.RmsKvReferenceIdeal.main_arg0) = m' ((c.tc : Thread Cert.RmsKvReferenceIdeal.nD Cert.RmsKvReferenceIdeal.τ).loc Cert.RmsKvReferenceIdeal.main_arg0)
          ∧ r.2.mem ((c.tc : Thread Cert.RmsKvReferenceIdeal.nD Cert.RmsKvReferenceIdeal.τ).loc Cert.RmsKvReferenceIdeal.main_arg1) = m' ((c.tc : Thread Cert.RmsKvReferenceIdeal.nD Cert.RmsKvReferenceIdeal.τ).loc Cert.RmsKvReferenceIdeal.main_arg1))

def preserves_AdaW_AdaWIdeal : Prop :=
  IdealRules.named_const.Statement Cert.AdaWIdeal.κ "c1" .f32 0x3FC48605#32 (((5463681 / 8388608)⁻¹ : ℝ) : EReal)
  ∧ IdealRules.named_const.Statement Cert.AdaWIdeal.κ "c2" .f32 0x42C8E6D3#32 (((2672307 / 268435456)⁻¹ : ℝ) : EReal)

def algebraic_AdaWIdeal_AdaWReferenceIdeal [hAdaWIdeal : Cert.AdaWIdeal.Facts] [hAdaWReferenceIdeal : Cert.AdaWReferenceIdeal.Facts] : Prop :=
  ∀ (m : (ℓ : Loc Cert.AdaWIdeal.nD Cert.AdaWIdeal.τ Cert.AdaWIdeal.sig) → Buf (Elt Ideal) ℓ) (g : Dev Cert.AdaWIdeal.nD → PrngReg)
    (m' : (ℓ : Loc Cert.AdaWReferenceIdeal.nD Cert.AdaWReferenceIdeal.τ Cert.AdaWReferenceIdeal.sig) → Buf (Elt Ideal) ℓ) (g' : Dev Cert.AdaWReferenceIdeal.nD → PrngReg), Pre_AdaWIdeal m →
    (∀ c : Dev Cert.AdaWIdeal.nD,
      m' ((c.tc : Thread Cert.AdaWReferenceIdeal.nD Cert.AdaWReferenceIdeal.τ).loc Cert.AdaWReferenceIdeal.main_arg0) = m ((c.tc : Thread Cert.AdaWIdeal.nD Cert.AdaWIdeal.τ).loc Cert.AdaWIdeal.main_arg0)
      ∧ m' ((c.tc : Thread Cert.AdaWReferenceIdeal.nD Cert.AdaWReferenceIdeal.τ).loc Cert.AdaWReferenceIdeal.main_arg1) = m ((c.tc : Thread Cert.AdaWIdeal.nD Cert.AdaWIdeal.τ).loc Cert.AdaWIdeal.main_arg1)
      ∧ m' ((c.tc : Thread Cert.AdaWReferenceIdeal.nD Cert.AdaWReferenceIdeal.τ).loc Cert.AdaWReferenceIdeal.main_arg2) = m ((c.tc : Thread Cert.AdaWIdeal.nD Cert.AdaWIdeal.τ).loc Cert.AdaWIdeal.main_arg2)
      ∧ m' ((c.tc : Thread Cert.AdaWReferenceIdeal.nD Cert.AdaWReferenceIdeal.τ).loc Cert.AdaWReferenceIdeal.main_arg3) = m ((c.tc : Thread Cert.AdaWIdeal.nD Cert.AdaWIdeal.τ).loc Cert.AdaWIdeal.main_arg3)
      ∧ m' ((c.tc : Thread Cert.AdaWReferenceIdeal.nD Cert.AdaWReferenceIdeal.τ).loc Cert.AdaWReferenceIdeal.main_arg4) = m ((c.tc : Thread Cert.AdaWIdeal.nD Cert.AdaWIdeal.τ).loc Cert.AdaWIdeal.main_arg4)) →
    ∃ (v0 : (c : Dev Cert.AdaWIdeal.nD) → Buf (Elt Ideal) ((c.tc : Thread Cert.AdaWIdeal.nD Cert.AdaWIdeal.τ).loc Cert.AdaWIdeal.main_v0_0)) (v1 : (c : Dev Cert.AdaWIdeal.nD) → Buf (Elt Ideal) ((c.tc : Thread Cert.AdaWIdeal.nD Cert.AdaWIdeal.τ).loc Cert.AdaWIdeal.main_v0_1)) (v2 : (c : Dev Cert.AdaWIdeal.nD) → Buf (Elt Ideal) ((c.tc : Thread Cert.AdaWIdeal.nD Cert.AdaWIdeal.τ).loc Cert.AdaWIdeal.main_v0_2)) (v3 : (c : Dev Cert.AdaWIdeal.nD) → Buf (Elt Ideal) ((c.tc : Thread Cert.AdaWIdeal.nD Cert.AdaWIdeal.τ).loc Cert.AdaWIdeal.main_v0_3)),
      θ_run (Cert.AdaWIdeal.defs (F := Ideal)) (onTc (τ := Cert.AdaWIdeal.τ) (Cert.AdaWIdeal.main (F := Ideal))) ⟨m, fun _ => 0, g⟩ (fun r => ∀ c : Dev Cert.AdaWIdeal.nD,
          r.2.mem ((c.tc : Thread Cert.AdaWIdeal.nD Cert.AdaWIdeal.τ).loc Cert.AdaWIdeal.main_v0_0) = v0 c
          ∧ r.2.mem ((c.tc : Thread Cert.AdaWIdeal.nD Cert.AdaWIdeal.τ).loc Cert.AdaWIdeal.main_v0_1) = v1 c
          ∧ r.2.mem ((c.tc : Thread Cert.AdaWIdeal.nD Cert.AdaWIdeal.τ).loc Cert.AdaWIdeal.main_v0_2) = v2 c
          ∧ r.2.mem ((c.tc : Thread Cert.AdaWIdeal.nD Cert.AdaWIdeal.τ).loc Cert.AdaWIdeal.main_v0_3) = v3 c
          ∧ r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
          ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
          ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
          ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
          ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ θ_run (Cert.AdaWReferenceIdeal.defs (F := Ideal)) (onTc (τ := Cert.AdaWReferenceIdeal.τ) (Cert.AdaWReferenceIdeal.main (F := Ideal))) ⟨m', fun _ => 0, g'⟩ (fun r => ∀ c : Dev Cert.AdaWReferenceIdeal.nD,
          r.2.mem ((c.tc : Thread Cert.AdaWReferenceIdeal.nD Cert.AdaWReferenceIdeal.τ).loc Cert.AdaWReferenceIdeal.main_v3) = v0 c
          ∧ r.2.mem ((c.tc : Thread Cert.AdaWReferenceIdeal.nD Cert.AdaWReferenceIdeal.τ).loc Cert.AdaWReferenceIdeal.main_v27) = v1 c
          ∧ r.2.mem ((c.tc : Thread Cert.AdaWReferenceIdeal.nD Cert.AdaWReferenceIdeal.τ).loc Cert.AdaWReferenceIdeal.main_v8) = v2 c
          ∧ r.2.mem ((c.tc : Thread Cert.AdaWReferenceIdeal.nD Cert.AdaWReferenceIdeal.τ).loc Cert.AdaWReferenceIdeal.main_v14) = v3 c
          ∧ r.2.mem ((c.tc : Thread Cert.AdaWReferenceIdeal.nD Cert.AdaWReferenceIdeal.τ).loc Cert.AdaWReferenceIdeal.main_arg0) = m' ((c.tc : Thread Cert.AdaWReferenceIdeal.nD Cert.AdaWReferenceIdeal.τ).loc Cert.AdaWReferenceIdeal.main_arg0)
          ∧ r.2.mem ((c.tc : Thread Cert.AdaWReferenceIdeal.nD Cert.AdaWReferenceIdeal.τ).loc Cert.AdaWReferenceIdeal.main_arg1) = m' ((c.tc : Thread Cert.AdaWReferenceIdeal.nD Cert.AdaWReferenceIdeal.τ).loc Cert.AdaWReferenceIdeal.main_arg1)
          ∧ r.2.mem ((c.tc : Thread Cert.AdaWReferenceIdeal.nD Cert.AdaWReferenceIdeal.τ).loc Cert.AdaWReferenceIdeal.main_arg2) = m' ((c.tc : Thread Cert.AdaWReferenceIdeal.nD Cert.AdaWReferenceIdeal.τ).loc Cert.AdaWReferenceIdeal.main_arg2)
          ∧ r.2.mem ((c.tc : Thread Cert.AdaWReferenceIdeal.nD Cert.AdaWReferenceIdeal.τ).loc Cert.AdaWReferenceIdeal.main_arg3) = m' ((c.tc : Thread Cert.AdaWReferenceIdeal.nD Cert.AdaWReferenceIdeal.τ).loc Cert.AdaWReferenceIdeal.main_arg3)
          ∧ r.2.mem ((c.tc : Thread Cert.AdaWReferenceIdeal.nD Cert.AdaWReferenceIdeal.τ).loc Cert.AdaWReferenceIdeal.main_arg4) = m' ((c.tc : Thread Cert.AdaWReferenceIdeal.nD Cert.AdaWReferenceIdeal.τ).loc Cert.AdaWReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnOut : Cert.FfnOut.Facts) (hFfnOutIdeal : Cert.FfnOutIdeal.Facts) (hFfnOutReferenceIdeal : Cert.FfnOutReferenceIdeal.Facts) (hFfnIn : Cert.FfnIn.Facts) (hFfnInIdeal : Cert.FfnInIdeal.Facts) (hFfnInReferenceIdeal : Cert.FfnInReferenceIdeal.Facts) (hProj : Cert.Proj.Facts) (hProjIdeal : Cert.ProjIdeal.Facts) (hProjReferenceIdeal : Cert.ProjReferenceIdeal.Facts) (hProjIn : Cert.ProjIn.Facts) (hProjInIdeal : Cert.ProjInIdeal.Facts) (hProjInReferenceIdeal : Cert.ProjInReferenceIdeal.Facts) (hMixer : Cert.Mixer.Facts) (hMixerIdeal : Cert.MixerIdeal.Facts) (hMixerReferenceIdeal : Cert.MixerReferenceIdeal.Facts) (hLatent : Cert.Latent.Facts) (hLatentIdeal : Cert.LatentIdeal.Facts) (hLatentReferenceIdeal : Cert.LatentReferenceIdeal.Facts) (hQIn : Cert.QIn.Facts) (hQInIdeal : Cert.QInIdeal.Facts) (hQInReferenceIdeal : Cert.QInReferenceIdeal.Facts) (hKvIn : Cert.KvIn.Facts) (hKvInIdeal : Cert.KvInIdeal.Facts) (hKvInReferenceIdeal : Cert.KvInReferenceIdeal.Facts) (hConv : Cert.Conv.Facts) (hConvIdeal : Cert.ConvIdeal.Facts) (hConvReferenceIdeal : Cert.ConvReferenceIdeal.Facts) (hNorms : Cert.Norms.Facts) (hNormsIdeal : Cert.NormsIdeal.Facts) (hNormsReferenceIdeal : Cert.NormsReferenceIdeal.Facts) (hAdamW : Cert.AdamW.Facts) (hAdamWIdeal : Cert.AdamWIdeal.Facts) (hAdamWReferenceIdeal : Cert.AdamWReferenceIdeal.Facts) (hGradX : Cert.GradX.Facts) (hGradXIdeal : Cert.GradXIdeal.Facts) (hGradXReferenceIdeal : Cert.GradXReferenceIdeal.Facts) (hRmsQ : Cert.RmsQ.Facts) (hRmsQIdeal : Cert.RmsQIdeal.Facts) (hRmsQReferenceIdeal : Cert.RmsQReferenceIdeal.Facts) (hRmsKv : Cert.RmsKv.Facts) (hRmsKvIdeal : Cert.RmsKvIdeal.Facts) (hRmsKvReferenceIdeal : Cert.RmsKvReferenceIdeal.Facts) (hAdaW : Cert.AdaW.Facts) (hAdaWIdeal : Cert.AdaWIdeal.Facts) (hAdaWReferenceIdeal : Cert.AdaWReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjIn (hProjIn := hProjIn)
    ∧ quiescent_ProjInIdeal (hProjInIdeal := hProjInIdeal)
    ∧ quiescent_ProjInReferenceIdeal (hProjInReferenceIdeal := hProjInReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_QIn (hQIn := hQIn)
    ∧ quiescent_QInIdeal (hQInIdeal := hQInIdeal)
    ∧ quiescent_QInReferenceIdeal (hQInReferenceIdeal := hQInReferenceIdeal)
    ∧ quiescent_KvIn (hKvIn := hKvIn)
    ∧ quiescent_KvInIdeal (hKvInIdeal := hKvInIdeal)
    ∧ quiescent_KvInReferenceIdeal (hKvInReferenceIdeal := hKvInReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Norms (hNorms := hNorms)
    ∧ quiescent_NormsIdeal (hNormsIdeal := hNormsIdeal)
    ∧ quiescent_NormsReferenceIdeal (hNormsReferenceIdeal := hNormsReferenceIdeal)
    ∧ quiescent_AdamW (hAdamW := hAdamW)
    ∧ quiescent_AdamWIdeal (hAdamWIdeal := hAdamWIdeal)
    ∧ quiescent_AdamWReferenceIdeal (hAdamWReferenceIdeal := hAdamWReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_RmsQ (hRmsQ := hRmsQ)
    ∧ quiescent_RmsQIdeal (hRmsQIdeal := hRmsQIdeal)
    ∧ quiescent_RmsQReferenceIdeal (hRmsQReferenceIdeal := hRmsQReferenceIdeal)
    ∧ quiescent_RmsKv (hRmsKv := hRmsKv)
    ∧ quiescent_RmsKvIdeal (hRmsKvIdeal := hRmsKvIdeal)
    ∧ quiescent_RmsKvReferenceIdeal (hRmsKvReferenceIdeal := hRmsKvReferenceIdeal)
    ∧ quiescent_AdaW (hAdaW := hAdaW)
    ∧ quiescent_AdaWIdeal (hAdaWIdeal := hAdaWIdeal)
    ∧ quiescent_AdaWReferenceIdeal (hAdaWReferenceIdeal := hAdaWReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_FfnOut_FfnOutIdeal
    ∧ algebraic_FfnOutIdeal_FfnOutReferenceIdeal (hFfnOutIdeal := hFfnOutIdeal) (hFfnOutReferenceIdeal := hFfnOutReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_Proj_ProjIdeal
    ∧ algebraic_ProjIdeal_ProjReferenceIdeal (hProjIdeal := hProjIdeal) (hProjReferenceIdeal := hProjReferenceIdeal)
    ∧ preserves_ProjIn_ProjInIdeal
    ∧ algebraic_ProjInIdeal_ProjInReferenceIdeal (hProjInIdeal := hProjInIdeal) (hProjInReferenceIdeal := hProjInReferenceIdeal)
    ∧ preserves_Mixer_MixerIdeal
    ∧ algebraic_MixerIdeal_MixerReferenceIdeal (hMixerIdeal := hMixerIdeal) (hMixerReferenceIdeal := hMixerReferenceIdeal)
    ∧ preserves_Latent_LatentIdeal
    ∧ algebraic_LatentIdeal_LatentReferenceIdeal (hLatentIdeal := hLatentIdeal) (hLatentReferenceIdeal := hLatentReferenceIdeal)
    ∧ preserves_QIn_QInIdeal
    ∧ algebraic_QInIdeal_QInReferenceIdeal (hQInIdeal := hQInIdeal) (hQInReferenceIdeal := hQInReferenceIdeal)
    ∧ preserves_KvIn_KvInIdeal
    ∧ algebraic_KvInIdeal_KvInReferenceIdeal (hKvInIdeal := hKvInIdeal) (hKvInReferenceIdeal := hKvInReferenceIdeal)
    ∧ preserves_Conv_ConvIdeal
    ∧ algebraic_ConvIdeal_ConvReferenceIdeal (hConvIdeal := hConvIdeal) (hConvReferenceIdeal := hConvReferenceIdeal)
    ∧ preserves_Norms_NormsIdeal
    ∧ algebraic_NormsIdeal_NormsReferenceIdeal (hNormsIdeal := hNormsIdeal) (hNormsReferenceIdeal := hNormsReferenceIdeal)
    ∧ preserves_AdamW_AdamWIdeal
    ∧ algebraic_AdamWIdeal_AdamWReferenceIdeal (hAdamWIdeal := hAdamWIdeal) (hAdamWReferenceIdeal := hAdamWReferenceIdeal)
    ∧ preserves_GradX_GradXIdeal
    ∧ algebraic_GradXIdeal_GradXReferenceIdeal (hGradXIdeal := hGradXIdeal) (hGradXReferenceIdeal := hGradXReferenceIdeal)
    ∧ preserves_RmsQ_RmsQIdeal
    ∧ algebraic_RmsQIdeal_RmsQReferenceIdeal (hRmsQIdeal := hRmsQIdeal) (hRmsQReferenceIdeal := hRmsQReferenceIdeal)
    ∧ preserves_RmsKv_RmsKvIdeal
    ∧ algebraic_RmsKvIdeal_RmsKvReferenceIdeal (hRmsKvIdeal := hRmsKvIdeal) (hRmsKvReferenceIdeal := hRmsKvReferenceIdeal)
    ∧ preserves_AdaW_AdaWIdeal
    ∧ algebraic_AdaWIdeal_AdaWReferenceIdeal (hAdaWIdeal := hAdaWIdeal) (hAdaWReferenceIdeal := hAdaWReferenceIdeal)
-- ==== Pre_finite.lean ====
abbrev S16x2048x192 : Shape := ⟨3, ![16, 2048, 192]⟩
abbrev S16x2048x128 : Shape := ⟨3, ![16, 2048, 128]⟩
abbrev S2048x2048 : Shape := ⟨2, ![2048, 2048]⟩
abbrev S_ : Shape := ⟨0, ![]⟩

class Facts : Prop where
  bcast_S_S16x2048x192 : S_.BroadcastsInDim S16x2048x192 (![] : Fin 0 → Fin S16x2048x192.rank)
  bcast_S_S16x2048x128 : S_.BroadcastsInDim S16x2048x128 (![] : Fin 0 → Fin S16x2048x128.rank)
  bcast_S_S2048x2048 : S_.BroadcastsInDim S2048x2048 (![] : Fin 0 → Fin S2048x2048.rank)

variable [Facts]

def fn {F : FTy → Type} [FloatOps F] (main_arg0 : FVec F S16x2048x192 .bf16) (main_arg1 : FVec F S16x2048x192 .bf16) (main_arg2 : FVec F S16x2048x128 .bf16) (main_arg3 : FVec F S2048x2048 .bf16) : IVec S16x2048x192 1 × IVec S16x2048x192 1 × IVec S16x2048x128 1 × IVec S2048x2048 1 :=
  let main_v0 : FVec F S16x2048x192 .bf16 := Host.absf main_arg0
  let main_cst : FVec F S_ .bf16 := constant S_ .bf16 0x7F80#16
  let main_v1 : FVec F S16x2048x192 .bf16 := broadcastInDim S16x2048x192 ![] bcast_S_S16x2048x192 main_cst
  let main_v2 : IVec S16x2048x192 1 := cmpf .olt main_v0 main_v1
  let main_v3 : FVec F S16x2048x192 .bf16 := Host.absf main_arg1
  let main_cst_0 : FVec F S_ .bf16 := constant S_ .bf16 0x7F80#16
  let main_v4 : FVec F S16x2048x192 .bf16 := broadcastInDim S16x2048x192 ![] bcast_S_S16x2048x192 main_cst_0
  let main_v5 : IVec S16x2048x192 1 := cmpf .olt main_v3 main_v4
  let main_v6 : FVec F S16x2048x128 .bf16 := Host.absf main_arg2
  let main_cst_1 : FVec F S_ .bf16 := constant S_ .bf16 0x7F80#16
  let main_v7 : FVec F S16x2048x128 .bf16 := broadcastInDim S16x2048x128 ![] bcast_S_S16x2048x128 main_cst_1
  let main_v8 : IVec S16x2048x128 1 := cmpf .olt main_v6 main_v7
  let main_v9 : FVec F S2048x2048 .bf16 := Host.absf main_arg3
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  (main_v2, main_v5, main_v8, main_v11)
-- ==== Pre_finite_ffn.lean ====
abbrev S2048x2048 : Shape := ⟨2, ![2048, 2048]⟩
abbrev S8x2048x1408 : Shape := ⟨3, ![8, 2048, 1408]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S8x2048x1408 : S_.BroadcastsInDim S8x2048x1408 (![] : Fin 0 → Fin S8x2048x1408.rank)
  bcast_S_S5632x2048 : S_.BroadcastsInDim S5632x2048 (![] : Fin 0 → Fin S5632x2048.rank)

variable [Facts]

def fn {F : FTy → Type} [FloatOps F] (main_arg0 : FVec F S2048x2048 .bf16) (main_arg1 : FVec F S8x2048x1408 .bf16) (main_arg2 : FVec F S5632x2048 .bf16) (main_arg3 : FVec F S2048x2048 .bf16) : IVec S2048x2048 1 × IVec S8x2048x1408 1 × IVec S5632x2048 1 × IVec S2048x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S8x2048x1408 .bf16 := Host.absf main_arg1
  let main_cst_0 : FVec F S_ .bf16 := constant S_ .bf16 0x7F80#16
  let main_v4 : FVec F S8x2048x1408 .bf16 := broadcastInDim S8x2048x1408 ![] bcast_S_S8x2048x1408 main_cst_0
  let main_v5 : IVec S8x2048x1408 1 := cmpf .olt main_v3 main_v4
  let main_v6 : FVec F S5632x2048 .bf16 := Host.absf main_arg2
  let main_cst_1 : FVec F S_ .bf16 := constant S_ .bf16 0x7F80#16
  let main_v7 : FVec F S5632x2048 .bf16 := broadcastInDim S5632x2048 ![] bcast_S_S5632x2048 main_cst_1
  let main_v8 : IVec S5632x2048 1 := cmpf .olt main_v6 main_v7
  let main_v9 : FVec F S2048x2048 .bf16 := Host.absf main_arg3
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  (main_v2, main_v5, main_v8, main_v11)
-- ==== Kernel.lean ====
abbrev S16x2048x192 : Shape := ⟨3, ![16, 2048, 192]⟩
abbrev S16x2048x128 : Shape := ⟨3, ![16, 2048, 128]⟩
abbrev S2048x2048 : Shape := ⟨2, ![2048, 2048]⟩
abbrev S16x2048x1 : Shape := ⟨3, ![16, 2048, 1]⟩
abbrev S1x512x192 : Shape := ⟨3, ![1, 512, 192]⟩
abbrev S1x2048x192 : Shape := ⟨3, ![1, 2048, 192]⟩
abbrev S1x2048x128 : Shape := ⟨3, ![1, 2048, 128]⟩
abbrev S512x128 : Shape := ⟨2, ![512, 128]⟩
abbrev S1x512x1 : Shape := ⟨3, ![1, 512, 1]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x1024x192 : Shape := ⟨3, ![1, 1024, 192]⟩
abbrev S1024x192 : Shape := ⟨2, ![1024, 192]⟩
abbrev S512x1024 : Shape := ⟨2, ![512, 1024]⟩
abbrev S1x1024x128 : Shape := ⟨3, ![1, 1024, 128]⟩
abbrev S1024x128 : Shape := ⟨2, ![1024, 128]⟩
abbrev S1x1536x192 : Shape := ⟨3, ![1, 1536, 192]⟩
abbrev S1536x192 : Shape := ⟨2, ![1536, 192]⟩
abbrev S512x1536 : Shape := ⟨2, ![512, 1536]⟩
abbrev S1x1536x128 : Shape := ⟨3, ![1, 1536, 128]⟩
abbrev S1536x128 : Shape := ⟨2, ![1536, 128]⟩
abbrev S2048x128 : Shape := ⟨2, ![2048, 128]⟩
abbrev S1x2048x1 : Shape := ⟨3, ![1, 2048, 1]⟩
abbrev S2048x1 : Shape := ⟨2, ![2048, 1]⟩
abbrev S2048x192 : Shape := ⟨2, ![2048, 192]⟩
abbrev S2048 : Shape := ⟨1, ![2048]⟩

abbrev nBuf : Space → Nat
  | .hbm => 9
  | .vmem => 32
  | .smem => 0
  | _ => 0

abbrev bufTy : (tb : Table) → Fin (tcTables nBuf tb) → BufTy
  | .hbm, ⟨0, _⟩ => ⟨S16x2048x192, .bf16⟩
  | .hbm, ⟨1, _⟩ => ⟨S16x2048x192, .bf16⟩
  | .hbm, ⟨2, _⟩ => ⟨S16x2048x128, .bf16⟩
  | .hbm, ⟨3, _⟩ => ⟨S2048x2048, .bf16⟩
  | .hbm, ⟨4, _⟩ => ⟨S2048x2048, .bf16⟩
  | .hbm, ⟨5, _⟩ => ⟨S16x2048x1, .f32⟩
  | .hbm, ⟨6, _⟩ => ⟨S16x2048x192, .bf16⟩
  | .hbm, ⟨7, _⟩ => ⟨S16x2048x192, .bf16⟩
  | .hbm, ⟨8, _⟩ => ⟨S16x2048x128, .bf16⟩
  | .local _ .vmem, ⟨0, _⟩ => ⟨S1x512x192, .bf16⟩
  | .local _ .vmem, ⟨1, _⟩ => ⟨S1x512x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S1x2048x192, .bf16⟩
  | .local _ .vmem, ⟨11, _⟩ => ⟨S1x2048x192, .bf16⟩
  | .local _ .vmem, ⟨12, _⟩ => ⟨S1x512x192, .bf16⟩
  | .local _ .vmem, ⟨13, _⟩ => ⟨S1x512x192, .bf16⟩
  | .local _ .vmem, ⟨14, _⟩ => ⟨S1x512x128, .bf16⟩
  | .local _ .vmem, ⟨15, _⟩ => ⟨S1x512x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x1, .f32⟩
  | .local _ .vmem, ⟨21, _⟩ => ⟨S1x2048x1, .f32⟩
  | .local _ .vmem, ⟨22, _⟩ => ⟨S1x2048x192, .bf16⟩
  | .local _ .vmem, ⟨23, _⟩ => ⟨S1x2048x192, .bf16⟩
  | .local _ .vmem, ⟨24, _⟩ => ⟨S1x512x192, .bf16⟩
  | .local _ .vmem, ⟨25, _⟩ => ⟨S1x512x192, .bf16⟩
  | .local _ .vmem, ⟨26, _⟩ => ⟨S1x512x128, .bf16⟩
  | .local _ .vmem, ⟨27, _⟩ => ⟨S1x512x128, .bf16⟩
  | .local _ .vmem, ⟨28, _⟩ => ⟨S2048x1, .f32⟩
  | .local _ .vmem, ⟨29, _⟩ => ⟨S2048x192, .f32⟩
  | .local _ .vmem, ⟨30, _⟩ => ⟨S512x192, .f32⟩
  | .local _ .vmem, ⟨31, _⟩ => ⟨S512x128, .f32⟩
  | _, _ => ⟨S16x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_2 : BitVec 32 := 0#32
  let v4 : BitVec 1 := Scalar.cmpi .ne v3 c0_i32_2
  v4

def k0_cond2 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c2_i32 : BitVec 32 := 2#32
  let v8 : BitVec 1 := Scalar.cmpi .eq arg1 c2_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def k1_mult1 (i : grid1.Coords) : BitVec 32 :=
  let arg1 : BitVec 32 := BitVec.ofNat 32 (i 1).val
  let c512_i32 : BitVec 32 := 512#32
  let v15 : BitVec 32 := Scalar.muli arg1 c512_i32
  v15
def k1_off1 (i : grid1.Coords) : Fin 3 → Nat :=
  let c0_11 : Index := 0#32
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_12 : Index := 0#32
  ![0, v17.toNat, 0]
def k1_off2 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_13 : Index := 0#32
  ![v20.toNat, 0]
def k1_off3 (i : grid1.Coords) : Fin 3 → Nat :=
  let c0_29 : Index := 0#32
  let arg1 : BitVec 32 := BitVec.ofNat 32 (i 1).val
  let c512_i32 : BitVec 32 := 512#32
  let v15 : BitVec 32 := Scalar.muli arg1 c512_i32
  let v16 : BitVec 32 := v15
  let v78 : Index := Scalar.indexCast v16
  let c0_30 : Index := 0#32
  ![0, v78.toNat, 0]
def k1_off4 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v92 : Index := Scalar.indexCast v16
  let c0_37 : Index := 0#32
  ![v92.toNat, 0]
def k1_off5 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v106 : Index := Scalar.indexCast v16
  let c0_44 : Index := 0#32
  ![v106.toNat, 0]
@[reducible] def k1_t1_loop (i : grid1.Coords) : Scf.Loop 32 :=
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_50 : BitVec 32 := 1#32
  ⟨v114, v119, c1_i32_50⟩
def k1_mult2 (i : grid1.Coords) (k1_t1 : Fin (k1_t1_loop i).trips) : BitVec 32 :=
  let arg1 : BitVec 32 := BitVec.ofNat 32 (i 1).val
  let c1_i32_47 : BitVec 32 := 1#32
  let v114 : BitVec 32 := Scalar.addi arg1 c1_i32_47
  let c1_i32_50 : BitVec 32 := 1#32
  let arg15 : BitVec 32 := Scf.iv v114 c1_i32_50 k1_t1
  let c512_i32_63 : BitVec 32 := 512#32
  let v133 : BitVec 32 := Scalar.muli arg15 c512_i32_63
  v133
def k1_off6 (i : grid1.Coords) (k1_t1 : Fin (k1_t1_loop i).trips) : Fin 3 → Nat :=
  let c0_64 : Index := 0#32
  let arg1 : BitVec 32 := BitVec.ofNat 32 (i 1).val
  let c1_i32_47 : BitVec 32 := 1#32
  let v114 : BitVec 32 := Scalar.addi arg1 c1_i32_47
  let c1_i32_50 : BitVec 32 := 1#32
  let arg15 : BitVec 32 := Scf.iv v114 c1_i32_50 k1_t1
  let c512_i32_63 : BitVec 32 := 512#32
  let v133 : BitVec 32 := Scalar.muli arg15 c512_i32_63
  let v134 : BitVec 32 := v133
  let v135 : Index := Scalar.indexCast v134
  let c0_65 : Index := 0#32
  ![0, v135.toNat, 0]
def k1_off7 (i : grid1.Coords) (k1_t1 : Fin (k1_t1_loop i).trips) : Fin 2 → Nat :=
  let arg1 : BitVec 32 := BitVec.ofNat 32 (i 1).val
  let c1_i32_47 : BitVec 32 := 1#32
  let v114 : BitVec 32 := Scalar.addi arg1 c1_i32_47
  let c1_i32_50 : BitVec 32 := 1#32
  let arg15 : BitVec 32 := Scf.iv v114 c1_i32_50 k1_t1
  let c512_i32_63 : BitVec 32 := 512#32
  let v133 : BitVec 32 := Scalar.muli arg15 c512_i32_63
  let v134 : BitVec 32 := v133
  let v138 : Index := Scalar.indexCast v134
  let c0_66 : Index := 0#32
  ![v138.toNat, 0]
def k1_off8 (i : grid1.Coords) (k1_t1 : Fin (k1_t1_loop i).trips) : Fin 3 → Nat :=
  let c0_69 : Index := 0#32
  let arg1 : BitVec 32 := BitVec.ofNat 32 (i 1).val
  let c1_i32_47 : BitVec 32 := 1#32
  let v114 : BitVec 32 := Scalar.addi arg1 c1_i32_47
  let c1_i32_50 : BitVec 32 := 1#32
  let arg15 : BitVec 32 := Scf.iv v114 c1_i32_50 k1_t1
  let c512_i32_63 : BitVec 32 := 512#32
  let v133 : BitVec 32 := Scalar.muli arg15 c512_i32_63
  let v134 : BitVec 32 := v133
  let v143 : Index := Scalar.indexCast v134
  let c0_70 : Index := 0#32
  ![0, v143.toNat, 0]
def k1_off9 (i : grid1.Coords) (k1_t1 : Fin (k1_t1_loop i).trips) : Fin 2 → Nat :=
  let arg1 : BitVec 32 := BitVec.ofNat 32 (i 1).val
  let c1_i32_47 : BitVec 32 := 1#32
  let v114 : BitVec 32 := Scalar.addi arg1 c1_i32_47
  let c1_i32_50 : BitVec 32 := 1#32
  let arg15 : BitVec 32 := Scf.iv v114 c1_i32_50 k1_t1
  let c512_i32_63 : BitVec 32 := 512#32
  let v133 : BitVec 32 := Scalar.muli arg15 c512_i32_63
  let v134 : BitVec 32 := v133
  let v157 : Index := Scalar.indexCast v134
  let c0_77 : Index := 0#32
  ![v157.toNat, 0]
def k1_off10 (i : grid1.Coords) (k1_t1 : Fin (k1_t1_loop i).trips) : Fin 2 → Nat :=
  let arg1 : BitVec 32 := BitVec.ofNat 32 (i 1).val
  let c1_i32_47 : BitVec 32 := 1#32
  let v114 : BitVec 32 := Scalar.addi arg1 c1_i32_47
  let c1_i32_50 : BitVec 32 := 1#32
  let arg15 : BitVec 32 := Scf.iv v114 c1_i32_50 k1_t1
  let c512_i32_63 : BitVec 32 := 512#32
  let v133 : BitVec 32 := Scalar.muli arg15 c512_i32_63
  let v134 : BitVec 32 := v133
  let v171 : Index := Scalar.indexCast v134
  let c0_84 : Index := 0#32
  ![v171.toNat, 0]
@[reducible] def k1_t2_loop (i : grid1.Coords) : Scf.Loop 32 :=
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let v116 : BitVec 32 := Scalar.addi v114 v115
  let c1_i32_51 : BitVec 32 := 1#32
  ⟨v119, v116, c1_i32_51⟩
def k1_mult3 (i : grid1.Coords) (k1_t2 : Fin (k1_t2_loop i).trips) : BitVec 32 :=
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_51 : BitVec 32 := 1#32
  let arg15 : BitVec 32 := Scf.iv v119 c1_i32_51 k1_t2
  let c512_i32_63 : BitVec 32 := 512#32
  let v133 : BitVec 32 := Scalar.muli arg15 c512_i32_63
  v133
def k1_off11 (i : grid1.Coords) (k1_t2 : Fin (k1_t2_loop i).trips) : Fin 3 → Nat :=
  let c0_64 : Index := 0#32
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_51 : BitVec 32 := 1#32
  let arg15 : BitVec 32 := Scf.iv v119 c1_i32_51 k1_t2
  let c512_i32_63 : BitVec 32 := 512#32
  let v133 : BitVec 32 := Scalar.muli arg15 c512_i32_63
  let v134 : BitVec 32 := v133
  let v135 : Index := Scalar.indexCast v134
  let c0_65 : Index := 0#32
  ![0, v135.toNat, 0]
def k1_off12 (i : grid1.Coords) (k1_t2 : Fin (k1_t2_loop i).trips) : Fin 2 → Nat :=
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_51 : BitVec 32 := 1#32
  let arg15 : BitVec 32 := Scf.iv v119 c1_i32_51 k1_t2
  let c512_i32_63 : BitVec 32 := 512#32
  let v133 : BitVec 32 := Scalar.muli arg15 c512_i32_63
  let v134 : BitVec 32 := v133
  let v138 : Index := Scalar.indexCast v134
  let c0_66 : Index := 0#32
  ![v138.toNat, 0]
def k1_off13 (i : grid1.Coords) (k1_t2 : Fin (k1_t2_loop i).trips) : Fin 3 → Nat :=
  let c0_69 : Index := 0#32
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_51 : BitVec 32 := 1#32
  let arg15 : BitVec 32 := Scf.iv v119 c1_i32_51 k1_t2
  let c512_i32_63 : BitVec 32 := 512#32
  let v133 : BitVec 32 := Scalar.muli arg15 c512_i32_63
  let v134 : BitVec 32 := v133
  let v143 : Index := Scalar.indexCast v134
  let c0_70 : Index := 0#32
  ![0, v143.toNat, 0]
def k1_off14 (i : grid1.Coords) (k1_t2 : Fin (k1_t2_loop i).trips) : Fin 2 → Nat :=
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_51 : BitVec 32 := 1#32
  let arg15 : BitVec 32 := Scf.iv v119 c1_i32_51 k1_t2
  let c512_i32_63 : BitVec 32 := 512#32
  let v133 : BitVec 32 := Scalar.muli arg15 c512_i32_63
  let v134 : BitVec 32 := v133
  let v157 : Index := Scalar.indexCast v134
  let c0_77 : Index := 0#32
  ![v157.toNat, 0]
def k1_off15 (i : grid1.Coords) (k1_t2 : Fin (k1_t2_loop i).trips) : Fin 2 → Nat :=
  let arg1 : BitVec 32 := BitVec.ofNat 32 (i 1).val
  let c1_i32_47 : BitVec 32 := 1#32
  let v114 : BitVec 32 := Scalar.addi arg1 c1_i32_47
  let c4_i32 : BitVec 32 := 4#32
  let v115 : BitVec 32 := Scalar.subi c4_i32 v114
  let c1_i32_49 : BitVec 32 := 1#32
  let v117 : BitVec 32 := Scalar.divsi v115 c1_i32_49
  let v118 : BitVec 32 := Scalar.muli v117 c1_i32_49
  let v119 : BitVec 32 := Scalar.addi v114 v118
  let c1_i32_51 : BitVec 32 := 1#32
  let arg15 : BitVec 32 := Scf.iv v119 c1_i32_51 k1_t2
  let c512_i32_63 : BitVec 32 := 512#32
  let v133 : BitVec 32 := Scalar.muli arg15 c512_i32_63
  let v134 : BitVec 32 := v133
  let v171 : Index := Scalar.indexCast v134
  let c0_84 : Index := 0#32
  ![v171.toNat, 0]
def k1_cond2 (i : grid1.Coords) : BitVec 1 :=
  let arg1 : BitVec 32 := BitVec.ofNat 32 (i 1).val
  let c3_i32 : BitVec 32 := 3#32
  let v130 : BitVec 1 := Scalar.cmpi .eq arg1 c3_i32
  let v131 : BitVec 32 := Scalar.extui v130
  let c0_i32_62 : BitVec 32 := 0#32
  let v132 : BitVec 1 := Scalar.cmpi .ne v131 c0_i32_62
  v132

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x2048x192 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x192 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S16x2048x192 : Shape := ⟨3, ![16, 2048, 192]⟩
abbrev S16x2048x128 : Shape := ⟨3, ![16, 2048, 128]⟩
abbrev S2048x2048 : Shape := ⟨2, ![2048, 2048]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S2048x16x128 : Shape := ⟨3, ![2048, 16, 128]⟩

abbrev nBuf : Space → Nat
  | .hbm => 116
  | .vmem => 0
  | .smem => 0
  | _ => 0

abbrev bufTy : (tb : Table) → Fin (tcTables nBuf tb) → BufTy
  | .hbm, ⟨0, _⟩ => ⟨S16x2048x192, .bf16⟩
  | .hbm, ⟨1, _⟩ => ⟨S16x2048x192, .bf16⟩
  | .hbm, ⟨2, _⟩ => ⟨S16x2048x128, .bf16⟩
  | .hbm, ⟨3, _⟩ => ⟨S2048x2048, .bf16⟩
  | .hbm, ⟨4, _⟩ => ⟨S16x2048x192, .f32⟩
  | .hbm, ⟨5, _⟩ => ⟨S16x2048x192, .f32⟩
  | .hbm, ⟨6, _⟩ => ⟨S16x2048x128, .f32⟩
  | .hbm, ⟨7, _⟩ => ⟨S16x2048x2048, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S1x2048x2048, .i1⟩
  | .hbm, ⟨36, _⟩ => ⟨S_, .f32⟩
  | .hbm, ⟨37, _⟩ => ⟨S_, .f32⟩
  | .hbm, ⟨38, _⟩ => ⟨S16x2048x2048, .i1⟩
  | .hbm, ⟨39, _⟩ => ⟨S16x2048x2048, .f32⟩
  | .hbm, ⟨40, _⟩ => ⟨S16x2048x2048, .f32⟩
  | .hbm, ⟨41, _⟩ => ⟨S_, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x2048, .f32⟩
  | .hbm, ⟨47, _⟩ => ⟨S16x2048x2048, .i1⟩
  | .hbm, ⟨48, _⟩ => ⟨S16x2048x2048, .f32⟩
  | .hbm, ⟨49, _⟩ => ⟨S_, .f32⟩
  | .hbm, ⟨50, _⟩ => ⟨S16x2048, .f32⟩
  | .hbm, ⟨51, _⟩ => ⟨S_, .f32⟩
  | .hbm, ⟨52, _⟩ => ⟨S16x2048, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S16x2048, .i1⟩
  | .hbm, ⟨57, _⟩ => ⟨S_, .f32⟩
  | .hbm, ⟨58, _⟩ => ⟨S16x2048, .f32⟩
  | .hbm, ⟨59, _⟩ => ⟨S16x2048, .i1⟩
  | .hbm, ⟨60, _⟩ => ⟨S_, .f32⟩
  | .hbm, ⟨61, _⟩ => ⟨S16x2048, .f32⟩
  | .hbm, ⟨62, _⟩ => ⟨S_, .f32⟩
  | .hbm, ⟨63, _⟩ => ⟨S16x2048, .f32⟩
  | .hbm, ⟨64, _⟩ => ⟨S_, .f32⟩
  | .hbm, ⟨65, _⟩ => ⟨S16x2048, .f32⟩
  | .hbm, ⟨66, _⟩ => ⟨S16x2048, .f32⟩
  | .hbm, ⟨67, _⟩ => ⟨S16x2048, .f32⟩
  | .hbm, ⟨68, _⟩ => ⟨S16x2048x1, .f32⟩
  | .hbm, ⟨69, _⟩ => ⟨S16x2048x2048, .f32⟩
  | .hbm, ⟨70, _⟩ => ⟨S16x2048x2048, .f32⟩
  | .hbm, ⟨71, _⟩ => ⟨S16x2048x2048, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S16x2048x2048, .f32⟩
  | .hbm, ⟨76, _⟩ => ⟨S16x2048x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x128x2048, .f32⟩
  | .hbm, ⟨82, _⟩ => ⟨S2048x16x128, .f32⟩
  | .hbm, ⟨83, _⟩ => ⟨S2048x2048, .f32⟩
  | .hbm, ⟨84, _⟩ => ⟨S2048x2048, .bf16⟩
  | .hbm, ⟨85, _⟩ => ⟨S2048x2048, .f32⟩
  | .hbm, ⟨86, _⟩ => ⟨S2048x16x128, .f32⟩
  | .hbm, ⟨87, _⟩ => ⟨S16x128x2048, .f32⟩
  | .hbm, ⟨88, _⟩ => ⟨S16x2048x2048, .f32⟩
  | .hbm, ⟨89, _⟩ => ⟨S16x128x2048, .f32⟩
  | .hbm, ⟨90, _⟩ => ⟨S16x2048x128, .f32⟩
  | .hbm, ⟨91, _⟩ => ⟨S16x2048x2048, .f32⟩
  | .hbm, ⟨92, _⟩ => ⟨S16x2048x2048, .f32⟩
  | .hbm, ⟨93, _⟩ => ⟨S16x2048x2048, .f32⟩
  | .hbm, ⟨94, _⟩ => ⟨S_, .f32⟩
  | .hbm, ⟨95, _⟩ => ⟨S16x2048, .f32⟩
  | .hbm, ⟨96, _⟩ => ⟨S16x2048x1, .f32⟩
  | .hbm, ⟨97, _⟩ => ⟨S16x2048x1, .f32⟩
  | .hbm, ⟨98, _⟩ => ⟨S16x2048x2048, .f32⟩
  | .hbm, ⟨99, _⟩ => ⟨S16x2048x2048, .f32⟩
  | .hbm, ⟨100, _⟩ => ⟨S_, .f32⟩
  | .hbm, ⟨101, _⟩ => ⟨S16x2048, .f32⟩
  | .hbm, ⟨102, _⟩ => ⟨S16x2048x2048, .f32⟩
  | .hbm, ⟨103, _⟩ => ⟨S16x2048x2048, .f32⟩
  | .hbm, ⟨104, _⟩ => ⟨S16x2048x2048, .f32⟩
  | .hbm, ⟨105, _⟩ => ⟨S_, .f32⟩
  | .hbm, ⟨106, _⟩ => ⟨S16x2048x2048, .f32⟩
  | .hbm, ⟨107, _⟩ => ⟨S16x2048x2048, .f32⟩
  | .hbm, ⟨108, _⟩ => ⟨S_, .f32⟩
  | .hbm, ⟨109, _⟩ => ⟨S16x2048x2048, .f32⟩
  | .hbm, ⟨110, _⟩ => ⟨S16x2048x2048, .f32⟩
  | .hbm, ⟨111, _⟩ => ⟨S16x2048x192, .f32⟩
  | .hbm, ⟨112, _⟩ => ⟨S16x2048x192, .f32⟩
  | .hbm, ⟨113, _⟩ => ⟨S16x2048x128, .bf16⟩
  | .hbm, ⟨114, _⟩ => ⟨S16x2048x192, .bf16⟩
  | .hbm, ⟨115, _⟩ => ⟨S16x2048x192, .bf16⟩
  | _, _ => ⟨S16x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_call1_v0 : Ref sig .tc := ⟨.hbm, 37, rfl⟩
abbrev main_v14_1 : Ref sig .tc := ⟨.hbm, 38, rfl⟩
abbrev main_call1_v2 : Ref sig .tc := ⟨.hbm, 39, rfl⟩
abbrev main_v14_0 : Ref sig .tc := ⟨.hbm, 40, rfl⟩
abbrev main_call1_cst : Ref sig .tc := ⟨.hbm, 41, rfl⟩
abbrev main_v14_2 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_cst_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_10 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_11 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call2_cst : Ref sig .tc := ⟨.hbm, 105, rfl⟩
abbrev main_call2_v0 : Ref sig .tc := ⟨.hbm, 106, rfl⟩
abbrev main_v65 : Ref sig .tc := ⟨.hbm, 107, rfl⟩
abbrev main_cst_13 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]
-- ==== Ffn.lean ====
abbrev S2048x2048 : Shape := ⟨2, ![2048, 2048]⟩
abbrev S8x2048x1408 : Shape := ⟨3, ![8, 2048, 1408]⟩
abbrev S5632x2048 : Shape := ⟨2, ![5632, 2048]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S2048x5632 : Shape := ⟨2, ![2048, 5632]⟩
abbrev S512x2816 : Shape := ⟨2, ![512, 2816]⟩
abbrev S2048x1024 : Shape := ⟨2, ![2048, 1024]⟩
abbrev S1408x1024 : Shape := ⟨2, ![1408, 1024]⟩
abbrev S1408x2048 : Shape := ⟨2, ![1408, 2048]⟩
abbrev S1x1024x1408 : Shape := ⟨3, ![1, 1024, 1408]⟩

abbrev nBuf : Space → Nat
  | .hbm => 10
  | .vmem => 38
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S5632x2048, .bf16⟩
  | .hbm, ⟨3, _⟩ => ⟨S2048x2048, .bf16⟩
  | .hbm, ⟨4, _⟩ => ⟨S2048x11264, .bf16⟩
  | .hbm, ⟨5, _⟩ => ⟨S2048x5632, .bf16⟩
  | .hbm, ⟨6, _⟩ => ⟨S5632x2048, .bf16⟩
  | .hbm, ⟨7, _⟩ => ⟨S2048x5632, .bf16⟩
  | .hbm, ⟨8, _⟩ => ⟨S2048x11264, .bf16⟩
  | .hbm, ⟨9, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S2048x1408, .bf16⟩
  | .local _ .vmem, ⟨13, _⟩ => ⟨S2048x1408, .bf16⟩
  | .local _ .vmem, ⟨14, _⟩ => ⟨S2048x1024, .bf16⟩
  | .local _ .vmem, ⟨15, _⟩ => ⟨S2048x1024, .bf16⟩
  | .local _ .vmem, ⟨16, _⟩ => ⟨S1408x1024, .bf16⟩
  | .local _ .vmem, ⟨17, _⟩ => ⟨S1408x1024, .bf16⟩
  | .local _ .vmem, ⟨18, _⟩ => ⟨S1024x2048, .bf16⟩
  | .local _ .vmem, ⟨19, _⟩ => ⟨S1024x2048, .bf16⟩
  | .local _ .vmem, ⟨20, _⟩ => ⟨S1408x2048, .bf16⟩
  | .local _ .vmem, ⟨21, _⟩ => ⟨S1408x2048, .bf16⟩
  | .local _ .vmem, ⟨22, _⟩ => ⟨S1024x1408, .bf16⟩
  | .local _ .vmem, ⟨23, _⟩ => ⟨S1024x1408, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | .local _ .vmem, ⟨28, _⟩ => ⟨S512x2816, .bf16⟩
  | .local _ .vmem, ⟨29, _⟩ => ⟨S512x2816, .bf16⟩
  | .local _ .vmem, ⟨30, _⟩ => ⟨S512x2816, .bf16⟩
  | .local _ .vmem, ⟨31, _⟩ => ⟨S512x2816, .bf16⟩
  | .local _ .vmem, ⟨32, _⟩ => ⟨S2048x1024, .bf16⟩
  | .local _ .vmem, ⟨33, _⟩ => ⟨S2048x1024, .bf16⟩
  | .local _ .vmem, ⟨34, _⟩ => ⟨S2048x1408, .bf16⟩
  | .local _ .vmem, ⟨35, _⟩ => ⟨S2048x1408, .bf16⟩
  | .local _ .vmem, ⟨36, _⟩ => ⟨S1x1024x1408, .bf16⟩
  | .local _ .vmem, ⟨37, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1408x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 2], ![false, false, false]⟩

def k4_cond1 (i : grid4.Coords) : BitVec 1 :=
  let arg2 : BitVec 32 := BitVec.ofNat 32 (i 2).val
  let c0_i32 : BitVec 32 := 0#32
  let v13 : BitVec 1 := Scalar.cmpi .eq arg2 c0_i32
  let v14 : BitVec 32 := Scalar.extui v13
  let c0_i32_5 : BitVec 32 := 0#32
  let v15 : BitVec 1 := Scalar.cmpi .ne v14 c0_i32_5
  v15

def k4_cond2 (i : grid4.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_6 : BitVec 32 := 0#32
  let v18 : BitVec 1 := Scalar.cmpi .ne v17 c0_i32_6
  v18

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let v1 : BitVec 32 := Scalar.addi arg1 v0
  let c0_i32 : BitVec 32 := 0#32
  ![arg0.toNat, v1.toNat]

abbrev stage4_0 : Fin 2 → Memref sig .tc .vmem S512x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S512x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, false]

abbrev stage4_2 : Fin 2 → Memref sig .tc .vmem S512x2816 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S512x2816 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, true]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== FfnReferenceIdeal.lean ====
abbrev S2048x2048 : Shape := ⟨2, ![2048, 2048]⟩
abbrev S8x2048x1408 : Shape := ⟨3, ![8, 2048, 1408]⟩
abbrev S5632x2048 : Shape := ⟨2, ![5632, 2048]⟩
abbrev S2048x8x1408 : Shape := ⟨3, ![2048, 8, 1408]⟩
abbrev S2048x11264 : Shape := ⟨2, ![2048, 11264]⟩
abbrev S2048x5632 : Shape := ⟨2, ![2048, 5632]⟩
abbrev S_ : Shape := ⟨0, ![]⟩
abbrev S11264x2048 : Shape := ⟨2, ![11264, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S5632x2048, .bf16⟩
  | .hbm, ⟨3, _⟩ => ⟨S2048x2048, .bf16⟩
  | .hbm, ⟨4, _⟩ => ⟨S2048x2048, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S2048x11264, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S5632x2048, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x11264, .f32⟩
  | .hbm, ⟨38, _⟩ => ⟨S2048x5632, .bf16⟩
  | .hbm, ⟨39, _⟩ => ⟨S5632x2048, .bf16⟩
  | .hbm, ⟨40, _⟩ => ⟨S2048x11264, .bf16⟩
  | .hbm, ⟨41, _⟩ => ⟨S11264x2048, .f32⟩
  | .hbm, ⟨42, _⟩ => ⟨S2048x11264, .f32⟩
  | .hbm, ⟨43, _⟩ => ⟨S2048x8x1408, .f32⟩
  | .hbm, ⟨44, _⟩ => ⟨S8x2048x1408, .f32⟩
  | .hbm, ⟨45, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== FfnOut.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnIn.lean ====
abbrev S2048x11264 : Shape := ⟨2, ![2048, 11264]⟩
abbrev S8x2048x1408 : Shape := ⟨3, ![8, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8x2048x1408, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInReferenceIdeal.lean ====
abbrev S2048x11264 : Shape := ⟨2, ![2048, 11264]⟩
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S2048x2048 : Shape := ⟨2, ![2048, 2048]⟩
abbrev S2048x11520 : Shape := ⟨2, ![2048, 11520]⟩
abbrev S1024x1024 : Shape := ⟨2, ![1024, 1024]⟩
abbrev S1024x1280 : Shape := ⟨2, ![1024, 1280]⟩
abbrev S2048x1024 : Shape := ⟨2, ![2048, 1024]⟩
abbrev S2048x1280 : Shape := ⟨2, ![2048, 1280]⟩

abbrev nBuf : Space → Nat
  | .hbm => 6
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x11520, .bf16⟩
  | .hbm, ⟨2, _⟩ => ⟨S2048x11520, .bf16⟩
  | .hbm, ⟨3, _⟩ => ⟨S2048x11520, .bf16⟩
  | .hbm, ⟨4, _⟩ => ⟨S2048x11520, .bf16⟩
  | .hbm, ⟨5, _⟩ => ⟨S2048x11520, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1280, .bf16⟩
  | .local _ .vmem, ⟨9, _⟩ => ⟨S1024x1280, .bf16⟩
  | .local _ .vmem, ⟨10, _⟩ => ⟨S1024x1280, .bf16⟩
  | .local _ .vmem, ⟨11, _⟩ => ⟨S1024x1280, .bf16⟩
  | .local _ .vmem, ⟨12, _⟩ => ⟨S1024x1280, .bf16⟩
  | .local _ .vmem, ⟨13, _⟩ => ⟨S1024x1280, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1280, .bf16⟩
  | .local _ .vmem, ⟨17, _⟩ => ⟨S2048x1280, .bf16⟩
  | .local _ .vmem, ⟨18, _⟩ => ⟨S1024x1280, .bf16⟩
  | .local _ .vmem, ⟨19, _⟩ => ⟨S1024x1280, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 9, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1280 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 9, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1280 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ProjReferenceIdeal.lean ====
abbrev S2048x2048 : Shape := ⟨2, ![2048, 2048]⟩
abbrev S2048x11520 : Shape := ⟨2, ![2048, 11520]⟩
abbrev S11520x2048 : Shape := ⟨2, ![11520, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11520, .bf16⟩
  | .hbm, ⟨2, _⟩ => ⟨S2048x11520, .bf16⟩
  | .hbm, ⟨3, _⟩ => ⟨S2048x2048, .f32⟩
  | .hbm, ⟨4, _⟩ => ⟨S2048x11520, .f32⟩
  | .hbm, ⟨5, _⟩ => ⟨S2048x11520, .f32⟩
  | .hbm, ⟨6, _⟩ => ⟨S2048x11520, .bf16⟩
  | .hbm, ⟨7, _⟩ => ⟨S2048x11520, .f32⟩
  | .hbm, ⟨8, _⟩ => ⟨S11520x2048, .f32⟩
  | .hbm, ⟨9, _⟩ => ⟨S2048x11520, .f32⟩
  | .hbm, ⟨10, _⟩ => ⟨S2048x11520, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjIn.lean ====
abbrev S2048x11520 : Shape := ⟨2, ![2048, 11520]⟩
abbrev S2048x2048 : Shape := ⟨2, ![2048, 2048]⟩
abbrev S1024x3840 : Shape := ⟨2, ![1024, 3840]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11520, .bf16⟩
  | .hbm, ⟨1, _⟩ => ⟨S2048x11520, .bf16⟩
  | .hbm, ⟨2, _⟩ => ⟨S2048x2048, .f32⟩
  | .local _ .vmem, ⟨0, _⟩ => ⟨S1024x3840, .bf16⟩
  | .local _ .vmem, ⟨1, _⟩ => ⟨S1024x3840, .bf16⟩
  | .local _ .vmem, ⟨2, _⟩ => ⟨S1024x3840, .bf16⟩
  | .local _ .vmem, ⟨3, _⟩ => ⟨S1024x3840, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInReferenceIdeal.lean ====
abbrev S2048x11520 : Shape := ⟨2, ![2048, 11520]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11520, .bf16⟩
  | .hbm, ⟨1, _⟩ => ⟨S2048x11520, .bf16⟩
  | .hbm, ⟨2, _⟩ => ⟨S_, .f32⟩
  | .hbm, ⟨3, _⟩ => ⟨S2048x2048, .f32⟩
  | .hbm, ⟨4, _⟩ => ⟨S2048x11520, .f32⟩
  | .hbm, ⟨5, _⟩ => ⟨S2048x11520, .f32⟩
  | .hbm, ⟨6, _⟩ => ⟨S2048x11520, .f32⟩
  | .hbm, ⟨7, _⟩ => ⟨S2048x2048, .f32⟩
  | _, _ => ⟨S2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mixer.lean ====
abbrev S2048x2048 : Shape := ⟨2, ![2048, 2048]⟩
abbrev S2048x11520 : Shape := ⟨2, ![2048, 11520]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩

abbrev nBuf : Space → Nat
  | .hbm => 21
  | .vmem => 82
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x11520, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .f32⟩
  | .local _ .vmem, ⟨27, _⟩ => ⟨S1024x1024, .f32⟩
  | .local _ .vmem, ⟨28, _⟩ => ⟨S2048x1024, .bf16⟩
  | .local _ .vmem, ⟨29, _⟩ => ⟨S2048x1024, .bf16⟩
  | .local _ .vmem, ⟨30, _⟩ => ⟨S2048x1024, .bf16⟩
  | .local _ .vmem, ⟨31, _⟩ => ⟨S2048x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x2048, .bf16⟩
  | .local _ .vmem, ⟨35, _⟩ => ⟨S1024x2048, .bf16⟩
  | .local _ .vmem, ⟨36, _⟩ => ⟨S1024x2048, .bf16⟩
  | .local _ .vmem, ⟨37, _⟩ => ⟨S1024x2048, .bf16⟩
  | .local _ .vmem, ⟨38, _⟩ => ⟨S1024x1024, .bf16⟩
  | .local _ .vmem, ⟨39, _⟩ => ⟨S1024x1024, .bf16⟩
  | .local _ .vmem, ⟨40, _⟩ => ⟨S256x2048, .bf16⟩
  | .local _ .vmem, ⟨41, _⟩ => ⟨S256x2048, .bf16⟩
  | .local _ .vmem, ⟨42, _⟩ => ⟨S256x2048, .bf16⟩
  | .local _ .vmem, ⟨43, _⟩ => ⟨S256x2048, .bf16⟩
  | .local _ .vmem, ⟨44, _⟩ => ⟨S256x2048, .bf16⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S256x2048, .bf16⟩
  | .local _ .vmem, ⟨50, _⟩ => ⟨S256x2048, .bf16⟩
  | .local _ .vmem, ⟨51, _⟩ => ⟨S256x2048, .bf16⟩
  | .local _ .vmem, ⟨52, _⟩ => ⟨S256x2048, .bf16⟩
  | .local _ .vmem, ⟨53, _⟩ => ⟨S256x2048, .bf16⟩
  | .local _ .vmem, ⟨54, _⟩ => ⟨S256x2048, .bf16⟩
  | .local _ .vmem, ⟨55, _⟩ => ⟨S256x2048, .bf16⟩
  | .local _ .vmem, ⟨56, _⟩ => ⟨S256x2048, .bf16⟩
  | .local _ .vmem, ⟨57, _⟩ => ⟨S256x2048, .bf16⟩
  | .local _ .vmem, ⟨58, _⟩ => ⟨S2048x1024, .bf16⟩
  | .local _ .vmem, ⟨59, _⟩ => ⟨S2048x1024, .bf16⟩
  | .local _ .vmem, ⟨60, _⟩ => ⟨S2048x1024, .bf16⟩
  | .local _ .vmem, ⟨61, _⟩ => ⟨S2048x1024, .bf16⟩
  | .local _ .vmem, ⟨62, _⟩ => ⟨S1024x1024, .bf16⟩
  | .local _ .vmem, ⟨63, _⟩ => ⟨S1024x1024, .bf16⟩
  | .local _ .vmem, ⟨64, _⟩ => ⟨S1024x2048, .bf16⟩
  | .local _ .vmem, ⟨65, _⟩ => ⟨S1024x2048, .bf16⟩
  | .local _ .vmem, ⟨66, _⟩ => ⟨S1024x2048, .bf16⟩
  | .local _ .vmem, ⟨67, _⟩ => ⟨S1024x2048, .bf16⟩
  | .local _ .vmem, ⟨68, _⟩ => ⟨S1024x1024, .bf16⟩
  | .local _ .vmem, ⟨69, _⟩ => ⟨S1024x1024, .bf16⟩
  | .local _ .vmem, ⟨70, _⟩ => ⟨S2048x1024, .bf16⟩
  | .local _ .vmem, ⟨71, _⟩ => ⟨S2048x1024, .bf16⟩
  | .local _ .vmem, ⟨72, _⟩ => ⟨S2048x1024, .bf16⟩
  | .local _ .vmem, ⟨73, _⟩ => ⟨S2048x1024, .bf16⟩
  | .local _ .vmem, ⟨74, _⟩ => ⟨S1024x1024, .bf16⟩
  | .local _ .vmem, ⟨75, _⟩ => ⟨S1024x1024, .bf16⟩
  | .local _ .vmem, ⟨76, _⟩ => ⟨S1024x2048, .bf16⟩
  | .local _ .vmem, ⟨77, _⟩ => ⟨S1024x2048, .bf16⟩
  | .local _ .vmem, ⟨78, _⟩ => ⟨S1024x2048, .bf16⟩
  | .local _ .vmem, ⟨79, _⟩ => ⟨S1024x2048, .bf16⟩
  | .local _ .vmem, ⟨80, _⟩ => ⟨S1024x1024, .bf16⟩
  | .local _ .vmem, ⟨81, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg7_1 : Ref sig .tc := ⟨.vmem, 55, rfl⟩
abbrev cc6_stg8_0 : Ref sig .tc := ⟨.vmem, 56, rfl⟩
abbrev cc6_stg8_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg2_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg2_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc6_sem6_0 : DmaSem sig := 52
abbrev cc6_sem6_1 : DmaSem sig := 53
abbrev cc6_sem7_0 : DmaSem sig := 54
abbrev cc6_sem7_1 : DmaSem sig := 55
abbrev cc6_sem8_0 : DmaSem sig := 56
abbrev cc6_sem8_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem2_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem2_1 : DmaSem sig := 81

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c256_i32 : BitVec 32 := 256#32
  let v0 : BitVec 32 := Scalar.muli arg0 c256_i32
  let c7424_i32 : BitVec 32 := 7424#32
  let c0_i32 : BitVec 32 := 0#32
  ![v0.toNat, c7424_i32.toNat]

def cc2_transform_1 (i : grid2.Coords) : Fin 2 → Nat :=
  let arg0 : BitVec 32 := BitVec.ofNat 32 (i 0).val
  let c256_i32 : BitVec 32 := 256#32
  let v0 : BitVec 32 := Scalar.muli arg0 c256_i32
  let c9472_i32 : BitVec 32 := 9472#32
  let c0_i32 : BitVec 32 := 0#32
  ![v0.toNat, c9472_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c256_i32 : BitVec 32 := 256#32
  let v0 : BitVec 32 := Scalar.muli arg0 c256_i32
  let c7424_i32 : BitVec 32 := 7424#32
  let c0_i32 : BitVec 32 := 0#32
  ![v0.toNat, c7424_i32.toNat]

def cc6_transform_2 (i : grid6.Coords) : Fin 2 → Nat :=
  let arg0 : BitVec 32 := BitVec.ofNat 32 (i 0).val
  let c256_i32 : BitVec 32 := 256#32
  let v0 : BitVec 32 := Scalar.muli arg0 c256_i32
  let c9472_i32 : BitVec 32 := 9472#32
  let c0_i32 : BitVec 32 := 0#32
  ![v0.toNat, c9472_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x2048 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x2048 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x2048 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x2048 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S2048x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S2048x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![2, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x2048 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== MixerReferenceIdeal.lean ====
abbrev S2048x2048 : Shape := ⟨2, ![2048, 2048]⟩
abbrev S2048x11520 : Shape := ⟨2, ![2048, 11520]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x11520, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x11520, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .bf16⟩
  | .hbm, ⟨62, _⟩ => ⟨S2048x2048, .bf16⟩
  | .hbm, ⟨63, _⟩ => ⟨S2048x2048, .bf16⟩
  | .hbm, ⟨64, _⟩ => ⟨S2048x2048, .bf16⟩
  | .hbm, ⟨65, _⟩ => ⟨S2048x2048, .bf16⟩
  | .hbm, ⟨66, _⟩ => ⟨S2048x2048, .bf16⟩
  | .hbm, ⟨67, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Latent.lean ====
abbrev S2048x512 : Shape := ⟨2, ![2048, 512]⟩
abbrev S8x512x384 : Shape := ⟨3, ![8, 512, 384]⟩
abbrev S8x512x512 : Shape := ⟨3, ![8, 512, 512]⟩
abbrev S2048x3072 : Shape := ⟨2, ![2048, 3072]⟩
abbrev S2048x4096 : Shape := ⟨2, ![2048, 4096]⟩
abbrev S1024x512 : Shape := ⟨2, ![1024, 512]⟩
abbrev S1x512x384 : Shape := ⟨3, ![1, 512, 384]⟩
abbrev S1024x384 : Shape := ⟨2, ![1024, 384]⟩
abbrev S512x384 : Shape := ⟨2, ![512, 384]⟩
abbrev S1x512x512 : Shape := ⟨3, ![1, 512, 512]⟩
abbrev S512x512 : Shape := ⟨2, ![512, 512]⟩
abbrev S2048x384 : Shape := ⟨2, ![2048, 384]⟩

abbrev nBuf : Space → Nat
  | .hbm => 10
  | .vmem => 22
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S8x512x384, .bf16⟩
  | .hbm, ⟨3, _⟩ => ⟨S8x512x512, .bf16⟩
  | .hbm, ⟨4, _⟩ => ⟨S2048x3072, .bf16⟩
  | .hbm, ⟨5, _⟩ => ⟨S2048x4096, .bf16⟩
  | .hbm, ⟨6, _⟩ => ⟨S2048x3072, .bf16⟩
  | .hbm, ⟨7, _⟩ => ⟨S2048x4096, .bf16⟩
  | .hbm, ⟨8, _⟩ => ⟨S8x512x384, .bf16⟩
  | .hbm, ⟨9, _⟩ => ⟨S8x512x512, .bf16⟩
  | .local _ .vmem, ⟨0, _⟩ => ⟨S1024x512, .bf16⟩
  | .local _ .vmem, ⟨1, _⟩ => ⟨S1024x512, .bf16⟩
  | .local _ .vmem, ⟨2, _⟩ => ⟨S1x512x384, .bf16⟩
  | .local _ .vmem, ⟨3, _⟩ => ⟨S1x512x384, .bf16⟩
  | .local _ .vmem, ⟨4, _⟩ => ⟨S1024x384, .bf16⟩
  | .local _ .vmem, ⟨5, _⟩ => ⟨S1024x384, .bf16⟩
  | .local _ .vmem, ⟨6, _⟩ => ⟨S1024x512, .bf16⟩
  | .local _ .vmem, ⟨7, _⟩ => ⟨S1024x512, .bf16⟩
  | .local _ .vmem, ⟨8, _⟩ => ⟨S1x512x512, .bf16⟩
  | .local _ .vmem, ⟨9, _⟩ => ⟨S1x512x512, .bf16⟩
  | .local _ .vmem, ⟨10, _⟩ => ⟨S1024x512, .bf16⟩
  | .local _ .vmem, ⟨11, _⟩ => ⟨S1024x512, .bf16⟩
  | .local _ .vmem, ⟨12, _⟩ => ⟨S2048x512, .bf16⟩
  | .local _ .vmem, ⟨13, _⟩ => ⟨S2048x384, .bf16⟩
  | .local _ .vmem, ⟨14, _⟩ => ⟨S2048x384, .bf16⟩
  | .local _ .vmem, ⟨15, _⟩ => ⟨S1x512x384, .bf16⟩
  | .local _ .vmem, ⟨16, _⟩ => ⟨S1x512x384, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S1x512x512, .bf16⟩
  | .local _ .vmem, ⟨21, _⟩ => ⟨S1x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x384 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512x384 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 1 → Memref sig .tc .vmem S2048x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== LatentReferenceIdeal.lean ====
abbrev S2048x512 : Shape := ⟨2, ![2048, 512]⟩
abbrev S8x512x384 : Shape := ⟨3, ![8, 512, 384]⟩
abbrev S8x512x512 : Shape := ⟨3, ![8, 512, 512]⟩
abbrev S2048x3072 : Shape := ⟨2, ![2048, 3072]⟩
abbrev S2048x4096 : Shape := ⟨2, ![2048, 4096]⟩
abbrev S512x8x384 : Shape := ⟨3, ![512, 8, 384]⟩
abbrev S512x3072 : Shape := ⟨2, ![512, 3072]⟩
abbrev S512x8x512 : Shape := ⟨3, ![512, 8, 512]⟩
abbrev S512x4096 : Shape := ⟨2, ![512, 4096]⟩
abbrev S3072x512 : Shape := ⟨2, ![3072, 512]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S8x512x384, .bf16⟩
  | .hbm, ⟨3, _⟩ => ⟨S8x512x512, .bf16⟩
  | .hbm, ⟨4, _⟩ => ⟨S2048x3072, .bf16⟩
  | .hbm, ⟨5, _⟩ => ⟨S2048x4096, .bf16⟩
  | .hbm, ⟨6, _⟩ => ⟨S2048x512, .f32⟩
  | .hbm, ⟨7, _⟩ => ⟨S8x512x384, .f32⟩
  | .hbm, ⟨8, _⟩ => ⟨S512x8x384, .f32⟩
  | .hbm, ⟨9, _⟩ => ⟨S512x3072, .f32⟩
  | .hbm, ⟨10, _⟩ => ⟨S2048x3072, .f32⟩
  | .hbm, ⟨11, _⟩ => ⟨S2048x512, .f32⟩
  | .hbm, ⟨12, _⟩ => ⟨S8x512x512, .f32⟩
  | .hbm, ⟨13, _⟩ => ⟨S512x8x512, .f32⟩
  | .hbm, ⟨14, _⟩ => ⟨S512x4096, .f32⟩
  | .hbm, ⟨15, _⟩ => ⟨S2048x4096, .f32⟩
  | .hbm, ⟨16, _⟩ => ⟨S2048x3072, .bf16⟩
  | .hbm, ⟨17, _⟩ => ⟨S2048x4096, .bf16⟩
  | .hbm, ⟨18, _⟩ => ⟨S2048x3072, .f32⟩
  | .hbm, ⟨19, _⟩ => ⟨S3072x512, .f32⟩
  | .hbm, ⟨20, _⟩ => ⟨S512x3072, .f32⟩
  | .hbm, ⟨21, _⟩ => ⟨S512x8x384, .f32⟩
  | .hbm, ⟨22, _⟩ => ⟨S8x512x384, .f32⟩
  | .hbm, ⟨23, _⟩ => ⟨S8x512x384, .bf16⟩
  | .hbm, ⟨24, _⟩ => ⟨S2048x4096, .f32⟩
  | .hbm, ⟨25, _⟩ => ⟨S4096x512, .f32⟩
  | .hbm, ⟨26, _⟩ => ⟨S512x4096, .f32⟩
  | .hbm, ⟨27, _⟩ => ⟨S512x8x512, .f32⟩
  | .hbm, ⟨28, _⟩ => ⟨S8x512x512, .f32⟩
  | .hbm, ⟨29, _⟩ => ⟨S8x512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== QIn.lean ====
abbrev S2048x3072 : Shape := ⟨2, ![2048, 3072]⟩
abbrev S8x512x384 : Shape := ⟨3, ![8, 512, 384]⟩
abbrev S2048x512 : Shape := ⟨2, ![2048, 512]⟩
abbrev S1024x384 : Shape := ⟨2, ![1024, 384]⟩
abbrev S1x512x384 : Shape := ⟨3, ![1, 512, 384]⟩
abbrev S1024x512 : Shape := ⟨2, ![1024, 512]⟩
abbrev S512x384 : Shape := ⟨2, ![512, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S8x512x384, .bf16⟩
  | .hbm, ⟨2, _⟩ => ⟨S2048x512, .f32⟩
  | .local _ .vmem, ⟨0, _⟩ => ⟨S1024x384, .bf16⟩
  | .local _ .vmem, ⟨1, _⟩ => ⟨S1024x384, .bf16⟩
  | .local _ .vmem, ⟨2, _⟩ => ⟨S1x512x384, .bf16⟩
  | .local _ .vmem, ⟨3, _⟩ => ⟨S1x512x384, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QInReferenceIdeal.lean ====
abbrev S2048x3072 : Shape := ⟨2, ![2048, 3072]⟩
abbrev S8x512x384 : Shape := ⟨3, ![8, 512, 384]⟩
abbrev S_ : Shape := ⟨0, ![]⟩
abbrev S2048x512 : Shape := ⟨2, ![2048, 512]⟩
abbrev S512x8x384 : Shape := ⟨3, ![512, 8, 384]⟩
abbrev S512x3072 : Shape := ⟨2, ![512, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S8x512x384, .bf16⟩
  | .hbm, ⟨2, _⟩ => ⟨S_, .f32⟩
  | .hbm, ⟨3, _⟩ => ⟨S2048x512, .f32⟩
  | .hbm, ⟨4, _⟩ => ⟨S8x512x384, .f32⟩
  | .hbm, ⟨5, _⟩ => ⟨S512x8x384, .f32⟩
  | .hbm, ⟨6, _⟩ => ⟨S512x3072, .f32⟩
  | .hbm, ⟨7, _⟩ => ⟨S2048x3072, .f32⟩
  | .hbm, ⟨8, _⟩ => ⟨S2048x3072, .f32⟩
  | .hbm, ⟨9, _⟩ => ⟨S2048x512, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvIn.lean ====
abbrev S2048x4096 : Shape := ⟨2, ![2048, 4096]⟩
abbrev S8x512x512 : Shape := ⟨3, ![8, 512, 512]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S8x512x512, .bf16⟩
  | .hbm, ⟨2, _⟩ => ⟨S2048x512, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvInReferenceIdeal.lean ====
abbrev S2048x4096 : Shape := ⟨2, ![2048, 4096]⟩
abbrev S8x512x512 : Shape := ⟨3, ![8, 512, 512]⟩
abbrev S_ : Shape := ⟨0, ![]⟩
abbrev S2048x512 : Shape := ⟨2, ![2048, 512]⟩
abbrev S512x8x512 : Shape := ⟨3, ![512, 8, 512]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x512x512, .bf16⟩
  | .hbm, ⟨2, _⟩ => ⟨S_, .f32⟩
  | .hbm, ⟨3, _⟩ => ⟨S2048x512, .f32⟩
  | .hbm, ⟨4, _⟩ => ⟨S8x512x512, .f32⟩
  | .hbm, ⟨5, _⟩ => ⟨S512x8x512, .f32⟩
  | .hbm, ⟨6, _⟩ => ⟨S512x4096, .f32⟩
  | .hbm, ⟨7, _⟩ => ⟨S2048x4096, .f32⟩
  | .hbm, ⟨8, _⟩ => ⟨S2048x4096, .f32⟩
  | .hbm, ⟨9, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Conv.lean ====
abbrev S2048x2048 : Shape := ⟨2, ![2048, 2048]⟩
abbrev S2048x11520 : Shape := ⟨2, ![2048, 11520]⟩
abbrev S3x2048 : Shape := ⟨2, ![3, 2048]⟩
abbrev S2048x256 : Shape := ⟨2, ![2048, 256]⟩
abbrev S3x256 : Shape := ⟨2, ![3, 256]⟩
abbrev S1x256 : Shape := ⟨2, ![1, 256]⟩
abbrev S8x2048 : Shape := ⟨2, ![8, 2048]⟩
abbrev S8x256 : Shape := ⟨2, ![8, 256]⟩
abbrev S256 : Shape := ⟨1, ![256]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x11520, .bf16⟩
  | .hbm, ⟨2, _⟩ => ⟨S3x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S8x2048, .f32⟩
  | .hbm, ⟨8, _⟩ => ⟨S3x2048, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S8x256, .f32⟩
  | .local _ .vmem, ⟨27, _⟩ => ⟨S8x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c21_i32 : BitVec 32 := 21#32
  let v0 : BitVec 32 := Scalar.addi c21_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c21_i32 : BitVec 32 := 21#32
  let v0 : BitVec 32 := Scalar.addi c21_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_6 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ConvReferenceIdeal.lean ====
abbrev S2048x2048 : Shape := ⟨2, ![2048, 2048]⟩
abbrev S2048x11520 : Shape := ⟨2, ![2048, 11520]⟩
abbrev S3x2048 : Shape := ⟨2, ![3, 2048]⟩
abbrev S_ : Shape := ⟨0, ![]⟩
abbrev S2x2048 : Shape := ⟨2, ![2, 2048]⟩
abbrev S2050x2048 : Shape := ⟨2, ![2050, 2048]⟩
abbrev S1x2048 : Shape := ⟨2, ![1, 2048]⟩
abbrev S2048 : Shape := ⟨1, ![2048]⟩

abbrev nBuf : Space → Nat
  | .hbm => 90
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11520, .bf16⟩
  | .hbm, ⟨2, _⟩ => ⟨S3x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2x2048, .f32⟩
  | .hbm, ⟨12, _⟩ => ⟨S2050x2048, .f32⟩
  | .hbm, ⟨13, _⟩ => ⟨S_, .f32⟩
  | .hbm, ⟨14, _⟩ => ⟨S2x2048, .f32⟩
  | .hbm, ⟨15, _⟩ => ⟨S2048x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S3x2048, .f32⟩
  | .hbm, ⟨50, _⟩ => ⟨S_, .f32⟩
  | .hbm, ⟨51, _⟩ => ⟨S2050x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S3x2048, .f32⟩
  | .hbm, ⟨63, _⟩ => ⟨S3x2048, .f32⟩
  | .hbm, ⟨64, _⟩ => ⟨S_, .f32⟩
  | .hbm, ⟨65, _⟩ => ⟨S2050x2048, .f32⟩
  | .hbm, ⟨66, _⟩ => ⟨S2050x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S_, .f32⟩
  | .hbm, ⟨77, _⟩ => ⟨S3x2048, .f32⟩
  | .hbm, ⟨78, _⟩ => ⟨S3x2048, .f32⟩
  | .hbm, ⟨79, _⟩ => ⟨S_, .f32⟩
  | .hbm, ⟨80, _⟩ => ⟨S2050x2048, .f32⟩
  | .hbm, ⟨81, _⟩ => ⟨S2050x2048, .f32⟩
  | .hbm, ⟨82, _⟩ => ⟨S2x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .bf16⟩
  | .hbm, ⟨87, _⟩ => ⟨S2048x2048, .bf16⟩
  | .hbm, ⟨88, _⟩ => ⟨S2048x2048, .bf16⟩
  | .hbm, ⟨89, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Norms.lean ====
abbrev S2048x2048 : Shape := ⟨2, ![2048, 2048]⟩
abbrev S6x2048 : Shape := ⟨2, ![6, 2048]⟩
abbrev S1x2048 : Shape := ⟨2, ![1, 2048]⟩
abbrev S256x2048 : Shape := ⟨2, ![256, 2048]⟩
abbrev S2048x1 : Shape := ⟨2, ![2048, 1]⟩
abbrev S256x1 : Shape := ⟨2, ![256, 1]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S6x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S2048x2048, .f32⟩
  | .hbm, ⟨7, _⟩ => ⟨S2048x1, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S6x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S6x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x1, .f32⟩
  | .local _ .vmem, ⟨15, _⟩ => ⟨S256x1, .f32⟩
  | .local _ .vmem, ⟨16, _⟩ => ⟨S256x2048, .bf16⟩
  | .local _ .vmem, ⟨17, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== NormsReferenceIdeal.lean ====
abbrev S2048x2048 : Shape := ⟨2, ![2048, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S6x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S1x2048, .f32⟩
  | .hbm, ⟨62, _⟩ => ⟨S2048x2048, .f32⟩
  | .hbm, ⟨63, _⟩ => ⟨S2048x2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .bf16⟩
  | .hbm, ⟨68, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== AdamW.lean ====
abbrev S1x12288 : Shape := ⟨2, ![1, 12288]⟩
abbrev S1x2048 : Shape := ⟨2, ![1, 2048]⟩
abbrev S1x512 : Shape := ⟨2, ![1, 512]⟩
abbrev S3x256 : Shape := ⟨2, ![3, 256]⟩

abbrev nBuf : Space → Nat
  | .hbm => 28
  | .vmem => 28
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S3x256, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S3x256, .f32⟩
  | .hbm, ⟨26, _⟩ => ⟨S3x256, .f32⟩
  | .hbm, ⟨27, _⟩ => ⟨S3x256, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S3x256, .f32⟩
  | .local _ .vmem, ⟨25, _⟩ => ⟨S3x256, .f32⟩
  | .local _ .vmem, ⟨26, _⟩ => ⟨S3x256, .f32⟩
  | .local _ .vmem, ⟨27, _⟩ => ⟨S3x256, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v2_0 : Ref sig .tc := ⟨.hbm, 22, rfl⟩
abbrev main_v2_1 : Ref sig .tc := ⟨.hbm, 23, rfl⟩
abbrev main_v2_2 : Ref sig .tc := ⟨.hbm, 24, rfl⟩
abbrev main_v3_0 : Ref sig .tc := ⟨.hbm, 25, rfl⟩
abbrev main_v3_1 : Ref sig .tc := ⟨.hbm, 26, rfl⟩
abbrev main_v3_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S3x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S3x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S3x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S3x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S3x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S3x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S3x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]
-- ==== AdamWIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamWReferenceIdeal.lean ====
abbrev S1x12288 : Shape := ⟨2, ![1, 12288]⟩
abbrev S1x2048 : Shape := ⟨2, ![1, 2048]⟩
abbrev S1x512 : Shape := ⟨2, ![1, 512]⟩
abbrev S3x256 : Shape := ⟨2, ![3, 256]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x12288, .f32⟩
  | 1 => ⟨S1x12288, .f32⟩
  | 2 => ⟨S1x12288, .f32⟩
  | 3 => ⟨S1x12288, .f32⟩
  | 4 => ⟨S1x2048, .f32⟩
  | 5 => ⟨S1x2048, .f32⟩
  | 6 => ⟨S1x2048, .f32⟩
  | 7 => ⟨S1x2048, .f32⟩
  | 8 => ⟨S1x512, .f32⟩
  | 9 => ⟨S1x512, .f32⟩
  | 10 => ⟨S1x512, .f32⟩
  | 11 => ⟨S1x512, .f32⟩
  | 12 => ⟨S3x256, .f32⟩
  | 13 => ⟨S3x256, .f32⟩
  | 14 => ⟨S3x256, .f32⟩
  | 15 => ⟨S3x256, .f32⟩
  | 16 => ⟨S_, .f32⟩
  | 17 => ⟨S1x12288, .f32⟩
  | 18 => ⟨S1x12288, .f32⟩
  | 19 => ⟨S_, .f32⟩
  | 20 => ⟨S1x12288, .f32⟩
  | 21 => ⟨S1x12288, .f32⟩
  | 22 => ⟨S1x12288, .f32⟩
  | 23 => ⟨S_, .f32⟩
  | 24 => ⟨S1x12288, .f32⟩
  | 25 => ⟨S1x12288, .f32⟩
  | 26 => ⟨S1x12288, .f32⟩
  | 27 => ⟨S_, .f32⟩
  | 28 => ⟨S1x12288, .f32⟩
  | 29 => ⟨S1x12288, .f32⟩
  | 30 => ⟨S1x12288, .f32⟩
  | 31 => ⟨S_, .f32⟩
  | 32 => ⟨S1x12288, .f32⟩
  | 33 => ⟨S1x12288, .f32⟩
  | 34 => ⟨S_, .f32⟩
  | 35 => ⟨S1x12288, .f32⟩
  | 36 => ⟨S1x12288, .f32⟩
  | 37 => ⟨S1x12288, .f32⟩
  | 38 => ⟨S_, .f32⟩
  | 39 => ⟨S1x12288, .f32⟩
  | 40 => ⟨S1x12288, .f32⟩
  | 41 => ⟨S1x12288, .f32⟩
  | 42 => ⟨S_, .f32⟩
  | 43 => ⟨S1x12288, .f32⟩
  | 44 => ⟨S1x12288, .f32⟩
  | 45 => ⟨S1x12288, .f32⟩
  | 46 => ⟨S_, .f32⟩
  | 47 => ⟨S1x12288, .f32⟩
  | 48 => ⟨S1x12288, .f32⟩
  | 49 => ⟨S_, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S_, .f32⟩
  | 83 => ⟨S1x512, .f32⟩
  | 84 => ⟨S1x512, .f32⟩
  | 85 => ⟨S_, .f32⟩
  | 86 => ⟨S1x512, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S1x512, .f32⟩
  | 93 => ⟨S_, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S_, .f32⟩
  | 116 => ⟨S3x256, .f32⟩
  | 117 => ⟨S3x256, .f32⟩
  | 118 => ⟨S_, .f32⟩
  | 119 => ⟨S3x256, .f32⟩
  | 120 => ⟨S3x256, .f32⟩
  | 121 => ⟨S3x256, .f32⟩
  | 122 => ⟨S_, .f32⟩
  | 123 => ⟨S3x256, .f32⟩
  | 124 => ⟨S3x256, .f32⟩
  | 125 => ⟨S3x256, .f32⟩
  | 126 => ⟨S_, .f32⟩
  | 127 => ⟨S3x256, .f32⟩
  | _ => ⟨S1x12288, .f32⟩

abbrev hbmTy0_1 (i : Nat) : BufTy := match i % 128 with
  | 0 => ⟨S3x256, .f32⟩
  | 1 => ⟨S3x256, .f32⟩
  | 2 => ⟨S_, .f32⟩
  | 3 => ⟨S3x256, .f32⟩
  | 4 => ⟨S3x256, .f32⟩
  | 5 => ⟨S_, .f32⟩
  | 6 => ⟨S3x256, .f32⟩
  | 7 => ⟨S3x256, .f32⟩
  | 8 => ⟨S3x256, .f32⟩
  | 9 => ⟨S_, .f32⟩
  | 10 => ⟨S3x256, .f32⟩
  | 11 => ⟨S3x256, .f32⟩
  | 12 => ⟨S3x256, .f32⟩
  | 13 => ⟨S_, .f32⟩
  | 14 => ⟨S3x256, .f32⟩
  | 15 => ⟨S3x256, .f32⟩
  | 16 => ⟨S3x256, .f32⟩
  | 17 => ⟨S_, .f32⟩
  | 18 => ⟨S3x256, .f32⟩
  | 19 => ⟨S3x256, .f32⟩
  | _ => ⟨S1x12288, .f32⟩

abbrev hbmTy (i : Nat) : BufTy := match i / 128 with
  | 0 => hbmTy0_0 i
  | 1 => hbmTy0_1 i
  | _ => ⟨S1x12288, .f32⟩

abbrev bufTy : (tb : Table) → Fin (tcTables nBuf tb) → BufTy
  | .hbm, ⟨i, _⟩ => hbmTy i
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== GradX.lean ====
abbrev S2048x2048 : Shape := ⟨2, ![2048, 2048]⟩
abbrev S6x2048 : Shape := ⟨2, ![6, 2048]⟩
abbrev S8x2048 : Shape := ⟨2, ![8, 2048]⟩
abbrev S256x2048 : Shape := ⟨2, ![256, 2048]⟩
abbrev S1x2048 : Shape := ⟨2, ![1, 2048]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S6x2048, .f32⟩
  | .hbm, ⟨4, _⟩ => ⟨S2048x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S6x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXReferenceIdeal.lean ====
abbrev S2048x2048 : Shape := ⟨2, ![2048, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S6x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsQ.lean ====
abbrev S2048x11520 : Shape := ⟨2, ![2048, 11520]⟩
abbrev S1x512 : Shape := ⟨2, ![1, 512]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x11520, .bf16⟩
  | .hbm, ⟨1, _⟩ => ⟨S1x512, .f32⟩
  | .hbm, ⟨2, _⟩ => ⟨S2048x512, .bf16⟩
  | .local _ .vmem, ⟨0, _⟩ => ⟨S256x512, .bf16⟩
  | .local _ .vmem, ⟨1, _⟩ => ⟨S256x512, .bf16⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsQReferenceIdeal.lean ====
abbrev S2048x11520 : Shape := ⟨2, ![2048, 11520]⟩
abbrev S1x512 : Shape := ⟨2, ![1, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x11520, .bf16⟩
  | .hbm, ⟨1, _⟩ => ⟨S1x512, .f32⟩
  | .hbm, ⟨2, _⟩ => ⟨S2048x512, .bf16⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .bf16⟩
  | _, _ => ⟨S2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsKv.lean ====
abbrev S2048x11520 : Shape := ⟨2, ![2048, 11520]⟩
abbrev S1x512 : Shape := ⟨2, ![1, 512]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x11520, .bf16⟩
  | .hbm, ⟨1, _⟩ => ⟨S1x512, .f32⟩
  | .hbm, ⟨2, _⟩ => ⟨S2048x512, .bf16⟩
  | .local _ .vmem, ⟨0, _⟩ => ⟨S256x512, .bf16⟩
  | .local _ .vmem, ⟨1, _⟩ => ⟨S256x512, .bf16⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsKvReferenceIdeal.lean ====
abbrev S2048x11520 : Shape := ⟨2, ![2048, 11520]⟩
abbrev S1x512 : Shape := ⟨2, ![1, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x11520, .bf16⟩
  | .hbm, ⟨1, _⟩ => ⟨S1x512, .f32⟩
  | .hbm, ⟨2, _⟩ => ⟨S2048x512, .bf16⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .bf16⟩
  | _, _ => ⟨S2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdaW.lean ====
abbrev S2048x1536 : Shape := ⟨2, ![2048, 1536]⟩
abbrev S2048x8 : Shape := ⟨2, ![2048, 8]⟩
abbrev S8x1536 : Shape := ⟨2, ![8, 1536]⟩
abbrev S128x1536 : Shape := ⟨2, ![128, 1536]⟩
abbrev S128x8 : Shape := ⟨2, ![128, 8]⟩
abbrev S128x1 : Shape := ⟨2, ![128, 1]⟩
abbrev S1x1536 : Shape := ⟨2, ![1, 1536]⟩

abbrev nBuf : Space → Nat
  | .hbm => 9
  | .vmem => 17
  | .smem => 0
  | _ => 0

abbrev bufTy : (tb : Table) → Fin (tcTables nBuf tb) → BufTy
  | .hbm, ⟨0, _⟩ => ⟨S2048x1536, .f32⟩
  | .hbm, ⟨1, _⟩ => ⟨S2048x8, .f32⟩
  | .hbm, ⟨2, _⟩ => ⟨S8x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x8, .f32⟩
  | .local _ .vmem, ⟨3, _⟩ => ⟨S128x8, .f32⟩
  | .local _ .vmem, ⟨4, _⟩ => ⟨S8x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaWIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdaWReferenceIdeal.lean ====
abbrev S2048x1536 : Shape := ⟨2, ![2048, 1536]⟩
abbrev S2048x8 : Shape := ⟨2, ![2048, 8]⟩
abbrev S8x1536 : Shape := ⟨2, ![8, 1536]⟩
abbrev S8x2048 : Shape := ⟨2, ![8, 2048]⟩
abbrev S1536x2048 : Shape := ⟨2, ![1536, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x8, .f32⟩
  | .hbm, ⟨2, _⟩ => ⟨S8x1536, .f32⟩
  | .hbm, ⟨3, _⟩ => ⟨S2048x1536, .f32⟩
  | .hbm, ⟨4, _⟩ => ⟨S2048x1536, .f32⟩
  | .hbm, ⟨5, _⟩ => ⟨S8x2048, .f32⟩
  | .hbm, ⟨6, _⟩ => ⟨S8x1536, .f32⟩
  | .hbm, ⟨7, _⟩ => ⟨S1536x2048, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S_, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S_, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S_, .f32⟩
  | .hbm, ⟨21, _⟩ => ⟨S2048x1536, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S_, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S_, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S2048x1536, .f32⟩
  | .hbm, ⟨41, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.FwdRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one point of the forward call writes -/

/-- The rows of a head's keys from row `o`, `S` of them. -/
abbrev kRows (x1 : Vec F S1x2048x192 .bf16) (o n : ℕ) (h : ∀ a : Fin 3, (![0, o, 0] : Fin 3 → ℕ) a + (![1, n, 192] : Fin 3 → ℕ) a ≤ S1x2048x192.size a) :=
  View.ld (Val := Elt F) (e' := .bf16) x1 (Rect.unit (s := S1x2048x192) ![0, o, 0] ![1, n, 192] h)

/-- The rows of a head's values from row `o`, `n` of them. -/
abbrev vRows (x2 : Vec F S1x2048x128 .bf16) (o n : ℕ) (h : ∀ a : Fin 3, (![0, o, 0] : Fin 3 → ℕ) a + (![1, n, 128] : Fin 3 → ℕ) a ≤ S1x2048x128.size a) :=
  View.ld (Val := Elt F) (e' := .bf16) x2 (Rect.unit (s := S1x2048x128) ![0, o, 0] ![1, n, 128] h)

/-- A row block of queries, loaded whole. -/
abbrev qAll (x0 : Vec F S1x512x192 .bf16) :=
  View.ld (Val := Elt F) (e' := .bf16) x0 (Rect.unit (s := S1x512x192) ![0, 0, 0] S1x512x192.size inb_S1x512x192_S1x512x192_0_0_0)

/-- Loading a whole row block of queries gives it back. -/
theorem qAll_eq (x0 : Vec F S1x512x192 .bf16) : qAll x0 = x0 :=
  View.ld_unit_zero (by funext a; fin_cases a <;> rfl) _ x0

/-- The column numbers of a square block. -/
abbrev colIdx : IVec S512x512 32 := iota .tc S512x512 32 [1] iota_S512x512_d1_w32

/-- Row block 0's scores against its own keys. -/
def sD0 (x0 : Vec F S1x512x192 .bf16) (x1 : Vec F S1x2048x192 .bf16) : FVec F S512x512 .f32 :=
  k0_pay14 (k0_pay1 (qAll x0)) (kRows x1 0 512 inb_S1x2048x192_S1x512x192_0_0_0)

/-- Row block 0's output. -/
def o0 (x0 : Vec F S1x512x192 .bf16) (x1 : Vec F S1x2048x192 .bf16) (x2 : Vec F S1x2048x128 .bf16) : Vec F S512x128 .bf16 :=
  k0_pay6 (sD0 x0 x1) k0_pay15 colIdx 64#32 k0_pay16 k0_pay17 k0_pay18 (vRows x2 0 512 inb_S1x2048x128_S1x512x128_0_0_0)

/-- Row block 0's log-sums. -/
def e0 (x0 : Vec F S1x512x192 .bf16) (x1 : Vec F S1x2048x192 .bf16) : Vec F S1x512x1 .f32 :=
  k0_pay7 (sD0 x0 x1) k0_pay15 colIdx 64#32 k0_pay16 k0_pay17 k0_pay18

/-- Row block 1's scores against the keys before its own. -/
def sO1 (x0 : Vec F S1x512x192 .bf16) (x1 : Vec F S1x2048x192 .bf16) : FVec F S512x512 .f32 :=
  k0_pay19 (k0_pay1 (qAll x0)) (kRows x1 0 512 inb_S1x2048x192_S1x512x192_0_0_0)

/-- Row block 1's scores against its own keys. -/
def sD1 (x0 : Vec F S1x512x192 .bf16) (x1 : Vec F S1x2048x192 .bf16) : FVec F S512x512 .f32 :=
  k0_pay20 (k0_pay1 (qAll x0)) (kRows x1 512 512 inb_S1x2048x192_S1x512x192_0_512_0)

/-- Row block 1's row maxima. -/
def m1 (x0 : Vec F S1x512x192 .bf16) (x1 : Vec F S1x2048x192 .bf16) : FVec F S512x1 .f32 :=
  k0_pay25 (sO1 x0 x1) (sD1 x0 x1) k0_pay21 colIdx 64#32 k0_pay22 k0_pay23 0#32

/-- Row block 1's sums of exponentials. -/
def l1 (x0 : Vec F S1x512x192 .bf16) (x1 : Vec F S1x2048x192 .bf16) : FVec F S512x1 .f32 :=
  k0_pay29 (sO1 x0 x1) (sD1 x0 x1) k0_pay21 colIdx 64#32 k0_pay22 k0_pay23 0#32

/-- Row block 1's output. -/
def o1 (x0 : Vec F S1x512x192 .bf16) (x1 : Vec F S1x2048x192 .bf16) (x2 : Vec F S1x2048x128 .bf16) : Vec F S512x128 .bf16 :=
  k0_pay8 (k0_pay27 (sO1 x0 x1) (sD1 x0 x1) k0_pay21 colIdx 64#32 k0_pay22 k0_pay23 0#32 (vRows x2 512 512 inb_S1x2048x128_S1x512x128_0_512_0)) (l1 x0 x1)
    (k0_pay30 (sO1 x0 x1) (sD1 x0 x1) k0_pay21 colIdx 64#32 k0_pay22 k0_pay23 0#32) (vRows x2 0 512 inb_S1x2048x128_S1x512x128_0_0_0)

/-- Row block 1's log-sums. -/
def e1 (x0 : Vec F S1x512x192 .bf16) (x1 : Vec F S1x2048x192 .bf16) : Vec F S1x512x1 .f32 :=
  k0_pay9 (m1 x0 x1) (l1 x0 x1)

/-- Row block 2's scores against the keys before its own. -/
def sO2 (x0 : Vec F S1x512x192 .bf16) (x1 : Vec F S1x2048x192 .bf16) : FVec F S512x1024 .f32 :=
  k0_pay31 (k0_pay1 (qAll x0)) (kRows x1 0 1024 inb_S1x2048x192_S1x1024x192_0_0_0)

/-- Row block 2's scores against its own keys. -/
def sD2 (x0 : Vec F S1x512x192 .bf16) (x1 : Vec F S1x2048x192 .bf16) : FVec F S512x512 .f32 :=
  k0_pay32 (k0_pay1 (qAll x0)) (kRows x1 1024 512 inb_S1x2048x192_S1x512x192_0_1024_0)

/-- Row block 2's row maxima. -/
def m2 (x0 : Vec F S1x512x192 .bf16) (x1 : Vec F S1x2048x192 .bf16) : FVec F S512x1 .f32 :=
  k0_pay37 (sO2 x0 x1) (sD2 x0 x1) k0_pay33 colIdx 64#32 k0_pay34 k0_pay35 0#32

/-- Row block 2's sums of exponentials. -/
def l2 (x0 : Vec F S1x512x192 .bf16) (x1 : Vec F S1x2048x192 .bf16) : FVec F S512x1 .f32 :=
  k0_pay41 (sO2 x0 x1) (sD2 x0 x1) k0_pay33 colIdx 64#32 k0_pay34 k0_pay35 0#32

/-- Row block 2's output. -/
def o2 (x0 : Vec F S1x512x192 .bf16) (x1 : Vec F S1x2048x192 .bf16) (x2 : Vec F S1x2048x128 .bf16) : Vec F S512x128 .bf16 :=
  k0_pay10 (k0_pay39 (sO2 x0 x1) (sD2 x0 x1) k0_pay33 colIdx 64#32 k0_pay34 k0_pay35 0#32 (vRows x2 1024 512 inb_S1x2048x128_S1x512x128_0_1024_0)) (l2 x0 x1)
    (k0_pay42 (sO2 x0 x1) (sD2 x0 x1) k0_pay33 colIdx 64#32 k0_pay34 k0_pay35 0#32) (vRows x2 0 1024 inb_S1x2048x128_S1x1024x128_0_0_0)

/-- Row block 2's log-sums. -/
def e2 (x0 : Vec F S1x512x192 .bf16) (x1 : Vec F S1x2048x192 .bf16) : Vec F S1x512x1 .f32 :=
  k0_pay11 (m2 x0 x1) (l2 x0 x1)

/-- Row block 3's scores against the keys before its own. -/
def sO3 (x0 : Vec F S1x512x192 .bf16) (x1 : Vec F S1x2048x192 .bf16) : FVec F S512x1536 .f32 :=
  k0_pay43 (k0_pay1 (qAll x0)) (kRows x1 0 1536 inb_S1x2048x192_S1x1536x192_0_0_0)

/-- Row block 3's scores against its own keys. -/
def sD3 (x0 : Vec F S1x512x192 .bf16) (x1 : Vec F S1x2048x192 .bf16) : FVec F S512x512 .f32 :=
  k0_pay44 (k0_pay1 (qAll x0)) (kRows x1 1536 512 inb_S1x2048x192_S1x512x192_0_1536_0)

/-- Row block 3's row maxima. -/
def m3 (x0 : Vec F S1x512x192 .bf16) (x1 : Vec F S1x2048x192 .bf16) : FVec F S512x1 .f32 :=
  k0_pay49 (sO3 x0 x1) (sD3 x0 x1) k0_pay45 colIdx 64#32 k0_pay46 k0_pay47 0#32

/-- Row block 3's sums of exponentials. -/
def l3 (x0 : Vec F S1x512x192 .bf16) (x1 : Vec F S1x2048x192 .bf16) : FVec F S512x1 .f32 :=
  k0_pay53 (sO3 x0 x1) (sD3 x0 x1) k0_pay45 colIdx 64#32 k0_pay46 k0_pay47 0#32

/-- Row block 3's output. -/
def o3 (x0 : Vec F S1x512x192 .bf16) (x1 : Vec F S1x2048x192 .bf16) (x2 : Vec F S1x2048x128 .bf16) : Vec F S512x128 .bf16 :=
  k0_pay12 (k0_pay51 (sO3 x0 x1) (sD3 x0 x1) k0_pay45 colIdx 64#32 k0_pay46 k0_pay47 0#32 (vRows x2 1536 512 inb_S1x2048x128_S1x512x128_0_1536_0)) (l3 x0 x1)
    (k0_pay54 (sO3 x0 x1) (sD3 x0 x1) k0_pay45 colIdx 64#32 k0_pay46 k0_pay47 0#32) (vRows x2 0 1536 inb_S1x2048x128_S1x1536x128_0_0_0)

/-- Row block 3's log-sums. -/
def e3 (x0 : Vec F S1x512x192 .bf16) (x1 : Vec F S1x2048x192 .bf16) : Vec F S1x512x1 .f32 :=
  k0_pay13 (m3 x0 x1) (l3 x0 x1)

/-- A row block's output, by its number. -/
def oB (n : ℕ) (x0 : Vec F S1x512x192 .bf16) (x1 : Vec F S1x2048x192 .bf16) (x2 : Vec F S1x2048x128 .bf16) : Vec F S512x128 .bf16 :=
  match n with
  | 0 => o0 x0 x1 x2
  | 1 => o1 x0 x1 x2
  | 2 => o2 x0 x1 x2
  | _ => o3 x0 x1 x2

/-- A row block's log-sums, by its number. -/
def eB (n : ℕ) (x0 : Vec F S1x512x192 .bf16) (x1 : Vec F S1x2048x192 .bf16) : Vec F S1x512x1 .f32 :=
  match n with
  | 0 => e0 x0 x1
  | 1 => e1 x0 x1
  | 2 => e2 x0 x1
  | _ => e3 x0 x1

set_option maxHeartbeats 1000000 in
/-- The forward body at a point of row block 0: from the inputs and any contents of the outputs it ends with the row block's
    output and log-sums in the outputs, the inputs as they were. -/
theorem fwdRun0 (c : Dev nD) (i : grid0.Coords) (a2 : Memref sig .tc .vmem S1x512x192 .bf16) (w2 : a2.IsWhole) (a3 : Memref sig .tc .vmem S1x2048x192 .bf16) (w3 : a3.IsWhole) (a4 : Memref sig .tc .vmem S1x2048x128 .bf16) (w4 : a4.IsWhole) (a5 : Memref sig .tc .vmem S512x128 .bf16) (w5 : a5.IsWhole) (a6 : Memref sig .tc .vmem S1x512x1 .f32) (w6 : a6.IsWhole)
    (hc0 : k0_cond1 i = 1#1) (hc1 : ¬k0_cond2 i = 1#1) (hc2 : ¬k0_cond3 i = 1#1) (hc3 : ¬k0_cond4 i = 1#1)
    (x0 : Vec F S1x512x192 .bf16) (x1 : Vec F S1x2048x192 .bf16) (x2 : Vec F S1x2048x128 .bf16) (E : Set ℕ) (K : PUnit → sProp 𝕄) :
    iprop(owns c a2 fullShare x0 ∗ owns c a3 fullShare x1 ∗ owns c a4 fullShare x2 ∗ (∃ d, owns c a5 fullShare d) ∗ (∃ d, owns c a6 fullShare d)
        ∗ (iprop(owns c a2 fullShare x0 ∗ owns c a3 fullShare x1 ∗ owns c a4 fullShare x2 ∗ owns c a5 fullShare (o0 x0 x1 x2) ∗ owns c a6 fullShare (e0 x0 x1)) -∗ K ⟨⟩))
      ⊢ wp frame (wpE (defs₀ (F := F)) Variants.none c none) E (cc0_attn_fwd i a2 w2 a3 w3 a4 w4 a5 w5 a6 w6) K := by
  simp only [cc0_attn_fwd_eq_skeleton]; unfold cc0_attn_fwd_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := w2.eq_unread hf0; obtain rfl := w3.eq_unread hf1; obtain rfl := w4.eq_unread hf2
  sl_exec (disch := first | sl_exact hc0 | sl_exact hc1 | sl_exact hc2 | sl_exact hc3)
  sl_step
  iapply Hk
  isplitl [H0]
  · iexists _; isplitr; · ipureintro; exact w2.read_unread _
    iexact H0
  isplitl [H1]
  · iexists _; isplitr; · ipureintro; exact w3.read_unread _
    iexact H1
  isplitl [H2]
  · iexists _; isplitr; · ipureintro; exact w4.read_unread _
    iexact H2
  isplitl [H3]
  · iexists _; isplitr; swap; · iexact H3
    ipureintro
    rw [View.read_writes_full]
    sl_unfold_words
    simp only [View.readAt_full, View.readAt_eq_ld, w2.read_unread, w3.read_unread, w4.read_unread]
    unfold o0 sD0
    rfl
  iexists _; isplitr; swap; · iexact H4
  ipureintro
  rw [View.read_writes_full]
  sl_unfold_words
  simp only [View.readAt_full, View.readAt_eq_ld, w2.read_unread, w3.read_unread, w4.read_unread]
  unfold e0 sD0
  rfl

set_option maxHeartbeats 1000000 in
/-- The forward body at a point of row block 1: from the inputs and any contents of the outputs it ends with the row block's
    output and log-sums in the outputs, the inputs as they were. -/
theorem fwdRun1 (c : Dev nD) (i : grid0.Coords) (a2 : Memref sig .tc .vmem S1x512x192 .bf16) (w2 : a2.IsWhole) (a3 : Memref sig .tc .vmem S1x2048x192 .bf16) (w3 : a3.IsWhole) (a4 : Memref sig .tc .vmem S1x2048x128 .bf16) (w4 : a4.IsWhole) (a5 : Memref sig .tc .vmem S512x128 .bf16) (w5 : a5.IsWhole) (a6 : Memref sig .tc .vmem S1x512x1 .f32) (w6 : a6.IsWhole)
    (hc0 : ¬k0_cond1 i = 1#1) (hc1 : k0_cond2 i = 1#1) (hc2 : ¬k0_cond3 i = 1#1) (hc3 : ¬k0_cond4 i = 1#1)
    (x0 : Vec F S1x512x192 .bf16) (x1 : Vec F S1x2048x192 .bf16) (x2 : Vec F S1x2048x128 .bf16) (E : Set ℕ) (K : PUnit → sProp 𝕄) :
    iprop(owns c a2 fullShare x0 ∗ owns c a3 fullShare x1 ∗ owns c a4 fullShare x2 ∗ (∃ d, owns c a5 fullShare d) ∗ (∃ d, owns c a6 fullShare d)
        ∗ (iprop(owns c a2 fullShare x0 ∗ owns c a3 fullShare x1 ∗ owns c a4 fullShare x2 ∗ owns c a5 fullShare (o1 x0 x1 x2) ∗ owns c a6 fullShare (e1 x0 x1)) -∗ K ⟨⟩))
      ⊢ wp frame (wpE (defs₀ (F := F)) Variants.none c none) E (cc0_attn_fwd i a2 w2 a3 w3 a4 w4 a5 w5 a6 w6) K := by
  simp only [cc0_attn_fwd_eq_skeleton]; unfold cc0_attn_fwd_skel
  simp only [k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := w2.eq_unread hf0; obtain rfl := w3.eq_unread hf1; obtain rfl := w4.eq_unread hf2
  sl_exec (disch := first | sl_exact hc0 | sl_exact hc1 | sl_exact hc2 | sl_exact hc3)
  sl_step
  iapply Hk
  isplitl [H0]
  · iexists _; isplitr; · ipureintro; exact w2.read_unread _
    iexact H0
  isplitl [H1]
  · iexists _; isplitr; · ipureintro; exact w3.read_unread _
    iexact H1
  isplitl [H2]
  · iexists _; isplitr; · ipureintro; exact w4.read_unread _
    iexact H2
  isplitl [H3]
  · iexists _; isplitr; swap; · iexact H3
    ipureintro
    rw [View.read_writes_full]
    sl_unfold_words
    simp only [View.readAt_full, View.readAt_eq_ld, w2.read_unread, w3.read_unread, w4.read_unread]
    unfold o1 l1 sO1 sD1
    rfl
  iexists _; isplitr; swap; · iexact H4
  ipureintro
  rw [View.read_writes_full]
  sl_unfold_words
  simp only [View.readAt_full, View.readAt_eq_ld, w2.read_unread, w3.read_unread, w4.read_unread]
  unfold e1 m1 l1 sO1 sD1
  rfl

set_option maxHeartbeats 1000000 in
/-- The forward body at a point of row block 2: from the inputs and any contents of the outputs it ends with the row block's
    output and log-sums in the outputs, the inputs as they were. -/
theorem fwdRun2 (c : Dev nD) (i : grid0.Coords) (a2 : Memref sig .tc .vmem S1x512x192 .bf16) (w2 : a2.IsWhole) (a3 : Memref sig .tc .vmem S1x2048x192 .bf16) (w3 : a3.IsWhole) (a4 : Memref sig .tc .vmem S1x2048x128 .bf16) (w4 : a4.IsWhole) (a5 : Memref sig .tc .vmem S512x128 .bf16) (w5 : a5.IsWhole) (a6 : Memref sig .tc .vmem S1x512x1 .f32) (w6 : a6.IsWhole)
    (hc0 : ¬k0_cond1 i = 1#1) (hc1 : ¬k0_cond2 i = 1#1) (hc2 : k0_cond3 i = 1#1) (hc3 : ¬k0_cond4 i = 1#1)
    (x0 : Vec F S1x512x192 .bf16) (x1 : Vec F S1x2048x192 .bf16) (x2 : Vec F S1x2048x128 .bf16) (E : Set ℕ) (K : PUnit → sProp 𝕄) :
    iprop(owns c a2 fullShare x0 ∗ owns c a3 fullShare x1 ∗ owns c a4 fullShare x2 ∗ (∃ d, owns c a5 fullShare d) ∗ (∃ d, owns c a6 fullShare d)
        ∗ (iprop(owns c a2 fullShare x0 ∗ owns c a3 fullShare x1 ∗ owns c a4 fullShare x2 ∗ owns c a5 fullShare (o2 x0 x1 x2) ∗ owns c a6 fullShare (e2 x0 x1)) -∗ K ⟨⟩))
      ⊢ wp frame (wpE (defs₀ (F := F)) Variants.none c none) E (cc0_attn_fwd i a2 w2 a3 w3 a4 w4 a5 w5 a6 w6) K := by
  simp only [cc0_attn_fwd_eq_skeleton]; unfold cc0_attn_fwd_skel
  simp only [k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := w2.eq_unread hf0; obtain rfl := w3.eq_unread hf1; obtain rfl := w4.eq_unread hf2
  sl_exec (disch := first | sl_exact hc0 | sl_exact hc1 | sl_exact hc2 | sl_exact hc3)
  sl_step
  iapply Hk
  isplitl [H0]
  · iexists _; isplitr; · ipureintro; exact w2.read_unread _
    iexact H0
  isplitl [H1]
  · iexists _; isplitr; · ipureintro; exact w3.read_unread _
    iexact H1
  isplitl [H2]
  · iexists _; isplitr; · ipureintro; exact w4.read_unread _
    iexact H2
  isplitl [H3]
  · iexists _; isplitr; swap; · iexact H3
    ipureintro
    rw [View.read_writes_full]
    sl_unfold_words
    simp only [View.readAt_full, View.readAt_eq_ld, w2.read_unread, w3.read_unread, w4.read_unread]
    unfold o2 l2 sO2 sD2
    rfl
  iexists _; isplitr; swap; · iexact H4
  ipureintro
  rw [View.read_writes_full]
  sl_unfold_words
  simp only [View.readAt_full, View.readAt_eq_ld, w2.read_unread, w3.read_unread, w4.read_unread]
  unfold e2 m2 l2 sO2 sD2
  rfl

set_option maxHeartbeats 1000000 in
/-- The forward body at a point of row block 3: from the inputs and any contents of the outputs it ends with the row block's
    output and log-sums in the outputs, the inputs as they were. -/
theorem fwdRun3 (c : Dev nD) (i : grid0.Coords) (a2 : Memref sig .tc .vmem S1x512x192 .bf16) (w2 : a2.IsWhole) (a3 : Memref sig .tc .vmem S1x2048x192 .bf16) (w3 : a3.IsWhole) (a4 : Memref sig .tc .vmem S1x2048x128 .bf16) (w4 : a4.IsWhole) (a5 : Memref sig .tc .vmem S512x128 .bf16) (w5 : a5.IsWhole) (a6 : Memref sig .tc .vmem S1x512x1 .f32) (w6 : a6.IsWhole)
    (hc0 : ¬k0_cond1 i = 1#1) (hc1 : ¬k0_cond2 i = 1#1) (hc2 : ¬k0_cond3 i = 1#1) (hc3 : k0_cond4 i = 1#1)
    (x0 : Vec F S1x512x192 .bf16) (x1 : Vec F S1x2048x192 .bf16) (x2 : Vec F S1x2048x128 .bf16) (E : Set ℕ) (K : PUnit → sProp 𝕄) :
    iprop(owns c a2 fullShare x0 ∗ owns c a3 fullShare x1 ∗ owns c a4 fullShare x2 ∗ (∃ d, owns c a5 fullShare d) ∗ (∃ d, owns c a6 fullShare d)
        ∗ (iprop(owns c a2 fullShare x0 ∗ owns c a3 fullShare x1 ∗ owns c a4 fullShare x2 ∗ owns c a5 fullShare (o3 x0 x1 x2) ∗ owns c a6 fullShare (e3 x0 x1)) -∗ K ⟨⟩))
      ⊢ wp frame (wpE (defs₀ (F := F)) Variants.none c none) E (cc0_attn_fwd i a2 w2 a3 w3 a4 w4 a5 w5 a6 w6) K := by
  simp only [cc0_attn_fwd_eq_skeleton]; unfold cc0_attn_fwd_skel
  simp only [k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := w2.eq_unread hf0; obtain rfl := w3.eq_unread hf1; obtain rfl := w4.eq_unread hf2
  sl_exec (disch := first | sl_exact hc0 | sl_exact hc1 | sl_exact hc2 | sl_exact hc3)
  sl_step
  iapply Hk
  isplitl [H0]
  · iexists _; isplitr; · ipureintro; exact w2.read_unread _
    iexact H0
  isplitl [H1]
  · iexists _; isplitr; · ipureintro; exact w3.read_unread _
    iexact H1
  isplitl [H2]
  · iexists _; isplitr; · ipureintro; exact w4.read_unread _
    iexact H2
  isplitl [H3]
  · iexists _; isplitr; swap; · iexact H3
    ipureintro
    rw [View.read_writes_full]
    sl_unfold_words
    simp only [View.readAt_full, View.readAt_eq_ld, w2.read_unread, w3.read_unread, w4.read_unread]
    unfold o3 l3 sO3 sD3
    rfl
  iexists _; isplitr; swap; · iexact H4
  ipureintro
  rw [View.read_writes_full]
  sl_unfold_words
  simp only [View.readAt_full, View.readAt_eq_ld, w2.read_unread, w3.read_unread, w4.read_unread]
  unfold e3 m3 l3 sO3 sD3
  rfl

end Cert.KernelIdeal.Hand

end
-- ==== Proof.FwdDat.lean ====
module

public import proofs.«01_k».proof.Proof.FwdRun
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When a branch of the body is taken, in the number of the point. -/
theorem cond0_0 : ∀ t : Fin cfg0.N, k0_cond1 (grid0.coords t) = 1#1 ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [k0_cond1, e1]
    word_cmp : ∀ t : Fin grid0.N, k0_cond1 (grid0.coords t) = 1#1 ↔ t.val % 4 = 0)

/-- When a branch of the body is taken, in the number of the point. -/
theorem cond0_1 : ∀ t : Fin cfg0.N, k0_cond2 (grid0.coords t) = 1#1 ↔ t.val % 4 = 1 :=
  (fun t => by
    have ht : t.val < 64 := Nat.lt_of_lt_of_eq t.isLt N_0
    have e1 : (grid0.coords t 1).val = t.val / 1 % 4 := Pipeline.Grid.coords_val t 1 (by decide) rfl
    simp only [k0_cond2, e1]
    word_cmp : ∀ t : Fin grid0.N, k0_cond2 (grid0.coords t) = 1#1 ↔ t.val % 4 = 1)

/-- When a branch of the body is taken, in the number of the point. -/
theorem cond0_2 : ∀ t : Fin cfg0.N, k0_cond3 (grid0.coords t) = 1#1 ↔ t.val % 4 = 2 :=
  (fun t => by
    have ht : t.val < 64 := Nat.lt_of_lt_of_eq t.isLt N_0
    have e1 : (grid0.coords t 1).val = t.val / 1 % 4 := Pipeline.Grid.coords_val t 1 (by decide) rfl
    simp only [k0_cond3, e1]
    word_cmp : ∀ t : Fin grid0.N, k0_cond3 (grid0.coords t) = 1#1 ↔ t.val % 4 = 2)

/-- When a branch of the body is taken, in the number of the point. -/
theorem cond0_3 : ∀ t : Fin cfg0.N, k0_cond4 (grid0.coords t) = 1#1 ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [k0_cond4, e1]
    word_cmp : ∀ t : Fin grid0.N, k0_cond4 (grid0.coords t) = 1#1 ↔ t.val % 4 = 3)

/-- The proof data of the forward call from entry contents: each input kept at its block, the outputs at the block's output and log-sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => oB (t.val % 4) (iblk0 V c 0 t) (iblk0 V c 1 t) (iblk0 V c 2 t)
    | ⟨4, _⟩ => eB (t.val % 4) (iblk0 V c 0 t) (iblk0 V c 1 t)
  Φ _ := Pipeline.scopedRest (Ix := Unit) (Name := ℕ) (U := UR sig nD τ) (Lvl := ℕ) (Val := Elt F) spec0 c
  q _ := fullShare
  owed _ := 0

theorem after0_0 (c : Dev nD) (t : Fin cfg0.N) : (dat0 V c).after 0 t = iblk0 V c 0 t := by dsimp only [dat0]
/-- Input window 0's buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rfl) t d).trans (by unfold Dat.fetched Dat.blockOf iblk0; rfl)

theorem after0_1 (c : Dev nD) (t : Fin cfg0.N) : (dat0 V c).after 1 t = iblk0 V c 1 t := by dsimp only [dat0]
/-- Input window 1's buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rfl) t d).trans (by unfold Dat.fetched Dat.blockOf iblk0; rfl)

theorem after0_2 (c : Dev nD) (t : Fin cfg0.N) : (dat0 V c).after 2 t = iblk0 V c 2 t := by dsimp only [dat0]
/-- Input window 2's buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rfl) t d).trans (by unfold Dat.fetched Dat.blockOf iblk0; rfl)

theorem after0_3 (c : Dev nD) (t : Fin cfg0.N) : (dat0 V c).after 3 t = oB (t.val % 4) (iblk0 V c 0 t) (iblk0 V c 1 t) (iblk0 V c 2 t) := by dsimp only [dat0]
theorem after0_4 (c : Dev nD) (t : Fin cfg0.N) : (dat0 V c).after 4 t = eB (t.val % 4) (iblk0 V c 0 t) (iblk0 V c 1 t) := by dsimp only [dat0]

/-- The forward body at any point: the run of the point's row block. -/
theorem fwdRun (c : Dev nD) (t : Fin cfg0.N) (x0 : Vec F S1x512x192 .bf16) (x1 : Vec F S1x2048x192 .bf16) (x2 : Vec F S1x2048x128 .bf16) (E : Set ℕ) (K : PUnit → sProp 𝕄) :
    iprop(owns (c : Thread nD τ) (st0_0 t) fullShare x0 ∗ owns (c : Thread nD τ) (st0_1 t) fullShare x1 ∗ owns (c : Thread nD τ) (st0_2 t) fullShare x2
        ∗ (∃ d, owns (c : Thread nD τ) (st0_3 t) fullShare d) ∗ (∃ d, owns (c : Thread nD τ) (st0_4 t) fullShare d)
        ∗ (iprop(owns (c : Thread nD τ) (st0_0 t) fullShare x0 ∗ owns (c : Thread nD τ) (st0_1 t) fullShare x1 ∗ owns (c : Thread nD τ) (st0_2 t) fullShare x2
          ∗ owns (c : Thread nD τ) (st0_3 t) fullShare (oB (t.val % 4) x0 x1 x2) ∗ owns (c : Thread nD τ) (st0_4 t) fullShare (eB (t.val % 4) x0 x1)) -∗ K ⟨⟩))
      ⊢ wp frame (wpE (defs₀ (F := F)) Variants.none c none) E (bodyAt0 t) K := by
  rcases (by omega : t.val % 4 = 0 ∨ t.val % 4 = 1 ∨ t.val % 4 = 2 ∨ t.val % 4 = 3) with h | h | h | h
  all_goals
    have g0 := cond0_0 t
    have g1 := cond0_1 t
    have g2 := cond0_2 t
    have g3 := cond0_3 t
    rw [h] at g0 g1 g2 g3 ⊢
  · exact fwdRun0 c (grid0.coords t) _ _ _ _ _ _ _ _ _ _ (g0.mpr rfl) (fun h => absurd (g1.mp h) (by decide)) (fun h => absurd (g2.mp h) (by decide)) (fun h => absurd (g3.mp h) (by decide)) x0 x1 x2 E K
  · exact fwdRun1 c (grid0.coords t) _ _ _ _ _ _ _ _ _ _ (fun h => absurd (g0.mp h) (by decide)) (g1.mpr rfl) (fun h => absurd (g2.mp h) (by decide)) (fun h => absurd (g3.mp h) (by decide)) x0 x1 x2 E K
  · exact fwdRun2 c (grid0.coords t) _ _ _ _ _ _ _ _ _ _ (fun h => absurd (g0.mp h) (by decide)) (fun h => absurd (g1.mp h) (by decide)) (g2.mpr rfl) (fun h => absurd (g3.mp h) (by decide)) x0 x1 x2 E K
  · exact fwdRun3 c (grid0.coords t) _ _ _ _ _ _ _ _ _ _ (fun h => absurd (g0.mp h) (by decide)) (fun h => absurd (g1.mp h) (by decide)) (fun h => absurd (g2.mp h) (by decide)) (g3.mpr rfl) x0 x1 x2 E K

/-- The body table's row at a point is the forward body there. -/
theorem row0 (t : Fin cfg0.N) : defs₀ (F := F) .tc cfg0.body (cfg0.bodyArgs t (cfg0.slots t)) = bodyAt0 t := by
  unfold defs₀; rw [Defs.onTc_tc]

/-- What the body is called with at a point. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t)

/-- The forward body at any point, from the windows' buffers to the windows' buffers. -/
theorem sound0 (c : Dev nD) (t : Fin cfg0.N) :
    pre0 V c t ⊢ wp frame (wpE (defs₀ (F := F)) Variants.none c none) Set.univ (bodyAt0 t) (fun _ => post0 V c t) := by
  unfold pre0 post0
  simp only [before0_0, before0_1, before0_2]
  have l0 : (dat0 V c).leavesExact 0 t = owns (c : Thread nD τ) (st0_0 t) fullShare ((dat0 V c).after 0 t) := rfl
  have l1 : (dat0 V c).leavesExact 1 t = owns (c : Thread nD τ) (st0_1 t) fullShare ((dat0 V c).after 1 t) := rfl
  have l2 : (dat0 V c).leavesExact 2 t = owns (c : Thread nD τ) (st0_2 t) fullShare ((dat0 V c).after 2 t) := rfl
  have l3 : (dat0 V c).leavesExact 3 t = owns (c : Thread nD τ) (st0_3 t) fullShare ((dat0 V c).after 3 t) := by
    unfold Dat.leavesExact; rw [flush0_3 t]; cases cfg0.idle 3 (cfg0.grid.coords t) <;> rfl
  have l4 : (dat0 V c).leavesExact 4 t = owns (c : Thread nD τ) (st0_4 t) fullShare ((dat0 V c).after 4 t) := by
    unfold Dat.leavesExact; rw [flush0_4 t]; cases cfg0.idle 4 (cfg0.grid.coords t) <;> rfl
  rw [l0, l1, l2, l3, l4, after0_0, after0_1, after0_2, after0_3, after0_4,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  iapply (fwdRun c t (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The forward call's body obligation. -/
theorem body0 (c : Dev nD) : BodyObligation (dat0 V c) (defs₀ (F := F)) Variants.none () Set.univ := fun t => by
  rw [bigSep_W0, bigSep_W0, row0]
  exact triple_restated (sound0 V c t) rfl .rfl fun _ => .rfl

end Cert.KernelIdeal.Hand

end
-- ==== Proof.BwdLoop.lean ====
module

public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameBody
public import Idealize.ShloMosaic.Lib.VecWindow
public import Idealize.ShloMosaic.Lib.Pipeline.Value
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one step of the backward call does to its accumulators -/

section Step

variable (i : grid1.Coords) (x0 : Vec F S1x2048x192 .bf16) (v12 : FVec F S512x192 .bf16) (v14 : FVec F S512x128 .bf16) (x3 : Vec F S2048x128 .bf16) (x5 : Vec F S1x2048x1 .f32) (d : Vec F S2048x1 .f32)

/-- The query rows of the diagonal step. -/
abbrev qD : Vec F S1x512x192 .bf16 := View.ld (Val := Elt F) (e' := .bf16) x0 (Rect.unit (s := S1x2048x192) (k1_off1 i) S1x512x192.size (k1_off1_inb i))
/-- The cotangent rows of the diagonal step. -/
abbrev gD : Vec F S512x128 .bf16 := View.ld (Val := Elt F) (e' := .bf16) x3 (Rect.unit (s := S2048x128) (k1_off2 i) S512x128.size (k1_off2_inb i))
/-- The log-sums of the diagonal step's rows. -/
abbrev eD : Vec F S1x512x1 .f32 := View.ld (Val := Elt F) (e' := .f32) x5 (Rect.unit (s := S1x2048x1) (k1_off3 i) S1x512x1.size (k1_off3_inb i))
/-- The row products of output and cotangent of the diagonal step's rows. -/
abbrev dD : Vec F S512x1 .f32 := View.ld (Val := Elt F) (e' := .f32) d (Rect.unit (s := S2048x1) (k1_off4 i) S512x1.size (k1_off4_inb i))

/-- The masked scores of the diagonal step. -/
abbrev sM (x1 : Vec F S1x512x192 .bf16) : FVec F S512x512 .f32 :=
  k1_pay29 (k1_pay25 x1 (qD i x0)) (iota .tc S512x512 32 [0] iota_S512x512_d0_w32) 64#32 k1_pay26 k1_pay27 k1_pay28

/-- The value gradient after the diagonal step. -/
def dvD (x1 : Vec F S1x512x192 .bf16) : Vec F S512x128 .f32 :=
  k1_pay31 (gD i x3) (sM i x0 x1) (eD i x5) k1_pay21

/-- The key gradient after the diagonal step. -/
def dkD (x1 : Vec F S1x512x192 .bf16) : Vec F S512x192 .f32 :=
  k1_pay33 v14 (k1_pay24 (qD i x0)) (gD i x3) (sM i x0 x1) (eD i x5) (dD i d) k1_pay20

/-- The query gradient after the diagonal step, from what it was. -/
def dqD (x1 : Vec F S1x512x192 .bf16) (dq : Vec F S2048x192 .f32) : Vec F S2048x192 .f32 :=
  VecWindow.put (s := S2048x192) dq (k1_off5 i) S512x192.size
    (k1_pay34 v12 v14 (gD i x3) (sM i x0 x1) (eD i x5) (dD i d) (View.ld (Val := Elt F) (e' := .f32) dq (Rect.unit (s := S2048x192) (k1_off5 i) S512x192.size (k1_off5_inb i))))

variable (k : Fin (k1_t1_loop i).trips)

/-- The query rows of a step below the diagonal. -/
abbrev qT : Vec F S1x512x192 .bf16 := View.ld (Val := Elt F) (e' := .bf16) x0 (Rect.unit (s := S1x2048x192) (k1_off6 i k) S1x512x192.size (k1_off6_inb i k))
/-- The cotangent rows of a step below the diagonal. -/
abbrev gT : Vec F S512x128 .bf16 := View.ld (Val := Elt F) (e' := .bf16) x3 (Rect.unit (s := S2048x128) (k1_off7 i k) S512x128.size (k1_off7_inb i k))
/-- The log-sums of the rows of a step below the diagonal. -/
abbrev eT : Vec F S1x512x1 .f32 := View.ld (Val := Elt F) (e' := .f32) x5 (Rect.unit (s := S1x2048x1) (k1_off8 i k) S1x512x1.size (k1_off8_inb i k))
/-- The row products of output and cotangent of the rows of a step below the diagonal. -/
abbrev dT : Vec F S512x1 .f32 := View.ld (Val := Elt F) (e' := .f32) d (Rect.unit (s := S2048x1) (k1_off9 i k) S512x1.size (k1_off9_inb i k))

/-- The value gradient after a step below the diagonal. -/
def dvT (dv : Vec F S512x128 .f32) : Vec F S512x128 .f32 :=
  k1_pay10 v12 (qT i x0 k) (gT i x3 k) (eT i x5 k) dv

/-- The key gradient after a step below the diagonal. -/
def dkT (dk : Vec F S512x192 .f32) : Vec F S512x192 .f32 :=
  k1_pay1 (k1_pay12 v12 v14 (qT i x0 k) (gT i x3 k) (eT i x5 k) (dT i d k) dk)

/-- The query gradient after a step below the diagonal. -/
def dqT (dq : Vec F S2048x192 .f32) : Vec F S2048x192 .f32 :=
  VecWindow.put (s := S2048x192) dq (k1_off10 i k) S512x192.size
    (k1_pay2 v12 (k1_pay11 v12 v14 (qT i x0 k) (gT i x3 k) (eT i x5 k) (dT i d k)) (View.ld (Val := Elt F) (e' := .f32) dq (Rect.unit (s := S2048x192) (k1_off10 i k) S512x192.size (k1_off10_inb i k))))

end Step

section Trips

variable (i : grid1.Coords) (x0 : Vec F S1x2048x192 .bf16) (v12 : FVec F S512x192 .bf16) (v14 : FVec F S512x128 .bf16) (x3 : Vec F S2048x128 .bf16) (x5 : Vec F S1x2048x1 .f32) (d : Vec F S2048x1 .f32)

/-- The accumulators after the first `n` steps below the diagonal, from what they were. -/
def trips (s : Vec F S2048x192 .f32 × Vec F S512x192 .f32 × Vec F S512x128 .f32) : ℕ → Vec F S2048x192 .f32 × Vec F S512x192 .f32 × Vec F S512x128 .f32
  | 0 => s
  | n + 1 => if h : n < (k1_t1_loop i).trips then
      (dqT i x0 v12 v14 x3 x5 d ⟨n, h⟩ (trips s n).1, dkT i x0 v12 v14 x3 x5 d ⟨n, h⟩ (trips s n).2.1, dvT i x0 v12 x3 x5 ⟨n, h⟩ (trips s n).2.2)
    else trips s n

end Trips

section Pieces

variable (𝒱 : Variants) (c : Dev nD) (bd : Option 𝒱.V) (i : grid1.Coords) (a2 : Memref sig .tc .vmem S1x2048x192 .bf16) (w2 : a2.IsWhole) (a3 : Memref sig .tc .vmem S1x512x192 .bf16) (w3 : a3.IsWhole) (a4 : Memref sig .tc .vmem S1x512x128 .bf16) (w4 : a4.IsWhole) (a5 : Memref sig .tc .vmem S2048x128 .bf16) (w5 : a5.IsWhole) (a6 : Memref sig .tc .vmem S2048x128 .bf16) (w6 : a6.IsWhole) (a7 : Memref sig .tc .vmem S1x2048x1 .f32) (w7 : a7.IsWhole) (a8 : Memref sig .tc .vmem S1x2048x192 .bf16) (w8 : a8.IsWhole) (a9 : Memref sig .tc .vmem S1x512x192 .bf16) (w9 : a9.IsWhole) (a10 : Memref sig .tc .vmem S1x512x128 .bf16) (w10 : a10.IsWhole) (a11 : Memref sig .tc .vmem S2048x1 .f32) (w11 : a11.IsWhole) (a12 : Memref sig .tc .vmem S2048x192 .f32) (w12 : a12.IsWhole) (a13 : Memref sig .tc .vmem S512x192 .f32) (w13 : a13.IsWhole) (a14 : Memref sig .tc .vmem S512x128 .f32) (w14 : a14.IsWhole)
  (v12 : FVec F S512x192 .bf16) (v14 : FVec F S512x128 .bf16) (v114 : BitVec 32)
  (X2 : BufTy.Contents (Elt F) a2.view.ty) (X5 : BufTy.Contents (Elt F) a5.view.ty) (X7 : BufTy.Contents (Elt F) a7.view.ty) (X11 : BufTy.Contents (Elt F) a11.view.ty)

set_option maxHeartbeats 1000000 in
/-- The stores of one step below the diagonal: one into each accumulator. -/
theorem trip_pieces (k : Fin (k1_t1_loop i).trips) (f12 : BufTy.Contents (Elt F) a12.view.ty) (f13 : BufTy.Contents (Elt F) a13.view.ty) (f14 : BufTy.Contents (Elt F) a14.view.ty)
    (x0 : Vec F S1x2048x192 .bf16) (x3 : Vec F S2048x128 .bf16) (x5 : Vec F S1x2048x1 .f32) (d : Vec F S2048x1 .f32)
    (h0 : a2.view.read (Elt F) X2 = x0) (h3 : a5.view.read (Elt F) X5 = x3) (h5 : a7.view.read (Elt F) X7 = x5) (hd : a11.view.read (Elt F) X11 = d) :
    tripL_k1_t1 (F := F) 𝒱 c bd i a2 w2 a3 w3 a4 w4 a5 w5 a6 w6 a7 w7 a8 w8 a9 w9 a10 w10 a11 w11 a12 w12 a13 w13 a14 w14 v12 v14 v114 X2 X5 X7 X11 k f12 f13 f14
      = ([⟨Rect.unit (s := S2048x192) (k1_off10 i k) S512x192.size (k1_off10_inb i k),
            k1_pay2 v12 (k1_pay11 v12 v14 (qT i x0 k) (gT i x3 k) (eT i x5 k) (dT i d k)) (View.ld (Val := Elt F) (e' := .f32) (a12.view.read (Elt F) f12) (Rect.unit (s := S2048x192) (k1_off10 i k) S512x192.size (k1_off10_inb i k)))⟩],
         [⟨Rect.unit (s := S512x192) ![0, 0] S512x192.size inb_S512x192_S512x192_0_0, dkT i x0 v12 v14 x3 x5 d k (a13.view.read (Elt F) f13)⟩],
         [⟨Rect.unit (s := S512x128) ![0, 0] S512x128.size inb_S512x128_S512x128_0_0, dvT i x0 v12 x3 x5 k (a14.view.read (Elt F) f14)⟩]) := by
  subst h0 h3 h5 hd
  unfold tripL_k1_t1
  refine Prod.ext ?_ (Prod.ext ?_ ?_) <;> dsimp only <;> unfold trip_k1_t1 <;> dsimp only
  · rfl
  · rw [← View.readAt_full a13.view f13 (off := ![0, 0]) inb_S512x192_S512x192_0_0]
    rfl
  · rw [← View.readAt_full a14.view f14 (off := ![0, 0]) inb_S512x128_S512x128_0_0]
    rfl

/-- After `n` steps the accumulators read what the step-by-step rule gives. -/
theorem read_pb (G12 : BufTy.Contents (Elt F) a12.view.ty) (G13 : BufTy.Contents (Elt F) a13.view.ty) (G14 : BufTy.Contents (Elt F) a14.view.ty)
    (x0 : Vec F S1x2048x192 .bf16) (x3 : Vec F S2048x128 .bf16) (x5 : Vec F S1x2048x1 .f32) (d : Vec F S2048x1 .f32)
    (h0 : a2.view.read (Elt F) X2 = x0) (h3 : a5.view.read (Elt F) X5 = x3) (h5 : a7.view.read (Elt F) X7 = x5) (hd : a11.view.read (Elt F) X11 = d)
    (s : Vec F S2048x192 .f32 × Vec F S512x192 .f32 × Vec F S512x128 .f32)
    (g12 : a12.view.read (Elt F) G12 = s.1) (g13 : a13.view.read (Elt F) G13 = s.2.1) (g14 : a14.view.read (Elt F) G14 = s.2.2) (n : ℕ) (hn : n ≤ (k1_t1_loop i).trips) :
    a12.view.read (Elt F) (a12.view.writes (Elt F) G12 (pb_k1_t1 (F := F) 𝒱 c bd i a2 w2 a3 w3 a4 w4 a5 w5 a6 w6 a7 w7 a8 w8 a9 w9 a10 w10 a11 w11 a12 w12 a13 w13 a14 w14 v12 v14 v114 X2 X5 X7 X11 G12 G13 G14 n).1) = (trips i x0 v12 v14 x3 x5 d s n).1
    ∧ a13.view.read (Elt F) (a13.view.writes (Elt F) G13 (pb_k1_t1 (F := F) 𝒱 c bd i a2 w2 a3 w3 a4 w4 a5 w5 a6 w6 a7 w7 a8 w8 a9 w9 a10 w10 a11 w11 a12 w12 a13 w13 a14 w14 v12 v14 v114 X2 X5 X7 X11 G12 G13 G14 n).2.1) = (trips i x0 v12 v14 x3 x5 d s n).2.1
    ∧ a14.view.read (Elt F) (a14.view.writes (Elt F) G14 (pb_k1_t1 (F := F) 𝒱 c bd i a2 w2 a3 w3 a4 w4 a5 w5 a6 w6 a7 w7 a8 w8 a9 w9 a10 w10 a11 w11 a12 w12 a13 w13 a14 w14 v12 v14 v114 X2 X5 X7 X11 G12 G13 G14 n).2.2) = (trips i x0 v12 v14 x3 x5 d s n).2.2 := by
  induction n with
  | zero => exact ⟨g12, g13, g14⟩
  | succ n ih =>
    obtain ⟨i12, i13, i14⟩ := ih (by omega)
    have e := pb_k1_t1_succ (F := F) 𝒱 c bd i a2 w2 a3 w3 a4 w4 a5 w5 a6 w6 a7 w7 a8 w8 a9 w9 a10 w10 a11 w11 a12 w12 a13 w13 a14 w14 v12 v14 v114 X2 X5 X7 X11 G12 G13 G14 ⟨n, hn⟩
    rw [trip_pieces (F := F) 𝒱 c bd i a2 w2 a3 w3 a4 w4 a5 w5 a6 w6 a7 w7 a8 w8 a9 w9 a10 w10 a11 w11 a12 w12 a13 w13 a14 w14 v12 v14 v114 X2 X5 X7 X11 ⟨n, hn⟩ _ _ _ x0 x3 x5 d h0 h3 h5 hd] at e
    have et : trips i x0 v12 v14 x3 x5 d s (n + 1) = (dqT i x0 v12 v14 x3 x5 d ⟨n, hn⟩ (trips i x0 v12 v14 x3 x5 d s n).1, dkT i x0 v12 v14 x3 x5 d ⟨n, hn⟩ (trips i x0 v12 v14 x3 x5 d s n).2.1, dvT i x0 v12 x3 x5 ⟨n, hn⟩ (trips i x0 v12 v14 x3 x5 d s n).2.2) := by
      exact dif_pos (show n < (k1_t1_loop i).trips from hn)
    rw [et, e]
    refine ⟨?_, ?_, ?_⟩
    · dsimp only [List.cons_append, List.nil_append]
      rw [View.read_writes_cons_put _ _ _ _ _ rfl, i12]; rfl
    · dsimp only [List.cons_append, List.nil_append]
      rw [View.read_writes_full, i13]
    · dsimp only [List.cons_append, List.nil_append]
      rw [View.read_writes_full, i14]

end Pieces

end Cert.KernelIdeal.Hand

end
-- ==== Proof.BwdRun.lean ====
module

public import proofs.«01_k».proof.Proof.BwdLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One point of the backward call -/

/-- A block of keys, loaded whole. -/
abbrev kAll (x1 : Vec F S1x512x192 .bf16) : Vec F S1x512x192 .bf16 :=
  View.ld (Val := Elt F) (e' := .bf16) x1 (Rect.unit (s := S1x512x192) ![0, 0, 0] S1x512x192.size inb_S1x512x192_S1x512x192_0_0_0)

/-- A block of values, loaded whole. -/
abbrev vAll (x2 : Vec F S1x512x128 .bf16) : Vec F S1x512x128 .bf16 :=
  View.ld (Val := Elt F) (e' := .bf16) x2 (Rect.unit (s := S1x512x128) ![0, 0, 0] S1x512x128.size inb_S1x512x128_S1x512x128_0_0_0)

/-- The accumulators at the end of a point, from the row products and the query gradient so far. -/
def bwdSt (i : grid1.Coords) (x0 : Vec F S1x2048x192 .bf16) (x1 : Vec F S1x512x192 .bf16) (x2 : Vec F S1x512x128 .bf16) (x3 : Vec F S2048x128 .bf16) (x5 : Vec F S1x2048x1 .f32) (d : Vec F S2048x1 .f32) (dq : Vec F S2048x192 .f32) :
    Vec F S2048x192 .f32 × Vec F S512x192 .f32 × Vec F S512x128 .f32 :=
  trips i x0 (k1_pay22 (kAll x1)) (k1_pay23 (vAll x2)) x3 x5 d
    (dqD i x0 (k1_pay22 (kAll x1)) (k1_pay23 (vAll x2)) x3 x5 d (kAll x1) dq, dkD i x0 (k1_pay23 (vAll x2)) x3 x5 d (kAll x1), dvD i x0 x3 x5 (kAll x1))
    (k1_t1_loop i).trips

/-- The row products of output and cotangent of a head. -/
abbrev rowD (x3 x4 : Vec F S2048x128 .bf16) : Vec F S2048x1 .f32 :=
  k1_pay19 (View.ld (Val := Elt F) (e' := .bf16) x3 (Rect.unit (s := S2048x128) ![0, 0] S2048x128.size inb_S2048x128_S2048x128_0_0))
    (View.ld (Val := Elt F) (e' := .bf16) x4 (Rect.unit (s := S2048x128) ![0, 0] S2048x128.size inb_S2048x128_S2048x128_0_0))

section Second

variable (𝒱 : Variants) (c : Dev nD) (bd : Option 𝒱.V) (i : grid1.Coords) (a2 : Memref sig .tc .vmem S1x2048x192 .bf16) (w2 : a2.IsWhole) (a3 : Memref sig .tc .vmem S1x512x192 .bf16) (w3 : a3.IsWhole) (a4 : Memref sig .tc .vmem S1x512x128 .bf16) (w4 : a4.IsWhole) (a5 : Memref sig .tc .vmem S2048x128 .bf16) (w5 : a5.IsWhole) (a6 : Memref sig .tc .vmem S2048x128 .bf16) (w6 : a6.IsWhole) (a7 : Memref sig .tc .vmem S1x2048x1 .f32) (w7 : a7.IsWhole) (a8 : Memref sig .tc .vmem S1x2048x192 .bf16) (w8 : a8.IsWhole) (a9 : Memref sig .tc .vmem S1x512x192 .bf16) (w9 : a9.IsWhole) (a10 : Memref sig .tc .vmem S1x512x128 .bf16) (w10 : a10.IsWhole) (a11 : Memref sig .tc .vmem S2048x1 .f32) (w11 : a11.IsWhole) (a12 : Memref sig .tc .vmem S2048x192 .f32) (w12 : a12.IsWhole) (a13 : Memref sig .tc .vmem S512x192 .f32) (w13 : a13.IsWhole) (a14 : Memref sig .tc .vmem S512x128 .f32) (w14 : a14.IsWhole)
  (v12 : FVec F S512x192 .bf16) (v14 : FVec F S512x128 .bf16) (v114 : BitVec 32)
  (X2 : BufTy.Contents (Elt F) a2.view.ty) (X5 : BufTy.Contents (Elt F) a5.view.ty) (X7 : BufTy.Contents (Elt F) a7.view.ty) (X11 : BufTy.Contents (Elt F) a11.view.ty)
  (G12 : BufTy.Contents (Elt F) a12.view.ty) (G13 : BufTy.Contents (Elt F) a13.view.ty) (G14 : BufTy.Contents (Elt F) a14.view.ty)

/-- The second counted loop makes no trip, so it stores nothing. -/
theorem pb2_nil : pb_k1_t2 (F := F) 𝒱 c bd i a2 w2 a3 w3 a4 w4 a5 w5 a6 w6 a7 w7 a8 w8 a9 w9 a10 w10 a11 w11 a12 w12 a13 w13 a14 w14 v12 v14 v114 X2 X5 X7 X11 G12 G13 G14 (Scf.trips (k1_t2_loop i).lb (k1_t2_loop i).ub (k1_t2_loop i).st) = ([], [], []) := by
  have h : Scf.trips (k1_t2_loop i).lb (k1_t2_loop i).ub (k1_t2_loop i).st = 0 := Nat.le_zero.mp (k1_t2_abs i).2.1
  rw [h]; rfl

end Second

set_option maxHeartbeats 4000000 in
/-- What the three accumulators read after both loops, from what they read before. -/
theorem ends (𝒱 : Variants) (c : Dev nD) (bd : Option 𝒱.V) (i : grid1.Coords) (a2 : Memref sig .tc .vmem S1x2048x192 .bf16) (w2 : a2.IsWhole) (a3 : Memref sig .tc .vmem S1x512x192 .bf16) (w3 : a3.IsWhole) (a4 : Memref sig .tc .vmem S1x512x128 .bf16) (w4 : a4.IsWhole) (a5 : Memref sig .tc .vmem S2048x128 .bf16) (w5 : a5.IsWhole) (a6 : Memref sig .tc .vmem S2048x128 .bf16) (w6 : a6.IsWhole) (a7 : Memref sig .tc .vmem S1x2048x1 .f32) (w7 : a7.IsWhole) (a8 : Memref sig .tc .vmem S1x2048x192 .bf16) (w8 : a8.IsWhole) (a9 : Memref sig .tc .vmem S1x512x192 .bf16) (w9 : a9.IsWhole) (a10 : Memref sig .tc .vmem S1x512x128 .bf16) (w10 : a10.IsWhole) (a11 : Memref sig .tc .vmem S2048x1 .f32) (w11 : a11.IsWhole) (a12 : Memref sig .tc .vmem S2048x192 .f32) (w12 : a12.IsWhole) (a13 : Memref sig .tc .vmem S512x192 .f32) (w13 : a13.IsWhole) (a14 : Memref sig .tc .vmem S512x128 .f32) (w14 : a14.IsWhole)
    (v12 v12' : FVec F S512x192 .bf16) (v14 v14' : FVec F S512x128 .bf16) (v114 v119 : BitVec 32)
    (X2 X2' : BufTy.Contents (Elt F) a2.view.ty) (X5 X5' : BufTy.Contents (Elt F) a5.view.ty) (X7 X7' : BufTy.Contents (Elt F) a7.view.ty) (X11 X11' : BufTy.Contents (Elt F) a11.view.ty)
    (G12 G12' : BufTy.Contents (Elt F) a12.view.ty) (G13 G13' : BufTy.Contents (Elt F) a13.view.ty) (G14 G14' : BufTy.Contents (Elt F) a14.view.ty)
    (x0 : Vec F S1x2048x192 .bf16) (x3 : Vec F S2048x128 .bf16) (x5 : Vec F S1x2048x1 .f32) (d : Vec F S2048x1 .f32)
    (s : Vec F S2048x192 .f32 × Vec F S512x192 .f32 × Vec F S512x128 .f32)
    (h0 : a2.view.read (Elt F) X2 = x0) (h3 : a5.view.read (Elt F) X5 = x3) (h5 : a7.view.read (Elt F) X7 = x5) (hd : a11.view.read (Elt F) X11 = d)
    (g12 : a12.view.read (Elt F) G12 = s.1) (g13 : a13.view.read (Elt F) G13 = s.2.1) (g14 : a14.view.read (Elt F) G14 = s.2.2) :
    a12.view.read (Elt F) (a12.view.writes (Elt F) (a12.view.writes (Elt F) G12 (pb_k1_t1 (F := F) 𝒱 c bd i a2 w2 a3 w3 a4 w4 a5 w5 a6 w6 a7 w7 a8 w8 a9 w9 a10 w10 a11 w11 a12 w12 a13 w13 a14 w14 v12 v14 v114 X2 X5 X7 X11 G12 G13 G14 (Scf.trips (k1_t1_loop i).lb (k1_t1_loop i).ub (k1_t1_loop i).st)).1) (pb_k1_t2 (F := F) 𝒱 c bd i a2 w2 a3 w3 a4 w4 a5 w5 a6 w6 a7 w7 a8 w8 a9 w9 a10 w10 a11 w11 a12 w12 a13 w13 a14 w14 v12' v14' v119 X2' X5' X7' X11' G12' G13' G14' (Scf.trips (k1_t2_loop i).lb (k1_t2_loop i).ub (k1_t2_loop i).st)).1) = (trips i x0 v12 v14 x3 x5 d s (k1_t1_loop i).trips).1
    ∧ a13.view.read (Elt F) (a13.view.writes (Elt F) (a13.view.writes (Elt F) G13 (pb_k1_t1 (F := F) 𝒱 c bd i a2 w2 a3 w3 a4 w4 a5 w5 a6 w6 a7 w7 a8 w8 a9 w9 a10 w10 a11 w11 a12 w12 a13 w13 a14 w14 v12 v14 v114 X2 X5 X7 X11 G12 G13 G14 (Scf.trips (k1_t1_loop i).lb (k1_t1_loop i).ub (k1_t1_loop i).st)).2.1) (pb_k1_t2 (F := F) 𝒱 c bd i a2 w2 a3 w3 a4 w4 a5 w5 a6 w6 a7 w7 a8 w8 a9 w9 a10 w10 a11 w11 a12 w12 a13 w13 a14 w14 v12' v14' v119 X2' X5' X7' X11' G12' G13' G14' (Scf.trips (k1_t2_loop i).lb (k1_t2_loop i).ub (k1_t2_loop i).st)).2.1) = (trips i x0 v12 v14 x3 x5 d s (k1_t1_loop i).trips).2.1
    ∧ a14.view.read (Elt F) (a14.view.writes (Elt F) (a14.view.writes (Elt F) G14 (pb_k1_t1 (F := F) 𝒱 c bd i a2 w2 a3 w3 a4 w4 a5 w5 a6 w6 a7 w7 a8 w8 a9 w9 a10 w10 a11 w11 a12 w12 a13 w13 a14 w14 v12 v14 v114 X2 X5 X7 X11 G12 G13 G14 (Scf.trips (k1_t1_loop i).lb (k1_t1_loop i).ub (k1_t1_loop i).st)).2.2) (pb_k1_t2 (F := F) 𝒱 c bd i a2 w2 a3 w3 a4 w4 a5 w5 a6 w6 a7 w7 a8 w8 a9 w9 a10 w10 a11 w11 a12 w12 a13 w13 a14 w14 v12' v14' v119 X2' X5' X7' X11' G12' G13' G14' (Scf.trips (k1_t2_loop i).lb (k1_t2_loop i).ub (k1_t2_loop i).st)).2.2) = (trips i x0 v12 v14 x3 x5 d s (k1_t1_loop i).trips).2.2 := by
  rw [pb2_nil]
  exact read_pb 𝒱 c bd i a2 w2 a3 w3 a4 w4 a5 w5 a6 w6 a7 w7 a8 w8 a9 w9 a10 w10 a11 w11 a12 w12 a13 w13 a14 w14 v12 v14 v114 X2 X5 X7 X11 G12 G13 G14 x0 x3 x5 d h0 h3 h5 hd s g12 g13 g14 (k1_t1_loop i).trips le_rfl

set_option maxHeartbeats 4000000 in
/-- The backward body at a head's first point. -/
theorem bwdRunA (c : Dev nD) (i : grid1.Coords) (a2 : Memref sig .tc .vmem S1x2048x192 .bf16) (w2 : a2.IsWhole) (a3 : Memref sig .tc .vmem S1x512x192 .bf16) (w3 : a3.IsWhole) (a4 : Memref sig .tc .vmem S1x512x128 .bf16) (w4 : a4.IsWhole) (a5 : Memref sig .tc .vmem S2048x128 .bf16) (w5 : a5.IsWhole) (a6 : Memref sig .tc .vmem S2048x128 .bf16) (w6 : a6.IsWhole) (a7 : Memref sig .tc .vmem S1x2048x1 .f32) (w7 : a7.IsWhole) (a8 : Memref sig .tc .vmem S1x2048x192 .bf16) (w8 : a8.IsWhole) (a9 : Memref sig .tc .vmem S1x512x192 .bf16) (w9 : a9.IsWhole) (a10 : Memref sig .tc .vmem S1x512x128 .bf16) (w10 : a10.IsWhole) (a11 : Memref sig .tc .vmem S2048x1 .f32) (w11 : a11.IsWhole) (a12 : Memref sig .tc .vmem S2048x192 .f32) (w12 : a12.IsWhole) (a13 : Memref sig .tc .vmem S512x192 .f32) (w13 : a13.IsWhole) (a14 : Memref sig .tc .vmem S512x128 .f32) (w14 : a14.IsWhole)
    (hc0 : Scalar.cmpi .ne (Scalar.extui (Scalar.cmpi .eq (BitVec.ofNat 32 (i 1).val) 0#32) : BitVec 32) 0#32 = 1#1) (hc1 : ¬k1_cond2 i = 1#1)
    (x0 : Vec F S1x2048x192 .bf16) (x1 : Vec F S1x512x192 .bf16) (x2 : Vec F S1x512x128 .bf16) (x3 x4 : Vec F S2048x128 .bf16) (x5 : Vec F S1x2048x1 .f32) (x6 : Vec F S1x2048x192 .bf16) (E : Set ℕ) (K : PUnit → sProp 𝕄) :
    iprop(owns c a2 fullShare x0 ∗ owns c a3 fullShare x1 ∗ owns c a4 fullShare x2 ∗ owns c a5 fullShare x3 ∗ owns c a6 fullShare x4 ∗ owns c a7 fullShare x5 ∗ owns c a8 fullShare x6 ∗ (∃ z, owns c a9 fullShare z) ∗ (∃ z, owns c a10 fullShare z) ∗ (∃ z, owns c a11 fullShare z) ∗ (∃ z, owns c a12 fullShare z) ∗ (∃ z, owns c a13 fullShare z) ∗ (∃ z, owns c a14 fullShare z)
        ∗ (iprop(owns c a2 fullShare x0 ∗ owns c a3 fullShare x1 ∗ owns c a4 fullShare x2 ∗ owns c a5 fullShare x3 ∗ owns c a6 fullShare x4 ∗ owns c a7 fullShare x5 ∗ owns c a8 fullShare x6 ∗ owns c a9 fullShare (k1_pay5 (bwdSt i x0 x1 x2 x3 x5 (rowD x3 x4) k1_pay18).2.1) ∗ owns c a10 fullShare (k1_pay6 (bwdSt i x0 x1 x2 x3 x5 (rowD x3 x4) k1_pay18).2.2) ∗ owns c a11 fullShare (rowD x3 x4) ∗ owns c a12 fullShare (bwdSt i x0 x1 x2 x3 x5 (rowD x3 x4) k1_pay18).1 ∗ (∃ z, owns c a13 fullShare z) ∗ (∃ z, owns c a14 fullShare z)) -∗ K ⟨⟩))
      ⊢ wp frame (wpE (defs₀ (F := F)) Variants.none c none) E (cc1_attn_bwd i a2 w2 a3 w3 a4 w4 a5 w5 a6 w6 a7 w7 a8 w8 a9 w9 a10 w10 a11 w11 a12 w12 a13 w13 a14 w14) K := by
  simp only [cc1_attn_bwd_eq_skeleton]; unfold cc1_attn_bwd_skel
  simp only [k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%z7, %f7, -, H7⟩, ⟨%z8, %f8, -, H8⟩, ⟨%z9, %f9, -, H9⟩, ⟨%z10, %f10, -, H10⟩, ⟨%z11, %f11, -, H11⟩, ⟨%z12, %f12, -, H12⟩, Hk⟩
  subst hf0; subst hf1; subst hf2; subst hf3; subst hf4; subst hf5; subst hf6
  sl_exec (disch := first | sl_exact hc0 | sl_exact hc1 | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    rw [View.read_writes_full]
    refine congrArg k1_pay5 ?_
    unfold bwdRunA.sl.v120
    rw [View.readCov, View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (rowD (a5.view.read (Elt F) f3) (a6.view.read (Elt F) f4)) (dqD i (a2.view.read (Elt F) f0) (k1_pay22 (kAll (a3.view.read (Elt F) f1))) (k1_pay23 (vAll (a4.view.read (Elt F) f2))) (a5.view.read (Elt F) f3) (a7.view.read (Elt F) f5) (rowD (a5.view.read (Elt F) f3) (a6.view.read (Elt F) f4)) (kAll (a3.view.read (Elt F) f1)) k1_pay18, dkD i (a2.view.read (Elt F) f0) (k1_pay23 (vAll (a4.view.read (Elt F) f2))) (a5.view.read (Elt F) f3) (a7.view.read (Elt F) f5) (rowD (a5.view.read (Elt F) f3) (a6.view.read (Elt F) f4)) (kAll (a3.view.read (Elt F) f1)), dvD i (a2.view.read (Elt F) f0) (a5.view.read (Elt F) f3) (a7.view.read (Elt F) f5) (kAll (a3.view.read (Elt F) f1))) rfl rfl rfl ?_ ?_ ?_ ?_).2.1
    · sl_unfold_words
      rw [View.read_writes_full]; rfl
    · rw [View.read_writes_cons_put (h := rfl)]
      refine congrArg₂ (fun a b => VecWindow.put (s := S2048x192) a (k1_off5 i) S512x192.size b) ?_ ?_
      · sl_unfold_words
        rw [View.read_writes_full]
      · sl_unfold_words
        rw [View.readAt_eq_ld a11.view, View.read_writes_full]
        rw [View.readAt_eq_ld a12.view, View.read_writes_full]
        rfl
    · sl_unfold_words
      rw [View.read_writes_full, View.readCov_full]
      rw [View.readAt_eq_ld a11.view, View.read_writes_full]
      rfl
    · sl_unfold_words
      rw [View.read_writes_full, View.readCov_full]
      rfl
  isplitl [H8]
  · iexists _; isplitr; swap; · iexact H8
    ipureintro
    rw [View.read_writes_full]
    refine congrArg k1_pay6 ?_
    unfold bwdRunA.sl.v125
    rw [View.readCov, View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (rowD (a5.view.read (Elt F) f3) (a6.view.read (Elt F) f4)) (dqD i (a2.view.read (Elt F) f0) (k1_pay22 (kAll (a3.view.read (Elt F) f1))) (k1_pay23 (vAll (a4.view.read (Elt F) f2))) (a5.view.read (Elt F) f3) (a7.view.read (Elt F) f5) (rowD (a5.view.read (Elt F) f3) (a6.view.read (Elt F) f4)) (kAll (a3.view.read (Elt F) f1)) k1_pay18, dkD i (a2.view.read (Elt F) f0) (k1_pay23 (vAll (a4.view.read (Elt F) f2))) (a5.view.read (Elt F) f3) (a7.view.read (Elt F) f5) (rowD (a5.view.read (Elt F) f3) (a6.view.read (Elt F) f4)) (kAll (a3.view.read (Elt F) f1)), dvD i (a2.view.read (Elt F) f0) (a5.view.read (Elt F) f3) (a7.view.read (Elt F) f5) (kAll (a3.view.read (Elt F) f1))) rfl rfl rfl ?_ ?_ ?_ ?_).2.2
    · sl_unfold_words
      rw [View.read_writes_full]; rfl
    · rw [View.read_writes_cons_put (h := rfl)]
      refine congrArg₂ (fun a b => VecWindow.put (s := S2048x192) a (k1_off5 i) S512x192.size b) ?_ ?_
      · sl_unfold_words
        rw [View.read_writes_full]
      · sl_unfold_words
        rw [View.readAt_eq_ld a11.view, View.read_writes_full]
        rw [View.readAt_eq_ld a12.view, View.read_writes_full]
        rfl
    · sl_unfold_words
      rw [View.read_writes_full, View.readCov_full]
      rw [View.readAt_eq_ld a11.view, View.read_writes_full]
      rfl
    · sl_unfold_words
      rw [View.read_writes_full, View.readCov_full]
      rfl
  isplitl [H9]
  · iexists _; isplitr; swap; · iexact H9
    ipureintro
    sl_unfold_words
    rw [View.read_writes_full]; rfl
  isplitl [H10]
  · iexists _; isplitr; swap; · iexact H10
    ipureintro
    rw [View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (rowD (a5.view.read (Elt F) f3) (a6.view.read (Elt F) f4)) (dqD i (a2.view.read (Elt F) f0) (k1_pay22 (kAll (a3.view.read (Elt F) f1))) (k1_pay23 (vAll (a4.view.read (Elt F) f2))) (a5.view.read (Elt F) f3) (a7.view.read (Elt F) f5) (rowD (a5.view.read (Elt F) f3) (a6.view.read (Elt F) f4)) (kAll (a3.view.read (Elt F) f1)) k1_pay18, dkD i (a2.view.read (Elt F) f0) (k1_pay23 (vAll (a4.view.read (Elt F) f2))) (a5.view.read (Elt F) f3) (a7.view.read (Elt F) f5) (rowD (a5.view.read (Elt F) f3) (a6.view.read (Elt F) f4)) (kAll (a3.view.read (Elt F) f1)), dvD i (a2.view.read (Elt F) f0) (a5.view.read (Elt F) f3) (a7.view.read (Elt F) f5) (kAll (a3.view.read (Elt F) f1))) rfl rfl rfl ?_ ?_ ?_ ?_).1
    · sl_unfold_words
      rw [View.read_writes_full]; rfl
    · rw [View.read_writes_cons_put (h := rfl)]
      refine congrArg₂ (fun a b => VecWindow.put (s := S2048x192) a (k1_off5 i) S512x192.size b) ?_ ?_
      · sl_unfold_words
        rw [View.read_writes_full]
      · sl_unfold_words
        rw [View.readAt_eq_ld a11.view, View.read_writes_full]
        rw [View.readAt_eq_ld a12.view, View.read_writes_full]
        rfl
    · sl_unfold_words
      rw [View.read_writes_full, View.readCov_full]
      rw [View.readAt_eq_ld a11.view, View.read_writes_full]
      rfl
    · sl_unfold_words
      rw [View.read_writes_full, View.readCov_full]
      rfl
  isplitl [H11]
  · iexists _; iexists _; isplitr; swap; · iexact H11
    ipureintro; rfl
  iexists _; iexists _; isplitr; swap; · iexact H12
  ipureintro; rfl

set_option maxHeartbeats 4000000 in
/-- The backward body at a head's middle points. -/
theorem bwdRunB (c : Dev nD) (i : grid1.Coords) (a2 : Memref sig .tc .vmem S1x2048x192 .bf16) (w2 : a2.IsWhole) (a3 : Memref sig .tc .vmem S1x512x192 .bf16) (w3 : a3.IsWhole) (a4 : Memref sig .tc .vmem S1x512x128 .bf16) (w4 : a4.IsWhole) (a5 : Memref sig .tc .vmem S2048x128 .bf16) (w5 : a5.IsWhole) (a6 : Memref sig .tc .vmem S2048x128 .bf16) (w6 : a6.IsWhole) (a7 : Memref sig .tc .vmem S1x2048x1 .f32) (w7 : a7.IsWhole) (a8 : Memref sig .tc .vmem S1x2048x192 .bf16) (w8 : a8.IsWhole) (a9 : Memref sig .tc .vmem S1x512x192 .bf16) (w9 : a9.IsWhole) (a10 : Memref sig .tc .vmem S1x512x128 .bf16) (w10 : a10.IsWhole) (a11 : Memref sig .tc .vmem S2048x1 .f32) (w11 : a11.IsWhole) (a12 : Memref sig .tc .vmem S2048x192 .f32) (w12 : a12.IsWhole) (a13 : Memref sig .tc .vmem S512x192 .f32) (w13 : a13.IsWhole) (a14 : Memref sig .tc .vmem S512x128 .f32) (w14 : a14.IsWhole)
    (hc0 : ¬(Scalar.cmpi .ne (Scalar.extui (Scalar.cmpi .eq (BitVec.ofNat 32 (i 1).val) 0#32) : BitVec 32) 0#32 = 1#1)) (hc1 : ¬k1_cond2 i = 1#1)
    (x0 : Vec F S1x2048x192 .bf16) (x1 : Vec F S1x512x192 .bf16) (x2 : Vec F S1x512x128 .bf16) (x3 x4 : Vec F S2048x128 .bf16) (x5 : Vec F S1x2048x1 .f32) (x6 : Vec F S1x2048x192 .bf16) (d : Vec F S2048x1 .f32) (dq : Vec F S2048x192 .f32) (E : Set ℕ) (K : PUnit → sProp 𝕄) :
    iprop(owns c a2 fullShare x0 ∗ owns c a3 fullShare x1 ∗ owns c a4 fullShare x2 ∗ owns c a5 fullShare x3 ∗ owns c a6 fullShare x4 ∗ owns c a7 fullShare x5 ∗ owns c a8 fullShare x6 ∗ (∃ z, owns c a9 fullShare z) ∗ (∃ z, owns c a10 fullShare z) ∗ owns c a11 fullShare d ∗ owns c a12 fullShare dq ∗ (∃ z, owns c a13 fullShare z) ∗ (∃ z, owns c a14 fullShare z)
        ∗ (iprop(owns c a2 fullShare x0 ∗ owns c a3 fullShare x1 ∗ owns c a4 fullShare x2 ∗ owns c a5 fullShare x3 ∗ owns c a6 fullShare x4 ∗ owns c a7 fullShare x5 ∗ owns c a8 fullShare x6 ∗ owns c a9 fullShare (k1_pay5 (bwdSt i x0 x1 x2 x3 x5 d dq).2.1) ∗ owns c a10 fullShare (k1_pay6 (bwdSt i x0 x1 x2 x3 x5 d dq).2.2) ∗ owns c a11 fullShare d ∗ owns c a12 fullShare (bwdSt i x0 x1 x2 x3 x5 d dq).1 ∗ (∃ z, owns c a13 fullShare z) ∗ (∃ z, owns c a14 fullShare z)) -∗ K ⟨⟩))
      ⊢ wp frame (wpE (defs₀ (F := F)) Variants.none c none) E (cc1_attn_bwd i a2 w2 a3 w3 a4 w4 a5 w5 a6 w6 a7 w7 a8 w8 a9 w9 a10 w10 a11 w11 a12 w12 a13 w13 a14 w14) K := by
  simp only [cc1_attn_bwd_eq_skeleton]; unfold cc1_attn_bwd_skel
  simp only [k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%z7, %f7, -, H7⟩, ⟨%z8, %f8, -, H8⟩, ⟨%f9, %hf9, H9⟩, ⟨%f10, %hf10, H10⟩, ⟨%z11, %f11, -, H11⟩, ⟨%z12, %f12, -, H12⟩, Hk⟩
  subst hf0; subst hf1; subst hf2; subst hf3; subst hf4; subst hf5; subst hf6; subst hf9; subst hf10
  sl_exec (disch := first | sl_exact hc0 | sl_exact hc1 | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    rw [View.read_writes_full]
    refine congrArg k1_pay5 ?_
    unfold bwdRunB.sl.v120
    rw [View.readCov, View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).2.1
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H8]
  · iexists _; isplitr; swap; · iexact H8
    ipureintro
    rw [View.read_writes_full]
    refine congrArg k1_pay6 ?_
    unfold bwdRunB.sl.v125
    rw [View.readCov, View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).2.2
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H9]
  · iexists _; isplitr; swap; · iexact H9
    ipureintro
    rfl
  isplitl [H10]
  · iexists _; isplitr; swap; · iexact H10
    ipureintro
    rw [View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).1
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H11]
  · iexists _; iexists _; isplitr; swap; · iexact H11
    ipureintro; rfl
  iexists _; iexists _; isplitr; swap; · iexact H12
  ipureintro; rfl

set_option maxHeartbeats 4000000 in
/-- The backward body at a head's last point. -/
theorem bwdRunC (c : Dev nD) (i : grid1.Coords) (a2 : Memref sig .tc .vmem S1x2048x192 .bf16) (w2 : a2.IsWhole) (a3 : Memref sig .tc .vmem S1x512x192 .bf16) (w3 : a3.IsWhole) (a4 : Memref sig .tc .vmem S1x512x128 .bf16) (w4 : a4.IsWhole) (a5 : Memref sig .tc .vmem S2048x128 .bf16) (w5 : a5.IsWhole) (a6 : Memref sig .tc .vmem S2048x128 .bf16) (w6 : a6.IsWhole) (a7 : Memref sig .tc .vmem S1x2048x1 .f32) (w7 : a7.IsWhole) (a8 : Memref sig .tc .vmem S1x2048x192 .bf16) (w8 : a8.IsWhole) (a9 : Memref sig .tc .vmem S1x512x192 .bf16) (w9 : a9.IsWhole) (a10 : Memref sig .tc .vmem S1x512x128 .bf16) (w10 : a10.IsWhole) (a11 : Memref sig .tc .vmem S2048x1 .f32) (w11 : a11.IsWhole) (a12 : Memref sig .tc .vmem S2048x192 .f32) (w12 : a12.IsWhole) (a13 : Memref sig .tc .vmem S512x192 .f32) (w13 : a13.IsWhole) (a14 : Memref sig .tc .vmem S512x128 .f32) (w14 : a14.IsWhole)
    (hc0 : ¬(Scalar.cmpi .ne (Scalar.extui (Scalar.cmpi .eq (BitVec.ofNat 32 (i 1).val) 0#32) : BitVec 32) 0#32 = 1#1)) (hc1 : k1_cond2 i = 1#1)
    (x0 : Vec F S1x2048x192 .bf16) (x1 : Vec F S1x512x192 .bf16) (x2 : Vec F S1x512x128 .bf16) (x3 x4 : Vec F S2048x128 .bf16) (x5 : Vec F S1x2048x1 .f32) (d : Vec F S2048x1 .f32) (dq : Vec F S2048x192 .f32) (E : Set ℕ) (K : PUnit → sProp 𝕄) :
    iprop(owns c a2 fullShare x0 ∗ owns c a3 fullShare x1 ∗ owns c a4 fullShare x2 ∗ owns c a5 fullShare x3 ∗ owns c a6 fullShare x4 ∗ owns c a7 fullShare x5 ∗ (∃ z, owns c a8 fullShare z) ∗ (∃ z, owns c a9 fullShare z) ∗ (∃ z, owns c a10 fullShare z) ∗ owns c a11 fullShare d ∗ owns c a12 fullShare dq ∗ (∃ z, owns c a13 fullShare z) ∗ (∃ z, owns c a14 fullShare z)
        ∗ (iprop(owns c a2 fullShare x0 ∗ owns c a3 fullShare x1 ∗ owns c a4 fullShare x2 ∗ owns c a5 fullShare x3 ∗ owns c a6 fullShare x4 ∗ owns c a7 fullShare x5 ∗ owns c a8 fullShare (k1_pay7 (bwdSt i x0 x1 x2 x3 x5 d dq).1) ∗ owns c a9 fullShare (k1_pay5 (bwdSt i x0 x1 x2 x3 x5 d dq).2.1) ∗ owns c a10 fullShare (k1_pay6 (bwdSt i x0 x1 x2 x3 x5 d dq).2.2) ∗ owns c a11 fullShare d ∗ owns c a12 fullShare (bwdSt i x0 x1 x2 x3 x5 d dq).1 ∗ (∃ z, owns c a13 fullShare z) ∗ (∃ z, owns c a14 fullShare z)) -∗ K ⟨⟩))
      ⊢ wp frame (wpE (defs₀ (F := F)) Variants.none c none) E (cc1_attn_bwd i a2 w2 a3 w3 a4 w4 a5 w5 a6 w6 a7 w7 a8 w8 a9 w9 a10 w10 a11 w11 a12 w12 a13 w13 a14 w14) K := by
  simp only [cc1_attn_bwd_eq_skeleton]; unfold cc1_attn_bwd_skel
  simp only [k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%z6, %f6, -, H6⟩, ⟨%z7, %f7, -, H7⟩, ⟨%z8, %f8, -, H8⟩, ⟨%f9, %hf9, H9⟩, ⟨%f10, %hf10, H10⟩, ⟨%z11, %f11, -, H11⟩, ⟨%z12, %f12, -, H12⟩, Hk⟩
  subst hf0; subst hf1; subst hf2; subst hf3; subst hf4; subst hf5; subst hf9; subst hf10
  sl_exec (disch := first | sl_exact hc0 | sl_exact hc1 | exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    rw [View.read_writes_full]
    refine congrArg k1_pay7 ?_
    unfold bwdRunC.sl.v133
    rw [View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).1
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H7]
  · iexists _; isplitr; swap; · iexact H7
    ipureintro
    rw [View.read_writes_full]
    refine congrArg k1_pay5 ?_
    unfold bwdRunC.sl.v120
    rw [View.readCov, View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).2.1
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H8]
  · iexists _; isplitr; swap; · iexact H8
    ipureintro
    rw [View.read_writes_full]
    refine congrArg k1_pay6 ?_
    unfold bwdRunC.sl.v125
    rw [View.readCov, View.readAt_full, View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).2.2
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H9]
  · iexists _; isplitr; swap; · iexact H9
    ipureintro
    rfl
  isplitl [H10]
  · iexists _; isplitr; swap; · iexact H10
    ipureintro
    rw [View.writes_append, View.writes_append]
    refine (ends _ _ _ _ _ _ _ _ _ _ _ _ _ _ _ _ _ _ _ _ _ _ _ _ _ _ _ _ _ _ _ _ _ _ _ _ _ _ _ _ _ _ _ _ _ _ _ _ _ _ (a2.view.read (Elt F) f0) (a5.view.read (Elt F) f3) (a7.view.read (Elt F) f5) (a11.view.read (Elt F) f9) (dqD i (a2.view.read (Elt F) f0) (k1_pay22 (kAll (a3.view.read (Elt F) f1))) (k1_pay23 (vAll (a4.view.read (Elt F) f2))) (a5.view.read (Elt F) f3) (a7.view.read (Elt F) f5) (a11.view.read (Elt F) f9) (kAll (a3.view.read (Elt F) f1)) (a12.view.read (Elt F) f10), dkD i (a2.view.read (Elt F) f0) (k1_pay23 (vAll (a4.view.read (Elt F) f2))) (a5.view.read (Elt F) f3) (a7.view.read (Elt F) f5) (a11.view.read (Elt F) f9) (kAll (a3.view.read (Elt F) f1)), dvD i (a2.view.read (Elt F) f0) (a5.view.read (Elt F) f3) (a7.view.read (Elt F) f5) (kAll (a3.view.read (Elt F) f1))) rfl rfl rfl ?_ ?_ ?_ ?_).1
    · rfl
    · rw [View.read_writes_cons_put (h := rfl)]
      refine congrArg₂ (fun a b => VecWindow.put (s := S2048x192) a (k1_off5 i) S512x192.size b) ?_ ?_
      · rfl
      · sl_unfold_words
        rfl
    · sl_unfold_words
      rw [View.read_writes_full, View.readCov_full]
      rfl
    · sl_unfold_words
      rw [View.read_writes_full, View.readCov_full]
      rfl
  isplitl [H11]
  · iexists _; iexists _; isplitr; swap; · iexact H11
    ipureintro; rfl
  iexists _; iexists _; isplitr; swap; · iexact H12
  ipureintro; rfl

end Cert.KernelIdeal.Hand

end
-- ==== Proof.BwdDat.lean ====
module

public import proofs.«01_k».proof.Proof.BwdRun
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- When a branch of the body is taken, in the number of the point. -/
theorem cond1_0 : ∀ t : Fin cfg1.N, Scalar.cmpi .ne (Scalar.extui (Scalar.cmpi .eq (BitVec.ofNat 32 (grid1.coords t 1).val) 0#32) : BitVec 32) 0#32 = 1#1 ↔ t.val % 4 = 0 :=
  (fun t => by
    have ht : t.val < 64 := Nat.lt_of_lt_of_eq t.isLt N_1
    have e1 : (grid1.coords t 1).val = t.val / 1 % 4 := Pipeline.Grid.coords_val t 1 (by decide) rfl
    simp only [e1]
    word_cmp : ∀ t : Fin grid1.N, Scalar.cmpi .ne (Scalar.extui (Scalar.cmpi .eq (BitVec.ofNat 32 (grid1.coords t 1).val) 0#32) : BitVec 32) 0#32 = 1#1 ↔ t.val % 4 = 0)

/-- When a branch of the body is taken, in the number of the point. -/
theorem cond1_3 : ∀ t : Fin cfg1.N, k1_cond2 (grid1.coords t) = 1#1 ↔ t.val % 4 = 3 :=
  (fun t => by
    have ht : t.val < 64 := Nat.lt_of_lt_of_eq t.isLt N_1
    have e1 : (grid1.coords t 1).val = t.val / 1 % 4 := Pipeline.Grid.coords_val t 1 (by decide) rfl
    simp only [k1_cond2, e1]
    word_cmp : ∀ t : Fin grid1.N, k1_cond2 (grid1.coords t) = 1#1 ↔ t.val % 4 = 3)

/-- The grid point of a number. -/
def pt (n : ℕ) : Fin cfg1.N := ⟨n % 64, Nat.lt_of_lt_of_eq (Nat.mod_lt _ (by decide)) N_1.symm⟩

theorem pt_val (t : Fin cfg1.N) : pt t.val = t :=
  Fin.ext (Nat.mod_eq_of_lt (Nat.lt_of_lt_of_eq t.isLt N_1))

/-- The row products and the running gradient of the queries a point works on: fresh at a head's first point, else as carried. -/
def pIn (c : Dev nD) (n : ℕ) (s : Vec F S2048x1 .f32 × Vec F S2048x192 .f32) : Vec F S2048x1 .f32 × Vec F S2048x192 .f32 :=
  if n % 4 = 0 then (rowD (iblk1 V c 3 (pt n)) (iblk1 V c 4 (pt n)), k1_pay18) else s

/-- What a point computes from the row products and running gradient it works on. -/
def ptOut (c : Dev nD) (t : Fin cfg1.N) (p : Vec F S2048x1 .f32 × Vec F S2048x192 .f32) : Vec F S2048x192 .f32 × Vec F S512x192 .f32 × Vec F S512x128 .f32 :=
  bwdSt (grid1.coords t) (iblk1 V c 0 t) (iblk1 V c 1 t) (iblk1 V c 2 t) (iblk1 V c 3 t) (iblk1 V c 5 t) p.1 p.2

/-- The carried row products and running gradient of the queries before a point. -/
def stB (c : Dev nD) : ℕ → Vec F S2048x1 .f32 × Vec F S2048x192 .f32
  | 0 => (rowD (iblk1 V c 3 (pt 0)) (iblk1 V c 4 (pt 0)), k1_pay18)
  | n + 1 => ((pIn V c n (stB c n)).1, (ptOut V c (pt n) (pIn V c n (stB c n))).1)

/-- What a point computes, from the launch on. -/
def outAt (c : Dev nD) (t : Fin cfg1.N) : Vec F S2048x192 .f32 × Vec F S512x192 .f32 × Vec F S512x128 .f32 :=
  ptOut V c t (pIn V c t.val (stB V c t.val))

/-- The call's own scratch between points: the row products and the running gradient as carried (inside a head), the two block accumulators at anything. -/
def carry (c : Dev nD) (n : ℕ) : sProp 𝕄 :=
  iprop((∃ d : Vec F S2048x1 .f32, ∃ q : Vec F S2048x192 .f32, ⌜n % 4 ≠ 0 → d = (stB V c n).1 ∧ q = (stB V c n).2⌝
      ∗ owns (c : Thread nD τ) (Memref.whole cc1_scratch0) fullShare d ∗ owns (c : Thread nD τ) (Memref.whole cc1_scratch1) fullShare q)
    ∗ (∃ z, owns (c : Thread nD τ) (Memref.whole cc1_scratch2) fullShare z) ∗ (∃ z, owns (c : Thread nD τ) (Memref.whole cc1_scratch3) fullShare z)
    ∗ Pipeline.scopedRestBut (Ix := Unit) (Name := ℕ) (U := UR sig nD τ) (Lvl := ℕ) (Val := Elt F) spec1 c [cc1_scratch0, cc1_scratch1, cc1_scratch2, cc1_scratch3])

/-- The scoped buffers outside the windows: the call's scratch, and the rest. -/
theorem rest1_split (c : Dev nD) :
    (Pipeline.scopedRest (Ix := Unit) (Name := ℕ) (U := UR sig nD τ) (Lvl := ℕ) (Val := Elt F) spec1 c : sProp 𝕄)
      = iprop(((∃ z, owns (c : Thread nD τ) (Memref.whole cc1_scratch0) fullShare z) ∗ (∃ z, owns (c : Thread nD τ) (Memref.whole cc1_scratch1) fullShare z)
          ∗ (∃ z, owns (c : Thread nD τ) (Memref.whole cc1_scratch2) fullShare z) ∗ (∃ z, owns (c : Thread nD τ) (Memref.whole cc1_scratch3) fullShare z))
        ∗ Pipeline.scopedRestBut (Ix := Unit) (Name := ℕ) (U := UR sig nD τ) (Lvl := ℕ) (Val := Elt F) spec1 c [cc1_scratch0, cc1_scratch1, cc1_scratch2, cc1_scratch3]) := by
  rw [Pipeline.scopedRest_split_of_list spec1 c [cc1_scratch0, cc1_scratch1, cc1_scratch2, cc1_scratch3] (by decide) (by decide)]
  simp only [owns_whole]
  rfl

/-- The scoped rest carries the scratch at a head's first point. -/
theorem carry_of_rest (c : Dev nD) (n : ℕ) (hn : n % 4 = 0) :
    (Pipeline.scopedRest (Ix := Unit) (Name := ℕ) (U := UR sig nD τ) (Lvl := ℕ) (Val := Elt F) spec1 c : sProp 𝕄) ⊢ carry V c n := by
  rw [rest1_split]; unfold carry
  iintro ⟨⟨⟨%d, Hd⟩, ⟨%q, Hq⟩, H2, H3⟩, Hr⟩
  isplitl [Hd Hq]
  · iexists d; iexists q; isplitr
    · ipureintro; exact fun h => absurd hn h
    isplitl [Hd]; · iexact Hd
    iexact Hq
  isplitl [H2]; · iexact H2
  isplitl [H3]; · iexact H3
  iexact Hr

/-- The carried scratch is the scoped rest. -/
theorem rest_of_carry (c : Dev nD) (n : ℕ) :
    carry V c n ⊢ (Pipeline.scopedRest (Ix := Unit) (Name := ℕ) (U := UR sig nD τ) (Lvl := ℕ) (Val := Elt F) spec1 c : sProp 𝕄) := by
  rw [rest1_split]; unfold carry
  iintro ⟨⟨%d, %q, -, Hd, Hq⟩, H2, H3, Hr⟩
  isplitr [Hr]
  · isplitl [Hd]; · iexists d; iexact Hd
    isplitl [Hq]; · iexists q; iexact Hq
    isplitl [H2]; · iexact H2
    iexact H3
  iexact Hr

/-- The proof data of the backward call from entry contents. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay7 (outAt V c t).1
    | ⟨7, _⟩ => k1_pay5 (outAt V c t).2.1
    | ⟨8, _⟩ => k1_pay6 (outAt V c t).2.2
  Φ t := carry V c t.val
  q _ := fullShare
  owed _ := 0

theorem after1_0 (c : Dev nD) (t : Fin cfg1.N) : (dat1 V c).after 0 t = iblk1 V c 0 t := by dsimp only [dat1]
/-- Input window 0's buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rfl) t d).trans (by unfold Dat.fetched Dat.blockOf iblk1; rfl)

theorem after1_1 (c : Dev nD) (t : Fin cfg1.N) : (dat1 V c).after 1 t = iblk1 V c 1 t := by dsimp only [dat1]
/-- Input window 1's buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rfl) t d).trans (by unfold Dat.fetched Dat.blockOf iblk1; rfl)

theorem after1_2 (c : Dev nD) (t : Fin cfg1.N) : (dat1 V c).after 2 t = iblk1 V c 2 t := by dsimp only [dat1]
/-- Input window 2's buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rfl) t d).trans (by unfold Dat.fetched Dat.blockOf iblk1; rfl)

theorem after1_3 (c : Dev nD) (t : Fin cfg1.N) : (dat1 V c).after 3 t = iblk1 V c 3 t := by dsimp only [dat1]
/-- Input window 3's buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rfl) t d).trans (by unfold Dat.fetched Dat.blockOf iblk1; rfl)

theorem after1_4 (c : Dev nD) (t : Fin cfg1.N) : (dat1 V c).after 4 t = iblk1 V c 4 t := by dsimp only [dat1]
/-- Input window 4's buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rfl) t d).trans (by unfold Dat.fetched Dat.blockOf iblk1; rfl)

theorem after1_5 (c : Dev nD) (t : Fin cfg1.N) : (dat1 V c).after 5 t = iblk1 V c 5 t := by dsimp only [dat1]
/-- Input window 5's buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rfl) t d).trans (by unfold Dat.fetched Dat.blockOf iblk1; rfl)

theorem after1_6 (c : Dev nD) (t : Fin cfg1.N) : (dat1 V c).after 6 t = k1_pay7 (outAt V c t).1 := by dsimp only [dat1]
theorem after1_7 (c : Dev nD) (t : Fin cfg1.N) : (dat1 V c).after 7 t = k1_pay5 (outAt V c t).2.1 := by dsimp only [dat1]
theorem after1_8 (c : Dev nD) (t : Fin cfg1.N) : (dat1 V c).after 8 t = k1_pay6 (outAt V c t).2.2 := by dsimp only [dat1]

/-- The body table's row at a point is the backward body there. -/
theorem row1 (t : Fin cfg1.N) : defs₀ (F := F) .tc cfg1.body (cfg1.bodyArgs t (cfg1.slots t)) = bodyAt1 t := by
  unfold defs₀; rw [Defs.onTc_tc]

/-- What the body is called with at a point. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns. -/
def post1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t)

/-- The carried pair after a point. -/
theorem stB_succ (c : Dev nD) (t : Fin cfg1.N) : stB V c (t.val + 1) = ((pIn V c t.val (stB V c t.val)).1, (outAt V c t).1) := by
  show (_, (ptOut V c (pt t.val) _).1) = _
  rw [pt_val]; rfl

/-- At a head's first point the row products and the zero accumulator are made afresh. -/
theorem outAt_first (c : Dev nD) (t : Fin cfg1.N) (h : t.val % 4 = 0) :
    pIn V c t.val (stB V c t.val) = (rowD (iblk1 V c 3 t) (iblk1 V c 4 t), k1_pay18) := by
  unfold pIn; rw [if_pos h, pt_val]

/-- At a head's later points they are the carried ones. -/
theorem outAt_later (c : Dev nD) (t : Fin cfg1.N) (h : t.val % 4 ≠ 0) : pIn V c t.val (stB V c t.val) = stB V c t.val := by
  unfold pIn; rw [if_neg h]

/-- The query gradient's buffer is left alone away from a head's last point. -/
theorem leaves6_idle (c : Dev nD) (t : Fin cfg1.N) (h : t.val % 4 ≠ 3) :
    (dat1 V c).leavesExact 6 t = iprop(∃ d, owns (c : Thread nD τ) (st1_6 t) fullShare ((dat1 V c).before 6 t d)) := by
  have hf : (cfg1.win 6).flush t = false := Bool.eq_false_iff.mpr fun hf => h ((flush1_6 t).mp hf)
  have hi : cfg1.idle 6 (cfg1.grid.coords t) = true := by
    show (!(k1_cond2 (grid1.coords t) == 1#1)) = true
    rw [Bool.not_eq_true', beq_eq_false_iff_ne]; exact fun hc => h ((cond1_3 t).mp hc)
  unfold Dat.leavesExact; rw [hf, hi]

/-- At a head's last point it holds the finished gradient. -/
theorem leaves6_live (c : Dev nD) (t : Fin cfg1.N) (h : t.val % 4 = 3) :
    (dat1 V c).leavesExact 6 t = owns (c : Thread nD τ) (st1_6 t) fullShare (k1_pay7 (outAt V c t).1) := by
  have hf : (cfg1.win 6).flush t = true := (flush1_6 t).mpr h
  rw [← after1_6]
  unfold Dat.leavesExact; rw [hf]; cases cfg1.idle 6 (cfg1.grid.coords t) <;> rfl

set_option maxHeartbeats 2000000 in
/-- The backward body at any point, from the windows' buffers and the carried scratch to the same. -/
theorem sound1 (c : Dev nD) (t : Fin cfg1.N) :
    pre1 V c t ⊢ wp frame (wpE (defs₀ (F := F)) Variants.none c none) Set.univ (bodyAt1 t) (fun _ => post1 V c t) := by
  unfold pre1 post1
  simp only [before1_0, before1_1, before1_2, before1_3, before1_4, before1_5]
  have l0 : (dat1 V c).leavesExact 0 t = owns (c : Thread nD τ) (st1_0 t) fullShare ((dat1 V c).after 0 t) := rfl
  have l1 : (dat1 V c).leavesExact 1 t = owns (c : Thread nD τ) (st1_1 t) fullShare ((dat1 V c).after 1 t) := rfl
  have l2 : (dat1 V c).leavesExact 2 t = owns (c : Thread nD τ) (st1_2 t) fullShare ((dat1 V c).after 2 t) := rfl
  have l3 : (dat1 V c).leavesExact 3 t = owns (c : Thread nD τ) (st1_3 t) fullShare ((dat1 V c).after 3 t) := rfl
  have l4 : (dat1 V c).leavesExact 4 t = owns (c : Thread nD τ) (st1_4 t) fullShare ((dat1 V c).after 4 t) := rfl
  have l5 : (dat1 V c).leavesExact 5 t = owns (c : Thread nD τ) (st1_5 t) fullShare ((dat1 V c).after 5 t) := rfl
  have l7 : (dat1 V c).leavesExact 7 t = owns (c : Thread nD τ) (st1_7 t) fullShare ((dat1 V c).after 7 t) := rfl
  have l8 : (dat1 V c).leavesExact 8 t = owns (c : Thread nD τ) (st1_8 t) fullShare ((dat1 V c).after 8 t) := rfl
  rw [l0, l1, l2, l3, l4, l5, l7, l8, after1_0, after1_1, after1_2, after1_3, after1_4, after1_5, after1_7, after1_8,
    show (dat1 V c).Φ t.castSucc = carry V c t.val from rfl, show (dat1 V c).Φ t.succ = carry V c (t.val + 1) from rfl,
    show (dat1 V c).owesAt () t.succ = (dat1 V c).owesAt () t.castSucc from rfl]
  unfold carry
  have hst := stB_succ V c t
  have ho : ∀ p, pIn V c t.val (stB V c t.val) = p → outAt V c t = bwdSt (grid1.coords t) (iblk1 V c 0 t) (iblk1 V c 1 t) (iblk1 V c 2 t) (iblk1 V c 3 t) (iblk1 V c 5 t) p.1 p.2 := by
    intro p hp; unfold outAt ptOut; rw [hp]
  iintro ⟨⟨⟨%d, %q, %hc, Hd, Hq⟩, H2s, H3s, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have g0 := cond1_0 t
  have g3 := cond1_3 t
  rcases (by omega : t.val % 4 = 0 ∨ (t.val % 4 ≠ 0 ∧ t.val % 4 ≠ 3) ∨ t.val % 4 = 3) with h | ⟨h, h'⟩ | h
  · have e1 := outAt_first V c t h
    have e := ho _ e1
    rw [leaves6_idle V c t (by omega), e]
    rw [e, e1] at hst
    iapply (bwdRunA c (grid1.coords t) (st1_0 t) _ (st1_1 t) _ (st1_2 t) _ (st1_3 t) _ (st1_4 t) _ (st1_5 t) _ (st1_6 t) _ (st1_7 t) _ (st1_8 t) _ _ _ _ _ _ _ _ _ (g0.mpr h) (fun hh => absurd (g3.mp hh) (by omega)) (iblk1 V c 0 t) (iblk1 V c 1 t) (iblk1 V c 2 t) (iblk1 V c 3 t) (iblk1 V c 4 t) (iblk1 V c 5 t) ((dat1 V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hd]; · iexists _; iexact Hd
    isplitl [Hq]; · iexists _; iexact Hq
    isplitl [H2s]; · iexact H2s
    isplitl [H3s]; · iexact H3s
    iintro ⟨H0, H1, H2, H3, H4, H5, H6, H7, H8, Hd, Hq, H2s, H3s⟩
    isplitl [Hd Hq H2s H3s Hr]
    · isplitl [Hd Hq]
      · iexists _; iexists _; isplitr
        rotate_left
        · isplitl [Hd]
          · iexact Hd
          iexact Hq
        ipureintro; exact fun _ => by rw [hst]; exact ⟨rfl, rfl⟩
      isplitl [H2s]; · iexact H2s
      isplitl [H3s]; · iexact H3s
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    iexact H8
  · have e1 := outAt_later V c t h
    have e := ho _ e1
    obtain ⟨hd, hq⟩ := hc h
    subst hd; subst hq
    rw [leaves6_idle V c t h', e]
    rw [e, e1] at hst
    iapply (bwdRunB c (grid1.coords t) (st1_0 t) _ (st1_1 t) _ (st1_2 t) _ (st1_3 t) _ (st1_4 t) _ (st1_5 t) _ (st1_6 t) _ (st1_7 t) _ (st1_8 t) _ _ _ _ _ _ _ _ _ (fun hh => h (g0.mp hh)) (fun hh => h' (g3.mp hh)) (iblk1 V c 0 t) (iblk1 V c 1 t) (iblk1 V c 2 t) (iblk1 V c 3 t) (iblk1 V c 4 t) (iblk1 V c 5 t) ((dat1 V c).before 6 t d6) (stB V c t.val).1 (stB V c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hd]; · iexact Hd
    isplitl [Hq]; · iexact Hq
    isplitl [H2s]; · iexact H2s
    isplitl [H3s]; · iexact H3s
    iintro ⟨H0, H1, H2, H3, H4, H5, H6, H7, H8, Hd, Hq, H2s, H3s⟩
    isplitl [Hd Hq H2s H3s Hr]
    · isplitl [Hd Hq]
      · iexists _; iexists _; isplitr
        rotate_left
        · isplitl [Hd]
          · iexact Hd
          iexact Hq
        ipureintro; exact fun _ => by rw [hst]; exact ⟨rfl, rfl⟩
      isplitl [H2s]; · iexact H2s
      isplitl [H3s]; · iexact H3s
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    iexact H8
  · have h0 : t.val % 4 ≠ 0 := by omega
    have e1 := outAt_later V c t h0
    have e := ho _ e1
    obtain ⟨hd, hq⟩ := hc h0
    subst hd; subst hq
    rw [leaves6_live V c t h, e]
    rw [e, e1] at hst
    iapply (bwdRunC c (grid1.coords t) (st1_0 t) _ (st1_1 t) _ (st1_2 t) _ (st1_3 t) _ (st1_4 t) _ (st1_5 t) _ (st1_6 t) _ (st1_7 t) _ (st1_8 t) _ _ _ _ _ _ _ _ _ (fun hh => h0 (g0.mp hh)) (g3.mpr h) (iblk1 V c 0 t) (iblk1 V c 1 t) (iblk1 V c 2 t) (iblk1 V c 3 t) (iblk1 V c 4 t) (iblk1 V c 5 t) (stB V c t.val).1 (stB V c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [Hd]; · iexact Hd
    isplitl [Hq]; · iexact Hq
    isplitl [H2s]; · iexact H2s
    isplitl [H3s]; · iexact H3s
    iintro ⟨H0, H1, H2, H3, H4, H5, H6, H7, H8, Hd, Hq, H2s, H3s⟩
    isplitl [Hd Hq H2s H3s Hr]
    · isplitl [Hd Hq]
      · iexists _; iexists _; isplitr
        rotate_left
        · isplitl [Hd]
          · iexact Hd
          iexact Hq
        ipureintro; exact fun _ => by rw [hst]; exact ⟨rfl, rfl⟩
      isplitl [H2s]; · iexact H2s
      isplitl [H3s]; · iexact H3s
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The backward call's body obligation. -/
theorem body1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Hand

end
-- ==== Proof.Run.lean ====
module

public import proofs.«01_k».proof.Proof.FwdDat
public import proofs.«01_k».proof.Proof.BwdDat
public import Idealize.ShloMosaic.Lib.Pipeline.FrameTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The pipelines' tables: neither call has one. -/
abbrev adm : (p : Fin 2) → (pcfgs (F := F) p).Adm := fun p => (cfgs p).toPCfg_adm
/-- No core owes another anything: no level is assigned. -/
abbrev L : GSem nD τ sig → Finset Unit := fun _ => ∅
abbrev lv : GSem nD τ sig → Unit → ℕ := fun _ _ => 0

/-- Every unscoped buffer at launch. -/
abbrev W0 (c : Dev nD) : Valuation τ sig (Elt F) := StableHlo.launchContents m c
/-- The forward call's proof data from the launch. -/
abbrev fwd (c : Dev nD) : Dat τ (Elt F) Unit ℕ (UR sig nD τ) ℕ cfg0 c := dat0 (fun c b => W0 m c (Proc.devRef .tc b)) c
/-- Every unscoped buffer after the forward call. -/
abbrev W1 (c : Dev nD) : Valuation τ sig (Elt F) := Pipeline.afterRegion (fwd m c) (W0 m c)
/-- The backward call's proof data after the forward call. -/
abbrev bwd (c : Dev nD) : Dat τ (Elt F) Unit ℕ (UR sig nD τ) ℕ cfg1 c := dat1 (fun c b => W1 m c (Proc.devRef .tc b)) c
/-- Every unscoped buffer at the end. -/
abbrev W2 (c : Dev nD) : Valuation τ sig (Elt F) := Pipeline.afterRegion (bwd m c) (W1 m c)

/-- Both calls' proof data. -/
def pdats : (p : Fin 2) → (c : Dev nD) → Dat τ (Elt F) Unit ℕ (UR sig nD τ) ℕ (Pipeline.pin (pcfgs (F := F)) adm p) c
  | ⟨0, _⟩ => fun c => fwd m c
  | ⟨1, _⟩ => fun c => bwd m c

-- `iapply` of a launch lemma stated over the pinned configuration unifies only when plain definitions may be unfolded in a metavariable's type
set_option backward.isDefEq.respectTransparency.types false in
/-- Call 0 over the thread state: entered with every unscoped buffer at its contents before, left with the call's arrays as its proof data compute them and every other buffer unchanged. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body0 (fun c b => W0 m c (Proc.devRef .tc b)) c).loose
  hwaits := Pipeline.hwaits_of_owed_zero _ _ _ _ L lv 0 fun _ _ => rfl
  pre c := iprop(StableHlo.held (c.tc : Thread nD τ) (Pipeline.ucRefs τ sig) (W0 m c) ∗ ∃ W, owes (c : Thread nD τ) (0 : CellTallies nD τ sig Unit) W)
  post c := iprop(StableHlo.held (c.tc : Thread nD τ) (Pipeline.ucRefs τ sig) (W1 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => W0 m c (Proc.devRef .tc b))
  hentry c := by
    rw [Pipeline.ownSems0_none, show StableHlo.held (c.tc : Thread nD τ) (Pipeline.ucRefs τ sig) (W0 m c) = unscopedBufs c (fun b => W0 m c (Proc.devRef .tc b))
            from (Pipeline.unscopedBufs_held (Ix := Unit) (Name := ℕ) (U := UR sig nD τ) (Lvl := ℕ) c (W0 m c)).symm]
    have hsplit := Pipeline.arrays_of_unscopedBufs (p := 0) (pcfgs (F := F)) adm (pdats m) launch0.win launch0.arr_whole c
      ((pdats m 0 c).share_full fun _ => rfl) (fun b => W0 m c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none]
    rw [show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => W0 m c (Proc.devRef .tc b)) (fun b => W1 m c (Proc.devRef .tc b)) ((pdats m 0 c).arrAt · cfg0.N)
      (fun w => (Pipeline.afterRegion_arr (pdats m 0 c) (W0 m c) launch0.win.arr_inj w).symm)
      (fun b hb => Pipeline.afterRegion_of_not_arr (pdats m 0 c) (W0 m c)
            fun w h => hb (h ▸ Finset.mem_image.mpr ⟨w, Finset.mem_univ _, rfl⟩))
    rw [show StableHlo.held (c.tc : Thread nD τ) (Pipeline.ucRefs τ sig) (W1 m c) = unscopedBufs c (fun b => W1 m c (Proc.devRef .tc b))
            from (Pipeline.unscopedBufs_held (Ix := Unit) (Name := ℕ) (U := UR sig nD τ) (Lvl := ℕ) c (W1 m c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a launch lemma stated over the pinned configuration unifies only when plain definitions may be unfolded in a metavariable's type
set_option backward.isDefEq.respectTransparency.types false in
/-- Call 1 over the thread state: entered with every unscoped buffer at its contents before, left with the call's arrays as its proof data compute them and every other buffer unchanged. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body1 (fun c b => W1 m c (Proc.devRef .tc b)) c).loose
  hwaits := Pipeline.hwaits_of_owed_zero _ _ _ _ L lv 1 fun _ _ => rfl
  pre c := iprop(StableHlo.held (c.tc : Thread nD τ) (Pipeline.ucRefs τ sig) (W1 m c) ∗ ∃ W, owes (c : Thread nD τ) (0 : CellTallies nD τ sig Unit) W)
  post c := iprop(StableHlo.held (c.tc : Thread nD τ) (Pipeline.ucRefs τ sig) (W2 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => W1 m c (Proc.devRef .tc b))
  hentry c := by
    rw [Pipeline.ownSems0_none, show StableHlo.held (c.tc : Thread nD τ) (Pipeline.ucRefs τ sig) (W1 m c) = unscopedBufs c (fun b => W1 m c (Proc.devRef .tc b))
            from (Pipeline.unscopedBufs_held (Ix := Unit) (Name := ℕ) (U := UR sig nD τ) (Lvl := ℕ) c (W1 m c)).symm]
    have hsplit := Pipeline.arrays_of_unscopedBufs (p := 1) (pcfgs (F := F)) adm (pdats m) launch1.win launch1.arr_whole c
      ((pdats m 1 c).share_full fun _ => rfl) (fun b => W1 m c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = carry (fun c b => W1 m c (Proc.devRef .tc b)) c 0 from rfl]
    iintro ⟨-, -, Hr⟩; iapply (carry_of_rest (fun c b => W1 m c (Proc.devRef .tc b)) c 0 rfl); iexact Hr
  hout c := by
    rw [Pipeline.ownSems0_none]
    rw [show (pdats m 1 c).Φ (Fin.last _) = carry (fun c b => W1 m c (Proc.devRef .tc b)) c cfg1.N from rfl]
    iintro Hr
    isplitr; · iempintro
    isplitr; · iempintro
    iapply (rest_of_carry (fun c b => W1 m c (Proc.devRef .tc b)) c cfg1.N); iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => W1 m c (Proc.devRef .tc b)) (fun b => W2 m c (Proc.devRef .tc b)) ((pdats m 1 c).arrAt · cfg1.N)
      (fun w => (Pipeline.afterRegion_arr (pdats m 1 c) (W1 m c) launch1.win.arr_inj w).symm)
      (fun b hb => Pipeline.afterRegion_of_not_arr (pdats m 1 c) (W1 m c)
            fun w h => hb (h ▸ Finset.mem_image.mpr ⟨w, Finset.mem_univ _, rfl⟩))
    rw [show StableHlo.held (c.tc : Thread nD τ) (Pipeline.ucRefs τ sig) (W2 m c) = unscopedBufs c (fun b => W2 m c (Proc.devRef .tc b))
            from (Pipeline.unscopedBufs_held (Ix := Unit) (Name := ℕ) (U := UR sig nD τ) (Lvl := ℕ) c (W2 m c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The TensorCore has no unscoped semaphore. -/
theorem no_unscoped : ∀ sm : SemLoc sig, sm.isScoped .tc = true := by decide

set_option backward.isDefEq.respectTransparency.types false in
/-- The run: from any memory with every counter at zero the program finishes, every counter at zero again and every unscoped buffer as the two calls' proof data compute it. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W2 m c b) ∧ r.2.sem = fun _ => 0) := by
  refine Pipeline.θ_run_regions_kit_sems (pcfgs (F := F)) adm (pdats m) () cellOf_inj emb₁ defs₀ Variants.none L lv m ρ main
    [.region (reg0 m), .region (reg1 m)]
    (fun c Q => by rw [main_segs adm (pdats m) () Variants.none L lv (reg0 m) (reg1 m) c])
    (by simp only [Pipeline.Seg.pipes_region, Pipeline.Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ ∃ W, owes (c : Thread nD τ) (0 : CellTallies nD τ sig Unit) W))
    (Tₙ := fun c => StableHlo.held (c.tc : Thread nD τ) (Pipeline.ucRefs τ sig) (W2 m c))
    (hch := ⟨fun _ => .rfl, fun _ => .rfl, fun _ => .rfl⟩)
    (hinit := by
      refine Pipeline.initEach L lv fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = W2 m c b)
    (hfin := fun c s' => by
      unfold StableHlo.held
      iintro ⟨Hh, HSI⟩
      ihave Hr := (pointsTo_read_all (Pipeline.ucRefs τ sig) (fun b => ((c.tc : Thread nD τ).1, b)) (W2 m c) s') $$ [Hh HSI]
      · isplitl [Hh] <;> iassumption
      imodintro; iexact Hr)
    (hQ := fun _ h hz => ⟨h, funext fun g => hz g (.inr (no_unscoped g.2))⟩)

/-- Membership of a buffer among the unscoped ones. -/
theorem mem_uc (r : Ref sig .tc) (h : r.isScoped = false) : (Proc.devRef .tc r : DevRef τ sig) ∈ Pipeline.ucRefs τ sig :=
  Finset.mem_filter.mpr ⟨StableHlo.devRef_mem_tcRefs r, by rw [show (Proc.devRef .tc r : DevRef τ sig).isScoped = r.isScoped from rfl, h]; decide⟩

/-- An argument ends as launched. -/
theorem W2_arg (c : Dev nD) (r : Ref sig .tc) (h : r = main_arg0 ∨ r = main_arg1 ∨ r = main_arg2 ∨ r = main_arg3) :
    W2 m c (Proc.devRef .tc r) = m ((c.tc : Thread nD τ).loc r) := by
  have i1 := launch1.win.arr_inj
  have i0 := launch0.win.arr_inj
  have e3 : W1 m c (Proc.devRef .tc main_arg3) = W0 m c (Proc.devRef .tc main_arg3) :=
    Pipeline.afterRegion_of_not_arr (fwd m c) (W0 m c) (b := main_arg3) (by decide)
  rcases h with rfl | rfl | rfl | rfl
  · exact (Pipeline.afterRegion_arr (bwd m c) (W1 m c) i1 0).trans (((bwd m c).arrAt_in 0 rfl _).trans
      ((Pipeline.afterRegion_arr (fwd m c) (W0 m c) i0 0).trans ((fwd m c).arrAt_in 0 rfl _)))
  · exact (Pipeline.afterRegion_arr (bwd m c) (W1 m c) i1 1).trans (((bwd m c).arrAt_in 1 rfl _).trans
      ((Pipeline.afterRegion_arr (fwd m c) (W0 m c) i0 1).trans ((fwd m c).arrAt_in 1 rfl _)))
  · exact (Pipeline.afterRegion_arr (bwd m c) (W1 m c) i1 2).trans (((bwd m c).arrAt_in 2 rfl _).trans
      ((Pipeline.afterRegion_arr (fwd m c) (W0 m c) i0 2).trans ((fwd m c).arrAt_in 2 rfl _)))
  · exact (Pipeline.afterRegion_arr (bwd m c) (W1 m c) i1 3).trans (((bwd m c).arrAt_in 3 rfl _).trans e3)

/-- The frame: every argument ends as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c =>
    ⟨(hr.1 c _ (mem_uc main_arg0 rfl)).trans (W2_arg m c _ (.inl rfl)),
     (hr.1 c _ (mem_uc main_arg1 rfl)).trans (W2_arg m c _ (.inr (.inl rfl))),
     (hr.1 c _ (mem_uc main_arg2 rfl)).trans (W2_arg m c _ (.inr (.inr (.inl rfl)))),
     (hr.1 c _ (mem_uc main_arg3 rfl)).trans (W2_arg m c _ (.inr (.inr (.inr rfl))))⟩, hr.2⟩) (run m ρ)

end Cert.KernelIdeal.Hand

end
-- ==== Proof.ValBase.lean ====
module

public import Idealize.ShloMosaic.PureOps.Ideal
public import Idealize.ShloMosaic.Lib.Pointwise

@[expose] public section

noncomputable section

namespace Cert.Attn

open Idealize.ShloMosaic

/-- An index of two axes, by its coordinates. -/
theorem ex2 {m n : ℕ} (i : (⟨2, ![m, n]⟩ : Shape).Idx) : ∃ a b, i = ix2 a b := ⟨_, _, eq_ix2 i⟩

/-- An index of three axes, by its coordinates. -/
theorem ex3 {m n o : ℕ} (i : (⟨3, ![m, n, o]⟩ : Shape).Idx) : ∃ a b c, i = ix3 a b c := ⟨_, _, _, eq_ix3 i⟩

/-! ## Real arithmetic inside the extended reals -/

/-- The scale of the scores, the 32-bit float nearest to one over the square root of 192. -/
def scl : ℝ := 9686330 / 134217728

/-- The scale is positive. -/
theorem scl_pos : 0 < scl := by norm_num [scl]

/-- The scale's bit pattern read as a number. -/
theorem ofBits_scl : Ideal.ofBits .f32 0x3D93CD3A#32 = (scl : EReal) := by
  simp [Ideal.ofBits, Ideal.ieee, -EReal.coe_mul, scl]; norm_num

/-- The bit pattern of zero. -/
theorem ofBits_zero : Ideal.ofBits .f32 0x00000000#32 = 0 := by
  simp [Ideal.ofBits, Ideal.ieee, -EReal.coe_mul]

/-- The bit pattern of one. -/
theorem ofBits_one : Ideal.ofBits .f32 0x3F800000#32 = 1 := by
  simp [Ideal.ofBits, Ideal.ieee, -EReal.coe_mul]; norm_num

/-- The bit pattern of minus infinity. -/
theorem ofBits_ninf : Ideal.ofBits .f32 0xFF800000#32 = ⊥ := by
  simp [Ideal.ofBits, Ideal.ieee, -EReal.coe_mul]

/-- The bit pattern of infinity. -/
theorem ofBits_inf : Ideal.ofBits .f32 0x7F800000#32 = ⊤ := by
  simp [Ideal.ofBits, Ideal.ieee, -EReal.coe_mul]

/-- The half-width bit pattern of infinity. -/
theorem ofBits_binf : Ideal.ofBits .bf16 0x7F80#16 = ⊤ := by
  simp [Ideal.ofBits, Ideal.ieee, -EReal.coe_mul]

/-- The exponential of a real number. -/
theorem exp_coe (r : ℝ) : Ideal.exp (r : EReal) = (Real.exp r : EReal) := rfl

/-- The logarithm of a positive real number. -/
theorem log_coe {r : ℝ} (h : 0 < r) : Ideal.log (r : EReal) = (Real.log r : EReal) := by
  show (if r ≤ 0 then ⊥ else (Real.log r : EReal)) = _
  rw [if_neg (not_le.mpr h)]

/-- The quotient of real numbers with a nonzero divisor. -/
theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- A finite sum of real numbers. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A masked score contributes nothing to a sum of exponentials. -/
theorem exp_masked (μ : ℝ) : Ideal.exp ((⊥ - (μ : EReal)) * (scl : EReal)) = 0 := by
  rw [show (⊥ : EReal) - (μ : EReal) = ⊥ from rfl, EReal.bot_mul_coe_of_pos scl_pos]
  rfl

/-- The largest of finitely many extended reals, none of them infinite and one of them real, is real. -/
theorem fold_max_real {ι : Type*} [Fintype ι] (f : ι → EReal) (hf : ∀ k, f k ≠ ⊤) (k0 : ι) (h0 : f k0 ≠ ⊥) :
    ∃ μ : ℝ, (Finset.univ : Finset ι).fold max ⊥ f = (μ : EReal) := by
  have hb : (Finset.univ : Finset ι).fold max ⊥ f ≠ ⊥ := by
    intro h
    have := (Finset.fold_max_le (c := (⊥ : EReal)) (b := ⊥) (f := f) (s := Finset.univ)).1 h.le
    exact h0 (le_bot_iff.1 (this.2 k0 (Finset.mem_univ _)))
  have ht : (Finset.univ : Finset ι).fold max ⊥ f ≠ ⊤ := by
    have : (Finset.univ : Finset ι).fold max ⊥ f < ⊤ :=
      (Finset.fold_max_lt (c := (⊤ : EReal)) (b := ⊥) (f := f) (s := Finset.univ)).2 ⟨bot_lt_top, fun x _ => lt_top_iff_ne_top.2 (hf x)⟩
    exact this.ne
  exact ⟨_, (EReal.coe_toReal ht hb).symm⟩

/-! ## Row sums of a softmax -/

section Row

variable {A B : Type*} [Fintype A] [Fintype B] (p : A → Prop) [DecidablePred p] (a : A → ℝ) (b : B → ℝ)

/-- Masked scores: minus infinity where the mask is off. -/
def dia (k : A) : EReal := if p k then (a k : EReal) else ⊥

/-- The largest score of a row, from its masked part and its open part. -/
def top : EReal := max (Finset.univ.fold max ⊥ (dia p a)) (Finset.univ.fold max ⊥ (fun k => (b k : EReal)))

/-- The largest score of a row is real. -/
theorem top_real (a0 : A) (h0 : p a0) : ∃ μ : ℝ, top p a b = (μ : EReal) := by
  obtain ⟨μ, hμ⟩ := fold_max_real (dia p a) (fun k => by unfold dia; split <;> simp) a0 (by simp [dia, h0])
  unfold top
  rw [hμ]
  by_cases hB : Nonempty B
  · obtain ⟨b0⟩ := hB
    obtain ⟨ν, hν⟩ := fold_max_real (fun k => (b k : EReal)) (fun k => by simp) b0 (by simp)
    rw [hν]
    exact ⟨max μ ν, (EReal.coe_strictMono.monotone.map_max).symm⟩
  · haveI : IsEmpty B := not_nonempty_iff.1 hB
    exact ⟨μ, by simp⟩

/-- An exponential weight of the masked part against the row's largest score, before normalising. -/
theorem exp_dia (μ : ℝ) (k : A) :
    Ideal.exp ((dia p a k - (μ : EReal)) * (scl : EReal)) = (((if p k then Real.exp (a k * scl) else 0) * Real.exp (-(μ * scl)) : ℝ) : EReal) := by
  unfold dia
  split
  · rw [← EReal.coe_sub, ← EReal.coe_mul, exp_coe, ← Real.exp_add]
    congr 2; ring
  · rw [exp_masked]; simp

/-- An exponential weight of the open part against the row's largest score, before normalising. -/
theorem exp_open (μ : ℝ) (k : B) :
    Ideal.exp (((b k : EReal) - (μ : EReal)) * (scl : EReal)) = ((Real.exp (b k * scl) * Real.exp (-(μ * scl)) : ℝ) : EReal) := by
  rw [← EReal.coe_sub, ← EReal.coe_mul, exp_coe, ← Real.exp_add]
  congr 2; ring

/-- A row's sum of exponentials. -/
def zed : ℝ := (∑ k, if p k then Real.exp (a k * scl) else 0) + ∑ k, Real.exp (b k * scl)

/-- A row's sum of exponentials is positive. -/
theorem zed_pos (a0 : A) (h0 : p a0) : 0 < zed p a b := by
  unfold zed
  refine add_pos_of_pos_of_nonneg ?_ (Finset.sum_nonneg fun k _ => (Real.exp_pos _).le)
  refine Finset.sum_pos' (fun k _ => ?_) ⟨a0, Finset.mem_univ _, ?_⟩
  · split
    · exact (Real.exp_pos _).le
    · exact le_rfl
  · rw [if_pos h0]; exact Real.exp_pos _

/-- The row's largest score and its shifted sum give the logarithm of the unshifted sum. -/
theorem row_log (a0 : A) (h0 : p a0) :
    top p a b * (scl : EReal) + Ideal.log ((∑ k, Ideal.exp ((dia p a k - top p a b) * (scl : EReal))) + ∑ k, Ideal.exp (((b k : EReal) - top p a b) * (scl : EReal)))
      = (Real.log (zed p a b) : EReal) := by
  obtain ⟨μ, hμ⟩ := top_real p a b a0 h0
  have hz := zed_pos p a b a0 h0
  rw [hμ]
  simp only [exp_dia, exp_open]
  rw [sum_coe, sum_coe, ← EReal.coe_add, ← Finset.sum_mul, ← Finset.sum_mul, ← add_mul]
  rw [show (∑ k, if p k then Real.exp (a k * scl) else 0) + ∑ k, Real.exp (b k * scl) = zed p a b from rfl]
  rw [log_coe (mul_pos hz (Real.exp_pos _)), Real.log_mul hz.ne' (Real.exp_pos _).ne', Real.log_exp, ← EReal.coe_mul, ← EReal.coe_add]
  congr 1; ring

/-- The row's weighted mean, shifted above and below the line alike. -/
theorem row_mean (a0 : A) (h0 : p a0) (v : A → ℝ) (w : B → ℝ) :
    Ideal.div ((∑ k, Ideal.exp ((dia p a k - top p a b) * (scl : EReal)) * (v k : EReal)) + ∑ k, Ideal.exp (((b k : EReal) - top p a b) * (scl : EReal)) * (w k : EReal))
        ((∑ k, Ideal.exp ((dia p a k - top p a b) * (scl : EReal))) + ∑ k, Ideal.exp (((b k : EReal) - top p a b) * (scl : EReal)))
      = ((((∑ k, (if p k then Real.exp (a k * scl) else 0) * v k) + ∑ k, Real.exp (b k * scl) * w k) / zed p a b : ℝ) : EReal) := by
  obtain ⟨μ, hμ⟩ := top_real p a b a0 h0
  have hz := zed_pos p a b a0 h0
  have he := Real.exp_pos (-(μ * scl))
  rw [hμ]
  simp only [exp_dia, exp_open, ← EReal.coe_mul]
  rw [sum_coe, sum_coe, sum_coe, sum_coe, ← EReal.coe_add, ← EReal.coe_add, ← Finset.sum_mul, ← Finset.sum_mul, ← add_mul]
  rw [show (∑ k, if p k then Real.exp (a k * scl) else 0) + ∑ k, Real.exp (b k * scl) = zed p a b from rfl]
  rw [div_coe _ (mul_pos hz he).ne']
  congr 1
  rw [show (∑ k, (if p k then Real.exp (a k * scl) else 0) * Real.exp (-(μ * scl)) * v k) = (∑ k, (if p k then Real.exp (a k * scl) else 0) * v k) * Real.exp (-(μ * scl)) by
      rw [Finset.sum_mul]; exact Finset.sum_congr rfl fun k _ => by ring,
    show (∑ k, Real.exp (b k * scl) * Real.exp (-(μ * scl)) * w k) = (∑ k, Real.exp (b k * scl) * w k) * Real.exp (-(μ * scl)) by
      rw [Finset.sum_mul]; exact Finset.sum_congr rfl fun k _ => by ring, ← add_mul, mul_div_mul_right _ _ he.ne']

end Row

/-! ## Causal attention in chunks of 64, over the real numbers -/

section Real

variable (q k v g : ℕ → ℕ → ℝ)

/-- A score: the product of a query row and a key row. -/
def sc (i j : ℕ) : ℝ := ∑ d ∈ Finset.range 192, q i d * k j d

/-- The exponential of a scaled score, zero where the key's chunk comes after the query's. -/
def ex (i j : ℕ) : ℝ := if j / 64 ≤ i / 64 then Real.exp (sc q k i j * scl) else 0

/-- A row's sum of exponentials. -/
def zz (i : ℕ) : ℝ := ∑ j ∈ Finset.range 2048, ex q k i j

/-- The attention's output. -/
def oo (i d : ℕ) : ℝ := (∑ j ∈ Finset.range 2048, ex q k i j * v j d) / zz q k i

/-- An attention weight. -/
def ww (i j : ℕ) : ℝ := ex q k i j / zz q k i

/-- The product of a cotangent row and a value row. -/
def pp (i j : ℕ) : ℝ := ∑ d ∈ Finset.range 128, g i d * v j d

/-- The product of a cotangent row and its output row. -/
def dd (i : ℕ) : ℝ := ∑ d ∈ Finset.range 128, g i d * oo q k v i d

/-- The gradient of a score. -/
def ds (i j : ℕ) : ℝ := ww q k i j * (pp v g i j - dd q k v g i) * scl

/-- The gradient of the values. -/
def gv (j d : ℕ) : ℝ := ∑ i ∈ Finset.range 2048, ww q k i j * g i d

/-- The gradient of the keys. -/
def gk (j d : ℕ) : ℝ := ∑ i ∈ Finset.range 2048, ds q k v g i j * q i d

/-- The gradient of the queries. -/
def gq (i d : ℕ) : ℝ := ∑ j ∈ Finset.range 2048, ds q k v g i j * k j d

/-- Every row has its own first key in view, so its sum is positive. -/
theorem zz_pos (i : ℕ) : 0 < zz q k i := by
  unfold zz
  refine Finset.sum_pos' (fun j _ => ?_) ⟨0, by simp, ?_⟩
  · unfold ex; split
    · exact (Real.exp_pos _).le
    · exact le_rfl
  · unfold ex; rw [if_pos (by simp)]; exact Real.exp_pos _

/-- A weight is the exponential of the scaled score less the logarithm of the row's sum. -/
theorem ww_eq (i j : ℕ) : ww q k i j = if j / 64 ≤ i / 64 then Real.exp (sc q k i j * scl - Real.log (zz q k i)) else 0 := by
  unfold ww ex
  split
  · rw [Real.exp_sub, Real.exp_log (zz_pos q k i)]
  · simp

/-- Weights past the query's chunk vanish. -/
theorem ww_zero {i j : ℕ} (h : i / 64 < j / 64) : ww q k i j = 0 := by
  unfold ww ex; rw [if_neg (by omega)]; simp

/-- Score gradients past the query's chunk vanish. -/
theorem ds_zero {i j : ℕ} (h : i / 64 < j / 64) : ds q k v g i j = 0 := by
  unfold ds; rw [ww_zero q k h]; ring

/-- The product of cotangent and output is the weighted mean of the products of cotangent and values. -/
theorem dd_eq (i : ℕ) : dd q k v g i = ∑ j ∈ Finset.range 2048, ww q k i j * pp v g i j := by
  unfold dd oo pp ww
  simp only [div_eq_mul_inv, Finset.sum_mul, Finset.mul_sum]
  rw [Finset.sum_comm]
  exact Finset.sum_congr rfl fun j _ => Finset.sum_congr rfl fun d _ => by ring

/-- A sum over a range of 2048 that vanishes past a block of 512 splits at that block. -/
theorem sum_block (n : ℕ) (hn : n < 4) (f : ℕ → ℝ) (h : ∀ j, 512 * n + 512 ≤ j → f j = 0) :
    ∑ j ∈ Finset.range 2048, f j = (∑ x ∈ Finset.range 512, f (512 * n + x)) + ∑ x ∈ Finset.range (512 * n), f x := by
  rw [add_comm, ← Finset.sum_range_add]
  refine (Finset.sum_subset (Finset.range_subset_range.2 (by omega)) fun j _ hj => h j ?_).symm
  simpa using hj

/-- A row sum of exponentials against weights splits at the row's own block. -/
theorem sum_ex (n : ℕ) (hn : n < 4) (r : ℕ) (hr : r < 512) (f : ℕ → ℝ) :
    ∑ j ∈ Finset.range 2048, ex q k (512 * n + r) j * f j
      = (∑ x : Fin 512, (if x.val / 64 ≤ r / 64 then Real.exp (sc q k (512 * n + r) (512 * n + x.val) * scl) else 0) * f (512 * n + x.val))
        + ∑ x : Fin (512 * n), Real.exp (sc q k (512 * n + r) x.val * scl) * f x.val := by
  rw [sum_block n hn (fun j => ex q k (512 * n + r) j * f j) (fun j hj => by
    unfold ex; rw [if_neg (by omega)]; simp)]
  rw [Finset.sum_range, Finset.sum_range]
  congr 1
  · refine Finset.sum_congr rfl fun x _ => ?_
    have : ((512 * n + x.val) / 64 ≤ (512 * n + r) / 64) ↔ (x.val / 64 ≤ r / 64) := by omega
    simp only [ex, this]
  · refine Finset.sum_congr rfl fun x _ => ?_
    unfold ex; rw [if_pos (by omega)]

/-- The row sum of exponentials at the row's own block. -/
theorem zz_split (n : ℕ) (hn : n < 4) (r : ℕ) (hr : r < 512) :
    zz q k (512 * n + r) = zed (fun x : Fin 512 => x.val / 64 ≤ r / 64) (fun x => sc q k (512 * n + r) (512 * n + x.val)) (fun x : Fin (512 * n) => sc q k (512 * n + r) x.val) := by
  have := sum_ex q k n hn r hr (fun _ => 1)
  simp only [mul_one] at this
  exact this

/-- A score as a sum over a finite type. -/
theorem sc_fin (i j : ℕ) : sc q k i j = ∑ d : Fin 192, q i d.val * k j d.val := by
  unfold sc; rw [Finset.sum_range]

/-- A product of cotangent and value rows as a sum over a finite type. -/
theorem pp_fin (i j : ℕ) : pp v g i j = ∑ d : Fin 128, g i d.val * v j d.val := by
  unfold pp; rw [Finset.sum_range]

end Real

/-! ## Chunk numbers in 32-bit words -/

/-- Comparing two small words selects as comparing their numbers does. -/
theorem select_sle {α : Type} (x y : α) (a b : ℕ) (ha : a < 2048) (hb : b < 2048) :
    Scalar.select (IntOp.cmpi .sle (BitVec.ofNat 32 a) (BitVec.ofNat 32 b)) x y = if a ≤ b then x else y := by
  have h : (BitVec.ofNat 32 a).sle (BitVec.ofNat 32 b) = decide (a ≤ b) := by
    have hi : ∀ c : ℕ, c < 2048 → (BitVec.ofNat 32 c).toInt = (c : ℤ) := fun c hc => by
      rw [BitVec.toInt_eq_toNat_of_lt (by rw [BitVec.toNat_ofNat]; omega), BitVec.toNat_ofNat]; omega
    rw [BitVec.sle_eq_decide, hi a ha, hi b hb]
    simp
  simp only [Scalar.select, IntOp.cmpi, h]
  by_cases hab : a ≤ b <;> simp [hab]

/-- The chunk number of a position as the calls compute it: a quotient rounded towards minus infinity. -/
def chunkW (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The chunk number of a position within a block. -/
theorem chunkW_ofNat : ∀ r : Fin 512, chunkW (BitVec.ofNat 32 r.val) = BitVec.ofNat 32 (r.val / 64) := by
  decide +kernel

/-- The mask of a square block: a key is in view when its chunk does not come after the query's. -/
theorem chunk_select {α : Type} (x y : α) (c r : Fin 512) :
    Scalar.select (IntOp.cmpi .sle (chunkW (BitVec.ofNat 32 c.val)) (chunkW (BitVec.ofNat 32 r.val))) x y = if c.val / 64 ≤ r.val / 64 then x else y := by
  rw [chunkW_ofNat, chunkW_ofNat, select_sle _ _ _ _ (by omega) (by omega)]

end Cert.Attn
-- ==== Proof.ValFwd.lean ====
module

public import proofs.«01_k».proof.Proof.FwdRun
public import proofs.«01_k».proof.Proof.ValBase

@[expose] public section

set_option maxRecDepth 16384

noncomputable section

namespace Cert.KernelIdeal.Hand

open Cert.KernelIdeal Cert.KernelIdeal.Gen
open Idealize.ShloMosaic Cert.Attn

/-- The value the mask's constant stands for. -/
theorem mask_named : (Named.named (F := Ideal) κ "mask" 0xF149F2CA#32 : Ideal .f32) = (⊥ : EReal) :=
  IdealRules.named_const.ideal_named_scalar _ _ _ _ rfl

section Fwd

variable (q k v : ℕ → ℕ → ℝ) (x0 : Vec Ideal S1x512x192 .bf16) (x1 : Vec Ideal S1x2048x192 .bf16) (x2 : Vec Ideal S1x2048x128 .bf16)

/-- Row block 0's masked scores. -/
theorem masked0 (s : FVec Ideal S512x512 .f32) (r c : Fin 512) :
    k0_pay2 s k0_pay15 colIdx 64#32 k0_pay16 k0_pay17 k0_pay18 (ix2 r c) = if c.val / 64 ≤ r.val / 64 then s (ix2 r c) else (⊥ : EReal) := by
  pointwise [k0_pay2, k0_pay15, k0_pay16, k0_pay17, k0_pay18, mask_named]
  exact chunk_select _ _ c r

/-- Row block 1's masked scores against its own keys. -/
theorem masked1 (s : FVec Ideal S512x512 .f32) (r c : Fin 512) :
    k0_pay24 s k0_pay21 colIdx 64#32 k0_pay22 k0_pay23 0#32 (ix2 r c) = if c.val / 64 ≤ r.val / 64 then s (ix2 r c) else (⊥ : EReal) := by
  pointwise [k0_pay24, k0_pay21, k0_pay22, k0_pay23, mask_named]
  exact chunk_select _ _ c r

/-- Row block 2's masked scores against its own keys. -/
theorem masked2 (s : FVec Ideal S512x512 .f32) (r c : Fin 512) :
    k0_pay36 s k0_pay33 colIdx 64#32 k0_pay34 k0_pay35 0#32 (ix2 r c) = if c.val / 64 ≤ r.val / 64 then s (ix2 r c) else (⊥ : EReal) := by
  pointwise [k0_pay36, k0_pay33, k0_pay34, k0_pay35, mask_named]
  exact chunk_select _ _ c r

/-- Row block 3's masked scores against its own keys. -/
theorem masked3 (s : FVec Ideal S512x512 .f32) (r c : Fin 512) :
    k0_pay48 s k0_pay45 colIdx 64#32 k0_pay46 k0_pay47 0#32 (ix2 r c) = if c.val / 64 ≤ r.val / 64 then s (ix2 r c) else (⊥ : EReal) := by
  pointwise [k0_pay48, k0_pay45, k0_pay46, k0_pay47, mask_named]
  exact chunk_select _ _ c r

/-- Row block 0's scores against its own keys. -/
theorem sD0_apply (hq : ∀ (r : Fin 512) (d : Fin 192), x0 (ix3 0 r d) = (q (512 * 0 + r.val) d.val : EReal))
    (hk : ∀ (j : Fin 2048) (d : Fin 192), x1 (ix3 0 j d) = (k j.val d.val : EReal)) (r c : Fin 512) :
    sD0 x0 x1 (ix2 r c) = (sc q k (512 * 0 + r.val) (512 * 0 + c.val) : EReal) := by
  unfold sD0
  rw [qAll_eq]
  pointwise [k0_pay14, k0_pay1, kRows, hq, hk]
  simp only [← EReal.coe_mul]
  rw [sum_coe, sc_fin]

/-- Row block 1's scores against its own keys. -/
theorem sD1_apply (hq : ∀ (r : Fin 512) (d : Fin 192), x0 (ix3 0 r d) = (q (512 * 1 + r.val) d.val : EReal))
    (hk : ∀ (j : Fin 2048) (d : Fin 192), x1 (ix3 0 j d) = (k j.val d.val : EReal)) (r c : Fin 512) :
    sD1 x0 x1 (ix2 r c) = (sc q k (512 * 1 + r.val) (512 * 1 + c.val) : EReal) := by
  unfold sD1
  rw [qAll_eq]
  pointwise [k0_pay20, k0_pay1, kRows, hq, hk]
  simp only [← EReal.coe_mul]
  rw [sum_coe, sc_fin]

/-- Row block 1's scores against the keys before its own. -/
theorem sO1_apply (hq : ∀ (r : Fin 512) (d : Fin 192), x0 (ix3 0 r d) = (q (512 * 1 + r.val) d.val : EReal))
    (hk : ∀ (j : Fin 2048) (d : Fin 192), x1 (ix3 0 j d) = (k j.val d.val : EReal)) (r : Fin 512) (c : Fin (512 * 1)) :
    sO1 x0 x1 (ix2 r c) = (sc q k (512 * 1 + r.val) c.val : EReal) := by
  unfold sO1
  rw [qAll_eq]
  pointwise [k0_pay19, k0_pay1, kRows, hq, hk]
  simp only [← EReal.coe_mul]
  rw [sum_coe, sc_fin]

/-- Row block 2's scores against its own keys. -/
theorem sD2_apply (hq : ∀ (r : Fin 512) (d : Fin 192), x0 (ix3 0 r d) = (q (512 * 2 + r.val) d.val : EReal))
    (hk : ∀ (j : Fin 2048) (d : Fin 192), x1 (ix3 0 j d) = (k j.val d.val : EReal)) (r c : Fin 512) :
    sD2 x0 x1 (ix2 r c) = (sc q k (512 * 2 + r.val) (512 * 2 + c.val) : EReal) := by
  unfold sD2
  rw [qAll_eq]
  pointwise [k0_pay32, k0_pay1, kRows, hq, hk]
  simp only [← EReal.coe_mul]
  rw [sum_coe, sc_fin]

/-- Row block 2's scores against the keys before its own. -/
theorem sO2_apply (hq : ∀ (r : Fin 512) (d : Fin 192), x0 (ix3 0 r d) = (q (512 * 2 + r.val) d.val : EReal))
    (hk : ∀ (j : Fin 2048) (d : Fin 192), x1 (ix3 0 j d) = (k j.val d.val : EReal)) (r : Fin 512) (c : Fin (512 * 2)) :
    sO2 x0 x1 (ix2 r c) = (sc q k (512 * 2 + r.val) c.val : EReal) := by
  unfold sO2
  rw [qAll_eq]
  pointwise [k0_pay31, k0_pay1, kRows, hq, hk]
  simp only [← EReal.coe_mul]
  rw [sum_coe, sc_fin]

/-- Row block 3's scores against its own keys. -/
theorem sD3_apply (hq : ∀ (r : Fin 512) (d : Fin 192), x0 (ix3 0 r d) = (q (512 * 3 + r.val) d.val : EReal))
    (hk : ∀ (j : Fin 2048) (d : Fin 192), x1 (ix3 0 j d) = (k j.val d.val : EReal)) (r c : Fin 512) :
    sD3 x0 x1 (ix2 r c) = (sc q k (512 * 3 + r.val) (512 * 3 + c.val) : EReal) := by
  unfold sD3
  rw [qAll_eq]
  pointwise [k0_pay44, k0_pay1, kRows, hq, hk]
  simp only [← EReal.coe_mul]
  rw [sum_coe, sc_fin]

/-- Row block 3's scores against the keys before its own. -/
theorem sO3_apply (hq : ∀ (r : Fin 512) (d : Fin 192), x0 (ix3 0 r d) = (q (512 * 3 + r.val) d.val : EReal))
    (hk : ∀ (j : Fin 2048) (d : Fin 192), x1 (ix3 0 j d) = (k j.val d.val : EReal)) (r : Fin 512) (c : Fin (512 * 3)) :
    sO3 x0 x1 (ix2 r c) = (sc q k (512 * 3 + r.val) c.val : EReal) := by
  unfold sO3
  rw [qAll_eq]
  pointwise [k0_pay43, k0_pay1, kRows, hq, hk]
  simp only [← EReal.coe_mul]
  rw [sum_coe, sc_fin]

/-- Row block 0's output is the attention's. -/
theorem o0_apply (hq : ∀ (r : Fin 512) (d : Fin 192), x0 (ix3 0 r d) = (q (512 * 0 + r.val) d.val : EReal))
    (hk : ∀ (j : Fin 2048) (d : Fin 192), x1 (ix3 0 j d) = (k j.val d.val : EReal))
    (hv : ∀ (j : Fin 2048) (d : Fin 128), x2 (ix3 0 j d) = (v j.val d.val : EReal)) (r : Fin 512) (d : Fin 128) :
    o0 x0 x1 x2 (ix2 r d) = (oo q k v (512 * 0 + r.val) d.val : EReal) := by
  have h := row_mean (fun x : Fin 512 => x.val / 64 ≤ r.val / 64) (fun x => sc q k (512 * 0 + r.val) (512 * 0 + x.val)) (fun x : Fin (512 * 0) => sc q k (512 * 0 + r.val) x.val)
    ⟨0, by omega⟩ (by simp) (fun x => v (512 * 0 + x.val) d.val) (fun x => v x.val d.val)
  unfold oo
  rw [sum_ex q k 0 (by omega) r.val r.isLt (fun j => v j d.val), zz_split q k 0 (by omega) r.val r.isLt, ← h]
  clear h
  pointwise [o0, k0_pay6, k0_pay5, k0_pay4, k0_pay3, masked0, vRows, sD0_apply q k x0 x1 hq hk, hv, ofBits_scl, ofBits_ninf]
  haveI : IsEmpty (Fin (512 * 0)) := inferInstanceAs (IsEmpty (Fin 0))
  simp only [top, Finset.univ_eq_empty, Finset.sum_empty, Finset.fold_empty, max_bot_right, add_zero]
  rfl

/-- Row block 0's log-sums are the logarithms of the attention's row sums. -/
theorem e0_apply (hq : ∀ (r : Fin 512) (d : Fin 192), x0 (ix3 0 r d) = (q (512 * 0 + r.val) d.val : EReal))
    (hk : ∀ (j : Fin 2048) (d : Fin 192), x1 (ix3 0 j d) = (k j.val d.val : EReal)) (r : Fin 512) :
    e0 x0 x1 (ix3 0 r 0) = (Real.log (zz q k (512 * 0 + r.val)) : EReal) := by
  have h := row_log (fun x : Fin 512 => x.val / 64 ≤ r.val / 64) (fun x => sc q k (512 * 0 + r.val) (512 * 0 + x.val)) (fun x : Fin (512 * 0) => sc q k (512 * 0 + r.val) x.val)
    ⟨0, by omega⟩ (by simp)
  rw [zz_split q k 0 (by omega) r.val r.isLt, ← h]
  clear h
  pointwise [e0, k0_pay7, k0_pay5, k0_pay4, k0_pay3, masked0, sD0_apply q k x0 x1 hq hk, ofBits_scl, ofBits_ninf]
  haveI : IsEmpty (Fin (512 * 0)) := inferInstanceAs (IsEmpty (Fin 0))
  simp only [top, Finset.univ_eq_empty, Finset.sum_empty, Finset.fold_empty, max_bot_right, add_zero]
  rfl

/-- Row block 1's output is the attention's. -/
theorem o1_apply (hq : ∀ (r : Fin 512) (d : Fin 192), x0 (ix3 0 r d) = (q (512 * 1 + r.val) d.val : EReal))
    (hk : ∀ (j : Fin 2048) (d : Fin 192), x1 (ix3 0 j d) = (k j.val d.val : EReal))
    (hv : ∀ (j : Fin 2048) (d : Fin 128), x2 (ix3 0 j d) = (v j.val d.val : EReal)) (r : Fin 512) (d : Fin 128) :
    o1 x0 x1 x2 (ix2 r d) = (oo q k v (512 * 1 + r.val) d.val : EReal) := by
  have h := row_mean (fun x : Fin 512 => x.val / 64 ≤ r.val / 64) (fun x => sc q k (512 * 1 + r.val) (512 * 1 + x.val)) (fun x : Fin (512 * 1) => sc q k (512 * 1 + r.val) x.val)
    ⟨0, by omega⟩ (by simp) (fun x => v (512 * 1 + x.val) d.val) (fun x => v x.val d.val)
  unfold oo
  rw [sum_ex q k 1 (by omega) r.val r.isLt (fun j => v j d.val), zz_split q k 1 (by omega) r.val r.isLt, ← h]
  clear h
  pointwise [o1, l1, k0_pay8, k0_pay25, k0_pay26, k0_pay27, k0_pay28, k0_pay29, k0_pay30, masked1, vRows, sD1_apply q k x0 x1 hq hk, sO1_apply q k x0 x1 hq hk, hv, ofBits_scl, ofBits_ninf]
  rfl

/-- Row block 1's log-sums are the logarithms of the attention's row sums. -/
theorem e1_apply (hq : ∀ (r : Fin 512) (d : Fin 192), x0 (ix3 0 r d) = (q (512 * 1 + r.val) d.val : EReal))
    (hk : ∀ (j : Fin 2048) (d : Fin 192), x1 (ix3 0 j d) = (k j.val d.val : EReal)) (r : Fin 512) :
    e1 x0 x1 (ix3 0 r 0) = (Real.log (zz q k (512 * 1 + r.val)) : EReal) := by
  have h := row_log (fun x : Fin 512 => x.val / 64 ≤ r.val / 64) (fun x => sc q k (512 * 1 + r.val) (512 * 1 + x.val)) (fun x : Fin (512 * 1) => sc q k (512 * 1 + r.val) x.val)
    ⟨0, by omega⟩ (by simp)
  rw [zz_split q k 1 (by omega) r.val r.isLt, ← h]
  clear h
  pointwise [e1, l1, m1, k0_pay9, k0_pay25, k0_pay26, k0_pay28, k0_pay29, masked1, sD1_apply q k x0 x1 hq hk, sO1_apply q k x0 x1 hq hk, ofBits_scl, ofBits_ninf]
  rfl

/-- Row block 2's output is the attention's. -/
theorem o2_apply (hq : ∀ (r : Fin 512) (d : Fin 192), x0 (ix3 0 r d) = (q (512 * 2 + r.val) d.val : EReal))
    (hk : ∀ (j : Fin 2048) (d : Fin 192), x1 (ix3 0 j d) = (k j.val d.val : EReal))
    (hv : ∀ (j : Fin 2048) (d : Fin 128), x2 (ix3 0 j d) = (v j.val d.val : EReal)) (r : Fin 512) (d : Fin 128) :
    o2 x0 x1 x2 (ix2 r d) = (oo q k v (512 * 2 + r.val) d.val : EReal) := by
  have h := row_mean (fun x : Fin 512 => x.val / 64 ≤ r.val / 64) (fun x => sc q k (512 * 2 + r.val) (512 * 2 + x.val)) (fun x : Fin (512 * 2) => sc q k (512 * 2 + r.val) x.val)
    ⟨0, by omega⟩ (by simp) (fun x => v (512 * 2 + x.val) d.val) (fun x => v x.val d.val)
  unfold oo
  rw [sum_ex q k 2 (by omega) r.val r.isLt (fun j => v j d.val), zz_split q k 2 (by omega) r.val r.isLt, ← h]
  clear h
  pointwise [o2, l2, k0_pay10, k0_pay37, k0_pay38, k0_pay39, k0_pay40, k0_pay41, k0_pay42, masked2, vRows, sD2_apply q k x0 x1 hq hk, sO2_apply q k x0 x1 hq hk, hv, ofBits_scl, ofBits_ninf]
  rfl

/-- Row block 2's log-sums are the logarithms of the attention's row sums. -/
theorem e2_apply (hq : ∀ (r : Fin 512) (d : Fin 192), x0 (ix3 0 r d) = (q (512 * 2 + r.val) d.val : EReal))
    (hk : ∀ (j : Fin 2048) (d : Fin 192), x1 (ix3 0 j d) = (k j.val d.val : EReal)) (r : Fin 512) :
    e2 x0 x1 (ix3 0 r 0) = (Real.log (zz q k (512 * 2 + r.val)) : EReal) := by
  have h := row_log (fun x : Fin 512 => x.val / 64 ≤ r.val / 64) (fun x => sc q k (512 * 2 + r.val) (512 * 2 + x.val)) (fun x : Fin (512 * 2) => sc q k (512 * 2 + r.val) x.val)
    ⟨0, by omega⟩ (by simp)
  rw [zz_split q k 2 (by omega) r.val r.isLt, ← h]
  clear h
  pointwise [e2, l2, m2, k0_pay11, k0_pay37, k0_pay38, k0_pay40, k0_pay41, masked2, sD2_apply q k x0 x1 hq hk, sO2_apply q k x0 x1 hq hk, ofBits_scl, ofBits_ninf]
  rfl

/-- Row block 3's output is the attention's. -/
theorem o3_apply (hq : ∀ (r : Fin 512) (d : Fin 192), x0 (ix3 0 r d) = (q (512 * 3 + r.val) d.val : EReal))
    (hk : ∀ (j : Fin 2048) (d : Fin 192), x1 (ix3 0 j d) = (k j.val d.val : EReal))
    (hv : ∀ (j : Fin 2048) (d : Fin 128), x2 (ix3 0 j d) = (v j.val d.val : EReal)) (r : Fin 512) (d : Fin 128) :
    o3 x0 x1 x2 (ix2 r d) = (oo q k v (512 * 3 + r.val) d.val : EReal) := by
  have h := row_mean (fun x : Fin 512 => x.val / 64 ≤ r.val / 64) (fun x => sc q k (512 * 3 + r.val) (512 * 3 + x.val)) (fun x : Fin (512 * 3) => sc q k (512 * 3 + r.val) x.val)
    ⟨0, by omega⟩ (by simp) (fun x => v (512 * 3 + x.val) d.val) (fun x => v x.val d.val)
  unfold oo
  rw [sum_ex q k 3 (by omega) r.val r.isLt (fun j => v j d.val), zz_split q k 3 (by omega) r.val r.isLt, ← h]
  clear h
  pointwise [o3, l3, k0_pay12, k0_pay49, k0_pay50, k0_pay51, k0_pay52, k0_pay53, k0_pay54, masked3, vRows, sD3_apply q k x0 x1 hq hk, sO3_apply q k x0 x1 hq hk, hv, ofBits_scl, ofBits_ninf]
  rfl

/-- Row block 3's log-sums are the logarithms of the attention's row sums. -/
theorem e3_apply (hq : ∀ (r : Fin 512) (d : Fin 192), x0 (ix3 0 r d) = (q (512 * 3 + r.val) d.val : EReal))
    (hk : ∀ (j : Fin 2048) (d : Fin 192), x1 (ix3 0 j d) = (k j.val d.val : EReal)) (r : Fin 512) :
    e3 x0 x1 (ix3 0 r 0) = (Real.log (zz q k (512 * 3 + r.val)) : EReal) := by
  have h := row_log (fun x : Fin 512 => x.val / 64 ≤ r.val / 64) (fun x => sc q k (512 * 3 + r.val) (512 * 3 + x.val)) (fun x : Fin (512 * 3) => sc q k (512 * 3 + r.val) x.val)
    ⟨0, by omega⟩ (by simp)
  rw [zz_split q k 3 (by omega) r.val r.isLt, ← h]
  clear h
  pointwise [e3, l3, m3, k0_pay13, k0_pay49, k0_pay50, k0_pay52, k0_pay53, masked3, sD3_apply q k x0 x1 hq hk, sO3_apply q k x0 x1 hq hk, ofBits_scl, ofBits_ninf]
  rfl

/-- A row block's output is the attention's, by the block's number. -/
theorem oB_apply (n : ℕ) (hn : n < 4) (hq : ∀ (r : Fin 512) (d : Fin 192), x0 (ix3 0 r d) = (q (512 * n + r.val) d.val : EReal))
    (hk : ∀ (j : Fin 2048) (d : Fin 192), x1 (ix3 0 j d) = (k j.val d.val : EReal))
    (hv : ∀ (j : Fin 2048) (d : Fin 128), x2 (ix3 0 j d) = (v j.val d.val : EReal)) (r : Fin 512) (d : Fin 128) :
    oB n x0 x1 x2 (ix2 r d) = (oo q k v (512 * n + r.val) d.val : EReal) := by
  match n, hn with
  | 0, _ => exact o0_apply q k v x0 x1 x2 hq hk hv r d
  | 1, _ => exact o1_apply q k v x0 x1 x2 hq hk hv r d
  | 2, _ => exact o2_apply q k v x0 x1 x2 hq hk hv r d
  | 3, _ => exact o3_apply q k v x0 x1 x2 hq hk hv r d

/-- A row block's log-sums are the logarithms of the attention's row sums, by the block's number. -/
theorem eB_apply (n : ℕ) (hn : n < 4) (hq : ∀ (r : Fin 512) (d : Fin 192), x0 (ix3 0 r d) = (q (512 * n + r.val) d.val : EReal))
    (hk : ∀ (j : Fin 2048) (d : Fin 192), x1 (ix3 0 j d) = (k j.val d.val : EReal)) (r : Fin 512) :
    eB n x0 x1 (ix3 0 r 0) = (Real.log (zz q k (512 * n + r.val)) : EReal) := by
  match n, hn with
  | 0, _ => exact e0_apply q k x0 x1 hq hk r
  | 1, _ => exact e1_apply q k x0 x1 hq hk r
  | 2, _ => exact e2_apply q k x0 x1 hq hk r
  | 3, _ => exact e3_apply q k x0 x1 hq hk r

end Fwd

end Cert.KernelIdeal.Hand
-- ==== Proof.ValBwd.lean ====
module

public import proofs.«01_k».proof.Proof.BwdRun
public import proofs.«01_k».proof.Proof.ValFwd

@[expose] public section

set_option maxRecDepth 16384

noncomputable section

namespace Cert.KernelIdeal.Hand

open Cert.KernelIdeal Cert.KernelIdeal.Gen
open Idealize.ShloMosaic Cert.Attn

/-- The number of steps below the diagonal at a key block. -/
theorem trips_eq : ∀ i : grid1.Coords, (k1_t1_loop i).trips = 3 - (i 1).val := by decide +kernel

/-- The key block's number is below four. -/
theorem blk_lt (i : grid1.Coords) : (i 1).val < 4 := (i 1).isLt

/-- Writing 512 rows over an array: the rows written, the others kept. -/
theorem put_rows (dq : Vec Ideal S2048x192 .f32) (off : Fin 2 → ℕ) (B : ℕ) (hoff : off = ![B, 0]) (w : Vec Ideal S512x192 .f32) (a : Fin 2048) (d : Fin 192) :
    VecWindow.put (s := S2048x192) dq off S512x192.size w (ix2 a d) = if h : B ≤ a.val ∧ a.val < B + 512 then w (ix2 ⟨a.val - B, by omega⟩ d) else dq (ix2 a d) := by
  subst hoff
  unfold VecWindow.put
  by_cases h : B ≤ a.val ∧ a.val < B + 512
  · have h' : ∀ x : Fin S2048x192.rank, (![B, 0] : Fin 2 → ℕ) x ≤ (ix2 a d x).val ∧ (ix2 a d x).val < (![B, 0] : Fin 2 → ℕ) x + S512x192.size x := by
      intro x
      match x with
      | ⟨0, _⟩ => exact h
      | ⟨1, _⟩ => exact ⟨Nat.zero_le _, by have := d.isLt; show d.val < 0 + 192; omega⟩
    rw [dif_pos h, dif_pos h']
    congr 1
    funext x
    match x with
    | ⟨0, _⟩ => rfl
    | ⟨1, _⟩ => rfl
  · rw [dif_neg h, dif_neg]
    intro h'
    exact h (h' 0)

/-- One step of the loop below the diagonal, projected. -/
theorem trips_step (i : grid1.Coords) (x0 : Vec Ideal S1x2048x192 .bf16) (v12 : Vec Ideal S512x192 .bf16) (v14 : Vec Ideal S512x128 .bf16) (x3 : Vec Ideal S2048x128 .bf16) (x5 : Vec Ideal S1x2048x1 .f32) (d : Vec Ideal S2048x1 .f32)
    (s : Vec Ideal S2048x192 .f32 × Vec Ideal S512x192 .f32 × Vec Ideal S512x128 .f32) (n : ℕ) (h : n < (k1_t1_loop i).trips) :
    trips i x0 v12 v14 x3 x5 d s (n + 1)
      = (dqT i x0 v12 v14 x3 x5 d ⟨n, h⟩ (trips i x0 v12 v14 x3 x5 d s n).1, dkT i x0 v12 v14 x3 x5 d ⟨n, h⟩ (trips i x0 v12 v14 x3 x5 d s n).2.1, dvT i x0 v12 x3 x5 ⟨n, h⟩ (trips i x0 v12 v14 x3 x5 d s n).2.2) := by
  rw [trips, dif_pos h]

section Bwd

variable (q k v g : ℕ → ℕ → ℝ) (i : grid1.Coords) (x0 : Vec Ideal S1x2048x192 .bf16) (x1 : Vec Ideal S1x512x192 .bf16) (x2 : Vec Ideal S1x512x128 .bf16)
  (x3 : Vec Ideal S2048x128 .bf16) (x5 : Vec Ideal S1x2048x1 .f32) (d : Vec Ideal S2048x1 .f32)
  (hq : ∀ (a : Fin 2048) (b : Fin 192), x0 (ix3 0 a b) = (q a.val b.val : EReal))
  (hk : ∀ (r : Fin 512) (b : Fin 192), x1 (ix3 0 r b) = (k (512 * (i 1).val + r.val) b.val : EReal))
  (hv : ∀ (r : Fin 512) (b : Fin 128), x2 (ix3 0 r b) = (v (512 * (i 1).val + r.val) b.val : EReal))
  (hg : ∀ (a : Fin 2048) (b : Fin 128), x3 (ix2 a b) = (g a.val b.val : EReal))
  (he : ∀ a : Fin 2048, x5 (ix3 0 a 0) = (Real.log (zz q k a.val) : EReal))
  (hd : ∀ a : Fin 2048, d (ix2 a 0) = (dd q k v g a.val : EReal))

/-- A key block loaded whole and flattened. -/
theorem keys_apply (r : Fin 512) (b : Fin 192) : k1_pay22 (kAll x1) (ix2 r b) = x1 (ix3 0 r b) := by
  pointwise [k1_pay22, kAll]

/-- A value block loaded whole and flattened. -/
theorem vals_apply (r : Fin 512) (b : Fin 128) : k1_pay23 (vAll x2) (ix2 r b) = x2 (ix3 0 r b) := by
  pointwise [k1_pay23, vAll]

include hq hk in
/-- The masked scores of the diagonal step. -/
theorem sM_apply (r c : Fin 512) :
    sM i x0 (kAll x1) (ix2 r c) = if c.val / 64 ≤ r.val / 64 then ((sc q k (512 * (i 1).val + r.val) (512 * (i 1).val + c.val) * scl : ℝ) : EReal) else ⊥ := by
  have hb := blk_lt i
  pointwise [sM, k1_pay29, k1_pay26, k1_pay27, k1_pay28, mask_named]
  refine (chunk_select _ _ c r).trans ?_
  congr 1
  pointwise [k1_pay25, k1_pay24, k1_pay22, qD, kAll, k1_off1_eq, hq, hk, ofBits_scl]
  simp only [← EReal.coe_mul, sum_coe, sc_fin]

include hq hk he in
/-- The weights of the diagonal step. -/
theorem pD_apply (r c : Fin 512) :
    k1_pay30 (sM i x0 (kAll x1)) (eD i x5) (ix2 r c) = (ww q k (512 * (i 1).val + r.val) (512 * (i 1).val + c.val) : EReal) := by
  have hb := blk_lt i
  pointwise [k1_pay30, eD, k1_off3_eq, he, sM_apply q k i x0 x1 hq hk]
  rw [ww_eq]
  have : ((512 * (i 1).val + c.val) / 64 ≤ (512 * (i 1).val + r.val) / 64) ↔ (c.val / 64 ≤ r.val / 64) := by omega
  simp only [this]
  split
  · rw [← EReal.coe_sub, exp_coe]
  · rfl

include hq hk he hg in
/-- The value gradient after the diagonal step. -/
theorem dvD_apply (c : Fin 512) (b : Fin 128) :
    dvD i x0 x3 x5 (kAll x1) (ix2 c b)
      = ((∑ x : Fin 512, ww q k (512 * (i 1).val + x.val) (512 * (i 1).val + c.val) * g (512 * (i 1).val + x.val) b.val : ℝ) : EReal) := by
  have hb := blk_lt i
  pointwise [dvD, k1_pay31, k1_pay21, pD_apply q k i x0 x1 x5 hq hk he, gD, k1_off2_eq, hg, ofBits_zero]
  simp only [← EReal.coe_mul, sum_coe]

include hq hk he hg hv hd in
/-- The score gradients of the diagonal step. -/
theorem dsD_apply (r c : Fin 512) :
    k1_pay32 (k1_pay23 (vAll x2)) (gD i x3) (sM i x0 (kAll x1)) (eD i x5) (dD i d) (ix2 r c) = (ds q k v g (512 * (i 1).val + r.val) (512 * (i 1).val + c.val) : EReal) := by
  have hb := blk_lt i
  pointwise [k1_pay32, pD_apply q k i x0 x1 x5 hq hk he, gD, k1_off2_eq, hg, dD, k1_off4_eq, hd, vals_apply, hv, ofBits_scl]
  simp only [← EReal.coe_mul, sum_coe, ← EReal.coe_sub]
  rw [← pp_fin]; rfl

include hq hk he hg hv hd in
/-- The key gradient after the diagonal step. -/
theorem dkD_apply (c : Fin 512) (b : Fin 192) :
    dkD i x0 (k1_pay23 (vAll x2)) x3 x5 d (kAll x1) (ix2 c b)
      = ((∑ x : Fin 512, ds q k v g (512 * (i 1).val + x.val) (512 * (i 1).val + c.val) * q (512 * (i 1).val + x.val) b.val : ℝ) : EReal) := by
  have hb := blk_lt i
  pointwise [dkD, k1_pay33, k1_pay20, dsD_apply q k v g i x0 x1 x2 x3 x5 d hq hk hv hg he hd, k1_pay24, qD, k1_off1_eq, hq, ofBits_zero]
  simp only [← EReal.coe_mul, sum_coe]

/-- What one key block adds to a row of the query gradient. -/
def gqAdd (q k v g : ℕ → ℕ → ℝ) (J a b : ℕ) : ℝ := ∑ x ∈ Finset.range 512, ds q k v g a (512 * J + x) * k (512 * J + x) b

include hq hk he hg hv hd in
/-- The query gradient after the diagonal step. -/
theorem dqD_apply (dq : Vec Ideal S2048x192 .f32) (A : ℕ → ℕ → ℝ) (hA : ∀ (a : Fin 2048) (b : Fin 192), dq (ix2 a b) = (A a.val b.val : EReal)) (a : Fin 2048) (b : Fin 192) :
    dqD i x0 (k1_pay22 (kAll x1)) (k1_pay23 (vAll x2)) x3 x5 d (kAll x1) dq (ix2 a b)
      = ((A a.val b.val + if 512 * (i 1).val ≤ a.val ∧ a.val < 512 * (i 1).val + 512 then gqAdd q k v g (i 1).val a.val b.val else 0 : ℝ) : EReal) := by
  have hb := blk_lt i
  unfold dqD
  rw [put_rows dq _ (512 * (i 1).val) (k1_off5_eq i)]
  split
  · rename_i h
    pointwise [k1_pay34, dsD_apply q k v g i x0 x1 x2 x3 x5 d hq hk hv hg he hd, keys_apply, hk, k1_off5_eq, hA]
    simp only [← EReal.coe_mul, sum_coe, ← EReal.coe_add]
    have e : 512 * (i 1).val + (a.val - 512 * (i 1).val) = a.val := by omega
    simp only [e]
    unfold gqAdd; rw [Finset.sum_range]
  · rw [hA, add_zero]

section Trip

variable (t : Fin (k1_t1_loop i).trips)

/-- A step's rows stay within the array. -/
theorem trip_lt : (i 1).val + t.val + 1 < 4 := by
  have h := t.isLt; have e := trips_eq i; omega

include hq hk he in
/-- The weights of a step below the diagonal. -/
theorem pT_apply (r c : Fin 512) :
    k1_pay9 (k1_pay22 (kAll x1)) (qT i x0 t) (eT i x5 t) (ix2 r c) = (ww q k (512 * (i 1).val + 512 * t.val + 512 + r.val) (512 * (i 1).val + c.val) : EReal) := by
  have hb := trip_lt i t
  pointwise [k1_pay9, k1_pay8, qT, eT, k1_off6_eq, k1_off8_eq, keys_apply, hq, hk, he, ofBits_scl]
  simp only [← EReal.coe_mul, sum_coe, ← EReal.coe_sub, ← sc_fin, exp_coe]
  rw [ww_eq, if_pos (by omega)]

include hq hk he hg in
/-- The value gradient after a step below the diagonal. -/
theorem dvT_apply (dv : Vec Ideal S512x128 .f32) (A : ℕ → ℕ → ℝ) (hA : ∀ (c : Fin 512) (b : Fin 128), dv (ix2 c b) = (A c.val b.val : EReal)) (c : Fin 512) (b : Fin 128) :
    dvT i x0 (k1_pay22 (kAll x1)) x3 x5 t dv (ix2 c b)
      = ((A c.val b.val + ∑ x : Fin 512, ww q k (512 * (i 1).val + 512 * t.val + 512 + x.val) (512 * (i 1).val + c.val) * g (512 * (i 1).val + 512 * t.val + 512 + x.val) b.val : ℝ) : EReal) := by
  have hb := trip_lt i t
  pointwise [dvT, k1_pay10, pT_apply q k i x0 x1 x5 hq hk he, gT, k1_off7_eq, hg, hA]
  simp only [← EReal.coe_mul, sum_coe, ← EReal.coe_add]

include hq hk he hg hv hd in
/-- The score gradients of a step below the diagonal. -/
theorem dsT_apply (r c : Fin 512) :
    k1_pay11 (k1_pay22 (kAll x1)) (k1_pay23 (vAll x2)) (qT i x0 t) (gT i x3 t) (eT i x5 t) (dT i d t) (ix2 r c)
      = (ds q k v g (512 * (i 1).val + 512 * t.val + 512 + r.val) (512 * (i 1).val + c.val) : EReal) := by
  have hb := trip_lt i t
  pointwise [k1_pay11, pT_apply q k i x0 x1 x5 hq hk he, gT, k1_off7_eq, hg, dT, k1_off9_eq, hd, vals_apply, hv, ofBits_scl]
  simp only [← EReal.coe_mul, sum_coe, ← EReal.coe_sub]
  rw [← pp_fin]; rfl

include hq hk he hg hv hd in
/-- The key gradient after a step below the diagonal. -/
theorem dkT_apply (dk : Vec Ideal S512x192 .f32) (A : ℕ → ℕ → ℝ) (hA : ∀ (c : Fin 512) (b : Fin 192), dk (ix2 c b) = (A c.val b.val : EReal)) (c : Fin 512) (b : Fin 192) :
    dkT i x0 (k1_pay22 (kAll x1)) (k1_pay23 (vAll x2)) x3 x5 d t dk (ix2 c b)
      = ((A c.val b.val + ∑ x : Fin 512, ds q k v g (512 * (i 1).val + 512 * t.val + 512 + x.val) (512 * (i 1).val + c.val) * q (512 * (i 1).val + 512 * t.val + 512 + x.val) b.val : ℝ) : EReal) := by
  have hb := trip_lt i t
  pointwise [dkT, k1_pay1, k1_pay12, dsT_apply q k v g i x0 x1 x2 x3 x5 d hq hk hv hg he hd, k1_pay8, qT, k1_off6_eq, hq, hA]
  simp only [← EReal.coe_mul, sum_coe, ← EReal.coe_add]

include hq hk he hg hv hd in
/-- The query gradient after a step below the diagonal. -/
theorem dqT_apply (dq : Vec Ideal S2048x192 .f32) (A : ℕ → ℕ → ℝ) (hA : ∀ (a : Fin 2048) (b : Fin 192), dq (ix2 a b) = (A a.val b.val : EReal)) (a : Fin 2048) (b : Fin 192) :
    dqT i x0 (k1_pay22 (kAll x1)) (k1_pay23 (vAll x2)) x3 x5 d t dq (ix2 a b)
      = ((A a.val b.val + if 512 * (i 1).val + 512 * t.val + 512 ≤ a.val ∧ a.val < 512 * (i 1).val + 512 * t.val + 512 + 512 then gqAdd q k v g (i 1).val a.val b.val else 0 : ℝ) : EReal) := by
  have hb := trip_lt i t
  unfold dqT
  rw [put_rows dq _ (512 * (i 1).val + 512 * t.val + 512) (k1_off10_eq i t)]
  split
  · rename_i h
    pointwise [k1_pay2, dsT_apply q k v g i x0 x1 x2 x3 x5 d hq hk hv hg he hd, keys_apply, hk, k1_off10_eq, hA]
    simp only [← EReal.coe_mul, sum_coe, ← EReal.coe_add]
    have e : 512 * (i 1).val + 512 * t.val + 512 + (a.val - (512 * (i 1).val + 512 * t.val + 512)) = a.val := by omega
    simp only [e]
    unfold gqAdd; rw [Finset.sum_range]
  · rw [hA, add_zero]

end Trip

include hq hk he hg hv hd in
/-- The accumulators after the diagonal step and some of the steps below it. -/
theorem trips_apply (dq : Vec Ideal S2048x192 .f32) (A : ℕ → ℕ → ℝ) (hA : ∀ (a : Fin 2048) (b : Fin 192), dq (ix2 a b) = (A a.val b.val : EReal)) (n : ℕ) (hn : n ≤ (k1_t1_loop i).trips) :
    (∀ (a : Fin 2048) (b : Fin 192), (trips i x0 (k1_pay22 (kAll x1)) (k1_pay23 (vAll x2)) x3 x5 d
        (dqD i x0 (k1_pay22 (kAll x1)) (k1_pay23 (vAll x2)) x3 x5 d (kAll x1) dq, dkD i x0 (k1_pay23 (vAll x2)) x3 x5 d (kAll x1), dvD i x0 x3 x5 (kAll x1)) n).1 (ix2 a b)
        = ((A a.val b.val + if 512 * (i 1).val ≤ a.val ∧ a.val < 512 * (i 1).val + 512 * (n + 1) then gqAdd q k v g (i 1).val a.val b.val else 0 : ℝ) : EReal))
    ∧ (∀ (c : Fin 512) (b : Fin 192), (trips i x0 (k1_pay22 (kAll x1)) (k1_pay23 (vAll x2)) x3 x5 d
        (dqD i x0 (k1_pay22 (kAll x1)) (k1_pay23 (vAll x2)) x3 x5 d (kAll x1) dq, dkD i x0 (k1_pay23 (vAll x2)) x3 x5 d (kAll x1), dvD i x0 x3 x5 (kAll x1)) n).2.1 (ix2 c b)
        = ((∑ x ∈ Finset.range (512 * (n + 1)), ds q k v g (512 * (i 1).val + x) (512 * (i 1).val + c.val) * q (512 * (i 1).val + x) b.val : ℝ) : EReal))
    ∧ (∀ (c : Fin 512) (b : Fin 128), (trips i x0 (k1_pay22 (kAll x1)) (k1_pay23 (vAll x2)) x3 x5 d
        (dqD i x0 (k1_pay22 (kAll x1)) (k1_pay23 (vAll x2)) x3 x5 d (kAll x1) dq, dkD i x0 (k1_pay23 (vAll x2)) x3 x5 d (kAll x1), dvD i x0 x3 x5 (kAll x1)) n).2.2 (ix2 c b)
        = ((∑ x ∈ Finset.range (512 * (n + 1)), ww q k (512 * (i 1).val + x) (512 * (i 1).val + c.val) * g (512 * (i 1).val + x) b.val : ℝ) : EReal)) := by
  induction n with
  | zero =>
    refine ⟨fun a b => dqD_apply q k v g i x0 x1 x2 x3 x5 d hq hk hv hg he hd dq A hA a b, fun c b => ?_, fun c b => ?_⟩
    · rw [Finset.sum_range]; exact dkD_apply q k v g i x0 x1 x2 x3 x5 d hq hk hv hg he hd c b
    · rw [Finset.sum_range]; exact dvD_apply q k g i x0 x1 x3 x5 hq hk hg he c b
  | succ n ih =>
    obtain ⟨h1, h2, h3⟩ := ih (by omega)
    have hlt : n < (k1_t1_loop i).trips := by omega
    have hs := trips_step i x0 (k1_pay22 (kAll x1)) (k1_pay23 (vAll x2)) x3 x5 d
        (dqD i x0 (k1_pay22 (kAll x1)) (k1_pay23 (vAll x2)) x3 x5 d (kAll x1) dq, dkD i x0 (k1_pay23 (vAll x2)) x3 x5 d (kAll x1), dvD i x0 x3 x5 (kAll x1)) n hlt
    rw [hs]
    clear hs
    generalize trips i x0 (k1_pay22 (kAll x1)) (k1_pay23 (vAll x2)) x3 x5 d
        (dqD i x0 (k1_pay22 (kAll x1)) (k1_pay23 (vAll x2)) x3 x5 d (kAll x1) dq, dkD i x0 (k1_pay23 (vAll x2)) x3 x5 d (kAll x1), dvD i x0 x3 x5 (kAll x1)) n = st at h1 h2 h3 ⊢
    have e : 512 * (n + 1 + 1) = 512 * (n + 1) + 512 := by ring
    refine ⟨fun a b => ?_, fun c b => ?_, fun c b => ?_⟩
    · refine (dqT_apply q k v g i x0 x1 x2 x3 x5 d hq hk hv hg he hd ⟨n, hlt⟩ st.1
        (fun a b => A a b + if 512 * (i 1).val ≤ a ∧ a < 512 * (i 1).val + 512 * (n + 1) then gqAdd q k v g (i 1).val a b else 0) h1 a b).trans ?_
      congr 1
      by_cases c1 : 512 * (i 1).val ≤ a.val ∧ a.val < 512 * (i 1).val + 512 * (n + 1)
      · rw [if_pos c1, if_neg (by dsimp only; omega), if_pos (by omega)]; ring
      · rw [if_neg c1]
        by_cases c2 : 512 * (i 1).val ≤ a.val ∧ a.val < 512 * (i 1).val + 512 * (n + 1 + 1)
        · rw [if_pos (by dsimp only; omega), if_pos c2]; ring
        · rw [if_neg (by dsimp only; omega), if_neg c2]; ring
    · refine (dkT_apply q k v g i x0 x1 x2 x3 x5 d hq hk hv hg he hd ⟨n, hlt⟩ st.2.1
        (fun c b => ∑ x ∈ Finset.range (512 * (n + 1)), ds q k v g (512 * (i 1).val + x) (512 * (i 1).val + c) * q (512 * (i 1).val + x) b) h2 c b).trans ?_
      rw [e, Finset.sum_range_add, Finset.sum_range (n := 512)]
      refine congrArg _ (congrArg _ (Finset.sum_congr rfl fun x _ => ?_))
      rw [show 512 * (i 1).val + 512 * n + 512 + x.val = 512 * (i 1).val + (512 * (n + 1) + x.val) by ring]
    · refine (dvT_apply q k g i x0 x1 x3 x5 hq hk hg he ⟨n, hlt⟩ st.2.2
        (fun c b => ∑ x ∈ Finset.range (512 * (n + 1)), ww q k (512 * (i 1).val + x) (512 * (i 1).val + c) * g (512 * (i 1).val + x) b) h3 c b).trans ?_
      rw [e, Finset.sum_range_add, Finset.sum_range (n := 512)]
      refine congrArg _ (congrArg _ (Finset.sum_congr rfl fun x _ => ?_))
      rw [show 512 * (i 1).val + 512 * n + 512 + x.val = 512 * (i 1).val + (512 * (n + 1) + x.val) by ring]

/-- A sum over all rows that vanishes before a block is the sum from that block on. -/
theorem sum_from (J : ℕ) (hJ : J < 4) (f : ℕ → ℝ) (h : ∀ a, a < 512 * J → f a = 0) :
    ∑ x ∈ Finset.range (512 * (3 - J + 1)), f (512 * J + x) = ∑ a ∈ Finset.range 2048, f a := by
  rw [show 2048 = 512 * J + 512 * (3 - J + 1) by omega, Finset.sum_range_add, Finset.sum_eq_zero (fun a ha => h a (Finset.mem_range.1 ha)), zero_add]

include hq hk he hg hv hd in
/-- What a point of the backward call computes: its key block's part of the query gradient added, and the block's own key and value gradients. -/
theorem bwdSt_apply (dq : Vec Ideal S2048x192 .f32) (A : ℕ → ℕ → ℝ) (hA : ∀ (a : Fin 2048) (b : Fin 192), dq (ix2 a b) = (A a.val b.val : EReal)) :
    (∀ (a : Fin 2048) (b : Fin 192), (bwdSt i x0 x1 x2 x3 x5 d dq).1 (ix2 a b) = ((A a.val b.val + gqAdd q k v g (i 1).val a.val b.val : ℝ) : EReal))
    ∧ (∀ (c : Fin 512) (b : Fin 192), (bwdSt i x0 x1 x2 x3 x5 d dq).2.1 (ix2 c b) = (gk q k v g (512 * (i 1).val + c.val) b.val : EReal))
    ∧ (∀ (c : Fin 512) (b : Fin 128), (bwdSt i x0 x1 x2 x3 x5 d dq).2.2 (ix2 c b) = (gv q k g (512 * (i 1).val + c.val) b.val : EReal)) := by
  have hb := blk_lt i
  obtain ⟨h1, h2, h3⟩ := trips_apply q k v g i x0 x1 x2 x3 x5 d hq hk hv hg he hd dq A hA _ le_rfl
  unfold bwdSt
  refine ⟨fun a b => (h1 a b).trans ?_, fun c b => (h2 c b).trans ?_, fun c b => (h3 c b).trans ?_⟩
  · refine congrArg _ (congrArg _ ?_)
    split
    · rfl
    · rename_i hn
      rw [trips_eq] at hn
      unfold gqAdd
      refine (Finset.sum_eq_zero fun x hx => ?_).symm
      rw [ds_zero q k v g (by have := a.isLt; omega), zero_mul]
  · refine congrArg _ ?_
    rw [trips_eq]
    refine sum_from _ hb (fun a => ds q k v g a (512 * (i 1).val + c.val) * q a b.val) fun a ha => ?_
    rw [ds_zero q k v g (by omega), zero_mul]
  · refine congrArg _ ?_
    rw [trips_eq]
    refine sum_from _ hb (fun a => ww q k a (512 * (i 1).val + c.val) * g a b.val) fun a ha => ?_
    rw [ww_zero q k (by omega), zero_mul]

end Bwd

end Cert.KernelIdeal.Hand
-- ==== Proof.ValHead.lean ====
module

public import proofs.«01_k».proof.Proof.ValBase

@[expose] public section

noncomputable section

namespace Cert.Attn

open Idealize.ShloMosaic

/-- An array holds real numbers only. -/
def AllReal {s : Shape} (X : s.Idx → EReal) : Prop := ∀ i, X i = ((X i).toReal : EReal)

/-- One head of an array of heads, its rows and columns numbered. -/
def head {e : ℕ} [NeZero e] (X : (⟨3, ![16, 2048, e]⟩ : Shape).Idx → EReal) (h : Fin 16) (a b : ℕ) : ℝ :=
  (X (ix3 h (Fin.ofNat 2048 a) (Fin.ofNat e b))).toReal

/-- One head's columns of an array that has the heads side by side. -/
def cot (X : (⟨2, ![2048, 2048]⟩ : Shape).Idx → EReal) (h : Fin 16) (a b : ℕ) : ℝ :=
  (X (ix2 (Fin.ofNat 2048 a) (Fin.ofNat 2048 (128 * h.val + b)))).toReal

theorem head_eq {e : ℕ} [NeZero e] (X : (⟨3, ![16, 2048, e]⟩ : Shape).Idx → EReal) (hX : AllReal X) (h : Fin 16) (a : Fin 2048) (b : Fin e) :
    X (ix3 h a b) = (head X h a.val b.val : EReal) := by
  unfold head
  rw [Fin.ofNat_val_eq_self, Fin.ofNat_val_eq_self]
  exact hX _

theorem cot_eq (X : (⟨2, ![2048, 2048]⟩ : Shape).Idx → EReal) (hX : AllReal X) (h : Fin 16) (a : Fin 2048) (b : ℕ) (hb : 128 * h.val + b < 2048) :
    X (ix2 a ⟨128 * h.val + b, hb⟩) = (cot X h a.val b : EReal) := by
  unfold cot
  rw [Fin.ofNat_val_eq_self, show Fin.ofNat 2048 (128 * h.val + b) = ⟨128 * h.val + b, hb⟩ from Fin.ext (Nat.mod_eq_of_lt hb)]
  exact hX _

section Results

variable (Q K : (⟨3, ![16, 2048, 192]⟩ : Shape).Idx → EReal) (W : (⟨3, ![16, 2048, 128]⟩ : Shape).Idx → EReal) (G : (⟨2, ![2048, 2048]⟩ : Shape).Idx → EReal)

/-- The head a column belongs to. -/
def headOf (b : Fin 2048) : Fin 16 := ⟨b.val / 128, by omega⟩

/-- The attention's output, the heads side by side. -/
def outO : (⟨2, ![2048, 2048]⟩ : Shape).Idx → EReal :=
  fun i => (oo (head Q (headOf (i 1))) (head K (headOf (i 1))) (head W (headOf (i 1))) (i 0).val ((i 1).val % 128) : EReal)

/-- The rows' log-sums. -/
def outE : (⟨3, ![16, 2048, 1]⟩ : Shape).Idx → EReal := fun i => (Real.log (zz (head Q (i 0)) (head K (i 0)) (i 1).val) : EReal)

/-- The gradient of the queries. -/
def outQ : (⟨3, ![16, 2048, 192]⟩ : Shape).Idx → EReal :=
  fun i => (gq (head Q (i 0)) (head K (i 0)) (head W (i 0)) (cot G (i 0)) (i 1).val (i 2).val : EReal)

/-- The gradient of the keys. -/
def outK : (⟨3, ![16, 2048, 192]⟩ : Shape).Idx → EReal :=
  fun i => (gk (head Q (i 0)) (head K (i 0)) (head W (i 0)) (cot G (i 0)) (i 1).val (i 2).val : EReal)

/-- The gradient of the values. -/
def outV : (⟨3, ![16, 2048, 128]⟩ : Shape).Idx → EReal :=
  fun i => (gv (head Q (i 0)) (head K (i 0)) (cot G (i 0)) (i 1).val (i 2).val : EReal)

/-- The output at a head's column. -/
theorem outO_at (i : (⟨2, ![2048, 2048]⟩ : Shape).Idx) (h : Fin 16) (a d : ℕ) (h0 : (i 0).val = a) (h1 : (i 1).val = 128 * h.val + d) (hd : d < 128) :
    outO Q K W i = (oo (head Q h) (head K h) (head W h) a d : EReal) := by
  subst h0
  unfold outO
  rw [show headOf (i 1) = h from Fin.ext (by show (i 1).val / 128 = _; rw [h1]; omega), h1, show (128 * h.val + d) % 128 = d by omega]

/-- The log-sums at a head's row. -/
theorem outE_at (i : (⟨3, ![16, 2048, 1]⟩ : Shape).Idx) (h : Fin 16) (a : ℕ) (h0 : (i 0).val = h.val) (h1 : (i 1).val = a) :
    outE Q K i = (Real.log (zz (head Q h) (head K h) a) : EReal) := by
  subst h1; unfold outE; rw [show i 0 = h from Fin.ext h0]

/-- The gradient of the queries at a head's row and column. -/
theorem outQ_at (i : (⟨3, ![16, 2048, 192]⟩ : Shape).Idx) (h : Fin 16) (a b : ℕ) (h0 : (i 0).val = h.val) (h1 : (i 1).val = a) (h2 : (i 2).val = b) :
    outQ Q K W G i = (gq (head Q h) (head K h) (head W h) (cot G h) a b : EReal) := by
  subst h1; subst h2; unfold outQ; rw [show i 0 = h from Fin.ext h0]

/-- The gradient of the keys at a head's row and column. -/
theorem outK_at (i : (⟨3, ![16, 2048, 192]⟩ : Shape).Idx) (h : Fin 16) (a b : ℕ) (h0 : (i 0).val = h.val) (h1 : (i 1).val = a) (h2 : (i 2).val = b) :
    outK Q K W G i = (gk (head Q h) (head K h) (head W h) (cot G h) a b : EReal) := by
  subst h1; subst h2; unfold outK; rw [show i 0 = h from Fin.ext h0]

/-- The gradient of the values at a head's row and column. -/
theorem outV_at (i : (⟨3, ![16, 2048, 128]⟩ : Shape).Idx) (h : Fin 16) (a b : ℕ) (h0 : (i 0).val = h.val) (h1 : (i 1).val = a) (h2 : (i 2).val = b) :
    outV Q K G i = (gv (head Q h) (head K h) (cot G h) a b : EReal) := by
  subst h1; subst h2; unfold outV; rw [show i 0 = h from Fin.ext h0]

end Results

end Cert.Attn
-- ==== Proof.ValOut.lean ====
module

public import proofs.«01_k».proof.Proof.Run
public import proofs.«01_k».proof.Proof.ValBwd
public import proofs.«01_k».proof.Proof.ValHead
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Cert.Attn Idealize.ShloMosaic.Pipeline

/-- Where a window's block sits at a point. -/
theorem e0_0 : ∀ t : Fin cfg0.N, win0_0.index t = ![t.val / 4, t.val % 4, 0] := (by decide +kernel : ∀ t : Fin grid0.N, _)
/-- Where a window's block sits at a point. -/
theorem e0_1 : ∀ t : Fin cfg0.N, win0_1.index t = ![t.val / 4, 0, 0] := (by decide +kernel : ∀ t : Fin grid0.N, _)
/-- Where a window's block sits at a point. -/
theorem e0_2 : ∀ t : Fin cfg0.N, win0_2.index t = ![t.val / 4, 0, 0] := (by decide +kernel : ∀ t : Fin grid0.N, _)
/-- Where a window's block sits at a point. -/
theorem e0_3 : ∀ t : Fin cfg0.N, win0_3.index t = ![t.val % 4, t.val / 4] := (by decide +kernel : ∀ t : Fin grid0.N, _)
/-- Where a window's block sits at a point. -/
theorem e0_4 : ∀ t : Fin cfg0.N, win0_4.index t = ![t.val / 4, t.val % 4, 0] := (by decide +kernel : ∀ t : Fin grid0.N, _)
/-- Where a window's block sits at a point. -/
theorem e1_0 : ∀ t : Fin cfg1.N, win1_0.index t = ![t.val / 4, 0, 0] := (by decide +kernel : ∀ t : Fin grid1.N, _)
/-- Where a window's block sits at a point. -/
theorem e1_1 : ∀ t : Fin cfg1.N, win1_1.index t = ![t.val / 4, t.val % 4, 0] := (by decide +kernel : ∀ t : Fin grid1.N, _)
/-- Where a window's block sits at a point. -/
theorem e1_2 : ∀ t : Fin cfg1.N, win1_2.index t = ![t.val / 4, t.val % 4, 0] := (by decide +kernel : ∀ t : Fin grid1.N, _)
/-- Where a window's block sits at a point. -/
theorem e1_3 : ∀ t : Fin cfg1.N, win1_3.index t = ![0, t.val / 4] := (by decide +kernel : ∀ t : Fin grid1.N, _)
/-- Where a window's block sits at a point. -/
theorem e1_4 : ∀ t : Fin cfg1.N, win1_4.index t = ![0, t.val / 4] := (by decide +kernel : ∀ t : Fin grid1.N, _)
/-- Where a window's block sits at a point. -/
theorem e1_5 : ∀ t : Fin cfg1.N, win1_5.index t = ![t.val / 4, 0, 0] := (by decide +kernel : ∀ t : Fin grid1.N, _)
/-- Where a window's block sits at a point. -/
theorem e1_6 : ∀ t : Fin cfg1.N, win1_6.index t = ![t.val / 4, 0, 0] := (by decide +kernel : ∀ t : Fin grid1.N, _)
/-- Where a window's block sits at a point. -/
theorem e1_7 : ∀ t : Fin cfg1.N, win1_7.index t = ![t.val / 4, t.val % 4, 0] := (by decide +kernel : ∀ t : Fin grid1.N, _)
/-- Where a window's block sits at a point. -/
theorem e1_8 : ∀ t : Fin cfg1.N, win1_8.index t = ![t.val / 4, t.val % 4, 0] := (by decide +kernel : ∀ t : Fin grid1.N, _)

/-- The head a point of the forward call works on. -/
def hd0 (t : Fin cfg0.N) : Fin 16 := ⟨t.val / 4, by have := Nat.lt_of_lt_of_eq t.isLt N_0; omega⟩
/-- The head a point of the backward call works on. -/
def hd1 (t : Fin cfg1.N) : Fin 16 := ⟨t.val / 4, by have := Nat.lt_of_lt_of_eq t.isLt N_1; omega⟩

section Fwd

variable (V : (c : Dev nD) → (b : Ref sig .tc) → Buf (Elt Ideal) ((c : Thread nD τ).loc b)) (c : Dev nD)
  (hQ : AllReal (V c main_arg0 : Vec Ideal S16x2048x192 .bf16)) (hK : AllReal (V c main_arg1 : Vec Ideal S16x2048x192 .bf16))
  (hW : AllReal (V c main_arg2 : Vec Ideal S16x2048x128 .bf16))

include hQ in
/-- The queries of a point of the forward call. -/
theorem qs0 (t : Fin cfg0.N) (r : Fin 512) (d : Fin 192) :
    (iblk0 V c 0 t : Vec Ideal S1x512x192 .bf16) (ix3 0 r d) = (head (V c main_arg0 : Vec Ideal S16x2048x192 .bf16) (hd0 t) (512 * (t.val % 4) + r.val) d.val : EReal) := by
  refine Eq.trans ?_ (head_eq _ hQ (hd0 t) ⟨512 * (t.val % 4) + r.val, by omega⟩ d)
  blk_simp [iblk0, e0_0]
  congr 1
  blk_ext [e0_0, hd0]

include hK in
/-- The keys of a point of the forward call. -/
theorem ks0 (t : Fin cfg0.N) (r : Fin 2048) (d : Fin 192) :
    (iblk0 V c 1 t : Vec Ideal S1x2048x192 .bf16) (ix3 0 r d) = (head (V c main_arg1 : Vec Ideal S16x2048x192 .bf16) (hd0 t) r.val d.val : EReal) := by
  refine Eq.trans ?_ (head_eq _ hK (hd0 t) r d)
  blk_simp [iblk0, e0_1]
  congr 1
  blk_ext [e0_1, hd0]

include hW in
/-- The values of a point of the forward call. -/
theorem vs0 (t : Fin cfg0.N) (r : Fin 2048) (d : Fin 128) :
    (iblk0 V c 2 t : Vec Ideal S1x2048x128 .bf16) (ix3 0 r d) = (head (V c main_arg2 : Vec Ideal S16x2048x128 .bf16) (hd0 t) r.val d.val : EReal) := by
  refine Eq.trans ?_ (head_eq _ hW (hd0 t) r d)
  blk_simp [iblk0, e0_2]
  congr 1
  blk_ext [e0_2, hd0]

include hQ hK hW in
/-- What the forward call leaves as the attention's output. -/
theorem fin0_3 : (dat0 V c).arrAt 3 cfg0.N = outO (V c main_arg0 : Vec Ideal S16x2048x192 .bf16) (V c main_arg1 : Vec Ideal S16x2048x192 .bf16) (V c main_arg2 : Vec Ideal S16x2048x128 .bf16) := by
  refine (dat0 V c).arrAt_eq_of_covers 3 _ (by decide +kernel) fun t hf y => ?_
  blk_simp
  rw [after0_3]
  obtain ⟨r, d, rfl⟩ := ex2 y
  refine (oB_apply _ _ _ _ _ _ (t.val % 4) (Nat.mod_lt _ (by decide)) (qs0 V c hQ t) (ks0 V c hK t) (vs0 V c hW t) r d).trans
    (outO_at _ _ _ _ (hd0 t) _ _ ?_ ?_ d.isLt).symm
  · blk_simp [e0_3]; simp; omega
  · blk_simp [e0_3, hd0]; simp; omega

include hQ hK in
/-- What the forward call leaves as the rows' log-sums. -/
theorem fin0_4 : (dat0 V c).arrAt 4 cfg0.N = outE (V c main_arg0 : Vec Ideal S16x2048x192 .bf16) (V c main_arg1 : Vec Ideal S16x2048x192 .bf16) := by
  refine (dat0 V c).arrAt_eq_of_covers 4 _ (by decide +kernel) fun t hf y => ?_
  blk_simp
  rw [after0_4]
  obtain ⟨z, r, d, rfl⟩ := ex3 y
  obtain rfl := Subsingleton.elim z 0
  obtain rfl := Subsingleton.elim d 0
  refine (eB_apply _ _ _ _ (t.val % 4) (Nat.mod_lt _ (by decide)) (qs0 V c hQ t) (ks0 V c hK t) r).trans
    (outE_at _ _ _ (hd0 t) _ ?_ ?_).symm
  · blk_simp [e0_4, hd0]; simp
  · blk_simp [e0_4]; simp; omega

end Fwd

section Bwd

variable (V : (c : Dev nD) → (b : Ref sig .tc) → Buf (Elt Ideal) ((c : Thread nD τ).loc b)) (c : Dev nD)
  (Q K : Vec Ideal S16x2048x192 .bf16) (W : Vec Ideal S16x2048x128 .bf16) (G : Vec Ideal S2048x2048 .bf16)
  (hQ : AllReal Q) (hK : AllReal K) (hW : AllReal W) (hG : AllReal G)
  (vQ : V c main_arg0 = Q) (vK : V c main_arg1 = K) (vW : V c main_arg2 = W) (vG : V c main_arg3 = G)
  (vO : V c main_v0_0 = outO Q K W) (vE : V c main_v0_1 = outE Q K)

include hQ vQ in
/-- The queries of a point of the backward call. -/
theorem qs1 (t : Fin cfg1.N) (r : Fin 2048) (d : Fin 192) :
    (iblk1 V c 0 t : Vec Ideal S1x2048x192 .bf16) (ix3 0 r d) = (head Q (hd1 t) r.val d.val : EReal) := by
  refine Eq.trans ?_ (head_eq _ hQ (hd1 t) r d)
  blk_simp [iblk1, e1_0]
  rw [vQ]
  congr 1
  blk_ext [e1_0, hd1]

/-- A point's place in its head. -/
theorem crd (t : Fin cfg1.N) : (grid1.coords t 1).val = t.val % 4 := by
  have e1 : (grid1.coords t 1).val = t.val / 1 % 4 := Pipeline.Grid.coords_val t 1 (by decide) rfl
  rw [e1, Nat.div_one]

include hK vK in
/-- The keys of a point of the backward call. -/
theorem ks1 (t : Fin cfg1.N) (r : Fin 512) (d : Fin 192) :
    (iblk1 V c 1 t : Vec Ideal S1x512x192 .bf16) (ix3 0 r d) = (head K (hd1 t) (512 * (grid1.coords t 1).val + r.val) d.val : EReal) := by
  rw [crd]
  refine Eq.trans ?_ (head_eq _ hK (hd1 t) ⟨512 * (t.val % 4) + r.val, by omega⟩ d)
  blk_simp [iblk1, e1_1]
  rw [vK]
  congr 1
  blk_ext [e1_1, hd1]

include hW vW in
/-- The values of a point of the backward call. -/
theorem vs1 (t : Fin cfg1.N) (r : Fin 512) (d : Fin 128) :
    (iblk1 V c 2 t : Vec Ideal S1x512x128 .bf16) (ix3 0 r d) = (head W (hd1 t) (512 * (grid1.coords t 1).val + r.val) d.val : EReal) := by
  rw [crd]
  refine Eq.trans ?_ (head_eq _ hW (hd1 t) ⟨512 * (t.val % 4) + r.val, by omega⟩ d)
  blk_simp [iblk1, e1_2]
  rw [vW]
  congr 1
  blk_ext [e1_2, hd1]

include hG vG in
/-- The cotangent rows of a point of the backward call. -/
theorem gs1 (t : Fin cfg1.N) (a : Fin 2048) (d : Fin 128) :
    (iblk1 V c 3 t : Vec Ideal S2048x128 .bf16) (ix2 a d) = (cot G (hd1 t) a.val d.val : EReal) := by
  refine Eq.trans ?_ (cot_eq _ hG (hd1 t) a d.val (by have := (hd1 t).isLt; omega))
  blk_simp [iblk1, e1_3]
  rw [vG]
  congr 1
  blk_ext [e1_3, hd1]

include vO in
/-- The output rows of a point of the backward call. -/
theorem os1 (t : Fin cfg1.N) (a : Fin 2048) (d : Fin 128) :
    (iblk1 V c 4 t : Vec Ideal S2048x128 .bf16) (ix2 a d) = (oo (head Q (hd1 t)) (head K (hd1 t)) (head W (hd1 t)) a.val d.val : EReal) := by
  blk_simp [iblk1, e1_4]
  rw [vO]
  refine outO_at _ _ _ _ (hd1 t) _ _ ?_ ?_ d.isLt
  · blk_simp [e1_4]
  · blk_simp [e1_4, hd1]; simp; omega

include vE in
/-- The log-sums of a point of the backward call. -/
theorem ls1 (t : Fin cfg1.N) (a : Fin 2048) :
    (iblk1 V c 5 t : Vec Ideal S1x2048x1 .f32) (ix3 0 a 0) = (Real.log (zz (head Q (hd1 t)) (head K (hd1 t)) a.val) : EReal) := by
  blk_simp [iblk1, e1_5]
  rw [vE]
  refine outE_at _ _ _ (hd1 t) _ ?_ ?_
  · blk_simp [e1_5, hd1]; simp
  · blk_simp [e1_5]

include hG vG vO in
/-- The row products fresh at a head's first point. -/
theorem rowD_apply (t : Fin cfg1.N) (a : Fin 2048) :
    rowD (iblk1 V c 3 t) (iblk1 V c 4 t) (ix2 a 0) = (dd (head Q (hd1 t)) (head K (hd1 t)) (head W (hd1 t)) (cot G (hd1 t)) a.val : EReal) := by
  have h3 := gs1 V c G hG vG t
  have h4 := os1 V c Q K W vO t
  generalize (iblk1 V c 3 t : Vec Ideal S2048x128 .bf16) = y3 at h3 ⊢
  generalize (iblk1 V c 4 t : Vec Ideal S2048x128 .bf16) = y4 at h4 ⊢
  pointwise [rowD, k1_pay19, h3, h4]
  simp only [← EReal.coe_mul, sum_coe]
  unfold dd; rw [Finset.sum_range]

/-- A head's query gradient after some of its key blocks. -/
def part (q k v g : ℕ → ℕ → ℝ) (n a b : ℕ) : ℝ := ∑ x ∈ Finset.range (512 * n), ds q k v g a x * k x b

theorem part_succ (q k v g : ℕ → ℕ → ℝ) (n a b : ℕ) : part q k v g n a b + gqAdd q k v g n a b = part q k v g (n + 1) a b := by
  unfold part gqAdd
  rw [show 512 * (n + 1) = 512 * n + 512 by ring, Finset.sum_range_add]

include hQ hK hW hG vQ vK vW vG vO vE in
/-- What a point of the backward call computes from what it finds. -/
theorem ptOut_apply (t : Fin cfg1.N) (p : Vec Ideal S2048x1 .f32 × Vec Ideal S2048x192 .f32)
    (h1 : ∀ a : Fin 2048, p.1 (ix2 a 0) = (dd (head Q (hd1 t)) (head K (hd1 t)) (head W (hd1 t)) (cot G (hd1 t)) a.val : EReal))
    (h2 : ∀ (a : Fin 2048) (b : Fin 192), p.2 (ix2 a b) = (part (head Q (hd1 t)) (head K (hd1 t)) (head W (hd1 t)) (cot G (hd1 t)) (t.val % 4) a.val b.val : EReal)) :
    (∀ (a : Fin 2048) (b : Fin 192), (ptOut V c t p).1 (ix2 a b) = (part (head Q (hd1 t)) (head K (hd1 t)) (head W (hd1 t)) (cot G (hd1 t)) (t.val % 4 + 1) a.val b.val : EReal))
    ∧ (∀ (x : Fin 512) (b : Fin 192), (ptOut V c t p).2.1 (ix2 x b) = (gk (head Q (hd1 t)) (head K (hd1 t)) (head W (hd1 t)) (cot G (hd1 t)) (512 * (t.val % 4) + x.val) b.val : EReal))
    ∧ (∀ (x : Fin 512) (b : Fin 128), (ptOut V c t p).2.2 (ix2 x b) = (gv (head Q (hd1 t)) (head K (hd1 t)) (cot G (hd1 t)) (512 * (t.val % 4) + x.val) b.val : EReal)) := by
  have h := bwdSt_apply (head Q (hd1 t)) (head K (hd1 t)) (head W (hd1 t)) (cot G (hd1 t)) (grid1.coords t)
    (iblk1 V c 0 t) (iblk1 V c 1 t) (iblk1 V c 2 t) (iblk1 V c 3 t) (iblk1 V c 5 t) p.1
    (qs1 V c Q hQ vQ t) (ks1 V c K hK vK t) (vs1 V c W hW vW t) (gs1 V c G hG vG t) (ls1 V c Q K vE t) h1 p.2 _ h2
  rw [crd] at h
  unfold ptOut
  obtain ⟨ha, hb, hc⟩ := h
  refine ⟨fun a b => ?_, fun x b => ?_, fun x b => ?_⟩
  · rw [ha, part_succ]
  · rw [hb]
  · rw [hc]

include hQ hK hW hG vQ vK vW vG vO vE in
/-- What each point of the backward call finds: its head's row products, and the query gradient of the key blocks before it. -/
theorem pIn_apply (n : ℕ) : ∀ t : Fin cfg1.N, t.val = n →
    (∀ a : Fin 2048, (pIn V c t.val (stB V c t.val)).1 (ix2 a 0) = (dd (head Q (hd1 t)) (head K (hd1 t)) (head W (hd1 t)) (cot G (hd1 t)) a.val : EReal))
    ∧ (∀ (a : Fin 2048) (b : Fin 192), (pIn V c t.val (stB V c t.val)).2 (ix2 a b)
        = (part (head Q (hd1 t)) (head K (hd1 t)) (head W (hd1 t)) (cot G (hd1 t)) (t.val % 4) a.val b.val : EReal)) := by
  induction n with
  | zero =>
    intro t ht
    have h0 : t.val % 4 = 0 := by omega
    rw [outAt_first V c t h0, h0]
    refine ⟨fun a => rowD_apply V c Q K W G hG vG vO t a, fun a b => ?_⟩
    pointwise [k1_pay18, ofBits_zero]
    simp [part]
  | succ n ih =>
    intro t ht
    by_cases h0 : t.val % 4 = 0
    · rw [outAt_first V c t h0, h0]
      refine ⟨fun a => rowD_apply V c Q K W G hG vG vO t a, fun a b => ?_⟩
      pointwise [k1_pay18, ofBits_zero]
      simp [part]
    · have hlt : n < cfg1.N := by have := t.isLt; omega
      obtain ⟨i1, i2⟩ := ih ⟨n, hlt⟩ rfl
      have hh : hd1 ⟨n, hlt⟩ = hd1 t := Fin.ext (by show n / 4 = t.val / 4; omega)
      have hm : t.val % 4 = n % 4 + 1 := by omega
      have ho := ptOut_apply V c Q K W G hQ hK hW hG vQ vK vW vG vO vE ⟨n, hlt⟩ _ i1 i2
      have hs := stB_succ V c ⟨n, hlt⟩
      rw [outAt_later V c t h0, ht]
      rw [show stB V c (n + 1) = _ from hs]
      rw [hh] at i1 ho
      refine ⟨i1, fun a b => ?_⟩
      rw [← ht, hm]
      exact ho.1 a b

include hQ hK hW hG vQ vK vW vG vO vE in
/-- What each point of the backward call computes. -/
theorem outAt_apply (t : Fin cfg1.N) :
    (∀ (a : Fin 2048) (b : Fin 192), (outAt V c t).1 (ix2 a b) = (part (head Q (hd1 t)) (head K (hd1 t)) (head W (hd1 t)) (cot G (hd1 t)) (t.val % 4 + 1) a.val b.val : EReal))
    ∧ (∀ (x : Fin 512) (b : Fin 192), (outAt V c t).2.1 (ix2 x b) = (gk (head Q (hd1 t)) (head K (hd1 t)) (head W (hd1 t)) (cot G (hd1 t)) (512 * (t.val % 4) + x.val) b.val : EReal))
    ∧ (∀ (x : Fin 512) (b : Fin 128), (outAt V c t).2.2 (ix2 x b) = (gv (head Q (hd1 t)) (head K (hd1 t)) (cot G (hd1 t)) (512 * (t.val % 4) + x.val) b.val : EReal)) := by
  obtain ⟨h1, h2⟩ := pIn_apply V c Q K W G hQ hK hW hG vQ vK vW vG vO vE t.val t rfl
  unfold outAt
  exact ptOut_apply V c Q K W G hQ hK hW hG vQ vK vW vG vO vE t _ h1 h2

include hQ hK hW hG vQ vK vW vG vO vE in
/-- What the backward call leaves as the gradient of the queries. -/
theorem fin1_6 : (dat1 V c).arrAt 6 cfg1.N = outQ Q K W G := by
  refine (dat1 V c).arrAt_eq_of_covers 6 _ (by decide +kernel) fun t hf y => ?_
  have hm : t.val % 4 = 3 := (flush1_6 t).1 hf
  blk_simp
  rw [after1_6]
  obtain ⟨z, r, d, rfl⟩ := ex3 y
  obtain rfl := Subsingleton.elim z 0
  have h := (outAt_apply V c Q K W G hQ hK hW hG vQ vK vW vG vO vE t).1 r d
  rw [hm] at h
  generalize (outAt V c t).1 = w at h ⊢
  refine Eq.trans ?_ (outQ_at _ _ _ _ _ (hd1 t) r.val d.val ?_ ?_ ?_).symm
  · refine Eq.trans ?_ h
    pointwise [k1_pay7]
  · blk_simp [e1_6, hd1]; simp
  · blk_simp [e1_6]
  · blk_simp [e1_6]

include hQ hK hW hG vQ vK vW vG vO vE in
/-- What the backward call leaves as the gradient of the keys. -/
theorem fin1_7 : (dat1 V c).arrAt 7 cfg1.N = outK Q K W G := by
  refine (dat1 V c).arrAt_eq_of_covers 7 _ (by decide +kernel) fun t hf y => ?_
  blk_simp
  rw [after1_7]
  obtain ⟨z, r, d, rfl⟩ := ex3 y
  obtain rfl := Subsingleton.elim z 0
  have h := (outAt_apply V c Q K W G hQ hK hW hG vQ vK vW vG vO vE t).2.1 r d
  generalize (outAt V c t).2.1 = w at h ⊢
  refine Eq.trans ?_ (outK_at _ _ _ _ _ (hd1 t) (512 * (t.val % 4) + r.val) d.val ?_ ?_ ?_).symm
  · refine Eq.trans ?_ h
    pointwise [k1_pay5]
  · blk_simp [e1_7, hd1]; simp
  · blk_simp [e1_7]; simp; omega
  · blk_simp [e1_7]

include hQ hK hW hG vQ vK vW vG vO vE in
/-- What the backward call leaves as the gradient of the values. -/
theorem fin1_8 : (dat1 V c).arrAt 8 cfg1.N = outV Q K G := by
  refine (dat1 V c).arrAt_eq_of_covers 8 _ (by decide +kernel) fun t hf y => ?_
  blk_simp
  rw [after1_8]
  obtain ⟨z, r, d, rfl⟩ := ex3 y
  obtain rfl := Subsingleton.elim z 0
  have h := (outAt_apply V c Q K W G hQ hK hW hG vQ vK vW vG vO vE t).2.2 r d
  generalize (outAt V c t).2.2 = w at h ⊢
  refine Eq.trans ?_ (outV_at _ _ _ _ (hd1 t) (512 * (t.val % 4) + r.val) d.val ?_ ?_ ?_).symm
  · refine Eq.trans ?_ h
    pointwise [k1_pay6]
  · blk_simp [e1_8, hd1]; simp
  · blk_simp [e1_8]; simp; omega
  · blk_simp [e1_8]

end Bwd

end Cert.KernelIdeal.Hand
-- ==== Proof.RefVal.lean ====
module

public import proofs.«01_k».proof.Proof.Gen.ReferenceIdeal.Read
public import proofs.«01_k».proof.Proof.ValHead

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Cert.Attn

/-- The chunk of a row's number, the way integer division by floor spells it. -/
theorem chunk_word : ∀ a : Fin 2048, Scalar.select
      (IntOp.andi
        (IntOp.cmpi CmpIPredicate.ne
          (if BitVec.ofNat 32 a.val = 0 then 0 else if (BitVec.ofNat 32 a.val).msb = true then -1 else 1)
          (if (64#32 : BitVec 32) = 0 then (0 : BitVec 32)
          else if BitVec.msb (64#32 : BitVec 32) = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64) := by decide +kernel

/-- The chunk of a row. -/
theorem v7_apply (a : Fin 2048) : val_main_v7 (F := Ideal) (ix1 a) = BitVec.ofNat 32 (a.val / 64) := by
  refine Eq.trans ?_ (chunk_word a)
  pointwise [val_main_v7, val_main_call0_v11, val_main_call0_v13, val_main_call0_v2, val_main_call0_v6, val_main_call0_v10, val_main_call0_v8, val_main_v6, val_main_call0_v3, val_main_call0_v5, val_main_call0_v4, val_main_call0_v0, val_main_c, val_main_call0_v1, val_main_call0_v7, val_main_call0_v9, val_main_call0_c, val_main_call0_c_0, val_main_call0_v12]
  rfl

/-- A choice by the mask. -/
theorem sel (h : Fin 16) (a b : Fin 2048) (x y : EReal) :
    Scalar.select (val_main_v14_1 (F := Ideal) (ix3 h a b)) x y = if b.val / 64 ≤ a.val / 64 then x else y := by
  pointwise [val_main_v14_1, val_main_v13, val_main_v12, val_main_v11, val_main_v10, val_main_v9, val_main_v8, v7_apply]
  exact select_sle x y (b.val / 64) (a.val / 64) (by omega) (by omega)

/-- An array of rows of heads seen as rows. -/
theorem rows_cast (y : Vec Ideal S2048x16x128 .f32) (a b : Fin 2048) :
    shapeCast S2048x2048 y shapeCasts_S2048x16x128_S2048x2048 (ix2 a b) = y (ix3 a ⟨b.val / 128, by omega⟩ ⟨b.val % 128, by omega⟩) := by
  pointwise

section
variable (Q K : Vec Ideal S16x2048x192 .bf16) (W : Vec Ideal S16x2048x128 .bf16) (G : Vec Ideal S2048x2048 .bf16)
  (hQ : AllReal Q) (hK : AllReal K) (hW : AllReal W) (hG : AllReal G)

include hQ hK in
/-- The scaled scores. -/
theorem v5_apply (h : Fin 16) (a b : Fin 2048) : val_main_v5 (F := Ideal) Q K (ix3 h a b) = ((sc (head Q h) (head K h) a.val b.val * scl : ℝ) : EReal) := by
  pointwise [val_main_v5, val_main_v4, val_main_v3, val_main_v0, val_main_v1, val_main_cst, head_eq Q hQ, head_eq K hK, ofBits_scl]
  simp only [← EReal.coe_mul, sum_coe, sc_fin]

include hQ hK in
/-- The masked scores. -/
theorem v14_apply (h : Fin 16) (a b : Fin 2048) :
    val_main_v14_0 (F := Ideal) Q K (ix3 h a b) = if b.val / 64 ≤ a.val / 64 then ((sc (head Q h) (head K h) a.val b.val * scl : ℝ) : EReal) else ⊥ := by
  pointwise [val_main_v14_0]
  rw [sel, v5_apply Q K hQ hK]
  congr 1

include hQ hK in
/-- A row's largest score is real. -/
theorem v15_apply (h : Fin 16) (a : Fin 2048) : ∃ μ : ℝ, val_main_v15 (F := Ideal) Q K (ix2 h a) = (μ : EReal) := by
  have e : val_main_v15 (F := Ideal) Q K (ix2 h a) = Finset.fold max (Ideal.ofBits FTy.f32 4286578688#32) (fun x => val_main_v14_0 (F := Ideal) Q K (ix3 h a x)) Finset.univ := by
    pointwise [val_main_v15, val_main_cst_1]
  rw [e, ofBits_ninf]
  refine fold_max_real (fun x => val_main_v14_0 (F := Ideal) Q K (ix3 h a x)) (fun b => ?_) a ?_
  · rw [v14_apply Q K hQ hK]
    split
    · exact EReal.coe_ne_top _
    · exact bot_ne_top
  · rw [v14_apply Q K hQ hK, if_pos le_rfl]; exact EReal.coe_ne_bot _

/-- The two terms of a score's gradient over one denominator. -/
theorem score_alg (p z ρ e S s : ℝ) (hz : z ≠ 0) (hρ : ρ ≠ 0) : (p / (z * ρ) + -(S / (z * ρ))) * (e * ρ) * s = e / z * (p - S) * s := by
  field_simp
  ring

/-- A column of a head spread over its rows. -/
theorem across (y : Vec Ideal S16x2048x1 .f32) (h : Fin 16) (a b : Fin 2048) : broadcastInDim S16x2048x2048 ![0, 1, 2] bcast_S16x2048x1_S16x2048x2048_0_1_2 y (ix3 h a b) = y (ix3 h a 0) := by
  pointwise

/-- A row of numbers seen as a column. -/
theorem lifted (y : Vec Ideal S16x2048 .f32) (h : Fin 16) (a : Fin 2048) : broadcastInDim S16x2048x1 ![0, 1] bcast_S16x2048_S16x2048x1_0_1 y (ix3 h a 0) = y (ix2 h a) := by
  pointwise

/-- The row's largest score, as it is spread over the row. -/
theorem v33_apply (h : Fin 16) (a b : Fin 2048) : val_main_v33 (F := Ideal) Q K (ix3 h a b) = val_main_v15 (F := Ideal) Q K (ix2 h a) := by
  refine (across _ h a b).trans ((lifted _ h a).trans ?_)
  rw [val_main_v22_apply, val_main_v21_apply, val_main_cst_3_apply]
  generalize val_main_v15 (F := Ideal) Q K (ix2 h a) = y
  show max (Ideal.ofBits .f32 0xFF800000#32) y = y
  rw [ofBits_ninf]
  exact max_eq_right bot_le

include hQ hK in
/-- The exponentials, over the row's largest score. -/
theorem v35_apply (h : Fin 16) (a b : Fin 2048) (μ : ℝ) (hμ : val_main_v15 (F := Ideal) Q K (ix2 h a) = (μ : EReal)) :
    val_main_v35 (F := Ideal) Q K (ix3 h a b) = ((ex (head Q h) (head K h) a.val b.val * Real.exp (-μ) : ℝ) : EReal) := by
  have e : val_main_v35 (F := Ideal) Q K (ix3 h a b) = Ideal.exp (val_main_v14_0 (F := Ideal) Q K (ix3 h a b) - val_main_v33 (F := Ideal) Q K (ix3 h a b)) := rfl
  rw [e, v33_apply, hμ, v14_apply Q K hQ hK]
  unfold ex
  split
  · rw [← EReal.coe_sub, exp_coe, ← Real.exp_add, sub_eq_add_neg]
  · rw [zero_mul]; rfl

/-- A row's sum of exponentials. -/
theorem v37_apply (h : Fin 16) (a : Fin 2048) : val_main_v37 (F := Ideal) Q K (ix3 h a 0) = ∑ b : Fin 2048, val_main_v35 (F := Ideal) Q K (ix3 h a b) := by
  pointwise [val_main_v37, val_main_v36, val_main_cst_9]

include hQ hK in
/-- The exponentials and their row sums, up to the row's positive factor. -/
theorem row (h : Fin 16) (a : Fin 2048) : ∃ ρ : ℝ, 0 < ρ
    ∧ (∀ b : Fin 2048, val_main_v35 (F := Ideal) Q K (ix3 h a b) = ((ex (head Q h) (head K h) a.val b.val * ρ : ℝ) : EReal))
    ∧ val_main_v37 (F := Ideal) Q K (ix3 h a 0) = ((zz (head Q h) (head K h) a.val * ρ : ℝ) : EReal) := by
  obtain ⟨μ, hμ⟩ := v15_apply Q K hQ hK h a
  have h35 : ∀ b : Fin 2048, val_main_v35 (F := Ideal) Q K (ix3 h a b) = ((ex (head Q h) (head K h) a.val b.val * Real.exp (-μ) : ℝ) : EReal) :=
    fun b => v35_apply Q K hQ hK h a b μ hμ
  refine ⟨Real.exp (-μ), Real.exp_pos _, h35, ?_⟩
  have e : (∑ b : Fin 2048, ex (head Q h) (head K h) a.val b.val * Real.exp (-μ)) = zz (head Q h) (head K h) a.val * Real.exp (-μ) := by
    unfold zz
    rw [Finset.sum_range, Finset.sum_mul]
  rw [v37_apply, Finset.sum_congr rfl fun b _ => h35 b, sum_coe, e]

include hQ hK in
/-- The attention weights. -/
theorem v39_apply (h : Fin 16) (a b : Fin 2048) : val_main_v39 (F := Ideal) Q K (ix3 h a b) = (ww (head Q h) (head K h) a.val b.val : EReal) := by
  obtain ⟨ρ, hρ, h35, h37⟩ := row Q K hQ hK h a
  have hz := zz_pos (head Q h) (head K h) a.val
  pointwise [val_main_v39, val_main_v38, h35, h37]
  rw [div_coe _ (by positivity)]
  unfold ww
  rw [mul_div_mul_right _ _ hρ.ne']

include hQ hK hW in
/-- The output, by head. -/
theorem v43_apply (h : Fin 16) (a : Fin 2048) (d : Fin 128) :
    val_main_v43 (F := Ideal) Q K W (ix3 h d a) = (oo (head Q h) (head K h) (head W h) a.val d.val : EReal) := by
  pointwise [val_main_v43, val_main_v2, v39_apply Q K hQ hK, head_eq W hW]
  simp only [← EReal.coe_mul, sum_coe]
  unfold oo ww
  rw [Finset.sum_range, Finset.sum_div]
  congr 1
  exact Finset.sum_congr rfl fun x _ => by ring

include hQ hK hW in
/-- The output. -/
theorem v46_eq : val_main_v46 (F := Ideal) Q K W = outO Q K W := by
  funext i
  obtain ⟨a, b, rfl⟩ := ex2 i
  refine Eq.trans ?_ (outO_at _ _ _ _ ⟨b.val / 128, by omega⟩ a.val (b.val % 128) rfl (by show b.val = 128 * (b.val / 128) + _; omega) (Nat.mod_lt _ (by decide))).symm
  refine Eq.trans ?_ (v43_apply Q K W hQ hK hW ⟨b.val / 128, by omega⟩ a ⟨b.val % 128, by omega⟩)
  refine (show val_main_v46 (F := Ideal) Q K W (ix2 a b) = val_main_v45 (F := Ideal) Q K W (ix2 a b) from rfl).trans ?_
  refine (rows_cast (val_main_v44 (F := Ideal) Q K W) a b).trans ?_
  pointwise [val_main_v44]

include hG in
/-- A cotangent entry. -/
theorem cot_apply (h : Fin 16) (a : Fin 2048) (d : Fin 128) (hb) : G (ix2 a ⟨h.val * 128 + d.val, hb⟩) = (cot G h a.val d.val : EReal) := by
  rw [← cot_eq G hG h a d.val (by omega)]
  congr 3; omega

include hW hG in
/-- The products of cotangent and value rows. -/
theorem v50_apply (h : Fin 16) (a b : Fin 2048) : val_main_v50 (F := Ideal) W G (ix3 h a b) = (pp (head W h) (cot G h) a.val b.val : EReal) := by
  pointwise [val_main_v50, val_main_v49, val_main_v48, val_main_v47, val_main_v2, cot_apply G hG, head_eq W hW]
  simp only [← EReal.coe_mul, sum_coe, pp_fin]

include hQ hK hG in
/-- The gradient of the values. -/
theorem v70_eq : val_main_v70 (F := Ideal) Q K G = outV Q K G := by
  funext i
  obtain ⟨h, a, b, rfl⟩ := ex3 i
  refine Eq.trans ?_ (outV_at _ _ _ _ h a.val b.val rfl rfl rfl).symm
  pointwise [val_main_v70, val_main_v52, val_main_v51, val_main_v49, val_main_v48, val_main_v47, cot_apply G hG, v39_apply Q K hQ hK]
  simp only [← EReal.coe_mul, sum_coe]
  unfold gv
  rw [Finset.sum_range]
  congr 1
  exact Finset.sum_congr rfl fun x _ => mul_comm _ _

include hQ hK hW hG in
/-- The gradients of the scores. -/
theorem v67_apply (h : Fin 16) (a b : Fin 2048) :
    val_main_v67 (F := Ideal) Q K W G (ix3 h a b) = (ds (head Q h) (head K h) (head W h) (cot G h) a.val b.val : EReal) := by
  obtain ⟨ρ, hρ, h35, h37⟩ := row Q K hQ hK h a
  have hz := zz_pos (head Q h) (head K h) a.val
  pointwise [val_main_v67, val_main_v66, val_main_v65, val_main_v64, val_main_v63, val_main_v62, val_main_v61, val_main_v60, val_main_v59, val_main_v58, val_main_v57, val_main_v56, val_main_v55, val_main_v54, val_main_v53, val_main_cst_13, val_main_call2_v0, val_main_call2_cst, val_main_cst_12, val_main_cst_11, val_main_v42, val_main_v41, val_main_v40, val_main_cst_10, h35, h37, v50_apply W G hW hG, ofBits_scl, sel]
  have hzρ : zz (head Q h) (head K h) a.val * ρ ≠ 0 := by positivity
  rw [Finset.univ_unique, Finset.sum_singleton]
  rw [show (1 : EReal) = ((1 : ℝ) : EReal) from rfl]
  simp only [← EReal.coe_mul]
  rw [div_coe _ hzρ, div_coe _ (mul_ne_zero hzρ hzρ)]
  simp only [← EReal.coe_mul, sum_coe, ← EReal.coe_neg, ← EReal.coe_add]
  split
  · rw [← EReal.coe_mul]
    refine congrArg _ ?_
    unfold ds
    rw [dd_eq, Finset.sum_range (n := 2048)]
    have e : ∑ x : Fin 2048, pp (head W h) (cot G h) a.val x.val * (1 / (zz (head Q h) (head K h) a.val * ρ * (zz (head Q h) (head K h) a.val * ρ))) * (ex (head Q h) (head K h) a.val x.val * ρ)
        = (∑ x : Fin 2048, ww (head Q h) (head K h) a.val x.val * pp (head W h) (cot G h) a.val x.val) / (zz (head Q h) (head K h) a.val * ρ) := by
      rw [Finset.sum_div]
      refine Finset.sum_congr rfl fun x _ => ?_
      unfold ww
      field_simp
    rw [e]
    exact score_alg _ _ _ _ _ _ hz.ne' hρ.ne'
  · rename_i hn
    rw [ds_zero _ _ _ _ (by omega), zero_mul]
    rfl

include hQ hK hW hG in
/-- The gradient of the keys. -/
theorem v71_eq : val_main_v71 (F := Ideal) Q K W G = outK Q K W G := by
  funext i
  obtain ⟨h, a, b, rfl⟩ := ex3 i
  refine Eq.trans ?_ (outK_at _ _ _ _ _ h a.val b.val rfl rfl rfl).symm
  pointwise [val_main_v71, val_main_v68, val_main_v0, v67_apply Q K W G hQ hK hW hG, head_eq Q hQ]
  simp only [← EReal.coe_mul, sum_coe]
  unfold gk
  rw [Finset.sum_range]

include hQ hK hW hG in
/-- The gradient of the queries. -/
theorem v72_eq : val_main_v72 (F := Ideal) Q K W G = outQ Q K W G := by
  funext i
  obtain ⟨h, a, b, rfl⟩ := ex3 i
  refine Eq.trans ?_ (outQ_at _ _ _ _ _ h a.val b.val rfl rfl rfl).symm
  pointwise [val_main_v72, val_main_v69, val_main_v1, v67_apply Q K W G hQ hK hW hG, head_eq K hK]
  simp only [← EReal.coe_mul, sum_coe]
  unfold gq
  rw [Finset.sum_range]

end

end Cert.ReferenceIdeal.Hand
-- ==== Proof.Algebra.lean ====
module

public import proofs.«01_k».proof.Defs
public import proofs.«01_k».proof.Proof.Gen.Pre_finite
public import proofs.«01_k».proof.Proof.ValOut
public import proofs.«01_k».proof.Proof.RefVal

@[expose] public section

set_option maxRecDepth 16384

noncomputable section

namespace Cert.Proof

open Idealize.ShloMosaic Idealize.ShloMosaic.TcCoe Idealize.SL.Sem Cert.Attn

/-- An extended real smaller than infinity in size is real. -/
theorem real_of_lt (x : Ideal .bf16) (h : BitVec.ofBool (decide (FloatOps.absf x < (⊤ : EReal))) = 1#1) : x = (EReal.toReal x : EReal) := by
  have h2 : max (x : EReal) (-x) < ⊤ := by
    by_contra hc
    have : decide (FloatOps.absf x < (⊤ : EReal)) = false := decide_eq_false hc
    rw [this] at h
    exact absurd h (by decide)
  refine (EReal.coe_toReal (fun e => ?_) (fun e => ?_)).symm
  · exact absurd (lt_of_le_of_lt (le_max_left (x : EReal) (-x)) h2) (by rw [e]; exact lt_irrefl _)
  · exact absurd (lt_of_le_of_lt (le_max_right (x : EReal) (-x)) h2) (by rw [e]; exact lt_irrefl _)

/-- The precondition makes every argument an array of real numbers. -/
theorem reals_of_pre (x0 x1 : Vec Ideal Cert.Pre_finite.S16x2048x192 .bf16) (x2 : Vec Ideal Cert.Pre_finite.S16x2048x128 .bf16) (x3 : Vec Ideal Cert.Pre_finite.S2048x2048 .bf16)
    (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    AllReal x0 ∧ AllReal x1 ∧ AllReal x2 ∧ AllReal x3 := by
  refine ⟨fun i => ?_, fun i => ?_, fun i => ?_, fun i => ?_⟩
  · have e := congrFun h0 i
    obtain ⟨a, b, c, rfl⟩ := ex3 i
    revert e
    pointwise [Cert.Pre_finite.fn, ofBits_binf]
    exact real_of_lt _
  · have e := congrFun h1 i
    obtain ⟨a, b, c, rfl⟩ := ex3 i
    revert e
    pointwise [Cert.Pre_finite.fn, ofBits_binf]
    exact real_of_lt _
  · have e := congrFun h2 i
    obtain ⟨a, b, c, rfl⟩ := ex3 i
    revert e
    pointwise [Cert.Pre_finite.fn, ofBits_binf]
    exact real_of_lt _
  · have e := congrFun h3 i
    obtain ⟨a, b, rfl⟩ := ex2 i
    revert e
    pointwise [Cert.Pre_finite.fn, ofBits_binf]
    exact real_of_lt _

end Cert.Proof

namespace Cert.KernelIdeal.Hand

open Cert.KernelIdeal Cert.KernelIdeal.Gen
open Idealize.ShloMosaic Idealize.ShloMosaic.TcCoe Cert.Attn Idealize.ShloMosaic.Pipeline

section

variable (m : (ℓ : Loc nD τ sig) → Buf (Elt Ideal) ℓ) (c : Dev nD)

/-- The query as launched. -/
abbrev argQ : Vec Ideal S16x2048x192 .bf16 := m ((c.tc : Thread nD τ).loc main_arg0)
/-- The key as launched. -/
abbrev argK : Vec Ideal S16x2048x192 .bf16 := m ((c.tc : Thread nD τ).loc main_arg1)
/-- The value as launched. -/
abbrev argW : Vec Ideal S16x2048x128 .bf16 := m ((c.tc : Thread nD τ).loc main_arg2)
/-- The output's cotangent as launched. -/
abbrev argG : Vec Ideal S2048x2048 .bf16 := m ((c.tc : Thread nD τ).loc main_arg3)

variable (hQ : AllReal (argQ m c)) (hK : AllReal (argK m c)) (hW : AllReal (argW m c)) (hG : AllReal (argG m c))

/-- The backward call finds the query as launched. -/
theorem W1_q : W1 m c (Proc.devRef .tc main_arg0) = argQ m c :=
  (Pipeline.afterRegion_arr (fwd m c) (W0 m c) launch0.win.arr_inj 0).trans ((fwd m c).arrAt_in 0 rfl _)

/-- The backward call finds the key as launched. -/
theorem W1_k : W1 m c (Proc.devRef .tc main_arg1) = argK m c :=
  (Pipeline.afterRegion_arr (fwd m c) (W0 m c) launch0.win.arr_inj 1).trans ((fwd m c).arrAt_in 1 rfl _)

/-- The backward call finds the value as launched. -/
theorem W1_v : W1 m c (Proc.devRef .tc main_arg2) = argW m c :=
  (Pipeline.afterRegion_arr (fwd m c) (W0 m c) launch0.win.arr_inj 2).trans ((fwd m c).arrAt_in 2 rfl _)

/-- The backward call finds the cotangent as launched. -/
theorem W1_g : W1 m c (Proc.devRef .tc main_arg3) = argG m c :=
  Pipeline.afterRegion_of_not_arr (fwd m c) (W0 m c) (b := main_arg3) (by decide)

include hQ hK hW in
/-- The backward call finds the attention's output. -/
theorem W1_o : W1 m c (Proc.devRef .tc main_v0_0) = outO (argQ m c) (argK m c) (argW m c) :=
  (Pipeline.afterRegion_arr (fwd m c) (W0 m c) launch0.win.arr_inj 3).trans (fin0_3 _ c hQ hK hW)

include hQ hK in
/-- The backward call finds the logarithm of every row's sum. -/
theorem W1_e : W1 m c (Proc.devRef .tc main_v0_1) = outE (argQ m c) (argK m c) :=
  (Pipeline.afterRegion_arr (fwd m c) (W0 m c) launch0.win.arr_inj 4).trans (fin0_4 _ c hQ hK)

include hQ hK hW in
/-- The attention's output at the end. -/
theorem W2_o : W2 m c (Proc.devRef .tc main_v0_0) = outO (argQ m c) (argK m c) (argW m c) :=
  (Pipeline.afterRegion_arr (bwd m c) (W1 m c) launch1.win.arr_inj 4).trans (((bwd m c).arrAt_in 4 rfl _).trans (W1_o m c hQ hK hW))

include hQ hK hW hG in
/-- The query's gradient at the end. -/
theorem W2_dq : W2 m c (Proc.devRef .tc main_v1_0) = outQ (argQ m c) (argK m c) (argW m c) (argG m c) :=
  (Pipeline.afterRegion_arr (bwd m c) (W1 m c) launch1.win.arr_inj 6).trans
    (fin1_6 _ c _ _ _ _ hQ hK hW hG (W1_q m c) (W1_k m c) (W1_v m c) (W1_g m c) (W1_o m c hQ hK hW) (W1_e m c hQ hK))

include hQ hK hW hG in
/-- The key's gradient at the end. -/
theorem W2_dk : W2 m c (Proc.devRef .tc main_v1_1) = outK (argQ m c) (argK m c) (argW m c) (argG m c) :=
  (Pipeline.afterRegion_arr (bwd m c) (W1 m c) launch1.win.arr_inj 7).trans
    (fin1_7 _ c _ _ _ _ hQ hK hW hG (W1_q m c) (W1_k m c) (W1_v m c) (W1_g m c) (W1_o m c hQ hK hW) (W1_e m c hQ hK))

include hQ hK hW hG in
/-- The value's gradient at the end. -/
theorem W2_dv : W2 m c (Proc.devRef .tc main_v1_2) = outV (argQ m c) (argK m c) (argG m c) :=
  (Pipeline.afterRegion_arr (bwd m c) (W1 m c) launch1.win.arr_inj 8).trans
    (fin1_8 _ c _ _ _ _ hQ hK hW hG (W1_q m c) (W1_k m c) (W1_v m c) (W1_g m c) (W1_o m c hQ hK hW) (W1_e m c hQ hK))

end

end Cert.KernelIdeal.Hand

namespace Cert.Proof

open Idealize.ShloMosaic Idealize.ShloMosaic.TcCoe Idealize.SL.Sem Cert.Attn Cert.KernelIdeal.Hand

/-- Over the extended reals, of finite arguments, the kernel and the reference end with equal results. -/
theorem algebraic : Cert.algebraic_KernelIdeal_ReferenceIdeal_pre_finite := by
  intro m g m' g' pre agree
  have real : ∀ c : Dev Cert.KernelIdeal.nD, AllReal (argQ m c) ∧ AllReal (argK m c) ∧ AllReal (argW m c) ∧ AllReal (argG m c) := fun c =>
    reals_of_pre _ _ _ _ (pre c).1 (pre c).2.1 (pre c).2.2.1 (pre c).2.2.2
  refine ⟨fun c => outO (argQ m c) (argK m c) (argW m c), fun c => outQ (argQ m c) (argK m c) (argW m c) (argG m c),
    fun c => outK (argQ m c) (argK m c) (argW m c) (argG m c), fun c => outV (argQ m c) (argK m c) (argG m c), ?_, ?_⟩
  · refine (θ_run Cert.KernelIdeal.defs _ _).mono (fun r hr c => ?_) (Cert.KernelIdeal.Hand.run m g)
    obtain ⟨hQ, hK, hW, hG⟩ := real c
    exact ⟨(hr.1 c _ (mem_uc Cert.KernelIdeal.main_v0_0 rfl)).trans (W2_o m c hQ hK hW),
      (hr.1 c _ (mem_uc Cert.KernelIdeal.main_v1_0 rfl)).trans (W2_dq m c hQ hK hW hG),
      (hr.1 c _ (mem_uc Cert.KernelIdeal.main_v1_1 rfl)).trans (W2_dk m c hQ hK hW hG),
      (hr.1 c _ (mem_uc Cert.KernelIdeal.main_v1_2 rfl)).trans (W2_dv m c hQ hK hW hG),
      (hr.1 c _ (mem_uc Cert.KernelIdeal.main_arg0 rfl)).trans (W2_arg m c _ (.inl rfl)),
      (hr.1 c _ (mem_uc Cert.KernelIdeal.main_arg1 rfl)).trans (W2_arg m c _ (.inr (.inl rfl))),
      (hr.1 c _ (mem_uc Cert.KernelIdeal.main_arg2 rfl)).trans (W2_arg m c _ (.inr (.inr (.inl rfl)))),
      (hr.1 c _ (mem_uc Cert.KernelIdeal.main_arg3 rfl)).trans (W2_arg m c _ (.inr (.inr (.inr rfl))))⟩
  · refine (θ_run Cert.ReferenceIdeal.defs _ _).mono (fun r hr c => ?_) (Cert.ReferenceIdeal.Value.run (F := Ideal) m' g')
    obtain ⟨hQ, hK, hW, hG⟩ := real c
    obtain ⟨a0, a1, a2, a3⟩ := agree c
    obtain ⟨r0, r1, r2, r3, args⟩ := hr c
    refine ⟨r0.trans ((Cert.ReferenceIdeal.Read.val_main_v46_eq m' c).trans ?_), r1.trans ((Cert.ReferenceIdeal.Read.val_main_v72_eq m' c).trans ?_),
      r2.trans ((Cert.ReferenceIdeal.Read.val_main_v71_eq m' c).trans ?_), r3.trans ((Cert.ReferenceIdeal.Read.val_main_v70_eq m' c).trans ?_), args⟩
    · rw [a0, a1, a2]
      exact Cert.ReferenceIdeal.Hand.v46_eq _ _ _ hQ hK hW
    · rw [a0, a1, a2, a3]
      exact Cert.ReferenceIdeal.Hand.v72_eq _ _ _ _ hQ hK hW hG
    · rw [a0, a1, a2, a3]
      exact Cert.ReferenceIdeal.Hand.v71_eq _ _ _ _ hQ hK hW hG
    · rw [a0, a1, a3]
      exact Cert.ReferenceIdeal.Hand.v70_eq _ _ _ hQ hK hG

end Cert.Proof
-- ==== Proof.Runs.lean ====
module

public import proofs.«01_k».proof.Proof.Gen.FfnIdeal.Frame
public import proofs.«01_k».proof.Proof.Gen.ProjIdeal.Frame
public import proofs.«01_k».proof.Proof.Gen.MixerIdeal.Frame
public import proofs.«01_k».proof.Proof.Gen.LatentIdeal.Frame
public import proofs.«01_k».proof.Proof.Gen.ConvIdeal.Frame
public import proofs.«01_k».proof.Proof.Gen.NormsIdeal.Frame
public import proofs.«01_k».proof.Proof.Gen.AdamWIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Runs

variable {nD : ℕ} {τ : Topo} {sig : RefSig} {F : FTy → Type} [FloatOps F]

local notation "𝕄" => MT nD τ sig Unit (Elt F) ℕ (UR sig nD τ) ℕ

/-- What is owned at the launch, with nothing further of any core. -/
theorem begin_own {A B : sProp 𝕄} (h : A ⊢ B) : A ⊢ |={Set.univ}=> iprop(B ∗ bigSep Finset.univ fun _ : Dev nD => (BI.emp : sProp 𝕄)) := by
  iintro Hu; imodintro
  isplitl [Hu]; · iapply h; iexact Hu
  iapply (show (BI.emp : sProp 𝕄) ⊢ bigSep Finset.univ (fun _ : Dev nD => (BI.emp : sProp 𝕄)) from by rw [BI.bigSep_emp_const])
  iempintro

/-- Buffers that are held are read off the memory. -/
theorem end_read (c : Dev nD) (W : Valuation τ sig (Elt F)) (R : sProp 𝕄) (s' : Phys nD τ sig (Elt F)) :
    iprop(iprop(StableHlo.held (c : Thread nD τ) (Pipeline.ucRefs τ sig) W ∗ R) ∗ SI s')
      ⊢ |={Set.univ}=> iprop(⌜∀ b ∈ Pipeline.ucRefs τ sig, s'.mem.mem (((c : Thread nD τ)).1, b) = W b⌝ ∗ SI s') := by
  iintro ⟨⟨Hh, -⟩, HSI⟩
  unfold StableHlo.held
  imodintro
  iapply (pointsTo_read_all (Pipeline.ucRefs τ sig) (fun b => (((c : Thread nD τ)).1, b)) W s')
  isplitl [Hh] <;> iassumption

end Cert.Runs

open Cert.Runs

namespace Cert.FfnIdeal.Hand

open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => end_read c _ _ s')
    (hQ := fun _ h _ => h)

end Cert.FfnIdeal.Hand

namespace Cert.ProjIdeal.Hand

open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => end_read c _ _ s')
    (hQ := fun _ h _ => h)

end Cert.ProjIdeal.Hand

namespace Cert.MixerIdeal.Hand

open Cert.MixerIdeal Cert.MixerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => end_read c _ _ s')
    (hQ := fun _ h _ => h)

end Cert.MixerIdeal.Hand

namespace Cert.LatentIdeal.Hand

open Cert.LatentIdeal Cert.LatentIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => end_read c _ _ s')
    (hQ := fun _ h _ => h)

end Cert.LatentIdeal.Hand

namespace Cert.ConvIdeal.Hand

open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => end_read c _ _ s')
    (hQ := fun _ h _ => h)

end Cert.ConvIdeal.Hand

namespace Cert.NormsIdeal.Hand

open Cert.NormsIdeal Cert.NormsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => end_read c _ _ s')
    (hQ := fun _ h _ => h)

end Cert.NormsIdeal.Hand

namespace Cert.AdamWIdeal.Hand

open Cert.AdamWIdeal Cert.AdamWIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with what every array holds at its end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := begin_own (BI.Entails.refl _))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => end_read c _ _ s')
    (hQ := fun _ h _ => h)

end Cert.AdamWIdeal.Hand
-- ==== Proof.Sig.lean ====
module

public import proofs.«01_k».proof.Proof.ValHead

@[expose] public section

noncomputable section

namespace Cert.Attn

open Idealize.ShloMosaic

/-- The bit pattern of one half. -/
theorem ofBits_half : Ideal.ofBits .f32 0x3F000000#32 = ((1 / 2 : ℝ) : EReal) := by
  simp [Ideal.ofBits, Ideal.ieee, -EReal.coe_mul]
  norm_num

/-- The sigmoid as the bodies form it, by the hyperbolic tangent. -/
def sg (x : EReal) : EReal := ((1 / 2 : ℝ) : EReal) * Ideal.tanh (((1 / 2 : ℝ) : EReal) * x) + ((1 / 2 : ℝ) : EReal)

/-- The sigmoid as the references form it, by a quotient. -/
def logi (x : EReal) : EReal := Ideal.div 1 (1 + Ideal.exp (-x))

/-- The sigmoid of a real number. -/
def sigma (r : ℝ) : ℝ := 1 / (1 + Real.exp (-r))

/-- The hyperbolic tangent's form of the sigmoid. -/
theorem sigma_tanh (r : ℝ) : 1 / 2 * Real.tanh (1 / 2 * r) + 1 / 2 = sigma r := by
  have h : Real.exp (-r) = Real.exp (-(1 / 2 * r)) * Real.exp (-(1 / 2 * r)) := by rw [← Real.exp_add]; congr 1; ring
  unfold sigma
  rw [h, Real.exp_neg, Real.tanh_eq_sinh_div_cosh, Real.sinh_eq, Real.cosh_eq, Real.exp_neg]
  have p := Real.exp_pos (1 / 2 * r)
  generalize Real.exp (1 / 2 * r) = a at p
  have h1 : a + a⁻¹ ≠ 0 := (add_pos p (inv_pos.mpr p)).ne'
  have h2 : 1 + a⁻¹ * a⁻¹ ≠ 0 := (add_pos one_pos (mul_pos (inv_pos.mpr p) (inv_pos.mpr p))).ne'
  have h3 : a * a + 1 ≠ 0 := (add_pos (mul_pos p p) one_pos).ne'
  have h4 : a ≠ 0 := p.ne'
  field_simp
  ring

/-- The bodies' sigmoid of a real number. -/
theorem sg_coe (r : ℝ) : sg (r : EReal) = (sigma r : EReal) := by
  rw [← sigma_tanh]
  unfold sg
  rw [← EReal.coe_mul, Ideal.tanh_coe, ← EReal.coe_mul, ← EReal.coe_add]

/-- The references' sigmoid of a real number. -/
theorem logi_coe (r : ℝ) : logi (r : EReal) = (sigma r : EReal) := by
  unfold logi sigma
  rw [← EReal.coe_neg, exp_coe, ← EReal.coe_one, ← EReal.coe_add, div_coe _ (add_pos one_pos (Real.exp_pos _)).ne']

/-- The two forms of the sigmoid agree everywhere, at the infinities too. -/
theorem sg_logi (x : EReal) : sg x = logi x := by
  induction x with
  | coe r => rw [sg_coe, logi_coe]
  | top =>
    have h : ((1 / 2 : ℝ) : EReal) * ⊤ = ⊤ := EReal.coe_mul_top_of_pos (by norm_num)
    unfold sg logi
    rw [h, EReal.neg_top]
    show ((1 / 2 : ℝ) : EReal) * 1 + ((1 / 2 : ℝ) : EReal) = Ideal.div 1 (1 + 0)
    rw [mul_one, ← EReal.coe_add, add_zero, ← EReal.coe_one, div_coe _ one_ne_zero]
    norm_num
  | bot =>
    have h : ((1 / 2 : ℝ) : EReal) * ⊥ = ⊥ := EReal.coe_mul_bot_of_pos (by norm_num)
    unfold sg logi
    rw [h, EReal.neg_bot]
    show ((1 / 2 : ℝ) : EReal) * (-1) + ((1 / 2 : ℝ) : EReal) = Ideal.div 1 (1 + ⊤)
    rw [← EReal.coe_one, ← EReal.coe_neg, ← EReal.coe_mul, ← EReal.coe_add, EReal.coe_add_top]
    unfold Ideal.div
    rw [if_neg EReal.top_ne_zero, EReal.inv_top, mul_zero]
    norm_num

/-- The product of real numbers is real. -/
theorem real_mul {x y : EReal} (hx : x = (x.toReal : EReal)) (hy : y = (y.toReal : EReal)) : x * y = ((x * y).toReal : EReal) := by
  rw [hx, hy, ← EReal.coe_mul, EReal.toReal_coe]

/-- A sum of products of real numbers is real. -/
theorem real_sum {n : ℕ} {f g : Fin n → EReal} (hf : ∀ k, f k = ((f k).toReal : EReal)) (hg : ∀ k, g k = ((g k).toReal : EReal)) :
    ∑ k, f k * g k = ((∑ k, f k * g k).toReal : EReal) := by
  rw [show (∑ k, f k * g k) = ∑ k, (((f k).toReal * (g k).toReal : ℝ) : EReal) from
    Finset.sum_congr rfl fun k _ => by rw [EReal.coe_mul, ← hf k, ← hg k], sum_coe, EReal.toReal_coe]

/-- Sums of equal terms. -/
theorem sum_same {n : ℕ} {f g : Fin n → EReal} (h : ∀ k, f k = g k) : ∑ k, f k = ∑ k, g k := Finset.sum_congr rfl fun k _ => h k

/-- Two places of a matrix with the same coordinates. -/
theorem ext2 {a b : ℕ} {i : (⟨2, ![a, b]⟩ : Shape).Idx} {x : Fin a} {y : Fin b} (h0 : (i 0).val = x.val) (h1 : (i 1).val = y.val) : i = ix2 x y := by
  obtain ⟨p, q, rfl⟩ := ex2 i
  rw [show p = x from Fin.ext h0, show q = y from Fin.ext h1]

/-- Two places of a three-axis array with the same coordinates. -/
theorem ext3 {a b c : ℕ} {i : (⟨3, ![a, b, c]⟩ : Shape).Idx} {x : Fin a} {y : Fin b} {z : Fin c} (h0 : (i 0).val = x.val) (h1 : (i 1).val = y.val)
    (h2 : (i 2).val = z.val) : i = ix3 x y z := by
  obtain ⟨p, q, r, rfl⟩ := ex3 i
  rw [show p = x from Fin.ext h0, show q = y from Fin.ext h1, show r = z from Fin.ext h2]

end Cert.Attn
-- ==== Proof.FfnVal.lean ====
module

public import proofs.«01_k».proof.Proof.Runs
public import proofs.«01_k».proof.Proof.Sig
public import Idealize.ShloMosaic.Lib.Pipeline.ValueKit

@[expose] public section

set_option maxRecDepth 16384

noncomputable section

namespace Cert.FfnIdeal.Hand

open Cert.FfnIdeal Cert.FfnIdeal.Gen
open Idealize.ShloMosaic Idealize.ShloMosaic.TcCoe Idealize.SL.Sem Idealize.ShloMosaic.Pipeline Cert.Attn

/-! ## The six arrays -/

/-- The inner product: the weight is in eight shards of 1408 columns. -/
def hid (U : Vec Ideal S2048x2048 .bf16) (W : Vec Ideal S8x2048x1408 .bf16) : Vec Ideal S2048x11264 .bf16 := fun i =>
  (∑ k : Fin 2048, (U (ix2 (i 0) k) : EReal) * (W (ix3 ⟨(i 1).val / 1408, by have : (i 1).val < 11264 := (i 1).isLt; omega⟩ k ⟨(i 1).val % 1408, by omega⟩) : EReal) : EReal)

/-- A column of the upper half. -/
def hi (b : Fin 5632) : Fin 11264 := ⟨5632 + b.val, by omega⟩
/-- A column of the lower half. -/
def lo (b : Fin 5632) : Fin 11264 := ⟨b.val, by omega⟩

/-- The hidden array: the lower half, gated by itself, times the upper half. -/
def act (H : Vec Ideal S2048x11264 .bf16) : Vec Ideal S2048x5632 .bf16 := fun i =>
  ((H (ix2 (i 0) (lo (i 1))) : EReal) * sg (H (ix2 (i 0) (lo (i 1)))) * (H (ix2 (i 0) (hi (i 1))) : EReal) : EReal)

/-- The gradient of the outer weight. -/
def gwo (A : Vec Ideal S2048x5632 .bf16) (G : Vec Ideal S2048x2048 .bf16) : Vec Ideal S5632x2048 .bf16 := fun i =>
  (∑ k : Fin 2048, (A (ix2 k (i 0)) : EReal) * (G (ix2 k (i 1)) : EReal) : EReal)

/-- The gradient of the hidden array. -/
def dact (G : Vec Ideal S2048x2048 .bf16) (W : Vec Ideal S5632x2048 .bf16) : Vec Ideal S2048x5632 .bf16 := fun i =>
  (∑ k : Fin 2048, (G (ix2 (i 0) k) : EReal) * (W (ix2 (i 1) k) : EReal) : EReal)

/-- The gate's gradient from the hidden array's, the gate and the other factor. -/
def dgate (d x u : EReal) : EReal := d * u * (sg x * (1 + x * (1 - sg x)))
/-- The other factor's gradient. -/
def dup (d x : EReal) : EReal := d * x * sg x

/-- The gradient of the inner product. -/
def dhid (D : Vec Ideal S2048x5632 .bf16) (H : Vec Ideal S2048x11264 .bf16) : Vec Ideal S2048x11264 .bf16 := fun i =>
  if h : (i 1).val < 5632 then (dgate (D (ix2 (i 0) ⟨(i 1).val, h⟩)) (H (ix2 (i 0) (lo ⟨(i 1).val, h⟩))) (H (ix2 (i 0) (hi ⟨(i 1).val, h⟩))) : EReal)
  else (dup (D (ix2 (i 0) ⟨(i 1).val - 5632, by have : (i 1).val < 11264 := (i 1).isLt; omega⟩))
    (H (ix2 (i 0) (lo ⟨(i 1).val - 5632, by have : (i 1).val < 11264 := (i 1).isLt; omega⟩))) : EReal)

/-- The gradient of the inner weight, in shards. -/
def gwi (U : Vec Ideal S2048x2048 .bf16) (D : Vec Ideal S2048x11264 .bf16) : Vec Ideal S8x2048x1408 .bf16 := fun i =>
  (∑ k : Fin 2048, (U (ix2 k (i 1)) : EReal) * (D (ix2 k ⟨1408 * (i 0).val + (i 2).val, by
    have : (i 0).val < 8 := (i 0).isLt
    have : (i 2).val < 1408 := (i 2).isLt
    omega⟩) : EReal) : EReal)

/-- The inner product's gradient at a column of the lower half. -/
theorem dhid_lo (D : Vec Ideal S2048x5632 .bf16) (H : Vec Ideal S2048x11264 .bf16) (i : S2048x11264.Idx) (a : Fin 2048) (b : Fin 5632)
    (h : i = ix2 a (lo b)) : dhid D H i = dgate (D (ix2 a b)) (H (ix2 a (lo b))) (H (ix2 a (hi b))) := by
  subst h
  exact dif_pos b.isLt

/-- The inner product's gradient at a column of the upper half. -/
theorem dhid_hi (D : Vec Ideal S2048x5632 .bf16) (H : Vec Ideal S2048x11264 .bf16) (i : S2048x11264.Idx) (a : Fin 2048) (b : Fin 5632)
    (h : i = ix2 a (hi b)) : dhid D H i = dup (D (ix2 a b)) (H (ix2 a (lo b))) := by
  subst h
  have e : (⟨(hi b).val - 5632, by have := b.isLt; show 5632 + b.val - 5632 < 5632; omega⟩ : Fin 5632) = b := Fin.ext (by show 5632 + b.val - 5632 = b.val; omega)
  refine (dif_neg (by show ¬ 5632 + b.val < 5632; omega)).trans ?_
  show (dup (D (ix2 a ⟨(hi b).val - 5632, _⟩)) (H (ix2 a (lo ⟨(hi b).val - 5632, _⟩))) : EReal) = _
  rw [e]

/-! ## Where the blocks sit -/

/-- The input's block in the inner product. -/
theorem e00 : ∀ t : Fin cfg0.N, win0_0.index t = ![t.val / 8, 0] := (by decide +kernel : ∀ t : Fin grid0.N, _)
/-- The weight's shard in the inner product. -/
theorem e01 : ∀ t : Fin cfg0.N, win0_1.index t = ![t.val % 8, 0, 0] := (by decide +kernel : ∀ t : Fin grid0.N, _)
/-- The inner product's block. -/
theorem e02 : ∀ t : Fin cfg0.N, win0_2.index t = ![t.val / 8, t.val % 8] := (by decide +kernel : ∀ t : Fin grid0.N, _)
/-- The gate's block in the forward gating. -/
theorem e10 : ∀ t : Fin cfg1.N, win1_0.index t = ![t.val / 2, t.val % 2] := (by decide +kernel : ∀ t : Fin grid1.N, _)
/-- The other factor's block in the forward gating. -/
theorem e11 : ∀ t : Fin cfg1.N, win1_1.index t = ![t.val / 2, t.val % 2 + 2] := (by decide +kernel : ∀ t : Fin grid1.N, _)
/-- The hidden array's block in the forward gating. -/
theorem e12 : ∀ t : Fin cfg1.N, win1_2.index t = ![t.val / 2, t.val % 2] := (by decide +kernel : ∀ t : Fin grid1.N, _)
/-- The hidden array's block in the outer weight's gradient. -/
theorem e20 : ∀ t : Fin cfg2.N, win2_0.index t = ![0, t.val / 2] := (by decide +kernel : ∀ t : Fin grid2.N, _)
/-- The cotangent's block in the outer weight's gradient. -/
theorem e21 : ∀ t : Fin cfg2.N, win2_1.index t = ![0, t.val % 2] := (by decide +kernel : ∀ t : Fin grid2.N, _)
/-- The outer weight's gradient's block. -/
theorem e22 : ∀ t : Fin cfg2.N, win2_2.index t = ![t.val / 2, t.val % 2] := (by decide +kernel : ∀ t : Fin grid2.N, _)
/-- The cotangent's block in the hidden array's gradient. -/
theorem e30 : ∀ t : Fin cfg3.N, win3_0.index t = ![t.val / 4, 0] := (by decide +kernel : ∀ t : Fin grid3.N, _)
/-- The weight's block in the hidden array's gradient. -/
theorem e31 : ∀ t : Fin cfg3.N, win3_1.index t = ![t.val % 4, 0] := (by decide +kernel : ∀ t : Fin grid3.N, _)
/-- The hidden array's gradient's block. -/
theorem e32 : ∀ t : Fin cfg3.N, win3_2.index t = ![t.val / 4, t.val % 4] := (by decide +kernel : ∀ t : Fin grid3.N, _)
/-- The hidden array's gradient's block in the backward gating. -/
theorem e40 : ∀ t : Fin cfg4.N, win4_0.index t = ![t.val / 4, t.val / 2 % 2] := (by decide +kernel : ∀ t : Fin grid4.N, _)
/-- The gate's block in the backward gating. -/
theorem e41 : ∀ t : Fin cfg4.N, win4_1.index t = ![t.val / 4, t.val / 2 % 2] := (by decide +kernel : ∀ t : Fin grid4.N, _)
/-- The other factor's block in the backward gating. -/
theorem e42 : ∀ t : Fin cfg4.N, win4_2.index t = ![t.val / 4, t.val / 2 % 2 + 2] := (by decide +kernel : ∀ t : Fin grid4.N, _)
/-- The inner product's gradient's block in the backward gating. -/
theorem e43 : ∀ t : Fin cfg4.N, win4_3.index t = ![t.val / 4, t.val / 2 % 2 + 2 * (t.val % 2)] := (by decide +kernel : ∀ t : Fin grid4.N, _)
/-- The input's block in the inner weight's gradient. -/
theorem e50 : ∀ t : Fin cfg5.N, win5_0.index t = ![0, t.val / 8] := (by decide +kernel : ∀ t : Fin grid5.N, _)
/-- The block of the inner product's gradient in the inner weight's gradient. -/
theorem e51 : ∀ t : Fin cfg5.N, win5_1.index t = ![0, t.val % 8] := (by decide +kernel : ∀ t : Fin grid5.N, _)
/-- The inner weight's gradient's block. -/
theorem e52 : ∀ t : Fin cfg5.N, win5_2.index t = ![t.val % 8, t.val / 8, 0] := (by decide +kernel : ∀ t : Fin grid5.N, _)

/-! ## What the bodies compute -/

/-- The inner product's block at an element. -/
theorem pay0 (x1 : Vec Ideal S1x2048x1408 .bf16) (x0 : Vec Ideal S1024x2048 .bf16) (j : S1024x1408.Idx) :
    k0_pay1 x1 x0 j = (∑ k : Fin 2048, (x0 (ix2 (j 0) k) : EReal) * (x1 (ix3 0 k (j 1)) : EReal) : EReal) := by
  obtain ⟨a, b, rfl⟩ := ex2 j
  pointwise [k0_pay1, ofBits_zero]

/-- The gated block at an element. -/
theorem pay1 (x0 x1 : Vec Ideal S512x2816 .bf16) (j : S512x2816.Idx) :
    k1_pay1 x0 x1 j = ((x0 j : EReal) * sg (x0 j) * (x1 j : EReal) : EReal) := by
  obtain ⟨a, b, rfl⟩ := ex2 j
  pointwise [k1_pay1, ofBits_half]
  rfl

/-- The outer weight's gradient's block at an element. -/
theorem pay2 (x1 : Vec Ideal S2048x1024 .bf16) (x0 : Vec Ideal S2048x1408 .bf16) (j : S1408x1024.Idx) :
    k2_pay1 x1 x0 j = (∑ k : Fin 2048, (x0 (ix2 k (j 0)) : EReal) * (x1 (ix2 k (j 1)) : EReal) : EReal) := by
  obtain ⟨a, b, rfl⟩ := ex2 j
  pointwise [k2_pay1, ofBits_zero]

/-- The hidden array's gradient's block at an element. -/
theorem pay3 (x1 : Vec Ideal S1408x2048 .bf16) (x0 : Vec Ideal S1024x2048 .bf16) (j : S1024x1408.Idx) :
    k3_pay1 x1 x0 j = (∑ k : Fin 2048, (x0 (ix2 (j 0) k) : EReal) * (x1 (ix2 (j 1) k) : EReal) : EReal) := by
  obtain ⟨a, b, rfl⟩ := ex2 j
  pointwise [k3_pay1, ofBits_zero]

/-- The gate's gradient's block at an element. -/
theorem pay4 (x d u : Vec Ideal S512x2816 .bf16) (j : S512x2816.Idx) : k4_pay4 x d u j = dgate (d j) (x j) (u j) := by
  obtain ⟨a, b, rfl⟩ := ex2 j
  pointwise [k4_pay4, k4_pay3, k4_pay2, k4_pay1, ofBits_half, ofBits_one]
  rfl

/-- The other factor's gradient's block at an element. -/
theorem pay5 (x d : Vec Ideal S512x2816 .bf16) (j : S512x2816.Idx) : k4_pay5 x d j = dup (d j) (x j) := by
  obtain ⟨a, b, rfl⟩ := ex2 j
  pointwise [k4_pay5, k4_pay3, k4_pay2, k4_pay1, ofBits_half, ofBits_one]
  rfl

/-- The inner weight's gradient's block at an element. -/
theorem pay6 (x1 : Vec Ideal S2048x1408 .bf16) (x0 : Vec Ideal S2048x1024 .bf16) (j : S1x1024x1408.Idx) :
    k5_pay1 x1 x0 j = (∑ k : Fin 2048, (x0 (ix2 k (j 1)) : EReal) * (x1 (ix2 k (j 2)) : EReal) : EReal) := by
  obtain ⟨a, b, c, rfl⟩ := ex3 j
  pointwise [k5_pay1, ofBits_zero]

/-! ## What each call leaves, for any contents at its entry -/

section
variable (V : (c : Dev nD) → (b : Ref sig .tc) → Buf (Elt Ideal) ((c : Thread nD τ).loc b)) (c : Dev nD)

/-- The inner product. -/
theorem fin0 : (dat0 V c).arrAt 2 cfg0.N = hid (V c main_arg0) (V c main_arg1) := by
  refine (dat0 V c).arrAt_eq_of_covers 2 _ (by decide +kernel) fun t hf y => ?_
  blk_simp
  rw [after0_2]; frame_out; rw [pay0]
  refine sum_same fun k => ?_
  blk_simp [iblk0]
  congr 1
  · congr 1
    blk_ext [e00, e02]
  · congr 1
    blk_ext [e01, e02]

/-- The hidden array. -/
theorem fin1 : (dat1 V c).arrAt 2 cfg1.N = act (V c main_v0) := by
  refine (dat1 V c).arrAt_eq_of_covers 2 _ (by decide +kernel) fun t hf y => ?_
  blk_simp
  rw [after1_2]; frame_out; rw [pay1]
  blk_simp [iblk1]
  refine congrArg₂ (fun a b : EReal => a * sg a * b) ?_ ?_
  · congr 1
    blk_ext [e10, e12, lo]
  · congr 1
    blk_ext [e11, e12, hi]

/-- The outer weight's gradient. -/
theorem fin2 : (dat2 V c).arrAt 2 cfg2.N = gwo (V c main_v1) (V c main_arg3) := by
  refine (dat2 V c).arrAt_eq_of_covers 2 _ (by decide +kernel) fun t hf y => ?_
  blk_simp
  rw [after2_2]; frame_out; rw [pay2]
  refine sum_same fun k => ?_
  blk_simp [iblk2]
  congr 1
  · congr 1
    blk_ext [e20, e22]
  · congr 1
    blk_ext [e21, e22]

/-- The hidden array's gradient. -/
theorem fin3 : (dat3 V c).arrAt 2 cfg3.N = dact (V c main_arg3) (V c main_arg2) := by
  refine (dat3 V c).arrAt_eq_of_covers 2 _ (by decide +kernel) fun t hf y => ?_
  blk_simp
  rw [after3_2]; frame_out; rw [pay3]
  refine sum_same fun k => ?_
  blk_simp [iblk3]
  congr 1
  · congr 1
    blk_ext [e30, e32]
  · congr 1
    blk_ext [e31, e32]

/-- The inner product's gradient. -/
theorem fin4 : (dat4 V c).arrAt 3 cfg4.N = dhid (V c main_v3) (V c main_v0) := by
  refine (dat4 V c).arrAt_eq_of_covers 3 _ (by decide +kernel) fun t hf y => ?_
  blk_simp
  rw [after4_3]
  have ht : t.val < 16 := t.isLt
  have y0 : (y 0).val < 512 := (y 0).isLt
  have y1 : (y 1).val < 2816 := (y 1).isLt
  rcases Nat.mod_two_eq_zero_or_one t.val with h | h
  · rw [outsAt4_A V c t h (by omega)]; frame_out; rw [pay4]
    refine Eq.trans ?_ (dhid_lo _ _ _ ⟨t.val / 4 * 512 + (y 0).val, by omega⟩ ⟨t.val / 2 % 2 * 2816 + (y 1).val, by omega⟩ ?_).symm
    · blk_simp [iblk4]
      congr 1
      · congr 1
        blk_ext [e40]
      · congr 1
        blk_ext [e41, lo]
      · congr 1
        blk_ext [e42, hi]
    · blk_ext [e43, lo]
  · rw [outsAt4_B V c t (by omega) h]; frame_out; rw [pay5]
    refine Eq.trans ?_ (dhid_hi _ _ _ ⟨t.val / 4 * 512 + (y 0).val, by omega⟩ ⟨t.val / 2 % 2 * 2816 + (y 1).val, by omega⟩ ?_).symm
    · blk_simp [iblk4]
      congr 1
      · congr 1
        blk_ext [e40]
      · congr 1
        blk_ext [e41, lo]
    · blk_ext [e43, hi]

/-- The inner weight's gradient. -/
theorem fin5 : (dat5 V c).arrAt 2 cfg5.N = gwi (V c main_arg0) (V c main_v4) := by
  refine (dat5 V c).arrAt_eq_of_covers 2 _ (by decide +kernel) fun t hf y => ?_
  blk_simp
  rw [after5_2]; frame_out; rw [pay6]
  refine sum_same fun k => ?_
  blk_simp [iblk5]
  congr 1
  · congr 1
    blk_ext [e50, e52]
  · congr 1
    blk_ext [e51, e52]

end

variable (m : (ℓ : Loc nD τ sig) → Buf (Elt Ideal) ℓ) (ρ : Dev nD → PrngReg) (c : Dev nD)

/-- The inner product of the arguments. -/
def hidM : Vec Ideal S2048x11264 .bf16 := hid (m ((c : Thread nD τ).loc main_arg0)) (m ((c : Thread nD τ).loc main_arg1))
/-- The hidden array's gradient of the arguments. -/
def dactM : Vec Ideal S2048x5632 .bf16 := dact (m ((c : Thread nD τ).loc main_arg3)) (m ((c : Thread nD τ).loc main_arg2))

/-- The inner product after the first call. -/
theorem W1_v0 : W1 m ρ c main_v0 = hidM m c := (hF0 m ρ c 2).symm.trans (fin0 (V0 m ρ) c)
/-- The inner product after the second call. -/
theorem W2_v0 : W2 m ρ c main_v0 = hidM m c := (W2_of m ρ c main_v0 (by decide)).trans (W1_v0 m ρ c)
/-- The inner product after the third call. -/
theorem W3_v0 : W3 m ρ c main_v0 = hidM m c := (W3_of m ρ c main_v0 (by decide)).trans (W2_v0 m ρ c)
/-- The inner product after the fourth call. -/
theorem W4_v0 : W4 m ρ c main_v0 = hidM m c := (W4_of m ρ c main_v0 (by decide)).trans (W3_v0 m ρ c)
/-- The hidden array after the second call. -/
theorem W2_v1 : W2 m ρ c main_v1 = act (hidM m c) :=
  (hF1 m ρ c 2).symm.trans <| (fin1 (V1 m ρ) c).trans <| congrArg act (W1_v0 m ρ c)
/-- The outer weight's gradient after the third call. -/
theorem W3_v2 : W3 m ρ c main_v2 = gwo (act (hidM m c)) (m ((c : Thread nD τ).loc main_arg3)) :=
  (hF2 m ρ c 2).symm.trans <| (fin2 (V2 m ρ) c).trans <| congrArg₂ gwo (W2_v1 m ρ c) (W2_args m ρ c main_arg3 (by decide))
/-- The hidden array's gradient after the fourth call. -/
theorem W4_v3 : W4 m ρ c main_v3 = dactM m c :=
  (hF3 m ρ c 2).symm.trans <| (fin3 (V3 m ρ) c).trans <|
    congrArg₂ dact (W3_args m ρ c main_arg3 (by decide)) (W3_args m ρ c main_arg2 (by decide))
/-- The inner product's gradient after the fifth call. -/
theorem W5_v4 : W5 m ρ c main_v4 = dhid (dactM m c) (hidM m c) :=
  (hF4 m ρ c 3).symm.trans <| (fin4 (V4 m ρ) c).trans <| congrArg₂ dhid (W4_v3 m ρ c) (W4_v0 m ρ c)

/-- The hidden array at the end. -/
theorem W6_v1 : W6 m ρ c main_v1 = act (hidM m c) :=
  (W6_of m ρ c main_v1 (by decide)).trans <| (W5_of m ρ c main_v1 (by decide)).trans <|
    (W4_of m ρ c main_v1 (by decide)).trans <| (W3_of m ρ c main_v1 (by decide)).trans (W2_v1 m ρ c)
/-- The outer weight's gradient at the end. -/
theorem W6_v2 : W6 m ρ c main_v2 = gwo (act (hidM m c)) (m ((c : Thread nD τ).loc main_arg3)) :=
  (W6_of m ρ c main_v2 (by decide)).trans <| (W5_of m ρ c main_v2 (by decide)).trans <|
    (W4_of m ρ c main_v2 (by decide)).trans (W3_v2 m ρ c)
/-- The inner product's gradient at the end. -/
theorem W6_v4 : W6 m ρ c main_v4 = dhid (dactM m c) (hidM m c) := (W6_of m ρ c main_v4 (by decide)).trans (W5_v4 m ρ c)
/-- The inner weight's gradient at the end. -/
theorem W6_v5 : W6 m ρ c main_v5 = gwi (m ((c : Thread nD τ).loc main_arg0)) (dhid (dactM m c) (hidM m c)) :=
  (hF5 m ρ c 2).symm.trans <| (fin5 (V5 m ρ) c).trans <|
    congrArg₂ gwi (W5_args m ρ c main_arg0 (by decide)) (W5_v4 m ρ c)

end Cert.FfnIdeal.Hand
-- ==== Proof.FfnRef.lean ====
module

public import proofs.«01_k».proof.Proof.Gen.FfnReferenceIdeal.Read
public import proofs.«01_k».proof.Proof.FfnVal

@[expose] public section

set_option maxRecDepth 16384

noncomputable section

namespace Cert.FfnReferenceIdeal.Hand

open Idealize.ShloMosaic Cert.FfnReferenceIdeal Cert.FfnReferenceIdeal.Read Cert.Attn
open Cert.FfnIdeal.Hand (hid act gwo dact dhid gwi lo hi dgate dup dhid_lo dhid_hi)

/-- The gate's gradient by the product rule is the factored one, on real numbers. -/
theorem gate_rule {d x u : EReal} (hd : d = (d.toReal : EReal)) (hx : x = (x.toReal : EReal)) (hu : u = (u.toReal : EReal)) :
    d * u * logi x + x * (d * u) * (logi x * (1 - logi x)) = dgate d x u := by
  unfold dgate
  rw [hd, hx, hu, logi_coe, sg_coe]
  generalize d.toReal = d
  generalize x.toReal = x
  generalize u.toReal = u
  generalize sigma x = s
  norm_cast
  ring

/-- The other factor's gradient, in the reference's order. -/
theorem up_rule {d x : EReal} (hx : x = (x.toReal : EReal)) : x * logi x * d = dup d x := by
  unfold dup
  rw [hx, logi_coe, sg_coe, mul_comm, mul_assoc]

variable (U : Vec Ideal S2048x2048 .bf16) (W : Vec Ideal S8x2048x1408 .bf16) (O : Vec Ideal S5632x2048 .bf16) (G : Vec Ideal S2048x2048 .bf16)

/-- The reference's inner product is the kernel's. -/
theorem v4_eq : val_main_v4 (F := Ideal) U W = hid U W := by
  funext i
  obtain ⟨a, b, rfl⟩ := ex2 i
  rw [val_main_v4_apply]
  refine sum_same fun k => ?_
  rw [val_main_v0_apply, val_main_v3_apply, val_main_v2_apply, val_main_v1_apply]
  have hb := b.isLt
  have hk := k.isLt
  refine congrArg₂ (fun x y : EReal => x * y) ?_ ?_
  · exact congrArg U (ext2 rfl rfl)
  · refine congrArg W (ext3 ?_ ?_ ?_)
    · show (k.val * 11264 + b.val) / 1408 % 8 = b.val / 1408
      omega
    · show (k.val * 11264 + b.val) / 11264 = k.val
      omega
    · show (k.val * 11264 + b.val) % 1408 = b.val % 1408
      omega

/-- The gate. -/
theorem v5_eq (a : Fin 2048) (b : Fin 5632) : val_main_v5 (F := Ideal) U W (ix2 a b) = hid U W (ix2 a (lo b)) := by
  rw [val_main_v5_apply, v4_eq]
  exact congrArg (hid U W) (ext2 rfl rfl)

/-- The other factor. -/
theorem v6_eq (a : Fin 2048) (b : Fin 5632) : val_main_v6 (F := Ideal) U W (ix2 a b) = hid U W (ix2 a (hi b)) := by
  rw [val_main_v6_apply, v4_eq]
  exact congrArg (hid U W) (ext2 rfl rfl)

/-- The reference's sigmoid. -/
theorem v72_eq (i : S2048x5632.Idx) : val_main_v7_2 (F := Ideal) U W i = logi (val_main_v5 (F := Ideal) U W i) := by
  rw [val_main_v7_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-(val_main_v5 (F := Ideal) U W i))) = _
  rw [ofBits_one]
  rfl

/-- The reference's hidden array. -/
theorem v8_eq (hH : AllReal (hid U W)) : val_main_v8 (F := Ideal) U W = act (hid U W) := by
  funext i
  obtain ⟨a, b, rfl⟩ := ex2 i
  rw [val_main_v8_apply, val_main_v7_0_apply, v72_eq, v5_eq, v6_eq]
  show hid U W (ix2 a (lo b)) * logi (hid U W (ix2 a (lo b))) * hid U W (ix2 a (hi b)) = hid U W (ix2 a (lo b)) * sg (hid U W (ix2 a (lo b))) * hid U W (ix2 a (hi b))
  rw [hH (ix2 a (lo b)), logi_coe, sg_coe]

/-- The reference's outer weight's gradient. -/
theorem v13_eq (hH : AllReal (hid U W)) : val_main_v13 (F := Ideal) U W G = gwo (act (hid U W)) G := by
  funext i
  obtain ⟨a, b, rfl⟩ := ex2 i
  rw [val_main_v13_apply, val_main_v12_apply]
  refine sum_same fun k => ?_
  rw [v8_eq U W hH, val_main_v11_apply]
  refine (mul_comm (G := EReal) _ _).trans (congrArg₂ (fun x y : EReal => x * y) ?_ ?_)
  · exact congrArg (act (hid U W)) (ext2 rfl rfl)
  · exact congrArg G (ext2 rfl rfl)

/-- The reference's gradient of the hidden array. -/
theorem v14_eq : val_main_v14 (F := Ideal) O G = dact G O := by
  funext i
  obtain ⟨a, b, rfl⟩ := ex2 i
  rw [val_main_v14_apply]
  refine sum_same fun k => ?_
  rw [val_main_v9_apply, val_main_v11_apply]
  refine congrArg₂ (fun x y : EReal => x * y) ?_ ?_
  · exact congrArg G (ext2 rfl rfl)
  · exact congrArg O (ext2 rfl rfl)

/-- The gate's half of the gradient. -/
theorem v17_eq (hH : AllReal (hid U W)) (hD : AllReal (dact G O)) (a : Fin 2048) (b : Fin 5632) :
    val_main_v17 (F := Ideal) U W O G (ix2 a b) = dgate (dact G O (ix2 a b)) (hid U W (ix2 a (lo b))) (hid U W (ix2 a (hi b))) := by
  rw [val_main_v17_apply, val_main_call1_v1_apply, val_main_call1_v2_apply, val_main_call1_v0_apply, val_main_v16_apply, val_main_v7_1_apply,
    val_main_call0_v7_apply, val_main_call0_v6_apply, val_main_call0_cst_1_apply, v72_eq, v5_eq, v6_eq, v14_eq]
  refine Eq.trans ?_ (gate_rule (hD (ix2 a b)) (hH (ix2 a (lo b))) (hH (ix2 a (hi b))))
  rw [← ofBits_one]
  rfl

/-- The other half of the gradient. -/
theorem v15_eq (hH : AllReal (hid U W)) (a : Fin 2048) (b : Fin 5632) :
    val_main_v15 (F := Ideal) U W O G (ix2 a b) = dup (dact G O (ix2 a b)) (hid U W (ix2 a (lo b))) := by
  rw [val_main_v15_apply, val_main_v7_0_apply, v72_eq, v5_eq, v14_eq]
  exact up_rule (hH (ix2 a (lo b)))

/-- The reference's gradient of the inner product. -/
theorem v18_eq (hH : AllReal (hid U W)) (hD : AllReal (dact G O)) : val_main_v18 (F := Ideal) U W O G = dhid (dact G O) (hid U W) := by
  funext i
  obtain ⟨a, y, rfl⟩ := ex2 i
  have hy : y.val < 11264 := y.isLt
  unfold val_main_v18
  rcases Nat.lt_or_ge y.val 5632 with h | h
  · refine Eq.trans ?_ ((v17_eq U W O G hH hD a ⟨y.val, h⟩).trans (dhid_lo (dact G O) (hid U W) (ix2 a y) a ⟨y.val, h⟩ rfl).symm)
    generalize val_main_v17 (F := Ideal) U W O G = p
    generalize val_main_v15 (F := Ideal) U W O G = q
    refine concatenate_pair_apply_left (t := S2048x11264) (s₁ := S2048x5632) (s₂ := S2048x5632) (1 : Fin 2) p q Gen.concatenates_S2048x5632_S2048x5632_S2048x11264_d1 _ rfl _ (fun d => ?_)
    match d with
    | ⟨0, _⟩ => rfl
    | ⟨1, _⟩ => rfl
  · have e : ix2 a y = ix2 a (hi ⟨y.val - 5632, by omega⟩) := ext2 rfl (by show y.val = 5632 + (y.val - 5632); omega)
    refine Eq.trans ?_ ((v15_eq U W O G hH a ⟨y.val - 5632, by omega⟩).trans (dhid_hi (dact G O) (hid U W) (ix2 a y) a ⟨y.val - 5632, by omega⟩ e).symm)
    generalize val_main_v17 (F := Ideal) U W O G = p
    generalize val_main_v15 (F := Ideal) U W O G = q
    refine concatenate_pair_apply_right (t := S2048x11264) (s₁ := S2048x5632) (s₂ := S2048x5632) (1 : Fin 2) p q Gen.concatenates_S2048x5632_S2048x5632_S2048x11264_d1 _ rfl rfl _ (fun d hd => ?_) ?_
    · match d, hd with
      | ⟨0, _⟩, _ => rfl
      | ⟨1, _⟩, hd => exact absurd (Fin.ext rfl) hd
    · show y.val - 5632 + 5632 = y.val
      omega

/-- The reference's gradient of the inner weight. -/
theorem v25_eq (hH : AllReal (hid U W)) (hD : AllReal (dact G O)) : val_main_v25 (F := Ideal) U W O G = gwi U (dhid (dact G O) (hid U W)) := by
  funext i
  obtain ⟨a, b, d, rfl⟩ := ex3 i
  rw [val_main_v25_apply, val_main_v24_apply, val_main_v23_apply, val_main_v22_apply]
  refine sum_same fun k => ?_
  rw [v18_eq U W O G hH hD, val_main_v0_apply]
  have ha := a.isLt
  have hb := b.isLt
  have hd := d.isLt
  refine (mul_comm (G := EReal) _ _).trans (congrArg₂ (fun x y : EReal => x * y) ?_ ?_)
  · refine congrArg U (ext2 rfl ?_)
    show ((b.val * 8 + a.val) * 1408 + d.val) / 11264 = b.val
    omega
  · refine congrArg (dhid (dact G O) (hid U W)) (ext2 rfl ?_)
    show ((b.val * 8 + a.val) * 1408 + d.val) % 11264 = 1408 * a.val + d.val
    omega

/-- The inner product of real arrays is real. -/
theorem hid_real (hU : AllReal U) (hW : AllReal W) : AllReal (hid U W) := fun i => real_sum (fun k => hU _) (fun k => hW _)
/-- The hidden array's gradient of real arrays is real. -/
theorem dact_real (hG : AllReal G) (hO : AllReal O) : AllReal (dact G O) := fun i => real_sum (fun k => hG _) (fun k => hO _)

end Cert.FfnReferenceIdeal.Hand
-- ==== Proof.FfnAlg.lean ====
module

public import proofs.«01_k».proof.Proof.Gen.Pre_finite_ffn
public import proofs.«01_k».proof.Proof.Algebra
public import proofs.«01_k».proof.Proof.FfnRef

@[expose] public section

set_option maxRecDepth 16384

noncomputable section

namespace Cert.Proof

open Idealize.ShloMosaic Idealize.ShloMosaic.TcCoe Idealize.SL.Sem Cert.Attn

/-- The feed-forward precondition makes every argument an array of real numbers. -/
theorem reals_of_pre_ffn (x0 : Vec Ideal Cert.Pre_finite_ffn.S2048x2048 .bf16) (x1 : Vec Ideal Cert.Pre_finite_ffn.S8x2048x1408 .bf16)
    (x2 : Vec Ideal Cert.Pre_finite_ffn.S5632x2048 .bf16) (x3 : Vec Ideal Cert.Pre_finite_ffn.S2048x2048 .bf16)
    (h0 : (Cert.Pre_finite_ffn.fn (F := Ideal) x0 x1 x2 x3).1 = fun _ => 1#1) (h1 : (Cert.Pre_finite_ffn.fn (F := Ideal) x0 x1 x2 x3).2.1 = fun _ => 1#1)
    (h2 : (Cert.Pre_finite_ffn.fn (F := Ideal) x0 x1 x2 x3).2.2.1 = fun _ => 1#1) (h3 : (Cert.Pre_finite_ffn.fn (F := Ideal) x0 x1 x2 x3).2.2.2 = fun _ => 1#1) :
    AllReal x0 ∧ AllReal x1 ∧ AllReal x2 ∧ AllReal x3 := by
  refine ⟨fun i => ?_, fun i => ?_, fun i => ?_, fun i => ?_⟩
  · have e := congrFun h0 i
    obtain ⟨a, b, rfl⟩ := ex2 i
    revert e
    pointwise [Cert.Pre_finite_ffn.fn, ofBits_binf]
    exact real_of_lt _
  · have e := congrFun h1 i
    obtain ⟨a, b, c, rfl⟩ := ex3 i
    revert e
    pointwise [Cert.Pre_finite_ffn.fn, ofBits_binf]
    exact real_of_lt _
  · have e := congrFun h2 i
    obtain ⟨a, b, rfl⟩ := ex2 i
    revert e
    pointwise [Cert.Pre_finite_ffn.fn, ofBits_binf]
    exact real_of_lt _
  · have e := congrFun h3 i
    obtain ⟨a, b, rfl⟩ := ex2 i
    revert e
    pointwise [Cert.Pre_finite_ffn.fn, ofBits_binf]
    exact real_of_lt _

/-- Over the reals the blocked feed-forward layer and its gradients are the plain ones, where the arguments are finite. -/
theorem algebraic_ffn : Cert.algebraic_FfnIdeal_FfnReferenceIdeal_pre_finite_ffn := by
  intro m g m' g' pre agree
  have real : ∀ c : Dev Cert.FfnIdeal.nD, AllReal (Cert.FfnIdeal.Hand.hidM m c) ∧ AllReal (Cert.FfnIdeal.Hand.dactM m c) := fun c => by
    obtain ⟨h0, h1, h2, h3⟩ := pre c
    obtain ⟨r0, r1, r2, r3⟩ := reals_of_pre_ffn _ _ _ _ h0 h1 h2 h3
    exact ⟨Cert.FfnReferenceIdeal.Hand.hid_real _ _ r0 r1, Cert.FfnReferenceIdeal.Hand.dact_real _ _ r3 r2⟩
  refine ⟨fun c => Cert.FfnIdeal.Hand.act (Cert.FfnIdeal.Hand.hidM m c),
    fun c => Cert.FfnIdeal.Hand.gwo (Cert.FfnIdeal.Hand.act (Cert.FfnIdeal.Hand.hidM m c)) (m ((c.tc : Thread _ _).loc Cert.FfnIdeal.main_arg3)),
    fun c => Cert.FfnIdeal.Hand.dhid (Cert.FfnIdeal.Hand.dactM m c) (Cert.FfnIdeal.Hand.hidM m c),
    fun c => Cert.FfnIdeal.Hand.gwi (m ((c.tc : Thread _ _).loc Cert.FfnIdeal.main_arg0)) (Cert.FfnIdeal.Hand.dhid (Cert.FfnIdeal.Hand.dactM m c) (Cert.FfnIdeal.Hand.hidM m c)), ?_, ?_⟩
  · refine (θ_run Cert.FfnIdeal.defs _ _).mono (fun r hr c => ?_) (Cert.FfnIdeal.Hand.run_all m g)
    exact ⟨(hr c _ (Cert.FfnIdeal.Gen.mem_uc Cert.FfnIdeal.main_v1 (by decide))).trans (Cert.FfnIdeal.Hand.W6_v1 m g c),
      (hr c _ (Cert.FfnIdeal.Gen.mem_uc Cert.FfnIdeal.main_v2 (by decide))).trans (Cert.FfnIdeal.Hand.W6_v2 m g c),
      (hr c _ (Cert.FfnIdeal.Gen.mem_uc Cert.FfnIdeal.main_v4 (by decide))).trans (Cert.FfnIdeal.Hand.W6_v4 m g c),
      (hr c _ (Cert.FfnIdeal.Gen.mem_uc Cert.FfnIdeal.main_v5 (by decide))).trans (Cert.FfnIdeal.Hand.W6_v5 m g c),
      (hr c _ (Cert.FfnIdeal.Gen.mem_uc Cert.FfnIdeal.main_arg0 (by decide))).trans (Cert.FfnIdeal.Gen.W6_main_arg0 m g c),
      (hr c _ (Cert.FfnIdeal.Gen.mem_uc Cert.FfnIdeal.main_arg1 (by decide))).trans (Cert.FfnIdeal.Gen.W6_main_arg1 m g c),
      (hr c _ (Cert.FfnIdeal.Gen.mem_uc Cert.FfnIdeal.main_arg2 (by decide))).trans (Cert.FfnIdeal.Gen.W6_main_arg2 m g c),
      (hr c _ (Cert.FfnIdeal.Gen.mem_uc Cert.FfnIdeal.main_arg3 (by decide))).trans (Cert.FfnIdeal.Gen.W6_main_arg3 m g c)⟩
  · refine (θ_run Cert.FfnReferenceIdeal.defs _ _).mono (fun r hr c => ?_) (Cert.FfnReferenceIdeal.Value.run (F := Ideal) m' g')
    obtain ⟨a0, a1, a2, a3⟩ := agree c
    obtain ⟨hH, hD⟩ := real c
    obtain ⟨r0, r1, r2, r3, args⟩ := hr c
    refine ⟨r0.trans ?_, r1.trans ?_, r2.trans ?_, r3.trans ?_, args⟩
    · rw [a0, a1]
      exact (Cert.FfnReferenceIdeal.Read.val_main_v19_eq _ _).trans <| Cert.FfnReferenceIdeal.Hand.v8_eq _ _ hH
    · rw [a0, a1, a3]
      exact (Cert.FfnReferenceIdeal.Read.val_main_v20_eq _ _ _).trans <| Cert.FfnReferenceIdeal.Hand.v13_eq _ _ _ hH
    · refine (Cert.FfnReferenceIdeal.Read.val_main_v21_eq m' c).trans ?_
      rw [a0, a1, a2, a3]
      exact Cert.FfnReferenceIdeal.Hand.v18_eq _ _ _ _ hH hD
    · refine (Cert.FfnReferenceIdeal.Read.val_main_v26_eq m' c).trans ?_
      rw [a0, a1, a2, a3]
      exact Cert.FfnReferenceIdeal.Hand.v25_eq _ _ _ _ hH hD

end Cert.Proof
-- ==== Proof.SplitOut.lean ====
module

public import proofs.«01_k».proof.Defs
public import proofs.«01_k».proof.Proof.Gen.FfnOut
public import proofs.«01_k».proof.Proof.Gen.FfnOutIdeal.Value
public import proofs.«01_k».proof.Proof.Gen.FfnOutReferenceIdeal.Read
public import proofs.«01_k».proof.Proof.ValBase
public import Idealize.ShloMosaic.Lib.Pipeline.ValueKit

@[expose] public section

set_option maxRecDepth 16384

noncomputable section

namespace Cert.FfnOutIdeal.Hand

open Cert.FfnOutIdeal Cert.FfnOutIdeal.Gen
open Idealize.ShloMosaic Idealize.ShloMosaic.TcCoe Idealize.SL.Sem Idealize.ShloMosaic.Pipeline Cert.Attn

/-- The product of the hidden array and the outer weight. -/
def prod (A : Vec Ideal S2048x5632 .bf16) (B : Vec Ideal S5632x2048 .bf16) : Vec Ideal S2048x2048 .f32 := fun i =>
  (∑ k : Fin 5632, (A (ix2 (i 0) k) : EReal) * (B (ix2 k (i 1)) : EReal) : EReal)

/-- Where the left operand's block sits at a point. -/
theorem e0 : ∀ t : Fin cfg0.N, win0_0.index t = ![t.val / 4, t.val % 2] := (by decide +kernel : ∀ t : Fin grid0.N, _)
/-- Where the right operand's block sits at a point. -/
theorem e1 : ∀ t : Fin cfg0.N, win0_1.index t = ![t.val % 2, t.val / 2 % 2] := (by decide +kernel : ∀ t : Fin grid0.N, _)
/-- Where the result's block sits at a point. -/
theorem e2 : ∀ t : Fin cfg0.N, win0_2.index t = ![t.val / 4, t.val / 2 % 2] := (by decide +kernel : ∀ t : Fin grid0.N, _)

/-- The part of a block's product that one step adds. -/
def part (x0 : Vec Ideal S1024x2816 .bf16) (x1 : Vec Ideal S2816x1024 .bf16) : Vec Ideal S1024x1024 .f32 := fun j =>
  (∑ k : Fin 2816, (x0 (ix2 (j 0) k) : EReal) * (x1 (ix2 k (j 1)) : EReal) : EReal)

/-- A step adds its part. -/
theorem pay (acc : Vec Ideal S1024x1024 .f32) (x1 : Vec Ideal S2816x1024 .bf16) (x0 : Vec Ideal S1024x2816 .bf16) (j : S1024x1024.Idx) :
    k0_pay2 acc x1 x0 j = acc j + part x0 x1 j := by
  obtain ⟨a, b, rfl⟩ := ex2 j
  pointwise [k0_pay2, ofBits_zero]
  simp [part]

/-- The first step starts from zero. -/
theorem pay0 (j : S1024x1024.Idx) : k0_pay1 (F := Ideal) j = (0 : EReal) := by
  obtain ⟨a, b, rfl⟩ := ex2 j
  pointwise [k0_pay1, ofBits_zero]

variable (m : (ℓ : Loc nD τ sig) → Buf (Elt Ideal) ℓ) (c : Dev nD)

/-- The scratch after the last step of a block. -/
theorem acc_eq (t : Fin cfg0.N) (h : t.val % 2 = 1) (j : S1024x1024.Idx) :
    (outsAt0 m c t.val t.isLt).2 j = (0 : EReal) + ∑ s : Fin 2, (part (iblk m c 0 ⟨2 * (t.val / 2) + s.val, run_point_lt_of_flush t h s⟩) (iblk m c 1 ⟨2 * (t.val / 2) + s.val, run_point_lt_of_flush t h s⟩) j : EReal) := by
  refine eq_sum_fin_of_reset_step_apply_of_flush (M := EReal) (fun n h => (outsAt0 m c n h).2) 2 (fun _ => 0) (fun t j => part (iblk m c 0 t) (iblk m c 1 t) j) ?_ ?_ t h j
  · intro t h j
    rw [outsAt0_A m c t h (by omega)]; frame_out; rw [pay, pay0]
  · intro t h j
    rw [outsAt0_B m c t h (by omega)]; frame_out; rw [pay]
    exact congrArg (· + part (iblk m c 0 t) (iblk m c 1 t) j) (congrFun (Memref.IsWhole.read_unread (Memref.isWhole_whole cc0_scratch0) _) j)

/-- What the last step of a block writes is what it leaves in the scratch. -/
theorem out_eq (t : Fin cfg0.N) (h : t.val % 2 = 1) : (outsAt0 m c t.val t.isLt).1 = (outsAt0 m c t.val t.isLt).2 := by
  rw [outsAt0_B m c t (by omega) h]; frame_out

/-- What the call leaves in its result. -/
theorem fin0_2 : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, out_eq m c t h]
  refine (acc_eq m c t h y).trans ((zero_add _).trans ?_)
  refine Fin.sum_mul_add_congr (S := 2) (n := 2816) fun s k hl => ?_
  blk_simp [iblk, V]
  congr 1
  · congr 1
    blk_ext [e0, e2]
  · congr 1
    blk_ext [e1, e2]

end Cert.FfnOutIdeal.Hand

namespace Cert.FfnOutReferenceIdeal.Hand

open Idealize.ShloMosaic Cert.FfnOutReferenceIdeal Cert.FfnOutReferenceIdeal.Read Cert.Attn

/-- The reference's product is the same sum. -/
theorem v2_eq (A : Vec Ideal S2048x5632 .bf16) (B : Vec Ideal S5632x2048 .bf16) : val_main_v2 (F := Ideal) A B = Cert.FfnOutIdeal.Hand.prod A B := by
  funext i
  obtain ⟨a, b, rfl⟩ := ex2 i
  pointwise [val_main_v2, val_main_v1, val_main_v0]
  rfl

end Cert.FfnOutReferenceIdeal.Hand

namespace Cert.Proof

open Idealize.ShloMosaic Idealize.ShloMosaic.TcCoe Idealize.SL.Sem

/-- Over the extended reals the blocked product and the plain product agree, whatever the arguments. -/
theorem algebraic_ffnOut : Cert.algebraic_FfnOutIdeal_FfnOutReferenceIdeal := by
  intro m g m' g' _ agree
  refine ⟨fun c => Cert.FfnOutIdeal.Hand.prod (m ((c.tc : Thread _ _).loc Cert.FfnOutIdeal.main_arg0)) (m ((c.tc : Thread _ _).loc Cert.FfnOutIdeal.main_arg1)), ?_, ?_⟩
  · refine (θ_run Cert.FfnOutIdeal.defs _ _).mono (fun r hr c => ?_) (Cert.FfnOutIdeal.Value.run_blocks m g)
    obtain ⟨h, args⟩ := hr c
    exact ⟨h.trans (Cert.FfnOutIdeal.Hand.fin0_2 m c), args⟩
  · refine (θ_run Cert.FfnOutReferenceIdeal.defs _ _).mono (fun r hr c => ?_) (Cert.FfnOutReferenceIdeal.Value.run (F := Ideal) m' g')
    obtain ⟨a0, a1⟩ := agree c
    obtain ⟨r0, args⟩ := hr c
    refine ⟨r0.trans ?_, args⟩
    rw [a0, a1]
    exact (Cert.FfnOutReferenceIdeal.Read.val_main_v2_eq _ _).trans <| Cert.FfnOutReferenceIdeal.Hand.v2_eq _ _

end Cert.Proof
-- ==== Proof.SplitIn.lean ====
module

public import proofs.«01_k».proof.Defs
public import proofs.«01_k».proof.Proof.Gen.FfnIn
public import proofs.«01_k».proof.Proof.Gen.FfnInIdeal.Value
public import proofs.«01_k».proof.Proof.Gen.FfnInReferenceIdeal.Read
public import proofs.«01_k».proof.Proof.ValBase
public import Idealize.ShloMosaic.Lib.Pipeline.ValueKit

@[expose] public section

set_option maxRecDepth 16384

noncomputable section

namespace Cert.FfnInIdeal.Hand

open Cert.FfnInIdeal Cert.FfnInIdeal.Gen
open Idealize.ShloMosaic Idealize.ShloMosaic.TcCoe Idealize.SL.Sem Idealize.ShloMosaic.Pipeline Cert.Attn

/-- The product of the hidden gradient with the transposed weight, whose columns lie in eight slabs. -/
def prod (A : Vec Ideal S2048x11264 .bf16) (B : Vec Ideal S8x2048x1408 .bf16) : Vec Ideal S2048x2048 .f32 := fun i =>
  (∑ k : Fin 11264, (A (ix2 (i 0) k) : EReal) * (B (ix3 ⟨k.val / 1408, by omega⟩ (i 1) ⟨k.val % 1408, by omega⟩) : EReal) : EReal)

/-- Where the left operand's block sits at a point. -/
theorem e0 : ∀ t : Fin cfg0.N, win0_0.index t = ![t.val / 16, t.val % 8] := (by decide +kernel : ∀ t : Fin grid0.N, _)
/-- Where the right operand's block sits at a point. -/
theorem e1 : ∀ t : Fin cfg0.N, win0_1.index t = ![t.val % 8, t.val / 8 % 2, 0] := (by decide +kernel : ∀ t : Fin grid0.N, _)
/-- Where the result's block sits at a point. -/
theorem e2 : ∀ t : Fin cfg0.N, win0_2.index t = ![t.val / 16, t.val / 8 % 2] := (by decide +kernel : ∀ t : Fin grid0.N, _)

/-- The part of a block's product that one step adds. -/
def part (x0 : Vec Ideal S1024x1408 .bf16) (x1 : Vec Ideal S1x1024x1408 .bf16) : Vec Ideal S1024x1024 .f32 := fun j =>
  (∑ k : Fin 1408, (x0 (ix2 (j 0) k) : EReal) * (x1 (ix3 0 (j 1) k) : EReal) : EReal)

/-- A step adds its part. -/
theorem pay (acc : Vec Ideal S1024x1024 .f32) (x1 : Vec Ideal S1x1024x1408 .bf16) (x0 : Vec Ideal S1024x1408 .bf16) (j : S1024x1024.Idx) :
    k0_pay2 acc x1 x0 j = acc j + part x0 x1 j := by
  obtain ⟨a, b, rfl⟩ := ex2 j
  pointwise [k0_pay2, ofBits_zero]
  simp [part]

/-- The first step starts from zero. -/
theorem pay0 (j : S1024x1024.Idx) : k0_pay1 (F := Ideal) j = (0 : EReal) := by
  obtain ⟨a, b, rfl⟩ := ex2 j
  pointwise [k0_pay1, ofBits_zero]

variable (m : (ℓ : Loc nD τ sig) → Buf (Elt Ideal) ℓ) (c : Dev nD)

/-- The scratch after the last step of a block. -/
theorem acc_eq (t : Fin cfg0.N) (h : t.val % 8 = 7) (j : S1024x1024.Idx) :
    (outsAt0 m c t.val t.isLt).2 j = (0 : EReal) + ∑ s : Fin 8, (part (iblk m c 0 ⟨8 * (t.val / 8) + s.val, run_point_lt_of_flush t h s⟩) (iblk m c 1 ⟨8 * (t.val / 8) + s.val, run_point_lt_of_flush t h s⟩) j : EReal) := by
  refine eq_sum_fin_of_reset_step_apply_of_flush (M := EReal) (fun n h => (outsAt0 m c n h).2) 8 (fun _ => 0) (fun t j => part (iblk m c 0 t) (iblk m c 1 t) j) ?_ ?_ t h j
  · intro t h j
    rw [outsAt0_A m c t h (by omega)]; frame_out; rw [pay, pay0]
  · intro t h j
    by_cases h1 : t.val % 8 = 7
    · rw [outsAt0_C m c t h h1]; frame_out; rw [pay]
      exact congrArg (· + part (iblk m c 0 t) (iblk m c 1 t) j) (congrFun (Memref.IsWhole.read_unread (Memref.isWhole_whole cc0_scratch0) _) j)
    · rw [outsAt0_B m c t h h1]; frame_out; rw [pay]
      exact congrArg (· + part (iblk m c 0 t) (iblk m c 1 t) j) (congrFun (Memref.IsWhole.read_unread (Memref.isWhole_whole cc0_scratch0) _) j)

/-- What the last step of a block writes is what it leaves in the scratch. -/
theorem out_eq (t : Fin cfg0.N) (h : t.val % 8 = 7) : (outsAt0 m c t.val t.isLt).1 = (outsAt0 m c t.val t.isLt).2 := by
  rw [outsAt0_C m c t (by omega) h]; frame_out

/-- What the call leaves in its result. -/
theorem fin0_2 : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, out_eq m c t h]
  refine (acc_eq m c t h y).trans ((zero_add _).trans ?_)
  refine Fin.sum_mul_add_congr (S := 8) (n := 1408) fun s k hl => ?_
  blk_simp [iblk, V]
  congr 1
  · congr 1
    blk_ext [e0, e2]
  · congr 1
    blk_ext [e1, e2]

end Cert.FfnInIdeal.Hand

namespace Cert.FfnInReferenceIdeal.Hand

open Idealize.ShloMosaic Cert.FfnInReferenceIdeal Cert.FfnInReferenceIdeal.Read Cert.Attn

/-- The reference's product is the same sum. -/
theorem v6_eq (A : Vec Ideal S2048x11264 .bf16) (B : Vec Ideal S8x2048x1408 .bf16) : val_main_v6 (F := Ideal) A B = Cert.FfnInIdeal.Hand.prod A B := by
  funext i
  obtain ⟨a, b, rfl⟩ := ex2 i
  pointwise [val_main_v6, val_main_v5, val_main_v3, val_main_v2, val_main_v1]
  rfl

end Cert.FfnInReferenceIdeal.Hand

namespace Cert.Proof

open Idealize.ShloMosaic Idealize.ShloMosaic.TcCoe Idealize.SL.Sem

/-- Over the extended reals the blocked product and the plain product agree, whatever the arguments. -/
theorem algebraic_ffnIn : Cert.algebraic_FfnInIdeal_FfnInReferenceIdeal := by
  intro m g m' g' _ agree
  refine ⟨fun c => Cert.FfnInIdeal.Hand.prod (m ((c.tc : Thread _ _).loc Cert.FfnInIdeal.main_arg0)) (m ((c.tc : Thread _ _).loc Cert.FfnInIdeal.main_arg1)), ?_, ?_⟩
  · refine (θ_run Cert.FfnInIdeal.defs _ _).mono (fun r hr c => ?_) (Cert.FfnInIdeal.Value.run_blocks m g)
    obtain ⟨h, args⟩ := hr c
    exact ⟨h.trans (Cert.FfnInIdeal.Hand.fin0_2 m c), args⟩
  · refine (θ_run Cert.FfnInReferenceIdeal.defs _ _).mono (fun r hr c => ?_) (Cert.FfnInReferenceIdeal.Value.run (F := Ideal) m' g')
    obtain ⟨a0, a1⟩ := agree c
    obtain ⟨r0, args⟩ := hr c
    refine ⟨r0.trans ?_, args⟩
    rw [a0, a1]
    exact (Cert.FfnInReferenceIdeal.Read.val_main_v6_eq _ _).trans <| Cert.FfnInReferenceIdeal.Hand.v6_eq _ _

end Cert.Proof
-- ==== Proof.ProjVal.lean ====
module

public import proofs.«01_k».proof.Defs
public import proofs.«01_k».proof.Proof.Gen.Proj
public import proofs.«01_k».proof.Proof.Gen.ProjReferenceIdeal.Read
public import proofs.«01_k».proof.Proof.Runs
public import proofs.«01_k».proof.Proof.ValBase
public import Idealize.ShloMosaic.Lib.Pipeline.ValueKit

@[expose] public section

set_option maxRecDepth 16384

noncomputable section

namespace Cert.ProjIdeal.Hand

open Cert.ProjIdeal Cert.ProjIdeal.Gen
open Idealize.ShloMosaic Idealize.ShloMosaic.TcCoe Idealize.SL.Sem Idealize.ShloMosaic.Pipeline Cert.Attn

/-- Sums of equal terms. -/
theorem sum_same {n : ℕ} {f g : Fin n → EReal} (h : ∀ k, f k = g k) : ∑ k, f k = ∑ k, g k := Finset.sum_congr rfl fun k _ => h k

/-- The product over the first half of the rows of the weight. -/
def top (A : Vec Ideal S2048x2048 .bf16) (B : Vec Ideal S2048x11520 .bf16) : Vec Ideal S2048x11520 .bf16 := fun i =>
  (∑ k : Fin 1024, (A (ix2 (i 0) ⟨k.val, by omega⟩) : EReal) * (B (ix2 ⟨k.val, by omega⟩ (i 1)) : EReal) : EReal)

/-- The product over the second half, and what the first half gave. -/
def rest (A : Vec Ideal S2048x2048 .bf16) (B : Vec Ideal S2048x11520 .bf16) (C : Vec Ideal S2048x11520 .bf16) : Vec Ideal S2048x11520 .bf16 := fun i =>
  ((∑ k : Fin 1024, (A (ix2 (i 0) ⟨1024 + k.val, by omega⟩) : EReal) * (B (ix2 ⟨1024 + k.val, by omega⟩ (i 1)) : EReal)) + (C i : EReal) : EReal)

/-- The whole product. -/
def prod (A : Vec Ideal S2048x2048 .bf16) (B : Vec Ideal S2048x11520 .bf16) : Vec Ideal S2048x11520 .bf16 := fun i =>
  (∑ k : Fin 2048, (A (ix2 (i 0) k) : EReal) * (B (ix2 k (i 1)) : EReal) : EReal)

/-- The gradient of the weight: the rows of the input against the rows of the gradient. -/
def grad (A : Vec Ideal S2048x2048 .bf16) (G : Vec Ideal S2048x11520 .bf16) : Vec Ideal S2048x11520 .bf16 := fun i =>
  (∑ k : Fin 2048, (A (ix2 k (i 0)) : EReal) * (G (ix2 k (i 1)) : EReal) : EReal)

/-- The two halves make the whole product. -/
theorem rest_top (A : Vec Ideal S2048x2048 .bf16) (B : Vec Ideal S2048x11520 .bf16) : rest A B (top A B) = prod A B := by
  funext i
  have h : (∑ k : Fin (1024 + 1024), (A (ix2 (i 0) k) : EReal) * (B (ix2 k (i 1)) : EReal)) = _ := Fin.sum_univ_add _
  exact (add_comm _ _).trans h.symm

/-- Where the blocks of the first call sit. -/
theorem e00 : ∀ t : Fin cfg0.N, win0_0.index t = ![t.val / 9, 0] := (by decide +kernel : ∀ t : Fin grid0.N, _)
/-- The weight's block in the first call. -/
theorem e01 : ∀ t : Fin cfg0.N, win0_1.index t = ![0, t.val % 9] := (by decide +kernel : ∀ t : Fin grid0.N, _)
/-- The result's block in the first call. -/
theorem e02 : ∀ t : Fin cfg0.N, win0_2.index t = ![t.val / 9, t.val % 9] := (by decide +kernel : ∀ t : Fin grid0.N, _)
/-- Where the blocks of the second call sit. -/
theorem e10 : ∀ t : Fin cfg1.N, win1_0.index t = ![t.val / 9, 1] := (by decide +kernel : ∀ t : Fin grid1.N, _)
/-- The weight's block in the second call. -/
theorem e11 : ∀ t : Fin cfg1.N, win1_1.index t = ![1, t.val % 9] := (by decide +kernel : ∀ t : Fin grid1.N, _)
/-- The block of the first call's result in the second call. -/
theorem e12 : ∀ t : Fin cfg1.N, win1_2.index t = ![t.val / 9, t.val % 9] := (by decide +kernel : ∀ t : Fin grid1.N, _)
/-- The result's block in the second call. -/
theorem e13 : ∀ t : Fin cfg1.N, win1_3.index t = ![t.val / 9, t.val % 9] := (by decide +kernel : ∀ t : Fin grid1.N, _)
/-- Where the blocks of the weight's gradient sit. -/
theorem e20 : ∀ t : Fin cfg2.N, win2_0.index t = ![0, t.val / 9] := (by decide +kernel : ∀ t : Fin grid2.N, _)
/-- The gradient's block in the third call. -/
theorem e21 : ∀ t : Fin cfg2.N, win2_1.index t = ![0, t.val % 9] := (by decide +kernel : ∀ t : Fin grid2.N, _)
/-- The result's block in the third call. -/
theorem e22 : ∀ t : Fin cfg2.N, win2_2.index t = ![t.val / 9, t.val % 9] := (by decide +kernel : ∀ t : Fin grid2.N, _)

/-- The first call's block at an element. -/
theorem pay0 (x1 : Vec Ideal S1024x1280 .bf16) (x0 : Vec Ideal S1024x1024 .bf16) (j : S1024x1280.Idx) :
    k0_pay1 x1 x0 j = (∑ k : Fin 1024, (x0 (ix2 (j 0) k) : EReal) * (x1 (ix2 k (j 1)) : EReal) : EReal) := by
  obtain ⟨a, b, rfl⟩ := ex2 j
  pointwise [k0_pay1, ofBits_zero]

/-- The second call's block at an element. -/
theorem pay1 (x1 : Vec Ideal S1024x1280 .bf16) (x0 : Vec Ideal S1024x1024 .bf16) (x2 : Vec Ideal S1024x1280 .bf16) (j : S1024x1280.Idx) :
    k1_pay1 x1 x0 x2 j = ((∑ k : Fin 1024, (x0 (ix2 (j 0) k) : EReal) * (x1 (ix2 k (j 1)) : EReal)) + (x2 j : EReal) : EReal) := by
  obtain ⟨a, b, rfl⟩ := ex2 j
  pointwise [k1_pay1, ofBits_zero]

/-- The third call's block at an element. -/
theorem pay2 (x1 : Vec Ideal S2048x1280 .bf16) (x0 : Vec Ideal S2048x1024 .bf16) (j : S1024x1280.Idx) :
    k2_pay1 x1 x0 j = (∑ k : Fin 2048, (x0 (ix2 k (j 0)) : EReal) * (x1 (ix2 k (j 1)) : EReal) : EReal) := by
  obtain ⟨a, b, rfl⟩ := ex2 j
  pointwise [k2_pay1, ofBits_zero]

section
variable (V : (c : Dev nD) → (b : Ref sig .tc) → Buf (Elt Ideal) ((c : Thread nD τ).loc b)) (c : Dev nD)

/-- What the first call leaves in its result. -/
theorem fin0 : (dat0 V c).arrAt 2 cfg0.N = top (V c main_arg0) (V c main_arg1) := by
  refine (dat0 V c).arrAt_eq_of_covers 2 _ (by decide +kernel) fun t hf y => ?_
  blk_simp
  rw [after0_2]; frame_out; rw [pay0]
  refine sum_same fun k => ?_
  blk_simp [iblk0]
  congr 1
  · congr 1
    blk_ext [e00, e02]
  · congr 1
    blk_ext [e01, e02]

/-- What the second call leaves in its result. -/
theorem fin1 : (dat1 V c).arrAt 3 cfg1.N = rest (V c main_arg0) (V c main_arg1) (V c main_v0) := by
  refine (dat1 V c).arrAt_eq_of_covers 3 _ (by decide +kernel) fun t hf y => ?_
  blk_simp
  rw [after1_3]; frame_out; rw [pay1]
  refine congrArg₂ (fun a b : EReal => a + b) (sum_same fun k => ?_) ?_
  · blk_simp [iblk1]
    congr 1
    · congr 1
      blk_ext [e10, e13]
    · congr 1
      blk_ext [e11, e13]
  · blk_simp [iblk1]
    congr 1
    blk_ext [e12, e13]

/-- What the third call leaves in its result. -/
theorem fin2 : (dat2 V c).arrAt 2 cfg2.N = grad (V c main_arg0) (V c main_arg2) := by
  refine (dat2 V c).arrAt_eq_of_covers 2 _ (by decide +kernel) fun t hf y => ?_
  blk_simp
  rw [after2_2]; frame_out; rw [pay2]
  refine sum_same fun k => ?_
  blk_simp [iblk2]
  congr 1
  · congr 1
    blk_ext [e20, e22]
  · congr 1
    blk_ext [e21, e22]

end

variable (m : (ℓ : Loc nD τ sig) → Buf (Elt Ideal) ℓ) (ρ : Dev nD → PrngReg) (c : Dev nD)

/-- An argument before the second call. -/
theorem V1_arg (r : Ref sig .tc) (h : r ∈ argRefs) : V1 m ρ c r = m ((c : Thread nD τ).loc r) := W1_args m ρ c r h
/-- An argument before the third call. -/
theorem V2_arg (r : Ref sig .tc) (h : r ∈ argRefs) : V2 m ρ c r = m ((c : Thread nD τ).loc r) := W2_args m ρ c r h

/-- The first call's result before the second call. -/
theorem V1_v0 : V1 m ρ c main_v0 = top (m ((c : Thread nD τ).loc main_arg0)) (m ((c : Thread nD τ).loc main_arg1)) :=
  (hF0 m ρ c 2).symm.trans (fin0 (V0 m ρ) c)

/-- The projection at the end. -/
theorem W3_v1 : W3 m ρ c main_v1 = prod (m ((c : Thread nD τ).loc main_arg0)) (m ((c : Thread nD τ).loc main_arg1)) := by
  refine (W3_of m ρ c main_v1 (by decide)).trans <| (hF1 m ρ c 3).symm.trans <| (fin1 (V1 m ρ) c).trans ?_
  rw [V1_arg m ρ c main_arg0 (by decide), V1_arg m ρ c main_arg1 (by decide), V1_v0, rest_top]

/-- The weight's gradient at the end. -/
theorem W3_v2 : W3 m ρ c main_v2 = grad (m ((c : Thread nD τ).loc main_arg0)) (m ((c : Thread nD τ).loc main_arg2)) := by
  refine (hF2 m ρ c 2).symm.trans <| (fin2 (V2 m ρ) c).trans ?_
  rw [V2_arg m ρ c main_arg0 (by decide), V2_arg m ρ c main_arg2 (by decide)]

end Cert.ProjIdeal.Hand

namespace Cert.ProjReferenceIdeal.Hand

open Idealize.ShloMosaic Cert.ProjReferenceIdeal Cert.ProjReferenceIdeal.Read Cert.Attn

/-- The reference's projection is the same sum. -/
theorem v3_eq (A : Vec Ideal S2048x2048 .bf16) (B : Vec Ideal S2048x11520 .bf16) : val_main_v3 (F := Ideal) A B = Cert.ProjIdeal.Hand.prod A B := by
  funext i
  obtain ⟨a, b, rfl⟩ := ex2 i
  pointwise [val_main_v3, val_main_v2, val_main_v1, val_main_v0]
  rfl

/-- The reference's gradient is the same sum. -/
theorem v7_eq (A : Vec Ideal S2048x2048 .bf16) (G : Vec Ideal S2048x11520 .bf16) : val_main_v7 (F := Ideal) A G = Cert.ProjIdeal.Hand.grad A G := by
  funext i
  obtain ⟨a, b, rfl⟩ := ex2 i
  pointwise [val_main_v7, val_main_v6, val_main_v5, val_main_v4, val_main_v0]
  exact Finset.sum_congr rfl fun k _ => mul_comm _ _

end Cert.ProjReferenceIdeal.Hand

namespace Cert.Proof

open Idealize.ShloMosaic Idealize.ShloMosaic.TcCoe Idealize.SL.Sem

/-- Over the extended reals the blocked projection and its weight gradient are the plain ones, whatever the arguments. -/
theorem algebraic_proj : Cert.algebraic_ProjIdeal_ProjReferenceIdeal := by
  intro m g m' g' _ agree
  refine ⟨fun c => Cert.ProjIdeal.Hand.prod (m ((c.tc : Thread _ _).loc Cert.ProjIdeal.main_arg0)) (m ((c.tc : Thread _ _).loc Cert.ProjIdeal.main_arg1)),
    fun c => Cert.ProjIdeal.Hand.grad (m ((c.tc : Thread _ _).loc Cert.ProjIdeal.main_arg0)) (m ((c.tc : Thread _ _).loc Cert.ProjIdeal.main_arg2)), ?_, ?_⟩
  · refine (θ_run Cert.ProjIdeal.defs _ _).mono (fun r hr c => ?_) (Cert.ProjIdeal.Hand.run_all m g)
    exact ⟨(hr c _ (Cert.ProjIdeal.Gen.mem_uc Cert.ProjIdeal.main_v1 (by decide))).trans (Cert.ProjIdeal.Hand.W3_v1 m g c),
      (hr c _ (Cert.ProjIdeal.Gen.mem_uc Cert.ProjIdeal.main_v2 (by decide))).trans (Cert.ProjIdeal.Hand.W3_v2 m g c),
      (hr c _ (Cert.ProjIdeal.Gen.mem_uc Cert.ProjIdeal.main_arg0 (by decide))).trans (Cert.ProjIdeal.Gen.W3_main_arg0 m g c),
      (hr c _ (Cert.ProjIdeal.Gen.mem_uc Cert.ProjIdeal.main_arg1 (by decide))).trans (Cert.ProjIdeal.Gen.W3_main_arg1 m g c),
      (hr c _ (Cert.ProjIdeal.Gen.mem_uc Cert.ProjIdeal.main_arg2 (by decide))).trans (Cert.ProjIdeal.Gen.W3_main_arg2 m g c)⟩
  · refine (θ_run Cert.ProjReferenceIdeal.defs _ _).mono (fun r hr c => ?_) (Cert.ProjReferenceIdeal.Value.run (F := Ideal) m' g')
    obtain ⟨a0, a1, a2⟩ := agree c
    obtain ⟨r0, r1, args⟩ := hr c
    refine ⟨r0.trans ?_, r1.trans ?_, args⟩
    · rw [a0, a1]
      exact (Cert.ProjReferenceIdeal.Read.val_main_v3_eq _ _).trans <| Cert.ProjReferenceIdeal.Hand.v3_eq _ _
    · rw [a0, a2]
      exact (Cert.ProjReferenceIdeal.Read.val_main_v7_eq _ _).trans <| Cert.ProjReferenceIdeal.Hand.v7_eq _ _

end Cert.Proof
-- ==== Proof.SplitProj.lean ====
module

public import proofs.«01_k».proof.Defs
public import proofs.«01_k».proof.Proof.Gen.ProjIn
public import proofs.«01_k».proof.Proof.Gen.ProjInIdeal.Value
public import proofs.«01_k».proof.Proof.Gen.ProjInReferenceIdeal.Read
public import proofs.«01_k».proof.Proof.ValBase
public import Idealize.ShloMosaic.Lib.Pipeline.ValueKit

@[expose] public section

set_option maxRecDepth 16384

noncomputable section

namespace Cert.ProjInIdeal.Hand

open Cert.ProjInIdeal Cert.ProjInIdeal.Gen
open Idealize.ShloMosaic Idealize.ShloMosaic.TcCoe Idealize.SL.Sem Idealize.ShloMosaic.Pipeline Cert.Attn

/-- The product of the projection's gradient with the transposed weight. -/
def prod (A : Vec Ideal S2048x11520 .bf16) (B : Vec Ideal S2048x11520 .bf16) : Vec Ideal S2048x2048 .f32 := fun i =>
  (∑ k : Fin 11520, (A (ix2 (i 0) k) : EReal) * (B (ix2 (i 1) k) : EReal) : EReal)

/-- Where the left operand's block sits at a point. -/
theorem e0 : ∀ t : Fin cfg0.N, win0_0.index t = ![t.val / 6, t.val % 3] := (by decide +kernel : ∀ t : Fin grid0.N, _)
/-- Where the right operand's block sits at a point. -/
theorem e1 : ∀ t : Fin cfg0.N, win0_1.index t = ![t.val / 3 % 2, t.val % 3] := (by decide +kernel : ∀ t : Fin grid0.N, _)
/-- Where the result's block sits at a point. -/
theorem e2 : ∀ t : Fin cfg0.N, win0_2.index t = ![t.val / 6, t.val / 3 % 2] := (by decide +kernel : ∀ t : Fin grid0.N, _)

/-- The part of a block's product that one step adds. -/
def part (x0 : Vec Ideal S1024x3840 .bf16) (x1 : Vec Ideal S1024x3840 .bf16) : Vec Ideal S1024x1024 .f32 := fun j =>
  (∑ k : Fin 3840, (x0 (ix2 (j 0) k) : EReal) * (x1 (ix2 (j 1) k) : EReal) : EReal)

/-- A step adds its part. -/
theorem pay (acc : Vec Ideal S1024x1024 .f32) (x1 : Vec Ideal S1024x3840 .bf16) (x0 : Vec Ideal S1024x3840 .bf16) (j : S1024x1024.Idx) :
    k0_pay2 acc x1 x0 j = acc j + part x0 x1 j := by
  obtain ⟨a, b, rfl⟩ := ex2 j
  pointwise [k0_pay2, ofBits_zero]
  simp [part]

/-- The first step starts from zero. -/
theorem pay0 (j : S1024x1024.Idx) : k0_pay1 (F := Ideal) j = (0 : EReal) := by
  obtain ⟨a, b, rfl⟩ := ex2 j
  pointwise [k0_pay1, ofBits_zero]

variable (m : (ℓ : Loc nD τ sig) → Buf (Elt Ideal) ℓ) (c : Dev nD)

/-- The scratch after the last step of a block. -/
theorem acc_eq (t : Fin cfg0.N) (h : t.val % 3 = 2) (j : S1024x1024.Idx) :
    (outsAt0 m c t.val t.isLt).2 j = (0 : EReal) + ∑ s : Fin 3, (part (iblk m c 0 ⟨3 * (t.val / 3) + s.val, run_point_lt_of_flush t h s⟩) (iblk m c 1 ⟨3 * (t.val / 3) + s.val, run_point_lt_of_flush t h s⟩) j : EReal) := by
  refine eq_sum_fin_of_reset_step_apply_of_flush (M := EReal) (fun n h => (outsAt0 m c n h).2) 3 (fun _ => 0) (fun t j => part (iblk m c 0 t) (iblk m c 1 t) j) ?_ ?_ t h j
  · intro t h j
    rw [outsAt0_A m c t h (by omega)]; frame_out; rw [pay, pay0]
  · intro t h j
    by_cases h1 : t.val % 3 = 2
    · rw [outsAt0_C m c t h h1]; frame_out; rw [pay]
      exact congrArg (· + part (iblk m c 0 t) (iblk m c 1 t) j) (congrFun (Memref.IsWhole.read_unread (Memref.isWhole_whole cc0_scratch0) _) j)
    · rw [outsAt0_B m c t h h1]; frame_out; rw [pay]
      exact congrArg (· + part (iblk m c 0 t) (iblk m c 1 t) j) (congrFun (Memref.IsWhole.read_unread (Memref.isWhole_whole cc0_scratch0) _) j)

/-- What the last step of a block writes is what it leaves in the scratch. -/
theorem out_eq (t : Fin cfg0.N) (h : t.val % 3 = 2) : (outsAt0 m c t.val t.isLt).1 = (outsAt0 m c t.val t.isLt).2 := by
  rw [outsAt0_C m c t (by omega) h]; frame_out

/-- What the call leaves in its result. -/
theorem fin0_2 : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, out_eq m c t h]
  refine (acc_eq m c t h y).trans ((zero_add _).trans ?_)
  refine Fin.sum_mul_add_congr (S := 3) (n := 3840) fun s k hl => ?_
  blk_simp [iblk, V]
  congr 1
  · congr 1
    blk_ext [e0, e2]
  · congr 1
    blk_ext [e1, e2]

end Cert.ProjInIdeal.Hand

namespace Cert.ProjInReferenceIdeal.Hand

open Idealize.ShloMosaic Cert.ProjInReferenceIdeal Cert.ProjInReferenceIdeal.Read Cert.Attn

/-- The reference's product is the same sum. -/
theorem v4_eq (A : Vec Ideal S2048x11520 .bf16) (B : Vec Ideal S2048x11520 .bf16) : val_main_v4 (F := Ideal) A B = Cert.ProjInIdeal.Hand.prod A B := by
  funext i
  obtain ⟨a, b, rfl⟩ := ex2 i
  pointwise [val_main_v4, val_main_v3, val_main_v1]
  rfl

end Cert.ProjInReferenceIdeal.Hand

namespace Cert.Proof

open Idealize.ShloMosaic Idealize.ShloMosaic.TcCoe Idealize.SL.Sem

/-- Over the extended reals the blocked product and the plain product agree, whatever the arguments. -/
theorem algebraic_projIn : Cert.algebraic_ProjInIdeal_ProjInReferenceIdeal := by
  intro m g m' g' _ agree
  refine ⟨fun c => Cert.ProjInIdeal.Hand.prod (m ((c.tc : Thread _ _).loc Cert.ProjInIdeal.main_arg0)) (m ((c.tc : Thread _ _).loc Cert.ProjInIdeal.main_arg1)), ?_, ?_⟩
  · refine (θ_run Cert.ProjInIdeal.defs _ _).mono (fun r hr c => ?_) (Cert.ProjInIdeal.Value.run_blocks m g)
    obtain ⟨h, args⟩ := hr c
    exact ⟨h.trans (Cert.ProjInIdeal.Hand.fin0_2 m c), args⟩
  · refine (θ_run Cert.ProjInReferenceIdeal.defs _ _).mono (fun r hr c => ?_) (Cert.ProjInReferenceIdeal.Value.run (F := Ideal) m' g')
    obtain ⟨a0, a1⟩ := agree c
    obtain ⟨r0, args⟩ := hr c
    refine ⟨r0.trans ?_, args⟩
    rw [a0, a1]
    exact (Cert.ProjInReferenceIdeal.Read.val_main_v4_eq _ _).trans <| Cert.ProjInReferenceIdeal.Hand.v4_eq _ _

end Cert.Proof
-- ==== Proof.MixerVal.lean ====
module

public import proofs.«01_k».proof.Proof.Runs
public import proofs.«01_k».proof.Proof.Sig
public import Idealize.ShloMosaic.Lib.Pipeline.ValueKit

@[expose] public section

set_option maxRecDepth 16384

noncomputable section

namespace Cert.MixerIdeal.Hand

open Cert.MixerIdeal Cert.MixerIdeal.Gen
open Idealize.ShloMosaic Idealize.ShloMosaic.TcCoe Idealize.SL.Sem Idealize.ShloMosaic.Pipeline Cert.Attn

/-! ## The arrays -/

/-- A square matrix: the two formats hold the same numbers. -/
abbrev Sq := Vec Ideal S2048x2048 .bf16

/-- The product of two matrices. -/
def nn (A B : Sq) : Sq := fun i => (∑ k : Fin 2048, (A (ix2 (i 0) k) : EReal) * (B (ix2 k (i 1)) : EReal) : EReal)
/-- The product with the first matrix transposed. -/
def tn (A B : Sq) : Sq := fun i => (∑ k : Fin 2048, (A (ix2 k (i 0)) : EReal) * (B (ix2 k (i 1)) : EReal) : EReal)
/-- The product with the second matrix transposed. -/
def nt (A B : Sq) : Sq := fun i => (∑ k : Fin 2048, (A (ix2 (i 0) k) : EReal) * (B (ix2 (i 1) k) : EReal) : EReal)

/-- A column of the first gate in the projection. -/
def colA (b : Fin 2048) : Fin 11520 := ⟨7424 + b.val, by omega⟩
/-- A column of the second gate in the projection. -/
def colB (b : Fin 2048) : Fin 11520 := ⟨9472 + b.val, by omega⟩
/-- The first gate. -/
def gateA (P : Vec Ideal S2048x11520 .bf16) : Sq := fun i => P (ix2 (i 0) (colA (i 1)))
/-- The second gate. -/
def gateB (P : Vec Ideal S2048x11520 .bf16) : Sq := fun i => P (ix2 (i 0) (colB (i 1)))

/-- The gated sum of the two branches. -/
def mrg (Ga Gb Ya Yb : Sq) : Sq := fun i => (sg (Ga i) * (Ya i : EReal) + sg (Gb i) * (Yb i : EReal) : EReal)
/-- A branch's gradient. -/
def dy (D G : Sq) : Sq := fun i => ((D i : EReal) * sg (G i) : EReal)
/-- A gate's gradient. -/
def dg (D G Y : Sq) : Sq := fun i => ((D i : EReal) * (Y i : EReal) * sg (G i) * (1 - sg (G i)) : EReal)

/-- Equal arguments, equal values, of three. -/
theorem cong3 (f : EReal → EReal → EReal → EReal) {a a' b b' d d' : EReal} (ha : a = a') (hb : b = b') (hd : d = d') : f a b d = f a' b' d' := by
  rw [ha, hb, hd]

/-! ## Where the blocks sit -/

/-- The left factor's block in the first branch. -/
theorem e0_0 : ∀ t : Fin cfg0.N, win0_0.index t = ![t.val / 2, 0] := (by decide +kernel : ∀ t : Fin grid0.N, _)
/-- The right factor's block in the first branch. -/
theorem e0_1 : ∀ t : Fin cfg0.N, win0_1.index t = ![0, t.val % 2] := (by decide +kernel : ∀ t : Fin grid0.N, _)
/-- The block of the first branch. -/
theorem e0_2 : ∀ t : Fin cfg0.N, win0_2.index t = ![t.val / 2, t.val % 2] := (by decide +kernel : ∀ t : Fin grid0.N, _)
/-- The left factor's block in the second branch. -/
theorem e1_0 : ∀ t : Fin cfg1.N, win1_0.index t = ![t.val / 2, 0] := (by decide +kernel : ∀ t : Fin grid1.N, _)
/-- The right factor's block in the second branch. -/
theorem e1_1 : ∀ t : Fin cfg1.N, win1_1.index t = ![0, t.val % 2] := (by decide +kernel : ∀ t : Fin grid1.N, _)
/-- The block of the second branch. -/
theorem e1_2 : ∀ t : Fin cfg1.N, win1_2.index t = ![t.val / 2, t.val % 2] := (by decide +kernel : ∀ t : Fin grid1.N, _)
/-- The first gate's block, by its first element, in the merge. -/
theorem e2_0 : ∀ t : Fin cfg2.N, win2_0.index t = ![256 * t.val, 7424] := (by decide +kernel : ∀ t : Fin grid2.N, _)
/-- The second gate's block, by its first element, in the merge. -/
theorem e2_1 : ∀ t : Fin cfg2.N, win2_1.index t = ![256 * t.val, 9472] := (by decide +kernel : ∀ t : Fin grid2.N, _)
/-- The first branch's block in the merge. -/
theorem e2_2 : ∀ t : Fin cfg2.N, win2_2.index t = ![t.val, 0] := (by decide +kernel : ∀ t : Fin grid2.N, _)
/-- The second branch's block in the merge. -/
theorem e2_3 : ∀ t : Fin cfg2.N, win2_3.index t = ![t.val, 0] := (by decide +kernel : ∀ t : Fin grid2.N, _)
/-- The merged array's block. -/
theorem e2_4 : ∀ t : Fin cfg2.N, win2_4.index t = ![t.val, 0] := (by decide +kernel : ∀ t : Fin grid2.N, _)
/-- The left factor's block in the output. -/
theorem e3_0 : ∀ t : Fin cfg3.N, win3_0.index t = ![t.val / 2, 0] := (by decide +kernel : ∀ t : Fin grid3.N, _)
/-- The right factor's block in the output. -/
theorem e3_1 : ∀ t : Fin cfg3.N, win3_1.index t = ![0, t.val % 2] := (by decide +kernel : ∀ t : Fin grid3.N, _)
/-- The block of the output. -/
theorem e3_2 : ∀ t : Fin cfg3.N, win3_2.index t = ![t.val / 2, t.val % 2] := (by decide +kernel : ∀ t : Fin grid3.N, _)
/-- The left factor's block in the output weight's gradient. -/
theorem e4_0 : ∀ t : Fin cfg4.N, win4_0.index t = ![0, t.val / 2] := (by decide +kernel : ∀ t : Fin grid4.N, _)
/-- The right factor's block in the output weight's gradient. -/
theorem e4_1 : ∀ t : Fin cfg4.N, win4_1.index t = ![0, t.val % 2] := (by decide +kernel : ∀ t : Fin grid4.N, _)
/-- The block of the output weight's gradient. -/
theorem e4_2 : ∀ t : Fin cfg4.N, win4_2.index t = ![t.val / 2, t.val % 2] := (by decide +kernel : ∀ t : Fin grid4.N, _)
/-- The left factor's block in the merged array's gradient. -/
theorem e5_0 : ∀ t : Fin cfg5.N, win5_0.index t = ![t.val / 2, 0] := (by decide +kernel : ∀ t : Fin grid5.N, _)
/-- The right factor's block in the merged array's gradient. -/
theorem e5_1 : ∀ t : Fin cfg5.N, win5_1.index t = ![t.val % 2, 0] := (by decide +kernel : ∀ t : Fin grid5.N, _)
/-- The block of the merged array's gradient. -/
theorem e5_2 : ∀ t : Fin cfg5.N, win5_2.index t = ![t.val / 2, t.val % 2] := (by decide +kernel : ∀ t : Fin grid5.N, _)
/-- The merged array's gradient's block in the backward merge. -/
theorem e6_0 : ∀ t : Fin cfg6.N, win6_0.index t = ![t.val, 0] := (by decide +kernel : ∀ t : Fin grid6.N, _)
/-- The first gate's block, by its first element, in the backward merge. -/
theorem e6_1 : ∀ t : Fin cfg6.N, win6_1.index t = ![256 * t.val, 7424] := (by decide +kernel : ∀ t : Fin grid6.N, _)
/-- The second gate's block, by its first element, in the backward merge. -/
theorem e6_2 : ∀ t : Fin cfg6.N, win6_2.index t = ![256 * t.val, 9472] := (by decide +kernel : ∀ t : Fin grid6.N, _)
/-- The first branch's block in the backward merge. -/
theorem e6_3 : ∀ t : Fin cfg6.N, win6_3.index t = ![t.val, 0] := (by decide +kernel : ∀ t : Fin grid6.N, _)
/-- The second branch's block in the backward merge. -/
theorem e6_4 : ∀ t : Fin cfg6.N, win6_4.index t = ![t.val, 0] := (by decide +kernel : ∀ t : Fin grid6.N, _)
/-- The first branch's gradient's block in the backward merge. -/
theorem e6_5 : ∀ t : Fin cfg6.N, win6_5.index t = ![t.val, 0] := (by decide +kernel : ∀ t : Fin grid6.N, _)
/-- The second branch's gradient's block in the backward merge. -/
theorem e6_6 : ∀ t : Fin cfg6.N, win6_6.index t = ![t.val, 0] := (by decide +kernel : ∀ t : Fin grid6.N, _)
/-- The first gate's gradient's block in the backward merge. -/
theorem e6_7 : ∀ t : Fin cfg6.N, win6_7.index t = ![t.val, 0] := (by decide +kernel : ∀ t : Fin grid6.N, _)
/-- The second gate's gradient's block in the backward merge. -/
theorem e6_8 : ∀ t : Fin cfg6.N, win6_8.index t = ![t.val, 0] := (by decide +kernel : ∀ t : Fin grid6.N, _)
/-- The left factor's block in the second branch's weight's gradient. -/
theorem e7_0 : ∀ t : Fin cfg7.N, win7_0.index t = ![0, t.val / 2] := (by decide +kernel : ∀ t : Fin grid7.N, _)
/-- The right factor's block in the second branch's weight's gradient. -/
theorem e7_1 : ∀ t : Fin cfg7.N, win7_1.index t = ![0, t.val % 2] := (by decide +kernel : ∀ t : Fin grid7.N, _)
/-- The block of the second branch's weight's gradient. -/
theorem e7_2 : ∀ t : Fin cfg7.N, win7_2.index t = ![t.val / 2, t.val % 2] := (by decide +kernel : ∀ t : Fin grid7.N, _)
/-- The left factor's block in the convolution's gradient. -/
theorem e8_0 : ∀ t : Fin cfg8.N, win8_0.index t = ![t.val / 2, 0] := (by decide +kernel : ∀ t : Fin grid8.N, _)
/-- The right factor's block in the convolution's gradient. -/
theorem e8_1 : ∀ t : Fin cfg8.N, win8_1.index t = ![t.val % 2, 0] := (by decide +kernel : ∀ t : Fin grid8.N, _)
/-- The block of the convolution's gradient. -/
theorem e8_2 : ∀ t : Fin cfg8.N, win8_2.index t = ![t.val / 2, t.val % 2] := (by decide +kernel : ∀ t : Fin grid8.N, _)
/-- The left factor's block in the first branch's weight's gradient. -/
theorem e9_0 : ∀ t : Fin cfg9.N, win9_0.index t = ![0, t.val / 2] := (by decide +kernel : ∀ t : Fin grid9.N, _)
/-- The right factor's block in the first branch's weight's gradient. -/
theorem e9_1 : ∀ t : Fin cfg9.N, win9_1.index t = ![0, t.val % 2] := (by decide +kernel : ∀ t : Fin grid9.N, _)
/-- The block of the first branch's weight's gradient. -/
theorem e9_2 : ∀ t : Fin cfg9.N, win9_2.index t = ![t.val / 2, t.val % 2] := (by decide +kernel : ∀ t : Fin grid9.N, _)
/-- The left factor's block in the attention's gradient. -/
theorem e10_0 : ∀ t : Fin cfg10.N, win10_0.index t = ![t.val / 2, 0] := (by decide +kernel : ∀ t : Fin grid10.N, _)
/-- The right factor's block in the attention's gradient. -/
theorem e10_1 : ∀ t : Fin cfg10.N, win10_1.index t = ![t.val % 2, 0] := (by decide +kernel : ∀ t : Fin grid10.N, _)
/-- The block of the attention's gradient. -/
theorem e10_2 : ∀ t : Fin cfg10.N, win10_2.index t = ![t.val / 2, t.val % 2] := (by decide +kernel : ∀ t : Fin grid10.N, _)
/-- An element of a gate's block sits at the block's first element plus its place in the block. -/
theorem at2_0 (t : Fin cfg2.N) (y : (win2_0.rect t).shape.Idx) (a : Fin 2) :
    (((View.whole main_arg2).slice (win2_0.rect t)).emb y a).val = win2_0.index t a + (y a).val :=
  ValueKit.view_emb_slice_whole_unit_val main_arg2 _ _ _ y a

/-- An element of a gate's block sits at the block's first element plus its place in the block. -/
theorem at2_1 (t : Fin cfg2.N) (y : (win2_1.rect t).shape.Idx) (a : Fin 2) :
    (((View.whole main_arg2).slice (win2_1.rect t)).emb y a).val = win2_1.index t a + (y a).val :=
  ValueKit.view_emb_slice_whole_unit_val main_arg2 _ _ _ y a

/-- An element of a gate's block sits at the block's first element plus its place in the block. -/
theorem at6_1 (t : Fin cfg6.N) (y : (win6_1.rect t).shape.Idx) (a : Fin 2) :
    (((View.whole main_arg2).slice (win6_1.rect t)).emb y a).val = win6_1.index t a + (y a).val :=
  ValueKit.view_emb_slice_whole_unit_val main_arg2 _ _ _ y a

/-- An element of a gate's block sits at the block's first element plus its place in the block. -/
theorem at6_2 (t : Fin cfg6.N) (y : (win6_2.rect t).shape.Idx) (a : Fin 2) :
    (((View.whole main_arg2).slice (win6_2.rect t)).emb y a).val = win6_2.index t a + (y a).val :=
  ValueKit.view_emb_slice_whole_unit_val main_arg2 _ _ _ y a

/-! ## What the bodies compute -/

/-- The block of the first branch at an element. -/
theorem pay0 (x1 : Vec Ideal S2048x1024 .bf16) (x0 : Vec Ideal S1024x2048 .bf16) (j : S1024x1024.Idx) :
    k0_pay1 x1 x0 j = (∑ k : Fin 2048, (x0 (ix2 (j 0) k) : EReal) * (x1 (ix2 k (j 1)) : EReal) : EReal) := by
  obtain ⟨a, b, rfl⟩ := ex2 j
  pointwise [k0_pay1, ofBits_zero]

/-- The block of the second branch at an element. -/
theorem pay1 (x1 : Vec Ideal S2048x1024 .bf16) (x0 : Vec Ideal S1024x2048 .bf16) (j : S1024x1024.Idx) :
    k1_pay1 x1 x0 j = (∑ k : Fin 2048, (x0 (ix2 (j 0) k) : EReal) * (x1 (ix2 k (j 1)) : EReal) : EReal) := by
  obtain ⟨a, b, rfl⟩ := ex2 j
  pointwise [k1_pay1, ofBits_zero]

/-- The block of the output at an element. -/
theorem pay3 (x1 : Vec Ideal S2048x1024 .bf16) (x0 : Vec Ideal S1024x2048 .bf16) (j : S1024x1024.Idx) :
    k3_pay1 x1 x0 j = (∑ k : Fin 2048, (x0 (ix2 (j 0) k) : EReal) * (x1 (ix2 k (j 1)) : EReal) : EReal) := by
  obtain ⟨a, b, rfl⟩ := ex2 j
  pointwise [k3_pay1, ofBits_zero]

/-- The block of the output weight's gradient at an element. -/
theorem pay4 (x1 : Vec Ideal S2048x1024 .bf16) (x0 : Vec Ideal S2048x1024 .bf16) (j : S1024x1024.Idx) :
    k4_pay1 x1 x0 j = (∑ k : Fin 2048, (x0 (ix2 k (j 0)) : EReal) * (x1 (ix2 k (j 1)) : EReal) : EReal) := by
  obtain ⟨a, b, rfl⟩ := ex2 j
  pointwise [k4_pay1, ofBits_zero]

/-- The block of the merged array's gradient at an element. -/
theorem pay5 (x1 : Vec Ideal S1024x2048 .bf16) (x0 : Vec Ideal S1024x2048 .bf16) (j : S1024x1024.Idx) :
    k5_pay1 x1 x0 j = (∑ k : Fin 2048, (x0 (ix2 (j 0) k) : EReal) * (x1 (ix2 (j 1) k) : EReal) : EReal) := by
  obtain ⟨a, b, rfl⟩ := ex2 j
  pointwise [k5_pay1, ofBits_zero]

/-- The block of the second branch's weight's gradient at an element. -/
theorem pay7 (x1 : Vec Ideal S2048x1024 .bf16) (x0 : Vec Ideal S2048x1024 .bf16) (j : S1024x1024.Idx) :
    k7_pay1 x1 x0 j = (∑ k : Fin 2048, (x0 (ix2 k (j 0)) : EReal) * (x1 (ix2 k (j 1)) : EReal) : EReal) := by
  obtain ⟨a, b, rfl⟩ := ex2 j
  pointwise [k7_pay1, ofBits_zero]

/-- The block of the convolution's gradient at an element. -/
theorem pay8 (x1 : Vec Ideal S1024x2048 .bf16) (x0 : Vec Ideal S1024x2048 .bf16) (j : S1024x1024.Idx) :
    k8_pay1 x1 x0 j = (∑ k : Fin 2048, (x0 (ix2 (j 0) k) : EReal) * (x1 (ix2 (j 1) k) : EReal) : EReal) := by
  obtain ⟨a, b, rfl⟩ := ex2 j
  pointwise [k8_pay1, ofBits_zero]

/-- The block of the first branch's weight's gradient at an element. -/
theorem pay9 (x1 : Vec Ideal S2048x1024 .bf16) (x0 : Vec Ideal S2048x1024 .bf16) (j : S1024x1024.Idx) :
    k9_pay1 x1 x0 j = (∑ k : Fin 2048, (x0 (ix2 k (j 0)) : EReal) * (x1 (ix2 k (j 1)) : EReal) : EReal) := by
  obtain ⟨a, b, rfl⟩ := ex2 j
  pointwise [k9_pay1, ofBits_zero]

/-- The block of the attention's gradient at an element. -/
theorem pay10 (x1 : Vec Ideal S1024x2048 .bf16) (x0 : Vec Ideal S1024x2048 .bf16) (j : S1024x1024.Idx) :
    k10_pay1 x1 x0 j = (∑ k : Fin 2048, (x0 (ix2 (j 0) k) : EReal) * (x1 (ix2 (j 1) k) : EReal) : EReal) := by
  obtain ⟨a, b, rfl⟩ := ex2 j
  pointwise [k10_pay1, ofBits_zero]

/-- The merged block at an element. -/
theorem pay2 (ga gb ya yb : Vec Ideal S256x2048 .bf16) (j : S256x2048.Idx) :
    k2_pay1 ga gb ya yb j = (sg (ga j) * (ya j : EReal) + sg (gb j) * (yb j : EReal) : EReal) := by
  obtain ⟨a, b, rfl⟩ := ex2 j
  pointwise [k2_pay1, ofBits_half]
  rfl

/-- The first branch's gradient's block at an element. -/
theorem pay6_5 (d ga : Vec Ideal S256x2048 .bf16) (j : S256x2048.Idx) : k6_pay5 d ga j = ((d j : EReal) * sg (ga j) : EReal) := by
  obtain ⟨a, b, rfl⟩ := ex2 j
  pointwise [k6_pay5, k6_pay3, k6_pay2, ofBits_half]
  rfl

/-- The second branch's gradient's block at an element. -/
theorem pay6_6 (d gb : Vec Ideal S256x2048 .bf16) (j : S256x2048.Idx) : k6_pay6 d gb j = ((d j : EReal) * sg (gb j) : EReal) := by
  obtain ⟨a, b, rfl⟩ := ex2 j
  pointwise [k6_pay6, k6_pay4, k6_pay2, ofBits_half]
  rfl

/-- The first gate's gradient's block at an element. -/
theorem pay6_7 (d ga ya : Vec Ideal S256x2048 .bf16) (j : S256x2048.Idx) :
    k6_pay7 d ga ya j = ((d j : EReal) * (ya j : EReal) * sg (ga j) * (1 - sg (ga j)) : EReal) := by
  obtain ⟨a, b, rfl⟩ := ex2 j
  pointwise [k6_pay7, k6_pay3, k6_pay2, ofBits_half, ofBits_one]
  rfl

/-- The second gate's gradient's block at an element. -/
theorem pay6_8 (d gb yb : Vec Ideal S256x2048 .bf16) (j : S256x2048.Idx) :
    k6_pay1 (k6_pay2 d) (k6_pay4 gb) yb j = ((d j : EReal) * (yb j : EReal) * sg (gb j) * (1 - sg (gb j)) : EReal) := by
  obtain ⟨a, b, rfl⟩ := ex2 j
  pointwise [k6_pay1, k6_pay4, k6_pay2, ofBits_half, ofBits_one]
  rfl

/-! ## What each call leaves, for any contents at its entry -/

section
variable (V : (c : Dev nD) → (b : Ref sig .tc) → Buf (Elt Ideal) ((c : Thread nD τ).loc b)) (c : Dev nD)

/-- The first branch. -/
theorem fin0 : (dat0 V c).arrAt 2 cfg0.N = nn (V c main_arg0) (V c main_arg3) := by
  refine (dat0 V c).arrAt_eq_of_covers 2 _ (by decide +kernel) fun t hf y => ?_
  blk_simp
  rw [after0_2]; frame_out; rw [pay0]
  refine sum_same fun k => ?_
  blk_simp [iblk0]
  congr 1
  · congr 1
    blk_ext [e0_0, e0_2]
  · congr 1
    blk_ext [e0_1, e0_2]

/-- The second branch. -/
theorem fin1 : (dat1 V c).arrAt 2 cfg1.N = nn (V c main_arg1) (V c main_arg4) := by
  refine (dat1 V c).arrAt_eq_of_covers 2 _ (by decide +kernel) fun t hf y => ?_
  blk_simp
  rw [after1_2]; frame_out; rw [pay1]
  refine sum_same fun k => ?_
  blk_simp [iblk1]
  congr 1
  · congr 1
    blk_ext [e1_0, e1_2]
  · congr 1
    blk_ext [e1_1, e1_2]

/-- The output. -/
theorem fin3 : (dat3 V c).arrAt 2 cfg3.N = nn (V c main_v2) (V c main_arg5) := by
  refine (dat3 V c).arrAt_eq_of_covers 2 _ (by decide +kernel) fun t hf y => ?_
  blk_simp
  rw [after3_2]; frame_out; rw [pay3]
  refine sum_same fun k => ?_
  blk_simp [iblk3]
  congr 1
  · congr 1
    blk_ext [e3_0, e3_2]
  · congr 1
    blk_ext [e3_1, e3_2]

/-- The output weight's gradient. -/
theorem fin4 : (dat4 V c).arrAt 2 cfg4.N = tn (V c main_v2) (V c main_arg6) := by
  refine (dat4 V c).arrAt_eq_of_covers 2 _ (by decide +kernel) fun t hf y => ?_
  blk_simp
  rw [after4_2]; frame_out; rw [pay4]
  refine sum_same fun k => ?_
  blk_simp [iblk4]
  congr 1
  · congr 1
    blk_ext [e4_0, e4_2]
  · congr 1
    blk_ext [e4_1, e4_2]

/-- The merged array's gradient. -/
theorem fin5 : (dat5 V c).arrAt 2 cfg5.N = nt (V c main_arg6) (V c main_arg5) := by
  refine (dat5 V c).arrAt_eq_of_covers 2 _ (by decide +kernel) fun t hf y => ?_
  blk_simp
  rw [after5_2]; frame_out; rw [pay5]
  refine sum_same fun k => ?_
  blk_simp [iblk5]
  congr 1
  · congr 1
    blk_ext [e5_0, e5_2]
  · congr 1
    blk_ext [e5_1, e5_2]

/-- The second branch's weight's gradient. -/
theorem fin7 : (dat7 V c).arrAt 2 cfg7.N = tn (V c main_arg1) (V c main_v6_1) := by
  refine (dat7 V c).arrAt_eq_of_covers 2 _ (by decide +kernel) fun t hf y => ?_
  blk_simp
  rw [after7_2]; frame_out; rw [pay7]
  refine sum_same fun k => ?_
  blk_simp [iblk7]
  congr 1
  · congr 1
    blk_ext [e7_0, e7_2]
  · congr 1
    blk_ext [e7_1, e7_2]

/-- The convolution's gradient. -/
theorem fin8 : (dat8 V c).arrAt 2 cfg8.N = nt (V c main_v6_1) (V c main_arg4) := by
  refine (dat8 V c).arrAt_eq_of_covers 2 _ (by decide +kernel) fun t hf y => ?_
  blk_simp
  rw [after8_2]; frame_out; rw [pay8]
  refine sum_same fun k => ?_
  blk_simp [iblk8]
  congr 1
  · congr 1
    blk_ext [e8_0, e8_2]
  · congr 1
    blk_ext [e8_1, e8_2]

/-- The first branch's weight's gradient. -/
theorem fin9 : (dat9 V c).arrAt 2 cfg9.N = tn (V c main_arg0) (V c main_v6_0) := by
  refine (dat9 V c).arrAt_eq_of_covers 2 _ (by decide +kernel) fun t hf y => ?_
  blk_simp
  rw [after9_2]; frame_out; rw [pay9]
  refine sum_same fun k => ?_
  blk_simp [iblk9]
  congr 1
  · congr 1
    blk_ext [e9_0, e9_2]
  · congr 1
    blk_ext [e9_1, e9_2]

/-- The attention's gradient. -/
theorem fin10 : (dat10 V c).arrAt 2 cfg10.N = nt (V c main_v6_0) (V c main_arg3) := by
  refine (dat10 V c).arrAt_eq_of_covers 2 _ (by decide +kernel) fun t hf y => ?_
  blk_simp
  rw [after10_2]; frame_out; rw [pay10]
  refine sum_same fun k => ?_
  blk_simp [iblk10]
  congr 1
  · congr 1
    blk_ext [e10_0, e10_2]
  · congr 1
    blk_ext [e10_1, e10_2]

/-- The merged array. -/
theorem fin2 : (dat2 V c).arrAt 4 cfg2.N = mrg (gateA (V c main_arg2)) (gateB (V c main_arg2)) (V c main_v0) (V c main_v1) := by
  refine (dat2 V c).arrAt_eq_of_covers 4 _ (by decide +kernel) fun t hf y => ?_
  blk_simp
  rw [after2_4]; frame_out; rw [pay2]
  blk_simp [iblk2]
  show _ = (sg (V c main_arg2 (ix2 _ (colA _))) * (V c main_v0 _ : EReal) + sg (V c main_arg2 (ix2 _ (colB _))) * (V c main_v1 _ : EReal) : EReal)
  refine congrArg₂ (fun a b : EReal => a + b) (congrArg₂ (fun a b : EReal => sg a * b) ?_ ?_) (congrArg₂ (fun a b : EReal => sg a * b) ?_ ?_)
  · congr 1
    blk_ext [e2_4, colA]
    · exact (at2_0 t y 0).trans (by rw [e2_0]; show 256 * t.val + (y 0).val = _; omega)
    · exact (at2_0 t y 1).trans (by rw [e2_0]; rfl)
  · congr 1
    blk_ext [e2_2, e2_4]
  · congr 1
    blk_ext [e2_4, colB]
    · exact (at2_1 t y 0).trans (by rw [e2_1]; show 256 * t.val + (y 0).val = _; omega)
    · exact (at2_1 t y 1).trans (by rw [e2_1]; rfl)
  · congr 1
    blk_ext [e2_3, e2_4]

/-- The first branch's gradient. -/
theorem fin6_5 : (dat6 V c).arrAt 5 cfg6.N = dy (V c main_v5) (gateA (V c main_arg2)) := by
  refine (dat6 V c).arrAt_eq_of_covers 5 _ (by decide +kernel) fun t hf y => ?_
  blk_simp
  rw [after6_5]; frame_out; rw [pay6_5]
  blk_simp [iblk6]
  refine congrArg₂ (fun a b : EReal => a * sg b) ?_ ?_
  · congr 1
    blk_ext [e6_0, e6_5]
  · refine congrArg (V c main_arg2) (?_ : _ = ix2 _ (colA _))
    blk_ext [e6_5, colA]
    · exact (at6_1 t y 0).trans (by rw [e6_1]; show 256 * t.val + (y 0).val = _; omega)
    · exact (at6_1 t y 1).trans (by rw [e6_1]; rfl)

/-- The second branch's gradient. -/
theorem fin6_6 : (dat6 V c).arrAt 6 cfg6.N = dy (V c main_v5) (gateB (V c main_arg2)) := by
  refine (dat6 V c).arrAt_eq_of_covers 6 _ (by decide +kernel) fun t hf y => ?_
  blk_simp
  rw [after6_6]; frame_out; rw [pay6_6]
  blk_simp [iblk6]
  refine congrArg₂ (fun a b : EReal => a * sg b) ?_ ?_
  · congr 1
    blk_ext [e6_0, e6_6]
  · refine congrArg (V c main_arg2) (?_ : _ = ix2 _ (colB _))
    blk_ext [e6_6, colB]
    · exact (at6_2 t y 0).trans (by rw [e6_2]; show 256 * t.val + (y 0).val = _; omega)
    · exact (at6_2 t y 1).trans (by rw [e6_2]; rfl)

/-- The first gate's gradient. -/
theorem fin6_7 : (dat6 V c).arrAt 7 cfg6.N = dg (V c main_v5) (gateA (V c main_arg2)) (V c main_v0) := by
  refine (dat6 V c).arrAt_eq_of_covers 7 _ (by decide +kernel) fun t hf y => ?_
  blk_simp
  rw [after6_7]; frame_out; rw [pay6_7]
  blk_simp [iblk6]
  refine cong3 (fun a b g : EReal => a * b * sg g * (1 - sg g)) ?_ ?_ ?_
  · congr 1
    blk_ext [e6_0, e6_7]
  · congr 1
    blk_ext [e6_3, e6_7]
  · refine congrArg (V c main_arg2) (?_ : _ = ix2 _ (colA _))
    blk_ext [e6_7, colA]
    · exact (at6_1 t y 0).trans (by rw [e6_1]; show 256 * t.val + (y 0).val = _; omega)
    · exact (at6_1 t y 1).trans (by rw [e6_1]; rfl)

/-- The second gate's gradient. -/
theorem fin6_8 : (dat6 V c).arrAt 8 cfg6.N = dg (V c main_v5) (gateB (V c main_arg2)) (V c main_v1) := by
  refine (dat6 V c).arrAt_eq_of_covers 8 _ (by decide +kernel) fun t hf y => ?_
  blk_simp
  rw [after6_8]; frame_out; rw [pay6_8]
  blk_simp [iblk6]
  refine cong3 (fun a b g : EReal => a * b * sg g * (1 - sg g)) ?_ ?_ ?_
  · congr 1
    blk_ext [e6_0, e6_8]
  · congr 1
    blk_ext [e6_4, e6_8]
  · refine congrArg (V c main_arg2) (?_ : _ = ix2 _ (colB _))
    blk_ext [e6_8, colB]
    · exact (at6_2 t y 0).trans (by rw [e6_2]; show 256 * t.val + (y 0).val = _; omega)
    · exact (at6_2 t y 1).trans (by rw [e6_2]; rfl)

end

/-- The merge of equal arrays. -/
theorem mrg_same {P Q : Vec Ideal S2048x11520 .bf16} {A B D E : Sq} (h : P = Q) (ha : A = B) (hd : D = E) :
    mrg (gateA P) (gateB P) A D = mrg (gateA Q) (gateB Q) B E := by rw [h, ha, hd]

/-- The gate's gradient of equal arrays. -/
theorem dg_same {D D' G G' Y Y' : Sq} (hd : D = D') (hg : G = G') (hy : Y = Y') : dg D G Y = dg D' G' Y' := by rw [hd, hg, hy]

variable (m : (ℓ : Loc nD τ sig) → Buf (Elt Ideal) ℓ) (ρ : Dev nD → PrngReg) (c : Dev nD)

/-- The first branch of the arguments. -/
def yaM : Sq := nn (m ((c : Thread nD τ).loc main_arg0)) (m ((c : Thread nD τ).loc main_arg3))
/-- The second branch of the arguments. -/
def ybM : Sq := nn (m ((c : Thread nD τ).loc main_arg1)) (m ((c : Thread nD τ).loc main_arg4))
/-- The merged array of the arguments. -/
def mrgM : Sq := mrg (gateA (m ((c : Thread nD τ).loc main_arg2))) (gateB (m ((c : Thread nD τ).loc main_arg2))) (yaM m c) (ybM m c)
/-- The merged array's gradient of the arguments. -/
def dmM : Sq := nt (m ((c : Thread nD τ).loc main_arg6)) (m ((c : Thread nD τ).loc main_arg5))
/-- The first branch's gradient of the arguments. -/
def dyaM : Sq := dy (dmM m c) (gateA (m ((c : Thread nD τ).loc main_arg2)))
/-- The second branch's gradient of the arguments. -/
def dybM : Sq := dy (dmM m c) (gateB (m ((c : Thread nD τ).loc main_arg2)))

/-- The first branch after the first call. -/
theorem W1_v0 : W1 m ρ c main_v0 = yaM m c :=
  (hF0 m ρ c 2).symm.trans <| (fin0 (V0 m ρ) c).trans <| congrArg₂ nn rfl rfl
/-- The second branch after the second call. -/
theorem W2_v1 : W2 m ρ c main_v1 = ybM m c :=
  (hF1 m ρ c 2).symm.trans <| (fin1 (V1 m ρ) c).trans <| congrArg₂ nn (W1_args m ρ c main_arg1 (by decide)) (W1_args m ρ c main_arg4 (by decide))
/-- The first branch after the second call. -/
theorem W2_v0 : W2 m ρ c main_v0 = yaM m c := (W2_of m ρ c main_v0 (by decide)).trans (W1_v0 m ρ c)
/-- The merged array after the third call. -/
theorem W3_v2 : W3 m ρ c main_v2 = mrgM m c :=
  (hF2 m ρ c 4).symm.trans <| (fin2 (V2 m ρ) c).trans <| mrg_same (W2_args m ρ c main_arg2 (by decide)) (W2_v0 m ρ c) (W2_v1 m ρ c)
/-- The first branch after the third call. -/
theorem W3_v0 : W3 m ρ c main_v0 = yaM m c := (W3_of m ρ c main_v0 (by decide)).trans (W2_v0 m ρ c)
/-- The second branch after the third call. -/
theorem W3_v1 : W3 m ρ c main_v1 = ybM m c := (W3_of m ρ c main_v1 (by decide)).trans (W2_v1 m ρ c)
/-- The output after the fourth call. -/
theorem W4_v3 : W4 m ρ c main_v3 = nn (mrgM m c) (m ((c : Thread nD τ).loc main_arg5)) :=
  (hF3 m ρ c 2).symm.trans <| (fin3 (V3 m ρ) c).trans <| congrArg₂ nn (W3_v2 m ρ c) (W3_args m ρ c main_arg5 (by decide))
/-- The first branch after the fourth call. -/
theorem W4_v0 : W4 m ρ c main_v0 = yaM m c := (W4_of m ρ c main_v0 (by decide)).trans (W3_v0 m ρ c)
/-- The second branch after the fourth call. -/
theorem W4_v1 : W4 m ρ c main_v1 = ybM m c := (W4_of m ρ c main_v1 (by decide)).trans (W3_v1 m ρ c)
/-- The merged array after the fourth call. -/
theorem W4_v2 : W4 m ρ c main_v2 = mrgM m c := (W4_of m ρ c main_v2 (by decide)).trans (W3_v2 m ρ c)
/-- The output weight's gradient after the fifth call. -/
theorem W5_v4 : W5 m ρ c main_v4 = tn (mrgM m c) (m ((c : Thread nD τ).loc main_arg6)) :=
  (hF4 m ρ c 2).symm.trans <| (fin4 (V4 m ρ) c).trans <| congrArg₂ tn (W4_v2 m ρ c) (W4_args m ρ c main_arg6 (by decide))
/-- The first branch after the fifth call. -/
theorem W5_v0 : W5 m ρ c main_v0 = yaM m c := (W5_of m ρ c main_v0 (by decide)).trans (W4_v0 m ρ c)
/-- The second branch after the fifth call. -/
theorem W5_v1 : W5 m ρ c main_v1 = ybM m c := (W5_of m ρ c main_v1 (by decide)).trans (W4_v1 m ρ c)
/-- The output after the fifth call. -/
theorem W5_v3 : W5 m ρ c main_v3 = nn (mrgM m c) (m ((c : Thread nD τ).loc main_arg5)) := (W5_of m ρ c main_v3 (by decide)).trans (W4_v3 m ρ c)
/-- The merged array's gradient after the sixth call. -/
theorem W6_v5 : W6 m ρ c main_v5 = dmM m c :=
  (hF5 m ρ c 2).symm.trans <| (fin5 (V5 m ρ) c).trans <| congrArg₂ nt (W5_args m ρ c main_arg6 (by decide)) (W5_args m ρ c main_arg5 (by decide))
/-- The first branch after the sixth call. -/
theorem W6_v0 : W6 m ρ c main_v0 = yaM m c := (W6_of m ρ c main_v0 (by decide)).trans (W5_v0 m ρ c)
/-- The second branch after the sixth call. -/
theorem W6_v1 : W6 m ρ c main_v1 = ybM m c := (W6_of m ρ c main_v1 (by decide)).trans (W5_v1 m ρ c)
/-- The output after the sixth call. -/
theorem W6_v3 : W6 m ρ c main_v3 = nn (mrgM m c) (m ((c : Thread nD τ).loc main_arg5)) := (W6_of m ρ c main_v3 (by decide)).trans (W5_v3 m ρ c)
/-- The output weight's gradient after the sixth call. -/
theorem W6_v4 : W6 m ρ c main_v4 = tn (mrgM m c) (m ((c : Thread nD τ).loc main_arg6)) := (W6_of m ρ c main_v4 (by decide)).trans (W5_v4 m ρ c)
/-- The first branch's gradient after the seventh call. -/
theorem W7_v6_0 : W7 m ρ c main_v6_0 = dyaM m c :=
  (hF6 m ρ c 5).symm.trans <| (fin6_5 (V6 m ρ) c).trans <| congrArg₂ dy (W6_v5 m ρ c) (congrArg gateA (W6_args m ρ c main_arg2 (by decide)))
/-- The second branch's gradient after the seventh call. -/
theorem W7_v6_1 : W7 m ρ c main_v6_1 = dybM m c :=
  (hF6 m ρ c 6).symm.trans <| (fin6_6 (V6 m ρ) c).trans <| congrArg₂ dy (W6_v5 m ρ c) (congrArg gateB (W6_args m ρ c main_arg2 (by decide)))
/-- The first gate's gradient after the seventh call. -/
theorem W7_v6_2 : W7 m ρ c main_v6_2 = dg (dmM m c) (gateA (m ((c : Thread nD τ).loc main_arg2))) (yaM m c) :=
  (hF6 m ρ c 7).symm.trans <| (fin6_7 (V6 m ρ) c).trans <| dg_same (W6_v5 m ρ c) (congrArg gateA (W6_args m ρ c main_arg2 (by decide))) (W6_v0 m ρ c)
/-- The second gate's gradient after the seventh call. -/
theorem W7_v6_3 : W7 m ρ c main_v6_3 = dg (dmM m c) (gateB (m ((c : Thread nD τ).loc main_arg2))) (ybM m c) :=
  (hF6 m ρ c 8).symm.trans <| (fin6_8 (V6 m ρ) c).trans <| dg_same (W6_v5 m ρ c) (congrArg gateB (W6_args m ρ c main_arg2 (by decide))) (W6_v1 m ρ c)
/-- The output after the seventh call. -/
theorem W7_v3 : W7 m ρ c main_v3 = nn (mrgM m c) (m ((c : Thread nD τ).loc main_arg5)) := (W7_of m ρ c main_v3 (by decide)).trans (W6_v3 m ρ c)
/-- The output weight's gradient after the seventh call. -/
theorem W7_v4 : W7 m ρ c main_v4 = tn (mrgM m c) (m ((c : Thread nD τ).loc main_arg6)) := (W7_of m ρ c main_v4 (by decide)).trans (W6_v4 m ρ c)
/-- The second branch's weight's gradient after the eighth call. -/
theorem W8_v7 : W8 m ρ c main_v7 = tn (m ((c : Thread nD τ).loc main_arg1)) (dybM m c) :=
  (hF7 m ρ c 2).symm.trans <| (fin7 (V7 m ρ) c).trans <| congrArg₂ tn (W7_args m ρ c main_arg1 (by decide)) (W7_v6_1 m ρ c)
/-- The output after the eighth call. -/
theorem W8_v3 : W8 m ρ c main_v3 = nn (mrgM m c) (m ((c : Thread nD τ).loc main_arg5)) := (W8_of m ρ c main_v3 (by decide)).trans (W7_v3 m ρ c)
/-- The output weight's gradient after the eighth call. -/
theorem W8_v4 : W8 m ρ c main_v4 = tn (mrgM m c) (m ((c : Thread nD τ).loc main_arg6)) := (W8_of m ρ c main_v4 (by decide)).trans (W7_v4 m ρ c)
/-- The first branch's gradient after the eighth call. -/
theorem W8_v6_0 : W8 m ρ c main_v6_0 = dyaM m c := (W8_of m ρ c main_v6_0 (by decide)).trans (W7_v6_0 m ρ c)
/-- The second branch's gradient after the eighth call. -/
theorem W8_v6_1 : W8 m ρ c main_v6_1 = dybM m c := (W8_of m ρ c main_v6_1 (by decide)).trans (W7_v6_1 m ρ c)
/-- The first gate's gradient after the eighth call. -/
theorem W8_v6_2 : W8 m ρ c main_v6_2 = dg (dmM m c) (gateA (m ((c : Thread nD τ).loc main_arg2))) (yaM m c) := (W8_of m ρ c main_v6_2 (by decide)).trans (W7_v6_2 m ρ c)
/-- The second gate's gradient after the eighth call. -/
theorem W8_v6_3 : W8 m ρ c main_v6_3 = dg (dmM m c) (gateB (m ((c : Thread nD τ).loc main_arg2))) (ybM m c) := (W8_of m ρ c main_v6_3 (by decide)).trans (W7_v6_3 m ρ c)
/-- The convolution's gradient after the ninth call. -/
theorem W9_v8 : W9 m ρ c main_v8 = nt (dybM m c) (m ((c : Thread nD τ).loc main_arg4)) :=
  (hF8 m ρ c 2).symm.trans <| (fin8 (V8 m ρ) c).trans <| congrArg₂ nt (W8_v6_1 m ρ c) (W8_args m ρ c main_arg4 (by decide))
/-- The output after the ninth call. -/
theorem W9_v3 : W9 m ρ c main_v3 = nn (mrgM m c) (m ((c : Thread nD τ).loc main_arg5)) := (W9_of m ρ c main_v3 (by decide)).trans (W8_v3 m ρ c)
/-- The output weight's gradient after the ninth call. -/
theorem W9_v4 : W9 m ρ c main_v4 = tn (mrgM m c) (m ((c : Thread nD τ).loc main_arg6)) := (W9_of m ρ c main_v4 (by decide)).trans (W8_v4 m ρ c)
/-- The first branch's gradient after the ninth call. -/
theorem W9_v6_0 : W9 m ρ c main_v6_0 = dyaM m c := (W9_of m ρ c main_v6_0 (by decide)).trans (W8_v6_0 m ρ c)
/-- The first gate's gradient after the ninth call. -/
theorem W9_v6_2 : W9 m ρ c main_v6_2 = dg (dmM m c) (gateA (m ((c : Thread nD τ).loc main_arg2))) (yaM m c) := (W9_of m ρ c main_v6_2 (by decide)).trans (W8_v6_2 m ρ c)
/-- The second gate's gradient after the ninth call. -/
theorem W9_v6_3 : W9 m ρ c main_v6_3 = dg (dmM m c) (gateB (m ((c : Thread nD τ).loc main_arg2))) (ybM m c) := (W9_of m ρ c main_v6_3 (by decide)).trans (W8_v6_3 m ρ c)
/-- The second branch's weight's gradient after the ninth call. -/
theorem W9_v7 : W9 m ρ c main_v7 = tn (m ((c : Thread nD τ).loc main_arg1)) (dybM m c) := (W9_of m ρ c main_v7 (by decide)).trans (W8_v7 m ρ c)
/-- The first branch's weight's gradient after the tenth call. -/
theorem W10_v9 : W10 m ρ c main_v9 = tn (m ((c : Thread nD τ).loc main_arg0)) (dyaM m c) :=
  (hF9 m ρ c 2).symm.trans <| (fin9 (V9 m ρ) c).trans <| congrArg₂ tn (W9_args m ρ c main_arg0 (by decide)) (W9_v6_0 m ρ c)
/-- The output after the tenth call. -/
theorem W10_v3 : W10 m ρ c main_v3 = nn (mrgM m c) (m ((c : Thread nD τ).loc main_arg5)) := (W10_of m ρ c main_v3 (by decide)).trans (W9_v3 m ρ c)
/-- The output weight's gradient after the tenth call. -/
theorem W10_v4 : W10 m ρ c main_v4 = tn (mrgM m c) (m ((c : Thread nD τ).loc main_arg6)) := (W10_of m ρ c main_v4 (by decide)).trans (W9_v4 m ρ c)
/-- The first branch's gradient after the tenth call. -/
theorem W10_v6_0 : W10 m ρ c main_v6_0 = dyaM m c := (W10_of m ρ c main_v6_0 (by decide)).trans (W9_v6_0 m ρ c)
/-- The first gate's gradient after the tenth call. -/
theorem W10_v6_2 : W10 m ρ c main_v6_2 = dg (dmM m c) (gateA (m ((c : Thread nD τ).loc main_arg2))) (yaM m c) := (W10_of m ρ c main_v6_2 (by decide)).trans (W9_v6_2 m ρ c)
/-- The second gate's gradient after the tenth call. -/
theorem W10_v6_3 : W10 m ρ c main_v6_3 = dg (dmM m c) (gateB (m ((c : Thread nD τ).loc main_arg2))) (ybM m c) := (W10_of m ρ c main_v6_3 (by decide)).trans (W9_v6_3 m ρ c)
/-- The second branch's weight's gradient after the tenth call. -/
theorem W10_v7 : W10 m ρ c main_v7 = tn (m ((c : Thread nD τ).loc main_arg1)) (dybM m c) := (W10_of m ρ c main_v7 (by decide)).trans (W9_v7 m ρ c)
/-- The convolution's gradient after the tenth call. -/
theorem W10_v8 : W10 m ρ c main_v8 = nt (dybM m c) (m ((c : Thread nD τ).loc main_arg4)) := (W10_of m ρ c main_v8 (by decide)).trans (W9_v8 m ρ c)
/-- The attention's gradient after the eleventh call. -/
theorem W11_v10 : W11 m ρ c main_v10 = nt (dyaM m c) (m ((c : Thread nD τ).loc main_arg3)) :=
  (hF10 m ρ c 2).symm.trans <| (fin10 (V10 m ρ) c).trans <| congrArg₂ nt (W10_v6_0 m ρ c) (W10_args m ρ c main_arg3 (by decide))
/-- The output after the eleventh call. -/
theorem W11_v3 : W11 m ρ c main_v3 = nn (mrgM m c) (m ((c : Thread nD τ).loc main_arg5)) := (W11_of m ρ c main_v3 (by decide)).trans (W10_v3 m ρ c)
/-- The output weight's gradient after the eleventh call. -/
theorem W11_v4 : W11 m ρ c main_v4 = tn (mrgM m c) (m ((c : Thread nD τ).loc main_arg6)) := (W11_of m ρ c main_v4 (by decide)).trans (W10_v4 m ρ c)
/-- The first gate's gradient after the eleventh call. -/
theorem W11_v6_2 : W11 m ρ c main_v6_2 = dg (dmM m c) (gateA (m ((c : Thread nD τ).loc main_arg2))) (yaM m c) := (W11_of m ρ c main_v6_2 (by decide)).trans (W10_v6_2 m ρ c)
/-- The second gate's gradient after the eleventh call. -/
theorem W11_v6_3 : W11 m ρ c main_v6_3 = dg (dmM m c) (gateB (m ((c : Thread nD τ).loc main_arg2))) (ybM m c) := (W11_of m ρ c main_v6_3 (by decide)).trans (W10_v6_3 m ρ c)
/-- The second branch's weight's gradient after the eleventh call. -/
theorem W11_v7 : W11 m ρ c main_v7 = tn (m ((c : Thread nD τ).loc main_arg1)) (dybM m c) := (W11_of m ρ c main_v7 (by decide)).trans (W10_v7 m ρ c)
/-- The convolution's gradient after the eleventh call. -/
theorem W11_v8 : W11 m ρ c main_v8 = nt (dybM m c) (m ((c : Thread nD τ).loc main_arg4)) := (W11_of m ρ c main_v8 (by decide)).trans (W10_v8 m ρ c)
/-- The first branch's weight's gradient after the eleventh call. -/
theorem W11_v9 : W11 m ρ c main_v9 = tn (m ((c : Thread nD τ).loc main_arg0)) (dyaM m c) := (W11_of m ρ c main_v9 (by decide)).trans (W10_v9 m ρ c)

end Cert.MixerIdeal.Hand
-- ==== Proof.MixerRef.lean ====
module

public import proofs.«01_k».proof.Proof.Gen.MixerReferenceIdeal.Read
public import proofs.«01_k».proof.Proof.MixerVal

@[expose] public section

set_option maxRecDepth 16384

noncomputable section

namespace Cert.MixerReferenceIdeal.Hand

open Idealize.ShloMosaic Cert.MixerReferenceIdeal Cert.MixerReferenceIdeal.Read Cert.Attn
open Cert.MixerIdeal.Hand (Sq nn tn nt gateA gateB mrg dy dg colA colB)

/-- The gate's gradient in the reference's order. -/
theorem dg_order (d y s u : EReal) : d * y * (s * u) = d * y * s * u := (mul_assoc (G := EReal) _ _ _).symm

variable (x0 x1 : Vec Ideal S2048x2048 .bf16) (x2 : Vec Ideal S2048x11520 .bf16) (x3 x4 x5 x6 : Vec Ideal S2048x2048 .bf16)

/-- The reference's first gate. -/
theorem v7_eq (i : S2048x2048.Idx) : val_main_v7 (F := Ideal) x2 i = gateA x2 i := by
  obtain ⟨a, b, rfl⟩ := ex2 i
  rw [val_main_v7_apply, val_main_v2_apply]
  exact congrArg x2 (ext2 (by show _ = a.val; simp [idx_main_v7]) (by show _ = 7424 + b.val; simp [idx_main_v7]))

/-- The reference's second gate. -/
theorem v8_eq (i : S2048x2048.Idx) : val_main_v8 (F := Ideal) x2 i = gateB x2 i := by
  obtain ⟨a, b, rfl⟩ := ex2 i
  rw [val_main_v8_apply, val_main_v2_apply]
  exact congrArg x2 (ext2 (by show _ = a.val; simp [idx_main_v8]) (by show _ = 9472 + b.val; simp [idx_main_v8]))

/-- The first gate's sigmoid. -/
theorem v14_eq (i : S2048x2048.Idx) : val_main_v14 (F := Ideal) x2 i = sg (gateA x2 i) := by
  rw [val_main_v14_apply, val_main_v13_apply, val_main_cst_0_apply, val_main_v12_apply, val_main_v11_apply, val_main_cst_apply,
    val_main_v10_apply, val_main_v9_apply, v7_eq, sg_logi]
  show Ideal.div (Ideal.ofBits .f32 0x3F800000#32) (Ideal.ofBits .f32 0x3F800000#32 + Ideal.exp (-(gateA x2 i))) = _
  rw [ofBits_one]
  rfl

/-- The second gate's sigmoid. -/
theorem v25_eq (i : S2048x2048.Idx) : val_main_v25 (F := Ideal) x2 i = sg (gateB x2 i) := by
  rw [val_main_v25_apply, val_main_v24_apply, val_main_cst_3_apply, val_main_v23_apply, val_main_v22_apply, val_main_cst_2_apply,
    val_main_v21_apply, val_main_v20_apply, v8_eq, sg_logi]
  show Ideal.div (Ideal.ofBits .f32 0x3F800000#32) (Ideal.ofBits .f32 0x3F800000#32 + Ideal.exp (-(gateB x2 i))) = _
  rw [ofBits_one]
  rfl

/-- The derivative of the first gate's sigmoid. -/
theorem v17_eq (i : S2048x2048.Idx) : val_main_v17 (F := Ideal) x2 i = (sg (gateA x2 i) * (1 - sg (gateA x2 i)) : EReal) := by
  rw [val_main_v17_apply, val_main_v16_apply, v14_eq, val_main_v15_apply, val_main_cst_1_apply, ← ofBits_one]
  rfl

/-- The derivative of the second gate's sigmoid. -/
theorem v28_eq (i : S2048x2048.Idx) : val_main_v28 (F := Ideal) x2 i = (sg (gateB x2 i) * (1 - sg (gateB x2 i)) : EReal) := by
  rw [val_main_v28_apply, val_main_v27_apply, v25_eq, val_main_v26_apply, val_main_cst_4_apply, ← ofBits_one]
  rfl

/-- The first branch. -/
theorem v18_eq : val_main_v18 (F := Ideal) x0 x3 = nn x0 x3 := by
  funext i
  obtain ⟨a, b, rfl⟩ := ex2 i
  rw [val_main_v18_apply]
  refine sum_same fun k => ?_
  rw [val_main_v0_apply, val_main_v3_apply]
  refine congrArg₂ (fun x y : EReal => x * y) ?_ ?_
  · exact congrArg (x0) (ext2 rfl rfl)
  · exact congrArg (x3) (ext2 rfl rfl)

/-- The second branch. -/
theorem v29_eq : val_main_v29 (F := Ideal) x1 x4 = nn x1 x4 := by
  funext i
  obtain ⟨a, b, rfl⟩ := ex2 i
  rw [val_main_v29_apply]
  refine sum_same fun k => ?_
  rw [val_main_v1_apply, val_main_v4_apply]
  refine congrArg₂ (fun x y : EReal => x * y) ?_ ?_
  · exact congrArg (x1) (ext2 rfl rfl)
  · exact congrArg (x4) (ext2 rfl rfl)

/-- The merged array. -/
theorem v31_eq : val_main_v31 (F := Ideal) x0 x1 x2 x3 x4 = mrg (gateA x2) (gateB x2) (nn x0 x3) (nn x1 x4) := by
  funext i
  rw [val_main_v31_apply, val_main_v19_apply, val_main_v30_apply, v14_eq, v25_eq, v18_eq, v29_eq]
  rfl

/-- The output. -/
theorem v32_eq : val_main_v32 (F := Ideal) x0 x1 x2 x3 x4 x5 = nn (mrg (gateA x2) (gateB x2) (nn x0 x3) (nn x1 x4)) x5 := by
  funext i
  obtain ⟨a, b, rfl⟩ := ex2 i
  rw [val_main_v32_apply]
  refine sum_same fun k => ?_
  rw [v31_eq, val_main_v5_apply]
  refine congrArg₂ (fun x y : EReal => x * y) ?_ ?_
  · exact congrArg (mrg (gateA x2) (gateB x2) (nn x0 x3) (nn x1 x4)) (ext2 rfl rfl)
  · exact congrArg (x5) (ext2 rfl rfl)

/-- The output weight's gradient. -/
theorem v34_eq : val_main_v34 (F := Ideal) x0 x1 x2 x3 x4 x6 = tn (mrg (gateA x2) (gateB x2) (nn x0 x3) (nn x1 x4)) x6 := by
  funext i
  obtain ⟨a, b, rfl⟩ := ex2 i
  rw [val_main_v34_apply, val_main_v33_apply]
  refine sum_same fun k => ?_
  rw [v31_eq, val_main_v6_apply]
  refine (mul_comm (G := EReal) _ _).trans (congrArg₂ (fun x y : EReal => x * y) ?_ ?_)
  · exact congrArg (mrg (gateA x2) (gateB x2) (nn x0 x3) (nn x1 x4)) (ext2 rfl rfl)
  · exact congrArg (x6) (ext2 rfl rfl)

/-- The merged array's gradient. -/
theorem v35_eq : val_main_v35 (F := Ideal) x5 x6 = nt x6 x5 := by
  funext i
  obtain ⟨a, b, rfl⟩ := ex2 i
  rw [val_main_v35_apply]
  refine sum_same fun k => ?_
  rw [val_main_v6_apply, val_main_v5_apply]
  refine congrArg₂ (fun x y : EReal => x * y) ?_ ?_
  · exact congrArg (x6) (ext2 rfl rfl)
  · exact congrArg (x5) (ext2 rfl rfl)

/-- The first branch's gradient. -/
theorem v42_eq : val_main_v42 (F := Ideal) x2 x5 x6 = dy (nt x6 x5) (gateA x2) := by
  funext i
  rw [val_main_v42_apply, v14_eq, v35_eq]
  exact mul_comm (G := EReal) _ _

/-- The second branch's gradient. -/
theorem v36_eq : val_main_v36 (F := Ideal) x2 x5 x6 = dy (nt x6 x5) (gateB x2) := by
  funext i
  rw [val_main_v36_apply, v25_eq, v35_eq]
  exact mul_comm (G := EReal) _ _

/-- The second branch's weight's gradient. -/
theorem v39_eq : val_main_v39 (F := Ideal) x1 x2 x5 x6 = tn x1 (dy (nt x6 x5) (gateB x2)) := by
  funext i
  obtain ⟨a, b, rfl⟩ := ex2 i
  rw [val_main_v39_apply, val_main_v38_apply]
  refine sum_same fun k => ?_
  rw [v36_eq, val_main_v1_apply]
  refine (mul_comm (G := EReal) _ _).trans (congrArg₂ (fun x y : EReal => x * y) ?_ ?_)
  · exact congrArg (x1) (ext2 rfl rfl)
  · exact congrArg (dy (nt x6 x5) (gateB x2)) (ext2 rfl rfl)

/-- The convolution's gradient. -/
theorem v40_eq : val_main_v40 (F := Ideal) x2 x4 x5 x6 = nt (dy (nt x6 x5) (gateB x2)) x4 := by
  funext i
  obtain ⟨a, b, rfl⟩ := ex2 i
  rw [val_main_v40_apply]
  refine sum_same fun k => ?_
  rw [v36_eq, val_main_v4_apply]
  refine congrArg₂ (fun x y : EReal => x * y) ?_ ?_
  · exact congrArg (dy (nt x6 x5) (gateB x2)) (ext2 rfl rfl)
  · exact congrArg (x4) (ext2 rfl rfl)

/-- The first branch's weight's gradient. -/
theorem v45_eq : val_main_v45 (F := Ideal) x0 x2 x5 x6 = tn x0 (dy (nt x6 x5) (gateA x2)) := by
  funext i
  obtain ⟨a, b, rfl⟩ := ex2 i
  rw [val_main_v45_apply, val_main_v44_apply]
  refine sum_same fun k => ?_
  rw [v42_eq, val_main_v0_apply]
  refine (mul_comm (G := EReal) _ _).trans (congrArg₂ (fun x y : EReal => x * y) ?_ ?_)
  · exact congrArg (x0) (ext2 rfl rfl)
  · exact congrArg (dy (nt x6 x5) (gateA x2)) (ext2 rfl rfl)

/-- The attention's gradient. -/
theorem v46_eq : val_main_v46 (F := Ideal) x2 x3 x5 x6 = nt (dy (nt x6 x5) (gateA x2)) x3 := by
  funext i
  obtain ⟨a, b, rfl⟩ := ex2 i
  rw [val_main_v46_apply]
  refine sum_same fun k => ?_
  rw [v42_eq, val_main_v3_apply]
  refine congrArg₂ (fun x y : EReal => x * y) ?_ ?_
  · exact congrArg (dy (nt x6 x5) (gateA x2)) (ext2 rfl rfl)
  · exact congrArg (x3) (ext2 rfl rfl)

/-- The first gate's gradient. -/
theorem v47_eq : val_main_v47 (F := Ideal) x0 x2 x3 x5 x6 = dg (nt x6 x5) (gateA x2) (nn x0 x3) := by
  funext i
  rw [val_main_v47_apply, val_main_v43_apply, v17_eq, v35_eq, v18_eq]
  exact dg_order _ _ _ _

/-- The second gate's gradient. -/
theorem v41_eq : val_main_v41 (F := Ideal) x1 x2 x4 x5 x6 = dg (nt x6 x5) (gateB x2) (nn x1 x4) := by
  funext i
  rw [val_main_v41_apply, val_main_v37_apply, v28_eq, v35_eq, v29_eq]
  exact dg_order _ _ _ _

end Cert.MixerReferenceIdeal.Hand
-- ==== Proof.MixerAlg.lean ====
module

public import proofs.«01_k».proof.Defs
public import proofs.«01_k».proof.Proof.MixerRef

@[expose] public section

set_option maxRecDepth 16384

noncomputable section

namespace Cert.Proof

open Idealize.ShloMosaic Idealize.ShloMosaic.TcCoe Idealize.SL.Sem Cert.Attn

/-- Over the reals the blocked output half of the mixer and its gradients are the plain ones, of any arguments. -/
theorem algebraic_mixer : Cert.algebraic_MixerIdeal_MixerReferenceIdeal := by
  intro m g m' g' _ agree
  refine ⟨fun c => Cert.MixerIdeal.Hand.nn (Cert.MixerIdeal.Hand.mrgM m c) (m ((c.tc : Thread _ _).loc Cert.MixerIdeal.main_arg5)),
    fun c => Cert.MixerIdeal.Hand.nt (Cert.MixerIdeal.Hand.dyaM m c) (m ((c.tc : Thread _ _).loc Cert.MixerIdeal.main_arg3)),
    fun c => Cert.MixerIdeal.Hand.nt (Cert.MixerIdeal.Hand.dybM m c) (m ((c.tc : Thread _ _).loc Cert.MixerIdeal.main_arg4)),
    fun c => Cert.MixerIdeal.Hand.dg (Cert.MixerIdeal.Hand.dmM m c) (Cert.MixerIdeal.Hand.gateA (m ((c.tc : Thread _ _).loc Cert.MixerIdeal.main_arg2))) (Cert.MixerIdeal.Hand.yaM m c),
    fun c => Cert.MixerIdeal.Hand.dg (Cert.MixerIdeal.Hand.dmM m c) (Cert.MixerIdeal.Hand.gateB (m ((c.tc : Thread _ _).loc Cert.MixerIdeal.main_arg2))) (Cert.MixerIdeal.Hand.ybM m c),
    fun c => Cert.MixerIdeal.Hand.tn (m ((c.tc : Thread _ _).loc Cert.MixerIdeal.main_arg0)) (Cert.MixerIdeal.Hand.dyaM m c),
    fun c => Cert.MixerIdeal.Hand.tn (m ((c.tc : Thread _ _).loc Cert.MixerIdeal.main_arg1)) (Cert.MixerIdeal.Hand.dybM m c),
    fun c => Cert.MixerIdeal.Hand.tn (Cert.MixerIdeal.Hand.mrgM m c) (m ((c.tc : Thread _ _).loc Cert.MixerIdeal.main_arg6)), ?_, ?_⟩
  · refine (θ_run Cert.MixerIdeal.defs _ _).mono (fun r hr c => ?_) (Cert.MixerIdeal.Hand.run_all m g)
    exact ⟨(hr c _ (Cert.MixerIdeal.Gen.mem_uc Cert.MixerIdeal.main_v3 (by decide))).trans (Cert.MixerIdeal.Hand.W11_v3 m g c),
      (hr c _ (Cert.MixerIdeal.Gen.mem_uc Cert.MixerIdeal.main_v10 (by decide))).trans (Cert.MixerIdeal.Hand.W11_v10 m g c),
      (hr c _ (Cert.MixerIdeal.Gen.mem_uc Cert.MixerIdeal.main_v8 (by decide))).trans (Cert.MixerIdeal.Hand.W11_v8 m g c),
      (hr c _ (Cert.MixerIdeal.Gen.mem_uc Cert.MixerIdeal.main_v6_2 (by decide))).trans (Cert.MixerIdeal.Hand.W11_v6_2 m g c),
      (hr c _ (Cert.MixerIdeal.Gen.mem_uc Cert.MixerIdeal.main_v6_3 (by decide))).trans (Cert.MixerIdeal.Hand.W11_v6_3 m g c),
      (hr c _ (Cert.MixerIdeal.Gen.mem_uc Cert.MixerIdeal.main_v9 (by decide))).trans (Cert.MixerIdeal.Hand.W11_v9 m g c),
      (hr c _ (Cert.MixerIdeal.Gen.mem_uc Cert.MixerIdeal.main_v7 (by decide))).trans (Cert.MixerIdeal.Hand.W11_v7 m g c),
      (hr c _ (Cert.MixerIdeal.Gen.mem_uc Cert.MixerIdeal.main_v4 (by decide))).trans (Cert.MixerIdeal.Hand.W11_v4 m g c),
      (hr c _ (Cert.MixerIdeal.Gen.mem_uc Cert.MixerIdeal.main_arg0 (by decide))).trans (Cert.MixerIdeal.Gen.W11_main_arg0 m g c),
      (hr c _ (Cert.MixerIdeal.Gen.mem_uc Cert.MixerIdeal.main_arg1 (by decide))).trans (Cert.MixerIdeal.Gen.W11_main_arg1 m g c),
      (hr c _ (Cert.MixerIdeal.Gen.mem_uc Cert.MixerIdeal.main_arg2 (by decide))).trans (Cert.MixerIdeal.Gen.W11_main_arg2 m g c),
      (hr c _ (Cert.MixerIdeal.Gen.mem_uc Cert.MixerIdeal.main_arg3 (by decide))).trans (Cert.MixerIdeal.Gen.W11_main_arg3 m g c),
      (hr c _ (Cert.MixerIdeal.Gen.mem_uc Cert.MixerIdeal.main_arg4 (by decide))).trans (Cert.MixerIdeal.Gen.W11_main_arg4 m g c),
      (hr c _ (Cert.MixerIdeal.Gen.mem_uc Cert.MixerIdeal.main_arg5 (by decide))).trans (Cert.MixerIdeal.Gen.W11_main_arg5 m g c),
      (hr c _ (Cert.MixerIdeal.Gen.mem_uc Cert.MixerIdeal.main_arg6 (by decide))).trans (Cert.MixerIdeal.Gen.W11_main_arg6 m g c)⟩
  · refine (θ_run Cert.MixerReferenceIdeal.defs _ _).mono (fun r hr c => ?_) (Cert.MixerReferenceIdeal.Value.run (F := Ideal) m' g')
    obtain ⟨a0, a1, a2, a3, a4, a5, a6⟩ := agree c
    obtain ⟨r0, r1, r2, r3, r4, r5, r6, r7, args⟩ := hr c
    refine ⟨r0.trans ?_, r1.trans ?_, r2.trans ?_, r3.trans ?_, r4.trans ?_, r5.trans ?_, r6.trans ?_, r7.trans ?_, args⟩
    · rw [a0, a1, a2, a3, a4, a5]
      exact (Cert.MixerReferenceIdeal.Read.val_main_v32_eq _ _ _ _ _ _).trans <| Cert.MixerReferenceIdeal.Hand.v32_eq _ _ _ _ _ _
    · rw [a2, a3, a5, a6]
      exact (Cert.MixerReferenceIdeal.Read.val_main_v48_eq _ _ _ _).trans <| Cert.MixerReferenceIdeal.Hand.v46_eq _ _ _ _
    · rw [a2, a4, a5, a6]
      exact (Cert.MixerReferenceIdeal.Read.val_main_v49_eq _ _ _ _).trans <| Cert.MixerReferenceIdeal.Hand.v40_eq _ _ _ _
    · rw [a0, a2, a3, a5, a6]
      exact (Cert.MixerReferenceIdeal.Read.val_main_v50_eq _ _ _ _ _).trans <| Cert.MixerReferenceIdeal.Hand.v47_eq _ _ _ _ _
    · rw [a1, a2, a4, a5, a6]
      exact (Cert.MixerReferenceIdeal.Read.val_main_v51_eq _ _ _ _ _).trans <| Cert.MixerReferenceIdeal.Hand.v41_eq _ _ _ _ _
    · rw [a0, a2, a5, a6]
      exact (Cert.MixerReferenceIdeal.Read.val_main_v52_eq _ _ _ _).trans <| Cert.MixerReferenceIdeal.Hand.v45_eq _ _ _ _
    · rw [a1, a2, a5, a6]
      exact (Cert.MixerReferenceIdeal.Read.val_main_v53_eq _ _ _ _).trans <| Cert.MixerReferenceIdeal.Hand.v39_eq _ _ _ _
    · rw [a0, a1, a2, a3, a4, a6]
      exact (Cert.MixerReferenceIdeal.Read.val_main_v54_eq _ _ _ _ _ _).trans <| Cert.MixerReferenceIdeal.Hand.v34_eq _ _ _ _ _ _

end Cert.Proof
-- ==== Proof.LatentVal.lean ====
module

public import proofs.«01_k».proof.Proof.Runs
public import proofs.«01_k».proof.Defs
public import proofs.«01_k».proof.Proof.Gen.LatentReferenceIdeal.Read
public import proofs.«01_k».proof.Proof.Sig
public import Idealize.ShloMosaic.Lib.Pipeline.ValueKit

@[expose] public section

set_option maxRecDepth 16384

noncomputable section

namespace Cert.LatentIdeal.Hand

open Cert.LatentIdeal Cert.LatentIdeal.Gen
open Idealize.ShloMosaic Idealize.ShloMosaic.TcCoe Idealize.SL.Sem Idealize.ShloMosaic.Pipeline Cert.Attn

/-! ## The four arrays -/

/-- The queries: the weight is in eight shards of 384 columns. -/
def qUp (U : Vec Ideal S2048x512 .bf16) (W : Vec Ideal S8x512x384 .bf16) : Vec Ideal S2048x3072 .bf16 := fun i =>
  (∑ k : Fin 512, (U (ix2 (i 0) k) : EReal) * (W (ix3 ⟨(i 1).val / 384, by have : (i 1).val < 3072 := (i 1).isLt; omega⟩ k ⟨(i 1).val % 384, by omega⟩) : EReal) : EReal)

/-- The gradient of the weight of the queries, in shards. -/
def qGrad (U : Vec Ideal S2048x512 .bf16) (D : Vec Ideal S2048x3072 .bf16) : Vec Ideal S8x512x384 .bf16 := fun i =>
  (∑ k : Fin 2048, (U (ix2 k (i 1)) : EReal) * (D (ix2 k ⟨384 * (i 0).val + (i 2).val, by
    have : (i 0).val < 8 := (i 0).isLt
    have : (i 2).val < 384 := (i 2).isLt
    omega⟩) : EReal) : EReal)

/-- The keys and values: the weight is in eight shards of 512 columns. -/
def kvUp (U : Vec Ideal S2048x512 .bf16) (W : Vec Ideal S8x512x512 .bf16) : Vec Ideal S2048x4096 .bf16 := fun i =>
  (∑ k : Fin 512, (U (ix2 (i 0) k) : EReal) * (W (ix3 ⟨(i 1).val / 512, by have : (i 1).val < 4096 := (i 1).isLt; omega⟩ k ⟨(i 1).val % 512, by omega⟩) : EReal) : EReal)

/-- The gradient of the weight of the keys and values, in shards. -/
def kvGrad (U : Vec Ideal S2048x512 .bf16) (D : Vec Ideal S2048x4096 .bf16) : Vec Ideal S8x512x512 .bf16 := fun i =>
  (∑ k : Fin 2048, (U (ix2 k (i 1)) : EReal) * (D (ix2 k ⟨512 * (i 0).val + (i 2).val, by
    have : (i 0).val < 8 := (i 0).isLt
    have : (i 2).val < 512 := (i 2).isLt
    omega⟩) : EReal) : EReal)

/-! ## Where the blocks sit -/

/-- The input's block in the product of the queries. -/
theorem e00 : ∀ t : Fin cfg0.N, win0_0.index t = ![t.val / 8, 0] := (by decide +kernel : ∀ t : Fin grid0.N, _)
/-- The weight's shard in the product of the queries. -/
theorem e01 : ∀ t : Fin cfg0.N, win0_1.index t = ![t.val % 8, 0, 0] := (by decide +kernel : ∀ t : Fin grid0.N, _)
/-- The block of the queries. -/
theorem e02 : ∀ t : Fin cfg0.N, win0_2.index t = ![t.val / 8, t.val % 8] := (by decide +kernel : ∀ t : Fin grid0.N, _)
/-- The input's block in the product of the keys and values. -/
theorem e10 : ∀ t : Fin cfg1.N, win1_0.index t = ![t.val / 8, 0] := (by decide +kernel : ∀ t : Fin grid1.N, _)
/-- The weight's shard in the product of the keys and values. -/
theorem e11 : ∀ t : Fin cfg1.N, win1_1.index t = ![t.val % 8, 0, 0] := (by decide +kernel : ∀ t : Fin grid1.N, _)
/-- The block of the keys and values. -/
theorem e12 : ∀ t : Fin cfg1.N, win1_2.index t = ![t.val / 8, t.val % 8] := (by decide +kernel : ∀ t : Fin grid1.N, _)
/-- The input's block in the gradient of the weight of the queries. -/
theorem e20 : ∀ t : Fin cfg2.N, win2_0.index t = ![0, 0] := (by decide +kernel : ∀ t : Fin grid2.N, _)
/-- The cotangent's block in the gradient of the weight of the queries. -/
theorem e21 : ∀ t : Fin cfg2.N, win2_1.index t = ![0, t.val] := (by decide +kernel : ∀ t : Fin grid2.N, _)
/-- The shard of the gradient of the weight of the queries. -/
theorem e22 : ∀ t : Fin cfg2.N, win2_2.index t = ![t.val, 0, 0] := (by decide +kernel : ∀ t : Fin grid2.N, _)
/-- The input's block in the gradient of the weight of the keys and values. -/
theorem e30 : ∀ t : Fin cfg3.N, win3_0.index t = ![0, 0] := (by decide +kernel : ∀ t : Fin grid3.N, _)
/-- The cotangent's block in the gradient of the weight of the keys and values. -/
theorem e31 : ∀ t : Fin cfg3.N, win3_1.index t = ![0, t.val] := (by decide +kernel : ∀ t : Fin grid3.N, _)
/-- The shard of the gradient of the weight of the keys and values. -/
theorem e32 : ∀ t : Fin cfg3.N, win3_2.index t = ![t.val, 0, 0] := (by decide +kernel : ∀ t : Fin grid3.N, _)

/-! ## What the bodies compute -/

/-- A block of the queries at an element. -/
theorem pay0 (x1 : Vec Ideal S1x512x384 .bf16) (x0 : Vec Ideal S1024x512 .bf16) (j : S1024x384.Idx) :
    k0_pay1 x1 x0 j = (∑ k : Fin 512, (x0 (ix2 (j 0) k) : EReal) * (x1 (ix3 0 k (j 1)) : EReal) : EReal) := by
  obtain ⟨a, b, rfl⟩ := ex2 j
  pointwise [k0_pay1, ofBits_zero]

/-- A block of the keys and values at an element. -/
theorem pay1 (x1 : Vec Ideal S1x512x512 .bf16) (x0 : Vec Ideal S1024x512 .bf16) (j : S1024x512.Idx) :
    k1_pay1 x1 x0 j = (∑ k : Fin 512, (x0 (ix2 (j 0) k) : EReal) * (x1 (ix3 0 k (j 1)) : EReal) : EReal) := by
  obtain ⟨a, b, rfl⟩ := ex2 j
  pointwise [k1_pay1, ofBits_zero]

/-- A shard of the gradient of the weight of the queries at an element. -/
theorem pay2 (x1 : Vec Ideal S2048x384 .bf16) (x0 : Vec Ideal S2048x512 .bf16) (j : S1x512x384.Idx) :
    k2_pay1 x1 x0 j = (∑ k : Fin 2048, (x0 (ix2 k (j 1)) : EReal) * (x1 (ix2 k (j 2)) : EReal) : EReal) := by
  obtain ⟨a, b, c, rfl⟩ := ex3 j
  pointwise [k2_pay1, ofBits_zero]

/-- A shard of the gradient of the weight of the keys and values at an element. -/
theorem pay3 (x1 : Vec Ideal S2048x512 .bf16) (x0 : Vec Ideal S2048x512 .bf16) (j : S1x512x512.Idx) :
    k3_pay1 x1 x0 j = (∑ k : Fin 2048, (x0 (ix2 k (j 1)) : EReal) * (x1 (ix2 k (j 2)) : EReal) : EReal) := by
  obtain ⟨a, b, c, rfl⟩ := ex3 j
  pointwise [k3_pay1, ofBits_zero]

/-! ## What each call leaves, for any contents at its entry -/

section
variable (V : (c : Dev nD) → (b : Ref sig .tc) → Buf (Elt Ideal) ((c : Thread nD τ).loc b)) (c : Dev nD)

/-- The queries. -/
theorem fin0 : (dat0 V c).arrAt 2 cfg0.N = qUp (V c main_arg0) (V c main_arg2) := by
  refine (dat0 V c).arrAt_eq_of_covers 2 _ (by decide +kernel) fun t hf y => ?_
  blk_simp
  rw [after0_2]; frame_out; rw [pay0]
  refine sum_same fun k => ?_
  blk_simp [iblk0]
  congr 1
  · congr 1
    blk_ext [e00, e02]
  · congr 1
    blk_ext [e01, e02]

/-- The keys and values. -/
theorem fin1 : (dat1 V c).arrAt 2 cfg1.N = kvUp (V c main_arg1) (V c main_arg3) := by
  refine (dat1 V c).arrAt_eq_of_covers 2 _ (by decide +kernel) fun t hf y => ?_
  blk_simp
  rw [after1_2]; frame_out; rw [pay1]
  refine sum_same fun k => ?_
  blk_simp [iblk1]
  congr 1
  · congr 1
    blk_ext [e10, e12]
  · congr 1
    blk_ext [e11, e12]

/-- The gradient of the weight of the queries. -/
theorem fin2 : (dat2 V c).arrAt 2 cfg2.N = qGrad (V c main_arg0) (V c main_arg4) := by
  refine (dat2 V c).arrAt_eq_of_covers 2 _ (by decide +kernel) fun t hf y => ?_
  blk_simp
  rw [after2_2]; frame_out; rw [pay2]
  refine sum_same fun k => ?_
  blk_simp [iblk2]
  congr 1
  · congr 1
    blk_ext [e20, e22]
  · congr 1
    blk_ext [e21, e22]

/-- The gradient of the weight of the keys and values. -/
theorem fin3 : (dat3 V c).arrAt 2 cfg3.N = kvGrad (V c main_arg1) (V c main_arg5) := by
  refine (dat3 V c).arrAt_eq_of_covers 2 _ (by decide +kernel) fun t hf y => ?_
  blk_simp
  rw [after3_2]; frame_out; rw [pay3]
  refine sum_same fun k => ?_
  blk_simp [iblk3]
  congr 1
  · congr 1
    blk_ext [e30, e32]
  · congr 1
    blk_ext [e31, e32]

end

variable (m : (ℓ : Loc nD τ sig) → Buf (Elt Ideal) ℓ) (ρ : Dev nD → PrngReg) (c : Dev nD)

/-- The queries at the end. -/
theorem W4_v0 : W4 m ρ c main_v0 = qUp (m ((c : Thread nD τ).loc main_arg0)) (m ((c : Thread nD τ).loc main_arg2)) :=
  (W4_of m ρ c main_v0 (by decide)).trans <| (W3_of m ρ c main_v0 (by decide)).trans <| (W2_of m ρ c main_v0 (by decide)).trans <| (hF0 m ρ c 2).symm.trans <| (fin0 (V0 m ρ) c).trans <|
    congrArg₂ qUp (W0_args m ρ c main_arg0 (by decide)) (W0_args m ρ c main_arg2 (by decide))
/-- The keys and values at the end. -/
theorem W4_v1 : W4 m ρ c main_v1 = kvUp (m ((c : Thread nD τ).loc main_arg1)) (m ((c : Thread nD τ).loc main_arg3)) :=
  (W4_of m ρ c main_v1 (by decide)).trans <| (W3_of m ρ c main_v1 (by decide)).trans <| (hF1 m ρ c 2).symm.trans <| (fin1 (V1 m ρ) c).trans <|
    congrArg₂ kvUp (W1_args m ρ c main_arg1 (by decide)) (W1_args m ρ c main_arg3 (by decide))
/-- The gradient of the weight of the queries at the end. -/
theorem W4_v2 : W4 m ρ c main_v2 = qGrad (m ((c : Thread nD τ).loc main_arg0)) (m ((c : Thread nD τ).loc main_arg4)) :=
  (W4_of m ρ c main_v2 (by decide)).trans <| (hF2 m ρ c 2).symm.trans <| (fin2 (V2 m ρ) c).trans <|
    congrArg₂ qGrad (W2_args m ρ c main_arg0 (by decide)) (W2_args m ρ c main_arg4 (by decide))
/-- The gradient of the weight of the keys and values at the end. -/
theorem W4_v3 : W4 m ρ c main_v3 = kvGrad (m ((c : Thread nD τ).loc main_arg1)) (m ((c : Thread nD τ).loc main_arg5)) :=
  (hF3 m ρ c 2).symm.trans <| (fin3 (V3 m ρ) c).trans <|
    congrArg₂ kvGrad (W3_args m ρ c main_arg1 (by decide)) (W3_args m ρ c main_arg5 (by decide))

end Cert.LatentIdeal.Hand

namespace Cert.LatentReferenceIdeal.Hand

open Idealize.ShloMosaic Cert.LatentReferenceIdeal Cert.LatentReferenceIdeal.Read Cert.Attn
open Cert.LatentIdeal.Hand (qUp kvUp qGrad kvGrad)

/-- The reference's queries are the kernel's. -/
theorem v4_eq (U : Vec Ideal S2048x512 .bf16) (W : Vec Ideal S8x512x384 .bf16) : val_main_v4 (F := Ideal) U W = qUp U W := by
  funext i
  obtain ⟨a, b, rfl⟩ := ex2 i
  rw [val_main_v4_apply]
  refine sum_same fun k => ?_
  rw [val_main_v0_apply, val_main_v3_apply, val_main_v2_apply, val_main_v1_apply]
  have hb := b.isLt
  have hk := k.isLt
  refine congrArg₂ (fun x y : EReal => x * y) ?_ ?_
  · exact congrArg U (ext2 rfl rfl)
  · refine congrArg W (ext3 ?_ ?_ ?_)
    · show (k.val * 3072 + b.val) / 384 % 8 = b.val / 384
      omega
    · show (k.val * 3072 + b.val) / 3072 = k.val
      omega
    · show (k.val * 3072 + b.val) % 384 = b.val % 384
      omega

/-- The reference's keys and values are the kernel's. -/
theorem v9_eq (U : Vec Ideal S2048x512 .bf16) (W : Vec Ideal S8x512x512 .bf16) : val_main_v9 (F := Ideal) U W = kvUp U W := by
  funext i
  obtain ⟨a, b, rfl⟩ := ex2 i
  rw [val_main_v9_apply]
  refine sum_same fun k => ?_
  rw [val_main_v5_apply, val_main_v8_apply, val_main_v7_apply, val_main_v6_apply]
  have hb := b.isLt
  have hk := k.isLt
  refine congrArg₂ (fun x y : EReal => x * y) ?_ ?_
  · exact congrArg U (ext2 rfl rfl)
  · refine congrArg W (ext3 ?_ ?_ ?_)
    · show (k.val * 4096 + b.val) / 512 % 8 = b.val / 512
      omega
    · show (k.val * 4096 + b.val) / 4096 = k.val
      omega
    · show (k.val * 4096 + b.val) % 512 = b.val % 512
      omega

/-- The reference's gradient of the weight of the queries. -/
theorem v16_eq (U : Vec Ideal S2048x512 .bf16) (D : Vec Ideal S2048x3072 .bf16) : val_main_v16 (F := Ideal) U D = qGrad U D := by
  funext i
  obtain ⟨a, b, d, rfl⟩ := ex3 i
  rw [val_main_v16_apply, val_main_v15_apply, val_main_v14_apply, val_main_v13_apply]
  refine sum_same fun k => ?_
  rw [val_main_v12_apply, val_main_v0_apply]
  have ha := a.isLt
  have hb := b.isLt
  have hd := d.isLt
  refine (mul_comm (G := EReal) _ _).trans (congrArg₂ (fun x y : EReal => x * y) ?_ ?_)
  · refine congrArg U (ext2 rfl ?_)
    show ((b.val * 8 + a.val) * 384 + d.val) / 3072 = b.val
    omega
  · refine congrArg D (ext2 rfl ?_)
    show ((b.val * 8 + a.val) * 384 + d.val) % 3072 = 384 * a.val + d.val
    omega

/-- The reference's gradient of the weight of the keys and values. -/
theorem v22_eq (U : Vec Ideal S2048x512 .bf16) (D : Vec Ideal S2048x4096 .bf16) : val_main_v22 (F := Ideal) U D = kvGrad U D := by
  funext i
  obtain ⟨a, b, d, rfl⟩ := ex3 i
  rw [val_main_v22_apply, val_main_v21_apply, val_main_v20_apply, val_main_v19_apply]
  refine sum_same fun k => ?_
  rw [val_main_v18_apply, val_main_v5_apply]
  have ha := a.isLt
  have hb := b.isLt
  have hd := d.isLt
  refine (mul_comm (G := EReal) _ _).trans (congrArg₂ (fun x y : EReal => x * y) ?_ ?_)
  · refine congrArg U (ext2 rfl ?_)
    show ((b.val * 8 + a.val) * 512 + d.val) / 4096 = b.val
    omega
  · refine congrArg D (ext2 rfl ?_)
    show ((b.val * 8 + a.val) * 512 + d.val) % 4096 = 512 * a.val + d.val
    omega

end Cert.LatentReferenceIdeal.Hand

namespace Cert.Proof

open Idealize.ShloMosaic Idealize.ShloMosaic.TcCoe Idealize.SL.Sem

/-- Over the extended reals the blocked products with the low-rank arrays are the plain ones, whatever the arguments. -/
theorem algebraic_latent : Cert.algebraic_LatentIdeal_LatentReferenceIdeal := by
  intro m g m' g' _ agree
  refine ⟨fun c => Cert.LatentIdeal.Hand.qUp (m ((c.tc : Thread _ _).loc Cert.LatentIdeal.main_arg0)) (m ((c.tc : Thread _ _).loc Cert.LatentIdeal.main_arg2)),
    fun c => Cert.LatentIdeal.Hand.kvUp (m ((c.tc : Thread _ _).loc Cert.LatentIdeal.main_arg1)) (m ((c.tc : Thread _ _).loc Cert.LatentIdeal.main_arg3)),
    fun c => Cert.LatentIdeal.Hand.qGrad (m ((c.tc : Thread _ _).loc Cert.LatentIdeal.main_arg0)) (m ((c.tc : Thread _ _).loc Cert.LatentIdeal.main_arg4)),
    fun c => Cert.LatentIdeal.Hand.kvGrad (m ((c.tc : Thread _ _).loc Cert.LatentIdeal.main_arg1)) (m ((c.tc : Thread _ _).loc Cert.LatentIdeal.main_arg5)), ?_, ?_⟩
  · refine (θ_run Cert.LatentIdeal.defs _ _).mono (fun r hr c => ?_) (Cert.LatentIdeal.Hand.run_all m g)
    exact ⟨(hr c _ (Cert.LatentIdeal.Gen.mem_uc Cert.LatentIdeal.main_v0 (by decide))).trans (Cert.LatentIdeal.Hand.W4_v0 m g c),
      (hr c _ (Cert.LatentIdeal.Gen.mem_uc Cert.LatentIdeal.main_v1 (by decide))).trans (Cert.LatentIdeal.Hand.W4_v1 m g c),
      (hr c _ (Cert.LatentIdeal.Gen.mem_uc Cert.LatentIdeal.main_v2 (by decide))).trans (Cert.LatentIdeal.Hand.W4_v2 m g c),
      (hr c _ (Cert.LatentIdeal.Gen.mem_uc Cert.LatentIdeal.main_v3 (by decide))).trans (Cert.LatentIdeal.Hand.W4_v3 m g c),
      (hr c _ (Cert.LatentIdeal.Gen.mem_uc Cert.LatentIdeal.main_arg0 (by decide))).trans (Cert.LatentIdeal.Gen.W4_main_arg0 m g c),
      (hr c _ (Cert.LatentIdeal.Gen.mem_uc Cert.LatentIdeal.main_arg1 (by decide))).trans (Cert.LatentIdeal.Gen.W4_main_arg1 m g c),
      (hr c _ (Cert.LatentIdeal.Gen.mem_uc Cert.LatentIdeal.main_arg2 (by decide))).trans (Cert.LatentIdeal.Gen.W4_main_arg2 m g c),
      (hr c _ (Cert.LatentIdeal.Gen.mem_uc Cert.LatentIdeal.main_arg3 (by decide))).trans (Cert.LatentIdeal.Gen.W4_main_arg3 m g c),
      (hr c _ (Cert.LatentIdeal.Gen.mem_uc Cert.LatentIdeal.main_arg4 (by decide))).trans (Cert.LatentIdeal.Gen.W4_main_arg4 m g c),
      (hr c _ (Cert.LatentIdeal.Gen.mem_uc Cert.LatentIdeal.main_arg5 (by decide))).trans (Cert.LatentIdeal.Gen.W4_main_arg5 m g c)⟩
  · refine (θ_run Cert.LatentReferenceIdeal.defs _ _).mono (fun r hr c => ?_) (Cert.LatentReferenceIdeal.Value.run (F := Ideal) m' g')
    obtain ⟨a0, a1, a2, a3, a4, a5⟩ := agree c
    obtain ⟨r0, r1, r2, r3, args⟩ := hr c
    refine ⟨r0.trans ?_, r1.trans ?_, r2.trans ?_, r3.trans ?_, args⟩
    · rw [a0, a2]
      exact (Cert.LatentReferenceIdeal.Read.val_main_v10_eq _ _).trans <| Cert.LatentReferenceIdeal.Hand.v4_eq _ _
    · rw [a1, a3]
      exact (Cert.LatentReferenceIdeal.Read.val_main_v11_eq _ _).trans <| Cert.LatentReferenceIdeal.Hand.v9_eq _ _
    · rw [a0, a4]
      exact (Cert.LatentReferenceIdeal.Read.val_main_v17_eq _ _).trans <| Cert.LatentReferenceIdeal.Hand.v16_eq _ _
    · rw [a1, a5]
      exact (Cert.LatentReferenceIdeal.Read.val_main_v23_eq _ _).trans <| Cert.LatentReferenceIdeal.Hand.v22_eq _ _

end Cert.Proof
-- ==== Proof.SplitQ.lean ====
module

public import proofs.«01_k».proof.Defs
public import proofs.«01_k».proof.Proof.Gen.QIn
public import proofs.«01_k».proof.Proof.Gen.QInIdeal.Value
public import proofs.«01_k».proof.Proof.Gen.QInReferenceIdeal.Read
public import proofs.«01_k».proof.Proof.ValBase
public import Idealize.ShloMosaic.Lib.Pipeline.ValueKit

@[expose] public section

set_option maxRecDepth 16384

noncomputable section

namespace Cert.QInIdeal.Hand

open Cert.QInIdeal Cert.QInIdeal.Gen
open Idealize.ShloMosaic Idealize.ShloMosaic.TcCoe Idealize.SL.Sem Idealize.ShloMosaic.Pipeline Cert.Attn

/-- The product of the queries' gradient with the transposed weight, whose columns lie in eight slabs. -/
def prod (A : Vec Ideal S2048x3072 .bf16) (B : Vec Ideal S8x512x384 .bf16) : Vec Ideal S2048x512 .f32 := fun i =>
  (∑ k : Fin 3072, (A (ix2 (i 0) k) : EReal) * (B (ix3 ⟨k.val / 384, by omega⟩ (i 1) ⟨k.val % 384, by omega⟩) : EReal) : EReal)

/-- Where the left operand's block sits at a point. -/
theorem e0 : ∀ t : Fin cfg0.N, win0_0.index t = ![t.val / 8, t.val % 8] := (by decide +kernel : ∀ t : Fin grid0.N, _)
/-- Where the right operand's block sits at a point. -/
theorem e1 : ∀ t : Fin cfg0.N, win0_1.index t = ![t.val % 8, 0, 0] := (by decide +kernel : ∀ t : Fin grid0.N, _)
/-- Where the result's block sits at a point. -/
theorem e2 : ∀ t : Fin cfg0.N, win0_2.index t = ![t.val / 8, 0] := (by decide +kernel : ∀ t : Fin grid0.N, _)

/-- The part of a block's product that one step adds. -/
def part (x0 : Vec Ideal S1024x384 .bf16) (x1 : Vec Ideal S1x512x384 .bf16) : Vec Ideal S1024x512 .f32 := fun j =>
  (∑ k : Fin 384, (x0 (ix2 (j 0) k) : EReal) * (x1 (ix3 0 (j 1) k) : EReal) : EReal)

/-- A step adds its part. -/
theorem pay (acc : Vec Ideal S1024x512 .f32) (x1 : Vec Ideal S1x512x384 .bf16) (x0 : Vec Ideal S1024x384 .bf16) (j : S1024x512.Idx) :
    k0_pay2 acc x1 x0 j = acc j + part x0 x1 j := by
  obtain ⟨a, b, rfl⟩ := ex2 j
  pointwise [k0_pay2, ofBits_zero]
  simp [part]

/-- The first step starts from zero. -/
theorem pay0 (j : S1024x512.Idx) : k0_pay1 (F := Ideal) j = (0 : EReal) := by
  obtain ⟨a, b, rfl⟩ := ex2 j
  pointwise [k0_pay1, ofBits_zero]

variable (m : (ℓ : Loc nD τ sig) → Buf (Elt Ideal) ℓ) (c : Dev nD)

/-- The scratch after the last step of a block. -/
theorem acc_eq (t : Fin cfg0.N) (h : t.val % 8 = 7) (j : S1024x512.Idx) :
    (outsAt0 m c t.val t.isLt).2 j = (0 : EReal) + ∑ s : Fin 8, (part (iblk m c 0 ⟨8 * (t.val / 8) + s.val, run_point_lt_of_flush t h s⟩) (iblk m c 1 ⟨8 * (t.val / 8) + s.val, run_point_lt_of_flush t h s⟩) j : EReal) := by
  refine eq_sum_fin_of_reset_step_apply_of_flush (M := EReal) (fun n h => (outsAt0 m c n h).2) 8 (fun _ => 0) (fun t j => part (iblk m c 0 t) (iblk m c 1 t) j) ?_ ?_ t h j
  · intro t h j
    rw [outsAt0_A m c t h (by omega)]; frame_out; rw [pay, pay0]
  · intro t h j
    by_cases h1 : t.val % 8 = 7
    · rw [outsAt0_C m c t h h1]; frame_out; rw [pay]
      exact congrArg (· + part (iblk m c 0 t) (iblk m c 1 t) j) (congrFun (Memref.IsWhole.read_unread (Memref.isWhole_whole cc0_scratch0) _) j)
    · rw [outsAt0_B m c t h h1]; frame_out; rw [pay]
      exact congrArg (· + part (iblk m c 0 t) (iblk m c 1 t) j) (congrFun (Memref.IsWhole.read_unread (Memref.isWhole_whole cc0_scratch0) _) j)

/-- What the last step of a block writes is what it leaves in the scratch. -/
theorem out_eq (t : Fin cfg0.N) (h : t.val % 8 = 7) : (outsAt0 m c t.val t.isLt).1 = (outsAt0 m c t.val t.isLt).2 := by
  rw [outsAt0_C m c t (by omega) h]; frame_out

/-- What the call leaves in its result. -/
theorem fin0_2 : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, out_eq m c t h]
  refine (acc_eq m c t h y).trans ((zero_add _).trans ?_)
  refine Fin.sum_mul_add_congr (S := 8) (n := 384) fun s k hl => ?_
  blk_simp [iblk, V]
  congr 1
  · congr 1
    blk_ext [e0, e2]
  · congr 1
    blk_ext [e1, e2]

end Cert.QInIdeal.Hand

namespace Cert.QInReferenceIdeal.Hand

open Idealize.ShloMosaic Cert.QInReferenceIdeal Cert.QInReferenceIdeal.Read Cert.Attn

/-- The reference's product is the same sum. -/
theorem v6_eq (A : Vec Ideal S2048x3072 .bf16) (B : Vec Ideal S8x512x384 .bf16) : val_main_v6 (F := Ideal) A B = Cert.QInIdeal.Hand.prod A B := by
  funext i
  obtain ⟨a, b, rfl⟩ := ex2 i
  pointwise [val_main_v6, val_main_v5, val_main_v3, val_main_v2, val_main_v1]
  rfl

end Cert.QInReferenceIdeal.Hand

namespace Cert.Proof

open Idealize.ShloMosaic Idealize.ShloMosaic.TcCoe Idealize.SL.Sem

/-- Over the extended reals the blocked product and the plain product agree, whatever the arguments. -/
theorem algebraic_qIn : Cert.algebraic_QInIdeal_QInReferenceIdeal := by
  intro m g m' g' _ agree
  refine ⟨fun c => Cert.QInIdeal.Hand.prod (m ((c.tc : Thread _ _).loc Cert.QInIdeal.main_arg0)) (m ((c.tc : Thread _ _).loc Cert.QInIdeal.main_arg1)), ?_, ?_⟩
  · refine (θ_run Cert.QInIdeal.defs _ _).mono (fun r hr c => ?_) (Cert.QInIdeal.Value.run_blocks m g)
    obtain ⟨h, args⟩ := hr c
    exact ⟨h.trans (Cert.QInIdeal.Hand.fin0_2 m c), args⟩
  · refine (θ_run Cert.QInReferenceIdeal.defs _ _).mono (fun r hr c => ?_) (Cert.QInReferenceIdeal.Value.run (F := Ideal) m' g')
    obtain ⟨a0, a1⟩ := agree c
    obtain ⟨r0, args⟩ := hr c
    refine ⟨r0.trans ?_, args⟩
    rw [a0, a1]
    exact (Cert.QInReferenceIdeal.Read.val_main_v6_eq _ _).trans <| Cert.QInReferenceIdeal.Hand.v6_eq _ _

end Cert.Proof
-- ==== Proof.SplitKv.lean ====
module

public import proofs.«01_k».proof.Defs
public import proofs.«01_k».proof.Proof.Gen.KvIn
public import proofs.«01_k».proof.Proof.Gen.KvInIdeal.Value
public import proofs.«01_k».proof.Proof.Gen.KvInReferenceIdeal.Read
public import proofs.«01_k».proof.Proof.ValBase
public import Idealize.ShloMosaic.Lib.Pipeline.ValueKit

@[expose] public section

set_option maxRecDepth 16384

noncomputable section

namespace Cert.KvInIdeal.Hand

open Cert.KvInIdeal Cert.KvInIdeal.Gen
open Idealize.ShloMosaic Idealize.ShloMosaic.TcCoe Idealize.SL.Sem Idealize.ShloMosaic.Pipeline Cert.Attn

/-- The product of the keys' and values' gradient with the transposed weight, whose columns lie in eight slabs. -/
def prod (A : Vec Ideal S2048x4096 .bf16) (B : Vec Ideal S8x512x512 .bf16) : Vec Ideal S2048x512 .f32 := fun i =>
  (∑ k : Fin 4096, (A (ix2 (i 0) k) : EReal) * (B (ix3 ⟨k.val / 512, by omega⟩ (i 1) ⟨k.val % 512, by omega⟩) : EReal) : EReal)

/-- Where the left operand's block sits at a point. -/
theorem e0 : ∀ t : Fin cfg0.N, win0_0.index t = ![t.val / 8, t.val % 8] := (by decide +kernel : ∀ t : Fin grid0.N, _)
/-- Where the right operand's block sits at a point. -/
theorem e1 : ∀ t : Fin cfg0.N, win0_1.index t = ![t.val % 8, 0, 0] := (by decide +kernel : ∀ t : Fin grid0.N, _)
/-- Where the result's block sits at a point. -/
theorem e2 : ∀ t : Fin cfg0.N, win0_2.index t = ![t.val / 8, 0] := (by decide +kernel : ∀ t : Fin grid0.N, _)

/-- The part of a block's product that one step adds. -/
def part (x0 : Vec Ideal S1024x512 .bf16) (x1 : Vec Ideal S1x512x512 .bf16) : Vec Ideal S1024x512 .f32 := fun j =>
  (∑ k : Fin 512, (x0 (ix2 (j 0) k) : EReal) * (x1 (ix3 0 (j 1) k) : EReal) : EReal)

/-- A step adds its part. -/
theorem pay (acc : Vec Ideal S1024x512 .f32) (x1 : Vec Ideal S1x512x512 .bf16) (x0 : Vec Ideal S1024x512 .bf16) (j : S1024x512.Idx) :
    k0_pay2 acc x1 x0 j = acc j + part x0 x1 j := by
  obtain ⟨a, b, rfl⟩ := ex2 j
  pointwise [k0_pay2, ofBits_zero]
  simp [part]

/-- The first step starts from zero. -/
theorem pay0 (j : S1024x512.Idx) : k0_pay1 (F := Ideal) j = (0 : EReal) := by
  obtain ⟨a, b, rfl⟩ := ex2 j
  pointwise [k0_pay1, ofBits_zero]

variable (m : (ℓ : Loc nD τ sig) → Buf (Elt Ideal) ℓ) (c : Dev nD)

/-- The scratch after the last step of a block. -/
theorem acc_eq (t : Fin cfg0.N) (h : t.val % 8 = 7) (j : S1024x512.Idx) :
    (outsAt0 m c t.val t.isLt).2 j = (0 : EReal) + ∑ s : Fin 8, (part (iblk m c 0 ⟨8 * (t.val / 8) + s.val, run_point_lt_of_flush t h s⟩) (iblk m c 1 ⟨8 * (t.val / 8) + s.val, run_point_lt_of_flush t h s⟩) j : EReal) := by
  refine eq_sum_fin_of_reset_step_apply_of_flush (M := EReal) (fun n h => (outsAt0 m c n h).2) 8 (fun _ => 0) (fun t j => part (iblk m c 0 t) (iblk m c 1 t) j) ?_ ?_ t h j
  · intro t h j
    rw [outsAt0_A m c t h (by omega)]; frame_out; rw [pay, pay0]
  · intro t h j
    by_cases h1 : t.val % 8 = 7
    · rw [outsAt0_C m c t h h1]; frame_out; rw [pay]
      exact congrArg (· + part (iblk m c 0 t) (iblk m c 1 t) j) (congrFun (Memref.IsWhole.read_unread (Memref.isWhole_whole cc0_scratch0) _) j)
    · rw [outsAt0_B m c t h h1]; frame_out; rw [pay]
      exact congrArg (· + part (iblk m c 0 t) (iblk m c 1 t) j) (congrFun (Memref.IsWhole.read_unread (Memref.isWhole_whole cc0_scratch0) _) j)

/-- What the last step of a block writes is what it leaves in the scratch. -/
theorem out_eq (t : Fin cfg0.N) (h : t.val % 8 = 7) : (outsAt0 m c t.val t.isLt).1 = (outsAt0 m c t.val t.isLt).2 := by
  rw [outsAt0_C m c t (by omega) h]; frame_out

/-- What the call leaves in its result. -/
theorem fin0_2 : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, out_eq m c t h]
  refine (acc_eq m c t h y).trans ((zero_add _).trans ?_)
  refine Fin.sum_mul_add_congr (S := 8) (n := 512) fun s k hl => ?_
  blk_simp [iblk, V]
  congr 1
  · congr 1
    blk_ext [e0, e2]
  · congr 1
    blk_ext [e1, e2]

end Cert.KvInIdeal.Hand

namespace Cert.KvInReferenceIdeal.Hand

open Idealize.ShloMosaic Cert.KvInReferenceIdeal Cert.KvInReferenceIdeal.Read Cert.Attn

/-- The reference's product is the same sum. -/
theorem v6_eq (A : Vec Ideal S2048x4096 .bf16) (B : Vec Ideal S8x512x512 .bf16) : val_main_v6 (F := Ideal) A B = Cert.KvInIdeal.Hand.prod A B := by
  funext i
  obtain ⟨a, b, rfl⟩ := ex2 i
  pointwise [val_main_v6, val_main_v5, val_main_v3, val_main_v2, val_main_v1]
  rfl

end Cert.KvInReferenceIdeal.Hand

namespace Cert.Proof

open Idealize.ShloMosaic Idealize.ShloMosaic.TcCoe Idealize.SL.Sem

/-- Over the extended reals the blocked product and the plain product agree, whatever the arguments. -/
theorem algebraic_kvIn : Cert.algebraic_KvInIdeal_KvInReferenceIdeal := by
  intro m g m' g' _ agree
  refine ⟨fun c => Cert.KvInIdeal.Hand.prod (m ((c.tc : Thread _ _).loc Cert.KvInIdeal.main_arg0)) (m ((c.tc : Thread _ _).loc Cert.KvInIdeal.main_arg1)), ?_, ?_⟩
  · refine (θ_run Cert.KvInIdeal.defs _ _).mono (fun r hr c => ?_) (Cert.KvInIdeal.Value.run_blocks m g)
    obtain ⟨h, args⟩ := hr c
    exact ⟨h.trans (Cert.KvInIdeal.Hand.fin0_2 m c), args⟩
  · refine (θ_run Cert.KvInReferenceIdeal.defs _ _).mono (fun r hr c => ?_) (Cert.KvInReferenceIdeal.Value.run (F := Ideal) m' g')
    obtain ⟨a0, a1⟩ := agree c
    obtain ⟨r0, args⟩ := hr c
    refine ⟨r0.trans ?_, args⟩
    rw [a0, a1]
    exact (Cert.KvInReferenceIdeal.Read.val_main_v6_eq _ _).trans <| Cert.KvInReferenceIdeal.Hand.v6_eq _ _

end Cert.Proof
-- ==== Proof.ConvVal.lean ====
module

public import proofs.«01_k».proof.Proof.Runs
public import proofs.«01_k».proof.Proof.Sig
public import Idealize.ShloMosaic.Lib.Pipeline.ValueKit

@[expose] public section

set_option maxRecDepth 16384

noncomputable section

namespace Cert.ConvIdeal.Hand

open Cert.ConvIdeal Cert.ConvIdeal.Gen
open Idealize.ShloMosaic Idealize.ShloMosaic.TcCoe Idealize.SL.Sem Idealize.ShloMosaic.Pipeline Cert.Attn

/-! ## Shifted columns -/

/-- A column moved down by some rows, zero above. -/
def down (k : Nat) (f : Fin 2048 → EReal) (a : Fin 2048) : EReal := if k ≤ a.val then f ⟨a.val - k, by omega⟩ else 0

/-- A column moved up by some rows, zero below. -/
def up (k : Nat) (f : Fin 2048 → EReal) (a : Fin 2048) : EReal := if h : a.val + k < 2048 then f ⟨a.val + k, h⟩ else 0

/-- The convolution of a column with three taps. -/
def taps (w2 w1 w0 : EReal) (f : Fin 2048 → EReal) (a : Fin 2048) : EReal := w2 * f a + w1 * down 1 f a + w0 * down 2 f a

/-- The transpose of the convolution. -/
def tapsT (w2 w1 w0 : EReal) (f : Fin 2048 → EReal) (a : Fin 2048) : EReal := w2 * f a + w1 * up 1 f a + w0 * up 2 f a

/-- The convolution of equal columns with equal taps. -/
theorem taps_same {w2 w1 w0 v2 v1 v0 : EReal} {f g : Fin 2048 → EReal} (h2 : w2 = v2) (h1 : w1 = v1) (h0 : w0 = v0) (h : ∀ r, f r = g r) {a d : Fin 2048} (ha : a = d) :
    taps w2 w1 w0 f a = taps v2 v1 v0 g d := by
  subst h2 h1 h0 ha
  rw [show f = g from funext h]

/-- The transpose of the convolution of equal columns with equal taps. -/
theorem tapsT_same {w2 w1 w0 v2 v1 v0 : EReal} {f g : Fin 2048 → EReal} (h2 : w2 = v2) (h1 : w1 = v1) (h0 : w0 = v0) (h : ∀ r, f r = g r) {a d : Fin 2048} (ha : a = d) :
    tapsT w2 w1 w0 f a = tapsT v2 v1 v0 g d := by
  subst h2 h1 h0 ha
  rw [show f = g from funext h]

/-- A column moved down by equal rows. -/
theorem down_same (k : Nat) {f g : Fin 2048 → EReal} (h : ∀ r, f r = g r) {a : Fin 2048} : down k f a = down k g a := by
  rw [show f = g from funext h]

/-- A column not moved. -/
theorem down_zero (f : Fin 2048 → EReal) (a : Fin 2048) : down 0 f a = f a := rfl

/-- A small row number as a signed word. -/
theorem toInt_small (m : Nat) (hm : m < 4096) : (BitVec.ofNat 32 m).toInt = (m : Int) := by
  rw [BitVec.toInt_eq_toNat_of_lt (by rw [BitVec.toNat_ofNat]; omega), BitVec.toNat_ofNat, Nat.mod_eq_of_lt (by omega)]

/-- The comparison of two small row numbers. -/
theorem sle_small (m n : Nat) (hm : m < 4096) (hn : n < 4096) : (BitVec.ofNat 32 n).sle (BitVec.ofNat 32 m) = decide (n ≤ m) := by
  rw [BitVec.sle_eq_decide, toInt_small m hm, toInt_small n hn]
  exact decide_eq_decide.mpr (by omega)

/-- The strict comparison of two small row numbers. -/
theorem slt_small (m n : Nat) (hm : m < 4096) (hn : n < 4096) : (BitVec.ofNat 32 m).slt (BitVec.ofNat 32 n) = decide (m < n) := by
  rw [BitVec.slt_eq_decide, toInt_small m hm, toInt_small n hn]
  exact decide_eq_decide.mpr (by omega)

/-- The rows from a given one on. -/
theorem sel_ge (n : Nat) (hn : n < 2048) (a : Fin 2048) (x : EReal) :
    Scalar.select (IntOp.cmpi .sge (BitVec.ofNat 32 a.val) (BitVec.ofNat 32 n)) x 0 = if n ≤ a.val then x else 0 := by
  have e : IntOp.cmpi .sge (BitVec.ofNat 32 a.val) (BitVec.ofNat 32 n) = BitVec.ofBool (decide (n ≤ a.val)) :=
    congrArg BitVec.ofBool (sle_small a.val n (by omega) (by omega))
  rw [e]
  by_cases h : n ≤ a.val
  · rw [decide_eq_true h, if_pos h]; rfl
  · rw [decide_eq_false h, if_neg h]; rfl

/-- The rows before a given one. -/
theorem sel_lt (n : Nat) (hn : n < 2048) (a : Fin 2048) (x : EReal) :
    Scalar.select (IntOp.cmpi .slt (BitVec.ofNat 32 a.val) (BitVec.ofNat 32 n)) x 0 = if a.val < n then x else 0 := by
  have e : IntOp.cmpi .slt (BitVec.ofNat 32 a.val) (BitVec.ofNat 32 n) = BitVec.ofBool (decide (a.val < n)) :=
    congrArg BitVec.ofBool (slt_small a.val n (by omega) (by omega))
  rw [e]
  by_cases h : a.val < n
  · rw [decide_eq_true h, if_pos h]; rfl
  · rw [decide_eq_false h, if_neg h]; rfl

/-- A column turned by some rows and cut is the column moved down. -/
theorem turn_down (k : Nat) (hk : k < 2048) (f : Fin 2048 → EReal) (a : Fin 2048) (h : (a.val + 2048 - k) % 2048 < 2048) :
    Scalar.select (IntOp.cmpi .sge (BitVec.ofNat 32 a.val) (BitVec.ofNat 32 k)) (f ⟨(a.val + 2048 - k) % 2048, h⟩) 0 = down k f a := by
  rw [sel_ge k hk]
  unfold down
  by_cases h : k ≤ a.val
  · rw [if_pos h, if_pos h]
    exact congrArg f (Fin.ext (by show (a.val + 2048 - k) % 2048 = a.val - k; omega))
  · rw [if_neg h, if_neg h]

/-- A column turned the other way and cut is the column moved up. -/
theorem turn_up (k n : Nat) (hk : k + n = 2048) (h0 : 0 < k) (f : Fin 2048 → EReal) (a : Fin 2048) (h : (a.val + 2048 - n) % 2048 < 2048) :
    Scalar.select (IntOp.cmpi .slt (BitVec.ofNat 32 a.val) (BitVec.ofNat 32 n)) (f ⟨(a.val + 2048 - n) % 2048, h⟩) 0 = up k f a := by
  rw [sel_lt n (by omega)]
  unfold up
  by_cases h : a.val < n
  · rw [if_pos h, dif_pos (by omega)]
    exact congrArg f (Fin.ext (by show (a.val + 2048 - n) % 2048 = a.val + k; omega))
  · rw [if_neg h, dif_neg (by omega)]

/-- A factor goes into the column moved down. -/
theorem down_mul (k : Nat) (w : EReal) (f : Fin 2048 → EReal) (a : Fin 2048) : down k (fun r => w * f r) a = w * down k f a := by
  unfold down
  split
  · rfl
  · exact (mul_zero w).symm

/-- A factor goes into the column moved up. -/
theorem up_mul (k : Nat) (w : EReal) (f : Fin 2048 → EReal) (a : Fin 2048) : up k (fun r => w * f r) a = w * up k f a := by
  unfold up
  split
  · rfl
  · exact (mul_zero w).symm

/-! ## The arrays -/

/-- A column of the projection, from a given one on. -/
def part (o : Nat) (ho : o + 2048 ≤ 11520) (P : Vec Ideal S2048x11520 .bf16) (a b : Fin 2048) : EReal := P (ix2 a ⟨o + b.val, by omega⟩)

/-- The gate of the convolution's output. -/
def gB (P : Vec Ideal S2048x11520 .bf16) : Fin 2048 → Fin 2048 → EReal := part 1280 (by decide) P
/-- The first factor of the convolution's input. -/
def gC (P : Vec Ideal S2048x11520 .bf16) : Fin 2048 → Fin 2048 → EReal := part 3328 (by decide) P
/-- The second factor of the convolution's input. -/
def gX (P : Vec Ideal S2048x11520 .bf16) : Fin 2048 → Fin 2048 → EReal := part 5376 (by decide) P

/-- The convolution's input. -/
def zIn (P : Vec Ideal S2048x11520 .bf16) (a b : Fin 2048) : EReal := gC P a b * gX P a b

/-- The convolution's output, before its gate. -/
def cv (P : Vec Ideal S2048x11520 .bf16) (W : Vec Ideal S3x2048 .f32) (a b : Fin 2048) : EReal :=
  taps (W (ix2 2 b)) (W (ix2 1 b)) (W (ix2 0 b)) (fun r => zIn P r b) a

/-- The cotangent of the convolution's output, before its gate. -/
def dcv (G : Vec Ideal S2048x2048 .bf16) (P : Vec Ideal S2048x11520 .bf16) (a b : Fin 2048) : EReal := (G (ix2 a b) : EReal) * gB P a b

/-- The cotangent of the convolution's input. -/
def dz (G : Vec Ideal S2048x2048 .bf16) (P : Vec Ideal S2048x11520 .bf16) (W : Vec Ideal S3x2048 .f32) (a b : Fin 2048) : EReal :=
  tapsT (W (ix2 2 b)) (W (ix2 1 b)) (W (ix2 0 b)) (fun r => dcv G P r b) a

/-- The gated convolution. -/
def outA (P : Vec Ideal S2048x11520 .bf16) (W : Vec Ideal S3x2048 .f32) : Vec Ideal S2048x2048 .bf16 := fun i => gB P (i 0) (i 1) * cv P W (i 0) (i 1)

/-- The gradient of the gate. -/
def dB (G : Vec Ideal S2048x2048 .bf16) (P : Vec Ideal S2048x11520 .bf16) (W : Vec Ideal S3x2048 .f32) : Vec Ideal S2048x2048 .bf16 := fun i =>
  (G (ix2 (i 0) (i 1)) : EReal) * cv P W (i 0) (i 1)

/-- The gradient of the first factor. -/
def dC (G : Vec Ideal S2048x2048 .bf16) (P : Vec Ideal S2048x11520 .bf16) (W : Vec Ideal S3x2048 .f32) : Vec Ideal S2048x2048 .bf16 := fun i =>
  dz G P W (i 0) (i 1) * gX P (i 0) (i 1)

/-- The gradient of the second factor. -/
def dX (G : Vec Ideal S2048x2048 .bf16) (P : Vec Ideal S2048x11520 .bf16) (W : Vec Ideal S3x2048 .f32) : Vec Ideal S2048x2048 .bf16 := fun i =>
  dz G P W (i 0) (i 1) * gC P (i 0) (i 1)

/-- The gradient of the tap that looks some rows back. -/
def dTap (k : Nat) (G : Vec Ideal S2048x2048 .bf16) (P : Vec Ideal S2048x11520 .bf16) (b : Fin 2048) : EReal :=
  (∑ r : Fin 2048, dcv G P r b * down k (fun s => zIn P s b) r : EReal)

/-- The taps' gradients, with five rows of zeros after them. -/
def dW8 (G : Vec Ideal S2048x2048 .bf16) (P : Vec Ideal S2048x11520 .bf16) : Vec Ideal S8x2048 .f32 := fun i =>
  if (i 0).val < 3 then dTap (2 - (i 0).val) G P (i 1) else 0

/-- The taps' gradients. -/
def dW (G : Vec Ideal S2048x2048 .bf16) (P : Vec Ideal S2048x11520 .bf16) : Vec Ideal S3x2048 .f32 := fun i => dTap (2 - (i 0).val) G P (i 1)

/-! ## What the bodies compute -/

/-- The gated convolution in a block. -/
theorem pay0 (cc cx cb : Vec Ideal S2048x256 .bf16) (w2 w1 w0 : Vec Ideal S1x256 .f32) (a : Fin 2048) (b : Fin 256) :
    k0_pay1 cc cx w2 w1 w0 cb (ix2 a b) = (cb (ix2 a b) : EReal) * taps (w2 (ix2 0 b)) (w1 (ix2 0 b)) (w0 (ix2 0 b)) (fun r => (cc (ix2 r b) : EReal) * (cx (ix2 r b) : EReal)) a := by
  pointwise [k0_pay1, ofBits_zero]
  unfold taps
  rw [← down_mul, ← down_mul]
  refine congrArg₂ (fun x y : EReal => x * y) rfl (congrArg₂ (fun x y : EReal => x + y) (congrArg₂ (fun x y : EReal => x + y) rfl ?_) ?_)
  · exact turn_down 1 (by decide) (fun r => (w1 (ix2 0 b) : EReal) * ((cc (ix2 r b) : EReal) * (cx (ix2 r b) : EReal))) a _
  · exact turn_down 2 (by decide) (fun r => (w0 (ix2 0 b) : EReal) * ((cc (ix2 r b) : EReal) * (cx (ix2 r b) : EReal))) a _

/-- The first factor, widened. -/
theorem pay4 (x : Vec Ideal S2048x256 .bf16) (a : Fin 2048) (b : Fin 256) : k1_pay4 x (ix2 a b) = (x (ix2 a b) : EReal) := by
  pointwise [k1_pay4]

/-- The second factor, widened. -/
theorem pay5 (x : Vec Ideal S2048x256 .bf16) (a : Fin 2048) (b : Fin 256) : k1_pay5 x (ix2 a b) = (x (ix2 a b) : EReal) := by
  pointwise [k1_pay5]

/-- The convolution's input in a block. -/
theorem pay6 (cc cx : Vec Ideal S2048x256 .bf16) (a : Fin 2048) (b : Fin 256) : k1_pay6 cc cx (ix2 a b) = (cc (ix2 a b) : EReal) * (cx (ix2 a b) : EReal) := by
  pointwise [k1_pay6, k1_pay4, k1_pay5]

/-- The convolution's input a row down. -/
theorem pay7 (cc cx : Vec Ideal S2048x256 .bf16) (a : Fin 2048) (b : Fin 256) :
    k1_pay7 cc cx (ix2 a b) = down 1 (fun r => (cc (ix2 r b) : EReal) * (cx (ix2 r b) : EReal)) a := by
  pointwise [k1_pay7, ofBits_zero, pay6]
  exact turn_down 1 (by decide) (fun r => (cc (ix2 r b) : EReal) * (cx (ix2 r b) : EReal)) a _

/-- The convolution's input two rows down. -/
theorem pay8 (cc cx : Vec Ideal S2048x256 .bf16) (a : Fin 2048) (b : Fin 256) :
    k1_pay8 cc cx (ix2 a b) = down 2 (fun r => (cc (ix2 r b) : EReal) * (cx (ix2 r b) : EReal)) a := by
  pointwise [k1_pay8, ofBits_zero, pay6]
  exact turn_down 2 (by decide) (fun r => (cc (ix2 r b) : EReal) * (cx (ix2 r b) : EReal)) a _

/-- The gate's gradient in a block. -/
theorem pay9 (d cc cx : Vec Ideal S2048x256 .bf16) (w2 w1 w0 : Vec Ideal S1x256 .f32) (a : Fin 2048) (b : Fin 256) :
    k1_pay9 d cc cx w2 w1 w0 (ix2 a b) = (d (ix2 a b) : EReal) * taps (w2 (ix2 0 b)) (w1 (ix2 0 b)) (w0 (ix2 0 b)) (fun r => (cc (ix2 r b) : EReal) * (cx (ix2 r b) : EReal)) a := by
  pointwise [k1_pay9, ofBits_zero, pay6, pay7, pay8, k1_pay3]
  rfl

/-- The cotangent behind the gate in a block. -/
theorem pay10 (d cb : Vec Ideal S2048x256 .bf16) (a : Fin 2048) (b : Fin 256) : k1_pay10 d cb (ix2 a b) = (d (ix2 a b) : EReal) * (cb (ix2 a b) : EReal) := by
  pointwise [k1_pay10, k1_pay3]

/-- The cotangent of the convolution's input in a block. -/
theorem pay11 (d : Vec Ideal S2048x256 .f32) (w2 w1 w0 : Vec Ideal S1x256 .f32) (a : Fin 2048) (b : Fin 256) :
    k1_pay11 d w2 w1 w0 (ix2 a b) = tapsT (w2 (ix2 0 b)) (w1 (ix2 0 b)) (w0 (ix2 0 b)) (fun r => d (ix2 r b)) a := by
  pointwise [k1_pay11, ofBits_zero]
  unfold tapsT
  rw [← up_mul, ← up_mul]
  refine congrArg₂ (fun x y : EReal => x + y) (congrArg₂ (fun x y : EReal => x + y) rfl ?_) ?_
  · exact turn_up 1 2047 (by decide) (by decide) (fun r => (w1 (ix2 0 b) : EReal) * (d (ix2 r b) : EReal)) a _
  · exact turn_up 2 2046 (by decide) (by decide) (fun r => (w0 (ix2 0 b) : EReal) * (d (ix2 r b) : EReal)) a _

/-- The first factor's gradient in a block. -/
theorem pay12 (x d : Vec Ideal S2048x256 .f32) (w2 w1 w0 : Vec Ideal S1x256 .f32) (a : Fin 2048) (b : Fin 256) :
    k1_pay12 x d w2 w1 w0 (ix2 a b) = tapsT (w2 (ix2 0 b)) (w1 (ix2 0 b)) (w0 (ix2 0 b)) (fun r => d (ix2 r b)) a * (x (ix2 a b) : EReal) := by
  pointwise [k1_pay12, pay11]

/-- The second factor's gradient in a block. -/
theorem pay13 (x d : Vec Ideal S2048x256 .f32) (w2 w1 w0 : Vec Ideal S1x256 .f32) (a : Fin 2048) (b : Fin 256) :
    k1_pay13 x d w2 w1 w0 (ix2 a b) = tapsT (w2 (ix2 0 b)) (w1 (ix2 0 b)) (w0 (ix2 0 b)) (fun r => d (ix2 r b)) a * (x (ix2 a b) : EReal) := by
  pointwise [k1_pay13, pay11]

/-- A row of the taps' gradients. -/
theorem pay15 (z d : FVec Ideal S2048x256 .f32) (a : Fin 1) (b : Fin 256) : k1_pay15 z d (ix2 a b) = (∑ r : Fin 2048, (d (ix2 r b) : EReal) * (z (ix2 r b) : EReal) : EReal) := by
  pointwise [k1_pay15, ofBits_zero]

/-- A row of the taps' gradients. -/
theorem pay1 (z d : FVec Ideal S2048x256 .f32) (a : Fin 1) (b : Fin 256) : k1_pay1 z d (ix2 a b) = (∑ r : Fin 2048, (d (ix2 r b) : EReal) * (z (ix2 r b) : EReal) : EReal) := by
  pointwise [k1_pay1, ofBits_zero]

/-- A row of the taps' gradients. -/
theorem pay2 (z d : FVec Ideal S2048x256 .f32) (a : Fin 1) (b : Fin 256) : k1_pay2 z d (ix2 a b) = (∑ r : Fin 2048, (d (ix2 r b) : EReal) * (z (ix2 r b) : EReal) : EReal) := by
  pointwise [k1_pay2, ofBits_zero]

/-- The rows of zeros. -/
theorem pay14 (y : S8x256.Idx) : k1_pay14 (F := Ideal) y = (0 : EReal) := by
  obtain ⟨a, b, rfl⟩ := ex2 y
  pointwise [k1_pay14, ofBits_zero]

/-! ## Where the blocks sit -/

/-- The gate's block in the forward call. -/
theorem e00 : ∀ t : Fin cfg0.N, win0_0.index t = ![0, 5 + t.val] := (by decide +kernel : ∀ t : Fin grid0.N, _)
/-- The first factor's block in the forward call. -/
theorem e01 : ∀ t : Fin cfg0.N, win0_1.index t = ![0, 13 + t.val] := (by decide +kernel : ∀ t : Fin grid0.N, _)
/-- The second factor's block in the forward call. -/
theorem e02 : ∀ t : Fin cfg0.N, win0_2.index t = ![0, 21 + t.val] := (by decide +kernel : ∀ t : Fin grid0.N, _)
/-- The taps' block in the forward call. -/
theorem e03 : ∀ t : Fin cfg0.N, win0_3.index t = ![0, t.val] := (by decide +kernel : ∀ t : Fin grid0.N, _)
/-- The output's block in the forward call. -/
theorem e04 : ∀ t : Fin cfg0.N, win0_4.index t = ![0, t.val] := (by decide +kernel : ∀ t : Fin grid0.N, _)
/-- The cotangent's block in the backward call. -/
theorem e10 : ∀ t : Fin cfg1.N, win1_0.index t = ![0, t.val] := (by decide +kernel : ∀ t : Fin grid1.N, _)
/-- The gate's block in the backward call. -/
theorem e11 : ∀ t : Fin cfg1.N, win1_1.index t = ![0, 5 + t.val] := (by decide +kernel : ∀ t : Fin grid1.N, _)
/-- The first factor's block in the backward call. -/
theorem e12 : ∀ t : Fin cfg1.N, win1_2.index t = ![0, 13 + t.val] := (by decide +kernel : ∀ t : Fin grid1.N, _)
/-- The second factor's block in the backward call. -/
theorem e13 : ∀ t : Fin cfg1.N, win1_3.index t = ![0, 21 + t.val] := (by decide +kernel : ∀ t : Fin grid1.N, _)
/-- The taps' block in the backward call. -/
theorem e14 : ∀ t : Fin cfg1.N, win1_4.index t = ![0, t.val] := (by decide +kernel : ∀ t : Fin grid1.N, _)
/-- The gate's gradient's block. -/
theorem e15 : ∀ t : Fin cfg1.N, win1_5.index t = ![0, t.val] := (by decide +kernel : ∀ t : Fin grid1.N, _)
/-- The first factor's gradient's block. -/
theorem e16 : ∀ t : Fin cfg1.N, win1_6.index t = ![0, t.val] := (by decide +kernel : ∀ t : Fin grid1.N, _)
/-- The second factor's gradient's block. -/
theorem e17 : ∀ t : Fin cfg1.N, win1_7.index t = ![0, t.val] := (by decide +kernel : ∀ t : Fin grid1.N, _)
/-- The taps' gradients' block. -/
theorem e18 : ∀ t : Fin cfg1.N, win1_8.index t = ![0, t.val] := (by decide +kernel : ∀ t : Fin grid1.N, _)

/-! ## Rows of small blocks -/

/-- A row of the block of the taps. -/
theorem tap_row (o : Fin 3) (X : Vec Ideal S3x256 .f32) (inb : ∀ a, (![o.val, 0] : Fin 2 → Nat) a + S1x256.size a ≤ S3x256.size a) (b : Fin 256) :
    View.ld (Val := Elt Ideal) (e' := .f32) X (Rect.unit (s := S3x256) ![o.val, 0] S1x256.size inb) (ix2 (0 : Fin 1) b) = X (ix2 o b) := by
  refine congrArg X ?_
  refine ext2 ?_ ?_
  · show o.val + 1 * 0 = o.val
    omega
  · show 0 + 1 * b.val = b.val
    omega

/-- A row stored last is read back. -/
theorem row_hit (o : Fin 8) (inb : ∀ a, (![o.val, 0] : Fin 2 → Nat) a + S1x256.size a ≤ S8x256.size a) (w : S1x256.Idx → Elt Ideal .f32)
    (L : List (View.Piece (Elt Ideal) S8x256 .f32)) (b : Fin 256) :
    View.canon ((⟨Rect.unit (s := S8x256) ![o.val, 0] S1x256.size inb, w⟩ : View.Piece (Elt Ideal) S8x256 .f32) :: L) (ix2 o b) = w (ix2 (0 : Fin 1) b) := by
  have he : (Rect.unit (s := S8x256) ![o.val, 0] S1x256.size inb).emb (ix2 (0 : Fin 1) b) = ix2 o b := by
    refine ext2 ?_ ?_
    · show o.val + 1 * 0 = o.val
      omega
    · show 0 + 1 * b.val = b.val
      omega
  rw [← he]
  exact View.canon_cons_emb (Rect.unit (s := S8x256) ![o.val, 0] S1x256.size inb) w L (ix2 (0 : Fin 1) b)

/-- Another row stored last leaves this one. -/
theorem row_miss (o : Nat) (inb : ∀ a, (![o, 0] : Fin 2 → Nat) a + S1x256.size a ≤ S8x256.size a) (w : S1x256.Idx → Elt Ideal .f32)
    (L : List (View.Piece (Elt Ideal) S8x256 .f32)) (a : Fin 8) (h : o ≠ a.val) (b : Fin 256) :
    View.canon ((⟨Rect.unit (s := S8x256) ![o, 0] S1x256.size inb, w⟩ : View.Piece (Elt Ideal) S8x256 .f32) :: L) (ix2 a b) = View.canon L (ix2 a b) := by
  refine View.canon_cons_of_not_mem _ L fun hm => ?_
  obtain ⟨i, hi, he⟩ := (LoadRect.mem_set _).mp hm (0 : Fin 2)
  have hi1 : i < 1 := hi
  have he' : a.val = o + 1 * i := he
  omega

/-- A whole block stored is read back. -/
theorem all_hit (inb : ∀ a, (![0, 0] : Fin 2 → Nat) a + S8x256.size a ≤ S8x256.size a) (w : S8x256.Idx → Elt Ideal .f32)
    (L : List (View.Piece (Elt Ideal) S8x256 .f32)) (a : Fin 8) (b : Fin 256) :
    View.canon ((⟨Rect.unit (s := S8x256) ![0, 0] S8x256.size inb, w⟩ : View.Piece (Elt Ideal) S8x256 .f32) :: L) (ix2 a b) = w (ix2 a b) := by
  have he : (Rect.unit (s := S8x256) ![0, 0] S8x256.size inb).emb (ix2 a b) = ix2 a b := by
    refine ext2 ?_ ?_
    · show 0 + 1 * a.val = a.val
      omega
    · show 0 + 1 * b.val = b.val
      omega
  exact (congrArg (View.canon _) he.symm).trans (View.canon_cons_emb (Rect.unit (s := S8x256) ![0, 0] S8x256.size inb) w L (ix2 a b))

/-- Three rows over a block: which one an element is in. -/
theorem rows3 (i2 : ∀ a, (![2, 0] : Fin 2 → Nat) a + S1x256.size a ≤ S8x256.size a) (i1 : ∀ a, (![1, 0] : Fin 2 → Nat) a + S1x256.size a ≤ S8x256.size a)
    (i0 : ∀ a, (![0, 0] : Fin 2 → Nat) a + S1x256.size a ≤ S8x256.size a) (iz : ∀ a, (![0, 0] : Fin 2 → Nat) a + S8x256.size a ≤ S8x256.size a)
    (r2 r1 r0 : S1x256.Idx → Elt Ideal .f32) (z : S8x256.Idx → Elt Ideal .f32) (f : Nat → EReal) (b : Fin 256)
    (h0 : r0 (ix2 (0 : Fin 1) b) = f 2) (h1 : r1 (ix2 (0 : Fin 1) b) = f 1) (h2 : r2 (ix2 (0 : Fin 1) b) = f 0) (hz : ∀ y, z y = (0 : EReal)) (a : Fin 8) :
    View.canon [(⟨Rect.unit (s := S8x256) ![2, 0] S1x256.size i2, r2⟩ : View.Piece (Elt Ideal) S8x256 .f32), ⟨Rect.unit (s := S8x256) ![1, 0] S1x256.size i1, r1⟩,
      ⟨Rect.unit (s := S8x256) ![0, 0] S1x256.size i0, r0⟩, ⟨Rect.unit (s := S8x256) ![0, 0] S8x256.size iz, z⟩] (ix2 a b)
      = if a.val < 3 then f (2 - a.val) else (0 : EReal) := by
  by_cases e2 : a = 2
  · subst e2
    exact (row_hit 2 i2 r2 _ b).trans h2
  have n2 : 2 ≠ a.val := fun h => e2 (Fin.ext h.symm)
  refine (row_miss 2 i2 r2 _ a n2 b).trans ?_
  by_cases e1 : a = 1
  · subst e1
    exact (row_hit 1 i1 r1 _ b).trans h1
  have n1 : 1 ≠ a.val := fun h => e1 (Fin.ext h.symm)
  refine (row_miss 1 i1 r1 _ a n1 b).trans ?_
  by_cases e0 : a = 0
  · subst e0
    exact (row_hit 0 i0 r0 _ b).trans h0
  have n0 : 0 ≠ a.val := fun h => e0 (Fin.ext h.symm)
  refine (row_miss 0 i0 r0 _ a n0 b).trans ((all_hit iz z _ a b).trans ((hz _).trans ?_))
  rw [if_neg (by omega)]

/-! ## What each call leaves, for any contents at its entry -/

section
variable (V : (c : Dev nD) → (b : Ref sig .tc) → Buf (Elt Ideal) ((c : Thread nD τ).loc b)) (c : Dev nD)

/-- The gated convolution. -/
theorem fin0 : (dat0 V c).arrAt 4 cfg0.N = outA (V c main_arg1) (V c main_arg2) := by
  refine (dat0 V c).arrAt_eq_of_covers 4 _ (by decide +kernel) fun t hf y => ?_
  obtain ⟨a, b, rfl⟩ := ex2 y
  blk_simp
  rw [after0_4]; frame_out; rw [pay0]
  unfold outA cv zIn gB gC gX part
  refine congrArg₂ (fun x y : EReal => x * y) ?_ (taps_same ?_ ?_ ?_ (fun r => congrArg₂ (fun x y : EReal => x * y) ?_ ?_) ?_)
  · blk_simp [iblk0]
    congr 1
    blk_ext [e00, e04]
  · refine (tap_row 2 _ _ b).trans ?_
    blk_simp [iblk0]
    congr 1
    blk_ext [e03, e04]
  · refine (tap_row 1 _ _ b).trans ?_
    blk_simp [iblk0]
    congr 1
    blk_ext [e03, e04]
  · refine (tap_row 0 _ _ b).trans ?_
    blk_simp [iblk0]
    congr 1
    blk_ext [e03, e04]
  · blk_simp [iblk0]
    congr 1
    blk_ext [e01, e04]
  · blk_simp [iblk0]
    congr 1
    blk_ext [e02, e04]
  · refine Fin.ext ?_
    blk_simp [e04]

/-- The gate's gradient. -/
theorem fin5 : (dat1 V c).arrAt 5 cfg1.N = dB (V c main_arg0) (V c main_arg1) (V c main_arg2) := by
  refine (dat1 V c).arrAt_eq_of_covers 5 _ (by decide +kernel) fun t hf y => ?_
  obtain ⟨a, b, rfl⟩ := ex2 y
  blk_simp
  rw [after1_5]; unfold outsAt1; dsimp only; unfold out1_A_5; frame_out; rw [pay9]
  unfold dB cv zIn gC gX part
  refine congrArg₂ (fun x y : EReal => x * y) ?_ (taps_same ?_ ?_ ?_ (fun r => congrArg₂ (fun x y : EReal => x * y) ?_ ?_) ?_)
  · blk_simp [iblk1]
    congr 1
    blk_ext [e10, e15]
  · refine (tap_row 2 _ _ b).trans ?_
    blk_simp [iblk1]
    congr 1
    blk_ext [e14, e15]
  · refine (tap_row 1 _ _ b).trans ?_
    blk_simp [iblk1]
    congr 1
    blk_ext [e14, e15]
  · refine (tap_row 0 _ _ b).trans ?_
    blk_simp [iblk1]
    congr 1
    blk_ext [e14, e15]
  · blk_simp [iblk1]
    congr 1
    blk_ext [e12, e15]
  · blk_simp [iblk1]
    congr 1
    blk_ext [e13, e15]
  · refine Fin.ext ?_
    blk_simp [e15]

/-- The first factor's gradient. -/
theorem fin6 : (dat1 V c).arrAt 6 cfg1.N = dC (V c main_arg0) (V c main_arg1) (V c main_arg2) := by
  refine (dat1 V c).arrAt_eq_of_covers 6 _ (by decide +kernel) fun t hf y => ?_
  obtain ⟨a, b, rfl⟩ := ex2 y
  blk_simp
  rw [after1_6]; unfold outsAt1; dsimp only; unfold out1_A_6; frame_out; rw [pay12]
  unfold dC dz dcv gB gX part
  refine congrArg₂ (fun x y : EReal => x * y) (tapsT_same ?_ ?_ ?_ (fun r => (pay10 _ _ r b).trans (congrArg₂ (fun x y : EReal => x * y) ?_ ?_)) ?_) ?_
  · refine (tap_row 2 _ _ b).trans ?_
    blk_simp [iblk1]
    congr 1
    blk_ext [e14, e16]
  · refine (tap_row 1 _ _ b).trans ?_
    blk_simp [iblk1]
    congr 1
    blk_ext [e14, e16]
  · refine (tap_row 0 _ _ b).trans ?_
    blk_simp [iblk1]
    congr 1
    blk_ext [e14, e16]
  · blk_simp [iblk1]
    congr 1
    blk_ext [e10, e16]
  · blk_simp [iblk1]
    congr 1
    blk_ext [e11, e16]
  · refine Fin.ext ?_
    blk_simp [e16]
  · refine (pay5 _ a b).trans ?_
    blk_simp [iblk1]
    congr 1
    blk_ext [e13, e16]

/-- The second factor's gradient. -/
theorem fin7 : (dat1 V c).arrAt 7 cfg1.N = dX (V c main_arg0) (V c main_arg1) (V c main_arg2) := by
  refine (dat1 V c).arrAt_eq_of_covers 7 _ (by decide +kernel) fun t hf y => ?_
  obtain ⟨a, b, rfl⟩ := ex2 y
  blk_simp
  rw [after1_7]; unfold outsAt1; dsimp only; unfold out1_A_7; frame_out; rw [pay13]
  unfold dX dz dcv gB gC part
  refine congrArg₂ (fun x y : EReal => x * y) (tapsT_same ?_ ?_ ?_ (fun r => (pay10 _ _ r b).trans (congrArg₂ (fun x y : EReal => x * y) ?_ ?_)) ?_) ?_
  · refine (tap_row 2 _ _ b).trans ?_
    blk_simp [iblk1]
    congr 1
    blk_ext [e14, e17]
  · refine (tap_row 1 _ _ b).trans ?_
    blk_simp [iblk1]
    congr 1
    blk_ext [e14, e17]
  · refine (tap_row 0 _ _ b).trans ?_
    blk_simp [iblk1]
    congr 1
    blk_ext [e14, e17]
  · blk_simp [iblk1]
    congr 1
    blk_ext [e10, e17]
  · blk_simp [iblk1]
    congr 1
    blk_ext [e11, e17]
  · refine Fin.ext ?_
    blk_simp [e17]
  · refine (pay4 _ a b).trans ?_
    blk_simp [iblk1]
    congr 1
    blk_ext [e12, e17]

/-- The taps' gradients. -/
theorem fin8 : (dat1 V c).arrAt 8 cfg1.N = dW8 (V c main_arg0) (V c main_arg1) := by
  refine (dat1 V c).arrAt_eq_of_covers 8 _ (by decide +kernel) fun t hf y => ?_
  obtain ⟨a, b, rfl⟩ := ex2 y
  blk_simp
  rw [after1_8]; unfold outsAt1; dsimp only; unfold out1_A_8; frame_out
  unfold dW8
  have ha : (((View.whole main_v1_3).slice (win1_8.rect t)).emb (ix2 a b) 0).val = a.val := by blk_simp [e18]
  rw [ha]
  refine rows3 _ _ _ _ _ _ _ _ (fun k => dTap k (V c main_arg0) (V c main_arg1) (((View.whole main_v1_3).slice (win1_8.rect t)).emb (ix2 a b) 1)) b ?_ ?_ ?_ pay14 a
  · refine (pay15 _ _ 0 b).trans (sum_same fun r => congrArg₂ (fun x y : EReal => x * y) ((pay10 _ _ r b).trans (congrArg₂ (fun x y : EReal => x * y) ?_ ?_)) ((pay8 _ _ r b).trans (down_same 2 (fun s => congrArg₂ (fun x y : EReal => x * y) ?_ ?_))))
    · blk_simp [iblk1]
      congr 1
      blk_ext [e10, e18]
    · unfold gB part
      blk_simp [iblk1]
      congr 1
      blk_ext [e11, e18]
    · unfold gC part
      blk_simp [iblk1]
      congr 1
      blk_ext [e12, e18]
    · unfold gX part
      blk_simp [iblk1]
      congr 1
      blk_ext [e13, e18]
  · refine (pay1 _ _ 0 b).trans (sum_same fun r => congrArg₂ (fun x y : EReal => x * y) ((pay10 _ _ r b).trans (congrArg₂ (fun x y : EReal => x * y) ?_ ?_)) ((pay7 _ _ r b).trans (down_same 1 (fun s => congrArg₂ (fun x y : EReal => x * y) ?_ ?_))))
    · blk_simp [iblk1]
      congr 1
      blk_ext [e10, e18]
    · unfold gB part
      blk_simp [iblk1]
      congr 1
      blk_ext [e11, e18]
    · unfold gC part
      blk_simp [iblk1]
      congr 1
      blk_ext [e12, e18]
    · unfold gX part
      blk_simp [iblk1]
      congr 1
      blk_ext [e13, e18]
  · refine (pay2 _ _ 0 b).trans (sum_same fun r => congrArg₂ (fun x y : EReal => x * y) ((pay10 _ _ r b).trans (congrArg₂ (fun x y : EReal => x * y) ?_ ?_)) ((pay6 _ _ r b).trans ((congrArg₂ (fun x y : EReal => x * y) ?_ ?_).trans (down_zero (fun s => zIn (V c main_arg1) s (((View.whole main_v1_3).slice (win1_8.rect t)).emb (ix2 a b) 1)) r).symm)))
    · blk_simp [iblk1]
      congr 1
      blk_ext [e10, e18]
    · unfold gB part
      blk_simp [iblk1]
      congr 1
      blk_ext [e11, e18]
    · unfold gC part
      blk_simp [iblk1]
      congr 1
      blk_ext [e12, e18]
    · unfold gX part
      blk_simp [iblk1]
      congr 1
      blk_ext [e13, e18]

end

end Cert.ConvIdeal.Hand
-- ==== Proof.ConvRef.lean ====
module

public import proofs.«01_k».proof.Proof.Gen.ConvReferenceIdeal.Read
public import proofs.«01_k».proof.Proof.ConvVal
public import Idealize.ShloMosaic.Lib.KernelVsHost

@[expose] public section

set_option maxRecDepth 16384

noncomputable section

namespace Cert.ConvReferenceIdeal.Hand

open Idealize.ShloMosaic Cert.ConvReferenceIdeal Cert.ConvReferenceIdeal.Read Cert.Attn
open Cert.ConvIdeal.Hand (down up taps tapsT part gB gC gX zIn cv dcv dz outA dB dC dX dTap dW)

/-! ## Rows of padded arrays -/

/-- A row inside a padded array. -/
theorem pad_in {n N lo hi : Nat} (x : (⟨2, ![n, 2048]⟩ : Shape).Idx → EReal) (v : S_.Idx → EReal)
    (h : (⟨2, ![n, 2048]⟩ : Shape).Pads ![lo, 0] ![hi, 0] ![0, 0] ⟨2, ![N, 2048]⟩) (hu : 0 < S_.numel) (r : Fin N) (b : Fin 2048) (k : Fin n) (hk : r.val = lo + k.val) :
    pad ⟨2, ![N, 2048]⟩ ![lo, 0] ![hi, 0] ![0, 0] x v h hu (ix2 r b) = x (ix2 k b) := by
  refine pad_apply_of_inside _ _ _ x v h hu (ix2 r b) (ix2 k b) fun a => ?_
  match a with
  | ⟨0, _⟩ => show r.val = lo + k.val * (0 + 1); omega
  | ⟨1, _⟩ => show b.val = 0 + b.val * (0 + 1); omega

/-- A row outside. -/
theorem pad_out {n N lo hi : Nat} (x : (⟨2, ![n, 2048]⟩ : Shape).Idx → EReal) (v : S_.Idx → EReal)
    (h : (⟨2, ![n, 2048]⟩ : Shape).Pads ![lo, 0] ![hi, 0] ![0, 0] ⟨2, ![N, 2048]⟩) (hu : 0 < S_.numel) (r : Fin N) (b : Fin 2048) (hr : r.val < lo ∨ lo + n ≤ r.val) :
    pad ⟨2, ![N, 2048]⟩ ![lo, 0] ![hi, 0] ![0, 0] x v h hu (ix2 r b) = v (Shape.Idx.first hu) := by
  refine pad_apply_of_not_inside _ _ _ x v h hu (ix2 r b) (0 : Fin 2) fun hin => ?_
  have h1 : lo ≤ r.val := hin.1
  have h2 : (r.val - lo) / (0 + 1) < n := hin.2.2
  rw [Nat.zero_add, Nat.div_one] at h2
  omega

variable (G : Vec Ideal S2048x2048 .bf16) (P : Vec Ideal S2048x11520 .bf16) (W : Vec Ideal S3x2048 .f32)

/-! ## The forward values -/

/-- The output's gate. -/
theorem v1_eq (a b : Fin 2048) : val_main_v1 (F := Ideal) P (ix2 a b) = gB P a b := by
  rw [val_main_v1_apply, val_main_v0_apply]
  exact congrArg P (ext2 rfl rfl)

/-- The first factor. -/
theorem v3_eq (a b : Fin 2048) : val_main_v3 (F := Ideal) P (ix2 a b) = gC P a b := by
  rw [val_main_v3_apply, val_main_v2_apply]
  exact congrArg P (ext2 rfl rfl)

/-- The second factor. -/
theorem v5_eq (a b : Fin 2048) : val_main_v5 (F := Ideal) P (ix2 a b) = gX P a b := by
  rw [val_main_v5_apply, val_main_v4_apply]
  exact congrArg P (ext2 rfl rfl)

/-- The convolution's input. -/
theorem v6_eq (a b : Fin 2048) : val_main_v6 (F := Ideal) P (ix2 a b) = zIn P a b := by
  rw [val_main_v6_apply]
  exact congrArg₂ (fun x y : EReal => x * y) (v3_eq P a b) (v5_eq P a b)

/-- The rows of zeros. -/
theorem v7_eq (i : S2x2048.Idx) : val_main_v7 (F := Ideal) i = (0 : EReal) := by
  rw [val_main_v7_apply, val_main_cst_apply]
  exact ofBits_zero

/-- The first two rows of the extended input. -/
theorem v8_lo (r : Fin 2050) (b : Fin 2048) (h : r.val < 2) : val_main_v8 (F := Ideal) P (ix2 r b) = (0 : EReal) := by
  unfold val_main_v8
  refine Eq.trans ?_ (v7_eq (ix2 ⟨r.val, h⟩ b))
  generalize val_main_v7 (F := Ideal) = p
  generalize val_main_v6 (F := Ideal) P = q
  refine concatenate_pair_apply_left (t := S2050x2048) (s₁ := S2x2048) (s₂ := S2048x2048) (0 : Fin 2) p q Gen.concatenates_S2x2048_S2048x2048_S2050x2048_d0 _ rfl _ (fun d => ?_)
  match d with
  | ⟨0, _⟩ => rfl
  | ⟨1, _⟩ => rfl

/-- The other rows of the extended input. -/
theorem v8_hi (r : Fin 2050) (b k : Fin 2048) (h : r.val = 2 + k.val) : val_main_v8 (F := Ideal) P (ix2 r b) = zIn P k b := by
  unfold val_main_v8
  refine Eq.trans ?_ (v6_eq P k b)
  generalize val_main_v7 (F := Ideal) = p
  generalize val_main_v6 (F := Ideal) P = q
  refine concatenate_pair_apply_right (t := S2050x2048) (s₁ := S2x2048) (s₂ := S2048x2048) (0 : Fin 2) p q Gen.concatenates_S2x2048_S2048x2048_S2050x2048_d0 _ rfl rfl _ (fun d hd => ?_) ?_
  · match d, hd with
    | ⟨0, _⟩, hd => exact absurd (Fin.ext rfl) hd
    | ⟨1, _⟩, _ => rfl
  · show k.val + 2 = r.val
    omega

/-- A window of the extended input is the input moved down. -/
theorem v8_down (n k : Nat) (hn : n + k = 2) (a b : Fin 2048) (r : Fin 2050) (hr : r.val = n + a.val) : val_main_v8 (F := Ideal) P (ix2 r b) = down k (fun s => zIn P s b) a := by
  unfold down
  by_cases h : k ≤ a.val
  · rw [if_pos h]
    exact v8_hi P r b ⟨a.val - k, by omega⟩ (by show r.val = 2 + (a.val - k); omega)
  · rw [if_neg h]
    exact v8_lo P r b (by omega)

/-- The input two rows back. -/
theorem v10_eq (a b : Fin 2048) : val_main_v10 (F := Ideal) P (ix2 a b) = down 2 (fun s => zIn P s b) a := by
  rw [val_main_v10_apply]
  refine (congrArg (val_main_v8 (F := Ideal) P) (ext2 (x := ⟨0 + a.val, by omega⟩) (y := b) ?_ rfl)).trans (v8_down P 0 2 rfl a b _ rfl)
  show a.val = 0 + a.val
  omega

/-- The input one row back. -/
theorem v16_eq (a b : Fin 2048) : val_main_v16 (F := Ideal) P (ix2 a b) = down 1 (fun s => zIn P s b) a := by
  rw [val_main_v16_apply]
  exact (congrArg (val_main_v8 (F := Ideal) P) (ext2 (x := ⟨1 + a.val, by omega⟩) (y := b) rfl rfl)).trans (v8_down P 1 1 rfl a b _ rfl)

/-- The input itself. -/
theorem v23_eq (a b : Fin 2048) : val_main_v23 (F := Ideal) P (ix2 a b) = zIn P a b := by
  rw [val_main_v23_apply]
  exact (congrArg (val_main_v8 (F := Ideal) P) (ext2 (x := ⟨2 + a.val, by omega⟩) (y := b) rfl rfl)).trans (v8_hi P _ b a rfl)

/-- The first tap in every row. -/
theorem v13_eq (i : S1x2048.Idx) (b : Fin 2048) (h : (i 1).val = b.val) : val_main_v13 (F := Ideal) W i = W (ix2 0 b) := by
  rw [val_main_v13_apply, val_main_v12_apply, val_main_v11_apply]
  have hb := b.isLt
  refine congrArg W (ext2 rfl ?_)
  show (i 1).val % 2048 = b.val
  omega

/-- The second tap in every row. -/
theorem v19_eq (i : S1x2048.Idx) (b : Fin 2048) (h : (i 1).val = b.val) : val_main_v19 (F := Ideal) W i = W (ix2 1 b) := by
  rw [val_main_v19_apply, val_main_v18_apply, val_main_v17_apply]
  have hb := b.isLt
  refine congrArg W (ext2 rfl ?_)
  show (i 1).val % 2048 = b.val
  omega

/-- The third tap in every row. -/
theorem v26_eq (i : S1x2048.Idx) (b : Fin 2048) (h : (i 1).val = b.val) : val_main_v26 (F := Ideal) W i = W (ix2 2 b) := by
  rw [val_main_v26_apply, val_main_v25_apply, val_main_v24_apply]
  have hb := b.isLt
  refine congrArg W (ext2 rfl ?_)
  show (i 1).val % 2048 = b.val
  omega

/-- Three products in the other order. -/
theorem turn3 {x y z u v w : EReal} : x * u + y * v + z * w = w * z + v * y + u * x := by
  rw [mul_comm x u, mul_comm y v, mul_comm z w, add_comm, add_comm (u * x), ← add_assoc]

/-- The convolution. -/
theorem v29_eq (a b : Fin 2048) : val_main_v29 (F := Ideal) P W (ix2 a b) = cv P W a b := by
  rw [val_main_v29_apply, val_main_v22_apply, val_main_v15_apply, val_main_v21_apply, val_main_v28_apply, v10_eq, v16_eq, v23_eq,
    val_main_v14_apply, val_main_v20_apply, val_main_v27_apply, v13_eq W _ b rfl, v19_eq W _ b rfl, v26_eq W _ b rfl]
  exact turn3

/-- The gated convolution. -/
theorem v69_eq : val_main_v69 (F := Ideal) P W = outA P W := by
  funext i
  obtain ⟨a, b, rfl⟩ := ex2 i
  rw [val_main_v69_apply, val_main_v30_apply]
  exact congrArg₂ (fun x y : EReal => x * y) (v1_eq P a b) (v29_eq P W a b)

/-! ## The gradients -/

/-- The gradient of the gate. -/
theorem v70_eq : val_main_v70 (F := Ideal) G P W = dB G P W := by
  funext i
  obtain ⟨a, b, rfl⟩ := ex2 i
  rw [val_main_v70_apply, val_main_v33_apply, val_main_v31_apply]
  exact congrArg₂ (fun x y : EReal => x * y) rfl (v29_eq P W a b)

/-- The cotangent of the convolution. -/
theorem v32_eq (a b : Fin 2048) : val_main_v32 (F := Ideal) G P (ix2 a b) = dcv G P a b := by
  rw [val_main_v32_apply, val_main_v31_apply]
  exact (congrArg₂ (fun x y : EReal => x * y) (v1_eq P a b) rfl).trans (mul_comm (G := EReal) _ _)

/-- The cotangent through the third tap. -/
theorem v38_eq (a b : Fin 2048) : val_main_v38 (F := Ideal) G P W (ix2 a b) = (W (ix2 2 b) : EReal) * dcv G P a b := by
  rw [val_main_v38_apply, v32_eq, val_main_v37_apply, v26_eq W _ b rfl]
  exact mul_comm (G := EReal) _ _

/-- The cotangent through the second tap. -/
theorem v47_eq (a b : Fin 2048) : val_main_v47 (F := Ideal) G P W (ix2 a b) = (W (ix2 1 b) : EReal) * dcv G P a b := by
  rw [val_main_v47_apply, v32_eq, val_main_v46_apply, v19_eq W _ b rfl]
  exact mul_comm (G := EReal) _ _

/-- The cotangent through the first tap. -/
theorem v58_eq (a b : Fin 2048) : val_main_v58 (F := Ideal) G P W (ix2 a b) = (W (ix2 0 b) : EReal) * dcv G P a b := by
  rw [val_main_v58_apply, v32_eq, val_main_v57_apply, v13_eq W _ b rfl]
  exact mul_comm (G := EReal) _ _

/-- The third tap's part of a row. -/
theorem v42_eq (a b : Fin 2048) (r : Fin 2050) (hr : r.val = 2 + a.val) :
    val_main_v42 (F := Ideal) G P W (ix2 r b) = (W (ix2 2 b) : EReal) * dcv G P a b := by
  unfold val_main_v42
  exact (pad_in _ _ _ _ r b a hr).trans (v38_eq G P W a b)

/-- The second tap's part of a row. -/
theorem v52_eq (a b : Fin 2048) (r : Fin 2050) (hr : r.val = 2 + a.val) :
    val_main_v52 (F := Ideal) G P W (ix2 r b) = (W (ix2 1 b) : EReal) * up 1 (fun s => dcv G P s b) a := by
  unfold val_main_v52 up
  by_cases h : a.val + 1 < 2048
  · rw [dif_pos h]
    exact (pad_in _ _ _ _ r b ⟨a.val + 1, h⟩ (by show r.val = 1 + (a.val + 1); omega)).trans (v47_eq G P W _ b)
  · rw [dif_neg h]
    refine (pad_out _ _ _ _ r b (by omega)).trans ?_
    rw [val_main_cst_8_apply]
    exact ofBits_zero.trans (mul_zero _).symm

/-- The first tap's part of a row. -/
theorem v63_eq (a b : Fin 2048) (r : Fin 2050) (hr : r.val = 2 + a.val) :
    val_main_v63 (F := Ideal) G P W (ix2 r b) = (W (ix2 0 b) : EReal) * up 2 (fun s => dcv G P s b) a := by
  unfold val_main_v63 up
  by_cases h : a.val + 2 < 2048
  · rw [dif_pos h]
    exact (pad_in _ _ _ _ r b ⟨a.val + 2, h⟩ (by show r.val = 0 + (a.val + 2); omega)).trans (v58_eq G P W _ b)
  · rw [dif_neg h]
    refine (pad_out _ _ _ _ r b (by omega)).trans ?_
    rw [val_main_cst_12_apply]
    exact ofBits_zero.trans (mul_zero _).symm

/-- The cotangent of the convolution's input. -/
theorem v66_eq (a b : Fin 2048) : val_main_v66 (F := Ideal) G P W (ix2 a b) = dz G P W a b := by
  rw [val_main_v66_apply]
  refine (congrArg (val_main_v64 (F := Ideal) G P W) (ext2 (x := ⟨2 + a.val, by omega⟩) (y := b) rfl rfl)).trans ?_
  rw [val_main_v64_apply, val_main_v53_apply]
  exact congrArg₂ (fun x y : EReal => x + y) (congrArg₂ (fun x y : EReal => x + y) (v42_eq G P W a b _ rfl) (v52_eq G P W a b _ rfl)) (v63_eq G P W a b _ rfl)

/-- The gradient of the first factor. -/
theorem v71_eq : val_main_v71 (F := Ideal) G P W = dC G P W := by
  funext i
  obtain ⟨a, b, rfl⟩ := ex2 i
  rw [val_main_v71_apply, val_main_v68_apply]
  exact congrArg₂ (fun x y : EReal => x * y) (v66_eq G P W a b) (v5_eq P a b)

/-- The gradient of the second factor. -/
theorem v72_eq : val_main_v72 (F := Ideal) G P W = dX G P W := by
  funext i
  obtain ⟨a, b, rfl⟩ := ex2 i
  rw [val_main_v72_apply, val_main_v67_apply]
  exact (congrArg₂ (fun x y : EReal => x * y) (v3_eq P a b) (v66_eq G P W a b)).trans (mul_comm (G := EReal) _ _)

/-- A sum from zero on. -/
theorem from_zero {z x : EReal} (hz : z = 0) : z + x = x := by
  rw [hz, zero_add]

/-- The third tap's gradient. -/
theorem v40_eq (i : S1x2048.Idx) (b : Fin 2048) (h : (i 1).val = b.val) : val_main_v40 (F := Ideal) G P i = dTap 0 G P b := by
  rw [val_main_v40_apply, val_main_v39_apply]
  refine (from_zero ofBits_zero).trans ?_
  rw [Fin.sum_univ_one, val_main_v36_apply, val_main_v35_apply]
  refine (from_zero ofBits_zero).trans (sum_same fun k => ?_)
  have e : idx_main_v35 (idx_main_v36 (idx_main_v39 (idx_main_v40 i) 0)) k = ix2 k b := ext2 rfl (by show 0 * 2048 + (i 1).val = b.val; omega)
  rw [e, val_main_v34_apply, v23_eq, v32_eq]
  exact mul_comm (G := EReal) _ _

/-- The second tap's gradient. -/
theorem v49_eq (i : S1x2048.Idx) (b : Fin 2048) (h : (i 1).val = b.val) : val_main_v49 (F := Ideal) G P i = dTap 1 G P b := by
  rw [val_main_v49_apply, val_main_v48_apply]
  refine (from_zero ofBits_zero).trans ?_
  rw [Fin.sum_univ_one, val_main_v45_apply, val_main_v44_apply]
  refine (from_zero ofBits_zero).trans (sum_same fun k => ?_)
  have e : idx_main_v44 (idx_main_v45 (idx_main_v48 (idx_main_v49 i) 0)) k = ix2 k b := ext2 rfl (by show 0 * 2048 + (i 1).val = b.val; omega)
  rw [e, val_main_v43_apply, v16_eq, v32_eq]
  exact mul_comm (G := EReal) _ _

/-- The first tap's gradient. -/
theorem v60_eq (i : S1x2048.Idx) (b : Fin 2048) (h : (i 1).val = b.val) : val_main_v60 (F := Ideal) G P i = dTap 2 G P b := by
  rw [val_main_v60_apply, val_main_v59_apply]
  refine (from_zero ofBits_zero).trans ?_
  rw [Fin.sum_univ_one, val_main_v56_apply, val_main_v55_apply]
  refine (from_zero ofBits_zero).trans (sum_same fun k => ?_)
  have e : idx_main_v55 (idx_main_v56 (idx_main_v59 (idx_main_v60 i) 0)) k = ix2 k b := ext2 rfl (by show 0 * 2048 + (i 1).val = b.val; omega)
  rw [e, val_main_v54_apply, v10_eq, v32_eq]
  exact mul_comm (G := EReal) _ _

/-- The third tap's gradient in its row. -/
theorem v41_eq (t : Fin 3) (b : Fin 2048) : val_main_v41 (F := Ideal) G P (ix2 t b) = if t.val = 2 then dTap 0 G P b else 0 := by
  unfold val_main_v41
  by_cases h : t.val = 2
  · rw [if_pos h]
    exact (pad_in _ _ _ _ t b 0 (by show t.val = 2 + 0; omega)).trans (v40_eq G P _ b rfl)
  · rw [if_neg h]
    refine (pad_out _ _ _ _ t b (by omega)).trans ?_
    rw [val_main_cst_3_apply]
    exact ofBits_zero

/-- The second tap's gradient in its row. -/
theorem v50_eq (t : Fin 3) (b : Fin 2048) : val_main_v50 (F := Ideal) G P (ix2 t b) = if t.val = 1 then dTap 1 G P b else 0 := by
  unfold val_main_v50
  by_cases h : t.val = 1
  · rw [if_pos h]
    exact (pad_in _ _ _ _ t b 0 (by show t.val = 1 + 0; omega)).trans (v49_eq G P _ b rfl)
  · rw [if_neg h]
    refine (pad_out _ _ _ _ t b (by omega)).trans ?_
    rw [val_main_cst_7_apply]
    exact ofBits_zero

/-- The first tap's gradient in its row. -/
theorem v61_eq (t : Fin 3) (b : Fin 2048) : val_main_v61 (F := Ideal) G P (ix2 t b) = if t.val = 0 then dTap 2 G P b else 0 := by
  unfold val_main_v61
  by_cases h : t.val = 0
  · rw [if_pos h]
    exact (pad_in _ _ _ _ t b 0 (by show t.val = 0 + 0; omega)).trans (v60_eq G P _ b rfl)
  · rw [if_neg h]
    refine (pad_out _ _ _ _ t b (by omega)).trans ?_
    rw [val_main_cst_11_apply]
    exact ofBits_zero

/-- One of three rows is chosen by adding them up with zeros elsewhere. -/
theorem pick3 (f : Nat → EReal) (t : Nat) (ht : t < 3) :
    ((if t = 2 then f 0 else 0) + (if t = 1 then f 1 else 0) + (if t = 0 then f 2 else 0) : EReal) = f (2 - t) := by
  obtain rfl | rfl | rfl : t = 0 ∨ t = 1 ∨ t = 2 := by omega
  · rw [if_neg (by decide), if_neg (by decide), if_pos rfl, zero_add, zero_add]
  · rw [if_neg (by decide), if_pos rfl, if_neg (by decide), zero_add, add_zero]
  · rw [if_pos rfl, if_neg (by decide), if_neg (by decide), add_zero, add_zero]

/-- The taps' gradients. -/
theorem v62_eq : val_main_v62 (F := Ideal) G P = dW G P := by
  funext i
  obtain ⟨t, b, rfl⟩ := ex2 i
  rw [val_main_v62_apply, val_main_v51_apply, v41_eq, v50_eq, v61_eq]
  exact pick3 (fun k => dTap k G P b) t.val t.isLt

end Cert.ConvReferenceIdeal.Hand
-- ==== Proof.ConvAlg.lean ====
module

public import proofs.«01_k».proof.Defs
public import proofs.«01_k».proof.Proof.ConvRef

@[expose] public section

set_option maxRecDepth 16384

noncomputable section

namespace Cert.ConvIdeal.Hand

open Cert.ConvIdeal Cert.ConvIdeal.Gen
open Idealize.ShloMosaic Idealize.ShloMosaic.TcCoe Idealize.SL.Sem Idealize.ShloMosaic.Pipeline Cert.Attn

/-! ## The results after the last region -/

variable (m : (ℓ : Loc nD τ sig) → Buf (Elt Ideal) ℓ) (ρ : Dev nD → PrngReg) (c : Dev nD)

/-- The gradient of the gate from equal arguments. -/
theorem dB_same {G G' : Vec Ideal S2048x2048 .bf16} {P P' : Vec Ideal S2048x11520 .bf16} {W W' : Vec Ideal S3x2048 .f32} (hG : G = G') (hP : P = P') (hW : W = W') :
    dB G P W = dB G' P' W' := by
  subst hG hP hW
  rfl

/-- The gradient of the first factor from equal arguments. -/
theorem dC_same {G G' : Vec Ideal S2048x2048 .bf16} {P P' : Vec Ideal S2048x11520 .bf16} {W W' : Vec Ideal S3x2048 .f32} (hG : G = G') (hP : P = P') (hW : W = W') :
    dC G P W = dC G' P' W' := by
  subst hG hP hW
  rfl

/-- The gradient of the second factor from equal arguments. -/
theorem dX_same {G G' : Vec Ideal S2048x2048 .bf16} {P P' : Vec Ideal S2048x11520 .bf16} {W W' : Vec Ideal S3x2048 .f32} (hG : G = G') (hP : P = P') (hW : W = W') :
    dX G P W = dX G' P' W' := by
  subst hG hP hW
  rfl

/-- The output after the run. -/
theorem W3_v0 : W3 m ρ c main_v0 = outA (m ((c : Thread nD τ).loc main_arg1)) (m ((c : Thread nD τ).loc main_arg2)) :=
  (W3_of m ρ c main_v0 (by decide)).trans <| (W2_of m ρ c main_v0 (by decide)).trans <| (hF0 m ρ c 4).symm.trans <| (fin0 (V0 m ρ) c).trans <|
    congrArg₂ outA (W0_args m ρ c main_arg1 (by decide)) (W0_args m ρ c main_arg2 (by decide))

/-- The gradient of the gate after the run. -/
theorem W3_v1_0 : W3 m ρ c main_v1_0 = dB (m ((c : Thread nD τ).loc main_arg0)) (m ((c : Thread nD τ).loc main_arg1)) (m ((c : Thread nD τ).loc main_arg2)) :=
  (W3_of m ρ c main_v1_0 (by decide)).trans <| (hF1 m ρ c 5).symm.trans <| (fin5 (V1 m ρ) c).trans <|
    dB_same (W1_args m ρ c main_arg0 (by decide)) (W1_args m ρ c main_arg1 (by decide)) (W1_args m ρ c main_arg2 (by decide))

/-- The gradient of the first factor after the run. -/
theorem W3_v1_1 : W3 m ρ c main_v1_1 = dC (m ((c : Thread nD τ).loc main_arg0)) (m ((c : Thread nD τ).loc main_arg1)) (m ((c : Thread nD τ).loc main_arg2)) :=
  (W3_of m ρ c main_v1_1 (by decide)).trans <| (hF1 m ρ c 6).symm.trans <| (fin6 (V1 m ρ) c).trans <|
    dC_same (W1_args m ρ c main_arg0 (by decide)) (W1_args m ρ c main_arg1 (by decide)) (W1_args m ρ c main_arg2 (by decide))

/-- The gradient of the second factor after the run. -/
theorem W3_v1_2 : W3 m ρ c main_v1_2 = dX (m ((c : Thread nD τ).loc main_arg0)) (m ((c : Thread nD τ).loc main_arg1)) (m ((c : Thread nD τ).loc main_arg2)) :=
  (W3_of m ρ c main_v1_2 (by decide)).trans <| (hF1 m ρ c 7).symm.trans <| (fin7 (V1 m ρ) c).trans <|
    dX_same (W1_args m ρ c main_arg0 (by decide)) (W1_args m ρ c main_arg1 (by decide)) (W1_args m ρ c main_arg2 (by decide))

/-- The block of the taps' gradients after the last region. -/
theorem W2_v1_3 : W2 m ρ c main_v1_3 = dW8 (m ((c : Thread nD τ).loc main_arg0)) (m ((c : Thread nD τ).loc main_arg1)) :=
  (hF1 m ρ c 8).symm.trans <| (fin8 (V1 m ρ) c).trans <|
    congrArg₂ dW8 (W1_args m ρ c main_arg0 (by decide)) (W1_args m ρ c main_arg1 (by decide))

/-- The first three rows of the block. -/
theorem cut_rows (G : Vec Ideal S2048x2048 .bf16) (P : Vec Ideal S2048x11520 .bf16) :
    extractStridedSlice S3x2048 ![0, 0] (dW8 G P) slices_S8x2048_S3x2048_0_0 = dW G P := by
  funext i
  obtain ⟨t, b, rfl⟩ := ex2 i
  refine (extractStridedSlice_apply ![0, 0] (dW8 G P) slices_S8x2048_S3x2048_0_0 (ix2 t b) (ix2 ⟨t.val, by omega⟩ b) (fun a => ?_)).trans ?_
  · match a with
    | ⟨0, _⟩ => show t.val = 0 + t.val; omega
    | ⟨1, _⟩ => show b.val = 0 + b.val; omega
  · exact if_pos t.isLt

/-- The taps' gradients after the run. -/
theorem W3_v2 : W3 m ρ c main_v2 = dW (m ((c : Thread nD τ).loc main_arg0)) (m ((c : Thread nD τ).loc main_arg1)) := by
  have e : W3 m ρ c main_v2 = extractStridedSlice S3x2048 ![0, 0] (W2 m ρ c main_v1_3) slices_S8x2048_S3x2048_0_0 := by
    after_results_simp <;> rfl
  exact e.trans ((congrArg (fun x => extractStridedSlice S3x2048 ![0, 0] x slices_S8x2048_S3x2048_0_0) (W2_v1_3 m ρ c)).trans (cut_rows _ _))

end Cert.ConvIdeal.Hand

namespace Cert.Proof

open Idealize.ShloMosaic Idealize.ShloMosaic.TcCoe Idealize.SL.Sem

/-- Over the extended reals the gated convolution and its gradients are the plain ones, whatever the arguments. -/
theorem algebraic_conv : Cert.algebraic_ConvIdeal_ConvReferenceIdeal := by
  intro m g m' g' _ agree
  refine ⟨fun c => Cert.ConvIdeal.Hand.outA (m ((c.tc : Thread _ _).loc Cert.ConvIdeal.main_arg1)) (m ((c.tc : Thread _ _).loc Cert.ConvIdeal.main_arg2)),
    fun c => Cert.ConvIdeal.Hand.dB (m ((c.tc : Thread _ _).loc Cert.ConvIdeal.main_arg0)) (m ((c.tc : Thread _ _).loc Cert.ConvIdeal.main_arg1)) (m ((c.tc : Thread _ _).loc Cert.ConvIdeal.main_arg2)),
    fun c => Cert.ConvIdeal.Hand.dC (m ((c.tc : Thread _ _).loc Cert.ConvIdeal.main_arg0)) (m ((c.tc : Thread _ _).loc Cert.ConvIdeal.main_arg1)) (m ((c.tc : Thread _ _).loc Cert.ConvIdeal.main_arg2)),
    fun c => Cert.ConvIdeal.Hand.dX (m ((c.tc : Thread _ _).loc Cert.ConvIdeal.main_arg0)) (m ((c.tc : Thread _ _).loc Cert.ConvIdeal.main_arg1)) (m ((c.tc : Thread _ _).loc Cert.ConvIdeal.main_arg2)),
    fun c => Cert.ConvIdeal.Hand.dW (m ((c.tc : Thread _ _).loc Cert.ConvIdeal.main_arg0)) (m ((c.tc : Thread _ _).loc Cert.ConvIdeal.main_arg1)), ?_, ?_⟩
  · refine (θ_run Cert.ConvIdeal.defs _ _).mono (fun r hr c => ?_) (Cert.ConvIdeal.Hand.run_all m g)
    exact ⟨(hr c _ (Cert.ConvIdeal.Gen.mem_uc Cert.ConvIdeal.main_v0 (by decide))).trans (Cert.ConvIdeal.Hand.W3_v0 m g c),
      (hr c _ (Cert.ConvIdeal.Gen.mem_uc Cert.ConvIdeal.main_v1_0 (by decide))).trans (Cert.ConvIdeal.Hand.W3_v1_0 m g c),
      (hr c _ (Cert.ConvIdeal.Gen.mem_uc Cert.ConvIdeal.main_v1_1 (by decide))).trans (Cert.ConvIdeal.Hand.W3_v1_1 m g c),
      (hr c _ (Cert.ConvIdeal.Gen.mem_uc Cert.ConvIdeal.main_v1_2 (by decide))).trans (Cert.ConvIdeal.Hand.W3_v1_2 m g c),
      (hr c _ (Cert.ConvIdeal.Gen.mem_uc Cert.ConvIdeal.main_v2 (by decide))).trans (Cert.ConvIdeal.Hand.W3_v2 m g c),
      (hr c _ (Cert.ConvIdeal.Gen.mem_uc Cert.ConvIdeal.main_arg0 (by decide))).trans (Cert.ConvIdeal.Gen.W3_main_arg0 m g c),
      (hr c _ (Cert.ConvIdeal.Gen.mem_uc Cert.ConvIdeal.main_arg1 (by decide))).trans (Cert.ConvIdeal.Gen.W3_main_arg1 m g c),
      (hr c _ (Cert.ConvIdeal.Gen.mem_uc Cert.ConvIdeal.main_arg2 (by decide))).trans (Cert.ConvIdeal.Gen.W3_main_arg2 m g c)⟩
  · refine (θ_run Cert.ConvReferenceIdeal.defs _ _).mono (fun r hr c => ?_) (Cert.ConvReferenceIdeal.Value.run (F := Ideal) m' g')
    obtain ⟨a0, a1, a2⟩ := agree c
    obtain ⟨r0, r1, r2, r3, r4, args⟩ := hr c
    refine ⟨r0.trans ?_, r1.trans ?_, r2.trans ?_, r3.trans ?_, r4.trans ?_, args⟩
    · rw [a1, a2]
      exact (Cert.ConvReferenceIdeal.Read.val_main_v69_eq _ _).trans <| Cert.ConvReferenceIdeal.Hand.v69_eq _ _
    · rw [a0, a1, a2]
      exact (Cert.ConvReferenceIdeal.Read.val_main_v70_eq _ _ _).trans <| Cert.ConvReferenceIdeal.Hand.v70_eq _ _ _
    · rw [a0, a1, a2]
      exact (Cert.ConvReferenceIdeal.Read.val_main_v71_eq _ _ _).trans <| Cert.ConvReferenceIdeal.Hand.v71_eq _ _ _
    · rw [a0, a1, a2]
      exact (Cert.ConvReferenceIdeal.Read.val_main_v72_eq _ _ _).trans <| Cert.ConvReferenceIdeal.Hand.v72_eq _ _ _
    · rw [a0, a1]
      exact (Cert.ConvReferenceIdeal.Read.val_main_v62_eq _ _).trans <| Cert.ConvReferenceIdeal.Hand.v62_eq _ _

end Cert.Proof
-- ==== Proof.NormsVal.lean ====
module

public import proofs.«01_k».proof.Proof.Runs
public import proofs.«01_k».proof.Defs
public import proofs.«01_k».proof.Proof.Gen.NormsReferenceIdeal.Read
public import proofs.«01_k».proof.Proof.Sig
public import Idealize.ShloMosaic.Lib.Pipeline.ValueKit

@[expose] public section

set_option maxRecDepth 16384

noncomputable section

namespace Cert.NormsIdeal.Hand

open Cert.NormsIdeal Cert.NormsIdeal.Gen
open Idealize.ShloMosaic Idealize.ShloMosaic.TcCoe Idealize.SL.Sem Idealize.ShloMosaic.Pipeline Cert.Attn

/-! ## One row -/

/-- The weight of the residual. -/
def alpha : EReal := Ideal.ofBits .f32 0x3F9837F0#32
/-- The length of a row. -/
def len : EReal := Ideal.ofBits .f32 0x45000000#32
/-- What is added to a variance. -/
def eps : EReal := Ideal.ofBits .f32 0x3727C5AC#32

/-- A row less its mean. -/
def cen (f : Fin 2048 → EReal) (b : Fin 2048) : EReal := f b - Ideal.div (∑ k, f k) len

/-- The inverse of a row's deviation. -/
def dev (f : Fin 2048 → EReal) : EReal := Ideal.rsqrt (Ideal.div (∑ k, cen f k * cen f k) len + eps)

/-- The row that is normed: the residual and the gated output. -/
def res (x g y : Fin 2048 → EReal) (b : Fin 2048) : EReal := alpha * x b + g b * y b

/-- The deviations of equal rows. -/
theorem dev_same {f g : Fin 2048 → EReal} (h : ∀ k, f k = g k) : dev f = dev g := by
  rw [show f = g from funext h]

/-- The normed entries of equal rows. -/
theorem norm_same {f g : Fin 2048 → EReal} (h : ∀ k, f k = g k) {a b : Fin 2048} (e : a = b) : cen f a * dev f = cen g b * dev g := by
  subst e
  rw [show f = g from funext h]

/-! ## What the bodies compute -/

/-- The modulated input in a block. -/
theorem pay0 (x : Vec Ideal S256x2048 .f32) (s h : Vec Ideal S1x2048 .f32) (a : Fin 256) (b : Fin 2048) :
    k0_pay1 x s h (ix2 a b) = (x (ix2 a b) : EReal) * ((1 : EReal) + (s (ix2 0 b) : EReal)) + (h (ix2 0 b) : EReal) := by
  pointwise [k0_pay1]

/-- The residual less its mean in a block. -/
theorem pay2 (x : Vec Ideal S256x2048 .f32) (g : Vec Ideal S1x2048 .f32) (y : Vec Ideal S256x2048 .f32) (a : Fin 256) (b : Fin 2048) :
    k1_pay2 x g y (ix2 a b) = cen (res (fun k => x (ix2 a k)) (fun k => g (ix2 0 k)) (fun k => y (ix2 a k))) b := by
  pointwise [k1_pay2, ofBits_zero]
  rfl

/-- The inverse deviation in a block. -/
theorem pay3 (x : Vec Ideal S256x2048 .f32) (g : Vec Ideal S1x2048 .f32) (y : Vec Ideal S256x2048 .f32) (a : Fin 256) (b : Fin 1) :
    k1_pay3 x g y (ix2 a b) = dev (res (fun k => x (ix2 a k)) (fun k => g (ix2 0 k)) (fun k => y (ix2 a k))) := by
  pointwise [k1_pay3, ofBits_zero, pay2]
  rfl

/-- The normed row in a block. -/
theorem pay4 (x : Vec Ideal S256x2048 .f32) (g : Vec Ideal S1x2048 .f32) (y : Vec Ideal S256x2048 .f32) (a : Fin 256) (b : Fin 2048) :
    k1_pay4 x g y (ix2 a b) = cen (res (fun k => x (ix2 a k)) (fun k => g (ix2 0 k)) (fun k => y (ix2 a k))) b * dev (res (fun k => x (ix2 a k)) (fun k => g (ix2 0 k)) (fun k => y (ix2 a k))) := by
  pointwise [k1_pay4, pay2, pay3]

/-- The modulated norm in a block. -/
theorem pay1 (x : Vec Ideal S256x2048 .f32) (g : Vec Ideal S1x2048 .f32) (y : Vec Ideal S256x2048 .f32) (w o s h : Vec Ideal S1x2048 .f32) (a : Fin 256) (b : Fin 2048) :
    k1_pay1 (k1_pay5 x g y w o) s (k1_pay6 (F := Ideal)) h (ix2 a b)
      = (k1_pay4 x g y (ix2 a b) * (w (ix2 0 b) : EReal) + (o (ix2 0 b) : EReal)) * ((1 : EReal) + (s (ix2 0 b) : EReal)) + (h (ix2 0 b) : EReal) := by
  pointwise [k1_pay1, k1_pay5, k1_pay6]

/-! ## The four arrays -/

/-- The modulated input. -/
def uIn (X : Vec Ideal S2048x2048 .f32) (M : Vec Ideal S6x2048 .f32) : Vec Ideal S2048x2048 .bf16 := fun i =>
  ((X i : EReal) * ((1 : EReal) + (M (ix2 1 (i 1)) : EReal)) + (M (ix2 0 (i 1)) : EReal) : EReal)

/-- A row of the residual and the gated output. -/
def row (X : Vec Ideal S2048x2048 .f32) (M : Vec Ideal S6x2048 .f32) (Y : Vec Ideal S2048x2048 .f32) (a : Fin 2048) : Fin 2048 → EReal :=
  res (fun k => X (ix2 a k)) (fun k => M (ix2 2 k)) (fun k => Y (ix2 a k))

/-- The norm before its weight and bias. -/
def xh (X : Vec Ideal S2048x2048 .f32) (M : Vec Ideal S6x2048 .f32) (Y : Vec Ideal S2048x2048 .f32) : Vec Ideal S2048x2048 .f32 := fun i =>
  (cen (row X M Y (i 0)) (i 1) * dev (row X M Y (i 0)) : EReal)

/-- The inverse deviations. -/
def rstd (X : Vec Ideal S2048x2048 .f32) (M : Vec Ideal S6x2048 .f32) (Y : Vec Ideal S2048x2048 .f32) : Vec Ideal S2048x1 .f32 := fun i =>
  (dev (row X M Y (i 0)) : EReal)

/-- The modulated norm. -/
def uTwo (X : Vec Ideal S2048x2048 .f32) (M : Vec Ideal S6x2048 .f32) (Y : Vec Ideal S2048x2048 .f32) (G B : Vec Ideal S1x2048 .f32) : Vec Ideal S2048x2048 .bf16 := fun i =>
  ((cen (row X M Y (i 0)) (i 1) * dev (row X M Y (i 0)) * (G (ix2 0 (i 1)) : EReal) + (B (ix2 0 (i 1)) : EReal)) * ((1 : EReal) + (M (ix2 4 (i 1)) : EReal)) + (M (ix2 3 (i 1)) : EReal) : EReal)

/-! ## Where the blocks sit -/

/-- The input's block in the first call. -/
theorem e00 : ∀ t : Fin cfg0.N, win0_0.index t = ![t.val, 0] := (by decide +kernel : ∀ t : Fin grid0.N, _)
/-- The modulation's block in the first call. -/
theorem e01 : ∀ t : Fin cfg0.N, win0_1.index t = ![0, 0] := (by decide +kernel : ∀ t : Fin grid0.N, _)
/-- The output's block in the first call. -/
theorem e02 : ∀ t : Fin cfg0.N, win0_2.index t = ![t.val, 0] := (by decide +kernel : ∀ t : Fin grid0.N, _)
/-- The residual's block in the second call. -/
theorem e10 : ∀ t : Fin cfg1.N, win1_0.index t = ![t.val, 0] := (by decide +kernel : ∀ t : Fin grid1.N, _)
/-- The gated output's block in the second call. -/
theorem e11 : ∀ t : Fin cfg1.N, win1_1.index t = ![t.val, 0] := (by decide +kernel : ∀ t : Fin grid1.N, _)
/-- The modulation's block in the second call. -/
theorem e12 : ∀ t : Fin cfg1.N, win1_2.index t = ![0, 0] := (by decide +kernel : ∀ t : Fin grid1.N, _)
/-- The weight's block in the second call. -/
theorem e13 : ∀ t : Fin cfg1.N, win1_3.index t = ![0, 0] := (by decide +kernel : ∀ t : Fin grid1.N, _)
/-- The bias's block in the second call. -/
theorem e14 : ∀ t : Fin cfg1.N, win1_4.index t = ![0, 0] := (by decide +kernel : ∀ t : Fin grid1.N, _)
/-- The norm's block. -/
theorem e15 : ∀ t : Fin cfg1.N, win1_5.index t = ![t.val, 0] := (by decide +kernel : ∀ t : Fin grid1.N, _)
/-- The inverse deviations' block. -/
theorem e16 : ∀ t : Fin cfg1.N, win1_6.index t = ![t.val, 0] := (by decide +kernel : ∀ t : Fin grid1.N, _)
/-- The modulated norm's block. -/
theorem e17 : ∀ t : Fin cfg1.N, win1_7.index t = ![t.val, 0] := (by decide +kernel : ∀ t : Fin grid1.N, _)

/-- A row of the modulation. -/
theorem mod_row (o : Fin 6) (X : Vec Ideal S6x2048 .f32) (inb : ∀ a, (![o.val, 0] : Fin 2 → Nat) a + S1x2048.size a ≤ S6x2048.size a) (b : Fin 2048) :
    View.ld (Val := Elt Ideal) (e' := .f32) X (Rect.unit (s := S6x2048) ![o.val, 0] S1x2048.size inb) (ix2 (0 : Fin 1) b) = X (ix2 o b) := by
  refine congrArg X (ext2 ?_ ?_)
  · show o.val + 1 * 0 = o.val
    omega
  · show 0 + 1 * b.val = b.val
    omega

/-! ## What each call leaves, for any contents at its entry -/

section
variable (V : (c : Dev nD) → (b : Ref sig .tc) → Buf (Elt Ideal) ((c : Thread nD τ).loc b)) (c : Dev nD)

/-- The residual row in the second call's block. -/
theorem row_blk (t : Fin cfg1.N) (a : Fin 256) (r : Fin 2048) (hr : r.val = t.val * 256 + a.val) (k : Fin 2048) :
    res (fun k => iblk1 V c 0 t (ix2 a k)) (fun k => (View.ld (iblk1 V c 2 t) r1_1) (ix2 0 k)) (fun k => iblk1 V c 1 t (ix2 a k)) k
      = row (V c main_arg0) (V c main_arg1) (V c main_arg2) r k := by
  unfold row res
  refine congrArg₂ (fun x y : EReal => x + y) (congrArg₂ (fun x y : EReal => x * y) rfl ?_) (congrArg₂ (fun x y : EReal => x * y) ?_ ?_)
  · blk_simp [iblk1]
    congr 1
    blk_ext [e10]
  · refine (mod_row 2 _ _ k).trans ?_
    blk_simp [iblk1]
    congr 1
    blk_ext [e12]
  · blk_simp [iblk1]
    congr 1
    blk_ext [e11]

/-- The modulated input. -/
theorem fin0 : (dat0 V c).arrAt 2 cfg0.N = uIn (V c main_arg0) (V c main_arg1) := by
  refine (dat0 V c).arrAt_eq_of_covers 2 _ (by decide +kernel) fun t hf y => ?_
  obtain ⟨a, b, rfl⟩ := ex2 y
  blk_simp
  rw [after0_2]; frame_out; rw [pay0]
  unfold uIn
  refine congrArg₂ (fun x y : EReal => x + y) (congrArg₂ (fun x y : EReal => x * y) ?_ (congrArg₂ (fun x y : EReal => x + y) rfl ?_)) ?_
  · blk_simp [iblk0]
    congr 1
    blk_ext [e00, e02]
  · refine (mod_row 1 _ _ b).trans ?_
    blk_simp [iblk0]
    congr 1
    blk_ext [e01, e02]
  · refine (mod_row 0 _ _ b).trans ?_
    blk_simp [iblk0]
    congr 1
    blk_ext [e01, e02]

/-- The norm. -/
theorem fin5 : (dat1 V c).arrAt 5 cfg1.N = xh (V c main_arg0) (V c main_arg1) (V c main_arg2) := by
  refine (dat1 V c).arrAt_eq_of_covers 5 _ (by decide +kernel) fun t hf y => ?_
  obtain ⟨a, b, rfl⟩ := ex2 y
  blk_simp
  rw [after1_5]; frame_out; rw [pay4]
  unfold xh
  refine norm_same (fun k => row_blk V c t a _ ?_ k) ?_
  · blk_simp [e15]
  · refine Fin.ext ?_
    blk_simp [e15]

/-- The inverse deviations. -/
theorem fin6 : (dat1 V c).arrAt 6 cfg1.N = rstd (V c main_arg0) (V c main_arg1) (V c main_arg2) := by
  refine (dat1 V c).arrAt_eq_of_covers 6 _ (by decide +kernel) fun t hf y => ?_
  obtain ⟨a, b, rfl⟩ := ex2 y
  blk_simp
  rw [after1_6]; frame_out; rw [pay3]
  unfold rstd
  refine dev_same fun k => row_blk V c t a _ ?_ k
  blk_simp [e16]

/-- The modulated norm. -/
theorem fin7 : (dat1 V c).arrAt 7 cfg1.N = uTwo (V c main_arg0) (V c main_arg1) (V c main_arg2) (V c main_arg3) (V c main_arg4) := by
  refine (dat1 V c).arrAt_eq_of_covers 7 _ (by decide +kernel) fun t hf y => ?_
  obtain ⟨a, b, rfl⟩ := ex2 y
  blk_simp
  rw [after1_7]; frame_out; rw [pay1, pay4]
  unfold uTwo
  refine congrArg₂ (fun x y : EReal => x + y) (congrArg₂ (fun x y : EReal => x * y) (congrArg₂ (fun x y : EReal => x + y) (congrArg₂ (fun x y : EReal => x * y)
    (norm_same (fun k => row_blk V c t a _ ?_ k) ?_) ?_) ?_) (congrArg₂ (fun x y : EReal => x + y) rfl ?_)) ?_
  · blk_simp [e17]
  · refine Fin.ext ?_
    blk_simp [e17]
  · blk_simp [iblk1]
    congr 1
    blk_ext [e13, e17]
  · blk_simp [iblk1]
    congr 1
    blk_ext [e14, e17]
  · refine (mod_row 4 _ _ b).trans ?_
    blk_simp [iblk1]
    congr 1
    blk_ext [e12, e17]
  · refine (mod_row 3 _ _ b).trans ?_
    blk_simp [iblk1]
    congr 1
    blk_ext [e12, e17]

end

variable (m : (ℓ : Loc nD τ sig) → Buf (Elt Ideal) ℓ) (ρ : Dev nD → PrngReg) (c : Dev nD)

/-- The norm from equal arguments. -/
theorem xh_same {X X' : Vec Ideal S2048x2048 .f32} {M M' : Vec Ideal S6x2048 .f32} {Y Y' : Vec Ideal S2048x2048 .f32} (hX : X = X') (hM : M = M') (hY : Y = Y') :
    xh X M Y = xh X' M' Y' := by
  subst hX hM hY
  rfl

/-- The inverse deviations from equal arguments. -/
theorem rstd_same {X X' : Vec Ideal S2048x2048 .f32} {M M' : Vec Ideal S6x2048 .f32} {Y Y' : Vec Ideal S2048x2048 .f32} (hX : X = X') (hM : M = M') (hY : Y = Y') :
    rstd X M Y = rstd X' M' Y' := by
  subst hX hM hY
  rfl

/-- The modulated norm from equal arguments. -/
theorem uTwo_same {X X' : Vec Ideal S2048x2048 .f32} {M M' : Vec Ideal S6x2048 .f32} {Y Y' : Vec Ideal S2048x2048 .f32} {G G' B B' : Vec Ideal S1x2048 .f32}
    (hX : X = X') (hM : M = M') (hY : Y = Y') (hG : G = G') (hB : B = B') : uTwo X M Y G B = uTwo X' M' Y' G' B' := by
  subst hX hM hY hG hB
  rfl

/-- The modulated input at the end. -/
theorem W2_v0 : W2 m ρ c main_v0 = uIn (m ((c : Thread nD τ).loc main_arg0)) (m ((c : Thread nD τ).loc main_arg1)) :=
  (W2_of m ρ c main_v0 (by decide)).trans <| (hF0 m ρ c 2).symm.trans <| (fin0 (V0 m ρ) c).trans <|
    congrArg₂ uIn (W0_args m ρ c main_arg0 (by decide)) (W0_args m ρ c main_arg1 (by decide))
/-- The norm at the end. -/
theorem W2_v1_0 : W2 m ρ c main_v1_0 = xh (m ((c : Thread nD τ).loc main_arg0)) (m ((c : Thread nD τ).loc main_arg1)) (m ((c : Thread nD τ).loc main_arg2)) :=
  (hF1 m ρ c 5).symm.trans <| (fin5 (V1 m ρ) c).trans <|
    xh_same (W1_args m ρ c main_arg0 (by decide)) (W1_args m ρ c main_arg1 (by decide)) (W1_args m ρ c main_arg2 (by decide))
/-- The inverse deviations at the end. -/
theorem W2_v1_1 : W2 m ρ c main_v1_1 = rstd (m ((c : Thread nD τ).loc main_arg0)) (m ((c : Thread nD τ).loc main_arg1)) (m ((c : Thread nD τ).loc main_arg2)) :=
  (hF1 m ρ c 6).symm.trans <| (fin6 (V1 m ρ) c).trans <|
    rstd_same (W1_args m ρ c main_arg0 (by decide)) (W1_args m ρ c main_arg1 (by decide)) (W1_args m ρ c main_arg2 (by decide))
/-- The modulated norm at the end. -/
theorem W2_v1_2 : W2 m ρ c main_v1_2 = uTwo (m ((c : Thread nD τ).loc main_arg0)) (m ((c : Thread nD τ).loc main_arg1)) (m ((c : Thread nD τ).loc main_arg2)) (m ((c : Thread nD τ).loc main_arg3)) (m ((c : Thread nD τ).loc main_arg4)) :=
  (hF1 m ρ c 7).symm.trans <| (fin7 (V1 m ρ) c).trans <|
    uTwo_same (W1_args m ρ c main_arg0 (by decide)) (W1_args m ρ c main_arg1 (by decide)) (W1_args m ρ c main_arg2 (by decide)) (W1_args m ρ c main_arg3 (by decide)) (W1_args m ρ c main_arg4 (by decide))

end Cert.NormsIdeal.Hand

namespace Cert.NormsReferenceIdeal.Hand

open Idealize.ShloMosaic Cert.NormsReferenceIdeal Cert.NormsReferenceIdeal.Read Cert.Attn
open Cert.NormsIdeal.Hand (alpha len eps cen dev row res uIn xh rstd uTwo norm_same dev_same)

variable (X : Vec Ideal S2048x2048 .f32) (M : Vec Ideal S6x2048 .f32) (Y : Vec Ideal S2048x2048 .f32) (G B : Vec Ideal S1x2048 .f32)

/-- A sum from zero. -/
theorem from_zero {z x : EReal} (hz : z = 0) : z + x = x := by
  rw [hz, zero_add]

/-- The first shift at a column. -/
theorem v1_eq (j : S2048.Idx) (b : Fin 2048) (h : (j 0).val = b.val) : val_main_v1 (F := Ideal) M j = M (ix2 0 b) := by
  rw [val_main_v1_apply, val_main_v0_apply]
  have hb := b.isLt
  exact congrArg M (ext2 rfl (by show (j 0).val % 2048 = b.val; omega))
/-- The first scale at a column. -/
theorem v3_eq (j : S2048.Idx) (b : Fin 2048) (h : (j 0).val = b.val) : val_main_v3 (F := Ideal) M j = M (ix2 1 b) := by
  rw [val_main_v3_apply, val_main_v2_apply]
  have hb := b.isLt
  exact congrArg M (ext2 rfl (by show (j 0).val % 2048 = b.val; omega))
/-- The first gate at a column. -/
theorem v5_eq (j : S2048.Idx) (b : Fin 2048) (h : (j 0).val = b.val) : val_main_v5 (F := Ideal) M j = M (ix2 2 b) := by
  rw [val_main_v5_apply, val_main_v4_apply]
  have hb := b.isLt
  exact congrArg M (ext2 rfl (by show (j 0).val % 2048 = b.val; omega))
/-- The second shift at a column. -/
theorem v7_eq (j : S2048.Idx) (b : Fin 2048) (h : (j 0).val = b.val) : val_main_v7 (F := Ideal) M j = M (ix2 3 b) := by
  rw [val_main_v7_apply, val_main_v6_apply]
  have hb := b.isLt
  exact congrArg M (ext2 rfl (by show (j 0).val % 2048 = b.val; omega))
/-- The second scale at a column. -/
theorem v9_eq (j : S2048.Idx) (b : Fin 2048) (h : (j 0).val = b.val) : val_main_v9 (F := Ideal) M j = M (ix2 4 b) := by
  rw [val_main_v9_apply, val_main_v8_apply]
  have hb := b.isLt
  exact congrArg M (ext2 rfl (by show (j 0).val % 2048 = b.val; omega))

/-- The reference's modulated input is the kernel's. -/
theorem v54_eq : val_main_v54 (F := Ideal) X M = uIn X M := by
  funext i
  obtain ⟨a, b, rfl⟩ := ex2 i
  rw [val_main_v54_apply, val_main_v17_apply, val_main_v14_apply, val_main_v13_apply, val_main_v12_apply, val_main_v11_apply, val_main_v10_apply, val_main_cst_apply,
    val_main_v16_apply, val_main_v15_apply, v1_eq M _ b rfl, v3_eq M _ b rfl]
  show (X (ix2 a b) : EReal) * (Ideal.ofBits .f32 0x3F800000#32 + (M (ix2 1 b) : EReal)) + (M (ix2 0 b) : EReal) = _
  rw [ofBits_one]
  rfl

/-- The reference's residual row. -/
theorem v23_eq (i : S2048x2048.Idx) (a b : Fin 2048) (h : i = ix2 a b) : val_main_v23 (F := Ideal) X M Y i = row X M Y a b := by
  subst h
  rw [val_main_v23_apply, val_main_v19_apply, val_main_v18_apply, val_main_cst_0_apply, val_main_v22_apply, val_main_v21_apply, val_main_v20_apply, v5_eq M _ b rfl]
  rfl

/-- The reference's mean of a row. -/
theorem v27_eq (i : S2048x1.Idx) (a : Fin 2048) (h : (i 0).val = a.val) : val_main_v27 (F := Ideal) X M Y i = Ideal.div (∑ k, row X M Y a k) len := by
  rw [val_main_v27_apply, val_main_v25_apply, val_main_v26_apply, val_main_cst_2_apply, val_main_v24_apply]
  refine congrArg₂ Ideal.div ((from_zero ofBits_zero).trans (sum_same fun k => ?_)) rfl
  exact v23_eq X M Y _ a k (ext2 h rfl)

/-- The reference's row less its mean. -/
theorem v29_eq (i : S2048x2048.Idx) (a b : Fin 2048) (h : i = ix2 a b) : val_main_v29 (F := Ideal) X M Y i = cen (row X M Y a) b := by
  subst h
  rw [val_main_v29_apply, val_main_v28_apply, v23_eq X M Y _ a b rfl, v27_eq X M Y _ a rfl]
  rfl

/-- The reference's inverse deviations are the kernel's. -/
theorem v37_eq : val_main_v37 (F := Ideal) X M Y = rstd X M Y := by
  funext i
  obtain ⟨a, b, rfl⟩ := ex2 i
  rw [val_main_v37_apply, val_main_v36_apply, val_main_v34_apply, val_main_v32_apply, val_main_v33_apply, val_main_cst_4_apply, val_main_v35_apply, val_main_cst_5_apply, val_main_v31_apply]
  refine congrArg Ideal.rsqrt (congrArg₂ (fun x y : EReal => x + y) (congrArg₂ Ideal.div ((from_zero ofBits_zero).trans (sum_same fun k => ?_)) rfl) rfl)
  rw [val_main_v30_apply, v29_eq X M Y _ a k (ext2 rfl rfl)]
  rfl

/-- The reference's norm is the kernel's. -/
theorem v41_eq : val_main_v41 (F := Ideal) X M Y = xh X M Y := by
  funext i
  obtain ⟨a, b, rfl⟩ := ex2 i
  rw [val_main_v41_apply, val_main_v39_apply, val_main_v38_apply, val_main_v40_apply, v37_eq, v23_eq X M Y _ a b rfl, v27_eq X M Y _ a rfl]
  rfl

/-- The reference's modulated norm is the kernel's. -/
theorem v55_eq : val_main_v55 (F := Ideal) X M Y G B = uTwo X M Y G B := by
  funext i
  obtain ⟨a, b, rfl⟩ := ex2 i
  rw [val_main_v55_apply, val_main_v53_apply, val_main_v50_apply, val_main_v45_apply, val_main_v43_apply, val_main_v42_apply, val_main_v44_apply, val_main_v49_apply, val_main_v48_apply,
    val_main_v47_apply, val_main_v46_apply, val_main_cst_6_apply, val_main_v52_apply, val_main_v51_apply, v41_eq, v7_eq M _ b rfl, v9_eq M _ b rfl,
    show idx_main_v42 (ix2 a b) = ix2 0 b from ext2 rfl rfl, show idx_main_v44 (ix2 a b) = ix2 0 b from ext2 rfl rfl]
  show (xh X M Y (ix2 a b) * (G (ix2 0 b) : EReal) + (B (ix2 0 b) : EReal)) * (Ideal.ofBits .f32 0x3F800000#32 + (M (ix2 4 b) : EReal)) + (M (ix2 3 b) : EReal) = _
  rw [ofBits_one]
  rfl

end Cert.NormsReferenceIdeal.Hand

namespace Cert.Proof

open Idealize.ShloMosaic Idealize.ShloMosaic.TcCoe Idealize.SL.Sem

/-- Over the extended reals the blocked modulations and norm are the plain ones, whatever the arguments. -/
theorem algebraic_norms : Cert.algebraic_NormsIdeal_NormsReferenceIdeal := by
  intro m g m' g' _ agree
  refine ⟨fun c => Cert.NormsIdeal.Hand.uIn (m ((c.tc : Thread _ _).loc Cert.NormsIdeal.main_arg0)) (m ((c.tc : Thread _ _).loc Cert.NormsIdeal.main_arg1)),
    fun c => Cert.NormsIdeal.Hand.xh (m ((c.tc : Thread _ _).loc Cert.NormsIdeal.main_arg0)) (m ((c.tc : Thread _ _).loc Cert.NormsIdeal.main_arg1)) (m ((c.tc : Thread _ _).loc Cert.NormsIdeal.main_arg2)),
    fun c => Cert.NormsIdeal.Hand.rstd (m ((c.tc : Thread _ _).loc Cert.NormsIdeal.main_arg0)) (m ((c.tc : Thread _ _).loc Cert.NormsIdeal.main_arg1)) (m ((c.tc : Thread _ _).loc Cert.NormsIdeal.main_arg2)),
    fun c => Cert.NormsIdeal.Hand.uTwo (m ((c.tc : Thread _ _).loc Cert.NormsIdeal.main_arg0)) (m ((c.tc : Thread _ _).loc Cert.NormsIdeal.main_arg1)) (m ((c.tc : Thread _ _).loc Cert.NormsIdeal.main_arg2)) (m ((c.tc : Thread _ _).loc Cert.NormsIdeal.main_arg3)) (m ((c.tc : Thread _ _).loc Cert.NormsIdeal.main_arg4)), ?_, ?_⟩
  · refine (θ_run Cert.NormsIdeal.defs _ _).mono (fun r hr c => ?_) (Cert.NormsIdeal.Hand.run_all m g)
    exact ⟨(hr c _ (Cert.NormsIdeal.Gen.mem_uc Cert.NormsIdeal.main_v0 (by decide))).trans (Cert.NormsIdeal.Hand.W2_v0 m g c),
      (hr c _ (Cert.NormsIdeal.Gen.mem_uc Cert.NormsIdeal.main_v1_0 (by decide))).trans (Cert.NormsIdeal.Hand.W2_v1_0 m g c),
      (hr c _ (Cert.NormsIdeal.Gen.mem_uc Cert.NormsIdeal.main_v1_1 (by decide))).trans (Cert.NormsIdeal.Hand.W2_v1_1 m g c),
      (hr c _ (Cert.NormsIdeal.Gen.mem_uc Cert.NormsIdeal.main_v1_2 (by decide))).trans (Cert.NormsIdeal.Hand.W2_v1_2 m g c),
      (hr c _ (Cert.NormsIdeal.Gen.mem_uc Cert.NormsIdeal.main_arg0 (by decide))).trans (Cert.NormsIdeal.Gen.W2_main_arg0 m g c),
      (hr c _ (Cert.NormsIdeal.Gen.mem_uc Cert.NormsIdeal.main_arg1 (by decide))).trans (Cert.NormsIdeal.Gen.W2_main_arg1 m g c),
      (hr c _ (Cert.NormsIdeal.Gen.mem_uc Cert.NormsIdeal.main_arg2 (by decide))).trans (Cert.NormsIdeal.Gen.W2_main_arg2 m g c),
      (hr c _ (Cert.NormsIdeal.Gen.mem_uc Cert.NormsIdeal.main_arg3 (by decide))).trans (Cert.NormsIdeal.Gen.W2_main_arg3 m g c),
      (hr c _ (Cert.NormsIdeal.Gen.mem_uc Cert.NormsIdeal.main_arg4 (by decide))).trans (Cert.NormsIdeal.Gen.W2_main_arg4 m g c)⟩
  · refine (θ_run Cert.NormsReferenceIdeal.defs _ _).mono (fun r hr c => ?_) (Cert.NormsReferenceIdeal.Value.run (F := Ideal) m' g')
    obtain ⟨a0, a1, a2, a3, a4⟩ := agree c
    obtain ⟨r0, r1, r2, r3, args⟩ := hr c
    refine ⟨r0.trans ?_, r1.trans ?_, r2.trans ?_, r3.trans ?_, args⟩
    · rw [a0, a1]
      exact (Cert.NormsReferenceIdeal.Read.val_main_v54_eq _ _).trans <| Cert.NormsReferenceIdeal.Hand.v54_eq _ _
    · rw [a0, a1, a2]
      exact (Cert.NormsReferenceIdeal.Read.val_main_v41_eq _ _ _).trans <| Cert.NormsReferenceIdeal.Hand.v41_eq _ _ _
    · rw [a0, a1, a2]
      exact (Cert.NormsReferenceIdeal.Read.val_main_v37_eq _ _ _).trans <| Cert.NormsReferenceIdeal.Hand.v37_eq _ _ _
    · refine (Cert.NormsReferenceIdeal.Read.val_main_v55_eq m' c).trans ?_
      rw [a0, a1, a2, a3, a4]
      exact Cert.NormsReferenceIdeal.Hand.v55_eq _ _ _ _ _

end Cert.Proof
-- ==== Proof.AdamWVal.lean ====
module

public import proofs.«01_k».proof.Proof.Runs
public import proofs.«01_k».proof.Defs
public import proofs.«01_k».proof.Proof.Gen.AdamWReferenceIdeal.Run
public import proofs.«01_k».proof.Proof.Sig
public import Idealize.ShloMosaic.Lib.Pipeline.ValueKit

@[expose] public section

set_option maxRecDepth 16384

noncomputable section

namespace Cert.AdamWIdeal.Hand

open Cert.AdamWIdeal Cert.AdamWIdeal.Gen
open Idealize.ShloMosaic Idealize.ShloMosaic.TcCoe Idealize.SL.Sem Idealize.ShloMosaic.Pipeline Cert.Attn

/-! ## One step, at any shape -/

/-- The first bias correction, as the kernel names it. -/
def c1 : EReal := Named.named (F := Ideal) κ "c1" (φ := .f32) 0x3FC48605#32
/-- The second. -/
def c2 : EReal := Named.named (F := Ideal) κ "c2" (φ := .f32) 0x42C8E6D3#32

variable {S : Shape}

/-- The new first moment. -/
def mom (g m : Vec Ideal S .f32) : Vec Ideal S .f32 := fun i =>
  (Ideal.ofBits .f32 0x3F666666#32 * (m i : EReal) + Ideal.ofBits .f32 0x3DCCCCCD#32 * (g i : EReal) : EReal)
/-- The new second moment. -/
def vel (g v : Vec Ideal S .f32) : Vec Ideal S .f32 := fun i =>
  (Ideal.ofBits .f32 0x3F7FBE77#32 * (v i : EReal) + Ideal.ofBits .f32 0x3A83126F#32 * ((g i : EReal) * (g i : EReal)) : EReal)
/-- The step of the weight. -/
def del (w g m v : Vec Ideal S .f32) : Vec Ideal S .f32 := fun i =>
  (Ideal.ofBits .f32 0xBA83126F#32 * (Ideal.div (mom g m i * c1) (Ideal.sqrt (vel g v i * c2) + Ideal.ofBits .f32 0x322BCC77#32)
    + Ideal.ofBits .f32 0x3C23D70A#32 * (w i : EReal)) : EReal)

/-- The steps of equal arrays. -/
theorem del_same {w w' g g' m m' v v' : Vec Ideal S .f32} (hw : w = w') (hg : g = g') (hm : m = m') (hv : v = v') : del w g m v = del w' g' m' v' := by
  rw [hw, hg, hm, hv]

/-! ## The reference's step: it divides where the kernel multiplies by the named reciprocals -/

/-- The divisor of the first moment. -/
theorem ofBits_d1 : Ideal.ofBits .f32 0x3F26BD02#32 = ((5463681 / 8388608 : ℝ) : EReal) := by
  simp [Ideal.ofBits, Ideal.ieee, -EReal.coe_mul]; norm_num
/-- The divisor of the second moment. -/
theorem ofBits_d2 : Ideal.ofBits .f32 0x3C231ACC#32 = ((2672307 / 268435456 : ℝ) : EReal) := by
  simp [Ideal.ofBits, Ideal.ieee, -EReal.coe_mul]; norm_num
/-- Dividing by the first is multiplying by its reciprocal. -/
theorem div_d1 (x : EReal) : Ideal.div x (Ideal.ofBits .f32 0x3F26BD02#32) = x * c1 := by
  rw [ofBits_d1, Ideal.div_coe (by norm_num), one_div]
  exact congrArg (x * ·) (IdealRules.named_const.ideal_named_scalar _ _ _ _ rfl).symm
/-- The same of the second. -/
theorem div_d2 (x : EReal) : Ideal.div x (Ideal.ofBits .f32 0x3C231ACC#32) = x * c2 := by
  rw [ofBits_d2, Ideal.div_coe (by norm_num), one_div]
  exact congrArg (x * ·) (IdealRules.named_const.ideal_named_scalar _ _ _ _ rfl).symm

/-- The step with the divisions in it. -/
theorem del_div (w g m v : Vec Ideal S .f32) : (fun i => (Ideal.ofBits .f32 0xBA83126F#32 * (Ideal.div (Ideal.div (mom g m i) (Ideal.ofBits .f32 0x3F26BD02#32))
    (Ideal.sqrt (Ideal.div (vel g v i) (Ideal.ofBits .f32 0x3C231ACC#32)) + Ideal.ofBits .f32 0x322BCC77#32) + Ideal.ofBits .f32 0x3C23D70A#32 * (w i : EReal)) : EReal)) = del w g m v := by
  funext i
  rw [div_d1, div_d2]
  rfl

/-! ## The bodies and the blocks: each call has one point, whose blocks are the whole arrays -/

variable (V : (c : Dev nD) → (b : Ref sig .tc) → Buf (Elt Ideal) ((c : Thread nD τ).loc b)) (c : Dev nD)

/-- The body of the call for the modulation's bias. -/
theorem p0 (w g m v : Vec Ideal S1x12288 .f32) : k0_pay3 g m v w = del w g m v ∧ k0_pay1 g m = mom g m ∧ k0_pay2 g v = vel g v := ⟨rfl, rfl, rfl⟩
/-- Its windows. -/
theorem e0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := (by decide +kernel : ∀ t : Fin grid0.N, _)
/-- Its blocks. -/
theorem b0 (t : Fin cfg0.N) : iblk0 V c 0 t = V c main_arg0 ∧ iblk0 V c 1 t = V c main_arg1 ∧ iblk0 V c 2 t = V c main_arg2 ∧ iblk0 V c 3 t = V c main_arg3 := by
  refine ⟨?_, ?_, ?_, ?_⟩ <;>
  · funext y
    obtain ⟨a, b, rfl⟩ := ex2 y
    blk_simp [iblk0]
    congr 1
    blk_ext [e0]
/-- Its results. -/
theorem fin0 : (dat0 V c).arrAt 4 cfg0.N = del (V c main_arg0) (V c main_arg1) (V c main_arg2) (V c main_arg3) ∧ (dat0 V c).arrAt 5 cfg0.N = mom (V c main_arg1) (V c main_arg2) ∧ (dat0 V c).arrAt 6 cfg0.N = vel (V c main_arg1) (V c main_arg3) := by
  refine ⟨(dat0 V c).arrAt_eq_of_covers 4 _ (by decide +kernel) fun t hf y => ?_, (dat0 V c).arrAt_eq_of_covers 5 _ (by decide +kernel) fun t hf y => ?_,
    (dat0 V c).arrAt_eq_of_covers 6 _ (by decide +kernel) fun t hf y => ?_⟩ <;>
  obtain ⟨a, b, rfl⟩ := ex2 y
  · rw [after0_4]; frame_out; rw [(p0 _ _ _ _).1, (b0 V c t).1, (b0 V c t).2.1, (b0 V c t).2.2.1, (b0 V c t).2.2.2]
    blk_simp
    congr 1
    blk_ext [e0]
  · rw [after0_5]; frame_out; rw [(p0 (iblk0 V c 0 t) _ _ (iblk0 V c 3 t)).2.1, (b0 V c t).2.1, (b0 V c t).2.2.1]
    blk_simp
    congr 1
    blk_ext [e0]
  · rw [after0_6]; frame_out; rw [(p0 (iblk0 V c 0 t) _ (iblk0 V c 2 t) _).2.2, (b0 V c t).2.1, (b0 V c t).2.2.2]
    blk_simp
    congr 1
    blk_ext [e0]

/-- The body of the call for the norms' gains and biases. -/
theorem p1 (w g m v : Vec Ideal S1x2048 .f32) : k1_pay3 g m v w = del w g m v ∧ k1_pay1 g m = mom g m ∧ k1_pay2 g v = vel g v := ⟨rfl, rfl, rfl⟩
/-- Its windows. -/
theorem e1 : ∀ t : Fin cfg1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] := (by decide +kernel : ∀ t : Fin grid1.N, _)
/-- Its blocks. -/
theorem b1 (t : Fin cfg1.N) : iblk1 V c 0 t = V c main_arg4 ∧ iblk1 V c 1 t = V c main_arg5 ∧ iblk1 V c 2 t = V c main_arg6 ∧ iblk1 V c 3 t = V c main_arg7 := by
  refine ⟨?_, ?_, ?_, ?_⟩ <;>
  · funext y
    obtain ⟨a, b, rfl⟩ := ex2 y
    blk_simp [iblk1]
    congr 1
    blk_ext [e1]
/-- Its results. -/
theorem fin1 : (dat1 V c).arrAt 4 cfg1.N = del (V c main_arg4) (V c main_arg5) (V c main_arg6) (V c main_arg7) ∧ (dat1 V c).arrAt 5 cfg1.N = mom (V c main_arg5) (V c main_arg6) ∧ (dat1 V c).arrAt 6 cfg1.N = vel (V c main_arg5) (V c main_arg7) := by
  refine ⟨(dat1 V c).arrAt_eq_of_covers 4 _ (by decide +kernel) fun t hf y => ?_, (dat1 V c).arrAt_eq_of_covers 5 _ (by decide +kernel) fun t hf y => ?_,
    (dat1 V c).arrAt_eq_of_covers 6 _ (by decide +kernel) fun t hf y => ?_⟩ <;>
  obtain ⟨a, b, rfl⟩ := ex2 y
  · rw [after1_4]; frame_out; rw [(p1 _ _ _ _).1, (b1 V c t).1, (b1 V c t).2.1, (b1 V c t).2.2.1, (b1 V c t).2.2.2]
    blk_simp
    congr 1
    blk_ext [e1]
  · rw [after1_5]; frame_out; rw [(p1 (iblk1 V c 0 t) _ _ (iblk1 V c 3 t)).2.1, (b1 V c t).2.1, (b1 V c t).2.2.1]
    blk_simp
    congr 1
    blk_ext [e1]
  · rw [after1_6]; frame_out; rw [(p1 (iblk1 V c 0 t) _ (iblk1 V c 2 t) _).2.2, (b1 V c t).2.1, (b1 V c t).2.2.2]
    blk_simp
    congr 1
    blk_ext [e1]

/-- The body of the call for the low-rank gains. -/
theorem p2 (w g m v : Vec Ideal S1x512 .f32) : k2_pay3 g m v w = del w g m v ∧ k2_pay1 g m = mom g m ∧ k2_pay2 g v = vel g v := ⟨rfl, rfl, rfl⟩
/-- Its windows. -/
theorem e2 : ∀ t : Fin cfg2.N, win2_0.index t = ![0, 0] ∧ win2_1.index t = ![0, 0] ∧ win2_2.index t = ![0, 0] ∧ win2_3.index t = ![0, 0] ∧ win2_4.index t = ![0, 0] ∧ win2_5.index t = ![0, 0] ∧ win2_6.index t = ![0, 0] := (by decide +kernel : ∀ t : Fin grid2.N, _)
/-- Its blocks. -/
theorem b2 (t : Fin cfg2.N) : iblk2 V c 0 t = V c main_arg8 ∧ iblk2 V c 1 t = V c main_arg9 ∧ iblk2 V c 2 t = V c main_arg10 ∧ iblk2 V c 3 t = V c main_arg11 := by
  refine ⟨?_, ?_, ?_, ?_⟩ <;>
  · funext y
    obtain ⟨a, b, rfl⟩ := ex2 y
    blk_simp [iblk2]
    congr 1
    blk_ext [e2]
/-- Its results. -/
theorem fin2 : (dat2 V c).arrAt 4 cfg2.N = del (V c main_arg8) (V c main_arg9) (V c main_arg10) (V c main_arg11) ∧ (dat2 V c).arrAt 5 cfg2.N = mom (V c main_arg9) (V c main_arg10) ∧ (dat2 V c).arrAt 6 cfg2.N = vel (V c main_arg9) (V c main_arg11) := by
  refine ⟨(dat2 V c).arrAt_eq_of_covers 4 _ (by decide +kernel) fun t hf y => ?_, (dat2 V c).arrAt_eq_of_covers 5 _ (by decide +kernel) fun t hf y => ?_,
    (dat2 V c).arrAt_eq_of_covers 6 _ (by decide +kernel) fun t hf y => ?_⟩ <;>
  obtain ⟨a, b, rfl⟩ := ex2 y
  · rw [after2_4]; frame_out; rw [(p2 _ _ _ _).1, (b2 V c t).1, (b2 V c t).2.1, (b2 V c t).2.2.1, (b2 V c t).2.2.2]
    blk_simp
    congr 1
    blk_ext [e2]
  · rw [after2_5]; frame_out; rw [(p2 (iblk2 V c 0 t) _ _ (iblk2 V c 3 t)).2.1, (b2 V c t).2.1, (b2 V c t).2.2.1]
    blk_simp
    congr 1
    blk_ext [e2]
  · rw [after2_6]; frame_out; rw [(p2 (iblk2 V c 0 t) _ (iblk2 V c 2 t) _).2.2, (b2 V c t).2.1, (b2 V c t).2.2.2]
    blk_simp
    congr 1
    blk_ext [e2]

/-- The body of the call for the convolution's weight. -/
theorem p3 (w g m v : Vec Ideal S3x256 .f32) : k3_pay3 g m v w = del w g m v ∧ k3_pay1 g m = mom g m ∧ k3_pay2 g v = vel g v := ⟨rfl, rfl, rfl⟩
/-- Its windows. -/
theorem e3 : ∀ t : Fin cfg3.N, win3_0.index t = ![0, 0] ∧ win3_1.index t = ![0, 0] ∧ win3_2.index t = ![0, 0] ∧ win3_3.index t = ![0, 0] ∧ win3_4.index t = ![0, 0] ∧ win3_5.index t = ![0, 0] ∧ win3_6.index t = ![0, 0] := (by decide +kernel : ∀ t : Fin grid3.N, _)
/-- Its blocks. -/
theorem b3 (t : Fin cfg3.N) : iblk3 V c 0 t = V c main_arg12 ∧ iblk3 V c 1 t = V c main_arg13 ∧ iblk3 V c 2 t = V c main_arg14 ∧ iblk3 V c 3 t = V c main_arg15 := by
  refine ⟨?_, ?_, ?_, ?_⟩ <;>
  · funext y
    obtain ⟨a, b, rfl⟩ := ex2 y
    blk_simp [iblk3]
    congr 1
    blk_ext [e3]
/-- Its results. -/
theorem fin3 : (dat3 V c).arrAt 4 cfg3.N = del (V c main_arg12) (V c main_arg13) (V c main_arg14) (V c main_arg15) ∧ (dat3 V c).arrAt 5 cfg3.N = mom (V c main_arg13) (V c main_arg14) ∧ (dat3 V c).arrAt 6 cfg3.N = vel (V c main_arg13) (V c main_arg15) := by
  refine ⟨(dat3 V c).arrAt_eq_of_covers 4 _ (by decide +kernel) fun t hf y => ?_, (dat3 V c).arrAt_eq_of_covers 5 _ (by decide +kernel) fun t hf y => ?_,
    (dat3 V c).arrAt_eq_of_covers 6 _ (by decide +kernel) fun t hf y => ?_⟩ <;>
  obtain ⟨a, b, rfl⟩ := ex2 y
  · rw [after3_4]; frame_out; rw [(p3 _ _ _ _).1, (b3 V c t).1, (b3 V c t).2.1, (b3 V c t).2.2.1, (b3 V c t).2.2.2]
    blk_simp
    congr 1
    blk_ext [e3]
  · rw [after3_5]; frame_out; rw [(p3 (iblk3 V c 0 t) _ _ (iblk3 V c 3 t)).2.1, (b3 V c t).2.1, (b3 V c t).2.2.1]
    blk_simp
    congr 1
    blk_ext [e3]
  · rw [after3_6]; frame_out; rw [(p3 (iblk3 V c 0 t) _ (iblk3 V c 2 t) _).2.2, (b3 V c t).2.1, (b3 V c t).2.2.2]
    blk_simp
    congr 1
    blk_ext [e3]

/-! ## The results at the end -/

variable (m : (ℓ : Loc nD τ sig) → Buf (Elt Ideal) ℓ) (ρ : Dev nD → PrngReg)

/-- The step, and the moments, of the modulation's bias. -/
theorem end0 : W4 m ρ c (Proc.devRef .tc main_v0_0) = del (m ((c : Thread nD τ).loc main_arg0)) (m ((c : Thread nD τ).loc main_arg1)) (m ((c : Thread nD τ).loc main_arg2)) (m ((c : Thread nD τ).loc main_arg3))
    ∧ W4 m ρ c (Proc.devRef .tc main_v0_1) = mom (m ((c : Thread nD τ).loc main_arg1)) (m ((c : Thread nD τ).loc main_arg2)) ∧ W4 m ρ c (Proc.devRef .tc main_v0_2) = vel (m ((c : Thread nD τ).loc main_arg1)) (m ((c : Thread nD τ).loc main_arg3)) :=
  have f := fin0 (V0 m ρ) c
  ⟨(W4_of m ρ c main_v0_0 (by decide)).trans <| (W3_of m ρ c main_v0_0 (by decide)).trans <| (W2_of m ρ c main_v0_0 (by decide)).trans <| (hF0 m ρ c 4).symm.trans <| f.1.trans <| del_same (W0_args m ρ c main_arg0 (by decide)) (W0_args m ρ c main_arg1 (by decide)) (W0_args m ρ c main_arg2 (by decide)) (W0_args m ρ c main_arg3 (by decide)),
    (W4_of m ρ c main_v0_1 (by decide)).trans <| (W3_of m ρ c main_v0_1 (by decide)).trans <| (W2_of m ρ c main_v0_1 (by decide)).trans <| (hF0 m ρ c 5).symm.trans <| f.2.1.trans <| congrArg₂ mom (W0_args m ρ c main_arg1 (by decide)) (W0_args m ρ c main_arg2 (by decide)),
    (W4_of m ρ c main_v0_2 (by decide)).trans <| (W3_of m ρ c main_v0_2 (by decide)).trans <| (W2_of m ρ c main_v0_2 (by decide)).trans <| (hF0 m ρ c 6).symm.trans <| f.2.2.trans <| congrArg₂ vel (W0_args m ρ c main_arg1 (by decide)) (W0_args m ρ c main_arg3 (by decide))⟩

/-- The step, and the moments, of the norms' gains and biases. -/
theorem end1 : W4 m ρ c (Proc.devRef .tc main_v1_0) = del (m ((c : Thread nD τ).loc main_arg4)) (m ((c : Thread nD τ).loc main_arg5)) (m ((c : Thread nD τ).loc main_arg6)) (m ((c : Thread nD τ).loc main_arg7))
    ∧ W4 m ρ c (Proc.devRef .tc main_v1_1) = mom (m ((c : Thread nD τ).loc main_arg5)) (m ((c : Thread nD τ).loc main_arg6)) ∧ W4 m ρ c (Proc.devRef .tc main_v1_2) = vel (m ((c : Thread nD τ).loc main_arg5)) (m ((c : Thread nD τ).loc main_arg7)) :=
  have f := fin1 (V1 m ρ) c
  ⟨(W4_of m ρ c main_v1_0 (by decide)).trans <| (W3_of m ρ c main_v1_0 (by decide)).trans <| (hF1 m ρ c 4).symm.trans <| f.1.trans <| del_same (W1_args m ρ c main_arg4 (by decide)) (W1_args m ρ c main_arg5 (by decide)) (W1_args m ρ c main_arg6 (by decide)) (W1_args m ρ c main_arg7 (by decide)),
    (W4_of m ρ c main_v1_1 (by decide)).trans <| (W3_of m ρ c main_v1_1 (by decide)).trans <| (hF1 m ρ c 5).symm.trans <| f.2.1.trans <| congrArg₂ mom (W1_args m ρ c main_arg5 (by decide)) (W1_args m ρ c main_arg6 (by decide)),
    (W4_of m ρ c main_v1_2 (by decide)).trans <| (W3_of m ρ c main_v1_2 (by decide)).trans <| (hF1 m ρ c 6).symm.trans <| f.2.2.trans <| congrArg₂ vel (W1_args m ρ c main_arg5 (by decide)) (W1_args m ρ c main_arg7 (by decide))⟩

/-- The step, and the moments, of the low-rank gains. -/
theorem end2 : W4 m ρ c (Proc.devRef .tc main_v2_0) = del (m ((c : Thread nD τ).loc main_arg8)) (m ((c : Thread nD τ).loc main_arg9)) (m ((c : Thread nD τ).loc main_arg10)) (m ((c : Thread nD τ).loc main_arg11))
    ∧ W4 m ρ c (Proc.devRef .tc main_v2_1) = mom (m ((c : Thread nD τ).loc main_arg9)) (m ((c : Thread nD τ).loc main_arg10)) ∧ W4 m ρ c (Proc.devRef .tc main_v2_2) = vel (m ((c : Thread nD τ).loc main_arg9)) (m ((c : Thread nD τ).loc main_arg11)) :=
  have f := fin2 (V2 m ρ) c
  ⟨(W4_of m ρ c main_v2_0 (by decide)).trans <| (hF2 m ρ c 4).symm.trans <| f.1.trans <| del_same (W2_args m ρ c main_arg8 (by decide)) (W2_args m ρ c main_arg9 (by decide)) (W2_args m ρ c main_arg10 (by decide)) (W2_args m ρ c main_arg11 (by decide)),
    (W4_of m ρ c main_v2_1 (by decide)).trans <| (hF2 m ρ c 5).symm.trans <| f.2.1.trans <| congrArg₂ mom (W2_args m ρ c main_arg9 (by decide)) (W2_args m ρ c main_arg10 (by decide)),
    (W4_of m ρ c main_v2_2 (by decide)).trans <| (hF2 m ρ c 6).symm.trans <| f.2.2.trans <| congrArg₂ vel (W2_args m ρ c main_arg9 (by decide)) (W2_args m ρ c main_arg11 (by decide))⟩

/-- The step, and the moments, of the convolution's weight. -/
theorem end3 : W4 m ρ c (Proc.devRef .tc main_v3_0) = del (m ((c : Thread nD τ).loc main_arg12)) (m ((c : Thread nD τ).loc main_arg13)) (m ((c : Thread nD τ).loc main_arg14)) (m ((c : Thread nD τ).loc main_arg15))
    ∧ W4 m ρ c (Proc.devRef .tc main_v3_1) = mom (m ((c : Thread nD τ).loc main_arg13)) (m ((c : Thread nD τ).loc main_arg14)) ∧ W4 m ρ c (Proc.devRef .tc main_v3_2) = vel (m ((c : Thread nD τ).loc main_arg13)) (m ((c : Thread nD τ).loc main_arg15)) :=
  have f := fin3 (V3 m ρ) c
  ⟨(hF3 m ρ c 4).symm.trans <| f.1.trans <| del_same (W3_args m ρ c main_arg12 (by decide)) (W3_args m ρ c main_arg13 (by decide)) (W3_args m ρ c main_arg14 (by decide)) (W3_args m ρ c main_arg15 (by decide)),
    (hF3 m ρ c 5).symm.trans <| f.2.1.trans <| congrArg₂ mom (W3_args m ρ c main_arg13 (by decide)) (W3_args m ρ c main_arg14 (by decide)),
    (hF3 m ρ c 6).symm.trans <| f.2.2.trans <| congrArg₂ vel (W3_args m ρ c main_arg13 (by decide)) (W3_args m ρ c main_arg15 (by decide))⟩

end Cert.AdamWIdeal.Hand

namespace Cert.Proof

open Idealize.ShloMosaic Idealize.ShloMosaic.TcCoe Idealize.SL.Sem Cert.AdamWIdeal Cert.AdamWIdeal.Gen Cert.AdamWIdeal.Hand

/-- The named reciprocals are those of the reference's divisors. -/
theorem preserves_adamW : Cert.preserves_AdamW_AdamWIdeal :=
  ⟨IdealRules.named_const.statement Cert.AdamWIdeal.κ "c1" .f32 0x3FC48605#32 _ rfl, IdealRules.named_const.statement Cert.AdamWIdeal.κ "c2" .f32 0x42C8E6D3#32 _ rfl⟩

/-- Over the extended reals the four calls are the plain step, whatever the arguments. -/
theorem algebraic_adamW : Cert.algebraic_AdamWIdeal_AdamWReferenceIdeal := by
  intro m g m' g' _ agree
  refine ⟨fun c => del (m ((c : Thread nD τ).loc main_arg0)) (m ((c : Thread nD τ).loc main_arg1)) (m ((c : Thread nD τ).loc main_arg2)) (m ((c : Thread nD τ).loc main_arg3)),
    fun c => mom (m ((c : Thread nD τ).loc main_arg1)) (m ((c : Thread nD τ).loc main_arg2)),
    fun c => vel (m ((c : Thread nD τ).loc main_arg1)) (m ((c : Thread nD τ).loc main_arg3)),
    fun c => del (m ((c : Thread nD τ).loc main_arg4)) (m ((c : Thread nD τ).loc main_arg5)) (m ((c : Thread nD τ).loc main_arg6)) (m ((c : Thread nD τ).loc main_arg7)),
    fun c => mom (m ((c : Thread nD τ).loc main_arg5)) (m ((c : Thread nD τ).loc main_arg6)),
    fun c => vel (m ((c : Thread nD τ).loc main_arg5)) (m ((c : Thread nD τ).loc main_arg7)),
    fun c => del (m ((c : Thread nD τ).loc main_arg8)) (m ((c : Thread nD τ).loc main_arg9)) (m ((c : Thread nD τ).loc main_arg10)) (m ((c : Thread nD τ).loc main_arg11)),
    fun c => mom (m ((c : Thread nD τ).loc main_arg9)) (m ((c : Thread nD τ).loc main_arg10)),
    fun c => vel (m ((c : Thread nD τ).loc main_arg9)) (m ((c : Thread nD τ).loc main_arg11)),
    fun c => del (m ((c : Thread nD τ).loc main_arg12)) (m ((c : Thread nD τ).loc main_arg13)) (m ((c : Thread nD τ).loc main_arg14)) (m ((c : Thread nD τ).loc main_arg15)),
    fun c => mom (m ((c : Thread nD τ).loc main_arg13)) (m ((c : Thread nD τ).loc main_arg14)),
    fun c => vel (m ((c : Thread nD τ).loc main_arg13)) (m ((c : Thread nD τ).loc main_arg15)), ?_, ?_⟩
  · refine (θ_run Cert.AdamWIdeal.defs _ _).mono (fun r hr c => ?_) (run_all m g)
    have h := fun b hb => hr c _ (mem_uc b hb)
    exact ⟨(h main_v0_0 (by decide)).trans (end0 c m g).1,
      (h main_v0_1 (by decide)).trans (end0 c m g).2.1,
      (h main_v0_2 (by decide)).trans (end0 c m g).2.2,
      (h main_v1_0 (by decide)).trans (end1 c m g).1,
      (h main_v1_1 (by decide)).trans (end1 c m g).2.1,
      (h main_v1_2 (by decide)).trans (end1 c m g).2.2,
      (h main_v2_0 (by decide)).trans (end2 c m g).1,
      (h main_v2_1 (by decide)).trans (end2 c m g).2.1,
      (h main_v2_2 (by decide)).trans (end2 c m g).2.2,
      (h main_v3_0 (by decide)).trans (end3 c m g).1,
      (h main_v3_1 (by decide)).trans (end3 c m g).2.1,
      (h main_v3_2 (by decide)).trans (end3 c m g).2.2,
      (h main_arg0 (by decide)).trans (W4_main_arg0 m g c),
      (h main_arg1 (by decide)).trans (W4_main_arg1 m g c),
      (h main_arg2 (by decide)).trans (W4_main_arg2 m g c),
      (h main_arg3 (by decide)).trans (W4_main_arg3 m g c),
      (h main_arg4 (by decide)).trans (W4_main_arg4 m g c),
      (h main_arg5 (by decide)).trans (W4_main_arg5 m g c),
      (h main_arg6 (by decide)).trans (W4_main_arg6 m g c),
      (h main_arg7 (by decide)).trans (W4_main_arg7 m g c),
      (h main_arg8 (by decide)).trans (W4_main_arg8 m g c),
      (h main_arg9 (by decide)).trans (W4_main_arg9 m g c),
      (h main_arg10 (by decide)).trans (W4_main_arg10 m g c),
      (h main_arg11 (by decide)).trans (W4_main_arg11 m g c),
      (h main_arg12 (by decide)).trans (W4_main_arg12 m g c),
      (h main_arg13 (by decide)).trans (W4_main_arg13 m g c),
      (h main_arg14 (by decide)).trans (W4_main_arg14 m g c),
      (h main_arg15 (by decide)).trans (W4_main_arg15 m g c)⟩
  · refine (θ_run Cert.AdamWReferenceIdeal.defs _ _).mono (fun r hr c => ?_) (Cert.AdamWReferenceIdeal.Value.run (F := Ideal) m' g')
    obtain ⟨a0, a1, a2, a3, a4, a5, a6, a7, a8, a9, a10, a11, a12, a13, a14, a15⟩ := agree c
    obtain ⟨r0, r1, r2, r3, r4, r5, r6, r7, r8, r9, r10, r11, args⟩ := hr c
    exact ⟨r0.trans ((del_div _ _ _ _).trans (del_same a0 a1 a2 a3)),
      r1.trans (congrArg₂ mom a1 a2),
      r2.trans (congrArg₂ vel a1 a3),
      r3.trans ((del_div _ _ _ _).trans (del_same a4 a5 a6 a7)),
      r4.trans (congrArg₂ mom a5 a6),
      r5.trans (congrArg₂ vel a5 a7),
      r6.trans ((del_div _ _ _ _).trans (del_same a8 a9 a10 a11)),
      r7.trans (congrArg₂ mom a9 a10),
      r8.trans (congrArg₂ vel a9 a11),
      r9.trans ((del_div _ _ _ _).trans (del_same a12 a13 a14 a15)),
      r10.trans (congrArg₂ mom a13 a14),
      r11.trans (congrArg₂ vel a13 a15), args⟩

end Cert.Proof
-- ==== Proof.GradXVal.lean ====
module

public import proofs.«01_k».proof.Defs
public import proofs.«01_k».proof.Proof.Gen.GradXIdeal.Value
public import proofs.«01_k».proof.Proof.Gen.GradXReferenceIdeal.Read
public import proofs.«01_k».proof.Proof.Sig
public import Idealize.ShloMosaic.Lib.Pipeline.ValueKit

@[expose] public section

set_option maxRecDepth 16384

noncomputable section

namespace Cert.GradXIdeal.Hand

open Cert.GradXIdeal Cert.GradXIdeal.Gen
open Idealize.ShloMosaic Idealize.ShloMosaic.TcCoe Idealize.SL.Sem Idealize.ShloMosaic.Pipeline Cert.Attn

/-- The input's gradient: the residual's, and the modulated input's by one plus the scale. -/
def gx (D A : Vec Ideal S2048x2048 .f32) (M : Vec Ideal S6x2048 .f32) : Vec Ideal S2048x2048 .f32 := fun i =>
  ((A i : EReal) + (D i : EReal) * (1 + (M (ix2 1 (i 1)) : EReal)) : EReal)

/-- Where the blocks sit at a point. -/
theorem e : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] := (by decide +kernel : ∀ t : Fin grid0.N, _)

/-- What a point writes of the input's gradient. -/
theorem pay2 (d a : Vec Ideal S256x2048 .f32) (s : Vec Ideal S1x2048 .f32) (i : Fin 256) (j : Fin 2048) :
    k0_pay2 d a s (ix2 i j) = ((a (ix2 i j) : EReal) + (d (ix2 i j) : EReal) * (1 + (s (ix2 0 j) : EReal)) : EReal) := by
  pointwise [k0_pay2, ofBits_one]

variable (m : (ℓ : Loc nD τ sig) → Buf (Elt Ideal) ℓ) (c : Dev nD)

/-- Either way a point leaves that. -/
theorem out4 (t : Fin cfg0.N) : (outsAt0 m c t.val t.isLt).1 = k0_pay2 (iblk m c 0 t) (iblk m c 1 t) (View.ld (iblk m c 3 t) (Rect.unit (s := S6x2048) ![1, 0] S1x2048.size inb_S6x2048_S1x2048_1_0)) := by
  by_cases h : t.val % 8 = 0
  · rw [outsAt0_A m c t h]; frame_out; rfl
  · rw [outsAt0_B m c t h]; frame_out; rfl

/-- A row of the modulation. -/
theorem mod_row (X : Vec Ideal S6x2048 .f32) (b : Fin 2048) :
    View.ld (Val := Elt Ideal) (e' := .f32) X (Rect.unit (s := S6x2048) ![1, 0] S1x2048.size inb_S6x2048_S1x2048_1_0) (ix2 (0 : Fin 1) b) = X (ix2 1 b) := by
  refine congrArg X (ext2 rfl ?_)
  show 0 + 1 * b.val = b.val
  omega

/-- What the call leaves in its first result. -/
theorem fin4 : (dats m 0 c).arrAt 4 cfg0.N = gx (m ((c.tc : Thread nD τ).loc main_arg0)) (m ((c.tc : Thread nD τ).loc main_arg1)) (m ((c.tc : Thread nD τ).loc main_arg3)) := by
  refine (dats m 0 c).arrAt_eq_of_covers 4 _ (by decide +kernel) fun t hf y => ?_
  obtain ⟨a, b, rfl⟩ := ex2 y
  blk_simp
  rw [after0_4, out4, pay2]
  unfold gx
  refine congrArg₂ (fun x y : EReal => x + y) ?_ (congrArg₂ (fun x y : EReal => x * y) ?_ (congrArg₂ (fun x y : EReal => x + y) rfl ((mod_row _ b).trans ?_)))
  · blk_simp [iblk, V]
    congr 1
    blk_ext [e]
  · blk_simp [iblk, V]
    congr 1
    blk_ext [e]
  · blk_simp [iblk, V]
    congr 1
    blk_ext [e]

end Cert.GradXIdeal.Hand

namespace Cert.GradXReferenceIdeal.Hand

open Idealize.ShloMosaic Cert.GradXReferenceIdeal Cert.GradXReferenceIdeal.Read Cert.Attn

/-- The reference's gradient is the same. -/
theorem v14_eq (D A : Vec Ideal S2048x2048 .f32) (M : Vec Ideal S6x2048 .f32) : val_main_v14 (F := Ideal) D A M = Cert.GradXIdeal.Hand.gx D A M := by
  funext i
  obtain ⟨a, b, rfl⟩ := ex2 i
  rw [val_main_v14_apply, val_main_v13_apply, val_main_v12_apply, val_main_v6_apply, val_main_v5_apply, val_main_v4_apply, val_main_cst_apply, val_main_v3_apply, val_main_v2_apply,
    show idx_main_v2 (idx_main_v3 (idx_main_v6 (idx_main_v12 (ix2 a b)))) = ix2 1 b from ext2 rfl (Nat.mod_eq_of_lt b.isLt)]
  show ((A (ix2 a b) : EReal) + (D (ix2 a b) : EReal) * (Ideal.ofBits .f32 0x3F800000#32 + (M (ix2 1 b) : EReal)) : EReal) = _
  rw [ofBits_one]
  rfl

end Cert.GradXReferenceIdeal.Hand

namespace Cert.Proof

open Idealize.ShloMosaic Idealize.ShloMosaic.TcCoe Idealize.SL.Sem

/-- Over the extended reals the blocked gradient and the differentiated modulation agree, whatever the arguments. -/
theorem algebraic_gradX : Cert.algebraic_GradXIdeal_GradXReferenceIdeal := by
  intro m g m' g' _ agree
  refine ⟨fun c => Cert.GradXIdeal.Hand.gx (m ((c.tc : Thread _ _).loc Cert.GradXIdeal.main_arg0)) (m ((c.tc : Thread _ _).loc Cert.GradXIdeal.main_arg1)) (m ((c.tc : Thread _ _).loc Cert.GradXIdeal.main_arg3)), ?_, ?_⟩
  · refine (θ_run Cert.GradXIdeal.defs _ _).mono (fun r hr c => ?_) (Cert.GradXIdeal.Value.run_blocks m g)
    obtain ⟨h, h', args⟩ := hr c
    exact ⟨h.trans (Cert.GradXIdeal.Hand.fin4 m c), args⟩
  · refine (θ_run Cert.GradXReferenceIdeal.defs _ _).mono (fun r hr c => ?_) (Cert.GradXReferenceIdeal.Value.run (F := Ideal) m' g')
    obtain ⟨a0, a1, a2, a3⟩ := agree c
    obtain ⟨r0, args⟩ := hr c
    refine ⟨r0.trans ?_, args⟩
    rw [a0, a1, a3]
    exact (Cert.GradXReferenceIdeal.Read.val_main_v14_eq _ _ _).trans <| Cert.GradXReferenceIdeal.Hand.v14_eq _ _ _

end Cert.Proof
-- ==== Proof.RmsQVal.lean ====
module

public import proofs.«01_k».proof.Defs
public import proofs.«01_k».proof.Proof.Gen.RmsQIdeal.Value
public import proofs.«01_k».proof.Proof.Gen.RmsQReferenceIdeal.Read
public import proofs.«01_k».proof.Proof.Sig
public import Idealize.ShloMosaic.Lib.Pipeline.ValueKit

@[expose] public section

set_option maxRecDepth 16384

noncomputable section

namespace Cert.RmsQIdeal.Hand

open Cert.RmsQIdeal Cert.RmsQIdeal.Gen
open Idealize.ShloMosaic Idealize.ShloMosaic.TcCoe Idealize.SL.Sem Idealize.ShloMosaic.Pipeline Cert.Attn

/-- A row over the root of its mean square. -/
def nr (x : Fin 512 → EReal) (j : Fin 512) : EReal :=
  x j * Ideal.rsqrt (Ideal.div (∑ k, x k * x k) (Ideal.ofBits .f32 0x44000000#32) + Ideal.ofBits .f32 0x358637BD#32)

/-- The normed columns of the projection, times the gain. -/
def nrm (A : Vec Ideal S2048x11520 .bf16) (G : Vec Ideal S1x512 .f32) : Vec Ideal S2048x512 .bf16 := fun i =>
  (nr (fun k => A (ix2 (i 0) ⟨0 + k.val, by omega⟩)) (i 1) * (G (ix2 0 (i 1)) : EReal) : EReal)

/-- Where the blocks sit at a point. -/
theorem e : ∀ t : Fin cfg0.N, win0_0.index t = ![t.val, 0] ∧ win0_1.index t = ![0, 0] ∧ win0_2.index t = ![t.val, 0] := (by decide +kernel : ∀ t : Fin grid0.N, _)

/-- What a point writes. -/
theorem pay (a : Vec Ideal S256x512 .bf16) (g : Vec Ideal S1x512 .f32) (i : Fin 256) (j : Fin 512) :
    k0_pay1 a g (ix2 i j) = (nr (fun k => a (ix2 i k)) j * (g (ix2 0 j) : EReal) : EReal) := by
  pointwise [k0_pay1, ofBits_zero]
  rfl

variable (m : (ℓ : Loc nD τ sig) → Buf (Elt Ideal) ℓ) (c : Dev nD)

/-- What the call leaves in its result. -/
theorem fin2 : (dats m 0 c).arrAt 2 cfg0.N = nrm (m ((c.tc : Thread nD τ).loc main_arg0)) (m ((c.tc : Thread nD τ).loc main_arg1)) := by
  refine (dats m 0 c).arrAt_eq_of_covers 2 _ (by decide +kernel) fun t hf y => ?_
  obtain ⟨a, b, rfl⟩ := ex2 y
  blk_simp
  rw [after0_2]; unfold outsAt0; frame_out; rw [pay]
  unfold nrm
  refine congrArg₂ (fun x y : EReal => x * y) (congrArg₂ nr (funext fun k => ?_) ?_) ?_
  · unfold X0_0 Pipeline.Window.fill
    rw [dif_pos (moved0_0 t _)]
    blk_simp [iblk, V]
    congr 1
    blk_ext [e]
  · refine Fin.ext ?_
    blk_simp [e]
  · blk_simp [iblk, V]
    congr 1
    blk_ext [e]

end Cert.RmsQIdeal.Hand

namespace Cert.RmsQReferenceIdeal.Hand

open Idealize.ShloMosaic Cert.RmsQReferenceIdeal Cert.RmsQReferenceIdeal.Read Cert.Attn

/-- The reference's mean square of a row. -/
theorem v3_eq (A : Vec Ideal S2048x11520 .bf16) (i : S2048.Idx) : val_main_v3 (F := Ideal) A i = (∑ k : Fin 512, (A (ix2 (i 0) ⟨0 + k.val, by omega⟩) : EReal) * (A (ix2 (i 0) ⟨0 + k.val, by omega⟩) : EReal) : EReal) := by
  rw [val_main_v3_apply]
  refine ((congrArg (fun z : EReal => z + _) ofBits_zero).trans (zero_add _)).trans (sum_same fun k => ?_)
  rw [val_main_v2_apply, val_main_v1_apply, val_main_v0_apply, show idx_main_v0 (idx_main_v3 i k) = ix2 (i 0) ⟨0 + k.val, by omega⟩ from ext2 rfl (Nat.zero_add _).symm]
  rfl

/-- The reference's normed columns are the same. -/
theorem v14_eq (A : Vec Ideal S2048x11520 .bf16) (G : Vec Ideal S1x512 .f32) : val_main_v14 (F := Ideal) A G = Cert.RmsQIdeal.Hand.nrm A G := by
  funext i
  obtain ⟨a, b, rfl⟩ := ex2 i
  rw [val_main_v14_apply, val_main_v13_apply, val_main_v12_apply, val_main_v11_apply, val_main_v10_apply, val_main_v9_apply, val_main_v8_apply, val_main_v7_apply, val_main_cst_1_apply,
    val_main_v6_apply, val_main_v5_apply, val_main_cst_0_apply, val_main_v4_apply, v3_eq, val_main_v1_apply, val_main_v0_apply,
    show idx_main_v0 (ix2 a b) = ix2 a ⟨0 + b.val, by omega⟩ from ext2 rfl (Nat.zero_add _).symm, show idx_main_v12 (ix2 a b) = ix2 0 b from ext2 rfl rfl]
  rfl

end Cert.RmsQReferenceIdeal.Hand

namespace Cert.Proof

open Idealize.ShloMosaic Idealize.ShloMosaic.TcCoe Idealize.SL.Sem

/-- Over the extended reals the blocked norm and the plain norm agree, whatever the arguments. -/
theorem algebraic_rmsQ : Cert.algebraic_RmsQIdeal_RmsQReferenceIdeal := by
  intro m g m' g' _ agree
  refine ⟨fun c => Cert.RmsQIdeal.Hand.nrm (m ((c.tc : Thread _ _).loc Cert.RmsQIdeal.main_arg0)) (m ((c.tc : Thread _ _).loc Cert.RmsQIdeal.main_arg1)), ?_, ?_⟩
  · refine (θ_run Cert.RmsQIdeal.defs _ _).mono (fun r hr c => ?_) (Cert.RmsQIdeal.Value.run_blocks m g)
    obtain ⟨h, args⟩ := hr c
    exact ⟨h.trans (Cert.RmsQIdeal.Hand.fin2 m c), args⟩
  · refine (θ_run Cert.RmsQReferenceIdeal.defs _ _).mono (fun r hr c => ?_) (Cert.RmsQReferenceIdeal.Value.run (F := Ideal) m' g')
    obtain ⟨a0, a1⟩ := agree c
    obtain ⟨r0, args⟩ := hr c
    refine ⟨r0.trans ?_, args⟩
    rw [a0, a1]
    exact (Cert.RmsQReferenceIdeal.Read.val_main_v14_eq _ _).trans <| Cert.RmsQReferenceIdeal.Hand.v14_eq _ _

end Cert.Proof
-- ==== Proof.RmsKvVal.lean ====
module

public import proofs.«01_k».proof.Defs
public import proofs.«01_k».proof.Proof.Gen.RmsKvIdeal.Value
public import proofs.«01_k».proof.Proof.Gen.RmsKvReferenceIdeal.Read
public import proofs.«01_k».proof.Proof.Sig
public import Idealize.ShloMosaic.Lib.Pipeline.ValueKit

@[expose] public section

set_option maxRecDepth 16384

noncomputable section

namespace Cert.RmsKvIdeal.Hand

open Cert.RmsKvIdeal Cert.RmsKvIdeal.Gen
open Idealize.ShloMosaic Idealize.ShloMosaic.TcCoe Idealize.SL.Sem Idealize.ShloMosaic.Pipeline Cert.Attn

/-- A row over the root of its mean square. -/
def nr (x : Fin 512 → EReal) (j : Fin 512) : EReal :=
  x j * Ideal.rsqrt (Ideal.div (∑ k, x k * x k) (Ideal.ofBits .f32 0x44000000#32) + Ideal.ofBits .f32 0x358637BD#32)

/-- The normed columns of the projection, times the gain. -/
def nrm (A : Vec Ideal S2048x11520 .bf16) (G : Vec Ideal S1x512 .f32) : Vec Ideal S2048x512 .bf16 := fun i =>
  (nr (fun k => A (ix2 (i 0) ⟨512 + k.val, by omega⟩)) (i 1) * (G (ix2 0 (i 1)) : EReal) : EReal)

/-- Where the blocks sit at a point. -/
theorem e : ∀ t : Fin cfg0.N, win0_0.index t = ![t.val, 1] ∧ win0_1.index t = ![0, 0] ∧ win0_2.index t = ![t.val, 0] := (by decide +kernel : ∀ t : Fin grid0.N, _)

/-- What a point writes. -/
theorem pay (a : Vec Ideal S256x512 .bf16) (g : Vec Ideal S1x512 .f32) (i : Fin 256) (j : Fin 512) :
    k0_pay1 a g (ix2 i j) = (nr (fun k => a (ix2 i k)) j * (g (ix2 0 j) : EReal) : EReal) := by
  pointwise [k0_pay1, ofBits_zero]
  rfl

variable (m : (ℓ : Loc nD τ sig) → Buf (Elt Ideal) ℓ) (c : Dev nD)

/-- What the call leaves in its result. -/
theorem fin2 : (dats m 0 c).arrAt 2 cfg0.N = nrm (m ((c.tc : Thread nD τ).loc main_arg0)) (m ((c.tc : Thread nD τ).loc main_arg1)) := by
  refine (dats m 0 c).arrAt_eq_of_covers 2 _ (by decide +kernel) fun t hf y => ?_
  obtain ⟨a, b, rfl⟩ := ex2 y
  blk_simp
  rw [after0_2]; unfold outsAt0; frame_out; rw [pay]
  unfold nrm
  refine congrArg₂ (fun x y : EReal => x * y) (congrArg₂ nr (funext fun k => ?_) ?_) ?_
  · unfold X0_0 Pipeline.Window.fill
    rw [dif_pos (moved0_0 t _)]
    blk_simp [iblk, V]
    congr 1
    blk_ext [e]
  · refine Fin.ext ?_
    blk_simp [e]
  · blk_simp [iblk, V]
    congr 1
    blk_ext [e]

end Cert.RmsKvIdeal.Hand

namespace Cert.RmsKvReferenceIdeal.Hand

open Idealize.ShloMosaic Cert.RmsKvReferenceIdeal Cert.RmsKvReferenceIdeal.Read Cert.Attn

/-- The reference's mean square of a row. -/
theorem v3_eq (A : Vec Ideal S2048x11520 .bf16) (i : S2048.Idx) : val_main_v3 (F := Ideal) A i = (∑ k : Fin 512, (A (ix2 (i 0) ⟨512 + k.val, by omega⟩) : EReal) * (A (ix2 (i 0) ⟨512 + k.val, by omega⟩) : EReal) : EReal) := by
  rw [val_main_v3_apply]
  refine ((congrArg (fun z : EReal => z + _) ofBits_zero).trans (zero_add _)).trans (sum_same fun k => ?_)
  rw [val_main_v2_apply, val_main_v1_apply, val_main_v0_apply, show idx_main_v0 (idx_main_v3 i k) = ix2 (i 0) ⟨512 + k.val, by omega⟩ from ext2 rfl rfl]
  rfl

/-- The reference's normed columns are the same. -/
theorem v14_eq (A : Vec Ideal S2048x11520 .bf16) (G : Vec Ideal S1x512 .f32) : val_main_v14 (F := Ideal) A G = Cert.RmsKvIdeal.Hand.nrm A G := by
  funext i
  obtain ⟨a, b, rfl⟩ := ex2 i
  rw [val_main_v14_apply, val_main_v13_apply, val_main_v12_apply, val_main_v11_apply, val_main_v10_apply, val_main_v9_apply, val_main_v8_apply, val_main_v7_apply, val_main_cst_1_apply,
    val_main_v6_apply, val_main_v5_apply, val_main_cst_0_apply, val_main_v4_apply, v3_eq, val_main_v1_apply, val_main_v0_apply,
    show idx_main_v0 (ix2 a b) = ix2 a ⟨512 + b.val, by omega⟩ from ext2 rfl rfl, show idx_main_v12 (ix2 a b) = ix2 0 b from ext2 rfl rfl]
  rfl

end Cert.RmsKvReferenceIdeal.Hand

namespace Cert.Proof

open Idealize.ShloMosaic Idealize.ShloMosaic.TcCoe Idealize.SL.Sem

/-- Over the extended reals the blocked norm and the plain norm agree, whatever the arguments. -/
theorem algebraic_rmsKv : Cert.algebraic_RmsKvIdeal_RmsKvReferenceIdeal := by
  intro m g m' g' _ agree
  refine ⟨fun c => Cert.RmsKvIdeal.Hand.nrm (m ((c.tc : Thread _ _).loc Cert.RmsKvIdeal.main_arg0)) (m ((c.tc : Thread _ _).loc Cert.RmsKvIdeal.main_arg1)), ?_, ?_⟩
  · refine (θ_run Cert.RmsKvIdeal.defs _ _).mono (fun r hr c => ?_) (Cert.RmsKvIdeal.Value.run_blocks m g)
    obtain ⟨h, args⟩ := hr c
    exact ⟨h.trans (Cert.RmsKvIdeal.Hand.fin2 m c), args⟩
  · refine (θ_run Cert.RmsKvReferenceIdeal.defs _ _).mono (fun r hr c => ?_) (Cert.RmsKvReferenceIdeal.Value.run (F := Ideal) m' g')
    obtain ⟨a0, a1⟩ := agree c
    obtain ⟨r0, args⟩ := hr c
    refine ⟨r0.trans ?_, args⟩
    rw [a0, a1]
    exact (Cert.RmsKvReferenceIdeal.Read.val_main_v14_eq _ _).trans <| Cert.RmsKvReferenceIdeal.Hand.v14_eq _ _

end Cert.Proof
-- ==== Proof.AdaWVal.lean ====
module

public import proofs.«01_k».proof.Proof.Gen.AdaWIdeal.Frame
public import proofs.«01_k».proof.Proof.Gen.AdaWReferenceIdeal.Read
public import proofs.«01_k».proof.Proof.AdamWVal

@[expose] public section

set_option maxRecDepth 16384

noncomputable section

namespace Cert.AdaWIdeal.Hand

open Cert.AdaWIdeal Cert.AdaWIdeal.Gen
open Idealize.ShloMosaic Idealize.ShloMosaic.TcCoe Idealize.SL.Sem Idealize.ShloMosaic.Pipeline Cert.Attn
open Cert.AdamWIdeal.Hand (mom vel del)

/-- The gradient of the modulation's weight: the product over the eight examples. -/
def gr (A : Vec Ideal S2048x8 .f32) (B : Vec Ideal S8x1536 .f32) : Vec Ideal S2048x1536 .f32 := fun i =>
  (∑ k : Fin 8, (A (ix2 (i 0) k) : EReal) * (B (ix2 k (i 1)) : EReal) : EReal)

/-- What a point computes of it. -/
theorem pay (x : Vec Ideal S128x8 .f32) (y : Vec Ideal S8x1536 .f32) (i : Fin 128) (j : Fin 1536) :
    k0_pay4 x y (ix2 i j) = (∑ k : Fin 8, (x (ix2 i k) : EReal) * (y (ix2 k j) : EReal) : EReal) := by
  rw [Fin.sum_univ_eight]
  pointwise [k0_pay4]

/-- The rest of the body is the step. -/
theorem p (w g m v : Vec Ideal S128x1536 .f32) : k0_pay3 g m v w = del w g m v ∧ k0_pay1 g m = mom g m ∧ k0_pay2 g v = vel g v := ⟨rfl, rfl, rfl⟩

/-- The gradient is computed from the whole blocks. -/
theorem p5 (x0 x3 x4 : Vec Ideal S128x1536 .f32) (x1 : Vec Ideal S128x8 .f32) (x2 : Vec Ideal S8x1536 .f32) : k0_pay5 x0 x1 x2 x3 x4 = k0_pay4 x1 x2 :=
  congrArg₂ k0_pay4 (View.ld_unit_zero (funext fun a => by fin_cases a <;> rfl) _ _) (View.ld_unit_zero (funext fun a => by fin_cases a <;> rfl) _ _)

variable {S T : Shape} {i : S.Idx} {j : T.Idx} {w g m v : Vec Ideal S .f32} {w' g' m' v' : Vec Ideal T .f32}

/-- The first moment at an index needs its arguments there only. -/
theorem mom_at (hg : g i = g' j) (hm : m i = m' j) : mom g m i = mom g' m' j := by
  unfold mom
  rw [hg, hm]
/-- The second likewise. -/
theorem vel_at (hg : g i = g' j) (hv : v i = v' j) : vel g v i = vel g' v' j := by
  unfold vel
  rw [hg, hv]
/-- The step likewise. -/
theorem del_at (hw : w i = w' j) (hg : g i = g' j) (hm : m i = m' j) (hv : v i = v' j) : del w g m v i = del w' g' m' v' j := by
  unfold del
  rw [mom_at hg hm, vel_at hg hv, hw]

/-- Where the blocks sit at a point. -/
theorem e : ∀ t : Fin cfg0.N, win0_0.index t = ![t.val, 0] ∧ win0_1.index t = ![t.val, 0] ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := (by decide +kernel : ∀ t : Fin grid0.N, _)

/-- A point's rows of an array of 2048 rows. -/
abbrev row (t : Fin cfg0.N) (a : Fin 128) (b : Fin 1536) : S2048x1536.Idx :=
  ix2 ⟨t.val * 128 + a.val, by have := t.isLt; have : cfg0.N = 16 := rfl; omega⟩ b

variable (M : (ℓ : Loc nD τ sig) → Buf (Elt Ideal) ℓ) (c : Dev nD)

/-- The blocks of a point. -/
theorem blocks (t : Fin cfg0.N) (a : Fin 128) (b : Fin 1536) : iblk M c 0 t (ix2 a b) = M ((c.tc : Thread nD τ).loc main_arg0) (row t a b)
    ∧ k0_pay4 (iblk M c 1 t) (iblk M c 2 t) (ix2 a b) = gr (M ((c.tc : Thread nD τ).loc main_arg1)) (M ((c.tc : Thread nD τ).loc main_arg2)) (row t a b)
    ∧ iblk M c 3 t (ix2 a b) = M ((c.tc : Thread nD τ).loc main_arg3) (row t a b) ∧ iblk M c 4 t (ix2 a b) = M ((c.tc : Thread nD τ).loc main_arg4) (row t a b) := by
  refine ⟨?_, (pay _ _ _ _).trans (Finset.sum_congr rfl fun k _ => congrArg₂ (fun x y : EReal => x * y) ?_ ?_), ?_, ?_⟩ <;>
  · blk_simp [iblk, V]
    congr 1
    blk_ext [e] <;> rfl

/-- What the call leaves in its results. -/
theorem fin : (dats M 0 c).arrAt 5 cfg0.N = gr (M ((c.tc : Thread nD τ).loc main_arg1)) (M ((c.tc : Thread nD τ).loc main_arg2))
    ∧ (dats M 0 c).arrAt 6 cfg0.N = del (M ((c.tc : Thread nD τ).loc main_arg0)) (gr (M ((c.tc : Thread nD τ).loc main_arg1)) (M ((c.tc : Thread nD τ).loc main_arg2))) (M ((c.tc : Thread nD τ).loc main_arg3)) (M ((c.tc : Thread nD τ).loc main_arg4))
    ∧ (dats M 0 c).arrAt 7 cfg0.N = mom (gr (M ((c.tc : Thread nD τ).loc main_arg1)) (M ((c.tc : Thread nD τ).loc main_arg2))) (M ((c.tc : Thread nD τ).loc main_arg3))
    ∧ (dats M 0 c).arrAt 8 cfg0.N = vel (gr (M ((c.tc : Thread nD τ).loc main_arg1)) (M ((c.tc : Thread nD τ).loc main_arg2))) (M ((c.tc : Thread nD τ).loc main_arg4)) := by
  refine ⟨(dats M 0 c).arrAt_eq_of_covers 5 _ (by decide +kernel) fun t hf y => ?_, (dats M 0 c).arrAt_eq_of_covers 6 _ (by decide +kernel) fun t hf y => ?_,
    (dats M 0 c).arrAt_eq_of_covers 7 _ (by decide +kernel) fun t hf y => ?_, (dats M 0 c).arrAt_eq_of_covers 8 _ (by decide +kernel) fun t hf y => ?_⟩ <;>
  obtain ⟨a, b, rfl⟩ := ex2 y <;>
  have h := blocks M c t a b
  · blk_simp
    rw [after0_5]; unfold out0_5; frame_out; rw [p5]
    refine h.2.1.trans ?_
    congr 1
    blk_ext [e] <;> rfl
  · blk_simp
    rw [after0_6]; unfold out0_6; frame_out; rw [p5, (p _ _ _ _).1]
    refine (del_at h.1 h.2.1 h.2.2.1 h.2.2.2).trans ?_
    congr 1
    blk_ext [e] <;> rfl
  · blk_simp
    rw [after0_7]; unfold out0_7; frame_out; rw [p5, (p (iblk M c 0 t) _ _ (iblk M c 4 t)).2.1]
    refine (mom_at h.2.1 h.2.2.1).trans ?_
    congr 1
    blk_ext [e] <;> rfl
  · blk_simp
    rw [after0_8]; unfold out0_8; frame_out; rw [p5, (p (iblk M c 0 t) _ (iblk M c 3 t) _).2.2]
    refine (vel_at h.2.1 h.2.2.2).trans ?_
    congr 1
    blk_ext [e] <;> rfl

end Cert.AdaWIdeal.Hand

namespace Cert.AdaWReferenceIdeal.Hand

open Idealize.ShloMosaic Cert.AdaWReferenceIdeal Cert.AdaWReferenceIdeal.Read Cert.Attn

/-- The reference's gradient is the same sum, its factors the other way round. -/
theorem v3_eq (A : Vec Ideal S2048x8 .f32) (B : Vec Ideal S8x1536 .f32) : val_main_v3 (F := Ideal) A B = Cert.AdaWIdeal.Hand.gr A B := by
  funext i
  obtain ⟨a, b, rfl⟩ := ex2 i
  rw [val_main_v3_apply, val_main_v2_apply]
  refine Finset.sum_congr rfl fun k _ => ?_
  rw [val_main_v0_apply, mul_comm]
  exact congrArg₂ (fun x y : EReal => x * y) (congrArg A (ext2 rfl rfl)) (congrArg B (ext2 rfl rfl))

end Cert.AdaWReferenceIdeal.Hand

namespace Cert.Proof

open Idealize.ShloMosaic Idealize.ShloMosaic.TcCoe Idealize.SL.Sem Cert.AdamWIdeal.Hand Cert.AdaWIdeal Cert.AdaWIdeal.Hand

/-- The named reciprocals are those of the reference's divisors. -/
theorem preserves_adaW : Cert.preserves_AdaW_AdaWIdeal :=
  ⟨IdealRules.named_const.statement Cert.AdaWIdeal.κ "c1" .f32 0x3FC48605#32 _ rfl, IdealRules.named_const.statement Cert.AdaWIdeal.κ "c2" .f32 0x42C8E6D3#32 _ rfl⟩

/-- Over the extended reals the blocked step of the modulation's weight is the plain one, whatever the arguments. -/
theorem algebraic_adaW : Cert.algebraic_AdaWIdeal_AdaWReferenceIdeal := by
  intro m g m' g' _ agree
  let a := fun (c : Dev nD) (b : Ref sig .tc) => m ((c.tc : Thread nD τ).loc b)
  refine ⟨fun c => gr (a c main_arg1) (a c main_arg2), fun c => del (a c main_arg0) (gr (a c main_arg1) (a c main_arg2)) (a c main_arg3) (a c main_arg4),
    fun c => mom (gr (a c main_arg1) (a c main_arg2)) (a c main_arg3), fun c => vel (gr (a c main_arg1) (a c main_arg2)) (a c main_arg4), ?_, ?_⟩
  · refine (θ_run Cert.AdaWIdeal.defs _ _).mono (fun r hr c => ?_) (Cert.AdaWIdeal.Gen.run_main m g)
    have h := (hr c).1
    have f := Cert.AdaWIdeal.Hand.fin m c
    exact ⟨(h 5).trans f.1, (h 6).trans f.2.1, (h 7).trans f.2.2.1, (h 8).trans f.2.2.2, (h 0).trans (((Gen.dats m 0 c).arrAt_in 0 rfl _).trans (Gen.A_eq m c 0)),
      (h 1).trans (((Gen.dats m 0 c).arrAt_in 1 rfl _).trans (Gen.A_eq m c 1)), (h 2).trans (((Gen.dats m 0 c).arrAt_in 2 rfl _).trans (Gen.A_eq m c 2)),
      (h 3).trans (((Gen.dats m 0 c).arrAt_in 3 rfl _).trans (Gen.A_eq m c 3)), (h 4).trans (((Gen.dats m 0 c).arrAt_in 4 rfl _).trans (Gen.A_eq m c 4))⟩
  · refine (θ_run Cert.AdaWReferenceIdeal.defs _ _).mono (fun r hr c => ?_) (Cert.AdaWReferenceIdeal.Value.run (F := Ideal) m' g')
    obtain ⟨a0, a1, a2, a3, a4⟩ := agree c
    obtain ⟨r0, r1, r2, r3, args⟩ := hr c
    have e := (Cert.AdaWReferenceIdeal.Hand.v3_eq _ _).trans (congrArg₂ gr a1 a2)
    exact ⟨r0.trans e, r1.trans ((del_div _ _ _ _).trans (del_same a0 e a3 a4)), r2.trans (congrArg₂ mom e a3), r3.trans (congrArg₂ vel e a4), args⟩

end Cert.Proof
-- ==== Proof.Frames.lean ====
module

public import proofs.«01_k».proof.Defs
public import proofs.«01_k».proof.Proof.Gen.Ffn
public import proofs.«01_k».proof.Proof.FfnAlg
public import proofs.«01_k».proof.Proof.Gen.Pre_finite_ffn
public import proofs.«01_k».proof.Proof.Gen.FfnOut
public import proofs.«01_k».proof.Proof.SplitOut
public import proofs.«01_k».proof.Proof.Gen.FfnIn
public import proofs.«01_k».proof.Proof.SplitIn
public import proofs.«01_k».proof.Proof.Gen.Proj
public import proofs.«01_k».proof.Proof.ProjVal
public import proofs.«01_k».proof.Proof.Gen.ProjIn
public import proofs.«01_k».proof.Proof.SplitProj
public import proofs.«01_k».proof.Proof.Gen.Mixer
public import proofs.«01_k».proof.Proof.MixerAlg
public import proofs.«01_k».proof.Proof.Gen.Latent
public import proofs.«01_k».proof.Proof.LatentVal
public import proofs.«01_k».proof.Proof.Gen.QIn
public import proofs.«01_k».proof.Proof.SplitQ
public import proofs.«01_k».proof.Proof.Gen.KvIn
public import proofs.«01_k».proof.Proof.SplitKv
public import proofs.«01_k».proof.Proof.Gen.Conv
public import proofs.«01_k».proof.Proof.ConvAlg
public import proofs.«01_k».proof.Proof.Gen.Norms
public import proofs.«01_k».proof.Proof.NormsVal
public import proofs.«01_k».proof.Proof.Gen.AdamW
public import proofs.«01_k».proof.Proof.Gen.AdamW.Frame
public import proofs.«01_k».proof.Proof.AdamWVal
public import proofs.«01_k».proof.Proof.Gen.GradX
public import proofs.«01_k».proof.Proof.GradXVal
public import proofs.«01_k».proof.Proof.Gen.RmsQ
public import proofs.«01_k».proof.Proof.RmsQVal
public import proofs.«01_k».proof.Proof.Gen.RmsKv
public import proofs.«01_k».proof.Proof.RmsKvVal
public import proofs.«01_k».proof.Proof.Gen.AdaW
public import proofs.«01_k».proof.Proof.Gen.AdaW.Frame
public import proofs.«01_k».proof.Proof.AdaWVal

@[expose] public section

set_option maxRecDepth 16384

noncomputable section

namespace Cert.Proof

open Idealize.ShloMosaic Idealize.ShloMosaic.TcCoe Idealize.SL.Sem

/-- The kernel of the feed-forward layer without its split products runs to its end, its arguments and counters as launched. Its two programs have the same text, and the run is the one written over any floats. -/
theorem frame_ffn : Cert.quiescent_Ffn := Eq.mp (by chain_rfl) fun m ρ (_ : True) => Cert.FfnIdeal.Gen.frame (F := Bits) m ρ

/-- The same over the extended reals. -/
theorem frame_ffnIdeal : Cert.quiescent_FfnIdeal := fun m ρ _ => Cert.FfnIdeal.Gen.frame m ρ

/-- The reference of the feed-forward layer without its split products runs to its end, its arguments as launched; it has no counters. -/
theorem frame_ffnReference : Cert.quiescent_FfnReferenceIdeal := fun m ρ _ =>
  (θ_run Cert.FfnReferenceIdeal.defs _ _).mono (fun r h => ⟨fun c => (h c).2.2.2.2,
      Idealize.ShloMosaic.sem_eq_zero_of_no_sems (by decide) r.2⟩)
    (Cert.FfnReferenceIdeal.Value.run (F := Ideal) m ρ)

/-- The kernel of the feed-forward layer without its split products, of finite arguments. -/
theorem frame_ffnIdeal_finite : Cert.quiescent_FfnIdeal_pre_finite_ffn := fun m ρ _ => Cert.FfnIdeal.Gen.frame m ρ

/-- The reference of the feed-forward layer without its split products, of finite arguments. -/
theorem frame_ffnReference_finite : Cert.quiescent_FfnReferenceIdeal_pre_finite_ffn := fun m ρ _ => frame_ffnReference m ρ trivial

/-- No operation of the feed-forward layer without its split products is rewritten over the extended reals. -/
theorem preserves_ffn : Cert.preserves_Ffn_FfnIdeal := trivial

/-- The kernel of the feed-forward layer's outer product runs to its end, its arguments and counters as launched. Its two programs have the same text, and the run is the one written over any floats. -/
theorem frame_ffnOut : Cert.quiescent_FfnOut := Eq.mp (by chain_rfl) fun m ρ (_ : True) => Cert.FfnOutIdeal.Gen.frame (F := Bits) m ρ

/-- The same over the extended reals. -/
theorem frame_ffnOutIdeal : Cert.quiescent_FfnOutIdeal := fun m ρ _ => Cert.FfnOutIdeal.Gen.frame m ρ

/-- The reference of the feed-forward layer's outer product runs to its end, its arguments as launched; it has no counters. -/
theorem frame_ffnOutReference : Cert.quiescent_FfnOutReferenceIdeal := fun m ρ _ =>
  (θ_run Cert.FfnOutReferenceIdeal.defs _ _).mono (fun r h => ⟨fun c => (h c).2,
      Idealize.ShloMosaic.sem_eq_zero_of_no_sems (by decide) r.2⟩)
    (Cert.FfnOutReferenceIdeal.Value.run (F := Ideal) m ρ)

/-- No operation of the feed-forward layer's outer product is rewritten over the extended reals. -/
theorem preserves_ffnOut : Cert.preserves_FfnOut_FfnOutIdeal := trivial

/-- The kernel of the feed-forward layer's input gradient runs to its end, its arguments and counters as launched. Its two programs have the same text, and the run is the one written over any floats. -/
theorem frame_ffnIn : Cert.quiescent_FfnIn := Eq.mp (by chain_rfl) fun m ρ (_ : True) => Cert.FfnInIdeal.Gen.frame (F := Bits) m ρ

/-- The same over the extended reals. -/
theorem frame_ffnInIdeal : Cert.quiescent_FfnInIdeal := fun m ρ _ => Cert.FfnInIdeal.Gen.frame m ρ

/-- The reference of the feed-forward layer's input gradient runs to its end, its arguments as launched; it has no counters. -/
theorem frame_ffnInReference : Cert.quiescent_FfnInReferenceIdeal := fun m ρ _ =>
  (θ_run Cert.FfnInReferenceIdeal.defs _ _).mono (fun r h => ⟨fun c => (h c).2,
      Idealize.ShloMosaic.sem_eq_zero_of_no_sems (by decide) r.2⟩)
    (Cert.FfnInReferenceIdeal.Value.run (F := Ideal) m ρ)

/-- No operation of the feed-forward layer's input gradient is rewritten over the extended reals. -/
theorem preserves_ffnIn : Cert.preserves_FfnIn_FfnInIdeal := trivial

/-- The kernel of the mixer's input projection runs to its end, its arguments and counters as launched. Its two programs have the same text, and the run is the one written over any floats. -/
theorem frame_proj : Cert.quiescent_Proj := Eq.mp (by chain_rfl) fun m ρ (_ : True) => Cert.ProjIdeal.Gen.frame (F := Bits) m ρ

/-- The same over the extended reals. -/
theorem frame_projIdeal : Cert.quiescent_ProjIdeal := fun m ρ _ => Cert.ProjIdeal.Gen.frame m ρ

/-- The reference of the mixer's input projection runs to its end, its arguments as launched; it has no counters. -/
theorem frame_projReference : Cert.quiescent_ProjReferenceIdeal := fun m ρ _ =>
  (θ_run Cert.ProjReferenceIdeal.defs _ _).mono (fun r h => ⟨fun c => (h c).2.2,
      Idealize.ShloMosaic.sem_eq_zero_of_no_sems (by decide) r.2⟩)
    (Cert.ProjReferenceIdeal.Value.run (F := Ideal) m ρ)

/-- No operation of the mixer's input projection is rewritten over the extended reals. -/
theorem preserves_proj : Cert.preserves_Proj_ProjIdeal := trivial

/-- The kernel of the projection's input gradient runs to its end, its arguments and counters as launched. Its two programs have the same text, and the run is the one written over any floats. -/
theorem frame_projIn : Cert.quiescent_ProjIn := Eq.mp (by chain_rfl) fun m ρ (_ : True) => Cert.ProjInIdeal.Gen.frame (F := Bits) m ρ

/-- The same over the extended reals. -/
theorem frame_projInIdeal : Cert.quiescent_ProjInIdeal := fun m ρ _ => Cert.ProjInIdeal.Gen.frame m ρ

/-- The reference of the projection's input gradient runs to its end, its arguments as launched; it has no counters. -/
theorem frame_projInReference : Cert.quiescent_ProjInReferenceIdeal := fun m ρ _ =>
  (θ_run Cert.ProjInReferenceIdeal.defs _ _).mono (fun r h => ⟨fun c => (h c).2,
      Idealize.ShloMosaic.sem_eq_zero_of_no_sems (by decide) r.2⟩)
    (Cert.ProjInReferenceIdeal.Value.run (F := Ideal) m ρ)

/-- No operation of the projection's input gradient is rewritten over the extended reals. -/
theorem preserves_projIn : Cert.preserves_ProjIn_ProjInIdeal := trivial

/-- The kernel of the mixer's output half runs to its end, its arguments and counters as launched. Its two programs have the same text, and the run is the one written over any floats. -/
theorem frame_mixer : Cert.quiescent_Mixer := Eq.mp (by chain_rfl) fun m ρ (_ : True) => Cert.MixerIdeal.Gen.frame (F := Bits) m ρ

/-- The same over the extended reals. -/
theorem frame_mixerIdeal : Cert.quiescent_MixerIdeal := fun m ρ _ => Cert.MixerIdeal.Gen.frame m ρ

/-- The reference of the mixer's output half runs to its end, its arguments as launched; it has no counters. -/
theorem frame_mixerReference : Cert.quiescent_MixerReferenceIdeal := fun m ρ _ =>
  (θ_run Cert.MixerReferenceIdeal.defs _ _).mono (fun r h => ⟨fun c => (h c).2.2.2.2.2.2.2.2,
      Idealize.ShloMosaic.sem_eq_zero_of_no_sems (by decide) r.2⟩)
    (Cert.MixerReferenceIdeal.Value.run (F := Ideal) m ρ)

/-- No operation of the mixer's output half is rewritten over the extended reals. -/
theorem preserves_mixer : Cert.preserves_Mixer_MixerIdeal := trivial

/-- The kernel of the low-rank query and key-value products runs to its end, its arguments and counters as launched. Its two programs have the same text, and the run is the one written over any floats. -/
theorem frame_latent : Cert.quiescent_Latent := Eq.mp (by chain_rfl) fun m ρ (_ : True) => Cert.LatentIdeal.Gen.frame (F := Bits) m ρ

/-- The same over the extended reals. -/
theorem frame_latentIdeal : Cert.quiescent_LatentIdeal := fun m ρ _ => Cert.LatentIdeal.Gen.frame m ρ

/-- The reference of the low-rank query and key-value products runs to its end, its arguments as launched; it has no counters. -/
theorem frame_latentReference : Cert.quiescent_LatentReferenceIdeal := fun m ρ _ =>
  (θ_run Cert.LatentReferenceIdeal.defs _ _).mono (fun r h => ⟨fun c => (h c).2.2.2.2,
      Idealize.ShloMosaic.sem_eq_zero_of_no_sems (by decide) r.2⟩)
    (Cert.LatentReferenceIdeal.Value.run (F := Ideal) m ρ)

/-- No operation of the low-rank query and key-value products is rewritten over the extended reals. -/
theorem preserves_latent : Cert.preserves_Latent_LatentIdeal := trivial

/-- The kernel of the normed low-rank query's gradient runs to its end, its arguments and counters as launched. Its two programs have the same text, and the run is the one written over any floats. -/
theorem frame_qIn : Cert.quiescent_QIn := Eq.mp (by chain_rfl) fun m ρ (_ : True) => Cert.QInIdeal.Gen.frame (F := Bits) m ρ

/-- The same over the extended reals. -/
theorem frame_qInIdeal : Cert.quiescent_QInIdeal := fun m ρ _ => Cert.QInIdeal.Gen.frame m ρ

/-- The reference of the normed low-rank query's gradient runs to its end, its arguments as launched; it has no counters. -/
theorem frame_qInReference : Cert.quiescent_QInReferenceIdeal := fun m ρ _ =>
  (θ_run Cert.QInReferenceIdeal.defs _ _).mono (fun r h => ⟨fun c => (h c).2,
      Idealize.ShloMosaic.sem_eq_zero_of_no_sems (by decide) r.2⟩)
    (Cert.QInReferenceIdeal.Value.run (F := Ideal) m ρ)

/-- No operation of the normed low-rank query's gradient is rewritten over the extended reals. -/
theorem preserves_qIn : Cert.preserves_QIn_QInIdeal := trivial

/-- The kernel of the normed low-rank key-value's gradient runs to its end, its arguments and counters as launched. Its two programs have the same text, and the run is the one written over any floats. -/
theorem frame_kvIn : Cert.quiescent_KvIn := Eq.mp (by chain_rfl) fun m ρ (_ : True) => Cert.KvInIdeal.Gen.frame (F := Bits) m ρ

/-- The same over the extended reals. -/
theorem frame_kvInIdeal : Cert.quiescent_KvInIdeal := fun m ρ _ => Cert.KvInIdeal.Gen.frame m ρ

/-- The reference of the normed low-rank key-value's gradient runs to its end, its arguments as launched; it has no counters. -/
theorem frame_kvInReference : Cert.quiescent_KvInReferenceIdeal := fun m ρ _ =>
  (θ_run Cert.KvInReferenceIdeal.defs _ _).mono (fun r h => ⟨fun c => (h c).2,
      Idealize.ShloMosaic.sem_eq_zero_of_no_sems (by decide) r.2⟩)
    (Cert.KvInReferenceIdeal.Value.run (F := Ideal) m ρ)

/-- No operation of the normed low-rank key-value's gradient is rewritten over the extended reals. -/
theorem preserves_kvIn : Cert.preserves_KvIn_KvInIdeal := trivial

/-- The kernel of the gated convolution runs to its end, its arguments and counters as launched. Its two programs have the same text, and the run is the one written over any floats. -/
theorem frame_conv : Cert.quiescent_Conv := Eq.mp (by chain_rfl) fun m ρ (_ : True) => Cert.ConvIdeal.Gen.frame (F := Bits) m ρ

/-- The same over the extended reals. -/
theorem frame_convIdeal : Cert.quiescent_ConvIdeal := fun m ρ _ => Cert.ConvIdeal.Gen.frame m ρ

/-- The reference of the gated convolution runs to its end, its arguments as launched; it has no counters. -/
theorem frame_convReference : Cert.quiescent_ConvReferenceIdeal := fun m ρ _ =>
  (θ_run Cert.ConvReferenceIdeal.defs _ _).mono (fun r h => ⟨fun c => (h c).2.2.2.2.2,
      Idealize.ShloMosaic.sem_eq_zero_of_no_sems (by decide) r.2⟩)
    (Cert.ConvReferenceIdeal.Value.run (F := Ideal) m ρ)

/-- No operation of the gated convolution is rewritten over the extended reals. -/
theorem preserves_conv : Cert.preserves_Conv_ConvIdeal := trivial

/-- The kernel of the modulations and norms runs to its end, its arguments and counters as launched. Its two programs have the same text, and the run is the one written over any floats. -/
theorem frame_norms : Cert.quiescent_Norms := Eq.mp (by chain_rfl) fun m ρ (_ : True) => Cert.NormsIdeal.Gen.frame (F := Bits) m ρ

/-- The same over the extended reals. -/
theorem frame_normsIdeal : Cert.quiescent_NormsIdeal := fun m ρ _ => Cert.NormsIdeal.Gen.frame m ρ

/-- The reference of the modulations and norms runs to its end, its arguments as launched; it has no counters. -/
theorem frame_normsReference : Cert.quiescent_NormsReferenceIdeal := fun m ρ _ =>
  (θ_run Cert.NormsReferenceIdeal.defs _ _).mono (fun r h => ⟨fun c => (h c).2.2.2.2,
      Idealize.ShloMosaic.sem_eq_zero_of_no_sems (by decide) r.2⟩)
    (Cert.NormsReferenceIdeal.Value.run (F := Ideal) m ρ)

/-- No operation of the modulations and norms is rewritten over the extended reals. -/
theorem preserves_norms : Cert.preserves_Norms_NormsIdeal := trivial

/-- The kernel of the optimiser's step runs to its end, its arguments and counters as launched. -/
theorem frame_adamW : Cert.quiescent_AdamW := fun m ρ _ => Cert.AdamW.Gen.frame m ρ

/-- The same over the extended reals. -/
theorem frame_adamWIdeal : Cert.quiescent_AdamWIdeal := fun m ρ _ => Cert.AdamWIdeal.Gen.frame m ρ

/-- The reference of the optimiser's step runs to its end, its arguments as launched; it has no counters. -/
theorem frame_adamWReference : Cert.quiescent_AdamWReferenceIdeal := fun m ρ _ =>
  (θ_run Cert.AdamWReferenceIdeal.defs _ _).mono (fun r h => ⟨fun c => (h c).2.2.2.2.2.2.2.2.2.2.2.2,
      Idealize.ShloMosaic.sem_eq_zero_of_no_sems (by decide) r.2⟩)
    (Cert.AdamWReferenceIdeal.Value.run (F := Ideal) m ρ)

/-- The kernel of the input's gradient runs to its end, its arguments and counters as launched. Its two programs have the same text, and the run is the one written over any floats. -/
theorem frame_gradX : Cert.quiescent_GradX := Eq.mp (by chain_rfl) fun m ρ (_ : True) => Cert.GradXIdeal.Gen.frame (F := Bits) m ρ

/-- The same over the extended reals. -/
theorem frame_gradXIdeal : Cert.quiescent_GradXIdeal := fun m ρ _ => Cert.GradXIdeal.Gen.frame m ρ

/-- The reference of the input's gradient runs to its end, its arguments as launched; it has no counters. -/
theorem frame_gradXReference : Cert.quiescent_GradXReferenceIdeal := fun m ρ _ =>
  (θ_run Cert.GradXReferenceIdeal.defs _ _).mono (fun r h => ⟨fun c => (h c).2,
      Idealize.ShloMosaic.sem_eq_zero_of_no_sems (by decide) r.2⟩)
    (Cert.GradXReferenceIdeal.Value.run (F := Ideal) m ρ)

/-- No operation of the input's gradient is rewritten over the extended reals. -/
theorem preserves_gradX : Cert.preserves_GradX_GradXIdeal := trivial

/-- The kernel of the query's normed rank runs to its end, its arguments and counters as launched. Its two programs have the same text, and the run is the one written over any floats. -/
theorem frame_rmsQ : Cert.quiescent_RmsQ := Eq.mp (by chain_rfl) fun m ρ (_ : True) => Cert.RmsQIdeal.Gen.frame (F := Bits) m ρ

/-- The same over the extended reals. -/
theorem frame_rmsQIdeal : Cert.quiescent_RmsQIdeal := fun m ρ _ => Cert.RmsQIdeal.Gen.frame m ρ

/-- The reference of the query's normed rank runs to its end, its arguments as launched; it has no counters. -/
theorem frame_rmsQReference : Cert.quiescent_RmsQReferenceIdeal := fun m ρ _ =>
  (θ_run Cert.RmsQReferenceIdeal.defs _ _).mono (fun r h => ⟨fun c => (h c).2,
      Idealize.ShloMosaic.sem_eq_zero_of_no_sems (by decide) r.2⟩)
    (Cert.RmsQReferenceIdeal.Value.run (F := Ideal) m ρ)

/-- No operation of the query's normed rank is rewritten over the extended reals. -/
theorem preserves_rmsQ : Cert.preserves_RmsQ_RmsQIdeal := trivial

/-- The kernel of the key-value's normed rank runs to its end, its arguments and counters as launched. Its two programs have the same text, and the run is the one written over any floats. -/
theorem frame_rmsKv : Cert.quiescent_RmsKv := Eq.mp (by chain_rfl) fun m ρ (_ : True) => Cert.RmsKvIdeal.Gen.frame (F := Bits) m ρ

/-- The same over the extended reals. -/
theorem frame_rmsKvIdeal : Cert.quiescent_RmsKvIdeal := fun m ρ _ => Cert.RmsKvIdeal.Gen.frame m ρ

/-- The reference of the key-value's normed rank runs to its end, its arguments as launched; it has no counters. -/
theorem frame_rmsKvReference : Cert.quiescent_RmsKvReferenceIdeal := fun m ρ _ =>
  (θ_run Cert.RmsKvReferenceIdeal.defs _ _).mono (fun r h => ⟨fun c => (h c).2,
      Idealize.ShloMosaic.sem_eq_zero_of_no_sems (by decide) r.2⟩)
    (Cert.RmsKvReferenceIdeal.Value.run (F := Ideal) m ρ)

/-- No operation of the key-value's normed rank is rewritten over the extended reals. -/
theorem preserves_rmsKv : Cert.preserves_RmsKv_RmsKvIdeal := trivial

/-- The kernel of the modulation's weight runs to its end, its arguments and counters as launched. -/
theorem frame_adaW : Cert.quiescent_AdaW := fun m ρ _ => Cert.AdaW.Gen.frame m ρ

/-- The same over the extended reals. -/
theorem frame_adaWIdeal : Cert.quiescent_AdaWIdeal := fun m ρ _ => Cert.AdaWIdeal.Gen.frame m ρ

/-- The reference of the modulation's weight runs to its end, its arguments as launched; it has no counters. -/
theorem frame_adaWReference : Cert.quiescent_AdaWReferenceIdeal := fun m ρ _ =>
  (θ_run Cert.AdaWReferenceIdeal.defs _ _).mono (fun r h => ⟨fun c => (h c).2.2.2.2,
      Idealize.ShloMosaic.sem_eq_zero_of_no_sems (by decide) r.2⟩)
    (Cert.AdaWReferenceIdeal.Value.run (F := Ideal) m ρ)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Run
public import proofs.«01_k».proof.Proof.PlainRun
public import proofs.«01_k».proof.Proof.Algebra
public import proofs.«01_k».proof.Proof.Frames
public import Idealize.ShloMosaic.Adequacy
public import Idealize.ShloMosaic.Init

@[expose] public section

noncomputable section

namespace Cert.Proof

open Idealize.ShloMosaic Idealize.ShloMosaic.TcCoe Idealize.SL.Sem

/-- The kernel runs to its end, its arguments and counters as launched. -/
theorem frame_kernel : Cert.quiescent_Kernel := fun m ρ _ => Cert.Kernel.Hand.frame m ρ

/-- The same with the mask constant named. -/
theorem frame_kernelIdeal : Cert.quiescent_KernelIdeal := fun m ρ _ => Cert.KernelIdeal.Hand.frame m ρ

/-- The reference runs to its end, its arguments as launched; it has no counters. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The one named constant stands for minus infinity. -/
theorem preserves : Cert.preserves_Kernel_KernelIdeal :=
  IdealRules.named_const.statement Cert.KernelIdeal.κ "mask" .f32 0xF149F2CA#32 ⊥ rfl

/-- The kernel, its mask named, of finite arguments. -/
theorem frame_kernelIdeal_finite : Cert.quiescent_KernelIdeal_pre_finite := fun m ρ _ => Cert.KernelIdeal.Hand.frame m ρ

/-- The reference of finite arguments. -/
theorem frame_reference_finite : Cert.quiescent_ReferenceIdeal_pre_finite := fun m ρ _ => frame_reference m ρ trivial

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.FfnOut.Gen.facts, Cert.FfnOutIdeal.Gen.facts, Cert.FfnOutReferenceIdeal.Gen.facts, Cert.FfnIn.Gen.facts, Cert.FfnInIdeal.Gen.facts, Cert.FfnInReferenceIdeal.Gen.facts, Cert.Proj.Gen.facts, Cert.ProjIdeal.Gen.facts, Cert.ProjReferenceIdeal.Gen.facts, Cert.ProjIn.Gen.facts, Cert.ProjInIdeal.Gen.facts, Cert.ProjInReferenceIdeal.Gen.facts, Cert.Mixer.Gen.facts, Cert.MixerIdeal.Gen.facts, Cert.MixerReferenceIdeal.Gen.facts, Cert.Latent.Gen.facts, Cert.LatentIdeal.Gen.facts, Cert.LatentReferenceIdeal.Gen.facts, Cert.QIn.Gen.facts, Cert.QInIdeal.Gen.facts, Cert.QInReferenceIdeal.Gen.facts, Cert.KvIn.Gen.facts, Cert.KvInIdeal.Gen.facts, Cert.KvInReferenceIdeal.Gen.facts, Cert.Conv.Gen.facts, Cert.ConvIdeal.Gen.facts, Cert.ConvReferenceIdeal.Gen.facts, Cert.Norms.Gen.facts, Cert.NormsIdeal.Gen.facts, Cert.NormsReferenceIdeal.Gen.facts, Cert.AdamW.Gen.facts, Cert.AdamWIdeal.Gen.facts, Cert.AdamWReferenceIdeal.Gen.facts, Cert.GradX.Gen.facts, Cert.GradXIdeal.Gen.facts, Cert.GradXReferenceIdeal.Gen.facts, Cert.RmsQ.Gen.facts, Cert.RmsQIdeal.Gen.facts, Cert.RmsQReferenceIdeal.Gen.facts, Cert.RmsKv.Gen.facts, Cert.RmsKvIdeal.Gen.facts, Cert.RmsKvReferenceIdeal.Gen.facts, Cert.AdaW.Gen.facts, Cert.AdaWIdeal.Gen.facts, Cert.AdaWReferenceIdeal.Gen.facts, Cert.Pre_finite.Gen.facts, Cert.Pre_finite_ffn.Gen.facts,
  frame_kernel, frame_kernelIdeal, frame_kernelIdeal_finite, frame_reference, frame_reference_finite,
  frame_ffn, frame_ffnIdeal, frame_ffnIdeal_finite, frame_ffnReference, frame_ffnReference_finite,
  frame_ffnOut, frame_ffnOutIdeal, frame_ffnOutReference,
  frame_ffnIn, frame_ffnInIdeal, frame_ffnInReference,
  frame_proj, frame_projIdeal, frame_projReference,
  frame_projIn, frame_projInIdeal, frame_projInReference,
  frame_mixer, frame_mixerIdeal, frame_mixerReference,
  frame_latent, frame_latentIdeal, frame_latentReference,
  frame_qIn, frame_qInIdeal, frame_qInReference,
  frame_kvIn, frame_kvInIdeal, frame_kvInReference,
  frame_conv, frame_convIdeal, frame_convReference,
  frame_norms, frame_normsIdeal, frame_normsReference,
  frame_adamW, frame_adamWIdeal, frame_adamWReference,
  frame_gradX, frame_gradXIdeal, frame_gradXReference,
  frame_rmsQ, frame_rmsQIdeal, frame_rmsQReference,
  frame_rmsKv, frame_rmsKvIdeal, frame_rmsKvReference,
  frame_adaW, frame_adaWIdeal, frame_adaWReference,
  preserves, algebraic, preserves_ffn, algebraic_ffn, preserves_ffnOut, algebraic_ffnOut, preserves_ffnIn, algebraic_ffnIn, preserves_proj, algebraic_proj, preserves_projIn, algebraic_projIn, preserves_mixer, algebraic_mixer, preserves_latent, algebraic_latent, preserves_qIn, algebraic_qIn, preserves_kvIn, algebraic_kvIn, preserves_conv, algebraic_conv, preserves_norms, algebraic_norms, preserves_adamW, algebraic_adamW, preserves_gradX, algebraic_gradX, preserves_rmsQ, algebraic_rmsQ, preserves_rmsKv, algebraic_rmsKv, preserves_adaW, algebraic_adaW⟩

end Cert.Proof

end
